-- ==== Defs.lean ====
def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdRefIdeal (m : (ℓ : Loc Cert.ConvBwdRefIdeal.nD Cert.ConvBwdRefIdeal.τ Cert.ConvBwdRefIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_FfnDx (m : (ℓ : Loc Cert.FfnDx.nD Cert.FfnDx.τ Cert.FfnDx.sig) → Buf (Elt Bits) ℓ) : Prop :=
  True

def Pre_FfnDxIdeal (m : (ℓ : Loc Cert.FfnDxIdeal.nD Cert.FfnDxIdeal.τ Cert.FfnDxIdeal.sig) → Buf (Elt Ideal) ℓ) : Prop :=
  True

def Pre_FfnDxRefIdeal (m : (ℓ : Loc Cert.FfnDxRefIdeal.nD Cert.FfnDxRefIdeal.τ Cert.FfnDxRefIdeal.sig) → Buf (Elt Ideal) ℓ) : Prop :=
  True

def Pre_FfnDh (m : (ℓ : Loc Cert.FfnDh.nD Cert.FfnDh.τ Cert.FfnDh.sig) → Buf (Elt Bits) ℓ) : Prop :=
  True

def Pre_FfnDhIdeal (m : (ℓ : Loc Cert.FfnDhIdeal.nD Cert.FfnDhIdeal.τ Cert.FfnDhIdeal.sig) → Buf (Elt Ideal) ℓ) : Prop :=
  True

def Pre_FfnDhIdeal_hidden_finite [hPre_hidden_finite : Cert.Pre_hidden_finite.Facts] (m : (ℓ : Loc Cert.FfnDhIdeal.nD Cert.FfnDhIdeal.τ Cert.FfnDhIdeal.sig) → Buf (Elt Ideal) ℓ) : Prop :=
  ∀ c : Dev Cert.FfnDhIdeal.nD,
    (Cert.Pre_hidden_finite.fn (F := Ideal) (m ((c.tc : Thread Cert.FfnDhIdeal.nD Cert.FfnDhIdeal.τ).loc Cert.FfnDhIdeal.main_arg0)) (m ((c.tc : Thread Cert.FfnDhIdeal.nD Cert.FfnDhIdeal.τ).loc Cert.FfnDhIdeal.main_arg1)) (m ((c.tc : Thread Cert.FfnDhIdeal.nD Cert.FfnDhIdeal.τ).loc Cert.FfnDhIdeal.main_arg2))) = (fun _ => 1#1)

def Pre_FfnDhRefIdeal (m : (ℓ : Loc Cert.FfnDhRefIdeal.nD Cert.FfnDhRefIdeal.τ Cert.FfnDhRefIdeal.sig) → Buf (Elt Ideal) ℓ) : Prop :=
  True

def Pre_FfnDhRefIdeal_hidden_finite [hPre_hidden_finite : Cert.Pre_hidden_finite.Facts] (m : (ℓ : Loc Cert.FfnDhRefIdeal.nD Cert.FfnDhRefIdeal.τ Cert.FfnDhRefIdeal.sig) → Buf (Elt Ideal) ℓ) : Prop :=
  ∀ c : Dev Cert.FfnDhRefIdeal.nD,
    (Cert.Pre_hidden_finite.fn (F := Ideal) (m ((c.tc : Thread Cert.FfnDhRefIdeal.nD Cert.FfnDhRefIdeal.τ).loc Cert.FfnDhRefIdeal.main_arg0)) (m ((c.tc : Thread Cert.FfnDhRefIdeal.nD Cert.FfnDhRefIdeal.τ).loc Cert.FfnDhRefIdeal.main_arg1)) (m ((c.tc : Thread Cert.FfnDhRefIdeal.nD Cert.FfnDhRefIdeal.τ).loc Cert.FfnDhRefIdeal.main_arg2))) = (fun _ => 1#1)

def Pre_FfnDwi (m : (ℓ : Loc Cert.FfnDwi.nD Cert.FfnDwi.τ Cert.FfnDwi.sig) → Buf (Elt Bits) ℓ) : Prop :=
  True

def Pre_FfnDwiIdeal (m : (ℓ : Loc Cert.FfnDwiIdeal.nD Cert.FfnDwiIdeal.τ Cert.FfnDwiIdeal.sig) → Buf (Elt Ideal) ℓ) : Prop :=
  True

def Pre_FfnDwiRefIdeal (m : (ℓ : Loc Cert.FfnDwiRefIdeal.nD Cert.FfnDwiRefIdeal.τ Cert.FfnDwiRefIdeal.sig) → Buf (Elt Ideal) ℓ) : Prop :=
  True

def Pre_FfnDwo (m : (ℓ : Loc Cert.FfnDwo.nD Cert.FfnDwo.τ Cert.FfnDwo.sig) → Buf (Elt Bits) ℓ) : Prop :=
  True

def Pre_FfnDwoIdeal (m : (ℓ : Loc Cert.FfnDwoIdeal.nD Cert.FfnDwoIdeal.τ Cert.FfnDwoIdeal.sig) → Buf (Elt Ideal) ℓ) : Prop :=
  True

def Pre_FfnDwoRefIdeal (m : (ℓ : Loc Cert.FfnDwoRefIdeal.nD Cert.FfnDwoRefIdeal.τ Cert.FfnDwoRefIdeal.sig) → Buf (Elt Ideal) ℓ) : Prop :=
  True

def Pre_FfnTwo (m : (ℓ : Loc Cert.FfnTwo.nD Cert.FfnTwo.τ Cert.FfnTwo.sig) → Buf (Elt Bits) ℓ) : Prop :=
  True

def Pre_FfnTwoIdeal (m : (ℓ : Loc Cert.FfnTwoIdeal.nD Cert.FfnTwoIdeal.τ Cert.FfnTwoIdeal.sig) → Buf (Elt Ideal) ℓ) : Prop :=
  True

def Pre_FfnTwoRefIdeal (m : (ℓ : Loc Cert.FfnTwoRefIdeal.nD Cert.FfnTwoRefIdeal.τ Cert.FfnTwoRefIdeal.sig) → Buf (Elt Ideal) ℓ) : Prop :=
  True

def Pre_FfnTwoDwi (m : (ℓ : Loc Cert.FfnTwoDwi.nD Cert.FfnTwoDwi.τ Cert.FfnTwoDwi.sig) → Buf (Elt Bits) ℓ) : Prop :=
  True

def Pre_FfnTwoDwiIdeal (m : (ℓ : Loc Cert.FfnTwoDwiIdeal.nD Cert.FfnTwoDwiIdeal.τ Cert.FfnTwoDwiIdeal.sig) → Buf (Elt Ideal) ℓ) : Prop :=
  True

def Pre_FfnTwoDwiRefIdeal (m : (ℓ : Loc Cert.FfnTwoDwiRefIdeal.nD Cert.FfnTwoDwiRefIdeal.τ Cert.FfnTwoDwiRefIdeal.sig) → Buf (Elt Ideal) ℓ) : Prop :=
  True

def Pre_ProjIn (m : (ℓ : Loc Cert.ProjIn.nD Cert.ProjIn.τ Cert.ProjIn.sig) → Buf (Elt Bits) ℓ) : Prop :=
  True

def Pre_ProjInIdeal (m : (ℓ : Loc Cert.ProjInIdeal.nD Cert.ProjInIdeal.τ Cert.ProjInIdeal.sig) → Buf (Elt Ideal) ℓ) : Prop :=
  True

def Pre_ProjInRefIdeal (m : (ℓ : Loc Cert.ProjInRefIdeal.nD Cert.ProjInRefIdeal.τ Cert.ProjInRefIdeal.sig) → Buf (Elt Ideal) ℓ) : Prop :=
  True

def Pre_ProjDws (m : (ℓ : Loc Cert.ProjDws.nD Cert.ProjDws.τ Cert.ProjDws.sig) → Buf (Elt Bits) ℓ) : Prop :=
  True

def Pre_ProjDwsIdeal (m : (ℓ : Loc Cert.ProjDwsIdeal.nD Cert.ProjDwsIdeal.τ Cert.ProjDwsIdeal.sig) → Buf (Elt Ideal) ℓ) : Prop :=
  True

def Pre_ProjDwsRefIdeal (m : (ℓ : Loc Cert.ProjDwsRefIdeal.nD Cert.ProjDwsRefIdeal.τ Cert.ProjDwsRefIdeal.sig) → Buf (Elt Ideal) ℓ) : Prop :=
  True

def Pre_ProjDwc (m : (ℓ : Loc Cert.ProjDwc.nD Cert.ProjDwc.τ Cert.ProjDwc.sig) → Buf (Elt Bits) ℓ) : Prop :=
  True

def Pre_ProjDwcIdeal (m : (ℓ : Loc Cert.ProjDwcIdeal.nD Cert.ProjDwcIdeal.τ Cert.ProjDwcIdeal.sig) → Buf (Elt Ideal) ℓ) : Prop :=
  True

def Pre_ProjDwcRefIdeal (m : (ℓ : Loc Cert.ProjDwcRefIdeal.nD Cert.ProjDwcRefIdeal.τ Cert.ProjDwcRefIdeal.sig) → Buf (Elt Ideal) ℓ) : Prop :=
  True

def Pre_ProjDx (m : (ℓ : Loc Cert.ProjDx.nD Cert.ProjDx.τ Cert.ProjDx.sig) → Buf (Elt Bits) ℓ) : Prop :=
  True

def Pre_ProjDxIdeal (m : (ℓ : Loc Cert.ProjDxIdeal.nD Cert.ProjDxIdeal.τ Cert.ProjDxIdeal.sig) → Buf (Elt Ideal) ℓ) : Prop :=
  True

def Pre_ProjDxRefIdeal (m : (ℓ : Loc Cert.ProjDxRefIdeal.nD Cert.ProjDxRefIdeal.τ Cert.ProjDxRefIdeal.sig) → Buf (Elt Ideal) ℓ) : Prop :=
  True

def Pre_ProjDwo (m : (ℓ : Loc Cert.ProjDwo.nD Cert.ProjDwo.τ Cert.ProjDwo.sig) → Buf (Elt Bits) ℓ) : Prop :=
  True

def Pre_ProjDwoIdeal (m : (ℓ : Loc Cert.ProjDwoIdeal.nD Cert.ProjDwoIdeal.τ Cert.ProjDwoIdeal.sig) → Buf (Elt Ideal) ℓ) : Prop :=
  True

def Pre_ProjDwoRefIdeal (m : (ℓ : Loc Cert.ProjDwoRefIdeal.nD Cert.ProjDwoRefIdeal.τ Cert.ProjDwoRefIdeal.sig) → Buf (Elt Ideal) ℓ) : Prop :=
  True

def Pre_FfnLn (m : (ℓ : Loc Cert.FfnLn.nD Cert.FfnLn.τ Cert.FfnLn.sig) → Buf (Elt Bits) ℓ) : Prop :=
  True

def Pre_FfnLnIdeal (m : (ℓ : Loc Cert.FfnLnIdeal.nD Cert.FfnLnIdeal.τ Cert.FfnLnIdeal.sig) → Buf (Elt Ideal) ℓ) : Prop :=
  True

def Pre_FfnLnRefIdeal (m : (ℓ : Loc Cert.FfnLnRefIdeal.nD Cert.FfnLnRefIdeal.τ Cert.FfnLnRefIdeal.sig) → Buf (Elt Ideal) ℓ) : Prop :=
  True

def Pre_ProjLn (m : (ℓ : Loc Cert.ProjLn.nD Cert.ProjLn.τ Cert.ProjLn.sig) → Buf (Elt Bits) ℓ) : Prop :=
  True

def Pre_ProjLnIdeal (m : (ℓ : Loc Cert.ProjLnIdeal.nD Cert.ProjLnIdeal.τ Cert.ProjLnIdeal.sig) → Buf (Elt Ideal) ℓ) : Prop :=
  True

def Pre_ProjLnRefIdeal (m : (ℓ : Loc Cert.ProjLnRefIdeal.nD Cert.ProjLnRefIdeal.τ Cert.ProjLnRefIdeal.sig) → Buf (Elt Ideal) ℓ) : Prop :=
  True

def Pre_FfnDxLn (m : (ℓ : Loc Cert.FfnDxLn.nD Cert.FfnDxLn.τ Cert.FfnDxLn.sig) → Buf (Elt Bits) ℓ) : Prop :=
  True

def Pre_FfnDxLnIdeal (m : (ℓ : Loc Cert.FfnDxLnIdeal.nD Cert.FfnDxLnIdeal.τ Cert.FfnDxLnIdeal.sig) → Buf (Elt Ideal) ℓ) : Prop :=
  True

def Pre_FfnDxLnIdeal_ffn_dx_finite [hPre_ffn_dx_finite : Cert.Pre_ffn_dx_finite.Facts] (m : (ℓ : Loc Cert.FfnDxLnIdeal.nD Cert.FfnDxLnIdeal.τ Cert.FfnDxLnIdeal.sig) → Buf (Elt Ideal) ℓ) : Prop :=
  ∀ c : Dev Cert.FfnDxLnIdeal.nD,
    (Cert.Pre_ffn_dx_finite.fn (F := Ideal) (m ((c.tc : Thread Cert.FfnDxLnIdeal.nD Cert.FfnDxLnIdeal.τ).loc Cert.FfnDxLnIdeal.main_arg0)) (m ((c.tc : Thread Cert.FfnDxLnIdeal.nD Cert.FfnDxLnIdeal.τ).loc Cert.FfnDxLnIdeal.main_arg1)) (m ((c.tc : Thread Cert.FfnDxLnIdeal.nD Cert.FfnDxLnIdeal.τ).loc Cert.FfnDxLnIdeal.main_arg2)) (m ((c.tc : Thread Cert.FfnDxLnIdeal.nD Cert.FfnDxLnIdeal.τ).loc Cert.FfnDxLnIdeal.main_arg3)) (m ((c.tc : Thread Cert.FfnDxLnIdeal.nD Cert.FfnDxLnIdeal.τ).loc Cert.FfnDxLnIdeal.main_arg4)) (m ((c.tc : Thread Cert.FfnDxLnIdeal.nD Cert.FfnDxLnIdeal.τ).loc Cert.FfnDxLnIdeal.main_arg5))) = (fun _ => 1#1)

def Pre_FfnDxLnRefIdeal (m : (ℓ : Loc Cert.FfnDxLnRefIdeal.nD Cert.FfnDxLnRefIdeal.τ Cert.FfnDxLnRefIdeal.sig) → Buf (Elt Ideal) ℓ) : Prop :=
  True

def Pre_FfnDxLnRefIdeal_ffn_dx_finite [hPre_ffn_dx_finite : Cert.Pre_ffn_dx_finite.Facts] (m : (ℓ : Loc Cert.FfnDxLnRefIdeal.nD Cert.FfnDxLnRefIdeal.τ Cert.FfnDxLnRefIdeal.sig) → Buf (Elt Ideal) ℓ) : Prop :=
  ∀ c : Dev Cert.FfnDxLnRefIdeal.nD,
    (Cert.Pre_ffn_dx_finite.fn (F := Ideal) (m ((c.tc : Thread Cert.FfnDxLnRefIdeal.nD Cert.FfnDxLnRefIdeal.τ).loc Cert.FfnDxLnRefIdeal.main_arg0)) (m ((c.tc : Thread Cert.FfnDxLnRefIdeal.nD Cert.FfnDxLnRefIdeal.τ).loc Cert.FfnDxLnRefIdeal.main_arg1)) (m ((c.tc : Thread Cert.FfnDxLnRefIdeal.nD Cert.FfnDxLnRefIdeal.τ).loc Cert.FfnDxLnRefIdeal.main_arg2)) (m ((c.tc : Thread Cert.FfnDxLnRefIdeal.nD Cert.FfnDxLnRefIdeal.τ).loc Cert.FfnDxLnRefIdeal.main_arg3)) (m ((c.tc : Thread Cert.FfnDxLnRefIdeal.nD Cert.FfnDxLnRefIdeal.τ).loc Cert.FfnDxLnRefIdeal.main_arg4)) (m ((c.tc : Thread Cert.FfnDxLnRefIdeal.nD Cert.FfnDxLnRefIdeal.τ).loc Cert.FfnDxLnRefIdeal.main_arg5))) = (fun _ => 1#1)

def Pre_ProjDxLn (m : (ℓ : Loc Cert.ProjDxLn.nD Cert.ProjDxLn.τ Cert.ProjDxLn.sig) → Buf (Elt Bits) ℓ) : Prop :=
  True

def Pre_ProjDxLnIdeal (m : (ℓ : Loc Cert.ProjDxLnIdeal.nD Cert.ProjDxLnIdeal.τ Cert.ProjDxLnIdeal.sig) → Buf (Elt Ideal) ℓ) : Prop :=
  True

def Pre_ProjDxLnIdeal_proj_dx_finite [hPre_proj_dx_finite : Cert.Pre_proj_dx_finite.Facts] (m : (ℓ : Loc Cert.ProjDxLnIdeal.nD Cert.ProjDxLnIdeal.τ Cert.ProjDxLnIdeal.sig) → Buf (Elt Ideal) ℓ) : Prop :=
  ∀ c : Dev Cert.ProjDxLnIdeal.nD,
    (Cert.Pre_proj_dx_finite.fn (F := Ideal) (m ((c.tc : Thread Cert.ProjDxLnIdeal.nD Cert.ProjDxLnIdeal.τ).loc Cert.ProjDxLnIdeal.main_arg0)) (m ((c.tc : Thread Cert.ProjDxLnIdeal.nD Cert.ProjDxLnIdeal.τ).loc Cert.ProjDxLnIdeal.main_arg1)) (m ((c.tc : Thread Cert.ProjDxLnIdeal.nD Cert.ProjDxLnIdeal.τ).loc Cert.ProjDxLnIdeal.main_arg2)) (m ((c.tc : Thread Cert.ProjDxLnIdeal.nD Cert.ProjDxLnIdeal.τ).loc Cert.ProjDxLnIdeal.main_arg3)) (m ((c.tc : Thread Cert.ProjDxLnIdeal.nD Cert.ProjDxLnIdeal.τ).loc Cert.ProjDxLnIdeal.main_arg4)) (m ((c.tc : Thread Cert.ProjDxLnIdeal.nD Cert.ProjDxLnIdeal.τ).loc Cert.ProjDxLnIdeal.main_arg5)) (m ((c.tc : Thread Cert.ProjDxLnIdeal.nD Cert.ProjDxLnIdeal.τ).loc Cert.ProjDxLnIdeal.main_arg6))) = (fun _ => 1#1)

def Pre_ProjDxLnRefIdeal (m : (ℓ : Loc Cert.ProjDxLnRefIdeal.nD Cert.ProjDxLnRefIdeal.τ Cert.ProjDxLnRefIdeal.sig) → Buf (Elt Ideal) ℓ) : Prop :=
  True

def Pre_ProjDxLnRefIdeal_proj_dx_finite [hPre_proj_dx_finite : Cert.Pre_proj_dx_finite.Facts] (m : (ℓ : Loc Cert.ProjDxLnRefIdeal.nD Cert.ProjDxLnRefIdeal.τ Cert.ProjDxLnRefIdeal.sig) → Buf (Elt Ideal) ℓ) : Prop :=
  ∀ c : Dev Cert.ProjDxLnRefIdeal.nD,
    (Cert.Pre_proj_dx_finite.fn (F := Ideal) (m ((c.tc : Thread Cert.ProjDxLnRefIdeal.nD Cert.ProjDxLnRefIdeal.τ).loc Cert.ProjDxLnRefIdeal.main_arg0)) (m ((c.tc : Thread Cert.ProjDxLnRefIdeal.nD Cert.ProjDxLnRefIdeal.τ).loc Cert.ProjDxLnRefIdeal.main_arg1)) (m ((c.tc : Thread Cert.ProjDxLnRefIdeal.nD Cert.ProjDxLnRefIdeal.τ).loc Cert.ProjDxLnRefIdeal.main_arg2)) (m ((c.tc : Thread Cert.ProjDxLnRefIdeal.nD Cert.ProjDxLnRefIdeal.τ).loc Cert.ProjDxLnRefIdeal.main_arg3)) (m ((c.tc : Thread Cert.ProjDxLnRefIdeal.nD Cert.ProjDxLnRefIdeal.τ).loc Cert.ProjDxLnRefIdeal.main_arg4)) (m ((c.tc : Thread Cert.ProjDxLnRefIdeal.nD Cert.ProjDxLnRefIdeal.τ).loc Cert.ProjDxLnRefIdeal.main_arg5)) (m ((c.tc : Thread Cert.ProjDxLnRefIdeal.nD Cert.ProjDxLnRefIdeal.τ).loc Cert.ProjDxLnRefIdeal.main_arg6))) = (fun _ => 1#1)

def Pre_LossLn (m : (ℓ : Loc Cert.LossLn.nD Cert.LossLn.τ Cert.LossLn.sig) → Buf (Elt Bits) ℓ) : Prop :=
  True

def Pre_LossLnIdeal (m : (ℓ : Loc Cert.LossLnIdeal.nD Cert.LossLnIdeal.τ Cert.LossLnIdeal.sig) → Buf (Elt Ideal) ℓ) : Prop :=
  True

def Pre_LossLnIdeal_loss_finite [hPre_loss_finite : Cert.Pre_loss_finite.Facts] (m : (ℓ : Loc Cert.LossLnIdeal.nD Cert.LossLnIdeal.τ Cert.LossLnIdeal.sig) → Buf (Elt Ideal) ℓ) : Prop :=
  ∀ c : Dev Cert.LossLnIdeal.nD,
    (Cert.Pre_loss_finite.fn (F := Ideal) (m ((c.tc : Thread Cert.LossLnIdeal.nD Cert.LossLnIdeal.τ).loc Cert.LossLnIdeal.main_arg0)) (m ((c.tc : Thread Cert.LossLnIdeal.nD Cert.LossLnIdeal.τ).loc Cert.LossLnIdeal.main_arg1)) (m ((c.tc : Thread Cert.LossLnIdeal.nD Cert.LossLnIdeal.τ).loc Cert.LossLnIdeal.main_arg2)) (m ((c.tc : Thread Cert.LossLnIdeal.nD Cert.LossLnIdeal.τ).loc Cert.LossLnIdeal.main_arg3)) (m ((c.tc : Thread Cert.LossLnIdeal.nD Cert.LossLnIdeal.τ).loc Cert.LossLnIdeal.main_arg4)) (m ((c.tc : Thread Cert.LossLnIdeal.nD Cert.LossLnIdeal.τ).loc Cert.LossLnIdeal.main_arg5))) = (fun _ => 1#1)

def Pre_LossLnRefIdeal (m : (ℓ : Loc Cert.LossLnRefIdeal.nD Cert.LossLnRefIdeal.τ Cert.LossLnRefIdeal.sig) → Buf (Elt Ideal) ℓ) : Prop :=
  True

def Pre_LossLnRefIdeal_loss_finite [hPre_loss_finite : Cert.Pre_loss_finite.Facts] (m : (ℓ : Loc Cert.LossLnRefIdeal.nD Cert.LossLnRefIdeal.τ Cert.LossLnRefIdeal.sig) → Buf (Elt Ideal) ℓ) : Prop :=
  ∀ c : Dev Cert.LossLnRefIdeal.nD,
    (Cert.Pre_loss_finite.fn (F := Ideal) (m ((c.tc : Thread Cert.LossLnRefIdeal.nD Cert.LossLnRefIdeal.τ).loc Cert.LossLnRefIdeal.main_arg0)) (m ((c.tc : Thread Cert.LossLnRefIdeal.nD Cert.LossLnRefIdeal.τ).loc Cert.LossLnRefIdeal.main_arg1)) (m ((c.tc : Thread Cert.LossLnRefIdeal.nD Cert.LossLnRefIdeal.τ).loc Cert.LossLnRefIdeal.main_arg2)) (m ((c.tc : Thread Cert.LossLnRefIdeal.nD Cert.LossLnRefIdeal.τ).loc Cert.LossLnRefIdeal.main_arg3)) (m ((c.tc : Thread Cert.LossLnRefIdeal.nD Cert.LossLnRefIdeal.τ).loc Cert.LossLnRefIdeal.main_arg4)) (m ((c.tc : Thread Cert.LossLnRefIdeal.nD Cert.LossLnRefIdeal.τ).loc Cert.LossLnRefIdeal.main_arg5))) = (fun _ => 1#1)

def Pre_ShiftBwd (m : (ℓ : Loc Cert.ShiftBwd.nD Cert.ShiftBwd.τ Cert.ShiftBwd.sig) → Buf (Elt Bits) ℓ) : Prop :=
  True

def Pre_ShiftBwdIdeal (m : (ℓ : Loc Cert.ShiftBwdIdeal.nD Cert.ShiftBwdIdeal.τ Cert.ShiftBwdIdeal.sig) → Buf (Elt Ideal) ℓ) : Prop :=
  True

def Pre_ShiftBwdIdeal_shift_finite [hPre_shift_finite : Cert.Pre_shift_finite.Facts] (m : (ℓ : Loc Cert.ShiftBwdIdeal.nD Cert.ShiftBwdIdeal.τ Cert.ShiftBwdIdeal.sig) → Buf (Elt Ideal) ℓ) : Prop :=
  ∀ c : Dev Cert.ShiftBwdIdeal.nD,
    (Cert.Pre_shift_finite.fn (F := Ideal) (m ((c.tc : Thread Cert.ShiftBwdIdeal.nD Cert.ShiftBwdIdeal.τ).loc Cert.ShiftBwdIdeal.main_arg0)) (m ((c.tc : Thread Cert.ShiftBwdIdeal.nD Cert.ShiftBwdIdeal.τ).loc Cert.ShiftBwdIdeal.main_arg1)) (m ((c.tc : Thread Cert.ShiftBwdIdeal.nD Cert.ShiftBwdIdeal.τ).loc Cert.ShiftBwdIdeal.main_arg2)) (m ((c.tc : Thread Cert.ShiftBwdIdeal.nD Cert.ShiftBwdIdeal.τ).loc Cert.ShiftBwdIdeal.main_arg3))) = (fun _ => 1#1)

def Pre_ShiftBwdRefIdeal (m : (ℓ : Loc Cert.ShiftBwdRefIdeal.nD Cert.ShiftBwdRefIdeal.τ Cert.ShiftBwdRefIdeal.sig) → Buf (Elt Ideal) ℓ) : Prop :=
  True

def Pre_ShiftBwdRefIdeal_shift_finite [hPre_shift_finite : Cert.Pre_shift_finite.Facts] (m : (ℓ : Loc Cert.ShiftBwdRefIdeal.nD Cert.ShiftBwdRefIdeal.τ Cert.ShiftBwdRefIdeal.sig) → Buf (Elt Ideal) ℓ) : Prop :=
  ∀ c : Dev Cert.ShiftBwdRefIdeal.nD,
    (Cert.Pre_shift_finite.fn (F := Ideal) (m ((c.tc : Thread Cert.ShiftBwdRefIdeal.nD Cert.ShiftBwdRefIdeal.τ).loc Cert.ShiftBwdRefIdeal.main_arg0)) (m ((c.tc : Thread Cert.ShiftBwdRefIdeal.nD Cert.ShiftBwdRefIdeal.τ).loc Cert.ShiftBwdRefIdeal.main_arg1)) (m ((c.tc : Thread Cert.ShiftBwdRefIdeal.nD Cert.ShiftBwdRefIdeal.τ).loc Cert.ShiftBwdRefIdeal.main_arg2)) (m ((c.tc : Thread Cert.ShiftBwdRefIdeal.nD Cert.ShiftBwdRefIdeal.τ).loc Cert.ShiftBwdRefIdeal.main_arg3))) = (fun _ => 1#1)

def Pre_ConvPost (m : (ℓ : Loc Cert.ConvPost.nD Cert.ConvPost.τ Cert.ConvPost.sig) → Buf (Elt Bits) ℓ) : Prop :=
  True

def Pre_ConvPostIdeal (m : (ℓ : Loc Cert.ConvPostIdeal.nD Cert.ConvPostIdeal.τ Cert.ConvPostIdeal.sig) → Buf (Elt Ideal) ℓ) : Prop :=
  True

def Pre_ConvPostIdeal_conv_post_finite [hPre_conv_post_finite : Cert.Pre_conv_post_finite.Facts] (m : (ℓ : Loc Cert.ConvPostIdeal.nD Cert.ConvPostIdeal.τ Cert.ConvPostIdeal.sig) → Buf (Elt Ideal) ℓ) : Prop :=
  ∀ c : Dev Cert.ConvPostIdeal.nD,
    (Cert.Pre_conv_post_finite.fn (F := Ideal) (m ((c.tc : Thread Cert.ConvPostIdeal.nD Cert.ConvPostIdeal.τ).loc Cert.ConvPostIdeal.main_arg0)) (m ((c.tc : Thread Cert.ConvPostIdeal.nD Cert.ConvPostIdeal.τ).loc Cert.ConvPostIdeal.main_arg1)) (m ((c.tc : Thread Cert.ConvPostIdeal.nD Cert.ConvPostIdeal.τ).loc Cert.ConvPostIdeal.main_arg2)) (m ((c.tc : Thread Cert.ConvPostIdeal.nD Cert.ConvPostIdeal.τ).loc Cert.ConvPostIdeal.main_arg3))) = (fun _ => 1#1)

def Pre_ConvPostRefIdeal (m : (ℓ : Loc Cert.ConvPostRefIdeal.nD Cert.ConvPostRefIdeal.τ Cert.ConvPostRefIdeal.sig) → Buf (Elt Ideal) ℓ) : Prop :=
  True

def Pre_ConvPostRefIdeal_conv_post_finite [hPre_conv_post_finite : Cert.Pre_conv_post_finite.Facts] (m : (ℓ : Loc Cert.ConvPostRefIdeal.nD Cert.ConvPostRefIdeal.τ Cert.ConvPostRefIdeal.sig) → Buf (Elt Ideal) ℓ) : Prop :=
  ∀ c : Dev Cert.ConvPostRefIdeal.nD,
    (Cert.Pre_conv_post_finite.fn (F := Ideal) (m ((c.tc : Thread Cert.ConvPostRefIdeal.nD Cert.ConvPostRefIdeal.τ).loc Cert.ConvPostRefIdeal.main_arg0)) (m ((c.tc : Thread Cert.ConvPostRefIdeal.nD Cert.ConvPostRefIdeal.τ).loc Cert.ConvPostRefIdeal.main_arg1)) (m ((c.tc : Thread Cert.ConvPostRefIdeal.nD Cert.ConvPostRefIdeal.τ).loc Cert.ConvPostRefIdeal.main_arg2)) (m ((c.tc : Thread Cert.ConvPostRefIdeal.nD Cert.ConvPostRefIdeal.τ).loc Cert.ConvPostRefIdeal.main_arg3))) = (fun _ => 1#1)

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamProj (m : (ℓ : Loc Cert.AdamProj.nD Cert.AdamProj.τ Cert.AdamProj.sig) → Buf (Elt Bits) ℓ) : Prop :=
  True

def Pre_AdamProjIdeal (m : (ℓ : Loc Cert.AdamProjIdeal.nD Cert.AdamProjIdeal.τ Cert.AdamProjIdeal.sig) → Buf (Elt Ideal) ℓ) : Prop :=
  True

def Pre_AdamProjRefIdeal (m : (ℓ : Loc Cert.AdamProjRefIdeal.nD Cert.AdamProjRefIdeal.τ Cert.AdamProjRefIdeal.sig) → Buf (Elt Ideal) ℓ) : Prop :=
  True

def Pre_AdamFfn (m : (ℓ : Loc Cert.AdamFfn.nD Cert.AdamFfn.τ Cert.AdamFfn.sig) → Buf (Elt Bits) ℓ) : Prop :=
  True

def Pre_AdamFfnIdeal (m : (ℓ : Loc Cert.AdamFfnIdeal.nD Cert.AdamFfnIdeal.τ Cert.AdamFfnIdeal.sig) → Buf (Elt Ideal) ℓ) : Prop :=
  True

def Pre_AdamFfnRefIdeal (m : (ℓ : Loc Cert.AdamFfnRefIdeal.nD Cert.AdamFfnRefIdeal.τ Cert.AdamFfnRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2))
      ∧ r.2.sem = fun _ => 0)

def quiescent_ConvBwdRefIdeal [hConvBwdRefIdeal : Cert.ConvBwdRefIdeal.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1))
      ∧ r.2.sem = fun _ => 0)

def quiescent_FfnDx [hFfnDx : Cert.FfnDx.Facts] : Prop :=
  ∀ (m : (ℓ : Loc Cert.FfnDx.nD Cert.FfnDx.τ Cert.FfnDx.sig) → Buf (Elt Bits) ℓ) (g : Dev Cert.FfnDx.nD → PrngReg), Pre_FfnDx m →
    θ_run (Cert.FfnDx.defs (F := Bits)) (onTc (τ := Cert.FfnDx.τ) (Cert.FfnDx.main (F := Bits))) ⟨m, fun _ => 0, g⟩ (fun r => (∀ c : Dev Cert.FfnDx.nD,
      r.2.mem ((c.tc : Thread Cert.FfnDx.nD Cert.FfnDx.τ).loc Cert.FfnDx.main_arg0) = m ((c.tc : Thread Cert.FfnDx.nD Cert.FfnDx.τ).loc Cert.FfnDx.main_arg0)
      ∧ r.2.mem ((c.tc : Thread Cert.FfnDx.nD Cert.FfnDx.τ).loc Cert.FfnDx.main_arg1) = m ((c.tc : Thread Cert.FfnDx.nD Cert.FfnDx.τ).loc Cert.FfnDx.main_arg1)
      ∧ r.2.mem ((c.tc : Thread Cert.FfnDx.nD Cert.FfnDx.τ).loc Cert.FfnDx.main_arg2) = m ((c.tc : Thread Cert.FfnDx.nD Cert.FfnDx.τ).loc Cert.FfnDx.main_arg2))
      ∧ r.2.sem = fun _ => 0)

def quiescent_FfnDxIdeal [hFfnDxIdeal : Cert.FfnDxIdeal.Facts] : Prop :=
  ∀ (m : (ℓ : Loc Cert.FfnDxIdeal.nD Cert.FfnDxIdeal.τ Cert.FfnDxIdeal.sig) → Buf (Elt Ideal) ℓ) (g : Dev Cert.FfnDxIdeal.nD → PrngReg), Pre_FfnDxIdeal m →
    θ_run (Cert.FfnDxIdeal.defs (F := Ideal)) (onTc (τ := Cert.FfnDxIdeal.τ) (Cert.FfnDxIdeal.main (F := Ideal))) ⟨m, fun _ => 0, g⟩ (fun r => (∀ c : Dev Cert.FfnDxIdeal.nD,
      r.2.mem ((c.tc : Thread Cert.FfnDxIdeal.nD Cert.FfnDxIdeal.τ).loc Cert.FfnDxIdeal.main_arg0) = m ((c.tc : Thread Cert.FfnDxIdeal.nD Cert.FfnDxIdeal.τ).loc Cert.FfnDxIdeal.main_arg0)
      ∧ r.2.mem ((c.tc : Thread Cert.FfnDxIdeal.nD Cert.FfnDxIdeal.τ).loc Cert.FfnDxIdeal.main_arg1) = m ((c.tc : Thread Cert.FfnDxIdeal.nD Cert.FfnDxIdeal.τ).loc Cert.FfnDxIdeal.main_arg1)
      ∧ r.2.mem ((c.tc : Thread Cert.FfnDxIdeal.nD Cert.FfnDxIdeal.τ).loc Cert.FfnDxIdeal.main_arg2) = m ((c.tc : Thread Cert.FfnDxIdeal.nD Cert.FfnDxIdeal.τ).loc Cert.FfnDxIdeal.main_arg2))
      ∧ r.2.sem = fun _ => 0)

def quiescent_FfnDxRefIdeal [hFfnDxRefIdeal : Cert.FfnDxRefIdeal.Facts] : Prop :=
  ∀ (m : (ℓ : Loc Cert.FfnDxRefIdeal.nD Cert.FfnDxRefIdeal.τ Cert.FfnDxRefIdeal.sig) → Buf (Elt Ideal) ℓ) (g : Dev Cert.FfnDxRefIdeal.nD → PrngReg), Pre_FfnDxRefIdeal m →
    θ_run (Cert.FfnDxRefIdeal.defs (F := Ideal)) (onTc (τ := Cert.FfnDxRefIdeal.τ) (Cert.FfnDxRefIdeal.main (F := Ideal))) ⟨m, fun _ => 0, g⟩ (fun r => (∀ c : Dev Cert.FfnDxRefIdeal.nD,
      r.2.mem ((c.tc : Thread Cert.FfnDxRefIdeal.nD Cert.FfnDxRefIdeal.τ).loc Cert.FfnDxRefIdeal.main_arg0) = m ((c.tc : Thread Cert.FfnDxRefIdeal.nD Cert.FfnDxRefIdeal.τ).loc Cert.FfnDxRefIdeal.main_arg0)
      ∧ r.2.mem ((c.tc : Thread Cert.FfnDxRefIdeal.nD Cert.FfnDxRefIdeal.τ).loc Cert.FfnDxRefIdeal.main_arg1) = m ((c.tc : Thread Cert.FfnDxRefIdeal.nD Cert.FfnDxRefIdeal.τ).loc Cert.FfnDxRefIdeal.main_arg1)
      ∧ r.2.mem ((c.tc : Thread Cert.FfnDxRefIdeal.nD Cert.FfnDxRefIdeal.τ).loc Cert.FfnDxRefIdeal.main_arg2) = m ((c.tc : Thread Cert.FfnDxRefIdeal.nD Cert.FfnDxRefIdeal.τ).loc Cert.FfnDxRefIdeal.main_arg2))
      ∧ r.2.sem = fun _ => 0)

def quiescent_FfnDh [hFfnDh : Cert.FfnDh.Facts] : Prop :=
  ∀ (m : (ℓ : Loc Cert.FfnDh.nD Cert.FfnDh.τ Cert.FfnDh.sig) → Buf (Elt Bits) ℓ) (g : Dev Cert.FfnDh.nD → PrngReg), Pre_FfnDh m →
    θ_run (Cert.FfnDh.defs (F := Bits)) (onTc (τ := Cert.FfnDh.τ) (Cert.FfnDh.main (F := Bits))) ⟨m, fun _ => 0, g⟩ (fun r => (∀ c : Dev Cert.FfnDh.nD,
      r.2.mem ((c.tc : Thread Cert.FfnDh.nD Cert.FfnDh.τ).loc Cert.FfnDh.main_arg0) = m ((c.tc : Thread Cert.FfnDh.nD Cert.FfnDh.τ).loc Cert.FfnDh.main_arg0)
      ∧ r.2.mem ((c.tc : Thread Cert.FfnDh.nD Cert.FfnDh.τ).loc Cert.FfnDh.main_arg1) = m ((c.tc : Thread Cert.FfnDh.nD Cert.FfnDh.τ).loc Cert.FfnDh.main_arg1)
      ∧ r.2.mem ((c.tc : Thread Cert.FfnDh.nD Cert.FfnDh.τ).loc Cert.FfnDh.main_arg2) = m ((c.tc : Thread Cert.FfnDh.nD Cert.FfnDh.τ).loc Cert.FfnDh.main_arg2))
      ∧ r.2.sem = fun _ => 0)

def quiescent_FfnDhIdeal [hFfnDhIdeal : Cert.FfnDhIdeal.Facts] : Prop :=
  ∀ (m : (ℓ : Loc Cert.FfnDhIdeal.nD Cert.FfnDhIdeal.τ Cert.FfnDhIdeal.sig) → Buf (Elt Ideal) ℓ) (g : Dev Cert.FfnDhIdeal.nD → PrngReg), Pre_FfnDhIdeal m →
    θ_run (Cert.FfnDhIdeal.defs (F := Ideal)) (onTc (τ := Cert.FfnDhIdeal.τ) (Cert.FfnDhIdeal.main (F := Ideal))) ⟨m, fun _ => 0, g⟩ (fun r => (∀ c : Dev Cert.FfnDhIdeal.nD,
      r.2.mem ((c.tc : Thread Cert.FfnDhIdeal.nD Cert.FfnDhIdeal.τ).loc Cert.FfnDhIdeal.main_arg0) = m ((c.tc : Thread Cert.FfnDhIdeal.nD Cert.FfnDhIdeal.τ).loc Cert.FfnDhIdeal.main_arg0)
      ∧ r.2.mem ((c.tc : Thread Cert.FfnDhIdeal.nD Cert.FfnDhIdeal.τ).loc Cert.FfnDhIdeal.main_arg1) = m ((c.tc : Thread Cert.FfnDhIdeal.nD Cert.FfnDhIdeal.τ).loc Cert.FfnDhIdeal.main_arg1)
      ∧ r.2.mem ((c.tc : Thread Cert.FfnDhIdeal.nD Cert.FfnDhIdeal.τ).loc Cert.FfnDhIdeal.main_arg2) = m ((c.tc : Thread Cert.FfnDhIdeal.nD Cert.FfnDhIdeal.τ).loc Cert.FfnDhIdeal.main_arg2))
      ∧ r.2.sem = fun _ => 0)

def quiescent_FfnDhIdeal_pre_hidden_finite [hFfnDhIdeal : Cert.FfnDhIdeal.Facts] [hPre_hidden_finite : Cert.Pre_hidden_finite.Facts] : Prop :=
  ∀ (m : (ℓ : Loc Cert.FfnDhIdeal.nD Cert.FfnDhIdeal.τ Cert.FfnDhIdeal.sig) → Buf (Elt Ideal) ℓ) (g : Dev Cert.FfnDhIdeal.nD → PrngReg), Pre_FfnDhIdeal_hidden_finite m →
    θ_run (Cert.FfnDhIdeal.defs (F := Ideal)) (onTc (τ := Cert.FfnDhIdeal.τ) (Cert.FfnDhIdeal.main (F := Ideal))) ⟨m, fun _ => 0, g⟩ (fun r => (∀ c : Dev Cert.FfnDhIdeal.nD,
      r.2.mem ((c.tc : Thread Cert.FfnDhIdeal.nD Cert.FfnDhIdeal.τ).loc Cert.FfnDhIdeal.main_arg0) = m ((c.tc : Thread Cert.FfnDhIdeal.nD Cert.FfnDhIdeal.τ).loc Cert.FfnDhIdeal.main_arg0)
      ∧ r.2.mem ((c.tc : Thread Cert.FfnDhIdeal.nD Cert.FfnDhIdeal.τ).loc Cert.FfnDhIdeal.main_arg1) = m ((c.tc : Thread Cert.FfnDhIdeal.nD Cert.FfnDhIdeal.τ).loc Cert.FfnDhIdeal.main_arg1)
      ∧ r.2.mem ((c.tc : Thread Cert.FfnDhIdeal.nD Cert.FfnDhIdeal.τ).loc Cert.FfnDhIdeal.main_arg2) = m ((c.tc : Thread Cert.FfnDhIdeal.nD Cert.FfnDhIdeal.τ).loc Cert.FfnDhIdeal.main_arg2))
      ∧ r.2.sem = fun _ => 0)

def quiescent_FfnDhRefIdeal [hFfnDhRefIdeal : Cert.FfnDhRefIdeal.Facts] : Prop :=
  ∀ (m : (ℓ : Loc Cert.FfnDhRefIdeal.nD Cert.FfnDhRefIdeal.τ Cert.FfnDhRefIdeal.sig) → Buf (Elt Ideal) ℓ) (g : Dev Cert.FfnDhRefIdeal.nD → PrngReg), Pre_FfnDhRefIdeal m →
    θ_run (Cert.FfnDhRefIdeal.defs (F := Ideal)) (onTc (τ := Cert.FfnDhRefIdeal.τ) (Cert.FfnDhRefIdeal.main (F := Ideal))) ⟨m, fun _ => 0, g⟩ (fun r => (∀ c : Dev Cert.FfnDhRefIdeal.nD,
      r.2.mem ((c.tc : Thread Cert.FfnDhRefIdeal.nD Cert.FfnDhRefIdeal.τ).loc Cert.FfnDhRefIdeal.main_arg0) = m ((c.tc : Thread Cert.FfnDhRefIdeal.nD Cert.FfnDhRefIdeal.τ).loc Cert.FfnDhRefIdeal.main_arg0)
      ∧ r.2.mem ((c.tc : Thread Cert.FfnDhRefIdeal.nD Cert.FfnDhRefIdeal.τ).loc Cert.FfnDhRefIdeal.main_arg1) = m ((c.tc : Thread Cert.FfnDhRefIdeal.nD Cert.FfnDhRefIdeal.τ).loc Cert.FfnDhRefIdeal.main_arg1)
      ∧ r.2.mem ((c.tc : Thread Cert.FfnDhRefIdeal.nD Cert.FfnDhRefIdeal.τ).loc Cert.FfnDhRefIdeal.main_arg2) = m ((c.tc : Thread Cert.FfnDhRefIdeal.nD Cert.FfnDhRefIdeal.τ).loc Cert.FfnDhRefIdeal.main_arg2))
      ∧ r.2.sem = fun _ => 0)

def quiescent_FfnDhRefIdeal_pre_hidden_finite [hFfnDhRefIdeal : Cert.FfnDhRefIdeal.Facts] [hPre_hidden_finite : Cert.Pre_hidden_finite.Facts] : Prop :=
  ∀ (m : (ℓ : Loc Cert.FfnDhRefIdeal.nD Cert.FfnDhRefIdeal.τ Cert.FfnDhRefIdeal.sig) → Buf (Elt Ideal) ℓ) (g : Dev Cert.FfnDhRefIdeal.nD → PrngReg), Pre_FfnDhRefIdeal_hidden_finite m →
    θ_run (Cert.FfnDhRefIdeal.defs (F := Ideal)) (onTc (τ := Cert.FfnDhRefIdeal.τ) (Cert.FfnDhRefIdeal.main (F := Ideal))) ⟨m, fun _ => 0, g⟩ (fun r => (∀ c : Dev Cert.FfnDhRefIdeal.nD,
      r.2.mem ((c.tc : Thread Cert.FfnDhRefIdeal.nD Cert.FfnDhRefIdeal.τ).loc Cert.FfnDhRefIdeal.main_arg0) = m ((c.tc : Thread Cert.FfnDhRefIdeal.nD Cert.FfnDhRefIdeal.τ).loc Cert.FfnDhRefIdeal.main_arg0)
      ∧ r.2.mem ((c.tc : Thread Cert.FfnDhRefIdeal.nD Cert.FfnDhRefIdeal.τ).loc Cert.FfnDhRefIdeal.main_arg1) = m ((c.tc : Thread Cert.FfnDhRefIdeal.nD Cert.FfnDhRefIdeal.τ).loc Cert.FfnDhRefIdeal.main_arg1)
      ∧ r.2.mem ((c.tc : Thread Cert.FfnDhRefIdeal.nD Cert.FfnDhRefIdeal.τ).loc Cert.FfnDhRefIdeal.main_arg2) = m ((c.tc : Thread Cert.FfnDhRefIdeal.nD Cert.FfnDhRefIdeal.τ).loc Cert.FfnDhRefIdeal.main_arg2))
      ∧ r.2.sem = fun _ => 0)

def quiescent_FfnDwi [hFfnDwi : Cert.FfnDwi.Facts] : Prop :=
  ∀ (m : (ℓ : Loc Cert.FfnDwi.nD Cert.FfnDwi.τ Cert.FfnDwi.sig) → Buf (Elt Bits) ℓ) (g : Dev Cert.FfnDwi.nD → PrngReg), Pre_FfnDwi m →
    θ_run (Cert.FfnDwi.defs (F := Bits)) (onTc (τ := Cert.FfnDwi.τ) (Cert.FfnDwi.main (F := Bits))) ⟨m, fun _ => 0, g⟩ (fun r => (∀ c : Dev Cert.FfnDwi.nD,
      r.2.mem ((c.tc : Thread Cert.FfnDwi.nD Cert.FfnDwi.τ).loc Cert.FfnDwi.main_arg0) = m ((c.tc : Thread Cert.FfnDwi.nD Cert.FfnDwi.τ).loc Cert.FfnDwi.main_arg0)
      ∧ r.2.mem ((c.tc : Thread Cert.FfnDwi.nD Cert.FfnDwi.τ).loc Cert.FfnDwi.main_arg1) = m ((c.tc : Thread Cert.FfnDwi.nD Cert.FfnDwi.τ).loc Cert.FfnDwi.main_arg1))
      ∧ r.2.sem = fun _ => 0)

def quiescent_FfnDwiIdeal [hFfnDwiIdeal : Cert.FfnDwiIdeal.Facts] : Prop :=
  ∀ (m : (ℓ : Loc Cert.FfnDwiIdeal.nD Cert.FfnDwiIdeal.τ Cert.FfnDwiIdeal.sig) → Buf (Elt Ideal) ℓ) (g : Dev Cert.FfnDwiIdeal.nD → PrngReg), Pre_FfnDwiIdeal m →
    θ_run (Cert.FfnDwiIdeal.defs (F := Ideal)) (onTc (τ := Cert.FfnDwiIdeal.τ) (Cert.FfnDwiIdeal.main (F := Ideal))) ⟨m, fun _ => 0, g⟩ (fun r => (∀ c : Dev Cert.FfnDwiIdeal.nD,
      r.2.mem ((c.tc : Thread Cert.FfnDwiIdeal.nD Cert.FfnDwiIdeal.τ).loc Cert.FfnDwiIdeal.main_arg0) = m ((c.tc : Thread Cert.FfnDwiIdeal.nD Cert.FfnDwiIdeal.τ).loc Cert.FfnDwiIdeal.main_arg0)
      ∧ r.2.mem ((c.tc : Thread Cert.FfnDwiIdeal.nD Cert.FfnDwiIdeal.τ).loc Cert.FfnDwiIdeal.main_arg1) = m ((c.tc : Thread Cert.FfnDwiIdeal.nD Cert.FfnDwiIdeal.τ).loc Cert.FfnDwiIdeal.main_arg1))
      ∧ r.2.sem = fun _ => 0)

def quiescent_FfnDwiRefIdeal [hFfnDwiRefIdeal : Cert.FfnDwiRefIdeal.Facts] : Prop :=
  ∀ (m : (ℓ : Loc Cert.FfnDwiRefIdeal.nD Cert.FfnDwiRefIdeal.τ Cert.FfnDwiRefIdeal.sig) → Buf (Elt Ideal) ℓ) (g : Dev Cert.FfnDwiRefIdeal.nD → PrngReg), Pre_FfnDwiRefIdeal m →
    θ_run (Cert.FfnDwiRefIdeal.defs (F := Ideal)) (onTc (τ := Cert.FfnDwiRefIdeal.τ) (Cert.FfnDwiRefIdeal.main (F := Ideal))) ⟨m, fun _ => 0, g⟩ (fun r => (∀ c : Dev Cert.FfnDwiRefIdeal.nD,
      r.2.mem ((c.tc : Thread Cert.FfnDwiRefIdeal.nD Cert.FfnDwiRefIdeal.τ).loc Cert.FfnDwiRefIdeal.main_arg0) = m ((c.tc : Thread Cert.FfnDwiRefIdeal.nD Cert.FfnDwiRefIdeal.τ).loc Cert.FfnDwiRefIdeal.main_arg0)
      ∧ r.2.mem ((c.tc : Thread Cert.FfnDwiRefIdeal.nD Cert.FfnDwiRefIdeal.τ).loc Cert.FfnDwiRefIdeal.main_arg1) = m ((c.tc : Thread Cert.FfnDwiRefIdeal.nD Cert.FfnDwiRefIdeal.τ).loc Cert.FfnDwiRefIdeal.main_arg1))
      ∧ r.2.sem = fun _ => 0)

def quiescent_FfnDwo [hFfnDwo : Cert.FfnDwo.Facts] : Prop :=
  ∀ (m : (ℓ : Loc Cert.FfnDwo.nD Cert.FfnDwo.τ Cert.FfnDwo.sig) → Buf (Elt Bits) ℓ) (g : Dev Cert.FfnDwo.nD → PrngReg), Pre_FfnDwo m →
    θ_run (Cert.FfnDwo.defs (F := Bits)) (onTc (τ := Cert.FfnDwo.τ) (Cert.FfnDwo.main (F := Bits))) ⟨m, fun _ => 0, g⟩ (fun r => (∀ c : Dev Cert.FfnDwo.nD,
      r.2.mem ((c.tc : Thread Cert.FfnDwo.nD Cert.FfnDwo.τ).loc Cert.FfnDwo.main_arg0) = m ((c.tc : Thread Cert.FfnDwo.nD Cert.FfnDwo.τ).loc Cert.FfnDwo.main_arg0)
      ∧ r.2.mem ((c.tc : Thread Cert.FfnDwo.nD Cert.FfnDwo.τ).loc Cert.FfnDwo.main_arg1) = m ((c.tc : Thread Cert.FfnDwo.nD Cert.FfnDwo.τ).loc Cert.FfnDwo.main_arg1))
      ∧ r.2.sem = fun _ => 0)

def quiescent_FfnDwoIdeal [hFfnDwoIdeal : Cert.FfnDwoIdeal.Facts] : Prop :=
  ∀ (m : (ℓ : Loc Cert.FfnDwoIdeal.nD Cert.FfnDwoIdeal.τ Cert.FfnDwoIdeal.sig) → Buf (Elt Ideal) ℓ) (g : Dev Cert.FfnDwoIdeal.nD → PrngReg), Pre_FfnDwoIdeal m →
    θ_run (Cert.FfnDwoIdeal.defs (F := Ideal)) (onTc (τ := Cert.FfnDwoIdeal.τ) (Cert.FfnDwoIdeal.main (F := Ideal))) ⟨m, fun _ => 0, g⟩ (fun r => (∀ c : Dev Cert.FfnDwoIdeal.nD,
      r.2.mem ((c.tc : Thread Cert.FfnDwoIdeal.nD Cert.FfnDwoIdeal.τ).loc Cert.FfnDwoIdeal.main_arg0) = m ((c.tc : Thread Cert.FfnDwoIdeal.nD Cert.FfnDwoIdeal.τ).loc Cert.FfnDwoIdeal.main_arg0)
      ∧ r.2.mem ((c.tc : Thread Cert.FfnDwoIdeal.nD Cert.FfnDwoIdeal.τ).loc Cert.FfnDwoIdeal.main_arg1) = m ((c.tc : Thread Cert.FfnDwoIdeal.nD Cert.FfnDwoIdeal.τ).loc Cert.FfnDwoIdeal.main_arg1))
      ∧ r.2.sem = fun _ => 0)

def quiescent_FfnDwoRefIdeal [hFfnDwoRefIdeal : Cert.FfnDwoRefIdeal.Facts] : Prop :=
  ∀ (m : (ℓ : Loc Cert.FfnDwoRefIdeal.nD Cert.FfnDwoRefIdeal.τ Cert.FfnDwoRefIdeal.sig) → Buf (Elt Ideal) ℓ) (g : Dev Cert.FfnDwoRefIdeal.nD → PrngReg), Pre_FfnDwoRefIdeal m →
    θ_run (Cert.FfnDwoRefIdeal.defs (F := Ideal)) (onTc (τ := Cert.FfnDwoRefIdeal.τ) (Cert.FfnDwoRefIdeal.main (F := Ideal))) ⟨m, fun _ => 0, g⟩ (fun r => (∀ c : Dev Cert.FfnDwoRefIdeal.nD,
      r.2.mem ((c.tc : Thread Cert.FfnDwoRefIdeal.nD Cert.FfnDwoRefIdeal.τ).loc Cert.FfnDwoRefIdeal.main_arg0) = m ((c.tc : Thread Cert.FfnDwoRefIdeal.nD Cert.FfnDwoRefIdeal.τ).loc Cert.FfnDwoRefIdeal.main_arg0)
      ∧ r.2.mem ((c.tc : Thread Cert.FfnDwoRefIdeal.nD Cert.FfnDwoRefIdeal.τ).loc Cert.FfnDwoRefIdeal.main_arg1) = m ((c.tc : Thread Cert.FfnDwoRefIdeal.nD Cert.FfnDwoRefIdeal.τ).loc Cert.FfnDwoRefIdeal.main_arg1))
      ∧ r.2.sem = fun _ => 0)

def quiescent_FfnTwo [hFfnTwo : Cert.FfnTwo.Facts] : Prop :=
  ∀ (m : (ℓ : Loc Cert.FfnTwo.nD Cert.FfnTwo.τ Cert.FfnTwo.sig) → Buf (Elt Bits) ℓ) (g : Dev Cert.FfnTwo.nD → PrngReg), Pre_FfnTwo m →
    θ_run (Cert.FfnTwo.defs (F := Bits)) (onTc (τ := Cert.FfnTwo.τ) (Cert.FfnTwo.main (F := Bits))) ⟨m, fun _ => 0, g⟩ (fun r => (∀ c : Dev Cert.FfnTwo.nD,
      r.2.mem ((c.tc : Thread Cert.FfnTwo.nD Cert.FfnTwo.τ).loc Cert.FfnTwo.main_arg0) = m ((c.tc : Thread Cert.FfnTwo.nD Cert.FfnTwo.τ).loc Cert.FfnTwo.main_arg0)
      ∧ r.2.mem ((c.tc : Thread Cert.FfnTwo.nD Cert.FfnTwo.τ).loc Cert.FfnTwo.main_arg1) = m ((c.tc : Thread Cert.FfnTwo.nD Cert.FfnTwo.τ).loc Cert.FfnTwo.main_arg1))
      ∧ r.2.sem = fun _ => 0)

def quiescent_FfnTwoIdeal [hFfnTwoIdeal : Cert.FfnTwoIdeal.Facts] : Prop :=
  ∀ (m : (ℓ : Loc Cert.FfnTwoIdeal.nD Cert.FfnTwoIdeal.τ Cert.FfnTwoIdeal.sig) → Buf (Elt Ideal) ℓ) (g : Dev Cert.FfnTwoIdeal.nD → PrngReg), Pre_FfnTwoIdeal m →
    θ_run (Cert.FfnTwoIdeal.defs (F := Ideal)) (onTc (τ := Cert.FfnTwoIdeal.τ) (Cert.FfnTwoIdeal.main (F := Ideal))) ⟨m, fun _ => 0, g⟩ (fun r => (∀ c : Dev Cert.FfnTwoIdeal.nD,
      r.2.mem ((c.tc : Thread Cert.FfnTwoIdeal.nD Cert.FfnTwoIdeal.τ).loc Cert.FfnTwoIdeal.main_arg0) = m ((c.tc : Thread Cert.FfnTwoIdeal.nD Cert.FfnTwoIdeal.τ).loc Cert.FfnTwoIdeal.main_arg0)
      ∧ r.2.mem ((c.tc : Thread Cert.FfnTwoIdeal.nD Cert.FfnTwoIdeal.τ).loc Cert.FfnTwoIdeal.main_arg1) = m ((c.tc : Thread Cert.FfnTwoIdeal.nD Cert.FfnTwoIdeal.τ).loc Cert.FfnTwoIdeal.main_arg1))
      ∧ r.2.sem = fun _ => 0)

def quiescent_FfnTwoRefIdeal [hFfnTwoRefIdeal : Cert.FfnTwoRefIdeal.Facts] : Prop :=
  ∀ (m : (ℓ : Loc Cert.FfnTwoRefIdeal.nD Cert.FfnTwoRefIdeal.τ Cert.FfnTwoRefIdeal.sig) → Buf (Elt Ideal) ℓ) (g : Dev Cert.FfnTwoRefIdeal.nD → PrngReg), Pre_FfnTwoRefIdeal m →
    θ_run (Cert.FfnTwoRefIdeal.defs (F := Ideal)) (onTc (τ := Cert.FfnTwoRefIdeal.τ) (Cert.FfnTwoRefIdeal.main (F := Ideal))) ⟨m, fun _ => 0, g⟩ (fun r => (∀ c : Dev Cert.FfnTwoRefIdeal.nD,
      r.2.mem ((c.tc : Thread Cert.FfnTwoRefIdeal.nD Cert.FfnTwoRefIdeal.τ).loc Cert.FfnTwoRefIdeal.main_arg0) = m ((c.tc : Thread Cert.FfnTwoRefIdeal.nD Cert.FfnTwoRefIdeal.τ).loc Cert.FfnTwoRefIdeal.main_arg0)
      ∧ r.2.mem ((c.tc : Thread Cert.FfnTwoRefIdeal.nD Cert.FfnTwoRefIdeal.τ).loc Cert.FfnTwoRefIdeal.main_arg1) = m ((c.tc : Thread Cert.FfnTwoRefIdeal.nD Cert.FfnTwoRefIdeal.τ).loc Cert.FfnTwoRefIdeal.main_arg1))
      ∧ r.2.sem = fun _ => 0)

def quiescent_FfnTwoDwi [hFfnTwoDwi : Cert.FfnTwoDwi.Facts] : Prop :=
  ∀ (m : (ℓ : Loc Cert.FfnTwoDwi.nD Cert.FfnTwoDwi.τ Cert.FfnTwoDwi.sig) → Buf (Elt Bits) ℓ) (g : Dev Cert.FfnTwoDwi.nD → PrngReg), Pre_FfnTwoDwi m →
    θ_run (Cert.FfnTwoDwi.defs (F := Bits)) (onTc (τ := Cert.FfnTwoDwi.τ) (Cert.FfnTwoDwi.main (F := Bits))) ⟨m, fun _ => 0, g⟩ (fun r => (∀ c : Dev Cert.FfnTwoDwi.nD,
      r.2.mem ((c.tc : Thread Cert.FfnTwoDwi.nD Cert.FfnTwoDwi.τ).loc Cert.FfnTwoDwi.main_arg0) = m ((c.tc : Thread Cert.FfnTwoDwi.nD Cert.FfnTwoDwi.τ).loc Cert.FfnTwoDwi.main_arg0)
      ∧ r.2.mem ((c.tc : Thread Cert.FfnTwoDwi.nD Cert.FfnTwoDwi.τ).loc Cert.FfnTwoDwi.main_arg1) = m ((c.tc : Thread Cert.FfnTwoDwi.nD Cert.FfnTwoDwi.τ).loc Cert.FfnTwoDwi.main_arg1))
      ∧ r.2.sem = fun _ => 0)

def quiescent_FfnTwoDwiIdeal [hFfnTwoDwiIdeal : Cert.FfnTwoDwiIdeal.Facts] : Prop :=
  ∀ (m : (ℓ : Loc Cert.FfnTwoDwiIdeal.nD Cert.FfnTwoDwiIdeal.τ Cert.FfnTwoDwiIdeal.sig) → Buf (Elt Ideal) ℓ) (g : Dev Cert.FfnTwoDwiIdeal.nD → PrngReg), Pre_FfnTwoDwiIdeal m →
    θ_run (Cert.FfnTwoDwiIdeal.defs (F := Ideal)) (onTc (τ := Cert.FfnTwoDwiIdeal.τ) (Cert.FfnTwoDwiIdeal.main (F := Ideal))) ⟨m, fun _ => 0, g⟩ (fun r => (∀ c : Dev Cert.FfnTwoDwiIdeal.nD,
      r.2.mem ((c.tc : Thread Cert.FfnTwoDwiIdeal.nD Cert.FfnTwoDwiIdeal.τ).loc Cert.FfnTwoDwiIdeal.main_arg0) = m ((c.tc : Thread Cert.FfnTwoDwiIdeal.nD Cert.FfnTwoDwiIdeal.τ).loc Cert.FfnTwoDwiIdeal.main_arg0)
      ∧ r.2.mem ((c.tc : Thread Cert.FfnTwoDwiIdeal.nD Cert.FfnTwoDwiIdeal.τ).loc Cert.FfnTwoDwiIdeal.main_arg1) = m ((c.tc : Thread Cert.FfnTwoDwiIdeal.nD Cert.FfnTwoDwiIdeal.τ).loc Cert.FfnTwoDwiIdeal.main_arg1))
      ∧ r.2.sem = fun _ => 0)

def quiescent_FfnTwoDwiRefIdeal [hFfnTwoDwiRefIdeal : Cert.FfnTwoDwiRefIdeal.Facts] : Prop :=
  ∀ (m : (ℓ : Loc Cert.FfnTwoDwiRefIdeal.nD Cert.FfnTwoDwiRefIdeal.τ Cert.FfnTwoDwiRefIdeal.sig) → Buf (Elt Ideal) ℓ) (g : Dev Cert.FfnTwoDwiRefIdeal.nD → PrngReg), Pre_FfnTwoDwiRefIdeal m →
    θ_run (Cert.FfnTwoDwiRefIdeal.defs (F := Ideal)) (onTc (τ := Cert.FfnTwoDwiRefIdeal.τ) (Cert.FfnTwoDwiRefIdeal.main (F := Ideal))) ⟨m, fun _ => 0, g⟩ (fun r => (∀ c : Dev Cert.FfnTwoDwiRefIdeal.nD,
      r.2.mem ((c.tc : Thread Cert.FfnTwoDwiRefIdeal.nD Cert.FfnTwoDwiRefIdeal.τ).loc Cert.FfnTwoDwiRefIdeal.main_arg0) = m ((c.tc : Thread Cert.FfnTwoDwiRefIdeal.nD Cert.FfnTwoDwiRefIdeal.τ).loc Cert.FfnTwoDwiRefIdeal.main_arg0)
      ∧ r.2.mem ((c.tc : Thread Cert.FfnTwoDwiRefIdeal.nD Cert.FfnTwoDwiRefIdeal.τ).loc Cert.FfnTwoDwiRefIdeal.main_arg1) = m ((c.tc : Thread Cert.FfnTwoDwiRefIdeal.nD Cert.FfnTwoDwiRefIdeal.τ).loc Cert.FfnTwoDwiRefIdeal.main_arg1))
      ∧ r.2.sem = fun _ => 0)

def quiescent_ProjIn [hProjIn : Cert.ProjIn.Facts] : Prop :=
  ∀ (m : (ℓ : Loc Cert.ProjIn.nD Cert.ProjIn.τ Cert.ProjIn.sig) → Buf (Elt Bits) ℓ) (g : Dev Cert.ProjIn.nD → PrngReg), Pre_ProjIn m →
    θ_run (Cert.ProjIn.defs (F := Bits)) (onTc (τ := Cert.ProjIn.τ) (Cert.ProjIn.main (F := Bits))) ⟨m, fun _ => 0, g⟩ (fun r => (∀ c : Dev Cert.ProjIn.nD,
      r.2.mem ((c.tc : Thread Cert.ProjIn.nD Cert.ProjIn.τ).loc Cert.ProjIn.main_arg0) = m ((c.tc : Thread Cert.ProjIn.nD Cert.ProjIn.τ).loc Cert.ProjIn.main_arg0)
      ∧ r.2.mem ((c.tc : Thread Cert.ProjIn.nD Cert.ProjIn.τ).loc Cert.ProjIn.main_arg1) = m ((c.tc : Thread Cert.ProjIn.nD Cert.ProjIn.τ).loc Cert.ProjIn.main_arg1))
      ∧ r.2.sem = fun _ => 0)

def quiescent_ProjInIdeal [hProjInIdeal : Cert.ProjInIdeal.Facts] : Prop :=
  ∀ (m : (ℓ : Loc Cert.ProjInIdeal.nD Cert.ProjInIdeal.τ Cert.ProjInIdeal.sig) → Buf (Elt Ideal) ℓ) (g : Dev Cert.ProjInIdeal.nD → PrngReg), Pre_ProjInIdeal m →
    θ_run (Cert.ProjInIdeal.defs (F := Ideal)) (onTc (τ := Cert.ProjInIdeal.τ) (Cert.ProjInIdeal.main (F := Ideal))) ⟨m, fun _ => 0, g⟩ (fun r => (∀ c : Dev Cert.ProjInIdeal.nD,
      r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
      ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1))
      ∧ r.2.sem = fun _ => 0)

def quiescent_ProjInRefIdeal [hProjInRefIdeal : Cert.ProjInRefIdeal.Facts] : Prop :=
  ∀ (m : (ℓ : Loc Cert.ProjInRefIdeal.nD Cert.ProjInRefIdeal.τ Cert.ProjInRefIdeal.sig) → Buf (Elt Ideal) ℓ) (g : Dev Cert.ProjInRefIdeal.nD → PrngReg), Pre_ProjInRefIdeal m →
    θ_run (Cert.ProjInRefIdeal.defs (F := Ideal)) (onTc (τ := Cert.ProjInRefIdeal.τ) (Cert.ProjInRefIdeal.main (F := Ideal))) ⟨m, fun _ => 0, g⟩ (fun r => (∀ c : Dev Cert.ProjInRefIdeal.nD,
      r.2.mem ((c.tc : Thread Cert.ProjInRefIdeal.nD Cert.ProjInRefIdeal.τ).loc Cert.ProjInRefIdeal.main_arg0) = m ((c.tc : Thread Cert.ProjInRefIdeal.nD Cert.ProjInRefIdeal.τ).loc Cert.ProjInRefIdeal.main_arg0)
      ∧ r.2.mem ((c.tc : Thread Cert.ProjInRefIdeal.nD Cert.ProjInRefIdeal.τ).loc Cert.ProjInRefIdeal.main_arg1) = m ((c.tc : Thread Cert.ProjInRefIdeal.nD Cert.ProjInRefIdeal.τ).loc Cert.ProjInRefIdeal.main_arg1))
      ∧ r.2.sem = fun _ => 0)

def quiescent_ProjDws [hProjDws : Cert.ProjDws.Facts] : Prop :=
  ∀ (m : (ℓ : Loc Cert.ProjDws.nD Cert.ProjDws.τ Cert.ProjDws.sig) → Buf (Elt Bits) ℓ) (g : Dev Cert.ProjDws.nD → PrngReg), Pre_ProjDws m →
    θ_run (Cert.ProjDws.defs (F := Bits)) (onTc (τ := Cert.ProjDws.τ) (Cert.ProjDws.main (F := Bits))) ⟨m, fun _ => 0, g⟩ (fun r => (∀ c : Dev Cert.ProjDws.nD,
      r.2.mem ((c.tc : Thread Cert.ProjDws.nD Cert.ProjDws.τ).loc Cert.ProjDws.main_arg0) = m ((c.tc : Thread Cert.ProjDws.nD Cert.ProjDws.τ).loc Cert.ProjDws.main_arg0)
      ∧ r.2.mem ((c.tc : Thread Cert.ProjDws.nD Cert.ProjDws.τ).loc Cert.ProjDws.main_arg1) = m ((c.tc : Thread Cert.ProjDws.nD Cert.ProjDws.τ).loc Cert.ProjDws.main_arg1))
      ∧ r.2.sem = fun _ => 0)

def quiescent_ProjDwsIdeal [hProjDwsIdeal : Cert.ProjDwsIdeal.Facts] : Prop :=
  ∀ (m : (ℓ : Loc Cert.ProjDwsIdeal.nD Cert.ProjDwsIdeal.τ Cert.ProjDwsIdeal.sig) → Buf (Elt Ideal) ℓ) (g : Dev Cert.ProjDwsIdeal.nD → PrngReg), Pre_ProjDwsIdeal m →
    θ_run (Cert.ProjDwsIdeal.defs (F := Ideal)) (onTc (τ := Cert.ProjDwsIdeal.τ) (Cert.ProjDwsIdeal.main (F := Ideal))) ⟨m, fun _ => 0, g⟩ (fun r => (∀ c : Dev Cert.ProjDwsIdeal.nD,
      r.2.mem ((c.tc : Thread Cert.ProjDwsIdeal.nD Cert.ProjDwsIdeal.τ).loc Cert.ProjDwsIdeal.main_arg0) = m ((c.tc : Thread Cert.ProjDwsIdeal.nD Cert.ProjDwsIdeal.τ).loc Cert.ProjDwsIdeal.main_arg0)
      ∧ r.2.mem ((c.tc : Thread Cert.ProjDwsIdeal.nD Cert.ProjDwsIdeal.τ).loc Cert.ProjDwsIdeal.main_arg1) = m ((c.tc : Thread Cert.ProjDwsIdeal.nD Cert.ProjDwsIdeal.τ).loc Cert.ProjDwsIdeal.main_arg1))
      ∧ r.2.sem = fun _ => 0)

def quiescent_ProjDwsRefIdeal [hProjDwsRefIdeal : Cert.ProjDwsRefIdeal.Facts] : Prop :=
  ∀ (m : (ℓ : Loc Cert.ProjDwsRefIdeal.nD Cert.ProjDwsRefIdeal.τ Cert.ProjDwsRefIdeal.sig) → Buf (Elt Ideal) ℓ) (g : Dev Cert.ProjDwsRefIdeal.nD → PrngReg), Pre_ProjDwsRefIdeal m →
    θ_run (Cert.ProjDwsRefIdeal.defs (F := Ideal)) (onTc (τ := Cert.ProjDwsRefIdeal.τ) (Cert.ProjDwsRefIdeal.main (F := Ideal))) ⟨m, fun _ => 0, g⟩ (fun r => (∀ c : Dev Cert.ProjDwsRefIdeal.nD,
      r.2.mem ((c.tc : Thread Cert.ProjDwsRefIdeal.nD Cert.ProjDwsRefIdeal.τ).loc Cert.ProjDwsRefIdeal.main_arg0) = m ((c.tc : Thread Cert.ProjDwsRefIdeal.nD Cert.ProjDwsRefIdeal.τ).loc Cert.ProjDwsRefIdeal.main_arg0)
      ∧ r.2.mem ((c.tc : Thread Cert.ProjDwsRefIdeal.nD Cert.ProjDwsRefIdeal.τ).loc Cert.ProjDwsRefIdeal.main_arg1) = m ((c.tc : Thread Cert.ProjDwsRefIdeal.nD Cert.ProjDwsRefIdeal.τ).loc Cert.ProjDwsRefIdeal.main_arg1))
      ∧ r.2.sem = fun _ => 0)

def quiescent_ProjDwc [hProjDwc : Cert.ProjDwc.Facts] : Prop :=
  ∀ (m : (ℓ : Loc Cert.ProjDwc.nD Cert.ProjDwc.τ Cert.ProjDwc.sig) → Buf (Elt Bits) ℓ) (g : Dev Cert.ProjDwc.nD → PrngReg), Pre_ProjDwc m →
    θ_run (Cert.ProjDwc.defs (F := Bits)) (onTc (τ := Cert.ProjDwc.τ) (Cert.ProjDwc.main (F := Bits))) ⟨m, fun _ => 0, g⟩ (fun r => (∀ c : Dev Cert.ProjDwc.nD,
      r.2.mem ((c.tc : Thread Cert.ProjDwc.nD Cert.ProjDwc.τ).loc Cert.ProjDwc.main_arg0) = m ((c.tc : Thread Cert.ProjDwc.nD Cert.ProjDwc.τ).loc Cert.ProjDwc.main_arg0)
      ∧ r.2.mem ((c.tc : Thread Cert.ProjDwc.nD Cert.ProjDwc.τ).loc Cert.ProjDwc.main_arg1) = m ((c.tc : Thread Cert.ProjDwc.nD Cert.ProjDwc.τ).loc Cert.ProjDwc.main_arg1))
      ∧ r.2.sem = fun _ => 0)

def quiescent_ProjDwcIdeal [hProjDwcIdeal : Cert.ProjDwcIdeal.Facts] : Prop :=
  ∀ (m : (ℓ : Loc Cert.ProjDwcIdeal.nD Cert.ProjDwcIdeal.τ Cert.ProjDwcIdeal.sig) → Buf (Elt Ideal) ℓ) (g : Dev Cert.ProjDwcIdeal.nD → PrngReg), Pre_ProjDwcIdeal m →
    θ_run (Cert.ProjDwcIdeal.defs (F := Ideal)) (onTc (τ := Cert.ProjDwcIdeal.τ) (Cert.ProjDwcIdeal.main (F := Ideal))) ⟨m, fun _ => 0, g⟩ (fun r => (∀ c : Dev Cert.ProjDwcIdeal.nD,
      r.2.mem ((c.tc : Thread Cert.ProjDwcIdeal.nD Cert.ProjDwcIdeal.τ).loc Cert.ProjDwcIdeal.main_arg0) = m ((c.tc : Thread Cert.ProjDwcIdeal.nD Cert.ProjDwcIdeal.τ).loc Cert.ProjDwcIdeal.main_arg0)
      ∧ r.2.mem ((c.tc : Thread Cert.ProjDwcIdeal.nD Cert.ProjDwcIdeal.τ).loc Cert.ProjDwcIdeal.main_arg1) = m ((c.tc : Thread Cert.ProjDwcIdeal.nD Cert.ProjDwcIdeal.τ).loc Cert.ProjDwcIdeal.main_arg1))
      ∧ r.2.sem = fun _ => 0)

def quiescent_ProjDwcRefIdeal [hProjDwcRefIdeal : Cert.ProjDwcRefIdeal.Facts] : Prop :=
  ∀ (m : (ℓ : Loc Cert.ProjDwcRefIdeal.nD Cert.ProjDwcRefIdeal.τ Cert.ProjDwcRefIdeal.sig) → Buf (Elt Ideal) ℓ) (g : Dev Cert.ProjDwcRefIdeal.nD → PrngReg), Pre_ProjDwcRefIdeal m →
    θ_run (Cert.ProjDwcRefIdeal.defs (F := Ideal)) (onTc (τ := Cert.ProjDwcRefIdeal.τ) (Cert.ProjDwcRefIdeal.main (F := Ideal))) ⟨m, fun _ => 0, g⟩ (fun r => (∀ c : Dev Cert.ProjDwcRefIdeal.nD,
      r.2.mem ((c.tc : Thread Cert.ProjDwcRefIdeal.nD Cert.ProjDwcRefIdeal.τ).loc Cert.ProjDwcRefIdeal.main_arg0) = m ((c.tc : Thread Cert.ProjDwcRefIdeal.nD Cert.ProjDwcRefIdeal.τ).loc Cert.ProjDwcRefIdeal.main_arg0)
      ∧ r.2.mem ((c.tc : Thread Cert.ProjDwcRefIdeal.nD Cert.ProjDwcRefIdeal.τ).loc Cert.ProjDwcRefIdeal.main_arg1) = m ((c.tc : Thread Cert.ProjDwcRefIdeal.nD Cert.ProjDwcRefIdeal.τ).loc Cert.ProjDwcRefIdeal.main_arg1))
      ∧ r.2.sem = fun _ => 0)

def quiescent_ProjDx [hProjDx : Cert.ProjDx.Facts] : Prop :=
  ∀ (m : (ℓ : Loc Cert.ProjDx.nD Cert.ProjDx.τ Cert.ProjDx.sig) → Buf (Elt Bits) ℓ) (g : Dev Cert.ProjDx.nD → PrngReg), Pre_ProjDx m →
    θ_run (Cert.ProjDx.defs (F := Bits)) (onTc (τ := Cert.ProjDx.τ) (Cert.ProjDx.main (F := Bits))) ⟨m, fun _ => 0, g⟩ (fun r => (∀ c : Dev Cert.ProjDx.nD,
      r.2.mem ((c.tc : Thread Cert.ProjDx.nD Cert.ProjDx.τ).loc Cert.ProjDx.main_arg0) = m ((c.tc : Thread Cert.ProjDx.nD Cert.ProjDx.τ).loc Cert.ProjDx.main_arg0)
      ∧ r.2.mem ((c.tc : Thread Cert.ProjDx.nD Cert.ProjDx.τ).loc Cert.ProjDx.main_arg1) = m ((c.tc : Thread Cert.ProjDx.nD Cert.ProjDx.τ).loc Cert.ProjDx.main_arg1))
      ∧ r.2.sem = fun _ => 0)

def quiescent_ProjDxIdeal [hProjDxIdeal : Cert.ProjDxIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg), Pre_ProjDxIdeal m →
    θ_run (Cert.ProjDxIdeal.defs (F := Ideal)) (onTc (τ := Cert.ProjDxIdeal.τ) (Cert.ProjDxIdeal.main (F := Ideal))) ⟨m, fun _ => 0, g⟩ (fun r => (∀ c : Dev Cert.ProjDxIdeal.nD,
      r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
      ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1))
      ∧ r.2.sem = fun _ => 0)

def quiescent_ProjDxRefIdeal [hProjDxRefIdeal : Cert.ProjDxRefIdeal.Facts] : Prop :=
  ∀ (m : (ℓ : Loc Cert.ProjDxRefIdeal.nD Cert.ProjDxRefIdeal.τ Cert.ProjDxRefIdeal.sig) → Buf (Elt Ideal) ℓ) (g : Dev Cert.ProjDxRefIdeal.nD → PrngReg), Pre_ProjDxRefIdeal m →
    θ_run (Cert.ProjDxRefIdeal.defs (F := Ideal)) (onTc (τ := Cert.ProjDxRefIdeal.τ) (Cert.ProjDxRefIdeal.main (F := Ideal))) ⟨m, fun _ => 0, g⟩ (fun r => (∀ c : Dev Cert.ProjDxRefIdeal.nD,
      r.2.mem ((c.tc : Thread Cert.ProjDxRefIdeal.nD Cert.ProjDxRefIdeal.τ).loc Cert.ProjDxRefIdeal.main_arg0) = m ((c.tc : Thread Cert.ProjDxRefIdeal.nD Cert.ProjDxRefIdeal.τ).loc Cert.ProjDxRefIdeal.main_arg0)
      ∧ r.2.mem ((c.tc : Thread Cert.ProjDxRefIdeal.nD Cert.ProjDxRefIdeal.τ).loc Cert.ProjDxRefIdeal.main_arg1) = m ((c.tc : Thread Cert.ProjDxRefIdeal.nD Cert.ProjDxRefIdeal.τ).loc Cert.ProjDxRefIdeal.main_arg1))
      ∧ r.2.sem = fun _ => 0)

def quiescent_ProjDwo [hProjDwo : Cert.ProjDwo.Facts] : Prop :=
  ∀ (m : (ℓ : Loc Cert.ProjDwo.nD Cert.ProjDwo.τ Cert.ProjDwo.sig) → Buf (Elt Bits) ℓ) (g : Dev Cert.ProjDwo.nD → PrngReg), Pre_ProjDwo m →
    θ_run (Cert.ProjDwo.defs (F := Bits)) (onTc (τ := Cert.ProjDwo.τ) (Cert.ProjDwo.main (F := Bits))) ⟨m, fun _ => 0, g⟩ (fun r => (∀ c : Dev Cert.ProjDwo.nD,
      r.2.mem ((c.tc : Thread Cert.ProjDwo.nD Cert.ProjDwo.τ).loc Cert.ProjDwo.main_arg0) = m ((c.tc : Thread Cert.ProjDwo.nD Cert.ProjDwo.τ).loc Cert.ProjDwo.main_arg0)
      ∧ r.2.mem ((c.tc : Thread Cert.ProjDwo.nD Cert.ProjDwo.τ).loc Cert.ProjDwo.main_arg1) = m ((c.tc : Thread Cert.ProjDwo.nD Cert.ProjDwo.τ).loc Cert.ProjDwo.main_arg1))
      ∧ r.2.sem = fun _ => 0)

def quiescent_ProjDwoIdeal [hProjDwoIdeal : Cert.ProjDwoIdeal.Facts] : Prop :=
  ∀ (m : (ℓ : Loc Cert.ProjDwoIdeal.nD Cert.ProjDwoIdeal.τ Cert.ProjDwoIdeal.sig) → Buf (Elt Ideal) ℓ) (g : Dev Cert.ProjDwoIdeal.nD → PrngReg), Pre_ProjDwoIdeal m →
    θ_run (Cert.ProjDwoIdeal.defs (F := Ideal)) (onTc (τ := Cert.ProjDwoIdeal.τ) (Cert.ProjDwoIdeal.main (F := Ideal))) ⟨m, fun _ => 0, g⟩ (fun r => (∀ c : Dev Cert.ProjDwoIdeal.nD,
      r.2.mem ((c.tc : Thread Cert.ProjDwoIdeal.nD Cert.ProjDwoIdeal.τ).loc Cert.ProjDwoIdeal.main_arg0) = m ((c.tc : Thread Cert.ProjDwoIdeal.nD Cert.ProjDwoIdeal.τ).loc Cert.ProjDwoIdeal.main_arg0)
      ∧ r.2.mem ((c.tc : Thread Cert.ProjDwoIdeal.nD Cert.ProjDwoIdeal.τ).loc Cert.ProjDwoIdeal.main_arg1) = m ((c.tc : Thread Cert.ProjDwoIdeal.nD Cert.ProjDwoIdeal.τ).loc Cert.ProjDwoIdeal.main_arg1))
      ∧ r.2.sem = fun _ => 0)

def quiescent_ProjDwoRefIdeal [hProjDwoRefIdeal : Cert.ProjDwoRefIdeal.Facts] : Prop :=
  ∀ (m : (ℓ : Loc Cert.ProjDwoRefIdeal.nD Cert.ProjDwoRefIdeal.τ Cert.ProjDwoRefIdeal.sig) → Buf (Elt Ideal) ℓ) (g : Dev Cert.ProjDwoRefIdeal.nD → PrngReg), Pre_ProjDwoRefIdeal m →
    θ_run (Cert.ProjDwoRefIdeal.defs (F := Ideal)) (onTc (τ := Cert.ProjDwoRefIdeal.τ) (Cert.ProjDwoRefIdeal.main (F := Ideal))) ⟨m, fun _ => 0, g⟩ (fun r => (∀ c : Dev Cert.ProjDwoRefIdeal.nD,
      r.2.mem ((c.tc : Thread Cert.ProjDwoRefIdeal.nD Cert.ProjDwoRefIdeal.τ).loc Cert.ProjDwoRefIdeal.main_arg0) = m ((c.tc : Thread Cert.ProjDwoRefIdeal.nD Cert.ProjDwoRefIdeal.τ).loc Cert.ProjDwoRefIdeal.main_arg0)
      ∧ r.2.mem ((c.tc : Thread Cert.ProjDwoRefIdeal.nD Cert.ProjDwoRefIdeal.τ).loc Cert.ProjDwoRefIdeal.main_arg1) = m ((c.tc : Thread Cert.ProjDwoRefIdeal.nD Cert.ProjDwoRefIdeal.τ).loc Cert.ProjDwoRefIdeal.main_arg1))
      ∧ r.2.sem = fun _ => 0)

def quiescent_FfnLn [hFfnLn : Cert.FfnLn.Facts] : Prop :=
  ∀ (m : (ℓ : Loc Cert.FfnLn.nD Cert.FfnLn.τ Cert.FfnLn.sig) → Buf (Elt Bits) ℓ) (g : Dev Cert.FfnLn.nD → PrngReg), Pre_FfnLn m →
    θ_run (Cert.FfnLn.defs (F := Bits)) (onTc (τ := Cert.FfnLn.τ) (Cert.FfnLn.main (F := Bits))) ⟨m, fun _ => 0, g⟩ (fun r => (∀ c : Dev Cert.FfnLn.nD,
      r.2.mem ((c.tc : Thread Cert.FfnLn.nD Cert.FfnLn.τ).loc Cert.FfnLn.main_arg0) = m ((c.tc : Thread Cert.FfnLn.nD Cert.FfnLn.τ).loc Cert.FfnLn.main_arg0)
      ∧ r.2.mem ((c.tc : Thread Cert.FfnLn.nD Cert.FfnLn.τ).loc Cert.FfnLn.main_arg1) = m ((c.tc : Thread Cert.FfnLn.nD Cert.FfnLn.τ).loc Cert.FfnLn.main_arg1)
      ∧ r.2.mem ((c.tc : Thread Cert.FfnLn.nD Cert.FfnLn.τ).loc Cert.FfnLn.main_arg2) = m ((c.tc : Thread Cert.FfnLn.nD Cert.FfnLn.τ).loc Cert.FfnLn.main_arg2)
      ∧ r.2.mem ((c.tc : Thread Cert.FfnLn.nD Cert.FfnLn.τ).loc Cert.FfnLn.main_arg3) = m ((c.tc : Thread Cert.FfnLn.nD Cert.FfnLn.τ).loc Cert.FfnLn.main_arg3)
      ∧ r.2.mem ((c.tc : Thread Cert.FfnLn.nD Cert.FfnLn.τ).loc Cert.FfnLn.main_arg4) = m ((c.tc : Thread Cert.FfnLn.nD Cert.FfnLn.τ).loc Cert.FfnLn.main_arg4))
      ∧ r.2.sem = fun _ => 0)

def quiescent_FfnLnIdeal [hFfnLnIdeal : Cert.FfnLnIdeal.Facts] : Prop :=
  ∀ (m : (ℓ : Loc Cert.FfnLnIdeal.nD Cert.FfnLnIdeal.τ Cert.FfnLnIdeal.sig) → Buf (Elt Ideal) ℓ) (g : Dev Cert.FfnLnIdeal.nD → PrngReg), Pre_FfnLnIdeal m →
    θ_run (Cert.FfnLnIdeal.defs (F := Ideal)) (onTc (τ := Cert.FfnLnIdeal.τ) (Cert.FfnLnIdeal.main (F := Ideal))) ⟨m, fun _ => 0, g⟩ (fun r => (∀ c : Dev Cert.FfnLnIdeal.nD,
      r.2.mem ((c.tc : Thread Cert.FfnLnIdeal.nD Cert.FfnLnIdeal.τ).loc Cert.FfnLnIdeal.main_arg0) = m ((c.tc : Thread Cert.FfnLnIdeal.nD Cert.FfnLnIdeal.τ).loc Cert.FfnLnIdeal.main_arg0)
      ∧ r.2.mem ((c.tc : Thread Cert.FfnLnIdeal.nD Cert.FfnLnIdeal.τ).loc Cert.FfnLnIdeal.main_arg1) = m ((c.tc : Thread Cert.FfnLnIdeal.nD Cert.FfnLnIdeal.τ).loc Cert.FfnLnIdeal.main_arg1)
      ∧ r.2.mem ((c.tc : Thread Cert.FfnLnIdeal.nD Cert.FfnLnIdeal.τ).loc Cert.FfnLnIdeal.main_arg2) = m ((c.tc : Thread Cert.FfnLnIdeal.nD Cert.FfnLnIdeal.τ).loc Cert.FfnLnIdeal.main_arg2)
      ∧ r.2.mem ((c.tc : Thread Cert.FfnLnIdeal.nD Cert.FfnLnIdeal.τ).loc Cert.FfnLnIdeal.main_arg3) = m ((c.tc : Thread Cert.FfnLnIdeal.nD Cert.FfnLnIdeal.τ).loc Cert.FfnLnIdeal.main_arg3)
      ∧ r.2.mem ((c.tc : Thread Cert.FfnLnIdeal.nD Cert.FfnLnIdeal.τ).loc Cert.FfnLnIdeal.main_arg4) = m ((c.tc : Thread Cert.FfnLnIdeal.nD Cert.FfnLnIdeal.τ).loc Cert.FfnLnIdeal.main_arg4))
      ∧ r.2.sem = fun _ => 0)

def quiescent_FfnLnRefIdeal [hFfnLnRefIdeal : Cert.FfnLnRefIdeal.Facts] : Prop :=
  ∀ (m : (ℓ : Loc Cert.FfnLnRefIdeal.nD Cert.FfnLnRefIdeal.τ Cert.FfnLnRefIdeal.sig) → Buf (Elt Ideal) ℓ) (g : Dev Cert.FfnLnRefIdeal.nD → PrngReg), Pre_FfnLnRefIdeal m →
    θ_run (Cert.FfnLnRefIdeal.defs (F := Ideal)) (onTc (τ := Cert.FfnLnRefIdeal.τ) (Cert.FfnLnRefIdeal.main (F := Ideal))) ⟨m, fun _ => 0, g⟩ (fun r => (∀ c : Dev Cert.FfnLnRefIdeal.nD,
      r.2.mem ((c.tc : Thread Cert.FfnLnRefIdeal.nD Cert.FfnLnRefIdeal.τ).loc Cert.FfnLnRefIdeal.main_arg0) = m ((c.tc : Thread Cert.FfnLnRefIdeal.nD Cert.FfnLnRefIdeal.τ).loc Cert.FfnLnRefIdeal.main_arg0)
      ∧ r.2.mem ((c.tc : Thread Cert.FfnLnRefIdeal.nD Cert.FfnLnRefIdeal.τ).loc Cert.FfnLnRefIdeal.main_arg1) = m ((c.tc : Thread Cert.FfnLnRefIdeal.nD Cert.FfnLnRefIdeal.τ).loc Cert.FfnLnRefIdeal.main_arg1)
      ∧ r.2.mem ((c.tc : Thread Cert.FfnLnRefIdeal.nD Cert.FfnLnRefIdeal.τ).loc Cert.FfnLnRefIdeal.main_arg2) = m ((c.tc : Thread Cert.FfnLnRefIdeal.nD Cert.FfnLnRefIdeal.τ).loc Cert.FfnLnRefIdeal.main_arg2)
      ∧ r.2.mem ((c.tc : Thread Cert.FfnLnRefIdeal.nD Cert.FfnLnRefIdeal.τ).loc Cert.FfnLnRefIdeal.main_arg3) = m ((c.tc : Thread Cert.FfnLnRefIdeal.nD Cert.FfnLnRefIdeal.τ).loc Cert.FfnLnRefIdeal.main_arg3)
      ∧ r.2.mem ((c.tc : Thread Cert.FfnLnRefIdeal.nD Cert.FfnLnRefIdeal.τ).loc Cert.FfnLnRefIdeal.main_arg4) = m ((c.tc : Thread Cert.FfnLnRefIdeal.nD Cert.FfnLnRefIdeal.τ).loc Cert.FfnLnRefIdeal.main_arg4))
      ∧ r.2.sem = fun _ => 0)

def quiescent_ProjLn [hProjLn : Cert.ProjLn.Facts] : Prop :=
  ∀ (m : (ℓ : Loc Cert.ProjLn.nD Cert.ProjLn.τ Cert.ProjLn.sig) → Buf (Elt Bits) ℓ) (g : Dev Cert.ProjLn.nD → PrngReg), Pre_ProjLn m →
    θ_run (Cert.ProjLn.defs (F := Bits)) (onTc (τ := Cert.ProjLn.τ) (Cert.ProjLn.main (F := Bits))) ⟨m, fun _ => 0, g⟩ (fun r => (∀ c : Dev Cert.ProjLn.nD,
      r.2.mem ((c.tc : Thread Cert.ProjLn.nD Cert.ProjLn.τ).loc Cert.ProjLn.main_arg0) = m ((c.tc : Thread Cert.ProjLn.nD Cert.ProjLn.τ).loc Cert.ProjLn.main_arg0)
      ∧ r.2.mem ((c.tc : Thread Cert.ProjLn.nD Cert.ProjLn.τ).loc Cert.ProjLn.main_arg1) = m ((c.tc : Thread Cert.ProjLn.nD Cert.ProjLn.τ).loc Cert.ProjLn.main_arg1)
      ∧ r.2.mem ((c.tc : Thread Cert.ProjLn.nD Cert.ProjLn.τ).loc Cert.ProjLn.main_arg2) = m ((c.tc : Thread Cert.ProjLn.nD Cert.ProjLn.τ).loc Cert.ProjLn.main_arg2)
      ∧ r.2.mem ((c.tc : Thread Cert.ProjLn.nD Cert.ProjLn.τ).loc Cert.ProjLn.main_arg3) = m ((c.tc : Thread Cert.ProjLn.nD Cert.ProjLn.τ).loc Cert.ProjLn.main_arg3)
      ∧ r.2.mem ((c.tc : Thread Cert.ProjLn.nD Cert.ProjLn.τ).loc Cert.ProjLn.main_arg4) = m ((c.tc : Thread Cert.ProjLn.nD Cert.ProjLn.τ).loc Cert.ProjLn.main_arg4)
      ∧ r.2.mem ((c.tc : Thread Cert.ProjLn.nD Cert.ProjLn.τ).loc Cert.ProjLn.main_arg5) = m ((c.tc : Thread Cert.ProjLn.nD Cert.ProjLn.τ).loc Cert.ProjLn.main_arg5))
      ∧ r.2.sem = fun _ => 0)

def quiescent_ProjLnIdeal [hProjLnIdeal : Cert.ProjLnIdeal.Facts] : Prop :=
  ∀ (m : (ℓ : Loc Cert.ProjLnIdeal.nD Cert.ProjLnIdeal.τ Cert.ProjLnIdeal.sig) → Buf (Elt Ideal) ℓ) (g : Dev Cert.ProjLnIdeal.nD → PrngReg), Pre_ProjLnIdeal m →
    θ_run (Cert.ProjLnIdeal.defs (F := Ideal)) (onTc (τ := Cert.ProjLnIdeal.τ) (Cert.ProjLnIdeal.main (F := Ideal))) ⟨m, fun _ => 0, g⟩ (fun r => (∀ c : Dev Cert.ProjLnIdeal.nD,
      r.2.mem ((c.tc : Thread Cert.ProjLnIdeal.nD Cert.ProjLnIdeal.τ).loc Cert.ProjLnIdeal.main_arg0) = m ((c.tc : Thread Cert.ProjLnIdeal.nD Cert.ProjLnIdeal.τ).loc Cert.ProjLnIdeal.main_arg0)
      ∧ r.2.mem ((c.tc : Thread Cert.ProjLnIdeal.nD Cert.ProjLnIdeal.τ).loc Cert.ProjLnIdeal.main_arg1) = m ((c.tc : Thread Cert.ProjLnIdeal.nD Cert.ProjLnIdeal.τ).loc Cert.ProjLnIdeal.main_arg1)
      ∧ r.2.mem ((c.tc : Thread Cert.ProjLnIdeal.nD Cert.ProjLnIdeal.τ).loc Cert.ProjLnIdeal.main_arg2) = m ((c.tc : Thread Cert.ProjLnIdeal.nD Cert.ProjLnIdeal.τ).loc Cert.ProjLnIdeal.main_arg2)
      ∧ r.2.mem ((c.tc : Thread Cert.ProjLnIdeal.nD Cert.ProjLnIdeal.τ).loc Cert.ProjLnIdeal.main_arg3) = m ((c.tc : Thread Cert.ProjLnIdeal.nD Cert.ProjLnIdeal.τ).loc Cert.ProjLnIdeal.main_arg3)
      ∧ r.2.mem ((c.tc : Thread Cert.ProjLnIdeal.nD Cert.ProjLnIdeal.τ).loc Cert.ProjLnIdeal.main_arg4) = m ((c.tc : Thread Cert.ProjLnIdeal.nD Cert.ProjLnIdeal.τ).loc Cert.ProjLnIdeal.main_arg4)
      ∧ r.2.mem ((c.tc : Thread Cert.ProjLnIdeal.nD Cert.ProjLnIdeal.τ).loc Cert.ProjLnIdeal.main_arg5) = m ((c.tc : Thread Cert.ProjLnIdeal.nD Cert.ProjLnIdeal.τ).loc Cert.ProjLnIdeal.main_arg5))
      ∧ r.2.sem = fun _ => 0)

def quiescent_ProjLnRefIdeal [hProjLnRefIdeal : Cert.ProjLnRefIdeal.Facts] : Prop :=
  ∀ (m : (ℓ : Loc Cert.ProjLnRefIdeal.nD Cert.ProjLnRefIdeal.τ Cert.ProjLnRefIdeal.sig) → Buf (Elt Ideal) ℓ) (g : Dev Cert.ProjLnRefIdeal.nD → PrngReg), Pre_ProjLnRefIdeal m →
    θ_run (Cert.ProjLnRefIdeal.defs (F := Ideal)) (onTc (τ := Cert.ProjLnRefIdeal.τ) (Cert.ProjLnRefIdeal.main (F := Ideal))) ⟨m, fun _ => 0, g⟩ (fun r => (∀ c : Dev Cert.ProjLnRefIdeal.nD,
      r.2.mem ((c.tc : Thread Cert.ProjLnRefIdeal.nD Cert.ProjLnRefIdeal.τ).loc Cert.ProjLnRefIdeal.main_arg0) = m ((c.tc : Thread Cert.ProjLnRefIdeal.nD Cert.ProjLnRefIdeal.τ).loc Cert.ProjLnRefIdeal.main_arg0)
      ∧ r.2.mem ((c.tc : Thread Cert.ProjLnRefIdeal.nD Cert.ProjLnRefIdeal.τ).loc Cert.ProjLnRefIdeal.main_arg1) = m ((c.tc : Thread Cert.ProjLnRefIdeal.nD Cert.ProjLnRefIdeal.τ).loc Cert.ProjLnRefIdeal.main_arg1)
      ∧ r.2.mem ((c.tc : Thread Cert.ProjLnRefIdeal.nD Cert.ProjLnRefIdeal.τ).loc Cert.ProjLnRefIdeal.main_arg2) = m ((c.tc : Thread Cert.ProjLnRefIdeal.nD Cert.ProjLnRefIdeal.τ).loc Cert.ProjLnRefIdeal.main_arg2)
      ∧ r.2.mem ((c.tc : Thread Cert.ProjLnRefIdeal.nD Cert.ProjLnRefIdeal.τ).loc Cert.ProjLnRefIdeal.main_arg3) = m ((c.tc : Thread Cert.ProjLnRefIdeal.nD Cert.ProjLnRefIdeal.τ).loc Cert.ProjLnRefIdeal.main_arg3)
      ∧ r.2.mem ((c.tc : Thread Cert.ProjLnRefIdeal.nD Cert.ProjLnRefIdeal.τ).loc Cert.ProjLnRefIdeal.main_arg4) = m ((c.tc : Thread Cert.ProjLnRefIdeal.nD Cert.ProjLnRefIdeal.τ).loc Cert.ProjLnRefIdeal.main_arg4)
      ∧ r.2.mem ((c.tc : Thread Cert.ProjLnRefIdeal.nD Cert.ProjLnRefIdeal.τ).loc Cert.ProjLnRefIdeal.main_arg5) = m ((c.tc : Thread Cert.ProjLnRefIdeal.nD Cert.ProjLnRefIdeal.τ).loc Cert.ProjLnRefIdeal.main_arg5))
      ∧ r.2.sem = fun _ => 0)

def quiescent_FfnDxLn [hFfnDxLn : Cert.FfnDxLn.Facts] : Prop :=
  ∀ (m : (ℓ : Loc Cert.FfnDxLn.nD Cert.FfnDxLn.τ Cert.FfnDxLn.sig) → Buf (Elt Bits) ℓ) (g : Dev Cert.FfnDxLn.nD → PrngReg), Pre_FfnDxLn m →
    θ_run (Cert.FfnDxLn.defs (F := Bits)) (onTc (τ := Cert.FfnDxLn.τ) (Cert.FfnDxLn.main (F := Bits))) ⟨m, fun _ => 0, g⟩ (fun r => (∀ c : Dev Cert.FfnDxLn.nD,
      r.2.mem ((c.tc : Thread Cert.FfnDxLn.nD Cert.FfnDxLn.τ).loc Cert.FfnDxLn.main_arg0) = m ((c.tc : Thread Cert.FfnDxLn.nD Cert.FfnDxLn.τ).loc Cert.FfnDxLn.main_arg0)
      ∧ r.2.mem ((c.tc : Thread Cert.FfnDxLn.nD Cert.FfnDxLn.τ).loc Cert.FfnDxLn.main_arg1) = m ((c.tc : Thread Cert.FfnDxLn.nD Cert.FfnDxLn.τ).loc Cert.FfnDxLn.main_arg1)
      ∧ r.2.mem ((c.tc : Thread Cert.FfnDxLn.nD Cert.FfnDxLn.τ).loc Cert.FfnDxLn.main_arg2) = m ((c.tc : Thread Cert.FfnDxLn.nD Cert.FfnDxLn.τ).loc Cert.FfnDxLn.main_arg2)
      ∧ r.2.mem ((c.tc : Thread Cert.FfnDxLn.nD Cert.FfnDxLn.τ).loc Cert.FfnDxLn.main_arg3) = m ((c.tc : Thread Cert.FfnDxLn.nD Cert.FfnDxLn.τ).loc Cert.FfnDxLn.main_arg3)
      ∧ r.2.mem ((c.tc : Thread Cert.FfnDxLn.nD Cert.FfnDxLn.τ).loc Cert.FfnDxLn.main_arg4) = m ((c.tc : Thread Cert.FfnDxLn.nD Cert.FfnDxLn.τ).loc Cert.FfnDxLn.main_arg4)
      ∧ r.2.mem ((c.tc : Thread Cert.FfnDxLn.nD Cert.FfnDxLn.τ).loc Cert.FfnDxLn.main_arg5) = m ((c.tc : Thread Cert.FfnDxLn.nD Cert.FfnDxLn.τ).loc Cert.FfnDxLn.main_arg5))
      ∧ r.2.sem = fun _ => 0)

def quiescent_FfnDxLnIdeal [hFfnDxLnIdeal : Cert.FfnDxLnIdeal.Facts] : Prop :=
  ∀ (m : (ℓ : Loc Cert.FfnDxLnIdeal.nD Cert.FfnDxLnIdeal.τ Cert.FfnDxLnIdeal.sig) → Buf (Elt Ideal) ℓ) (g : Dev Cert.FfnDxLnIdeal.nD → PrngReg), Pre_FfnDxLnIdeal m →
    θ_run (Cert.FfnDxLnIdeal.defs (F := Ideal)) (onTc (τ := Cert.FfnDxLnIdeal.τ) (Cert.FfnDxLnIdeal.main (F := Ideal))) ⟨m, fun _ => 0, g⟩ (fun r => (∀ c : Dev Cert.FfnDxLnIdeal.nD,
      r.2.mem ((c.tc : Thread Cert.FfnDxLnIdeal.nD Cert.FfnDxLnIdeal.τ).loc Cert.FfnDxLnIdeal.main_arg0) = m ((c.tc : Thread Cert.FfnDxLnIdeal.nD Cert.FfnDxLnIdeal.τ).loc Cert.FfnDxLnIdeal.main_arg0)
      ∧ r.2.mem ((c.tc : Thread Cert.FfnDxLnIdeal.nD Cert.FfnDxLnIdeal.τ).loc Cert.FfnDxLnIdeal.main_arg1) = m ((c.tc : Thread Cert.FfnDxLnIdeal.nD Cert.FfnDxLnIdeal.τ).loc Cert.FfnDxLnIdeal.main_arg1)
      ∧ r.2.mem ((c.tc : Thread Cert.FfnDxLnIdeal.nD Cert.FfnDxLnIdeal.τ).loc Cert.FfnDxLnIdeal.main_arg2) = m ((c.tc : Thread Cert.FfnDxLnIdeal.nD Cert.FfnDxLnIdeal.τ).loc Cert.FfnDxLnIdeal.main_arg2)
      ∧ r.2.mem ((c.tc : Thread Cert.FfnDxLnIdeal.nD Cert.FfnDxLnIdeal.τ).loc Cert.FfnDxLnIdeal.main_arg3) = m ((c.tc : Thread Cert.FfnDxLnIdeal.nD Cert.FfnDxLnIdeal.τ).loc Cert.FfnDxLnIdeal.main_arg3)
      ∧ r.2.mem ((c.tc : Thread Cert.FfnDxLnIdeal.nD Cert.FfnDxLnIdeal.τ).loc Cert.FfnDxLnIdeal.main_arg4) = m ((c.tc : Thread Cert.FfnDxLnIdeal.nD Cert.FfnDxLnIdeal.τ).loc Cert.FfnDxLnIdeal.main_arg4)
      ∧ r.2.mem ((c.tc : Thread Cert.FfnDxLnIdeal.nD Cert.FfnDxLnIdeal.τ).loc Cert.FfnDxLnIdeal.main_arg5) = m ((c.tc : Thread Cert.FfnDxLnIdeal.nD Cert.FfnDxLnIdeal.τ).loc Cert.FfnDxLnIdeal.main_arg5))
      ∧ r.2.sem = fun _ => 0)

def quiescent_FfnDxLnIdeal_pre_ffn_dx_finite [hFfnDxLnIdeal : Cert.FfnDxLnIdeal.Facts] [hPre_ffn_dx_finite : Cert.Pre_ffn_dx_finite.Facts] : Prop :=
  ∀ (m : (ℓ : Loc Cert.FfnDxLnIdeal.nD Cert.FfnDxLnIdeal.τ Cert.FfnDxLnIdeal.sig) → Buf (Elt Ideal) ℓ) (g : Dev Cert.FfnDxLnIdeal.nD → PrngReg), Pre_FfnDxLnIdeal_ffn_dx_finite m →
    θ_run (Cert.FfnDxLnIdeal.defs (F := Ideal)) (onTc (τ := Cert.FfnDxLnIdeal.τ) (Cert.FfnDxLnIdeal.main (F := Ideal))) ⟨m, fun _ => 0, g⟩ (fun r => (∀ c : Dev Cert.FfnDxLnIdeal.nD,
      r.2.mem ((c.tc : Thread Cert.FfnDxLnIdeal.nD Cert.FfnDxLnIdeal.τ).loc Cert.FfnDxLnIdeal.main_arg0) = m ((c.tc : Thread Cert.FfnDxLnIdeal.nD Cert.FfnDxLnIdeal.τ).loc Cert.FfnDxLnIdeal.main_arg0)
      ∧ r.2.mem ((c.tc : Thread Cert.FfnDxLnIdeal.nD Cert.FfnDxLnIdeal.τ).loc Cert.FfnDxLnIdeal.main_arg1) = m ((c.tc : Thread Cert.FfnDxLnIdeal.nD Cert.FfnDxLnIdeal.τ).loc Cert.FfnDxLnIdeal.main_arg1)
      ∧ r.2.mem ((c.tc : Thread Cert.FfnDxLnIdeal.nD Cert.FfnDxLnIdeal.τ).loc Cert.FfnDxLnIdeal.main_arg2) = m ((c.tc : Thread Cert.FfnDxLnIdeal.nD Cert.FfnDxLnIdeal.τ).loc Cert.FfnDxLnIdeal.main_arg2)
      ∧ r.2.mem ((c.tc : Thread Cert.FfnDxLnIdeal.nD Cert.FfnDxLnIdeal.τ).loc Cert.FfnDxLnIdeal.main_arg3) = m ((c.tc : Thread Cert.FfnDxLnIdeal.nD Cert.FfnDxLnIdeal.τ).loc Cert.FfnDxLnIdeal.main_arg3)
      ∧ r.2.mem ((c.tc : Thread Cert.FfnDxLnIdeal.nD Cert.FfnDxLnIdeal.τ).loc Cert.FfnDxLnIdeal.main_arg4) = m ((c.tc : Thread Cert.FfnDxLnIdeal.nD Cert.FfnDxLnIdeal.τ).loc Cert.FfnDxLnIdeal.main_arg4)
      ∧ r.2.mem ((c.tc : Thread Cert.FfnDxLnIdeal.nD Cert.FfnDxLnIdeal.τ).loc Cert.FfnDxLnIdeal.main_arg5) = m ((c.tc : Thread Cert.FfnDxLnIdeal.nD Cert.FfnDxLnIdeal.τ).loc Cert.FfnDxLnIdeal.main_arg5))
      ∧ r.2.sem = fun _ => 0)

def quiescent_FfnDxLnRefIdeal [hFfnDxLnRefIdeal : Cert.FfnDxLnRefIdeal.Facts] : Prop :=
  ∀ (m : (ℓ : Loc Cert.FfnDxLnRefIdeal.nD Cert.FfnDxLnRefIdeal.τ Cert.FfnDxLnRefIdeal.sig) → Buf (Elt Ideal) ℓ) (g : Dev Cert.FfnDxLnRefIdeal.nD → PrngReg), Pre_FfnDxLnRefIdeal m →
    θ_run (Cert.FfnDxLnRefIdeal.defs (F := Ideal)) (onTc (τ := Cert.FfnDxLnRefIdeal.τ) (Cert.FfnDxLnRefIdeal.main (F := Ideal))) ⟨m, fun _ => 0, g⟩ (fun r => (∀ c : Dev Cert.FfnDxLnRefIdeal.nD,
      r.2.mem ((c.tc : Thread Cert.FfnDxLnRefIdeal.nD Cert.FfnDxLnRefIdeal.τ).loc Cert.FfnDxLnRefIdeal.main_arg0) = m ((c.tc : Thread Cert.FfnDxLnRefIdeal.nD Cert.FfnDxLnRefIdeal.τ).loc Cert.FfnDxLnRefIdeal.main_arg0)
      ∧ r.2.mem ((c.tc : Thread Cert.FfnDxLnRefIdeal.nD Cert.FfnDxLnRefIdeal.τ).loc Cert.FfnDxLnRefIdeal.main_arg1) = m ((c.tc : Thread Cert.FfnDxLnRefIdeal.nD Cert.FfnDxLnRefIdeal.τ).loc Cert.FfnDxLnRefIdeal.main_arg1)
      ∧ r.2.mem ((c.tc : Thread Cert.FfnDxLnRefIdeal.nD Cert.FfnDxLnRefIdeal.τ).loc Cert.FfnDxLnRefIdeal.main_arg2) = m ((c.tc : Thread Cert.FfnDxLnRefIdeal.nD Cert.FfnDxLnRefIdeal.τ).loc Cert.FfnDxLnRefIdeal.main_arg2)
      ∧ r.2.mem ((c.tc : Thread Cert.FfnDxLnRefIdeal.nD Cert.FfnDxLnRefIdeal.τ).loc Cert.FfnDxLnRefIdeal.main_arg3) = m ((c.tc : Thread Cert.FfnDxLnRefIdeal.nD Cert.FfnDxLnRefIdeal.τ).loc Cert.FfnDxLnRefIdeal.main_arg3)
      ∧ r.2.mem ((c.tc : Thread Cert.FfnDxLnRefIdeal.nD Cert.FfnDxLnRefIdeal.τ).loc Cert.FfnDxLnRefIdeal.main_arg4) = m ((c.tc : Thread Cert.FfnDxLnRefIdeal.nD Cert.FfnDxLnRefIdeal.τ).loc Cert.FfnDxLnRefIdeal.main_arg4)
      ∧ r.2.mem ((c.tc : Thread Cert.FfnDxLnRefIdeal.nD Cert.FfnDxLnRefIdeal.τ).loc Cert.FfnDxLnRefIdeal.main_arg5) = m ((c.tc : Thread Cert.FfnDxLnRefIdeal.nD Cert.FfnDxLnRefIdeal.τ).loc Cert.FfnDxLnRefIdeal.main_arg5))
      ∧ r.2.sem = fun _ => 0)

def quiescent_FfnDxLnRefIdeal_pre_ffn_dx_finite [hFfnDxLnRefIdeal : Cert.FfnDxLnRefIdeal.Facts] [hPre_ffn_dx_finite : Cert.Pre_ffn_dx_finite.Facts] : Prop :=
  ∀ (m : (ℓ : Loc Cert.FfnDxLnRefIdeal.nD Cert.FfnDxLnRefIdeal.τ Cert.FfnDxLnRefIdeal.sig) → Buf (Elt Ideal) ℓ) (g : Dev Cert.FfnDxLnRefIdeal.nD → PrngReg), Pre_FfnDxLnRefIdeal_ffn_dx_finite m →
    θ_run (Cert.FfnDxLnRefIdeal.defs (F := Ideal)) (onTc (τ := Cert.FfnDxLnRefIdeal.τ) (Cert.FfnDxLnRefIdeal.main (F := Ideal))) ⟨m, fun _ => 0, g⟩ (fun r => (∀ c : Dev Cert.FfnDxLnRefIdeal.nD,
      r.2.mem ((c.tc : Thread Cert.FfnDxLnRefIdeal.nD Cert.FfnDxLnRefIdeal.τ).loc Cert.FfnDxLnRefIdeal.main_arg0) = m ((c.tc : Thread Cert.FfnDxLnRefIdeal.nD Cert.FfnDxLnRefIdeal.τ).loc Cert.FfnDxLnRefIdeal.main_arg0)
      ∧ r.2.mem ((c.tc : Thread Cert.FfnDxLnRefIdeal.nD Cert.FfnDxLnRefIdeal.τ).loc Cert.FfnDxLnRefIdeal.main_arg1) = m ((c.tc : Thread Cert.FfnDxLnRefIdeal.nD Cert.FfnDxLnRefIdeal.τ).loc Cert.FfnDxLnRefIdeal.main_arg1)
      ∧ r.2.mem ((c.tc : Thread Cert.FfnDxLnRefIdeal.nD Cert.FfnDxLnRefIdeal.τ).loc Cert.FfnDxLnRefIdeal.main_arg2) = m ((c.tc : Thread Cert.FfnDxLnRefIdeal.nD Cert.FfnDxLnRefIdeal.τ).loc Cert.FfnDxLnRefIdeal.main_arg2)
      ∧ r.2.mem ((c.tc : Thread Cert.FfnDxLnRefIdeal.nD Cert.FfnDxLnRefIdeal.τ).loc Cert.FfnDxLnRefIdeal.main_arg3) = m ((c.tc : Thread Cert.FfnDxLnRefIdeal.nD Cert.FfnDxLnRefIdeal.τ).loc Cert.FfnDxLnRefIdeal.main_arg3)
      ∧ r.2.mem ((c.tc : Thread Cert.FfnDxLnRefIdeal.nD Cert.FfnDxLnRefIdeal.τ).loc Cert.FfnDxLnRefIdeal.main_arg4) = m ((c.tc : Thread Cert.FfnDxLnRefIdeal.nD Cert.FfnDxLnRefIdeal.τ).loc Cert.FfnDxLnRefIdeal.main_arg4)
      ∧ r.2.mem ((c.tc : Thread Cert.FfnDxLnRefIdeal.nD Cert.FfnDxLnRefIdeal.τ).loc Cert.FfnDxLnRefIdeal.main_arg5) = m ((c.tc : Thread Cert.FfnDxLnRefIdeal.nD Cert.FfnDxLnRefIdeal.τ).loc Cert.FfnDxLnRefIdeal.main_arg5))
      ∧ r.2.sem = fun _ => 0)

def quiescent_ProjDxLn [hProjDxLn : Cert.ProjDxLn.Facts] : Prop :=
  ∀ (m : (ℓ : Loc Cert.ProjDxLn.nD Cert.ProjDxLn.τ Cert.ProjDxLn.sig) → Buf (Elt Bits) ℓ) (g : Dev Cert.ProjDxLn.nD → PrngReg), Pre_ProjDxLn m →
    θ_run (Cert.ProjDxLn.defs (F := Bits)) (onTc (τ := Cert.ProjDxLn.τ) (Cert.ProjDxLn.main (F := Bits))) ⟨m, fun _ => 0, g⟩ (fun r => (∀ c : Dev Cert.ProjDxLn.nD,
      r.2.mem ((c.tc : Thread Cert.ProjDxLn.nD Cert.ProjDxLn.τ).loc Cert.ProjDxLn.main_arg0) = m ((c.tc : Thread Cert.ProjDxLn.nD Cert.ProjDxLn.τ).loc Cert.ProjDxLn.main_arg0)
      ∧ r.2.mem ((c.tc : Thread Cert.ProjDxLn.nD Cert.ProjDxLn.τ).loc Cert.ProjDxLn.main_arg1) = m ((c.tc : Thread Cert.ProjDxLn.nD Cert.ProjDxLn.τ).loc Cert.ProjDxLn.main_arg1)
      ∧ r.2.mem ((c.tc : Thread Cert.ProjDxLn.nD Cert.ProjDxLn.τ).loc Cert.ProjDxLn.main_arg2) = m ((c.tc : Thread Cert.ProjDxLn.nD Cert.ProjDxLn.τ).loc Cert.ProjDxLn.main_arg2)
      ∧ r.2.mem ((c.tc : Thread Cert.ProjDxLn.nD Cert.ProjDxLn.τ).loc Cert.ProjDxLn.main_arg3) = m ((c.tc : Thread Cert.ProjDxLn.nD Cert.ProjDxLn.τ).loc Cert.ProjDxLn.main_arg3)
      ∧ r.2.mem ((c.tc : Thread Cert.ProjDxLn.nD Cert.ProjDxLn.τ).loc Cert.ProjDxLn.main_arg4) = m ((c.tc : Thread Cert.ProjDxLn.nD Cert.ProjDxLn.τ).loc Cert.ProjDxLn.main_arg4)
      ∧ r.2.mem ((c.tc : Thread Cert.ProjDxLn.nD Cert.ProjDxLn.τ).loc Cert.ProjDxLn.main_arg5) = m ((c.tc : Thread Cert.ProjDxLn.nD Cert.ProjDxLn.τ).loc Cert.ProjDxLn.main_arg5)
      ∧ r.2.mem ((c.tc : Thread Cert.ProjDxLn.nD Cert.ProjDxLn.τ).loc Cert.ProjDxLn.main_arg6) = m ((c.tc : Thread Cert.ProjDxLn.nD Cert.ProjDxLn.τ).loc Cert.ProjDxLn.main_arg6))
      ∧ r.2.sem = fun _ => 0)

def quiescent_ProjDxLnIdeal [hProjDxLnIdeal : Cert.ProjDxLnIdeal.Facts] : Prop :=
  ∀ (m : (ℓ : Loc Cert.ProjDxLnIdeal.nD Cert.ProjDxLnIdeal.τ Cert.ProjDxLnIdeal.sig) → Buf (Elt Ideal) ℓ) (g : Dev Cert.ProjDxLnIdeal.nD → PrngReg), Pre_ProjDxLnIdeal m →
    θ_run (Cert.ProjDxLnIdeal.defs (F := Ideal)) (onTc (τ := Cert.ProjDxLnIdeal.τ) (Cert.ProjDxLnIdeal.main (F := Ideal))) ⟨m, fun _ => 0, g⟩ (fun r => (∀ c : Dev Cert.ProjDxLnIdeal.nD,
      r.2.mem ((c.tc : Thread Cert.ProjDxLnIdeal.nD Cert.ProjDxLnIdeal.τ).loc Cert.ProjDxLnIdeal.main_arg0) = m ((c.tc : Thread Cert.ProjDxLnIdeal.nD Cert.ProjDxLnIdeal.τ).loc Cert.ProjDxLnIdeal.main_arg0)
      ∧ r.2.mem ((c.tc : Thread Cert.ProjDxLnIdeal.nD Cert.ProjDxLnIdeal.τ).loc Cert.ProjDxLnIdeal.main_arg1) = m ((c.tc : Thread Cert.ProjDxLnIdeal.nD Cert.ProjDxLnIdeal.τ).loc Cert.ProjDxLnIdeal.main_arg1)
      ∧ r.2.mem ((c.tc : Thread Cert.ProjDxLnIdeal.nD Cert.ProjDxLnIdeal.τ).loc Cert.ProjDxLnIdeal.main_arg2) = m ((c.tc : Thread Cert.ProjDxLnIdeal.nD Cert.ProjDxLnIdeal.τ).loc Cert.ProjDxLnIdeal.main_arg2)
      ∧ r.2.mem ((c.tc : Thread Cert.ProjDxLnIdeal.nD Cert.ProjDxLnIdeal.τ).loc Cert.ProjDxLnIdeal.main_arg3) = m ((c.tc : Thread Cert.ProjDxLnIdeal.nD Cert.ProjDxLnIdeal.τ).loc Cert.ProjDxLnIdeal.main_arg3)
      ∧ r.2.mem ((c.tc : Thread Cert.ProjDxLnIdeal.nD Cert.ProjDxLnIdeal.τ).loc Cert.ProjDxLnIdeal.main_arg4) = m ((c.tc : Thread Cert.ProjDxLnIdeal.nD Cert.ProjDxLnIdeal.τ).loc Cert.ProjDxLnIdeal.main_arg4)
      ∧ r.2.mem ((c.tc : Thread Cert.ProjDxLnIdeal.nD Cert.ProjDxLnIdeal.τ).loc Cert.ProjDxLnIdeal.main_arg5) = m ((c.tc : Thread Cert.ProjDxLnIdeal.nD Cert.ProjDxLnIdeal.τ).loc Cert.ProjDxLnIdeal.main_arg5)
      ∧ r.2.mem ((c.tc : Thread Cert.ProjDxLnIdeal.nD Cert.ProjDxLnIdeal.τ).loc Cert.ProjDxLnIdeal.main_arg6) = m ((c.tc : Thread Cert.ProjDxLnIdeal.nD Cert.ProjDxLnIdeal.τ).loc Cert.ProjDxLnIdeal.main_arg6))
      ∧ r.2.sem = fun _ => 0)

def quiescent_ProjDxLnIdeal_pre_proj_dx_finite [hProjDxLnIdeal : Cert.ProjDxLnIdeal.Facts] [hPre_proj_dx_finite : Cert.Pre_proj_dx_finite.Facts] : Prop :=
  ∀ (m : (ℓ : Loc Cert.ProjDxLnIdeal.nD Cert.ProjDxLnIdeal.τ Cert.ProjDxLnIdeal.sig) → Buf (Elt Ideal) ℓ) (g : Dev Cert.ProjDxLnIdeal.nD → PrngReg), Pre_ProjDxLnIdeal_proj_dx_finite m →
    θ_run (Cert.ProjDxLnIdeal.defs (F := Ideal)) (onTc (τ := Cert.ProjDxLnIdeal.τ) (Cert.ProjDxLnIdeal.main (F := Ideal))) ⟨m, fun _ => 0, g⟩ (fun r => (∀ c : Dev Cert.ProjDxLnIdeal.nD,
      r.2.mem ((c.tc : Thread Cert.ProjDxLnIdeal.nD Cert.ProjDxLnIdeal.τ).loc Cert.ProjDxLnIdeal.main_arg0) = m ((c.tc : Thread Cert.ProjDxLnIdeal.nD Cert.ProjDxLnIdeal.τ).loc Cert.ProjDxLnIdeal.main_arg0)
      ∧ r.2.mem ((c.tc : Thread Cert.ProjDxLnIdeal.nD Cert.ProjDxLnIdeal.τ).loc Cert.ProjDxLnIdeal.main_arg1) = m ((c.tc : Thread Cert.ProjDxLnIdeal.nD Cert.ProjDxLnIdeal.τ).loc Cert.ProjDxLnIdeal.main_arg1)
      ∧ r.2.mem ((c.tc : Thread Cert.ProjDxLnIdeal.nD Cert.ProjDxLnIdeal.τ).loc Cert.ProjDxLnIdeal.main_arg2) = m ((c.tc : Thread Cert.ProjDxLnIdeal.nD Cert.ProjDxLnIdeal.τ).loc Cert.ProjDxLnIdeal.main_arg2)
      ∧ r.2.mem ((c.tc : Thread Cert.ProjDxLnIdeal.nD Cert.ProjDxLnIdeal.τ).loc Cert.ProjDxLnIdeal.main_arg3) = m ((c.tc : Thread Cert.ProjDxLnIdeal.nD Cert.ProjDxLnIdeal.τ).loc Cert.ProjDxLnIdeal.main_arg3)
      ∧ r.2.mem ((c.tc : Thread Cert.ProjDxLnIdeal.nD Cert.ProjDxLnIdeal.τ).loc Cert.ProjDxLnIdeal.main_arg4) = m ((c.tc : Thread Cert.ProjDxLnIdeal.nD Cert.ProjDxLnIdeal.τ).loc Cert.ProjDxLnIdeal.main_arg4)
      ∧ r.2.mem ((c.tc : Thread Cert.ProjDxLnIdeal.nD Cert.ProjDxLnIdeal.τ).loc Cert.ProjDxLnIdeal.main_arg5) = m ((c.tc : Thread Cert.ProjDxLnIdeal.nD Cert.ProjDxLnIdeal.τ).loc Cert.ProjDxLnIdeal.main_arg5)
      ∧ r.2.mem ((c.tc : Thread Cert.ProjDxLnIdeal.nD Cert.ProjDxLnIdeal.τ).loc Cert.ProjDxLnIdeal.main_arg6) = m ((c.tc : Thread Cert.ProjDxLnIdeal.nD Cert.ProjDxLnIdeal.τ).loc Cert.ProjDxLnIdeal.main_arg6))
      ∧ r.2.sem = fun _ => 0)

def quiescent_ProjDxLnRefIdeal [hProjDxLnRefIdeal : Cert.ProjDxLnRefIdeal.Facts] : Prop :=
  ∀ (m : (ℓ : Loc Cert.ProjDxLnRefIdeal.nD Cert.ProjDxLnRefIdeal.τ Cert.ProjDxLnRefIdeal.sig) → Buf (Elt Ideal) ℓ) (g : Dev Cert.ProjDxLnRefIdeal.nD → PrngReg), Pre_ProjDxLnRefIdeal m →
    θ_run (Cert.ProjDxLnRefIdeal.defs (F := Ideal)) (onTc (τ := Cert.ProjDxLnRefIdeal.τ) (Cert.ProjDxLnRefIdeal.main (F := Ideal))) ⟨m, fun _ => 0, g⟩ (fun r => (∀ c : Dev Cert.ProjDxLnRefIdeal.nD,
      r.2.mem ((c.tc : Thread Cert.ProjDxLnRefIdeal.nD Cert.ProjDxLnRefIdeal.τ).loc Cert.ProjDxLnRefIdeal.main_arg0) = m ((c.tc : Thread Cert.ProjDxLnRefIdeal.nD Cert.ProjDxLnRefIdeal.τ).loc Cert.ProjDxLnRefIdeal.main_arg0)
      ∧ r.2.mem ((c.tc : Thread Cert.ProjDxLnRefIdeal.nD Cert.ProjDxLnRefIdeal.τ).loc Cert.ProjDxLnRefIdeal.main_arg1) = m ((c.tc : Thread Cert.ProjDxLnRefIdeal.nD Cert.ProjDxLnRefIdeal.τ).loc Cert.ProjDxLnRefIdeal.main_arg1)
      ∧ r.2.mem ((c.tc : Thread Cert.ProjDxLnRefIdeal.nD Cert.ProjDxLnRefIdeal.τ).loc Cert.ProjDxLnRefIdeal.main_arg2) = m ((c.tc : Thread Cert.ProjDxLnRefIdeal.nD Cert.ProjDxLnRefIdeal.τ).loc Cert.ProjDxLnRefIdeal.main_arg2)
      ∧ r.2.mem ((c.tc : Thread Cert.ProjDxLnRefIdeal.nD Cert.ProjDxLnRefIdeal.τ).loc Cert.ProjDxLnRefIdeal.main_arg3) = m ((c.tc : Thread Cert.ProjDxLnRefIdeal.nD Cert.ProjDxLnRefIdeal.τ).loc Cert.ProjDxLnRefIdeal.main_arg3)
      ∧ r.2.mem ((c.tc : Thread Cert.ProjDxLnRefIdeal.nD Cert.ProjDxLnRefIdeal.τ).loc Cert.ProjDxLnRefIdeal.main_arg4) = m ((c.tc : Thread Cert.ProjDxLnRefIdeal.nD Cert.ProjDxLnRefIdeal.τ).loc Cert.ProjDxLnRefIdeal.main_arg4)
      ∧ r.2.mem ((c.tc : Thread Cert.ProjDxLnRefIdeal.nD Cert.ProjDxLnRefIdeal.τ).loc Cert.ProjDxLnRefIdeal.main_arg5) = m ((c.tc : Thread Cert.ProjDxLnRefIdeal.nD Cert.ProjDxLnRefIdeal.τ).loc Cert.ProjDxLnRefIdeal.main_arg5)
      ∧ r.2.mem ((c.tc : Thread Cert.ProjDxLnRefIdeal.nD Cert.ProjDxLnRefIdeal.τ).loc Cert.ProjDxLnRefIdeal.main_arg6) = m ((c.tc : Thread Cert.ProjDxLnRefIdeal.nD Cert.ProjDxLnRefIdeal.τ).loc Cert.ProjDxLnRefIdeal.main_arg6))
      ∧ r.2.sem = fun _ => 0)

def quiescent_ProjDxLnRefIdeal_pre_proj_dx_finite [hProjDxLnRefIdeal : Cert.ProjDxLnRefIdeal.Facts] [hPre_proj_dx_finite : Cert.Pre_proj_dx_finite.Facts] : Prop :=
  ∀ (m : (ℓ : Loc Cert.ProjDxLnRefIdeal.nD Cert.ProjDxLnRefIdeal.τ Cert.ProjDxLnRefIdeal.sig) → Buf (Elt Ideal) ℓ) (g : Dev Cert.ProjDxLnRefIdeal.nD → PrngReg), Pre_ProjDxLnRefIdeal_proj_dx_finite m →
    θ_run (Cert.ProjDxLnRefIdeal.defs (F := Ideal)) (onTc (τ := Cert.ProjDxLnRefIdeal.τ) (Cert.ProjDxLnRefIdeal.main (F := Ideal))) ⟨m, fun _ => 0, g⟩ (fun r => (∀ c : Dev Cert.ProjDxLnRefIdeal.nD,
      r.2.mem ((c.tc : Thread Cert.ProjDxLnRefIdeal.nD Cert.ProjDxLnRefIdeal.τ).loc Cert.ProjDxLnRefIdeal.main_arg0) = m ((c.tc : Thread Cert.ProjDxLnRefIdeal.nD Cert.ProjDxLnRefIdeal.τ).loc Cert.ProjDxLnRefIdeal.main_arg0)
      ∧ r.2.mem ((c.tc : Thread Cert.ProjDxLnRefIdeal.nD Cert.ProjDxLnRefIdeal.τ).loc Cert.ProjDxLnRefIdeal.main_arg1) = m ((c.tc : Thread Cert.ProjDxLnRefIdeal.nD Cert.ProjDxLnRefIdeal.τ).loc Cert.ProjDxLnRefIdeal.main_arg1)
      ∧ r.2.mem ((c.tc : Thread Cert.ProjDxLnRefIdeal.nD Cert.ProjDxLnRefIdeal.τ).loc Cert.ProjDxLnRefIdeal.main_arg2) = m ((c.tc : Thread Cert.ProjDxLnRefIdeal.nD Cert.ProjDxLnRefIdeal.τ).loc Cert.ProjDxLnRefIdeal.main_arg2)
      ∧ r.2.mem ((c.tc : Thread Cert.ProjDxLnRefIdeal.nD Cert.ProjDxLnRefIdeal.τ).loc Cert.ProjDxLnRefIdeal.main_arg3) = m ((c.tc : Thread Cert.ProjDxLnRefIdeal.nD Cert.ProjDxLnRefIdeal.τ).loc Cert.ProjDxLnRefIdeal.main_arg3)
      ∧ r.2.mem ((c.tc : Thread Cert.ProjDxLnRefIdeal.nD Cert.ProjDxLnRefIdeal.τ).loc Cert.ProjDxLnRefIdeal.main_arg4) = m ((c.tc : Thread Cert.ProjDxLnRefIdeal.nD Cert.ProjDxLnRefIdeal.τ).loc Cert.ProjDxLnRefIdeal.main_arg4)
      ∧ r.2.mem ((c.tc : Thread Cert.ProjDxLnRefIdeal.nD Cert.ProjDxLnRefIdeal.τ).loc Cert.ProjDxLnRefIdeal.main_arg5) = m ((c.tc : Thread Cert.ProjDxLnRefIdeal.nD Cert.ProjDxLnRefIdeal.τ).loc Cert.ProjDxLnRefIdeal.main_arg5)
      ∧ r.2.mem ((c.tc : Thread Cert.ProjDxLnRefIdeal.nD Cert.ProjDxLnRefIdeal.τ).loc Cert.ProjDxLnRefIdeal.main_arg6) = m ((c.tc : Thread Cert.ProjDxLnRefIdeal.nD Cert.ProjDxLnRefIdeal.τ).loc Cert.ProjDxLnRefIdeal.main_arg6))
      ∧ r.2.sem = fun _ => 0)

def quiescent_LossLn [hLossLn : Cert.LossLn.Facts] : Prop :=
  ∀ (m : (ℓ : Loc Cert.LossLn.nD Cert.LossLn.τ Cert.LossLn.sig) → Buf (Elt Bits) ℓ) (g : Dev Cert.LossLn.nD → PrngReg), Pre_LossLn m →
    θ_run (Cert.LossLn.defs (F := Bits)) (onTc (τ := Cert.LossLn.τ) (Cert.LossLn.main (F := Bits))) ⟨m, fun _ => 0, g⟩ (fun r => (∀ c : Dev Cert.LossLn.nD,
      r.2.mem ((c.tc : Thread Cert.LossLn.nD Cert.LossLn.τ).loc Cert.LossLn.main_arg0) = m ((c.tc : Thread Cert.LossLn.nD Cert.LossLn.τ).loc Cert.LossLn.main_arg0)
      ∧ r.2.mem ((c.tc : Thread Cert.LossLn.nD Cert.LossLn.τ).loc Cert.LossLn.main_arg1) = m ((c.tc : Thread Cert.LossLn.nD Cert.LossLn.τ).loc Cert.LossLn.main_arg1)
      ∧ r.2.mem ((c.tc : Thread Cert.LossLn.nD Cert.LossLn.τ).loc Cert.LossLn.main_arg2) = m ((c.tc : Thread Cert.LossLn.nD Cert.LossLn.τ).loc Cert.LossLn.main_arg2)
      ∧ r.2.mem ((c.tc : Thread Cert.LossLn.nD Cert.LossLn.τ).loc Cert.LossLn.main_arg3) = m ((c.tc : Thread Cert.LossLn.nD Cert.LossLn.τ).loc Cert.LossLn.main_arg3)
      ∧ r.2.mem ((c.tc : Thread Cert.LossLn.nD Cert.LossLn.τ).loc Cert.LossLn.main_arg4) = m ((c.tc : Thread Cert.LossLn.nD Cert.LossLn.τ).loc Cert.LossLn.main_arg4)
      ∧ r.2.mem ((c.tc : Thread Cert.LossLn.nD Cert.LossLn.τ).loc Cert.LossLn.main_arg5) = m ((c.tc : Thread Cert.LossLn.nD Cert.LossLn.τ).loc Cert.LossLn.main_arg5))
      ∧ r.2.sem = fun _ => 0)

def quiescent_LossLnIdeal [hLossLnIdeal : Cert.LossLnIdeal.Facts] : Prop :=
  ∀ (m : (ℓ : Loc Cert.LossLnIdeal.nD Cert.LossLnIdeal.τ Cert.LossLnIdeal.sig) → Buf (Elt Ideal) ℓ) (g : Dev Cert.LossLnIdeal.nD → PrngReg), Pre_LossLnIdeal m →
    θ_run (Cert.LossLnIdeal.defs (F := Ideal)) (onTc (τ := Cert.LossLnIdeal.τ) (Cert.LossLnIdeal.main (F := Ideal))) ⟨m, fun _ => 0, g⟩ (fun r => (∀ c : Dev Cert.LossLnIdeal.nD,
      r.2.mem ((c.tc : Thread Cert.LossLnIdeal.nD Cert.LossLnIdeal.τ).loc Cert.LossLnIdeal.main_arg0) = m ((c.tc : Thread Cert.LossLnIdeal.nD Cert.LossLnIdeal.τ).loc Cert.LossLnIdeal.main_arg0)
      ∧ r.2.mem ((c.tc : Thread Cert.LossLnIdeal.nD Cert.LossLnIdeal.τ).loc Cert.LossLnIdeal.main_arg1) = m ((c.tc : Thread Cert.LossLnIdeal.nD Cert.LossLnIdeal.τ).loc Cert.LossLnIdeal.main_arg1)
      ∧ r.2.mem ((c.tc : Thread Cert.LossLnIdeal.nD Cert.LossLnIdeal.τ).loc Cert.LossLnIdeal.main_arg2) = m ((c.tc : Thread Cert.LossLnIdeal.nD Cert.LossLnIdeal.τ).loc Cert.LossLnIdeal.main_arg2)
      ∧ r.2.mem ((c.tc : Thread Cert.LossLnIdeal.nD Cert.LossLnIdeal.τ).loc Cert.LossLnIdeal.main_arg3) = m ((c.tc : Thread Cert.LossLnIdeal.nD Cert.LossLnIdeal.τ).loc Cert.LossLnIdeal.main_arg3)
      ∧ r.2.mem ((c.tc : Thread Cert.LossLnIdeal.nD Cert.LossLnIdeal.τ).loc Cert.LossLnIdeal.main_arg4) = m ((c.tc : Thread Cert.LossLnIdeal.nD Cert.LossLnIdeal.τ).loc Cert.LossLnIdeal.main_arg4)
      ∧ r.2.mem ((c.tc : Thread Cert.LossLnIdeal.nD Cert.LossLnIdeal.τ).loc Cert.LossLnIdeal.main_arg5) = m ((c.tc : Thread Cert.LossLnIdeal.nD Cert.LossLnIdeal.τ).loc Cert.LossLnIdeal.main_arg5))
      ∧ r.2.sem = fun _ => 0)

def quiescent_LossLnIdeal_pre_loss_finite [hLossLnIdeal : Cert.LossLnIdeal.Facts] [hPre_loss_finite : Cert.Pre_loss_finite.Facts] : Prop :=
  ∀ (m : (ℓ : Loc Cert.LossLnIdeal.nD Cert.LossLnIdeal.τ Cert.LossLnIdeal.sig) → Buf (Elt Ideal) ℓ) (g : Dev Cert.LossLnIdeal.nD → PrngReg), Pre_LossLnIdeal_loss_finite m →
    θ_run (Cert.LossLnIdeal.defs (F := Ideal)) (onTc (τ := Cert.LossLnIdeal.τ) (Cert.LossLnIdeal.main (F := Ideal))) ⟨m, fun _ => 0, g⟩ (fun r => (∀ c : Dev Cert.LossLnIdeal.nD,
      r.2.mem ((c.tc : Thread Cert.LossLnIdeal.nD Cert.LossLnIdeal.τ).loc Cert.LossLnIdeal.main_arg0) = m ((c.tc : Thread Cert.LossLnIdeal.nD Cert.LossLnIdeal.τ).loc Cert.LossLnIdeal.main_arg0)
      ∧ r.2.mem ((c.tc : Thread Cert.LossLnIdeal.nD Cert.LossLnIdeal.τ).loc Cert.LossLnIdeal.main_arg1) = m ((c.tc : Thread Cert.LossLnIdeal.nD Cert.LossLnIdeal.τ).loc Cert.LossLnIdeal.main_arg1)
      ∧ r.2.mem ((c.tc : Thread Cert.LossLnIdeal.nD Cert.LossLnIdeal.τ).loc Cert.LossLnIdeal.main_arg2) = m ((c.tc : Thread Cert.LossLnIdeal.nD Cert.LossLnIdeal.τ).loc Cert.LossLnIdeal.main_arg2)
      ∧ r.2.mem ((c.tc : Thread Cert.LossLnIdeal.nD Cert.LossLnIdeal.τ).loc Cert.LossLnIdeal.main_arg3) = m ((c.tc : Thread Cert.LossLnIdeal.nD Cert.LossLnIdeal.τ).loc Cert.LossLnIdeal.main_arg3)
      ∧ r.2.mem ((c.tc : Thread Cert.LossLnIdeal.nD Cert.LossLnIdeal.τ).loc Cert.LossLnIdeal.main_arg4) = m ((c.tc : Thread Cert.LossLnIdeal.nD Cert.LossLnIdeal.τ).loc Cert.LossLnIdeal.main_arg4)
      ∧ r.2.mem ((c.tc : Thread Cert.LossLnIdeal.nD Cert.LossLnIdeal.τ).loc Cert.LossLnIdeal.main_arg5) = m ((c.tc : Thread Cert.LossLnIdeal.nD Cert.LossLnIdeal.τ).loc Cert.LossLnIdeal.main_arg5))
      ∧ r.2.sem = fun _ => 0)

def quiescent_LossLnRefIdeal [hLossLnRefIdeal : Cert.LossLnRefIdeal.Facts] : Prop :=
  ∀ (m : (ℓ : Loc Cert.LossLnRefIdeal.nD Cert.LossLnRefIdeal.τ Cert.LossLnRefIdeal.sig) → Buf (Elt Ideal) ℓ) (g : Dev Cert.LossLnRefIdeal.nD → PrngReg), Pre_LossLnRefIdeal m →
    θ_run (Cert.LossLnRefIdeal.defs (F := Ideal)) (onTc (τ := Cert.LossLnRefIdeal.τ) (Cert.LossLnRefIdeal.main (F := Ideal))) ⟨m, fun _ => 0, g⟩ (fun r => (∀ c : Dev Cert.LossLnRefIdeal.nD,
      r.2.mem ((c.tc : Thread Cert.LossLnRefIdeal.nD Cert.LossLnRefIdeal.τ).loc Cert.LossLnRefIdeal.main_arg0) = m ((c.tc : Thread Cert.LossLnRefIdeal.nD Cert.LossLnRefIdeal.τ).loc Cert.LossLnRefIdeal.main_arg0)
      ∧ r.2.mem ((c.tc : Thread Cert.LossLnRefIdeal.nD Cert.LossLnRefIdeal.τ).loc Cert.LossLnRefIdeal.main_arg1) = m ((c.tc : Thread Cert.LossLnRefIdeal.nD Cert.LossLnRefIdeal.τ).loc Cert.LossLnRefIdeal.main_arg1)
      ∧ r.2.mem ((c.tc : Thread Cert.LossLnRefIdeal.nD Cert.LossLnRefIdeal.τ).loc Cert.LossLnRefIdeal.main_arg2) = m ((c.tc : Thread Cert.LossLnRefIdeal.nD Cert.LossLnRefIdeal.τ).loc Cert.LossLnRefIdeal.main_arg2)
      ∧ r.2.mem ((c.tc : Thread Cert.LossLnRefIdeal.nD Cert.LossLnRefIdeal.τ).loc Cert.LossLnRefIdeal.main_arg3) = m ((c.tc : Thread Cert.LossLnRefIdeal.nD Cert.LossLnRefIdeal.τ).loc Cert.LossLnRefIdeal.main_arg3)
      ∧ r.2.mem ((c.tc : Thread Cert.LossLnRefIdeal.nD Cert.LossLnRefIdeal.τ).loc Cert.LossLnRefIdeal.main_arg4) = m ((c.tc : Thread Cert.LossLnRefIdeal.nD Cert.LossLnRefIdeal.τ).loc Cert.LossLnRefIdeal.main_arg4)
      ∧ r.2.mem ((c.tc : Thread Cert.LossLnRefIdeal.nD Cert.LossLnRefIdeal.τ).loc Cert.LossLnRefIdeal.main_arg5) = m ((c.tc : Thread Cert.LossLnRefIdeal.nD Cert.LossLnRefIdeal.τ).loc Cert.LossLnRefIdeal.main_arg5))
      ∧ r.2.sem = fun _ => 0)

def quiescent_LossLnRefIdeal_pre_loss_finite [hLossLnRefIdeal : Cert.LossLnRefIdeal.Facts] [hPre_loss_finite : Cert.Pre_loss_finite.Facts] : Prop :=
  ∀ (m : (ℓ : Loc Cert.LossLnRefIdeal.nD Cert.LossLnRefIdeal.τ Cert.LossLnRefIdeal.sig) → Buf (Elt Ideal) ℓ) (g : Dev Cert.LossLnRefIdeal.nD → PrngReg), Pre_LossLnRefIdeal_loss_finite m →
    θ_run (Cert.LossLnRefIdeal.defs (F := Ideal)) (onTc (τ := Cert.LossLnRefIdeal.τ) (Cert.LossLnRefIdeal.main (F := Ideal))) ⟨m, fun _ => 0, g⟩ (fun r => (∀ c : Dev Cert.LossLnRefIdeal.nD,
      r.2.mem ((c.tc : Thread Cert.LossLnRefIdeal.nD Cert.LossLnRefIdeal.τ).loc Cert.LossLnRefIdeal.main_arg0) = m ((c.tc : Thread Cert.LossLnRefIdeal.nD Cert.LossLnRefIdeal.τ).loc Cert.LossLnRefIdeal.main_arg0)
      ∧ r.2.mem ((c.tc : Thread Cert.LossLnRefIdeal.nD Cert.LossLnRefIdeal.τ).loc Cert.LossLnRefIdeal.main_arg1) = m ((c.tc : Thread Cert.LossLnRefIdeal.nD Cert.LossLnRefIdeal.τ).loc Cert.LossLnRefIdeal.main_arg1)
      ∧ r.2.mem ((c.tc : Thread Cert.LossLnRefIdeal.nD Cert.LossLnRefIdeal.τ).loc Cert.LossLnRefIdeal.main_arg2) = m ((c.tc : Thread Cert.LossLnRefIdeal.nD Cert.LossLnRefIdeal.τ).loc Cert.LossLnRefIdeal.main_arg2)
      ∧ r.2.mem ((c.tc : Thread Cert.LossLnRefIdeal.nD Cert.LossLnRefIdeal.τ).loc Cert.LossLnRefIdeal.main_arg3) = m ((c.tc : Thread Cert.LossLnRefIdeal.nD Cert.LossLnRefIdeal.τ).loc Cert.LossLnRefIdeal.main_arg3)
      ∧ r.2.mem ((c.tc : Thread Cert.LossLnRefIdeal.nD Cert.LossLnRefIdeal.τ).loc Cert.LossLnRefIdeal.main_arg4) = m ((c.tc : Thread Cert.LossLnRefIdeal.nD Cert.LossLnRefIdeal.τ).loc Cert.LossLnRefIdeal.main_arg4)
      ∧ r.2.mem ((c.tc : Thread Cert.LossLnRefIdeal.nD Cert.LossLnRefIdeal.τ).loc Cert.LossLnRefIdeal.main_arg5) = m ((c.tc : Thread Cert.LossLnRefIdeal.nD Cert.LossLnRefIdeal.τ).loc Cert.LossLnRefIdeal.main_arg5))
      ∧ r.2.sem = fun _ => 0)

def quiescent_ShiftBwd [hShiftBwd : Cert.ShiftBwd.Facts] : Prop :=
  ∀ (m : (ℓ : Loc Cert.ShiftBwd.nD Cert.ShiftBwd.τ Cert.ShiftBwd.sig) → Buf (Elt Bits) ℓ) (g : Dev Cert.ShiftBwd.nD → PrngReg), Pre_ShiftBwd m →
    θ_run (Cert.ShiftBwd.defs (F := Bits)) (onTc (τ := Cert.ShiftBwd.τ) (Cert.ShiftBwd.main (F := Bits))) ⟨m, fun _ => 0, g⟩ (fun r => (∀ c : Dev Cert.ShiftBwd.nD,
      r.2.mem ((c.tc : Thread Cert.ShiftBwd.nD Cert.ShiftBwd.τ).loc Cert.ShiftBwd.main_arg0) = m ((c.tc : Thread Cert.ShiftBwd.nD Cert.ShiftBwd.τ).loc Cert.ShiftBwd.main_arg0)
      ∧ r.2.mem ((c.tc : Thread Cert.ShiftBwd.nD Cert.ShiftBwd.τ).loc Cert.ShiftBwd.main_arg1) = m ((c.tc : Thread Cert.ShiftBwd.nD Cert.ShiftBwd.τ).loc Cert.ShiftBwd.main_arg1)
      ∧ r.2.mem ((c.tc : Thread Cert.ShiftBwd.nD Cert.ShiftBwd.τ).loc Cert.ShiftBwd.main_arg2) = m ((c.tc : Thread Cert.ShiftBwd.nD Cert.ShiftBwd.τ).loc Cert.ShiftBwd.main_arg2)
      ∧ r.2.mem ((c.tc : Thread Cert.ShiftBwd.nD Cert.ShiftBwd.τ).loc Cert.ShiftBwd.main_arg3) = m ((c.tc : Thread Cert.ShiftBwd.nD Cert.ShiftBwd.τ).loc Cert.ShiftBwd.main_arg3))
      ∧ r.2.sem = fun _ => 0)

def quiescent_ShiftBwdIdeal [hShiftBwdIdeal : Cert.ShiftBwdIdeal.Facts] : Prop :=
  ∀ (m : (ℓ : Loc Cert.ShiftBwdIdeal.nD Cert.ShiftBwdIdeal.τ Cert.ShiftBwdIdeal.sig) → Buf (Elt Ideal) ℓ) (g : Dev Cert.ShiftBwdIdeal.nD → PrngReg), Pre_ShiftBwdIdeal m →
    θ_run (Cert.ShiftBwdIdeal.defs (F := Ideal)) (onTc (τ := Cert.ShiftBwdIdeal.τ) (Cert.ShiftBwdIdeal.main (F := Ideal))) ⟨m, fun _ => 0, g⟩ (fun r => (∀ c : Dev Cert.ShiftBwdIdeal.nD,
      r.2.mem ((c.tc : Thread Cert.ShiftBwdIdeal.nD Cert.ShiftBwdIdeal.τ).loc Cert.ShiftBwdIdeal.main_arg0) = m ((c.tc : Thread Cert.ShiftBwdIdeal.nD Cert.ShiftBwdIdeal.τ).loc Cert.ShiftBwdIdeal.main_arg0)
      ∧ r.2.mem ((c.tc : Thread Cert.ShiftBwdIdeal.nD Cert.ShiftBwdIdeal.τ).loc Cert.ShiftBwdIdeal.main_arg1) = m ((c.tc : Thread Cert.ShiftBwdIdeal.nD Cert.ShiftBwdIdeal.τ).loc Cert.ShiftBwdIdeal.main_arg1)
      ∧ r.2.mem ((c.tc : Thread Cert.ShiftBwdIdeal.nD Cert.ShiftBwdIdeal.τ).loc Cert.ShiftBwdIdeal.main_arg2) = m ((c.tc : Thread Cert.ShiftBwdIdeal.nD Cert.ShiftBwdIdeal.τ).loc Cert.ShiftBwdIdeal.main_arg2)
      ∧ r.2.mem ((c.tc : Thread Cert.ShiftBwdIdeal.nD Cert.ShiftBwdIdeal.τ).loc Cert.ShiftBwdIdeal.main_arg3) = m ((c.tc : Thread Cert.ShiftBwdIdeal.nD Cert.ShiftBwdIdeal.τ).loc Cert.ShiftBwdIdeal.main_arg3))
      ∧ r.2.sem = fun _ => 0)

def quiescent_ShiftBwdIdeal_pre_shift_finite [hShiftBwdIdeal : Cert.ShiftBwdIdeal.Facts] [hPre_shift_finite : Cert.Pre_shift_finite.Facts] : Prop :=
  ∀ (m : (ℓ : Loc Cert.ShiftBwdIdeal.nD Cert.ShiftBwdIdeal.τ Cert.ShiftBwdIdeal.sig) → Buf (Elt Ideal) ℓ) (g : Dev Cert.ShiftBwdIdeal.nD → PrngReg), Pre_ShiftBwdIdeal_shift_finite m →
    θ_run (Cert.ShiftBwdIdeal.defs (F := Ideal)) (onTc (τ := Cert.ShiftBwdIdeal.τ) (Cert.ShiftBwdIdeal.main (F := Ideal))) ⟨m, fun _ => 0, g⟩ (fun r => (∀ c : Dev Cert.ShiftBwdIdeal.nD,
      r.2.mem ((c.tc : Thread Cert.ShiftBwdIdeal.nD Cert.ShiftBwdIdeal.τ).loc Cert.ShiftBwdIdeal.main_arg0) = m ((c.tc : Thread Cert.ShiftBwdIdeal.nD Cert.ShiftBwdIdeal.τ).loc Cert.ShiftBwdIdeal.main_arg0)
      ∧ r.2.mem ((c.tc : Thread Cert.ShiftBwdIdeal.nD Cert.ShiftBwdIdeal.τ).loc Cert.ShiftBwdIdeal.main_arg1) = m ((c.tc : Thread Cert.ShiftBwdIdeal.nD Cert.ShiftBwdIdeal.τ).loc Cert.ShiftBwdIdeal.main_arg1)
      ∧ r.2.mem ((c.tc : Thread Cert.ShiftBwdIdeal.nD Cert.ShiftBwdIdeal.τ).loc Cert.ShiftBwdIdeal.main_arg2) = m ((c.tc : Thread Cert.ShiftBwdIdeal.nD Cert.ShiftBwdIdeal.τ).loc Cert.ShiftBwdIdeal.main_arg2)
      ∧ r.2.mem ((c.tc : Thread Cert.ShiftBwdIdeal.nD Cert.ShiftBwdIdeal.τ).loc Cert.ShiftBwdIdeal.main_arg3) = m ((c.tc : Thread Cert.ShiftBwdIdeal.nD Cert.ShiftBwdIdeal.τ).loc Cert.ShiftBwdIdeal.main_arg3))
      ∧ r.2.sem = fun _ => 0)

def quiescent_ShiftBwdRefIdeal [hShiftBwdRefIdeal : Cert.ShiftBwdRefIdeal.Facts] : Prop :=
  ∀ (m : (ℓ : Loc Cert.ShiftBwdRefIdeal.nD Cert.ShiftBwdRefIdeal.τ Cert.ShiftBwdRefIdeal.sig) → Buf (Elt Ideal) ℓ) (g : Dev Cert.ShiftBwdRefIdeal.nD → PrngReg), Pre_ShiftBwdRefIdeal m →
    θ_run (Cert.ShiftBwdRefIdeal.defs (F := Ideal)) (onTc (τ := Cert.ShiftBwdRefIdeal.τ) (Cert.ShiftBwdRefIdeal.main (F := Ideal))) ⟨m, fun _ => 0, g⟩ (fun r => (∀ c : Dev Cert.ShiftBwdRefIdeal.nD,
      r.2.mem ((c.tc : Thread Cert.ShiftBwdRefIdeal.nD Cert.ShiftBwdRefIdeal.τ).loc Cert.ShiftBwdRefIdeal.main_arg0) = m ((c.tc : Thread Cert.ShiftBwdRefIdeal.nD Cert.ShiftBwdRefIdeal.τ).loc Cert.ShiftBwdRefIdeal.main_arg0)
      ∧ r.2.mem ((c.tc : Thread Cert.ShiftBwdRefIdeal.nD Cert.ShiftBwdRefIdeal.τ).loc Cert.ShiftBwdRefIdeal.main_arg1) = m ((c.tc : Thread Cert.ShiftBwdRefIdeal.nD Cert.ShiftBwdRefIdeal.τ).loc Cert.ShiftBwdRefIdeal.main_arg1)
      ∧ r.2.mem ((c.tc : Thread Cert.ShiftBwdRefIdeal.nD Cert.ShiftBwdRefIdeal.τ).loc Cert.ShiftBwdRefIdeal.main_arg2) = m ((c.tc : Thread Cert.ShiftBwdRefIdeal.nD Cert.ShiftBwdRefIdeal.τ).loc Cert.ShiftBwdRefIdeal.main_arg2)
      ∧ r.2.mem ((c.tc : Thread Cert.ShiftBwdRefIdeal.nD Cert.ShiftBwdRefIdeal.τ).loc Cert.ShiftBwdRefIdeal.main_arg3) = m ((c.tc : Thread Cert.ShiftBwdRefIdeal.nD Cert.ShiftBwdRefIdeal.τ).loc Cert.ShiftBwdRefIdeal.main_arg3))
      ∧ r.2.sem = fun _ => 0)

def quiescent_ShiftBwdRefIdeal_pre_shift_finite [hShiftBwdRefIdeal : Cert.ShiftBwdRefIdeal.Facts] [hPre_shift_finite : Cert.Pre_shift_finite.Facts] : Prop :=
  ∀ (m : (ℓ : Loc Cert.ShiftBwdRefIdeal.nD Cert.ShiftBwdRefIdeal.τ Cert.ShiftBwdRefIdeal.sig) → Buf (Elt Ideal) ℓ) (g : Dev Cert.ShiftBwdRefIdeal.nD → PrngReg), Pre_ShiftBwdRefIdeal_shift_finite m →
    θ_run (Cert.ShiftBwdRefIdeal.defs (F := Ideal)) (onTc (τ := Cert.ShiftBwdRefIdeal.τ) (Cert.ShiftBwdRefIdeal.main (F := Ideal))) ⟨m, fun _ => 0, g⟩ (fun r => (∀ c : Dev Cert.ShiftBwdRefIdeal.nD,
      r.2.mem ((c.tc : Thread Cert.ShiftBwdRefIdeal.nD Cert.ShiftBwdRefIdeal.τ).loc Cert.ShiftBwdRefIdeal.main_arg0) = m ((c.tc : Thread Cert.ShiftBwdRefIdeal.nD Cert.ShiftBwdRefIdeal.τ).loc Cert.ShiftBwdRefIdeal.main_arg0)
      ∧ r.2.mem ((c.tc : Thread Cert.ShiftBwdRefIdeal.nD Cert.ShiftBwdRefIdeal.τ).loc Cert.ShiftBwdRefIdeal.main_arg1) = m ((c.tc : Thread Cert.ShiftBwdRefIdeal.nD Cert.ShiftBwdRefIdeal.τ).loc Cert.ShiftBwdRefIdeal.main_arg1)
      ∧ r.2.mem ((c.tc : Thread Cert.ShiftBwdRefIdeal.nD Cert.ShiftBwdRefIdeal.τ).loc Cert.ShiftBwdRefIdeal.main_arg2) = m ((c.tc : Thread Cert.ShiftBwdRefIdeal.nD Cert.ShiftBwdRefIdeal.τ).loc Cert.ShiftBwdRefIdeal.main_arg2)
      ∧ r.2.mem ((c.tc : Thread Cert.ShiftBwdRefIdeal.nD Cert.ShiftBwdRefIdeal.τ).loc Cert.ShiftBwdRefIdeal.main_arg3) = m ((c.tc : Thread Cert.ShiftBwdRefIdeal.nD Cert.ShiftBwdRefIdeal.τ).loc Cert.ShiftBwdRefIdeal.main_arg3))
      ∧ r.2.sem = fun _ => 0)

def quiescent_ConvPost [hConvPost : Cert.ConvPost.Facts] : Prop :=
  ∀ (m : (ℓ : Loc Cert.ConvPost.nD Cert.ConvPost.τ Cert.ConvPost.sig) → Buf (Elt Bits) ℓ) (g : Dev Cert.ConvPost.nD → PrngReg), Pre_ConvPost m →
    θ_run (Cert.ConvPost.defs (F := Bits)) (onTc (τ := Cert.ConvPost.τ) (Cert.ConvPost.main (F := Bits))) ⟨m, fun _ => 0, g⟩ (fun r => (∀ c : Dev Cert.ConvPost.nD,
      r.2.mem ((c.tc : Thread Cert.ConvPost.nD Cert.ConvPost.τ).loc Cert.ConvPost.main_arg0) = m ((c.tc : Thread Cert.ConvPost.nD Cert.ConvPost.τ).loc Cert.ConvPost.main_arg0)
      ∧ r.2.mem ((c.tc : Thread Cert.ConvPost.nD Cert.ConvPost.τ).loc Cert.ConvPost.main_arg1) = m ((c.tc : Thread Cert.ConvPost.nD Cert.ConvPost.τ).loc Cert.ConvPost.main_arg1)
      ∧ r.2.mem ((c.tc : Thread Cert.ConvPost.nD Cert.ConvPost.τ).loc Cert.ConvPost.main_arg2) = m ((c.tc : Thread Cert.ConvPost.nD Cert.ConvPost.τ).loc Cert.ConvPost.main_arg2)
      ∧ r.2.mem ((c.tc : Thread Cert.ConvPost.nD Cert.ConvPost.τ).loc Cert.ConvPost.main_arg3) = m ((c.tc : Thread Cert.ConvPost.nD Cert.ConvPost.τ).loc Cert.ConvPost.main_arg3))
      ∧ r.2.sem = fun _ => 0)

def quiescent_ConvPostIdeal [hConvPostIdeal : Cert.ConvPostIdeal.Facts] : Prop :=
  ∀ (m : (ℓ : Loc Cert.ConvPostIdeal.nD Cert.ConvPostIdeal.τ Cert.ConvPostIdeal.sig) → Buf (Elt Ideal) ℓ) (g : Dev Cert.ConvPostIdeal.nD → PrngReg), Pre_ConvPostIdeal m →
    θ_run (Cert.ConvPostIdeal.defs (F := Ideal)) (onTc (τ := Cert.ConvPostIdeal.τ) (Cert.ConvPostIdeal.main (F := Ideal))) ⟨m, fun _ => 0, g⟩ (fun r => (∀ c : Dev Cert.ConvPostIdeal.nD,
      r.2.mem ((c.tc : Thread Cert.ConvPostIdeal.nD Cert.ConvPostIdeal.τ).loc Cert.ConvPostIdeal.main_arg0) = m ((c.tc : Thread Cert.ConvPostIdeal.nD Cert.ConvPostIdeal.τ).loc Cert.ConvPostIdeal.main_arg0)
      ∧ r.2.mem ((c.tc : Thread Cert.ConvPostIdeal.nD Cert.ConvPostIdeal.τ).loc Cert.ConvPostIdeal.main_arg1) = m ((c.tc : Thread Cert.ConvPostIdeal.nD Cert.ConvPostIdeal.τ).loc Cert.ConvPostIdeal.main_arg1)
      ∧ r.2.mem ((c.tc : Thread Cert.ConvPostIdeal.nD Cert.ConvPostIdeal.τ).loc Cert.ConvPostIdeal.main_arg2) = m ((c.tc : Thread Cert.ConvPostIdeal.nD Cert.ConvPostIdeal.τ).loc Cert.ConvPostIdeal.main_arg2)
      ∧ r.2.mem ((c.tc : Thread Cert.ConvPostIdeal.nD Cert.ConvPostIdeal.τ).loc Cert.ConvPostIdeal.main_arg3) = m ((c.tc : Thread Cert.ConvPostIdeal.nD Cert.ConvPostIdeal.τ).loc Cert.ConvPostIdeal.main_arg3))
      ∧ r.2.sem = fun _ => 0)

def quiescent_ConvPostIdeal_pre_conv_post_finite [hConvPostIdeal : Cert.ConvPostIdeal.Facts] [hPre_conv_post_finite : Cert.Pre_conv_post_finite.Facts] : Prop :=
  ∀ (m : (ℓ : Loc Cert.ConvPostIdeal.nD Cert.ConvPostIdeal.τ Cert.ConvPostIdeal.sig) → Buf (Elt Ideal) ℓ) (g : Dev Cert.ConvPostIdeal.nD → PrngReg), Pre_ConvPostIdeal_conv_post_finite m →
    θ_run (Cert.ConvPostIdeal.defs (F := Ideal)) (onTc (τ := Cert.ConvPostIdeal.τ) (Cert.ConvPostIdeal.main (F := Ideal))) ⟨m, fun _ => 0, g⟩ (fun r => (∀ c : Dev Cert.ConvPostIdeal.nD,
      r.2.mem ((c.tc : Thread Cert.ConvPostIdeal.nD Cert.ConvPostIdeal.τ).loc Cert.ConvPostIdeal.main_arg0) = m ((c.tc : Thread Cert.ConvPostIdeal.nD Cert.ConvPostIdeal.τ).loc Cert.ConvPostIdeal.main_arg0)
      ∧ r.2.mem ((c.tc : Thread Cert.ConvPostIdeal.nD Cert.ConvPostIdeal.τ).loc Cert.ConvPostIdeal.main_arg1) = m ((c.tc : Thread Cert.ConvPostIdeal.nD Cert.ConvPostIdeal.τ).loc Cert.ConvPostIdeal.main_arg1)
      ∧ r.2.mem ((c.tc : Thread Cert.ConvPostIdeal.nD Cert.ConvPostIdeal.τ).loc Cert.ConvPostIdeal.main_arg2) = m ((c.tc : Thread Cert.ConvPostIdeal.nD Cert.ConvPostIdeal.τ).loc Cert.ConvPostIdeal.main_arg2)
      ∧ r.2.mem ((c.tc : Thread Cert.ConvPostIdeal.nD Cert.ConvPostIdeal.τ).loc Cert.ConvPostIdeal.main_arg3) = m ((c.tc : Thread Cert.ConvPostIdeal.nD Cert.ConvPostIdeal.τ).loc Cert.ConvPostIdeal.main_arg3))
      ∧ r.2.sem = fun _ => 0)

def quiescent_ConvPostRefIdeal [hConvPostRefIdeal : Cert.ConvPostRefIdeal.Facts] : Prop :=
  ∀ (m : (ℓ : Loc Cert.ConvPostRefIdeal.nD Cert.ConvPostRefIdeal.τ Cert.ConvPostRefIdeal.sig) → Buf (Elt Ideal) ℓ) (g : Dev Cert.ConvPostRefIdeal.nD → PrngReg), Pre_ConvPostRefIdeal m →
    θ_run (Cert.ConvPostRefIdeal.defs (F := Ideal)) (onTc (τ := Cert.ConvPostRefIdeal.τ) (Cert.ConvPostRefIdeal.main (F := Ideal))) ⟨m, fun _ => 0, g⟩ (fun r => (∀ c : Dev Cert.ConvPostRefIdeal.nD,
      r.2.mem ((c.tc : Thread Cert.ConvPostRefIdeal.nD Cert.ConvPostRefIdeal.τ).loc Cert.ConvPostRefIdeal.main_arg0) = m ((c.tc : Thread Cert.ConvPostRefIdeal.nD Cert.ConvPostRefIdeal.τ).loc Cert.ConvPostRefIdeal.main_arg0)
      ∧ r.2.mem ((c.tc : Thread Cert.ConvPostRefIdeal.nD Cert.ConvPostRefIdeal.τ).loc Cert.ConvPostRefIdeal.main_arg1) = m ((c.tc : Thread Cert.ConvPostRefIdeal.nD Cert.ConvPostRefIdeal.τ).loc Cert.ConvPostRefIdeal.main_arg1)
      ∧ r.2.mem ((c.tc : Thread Cert.ConvPostRefIdeal.nD Cert.ConvPostRefIdeal.τ).loc Cert.ConvPostRefIdeal.main_arg2) = m ((c.tc : Thread Cert.ConvPostRefIdeal.nD Cert.ConvPostRefIdeal.τ).loc Cert.ConvPostRefIdeal.main_arg2)
      ∧ r.2.mem ((c.tc : Thread Cert.ConvPostRefIdeal.nD Cert.ConvPostRefIdeal.τ).loc Cert.ConvPostRefIdeal.main_arg3) = m ((c.tc : Thread Cert.ConvPostRefIdeal.nD Cert.ConvPostRefIdeal.τ).loc Cert.ConvPostRefIdeal.main_arg3))
      ∧ r.2.sem = fun _ => 0)

def quiescent_ConvPostRefIdeal_pre_conv_post_finite [hConvPostRefIdeal : Cert.ConvPostRefIdeal.Facts] [hPre_conv_post_finite : Cert.Pre_conv_post_finite.Facts] : Prop :=
  ∀ (m : (ℓ : Loc Cert.ConvPostRefIdeal.nD Cert.ConvPostRefIdeal.τ Cert.ConvPostRefIdeal.sig) → Buf (Elt Ideal) ℓ) (g : Dev Cert.ConvPostRefIdeal.nD → PrngReg), Pre_ConvPostRefIdeal_conv_post_finite m →
    θ_run (Cert.ConvPostRefIdeal.defs (F := Ideal)) (onTc (τ := Cert.ConvPostRefIdeal.τ) (Cert.ConvPostRefIdeal.main (F := Ideal))) ⟨m, fun _ => 0, g⟩ (fun r => (∀ c : Dev Cert.ConvPostRefIdeal.nD,
      r.2.mem ((c.tc : Thread Cert.ConvPostRefIdeal.nD Cert.ConvPostRefIdeal.τ).loc Cert.ConvPostRefIdeal.main_arg0) = m ((c.tc : Thread Cert.ConvPostRefIdeal.nD Cert.ConvPostRefIdeal.τ).loc Cert.ConvPostRefIdeal.main_arg0)
      ∧ r.2.mem ((c.tc : Thread Cert.ConvPostRefIdeal.nD Cert.ConvPostRefIdeal.τ).loc Cert.ConvPostRefIdeal.main_arg1) = m ((c.tc : Thread Cert.ConvPostRefIdeal.nD Cert.ConvPostRefIdeal.τ).loc Cert.ConvPostRefIdeal.main_arg1)
      ∧ r.2.mem ((c.tc : Thread Cert.ConvPostRefIdeal.nD Cert.ConvPostRefIdeal.τ).loc Cert.ConvPostRefIdeal.main_arg2) = m ((c.tc : Thread Cert.ConvPostRefIdeal.nD Cert.ConvPostRefIdeal.τ).loc Cert.ConvPostRefIdeal.main_arg2)
      ∧ r.2.mem ((c.tc : Thread Cert.ConvPostRefIdeal.nD Cert.ConvPostRefIdeal.τ).loc Cert.ConvPostRefIdeal.main_arg3) = m ((c.tc : Thread Cert.ConvPostRefIdeal.nD Cert.ConvPostRefIdeal.τ).loc Cert.ConvPostRefIdeal.main_arg3))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2)
      ∧ r.2.mem ((c.tc : Thread Cert.ConvFwd.nD Cert.ConvFwd.τ).loc Cert.ConvFwd.main_arg3) = m ((c.tc : Thread Cert.ConvFwd.nD Cert.ConvFwd.τ).loc Cert.ConvFwd.main_arg3)
      ∧ r.2.mem ((c.tc : Thread Cert.ConvFwd.nD Cert.ConvFwd.τ).loc Cert.ConvFwd.main_arg4) = m ((c.tc : Thread Cert.ConvFwd.nD Cert.ConvFwd.τ).loc Cert.ConvFwd.main_arg4))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2)
      ∧ r.2.mem ((c.tc : Thread Cert.ConvFwdIdeal.nD Cert.ConvFwdIdeal.τ).loc Cert.ConvFwdIdeal.main_arg3) = m ((c.tc : Thread Cert.ConvFwdIdeal.nD Cert.ConvFwdIdeal.τ).loc Cert.ConvFwdIdeal.main_arg3)
      ∧ r.2.mem ((c.tc : Thread Cert.ConvFwdIdeal.nD Cert.ConvFwdIdeal.τ).loc Cert.ConvFwdIdeal.main_arg4) = m ((c.tc : Thread Cert.ConvFwdIdeal.nD Cert.ConvFwdIdeal.τ).loc Cert.ConvFwdIdeal.main_arg4))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2)
      ∧ r.2.mem ((c.tc : Thread Cert.ConvFwdRefIdeal.nD Cert.ConvFwdRefIdeal.τ).loc Cert.ConvFwdRefIdeal.main_arg3) = m ((c.tc : Thread Cert.ConvFwdRefIdeal.nD Cert.ConvFwdRefIdeal.τ).loc Cert.ConvFwdRefIdeal.main_arg3)
      ∧ r.2.mem ((c.tc : Thread Cert.ConvFwdRefIdeal.nD Cert.ConvFwdRefIdeal.τ).loc Cert.ConvFwdRefIdeal.main_arg4) = m ((c.tc : Thread Cert.ConvFwdRefIdeal.nD Cert.ConvFwdRefIdeal.τ).loc Cert.ConvFwdRefIdeal.main_arg4))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4))
      ∧ r.2.sem = fun _ => 0)

def quiescent_AdamProj [hAdamProj : Cert.AdamProj.Facts] : Prop :=
  ∀ (m : (ℓ : Loc Cert.AdamProj.nD Cert.AdamProj.τ Cert.AdamProj.sig) → Buf (Elt Bits) ℓ) (g : Dev Cert.AdamProj.nD → PrngReg), Pre_AdamProj m →
    θ_run (Cert.AdamProj.defs (F := Bits)) (onTc (τ := Cert.AdamProj.τ) (Cert.AdamProj.main (F := Bits))) ⟨m, fun _ => 0, g⟩ (fun r => (∀ c : Dev Cert.AdamProj.nD,
      r.2.mem ((c.tc : Thread Cert.AdamProj.nD Cert.AdamProj.τ).loc Cert.AdamProj.main_arg0) = m ((c.tc : Thread Cert.AdamProj.nD Cert.AdamProj.τ).loc Cert.AdamProj.main_arg0)
      ∧ r.2.mem ((c.tc : Thread Cert.AdamProj.nD Cert.AdamProj.τ).loc Cert.AdamProj.main_arg1) = m ((c.tc : Thread Cert.AdamProj.nD Cert.AdamProj.τ).loc Cert.AdamProj.main_arg1)
      ∧ r.2.mem ((c.tc : Thread Cert.AdamProj.nD Cert.AdamProj.τ).loc Cert.AdamProj.main_arg2) = m ((c.tc : Thread Cert.AdamProj.nD Cert.AdamProj.τ).loc Cert.AdamProj.main_arg2)
      ∧ r.2.mem ((c.tc : Thread Cert.AdamProj.nD Cert.AdamProj.τ).loc Cert.AdamProj.main_arg3) = m ((c.tc : Thread Cert.AdamProj.nD Cert.AdamProj.τ).loc Cert.AdamProj.main_arg3)
      ∧ r.2.mem ((c.tc : Thread Cert.AdamProj.nD Cert.AdamProj.τ).loc Cert.AdamProj.main_arg4) = m ((c.tc : Thread Cert.AdamProj.nD Cert.AdamProj.τ).loc Cert.AdamProj.main_arg4))
      ∧ r.2.sem = fun _ => 0)

def quiescent_AdamProjIdeal [hAdamProjIdeal : Cert.AdamProjIdeal.Facts] : Prop :=
  ∀ (m : (ℓ : Loc Cert.AdamProjIdeal.nD Cert.AdamProjIdeal.τ Cert.AdamProjIdeal.sig) → Buf (Elt Ideal) ℓ) (g : Dev Cert.AdamProjIdeal.nD → PrngReg), Pre_AdamProjIdeal m →
    θ_run (Cert.AdamProjIdeal.defs (F := Ideal)) (onTc (τ := Cert.AdamProjIdeal.τ) (Cert.AdamProjIdeal.main (F := Ideal))) ⟨m, fun _ => 0, g⟩ (fun r => (∀ c : Dev Cert.AdamProjIdeal.nD,
      r.2.mem ((c.tc : Thread Cert.AdamProjIdeal.nD Cert.AdamProjIdeal.τ).loc Cert.AdamProjIdeal.main_arg0) = m ((c.tc : Thread Cert.AdamProjIdeal.nD Cert.AdamProjIdeal.τ).loc Cert.AdamProjIdeal.main_arg0)
      ∧ r.2.mem ((c.tc : Thread Cert.AdamProjIdeal.nD Cert.AdamProjIdeal.τ).loc Cert.AdamProjIdeal.main_arg1) = m ((c.tc : Thread Cert.AdamProjIdeal.nD Cert.AdamProjIdeal.τ).loc Cert.AdamProjIdeal.main_arg1)
      ∧ r.2.mem ((c.tc : Thread Cert.AdamProjIdeal.nD Cert.AdamProjIdeal.τ).loc Cert.AdamProjIdeal.main_arg2) = m ((c.tc : Thread Cert.AdamProjIdeal.nD Cert.AdamProjIdeal.τ).loc Cert.AdamProjIdeal.main_arg2)
      ∧ r.2.mem ((c.tc : Thread Cert.AdamProjIdeal.nD Cert.AdamProjIdeal.τ).loc Cert.AdamProjIdeal.main_arg3) = m ((c.tc : Thread Cert.AdamProjIdeal.nD Cert.AdamProjIdeal.τ).loc Cert.AdamProjIdeal.main_arg3)
      ∧ r.2.mem ((c.tc : Thread Cert.AdamProjIdeal.nD Cert.AdamProjIdeal.τ).loc Cert.AdamProjIdeal.main_arg4) = m ((c.tc : Thread Cert.AdamProjIdeal.nD Cert.AdamProjIdeal.τ).loc Cert.AdamProjIdeal.main_arg4))
      ∧ r.2.sem = fun _ => 0)

def quiescent_AdamProjRefIdeal [hAdamProjRefIdeal : Cert.AdamProjRefIdeal.Facts] : Prop :=
  ∀ (m : (ℓ : Loc Cert.AdamProjRefIdeal.nD Cert.AdamProjRefIdeal.τ Cert.AdamProjRefIdeal.sig) → Buf (Elt Ideal) ℓ) (g : Dev Cert.AdamProjRefIdeal.nD → PrngReg), Pre_AdamProjRefIdeal m →
    θ_run (Cert.AdamProjRefIdeal.defs (F := Ideal)) (onTc (τ := Cert.AdamProjRefIdeal.τ) (Cert.AdamProjRefIdeal.main (F := Ideal))) ⟨m, fun _ => 0, g⟩ (fun r => (∀ c : Dev Cert.AdamProjRefIdeal.nD,
      r.2.mem ((c.tc : Thread Cert.AdamProjRefIdeal.nD Cert.AdamProjRefIdeal.τ).loc Cert.AdamProjRefIdeal.main_arg0) = m ((c.tc : Thread Cert.AdamProjRefIdeal.nD Cert.AdamProjRefIdeal.τ).loc Cert.AdamProjRefIdeal.main_arg0)
      ∧ r.2.mem ((c.tc : Thread Cert.AdamProjRefIdeal.nD Cert.AdamProjRefIdeal.τ).loc Cert.AdamProjRefIdeal.main_arg1) = m ((c.tc : Thread Cert.AdamProjRefIdeal.nD Cert.AdamProjRefIdeal.τ).loc Cert.AdamProjRefIdeal.main_arg1)
      ∧ r.2.mem ((c.tc : Thread Cert.AdamProjRefIdeal.nD Cert.AdamProjRefIdeal.τ).loc Cert.AdamProjRefIdeal.main_arg2) = m ((c.tc : Thread Cert.AdamProjRefIdeal.nD Cert.AdamProjRefIdeal.τ).loc Cert.AdamProjRefIdeal.main_arg2)
      ∧ r.2.mem ((c.tc : Thread Cert.AdamProjRefIdeal.nD Cert.AdamProjRefIdeal.τ).loc Cert.AdamProjRefIdeal.main_arg3) = m ((c.tc : Thread Cert.AdamProjRefIdeal.nD Cert.AdamProjRefIdeal.τ).loc Cert.AdamProjRefIdeal.main_arg3)
      ∧ r.2.mem ((c.tc : Thread Cert.AdamProjRefIdeal.nD Cert.AdamProjRefIdeal.τ).loc Cert.AdamProjRefIdeal.main_arg4) = m ((c.tc : Thread Cert.AdamProjRefIdeal.nD Cert.AdamProjRefIdeal.τ).loc Cert.AdamProjRefIdeal.main_arg4))
      ∧ r.2.sem = fun _ => 0)

def quiescent_AdamFfn [hAdamFfn : Cert.AdamFfn.Facts] : Prop :=
  ∀ (m : (ℓ : Loc Cert.AdamFfn.nD Cert.AdamFfn.τ Cert.AdamFfn.sig) → Buf (Elt Bits) ℓ) (g : Dev Cert.AdamFfn.nD → PrngReg), Pre_AdamFfn m →
    θ_run (Cert.AdamFfn.defs (F := Bits)) (onTc (τ := Cert.AdamFfn.τ) (Cert.AdamFfn.main (F := Bits))) ⟨m, fun _ => 0, g⟩ (fun r => (∀ c : Dev Cert.AdamFfn.nD,
      r.2.mem ((c.tc : Thread Cert.AdamFfn.nD Cert.AdamFfn.τ).loc Cert.AdamFfn.main_arg0) = m ((c.tc : Thread Cert.AdamFfn.nD Cert.AdamFfn.τ).loc Cert.AdamFfn.main_arg0)
      ∧ r.2.mem ((c.tc : Thread Cert.AdamFfn.nD Cert.AdamFfn.τ).loc Cert.AdamFfn.main_arg1) = m ((c.tc : Thread Cert.AdamFfn.nD Cert.AdamFfn.τ).loc Cert.AdamFfn.main_arg1)
      ∧ r.2.mem ((c.tc : Thread Cert.AdamFfn.nD Cert.AdamFfn.τ).loc Cert.AdamFfn.main_arg2) = m ((c.tc : Thread Cert.AdamFfn.nD Cert.AdamFfn.τ).loc Cert.AdamFfn.main_arg2)
      ∧ r.2.mem ((c.tc : Thread Cert.AdamFfn.nD Cert.AdamFfn.τ).loc Cert.AdamFfn.main_arg3) = m ((c.tc : Thread Cert.AdamFfn.nD Cert.AdamFfn.τ).loc Cert.AdamFfn.main_arg3)
      ∧ r.2.mem ((c.tc : Thread Cert.AdamFfn.nD Cert.AdamFfn.τ).loc Cert.AdamFfn.main_arg4) = m ((c.tc : Thread Cert.AdamFfn.nD Cert.AdamFfn.τ).loc Cert.AdamFfn.main_arg4))
      ∧ r.2.sem = fun _ => 0)

def quiescent_AdamFfnIdeal [hAdamFfnIdeal : Cert.AdamFfnIdeal.Facts] : Prop :=
  ∀ (m : (ℓ : Loc Cert.AdamFfnIdeal.nD Cert.AdamFfnIdeal.τ Cert.AdamFfnIdeal.sig) → Buf (Elt Ideal) ℓ) (g : Dev Cert.AdamFfnIdeal.nD → PrngReg), Pre_AdamFfnIdeal m →
    θ_run (Cert.AdamFfnIdeal.defs (F := Ideal)) (onTc (τ := Cert.AdamFfnIdeal.τ) (Cert.AdamFfnIdeal.main (F := Ideal))) ⟨m, fun _ => 0, g⟩ (fun r => (∀ c : Dev Cert.AdamFfnIdeal.nD,
      r.2.mem ((c.tc : Thread Cert.AdamFfnIdeal.nD Cert.AdamFfnIdeal.τ).loc Cert.AdamFfnIdeal.main_arg0) = m ((c.tc : Thread Cert.AdamFfnIdeal.nD Cert.AdamFfnIdeal.τ).loc Cert.AdamFfnIdeal.main_arg0)
      ∧ r.2.mem ((c.tc : Thread Cert.AdamFfnIdeal.nD Cert.AdamFfnIdeal.τ).loc Cert.AdamFfnIdeal.main_arg1) = m ((c.tc : Thread Cert.AdamFfnIdeal.nD Cert.AdamFfnIdeal.τ).loc Cert.AdamFfnIdeal.main_arg1)
      ∧ r.2.mem ((c.tc : Thread Cert.AdamFfnIdeal.nD Cert.AdamFfnIdeal.τ).loc Cert.AdamFfnIdeal.main_arg2) = m ((c.tc : Thread Cert.AdamFfnIdeal.nD Cert.AdamFfnIdeal.τ).loc Cert.AdamFfnIdeal.main_arg2)
      ∧ r.2.mem ((c.tc : Thread Cert.AdamFfnIdeal.nD Cert.AdamFfnIdeal.τ).loc Cert.AdamFfnIdeal.main_arg3) = m ((c.tc : Thread Cert.AdamFfnIdeal.nD Cert.AdamFfnIdeal.τ).loc Cert.AdamFfnIdeal.main_arg3)
      ∧ r.2.mem ((c.tc : Thread Cert.AdamFfnIdeal.nD Cert.AdamFfnIdeal.τ).loc Cert.AdamFfnIdeal.main_arg4) = m ((c.tc : Thread Cert.AdamFfnIdeal.nD Cert.AdamFfnIdeal.τ).loc Cert.AdamFfnIdeal.main_arg4))
      ∧ r.2.sem = fun _ => 0)

def quiescent_AdamFfnRefIdeal [hAdamFfnRefIdeal : Cert.AdamFfnRefIdeal.Facts] : Prop :=
  ∀ (m : (ℓ : Loc Cert.AdamFfnRefIdeal.nD Cert.AdamFfnRefIdeal.τ Cert.AdamFfnRefIdeal.sig) → Buf (Elt Ideal) ℓ) (g : Dev Cert.AdamFfnRefIdeal.nD → PrngReg), Pre_AdamFfnRefIdeal m →
    θ_run (Cert.AdamFfnRefIdeal.defs (F := Ideal)) (onTc (τ := Cert.AdamFfnRefIdeal.τ) (Cert.AdamFfnRefIdeal.main (F := Ideal))) ⟨m, fun _ => 0, g⟩ (fun r => (∀ c : Dev Cert.AdamFfnRefIdeal.nD,
      r.2.mem ((c.tc : Thread Cert.AdamFfnRefIdeal.nD Cert.AdamFfnRefIdeal.τ).loc Cert.AdamFfnRefIdeal.main_arg0) = m ((c.tc : Thread Cert.AdamFfnRefIdeal.nD Cert.AdamFfnRefIdeal.τ).loc Cert.AdamFfnRefIdeal.main_arg0)
      ∧ r.2.mem ((c.tc : Thread Cert.AdamFfnRefIdeal.nD Cert.AdamFfnRefIdeal.τ).loc Cert.AdamFfnRefIdeal.main_arg1) = m ((c.tc : Thread Cert.AdamFfnRefIdeal.nD Cert.AdamFfnRefIdeal.τ).loc Cert.AdamFfnRefIdeal.main_arg1)
      ∧ r.2.mem ((c.tc : Thread Cert.AdamFfnRefIdeal.nD Cert.AdamFfnRefIdeal.τ).loc Cert.AdamFfnRefIdeal.main_arg2) = m ((c.tc : Thread Cert.AdamFfnRefIdeal.nD Cert.AdamFfnRefIdeal.τ).loc Cert.AdamFfnRefIdeal.main_arg2)
      ∧ r.2.mem ((c.tc : Thread Cert.AdamFfnRefIdeal.nD Cert.AdamFfnRefIdeal.τ).loc Cert.AdamFfnRefIdeal.main_arg3) = m ((c.tc : Thread Cert.AdamFfnRefIdeal.nD Cert.AdamFfnRefIdeal.τ).loc Cert.AdamFfnRefIdeal.main_arg3)
      ∧ r.2.mem ((c.tc : Thread Cert.AdamFfnRefIdeal.nD Cert.AdamFfnRefIdeal.τ).loc Cert.AdamFfnRefIdeal.main_arg4) = m ((c.tc : Thread Cert.AdamFfnRefIdeal.nD Cert.AdamFfnRefIdeal.τ).loc Cert.AdamFfnRefIdeal.main_arg4))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def preserves_ConvBwd_ConvBwdIdeal : Prop :=
  True

def algebraic_ConvBwdIdeal_ConvBwdRefIdeal [hConvBwdIdeal : Cert.ConvBwdIdeal.Facts] [hConvBwdRefIdeal : Cert.ConvBwdRefIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvBwdRefIdeal.nD Cert.ConvBwdRefIdeal.τ Cert.ConvBwdRefIdeal.sig) → Buf (Elt Ideal) ℓ) (g' : Dev Cert.ConvBwdRefIdeal.nD → PrngReg), Pre_ConvBwdIdeal m →
    (∀ c : Dev Cert.ConvBwdIdeal.nD,
      m' ((c.tc : Thread Cert.ConvBwdRefIdeal.nD Cert.ConvBwdRefIdeal.τ).loc Cert.ConvBwdRefIdeal.main_arg0) = m ((c.tc : Thread Cert.ConvBwdIdeal.nD Cert.ConvBwdIdeal.τ).loc Cert.ConvBwdIdeal.main_arg0)
      ∧ m' ((c.tc : Thread Cert.ConvBwdRefIdeal.nD Cert.ConvBwdRefIdeal.τ).loc Cert.ConvBwdRefIdeal.main_arg1) = m ((c.tc : Thread Cert.ConvBwdIdeal.nD Cert.ConvBwdIdeal.τ).loc Cert.ConvBwdIdeal.main_arg1)
      ∧ m' ((c.tc : Thread Cert.ConvBwdRefIdeal.nD Cert.ConvBwdRefIdeal.τ).loc Cert.ConvBwdRefIdeal.main_arg2) = m ((c.tc : Thread Cert.ConvBwdIdeal.nD Cert.ConvBwdIdeal.τ).loc Cert.ConvBwdIdeal.main_arg2)) →
    ∃ (v0 : (c : Dev Cert.ConvBwdIdeal.nD) → Buf (Elt Ideal) ((c.tc : Thread Cert.ConvBwdIdeal.nD Cert.ConvBwdIdeal.τ).loc Cert.ConvBwdIdeal.main_v0_0)) (v1 : (c : Dev Cert.ConvBwdIdeal.nD) → Buf (Elt Ideal) ((c.tc : Thread Cert.ConvBwdIdeal.nD Cert.ConvBwdIdeal.τ).loc Cert.ConvBwdIdeal.main_v0_1)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v0_0) = v0 c
          ∧ r.2.mem ((c.tc : Thread Cert.ConvBwdIdeal.nD Cert.ConvBwdIdeal.τ).loc Cert.ConvBwdIdeal.main_v0_1) = v1 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2))
      ∧ θ_run (Cert.ConvBwdRefIdeal.defs (F := Ideal)) (onTc (τ := Cert.ConvBwdRefIdeal.τ) (Cert.ConvBwdRefIdeal.main (F := Ideal))) ⟨m', fun _ => 0, g'⟩ (fun r => ∀ c : Dev Cert.ConvBwdRefIdeal.nD,
          r.2.mem ((c.tc : Thread Cert.ConvBwdRefIdeal.nD Cert.ConvBwdRefIdeal.τ).loc Cert.ConvBwdRefIdeal.main_v228) = v0 c
          ∧ r.2.mem ((c.tc : Thread Cert.ConvBwdRefIdeal.nD Cert.ConvBwdRefIdeal.τ).loc Cert.ConvBwdRefIdeal.main_v230) = v1 c
          ∧ r.2.mem ((c.tc : Thread Cert.ConvBwdRefIdeal.nD Cert.ConvBwdRefIdeal.τ).loc Cert.ConvBwdRefIdeal.main_arg0) = m' ((c.tc : Thread Cert.ConvBwdRefIdeal.nD Cert.ConvBwdRefIdeal.τ).loc Cert.ConvBwdRefIdeal.main_arg0)
          ∧ r.2.mem ((c.tc : Thread Cert.ConvBwdRefIdeal.nD Cert.ConvBwdRefIdeal.τ).loc Cert.ConvBwdRefIdeal.main_arg1) = m' ((c.tc : Thread Cert.ConvBwdRefIdeal.nD Cert.ConvBwdRefIdeal.τ).loc Cert.ConvBwdRefIdeal.main_arg1)
          ∧ r.2.mem ((c.tc : Thread Cert.ConvBwdRefIdeal.nD Cert.ConvBwdRefIdeal.τ).loc Cert.ConvBwdRefIdeal.main_arg2) = m' ((c.tc : Thread Cert.ConvBwdRefIdeal.nD Cert.ConvBwdRefIdeal.τ).loc Cert.ConvBwdRefIdeal.main_arg2))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)) →
    ∃ (v0 : (c : Dev Cert.FfnInIdeal.nD) → Buf (Elt Ideal) ((c.tc : Thread Cert.FfnInIdeal.nD Cert.FfnInIdeal.τ).loc Cert.FfnInIdeal.main_v3_0)) (v1 : (c : Dev Cert.FfnInIdeal.nD) → Buf (Elt Ideal) ((c.tc : Thread Cert.FfnInIdeal.nD Cert.FfnInIdeal.τ).loc Cert.FfnInIdeal.main_v3_1)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v3_0) = v0 c
          ∧ r.2.mem ((c.tc : Thread Cert.FfnInIdeal.nD Cert.FfnInIdeal.τ).loc Cert.FfnInIdeal.main_v3_1) = v1 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v1) = v0 c
          ∧ r.2.mem ((c.tc : Thread Cert.FfnInRefIdeal.nD Cert.FfnInRefIdeal.τ).loc Cert.FfnInRefIdeal.main_v6) = v1 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1))

def preserves_FfnDx_FfnDxIdeal : Prop :=
  True

def algebraic_FfnDxIdeal_FfnDxRefIdeal [hFfnDxIdeal : Cert.FfnDxIdeal.Facts] [hFfnDxRefIdeal : Cert.FfnDxRefIdeal.Facts] : Prop :=
  ∀ (m : (ℓ : Loc Cert.FfnDxIdeal.nD Cert.FfnDxIdeal.τ Cert.FfnDxIdeal.sig) → Buf (Elt Ideal) ℓ) (g : Dev Cert.FfnDxIdeal.nD → PrngReg)
    (m' : (ℓ : Loc Cert.FfnDxRefIdeal.nD Cert.FfnDxRefIdeal.τ Cert.FfnDxRefIdeal.sig) → Buf (Elt Ideal) ℓ) (g' : Dev Cert.FfnDxRefIdeal.nD → PrngReg), Pre_FfnDxIdeal m →
    (∀ c : Dev Cert.FfnDxIdeal.nD,
      m' ((c.tc : Thread Cert.FfnDxRefIdeal.nD Cert.FfnDxRefIdeal.τ).loc Cert.FfnDxRefIdeal.main_arg0) = m ((c.tc : Thread Cert.FfnDxIdeal.nD Cert.FfnDxIdeal.τ).loc Cert.FfnDxIdeal.main_arg0)
      ∧ m' ((c.tc : Thread Cert.FfnDxRefIdeal.nD Cert.FfnDxRefIdeal.τ).loc Cert.FfnDxRefIdeal.main_arg1) = m ((c.tc : Thread Cert.FfnDxIdeal.nD Cert.FfnDxIdeal.τ).loc Cert.FfnDxIdeal.main_arg1)
      ∧ m' ((c.tc : Thread Cert.FfnDxRefIdeal.nD Cert.FfnDxRefIdeal.τ).loc Cert.FfnDxRefIdeal.main_arg2) = m ((c.tc : Thread Cert.FfnDxIdeal.nD Cert.FfnDxIdeal.τ).loc Cert.FfnDxIdeal.main_arg2)) →
    ∃ (v0 : (c : Dev Cert.FfnDxIdeal.nD) → Buf (Elt Ideal) ((c.tc : Thread Cert.FfnDxIdeal.nD Cert.FfnDxIdeal.τ).loc Cert.FfnDxIdeal.main_v3)),
      θ_run (Cert.FfnDxIdeal.defs (F := Ideal)) (onTc (τ := Cert.FfnDxIdeal.τ) (Cert.FfnDxIdeal.main (F := Ideal))) ⟨m, fun _ => 0, g⟩ (fun r => ∀ c : Dev Cert.FfnDxIdeal.nD,
          r.2.mem ((c.tc : Thread Cert.FfnDxIdeal.nD Cert.FfnDxIdeal.τ).loc Cert.FfnDxIdeal.main_v3) = v0 c
          ∧ r.2.mem ((c.tc : Thread Cert.FfnDxIdeal.nD Cert.FfnDxIdeal.τ).loc Cert.FfnDxIdeal.main_arg0) = m ((c.tc : Thread Cert.FfnDxIdeal.nD Cert.FfnDxIdeal.τ).loc Cert.FfnDxIdeal.main_arg0)
          ∧ r.2.mem ((c.tc : Thread Cert.FfnDxIdeal.nD Cert.FfnDxIdeal.τ).loc Cert.FfnDxIdeal.main_arg1) = m ((c.tc : Thread Cert.FfnDxIdeal.nD Cert.FfnDxIdeal.τ).loc Cert.FfnDxIdeal.main_arg1)
          ∧ r.2.mem ((c.tc : Thread Cert.FfnDxIdeal.nD Cert.FfnDxIdeal.τ).loc Cert.FfnDxIdeal.main_arg2) = m ((c.tc : Thread Cert.FfnDxIdeal.nD Cert.FfnDxIdeal.τ).loc Cert.FfnDxIdeal.main_arg2))
      ∧ θ_run (Cert.FfnDxRefIdeal.defs (F := Ideal)) (onTc (τ := Cert.FfnDxRefIdeal.τ) (Cert.FfnDxRefIdeal.main (F := Ideal))) ⟨m', fun _ => 0, g'⟩ (fun r => ∀ c : Dev Cert.FfnDxRefIdeal.nD,
          r.2.mem ((c.tc : Thread Cert.FfnDxRefIdeal.nD Cert.FfnDxRefIdeal.τ).loc Cert.FfnDxRefIdeal.main_v8) = v0 c
          ∧ r.2.mem ((c.tc : Thread Cert.FfnDxRefIdeal.nD Cert.FfnDxRefIdeal.τ).loc Cert.FfnDxRefIdeal.main_arg0) = m' ((c.tc : Thread Cert.FfnDxRefIdeal.nD Cert.FfnDxRefIdeal.τ).loc Cert.FfnDxRefIdeal.main_arg0)
          ∧ r.2.mem ((c.tc : Thread Cert.FfnDxRefIdeal.nD Cert.FfnDxRefIdeal.τ).loc Cert.FfnDxRefIdeal.main_arg1) = m' ((c.tc : Thread Cert.FfnDxRefIdeal.nD Cert.FfnDxRefIdeal.τ).loc Cert.FfnDxRefIdeal.main_arg1)
          ∧ r.2.mem ((c.tc : Thread Cert.FfnDxRefIdeal.nD Cert.FfnDxRefIdeal.τ).loc Cert.FfnDxRefIdeal.main_arg2) = m' ((c.tc : Thread Cert.FfnDxRefIdeal.nD Cert.FfnDxRefIdeal.τ).loc Cert.FfnDxRefIdeal.main_arg2))

def preserves_FfnDh_FfnDhIdeal : Prop :=
  True

def algebraic_FfnDhIdeal_FfnDhRefIdeal_pre_hidden_finite [hFfnDhIdeal : Cert.FfnDhIdeal.Facts] [hFfnDhRefIdeal : Cert.FfnDhRefIdeal.Facts] [hPre_hidden_finite : Cert.Pre_hidden_finite.Facts] : Prop :=
  ∀ (m : (ℓ : Loc Cert.FfnDhIdeal.nD Cert.FfnDhIdeal.τ Cert.FfnDhIdeal.sig) → Buf (Elt Ideal) ℓ) (g : Dev Cert.FfnDhIdeal.nD → PrngReg)
    (m' : (ℓ : Loc Cert.FfnDhRefIdeal.nD Cert.FfnDhRefIdeal.τ Cert.FfnDhRefIdeal.sig) → Buf (Elt Ideal) ℓ) (g' : Dev Cert.FfnDhRefIdeal.nD → PrngReg), Pre_FfnDhIdeal_hidden_finite m →
    (∀ c : Dev Cert.FfnDhIdeal.nD,
      m' ((c.tc : Thread Cert.FfnDhRefIdeal.nD Cert.FfnDhRefIdeal.τ).loc Cert.FfnDhRefIdeal.main_arg0) = m ((c.tc : Thread Cert.FfnDhIdeal.nD Cert.FfnDhIdeal.τ).loc Cert.FfnDhIdeal.main_arg0)
      ∧ m' ((c.tc : Thread Cert.FfnDhRefIdeal.nD Cert.FfnDhRefIdeal.τ).loc Cert.FfnDhRefIdeal.main_arg1) = m ((c.tc : Thread Cert.FfnDhIdeal.nD Cert.FfnDhIdeal.τ).loc Cert.FfnDhIdeal.main_arg1)
      ∧ m' ((c.tc : Thread Cert.FfnDhRefIdeal.nD Cert.FfnDhRefIdeal.τ).loc Cert.FfnDhRefIdeal.main_arg2) = m ((c.tc : Thread Cert.FfnDhIdeal.nD Cert.FfnDhIdeal.τ).loc Cert.FfnDhIdeal.main_arg2)) →
    ∃ (v0 : (c : Dev Cert.FfnDhIdeal.nD) → Buf (Elt Ideal) ((c.tc : Thread Cert.FfnDhIdeal.nD Cert.FfnDhIdeal.τ).loc Cert.FfnDhIdeal.main_v1)),
      θ_run (Cert.FfnDhIdeal.defs (F := Ideal)) (onTc (τ := Cert.FfnDhIdeal.τ) (Cert.FfnDhIdeal.main (F := Ideal))) ⟨m, fun _ => 0, g⟩ (fun r => ∀ c : Dev Cert.FfnDhIdeal.nD,
          r.2.mem ((c.tc : Thread Cert.FfnDhIdeal.nD Cert.FfnDhIdeal.τ).loc Cert.FfnDhIdeal.main_v1) = v0 c
          ∧ r.2.mem ((c.tc : Thread Cert.FfnDhIdeal.nD Cert.FfnDhIdeal.τ).loc Cert.FfnDhIdeal.main_arg0) = m ((c.tc : Thread Cert.FfnDhIdeal.nD Cert.FfnDhIdeal.τ).loc Cert.FfnDhIdeal.main_arg0)
          ∧ r.2.mem ((c.tc : Thread Cert.FfnDhIdeal.nD Cert.FfnDhIdeal.τ).loc Cert.FfnDhIdeal.main_arg1) = m ((c.tc : Thread Cert.FfnDhIdeal.nD Cert.FfnDhIdeal.τ).loc Cert.FfnDhIdeal.main_arg1)
          ∧ r.2.mem ((c.tc : Thread Cert.FfnDhIdeal.nD Cert.FfnDhIdeal.τ).loc Cert.FfnDhIdeal.main_arg2) = m ((c.tc : Thread Cert.FfnDhIdeal.nD Cert.FfnDhIdeal.τ).loc Cert.FfnDhIdeal.main_arg2))
      ∧ θ_run (Cert.FfnDhRefIdeal.defs (F := Ideal)) (onTc (τ := Cert.FfnDhRefIdeal.τ) (Cert.FfnDhRefIdeal.main (F := Ideal))) ⟨m', fun _ => 0, g'⟩ (fun r => ∀ c : Dev Cert.FfnDhRefIdeal.nD,
          r.2.mem ((c.tc : Thread Cert.FfnDhRefIdeal.nD Cert.FfnDhRefIdeal.τ).loc Cert.FfnDhRefIdeal.main_v15) = v0 c
          ∧ r.2.mem ((c.tc : Thread Cert.FfnDhRefIdeal.nD Cert.FfnDhRefIdeal.τ).loc Cert.FfnDhRefIdeal.main_arg0) = m' ((c.tc : Thread Cert.FfnDhRefIdeal.nD Cert.FfnDhRefIdeal.τ).loc Cert.FfnDhRefIdeal.main_arg0)
          ∧ r.2.mem ((c.tc : Thread Cert.FfnDhRefIdeal.nD Cert.FfnDhRefIdeal.τ).loc Cert.FfnDhRefIdeal.main_arg1) = m' ((c.tc : Thread Cert.FfnDhRefIdeal.nD Cert.FfnDhRefIdeal.τ).loc Cert.FfnDhRefIdeal.main_arg1)
          ∧ r.2.mem ((c.tc : Thread Cert.FfnDhRefIdeal.nD Cert.FfnDhRefIdeal.τ).loc Cert.FfnDhRefIdeal.main_arg2) = m' ((c.tc : Thread Cert.FfnDhRefIdeal.nD Cert.FfnDhRefIdeal.τ).loc Cert.FfnDhRefIdeal.main_arg2))

def preserves_FfnDwi_FfnDwiIdeal : Prop :=
  True

def algebraic_FfnDwiIdeal_FfnDwiRefIdeal [hFfnDwiIdeal : Cert.FfnDwiIdeal.Facts] [hFfnDwiRefIdeal : Cert.FfnDwiRefIdeal.Facts] : Prop :=
  ∀ (m : (ℓ : Loc Cert.FfnDwiIdeal.nD Cert.FfnDwiIdeal.τ Cert.FfnDwiIdeal.sig) → Buf (Elt Ideal) ℓ) (g : Dev Cert.FfnDwiIdeal.nD → PrngReg)
    (m' : (ℓ : Loc Cert.FfnDwiRefIdeal.nD Cert.FfnDwiRefIdeal.τ Cert.FfnDwiRefIdeal.sig) → Buf (Elt Ideal) ℓ) (g' : Dev Cert.FfnDwiRefIdeal.nD → PrngReg), Pre_FfnDwiIdeal m →
    (∀ c : Dev Cert.FfnDwiIdeal.nD,
      m' ((c.tc : Thread Cert.FfnDwiRefIdeal.nD Cert.FfnDwiRefIdeal.τ).loc Cert.FfnDwiRefIdeal.main_arg0) = m ((c.tc : Thread Cert.FfnDwiIdeal.nD Cert.FfnDwiIdeal.τ).loc Cert.FfnDwiIdeal.main_arg0)
      ∧ m' ((c.tc : Thread Cert.FfnDwiRefIdeal.nD Cert.FfnDwiRefIdeal.τ).loc Cert.FfnDwiRefIdeal.main_arg1) = m ((c.tc : Thread Cert.FfnDwiIdeal.nD Cert.FfnDwiIdeal.τ).loc Cert.FfnDwiIdeal.main_arg1)) →
    ∃ (v0 : (c : Dev Cert.FfnDwiIdeal.nD) → Buf (Elt Ideal) ((c.tc : Thread Cert.FfnDwiIdeal.nD Cert.FfnDwiIdeal.τ).loc Cert.FfnDwiIdeal.main_v0)),
      θ_run (Cert.FfnDwiIdeal.defs (F := Ideal)) (onTc (τ := Cert.FfnDwiIdeal.τ) (Cert.FfnDwiIdeal.main (F := Ideal))) ⟨m, fun _ => 0, g⟩ (fun r => ∀ c : Dev Cert.FfnDwiIdeal.nD,
          r.2.mem ((c.tc : Thread Cert.FfnDwiIdeal.nD Cert.FfnDwiIdeal.τ).loc Cert.FfnDwiIdeal.main_v0) = v0 c
          ∧ r.2.mem ((c.tc : Thread Cert.FfnDwiIdeal.nD Cert.FfnDwiIdeal.τ).loc Cert.FfnDwiIdeal.main_arg0) = m ((c.tc : Thread Cert.FfnDwiIdeal.nD Cert.FfnDwiIdeal.τ).loc Cert.FfnDwiIdeal.main_arg0)
          ∧ r.2.mem ((c.tc : Thread Cert.FfnDwiIdeal.nD Cert.FfnDwiIdeal.τ).loc Cert.FfnDwiIdeal.main_arg1) = m ((c.tc : Thread Cert.FfnDwiIdeal.nD Cert.FfnDwiIdeal.τ).loc Cert.FfnDwiIdeal.main_arg1))
      ∧ θ_run (Cert.FfnDwiRefIdeal.defs (F := Ideal)) (onTc (τ := Cert.FfnDwiRefIdeal.τ) (Cert.FfnDwiRefIdeal.main (F := Ideal))) ⟨m', fun _ => 0, g'⟩ (fun r => ∀ c : Dev Cert.FfnDwiRefIdeal.nD,
          r.2.mem ((c.tc : Thread Cert.FfnDwiRefIdeal.nD Cert.FfnDwiRefIdeal.τ).loc Cert.FfnDwiRefIdeal.main_v7) = v0 c
          ∧ r.2.mem ((c.tc : Thread Cert.FfnDwiRefIdeal.nD Cert.FfnDwiRefIdeal.τ).loc Cert.FfnDwiRefIdeal.main_arg0) = m' ((c.tc : Thread Cert.FfnDwiRefIdeal.nD Cert.FfnDwiRefIdeal.τ).loc Cert.FfnDwiRefIdeal.main_arg0)
          ∧ r.2.mem ((c.tc : Thread Cert.FfnDwiRefIdeal.nD Cert.FfnDwiRefIdeal.τ).loc Cert.FfnDwiRefIdeal.main_arg1) = m' ((c.tc : Thread Cert.FfnDwiRefIdeal.nD Cert.FfnDwiRefIdeal.τ).loc Cert.FfnDwiRefIdeal.main_arg1))

def preserves_FfnDwo_FfnDwoIdeal : Prop :=
  True

def algebraic_FfnDwoIdeal_FfnDwoRefIdeal [hFfnDwoIdeal : Cert.FfnDwoIdeal.Facts] [hFfnDwoRefIdeal : Cert.FfnDwoRefIdeal.Facts] : Prop :=
  ∀ (m : (ℓ : Loc Cert.FfnDwoIdeal.nD Cert.FfnDwoIdeal.τ Cert.FfnDwoIdeal.sig) → Buf (Elt Ideal) ℓ) (g : Dev Cert.FfnDwoIdeal.nD → PrngReg)
    (m' : (ℓ : Loc Cert.FfnDwoRefIdeal.nD Cert.FfnDwoRefIdeal.τ Cert.FfnDwoRefIdeal.sig) → Buf (Elt Ideal) ℓ) (g' : Dev Cert.FfnDwoRefIdeal.nD → PrngReg), Pre_FfnDwoIdeal m →
    (∀ c : Dev Cert.FfnDwoIdeal.nD,
      m' ((c.tc : Thread Cert.FfnDwoRefIdeal.nD Cert.FfnDwoRefIdeal.τ).loc Cert.FfnDwoRefIdeal.main_arg0) = m ((c.tc : Thread Cert.FfnDwoIdeal.nD Cert.FfnDwoIdeal.τ).loc Cert.FfnDwoIdeal.main_arg0)
      ∧ m' ((c.tc : Thread Cert.FfnDwoRefIdeal.nD Cert.FfnDwoRefIdeal.τ).loc Cert.FfnDwoRefIdeal.main_arg1) = m ((c.tc : Thread Cert.FfnDwoIdeal.nD Cert.FfnDwoIdeal.τ).loc Cert.FfnDwoIdeal.main_arg1)) →
    ∃ (v0 : (c : Dev Cert.FfnDwoIdeal.nD) → Buf (Elt Ideal) ((c.tc : Thread Cert.FfnDwoIdeal.nD Cert.FfnDwoIdeal.τ).loc Cert.FfnDwoIdeal.main_v0)),
      θ_run (Cert.FfnDwoIdeal.defs (F := Ideal)) (onTc (τ := Cert.FfnDwoIdeal.τ) (Cert.FfnDwoIdeal.main (F := Ideal))) ⟨m, fun _ => 0, g⟩ (fun r => ∀ c : Dev Cert.FfnDwoIdeal.nD,
          r.2.mem ((c.tc : Thread Cert.FfnDwoIdeal.nD Cert.FfnDwoIdeal.τ).loc Cert.FfnDwoIdeal.main_v0) = v0 c
          ∧ r.2.mem ((c.tc : Thread Cert.FfnDwoIdeal.nD Cert.FfnDwoIdeal.τ).loc Cert.FfnDwoIdeal.main_arg0) = m ((c.tc : Thread Cert.FfnDwoIdeal.nD Cert.FfnDwoIdeal.τ).loc Cert.FfnDwoIdeal.main_arg0)
          ∧ r.2.mem ((c.tc : Thread Cert.FfnDwoIdeal.nD Cert.FfnDwoIdeal.τ).loc Cert.FfnDwoIdeal.main_arg1) = m ((c.tc : Thread Cert.FfnDwoIdeal.nD Cert.FfnDwoIdeal.τ).loc Cert.FfnDwoIdeal.main_arg1))
      ∧ θ_run (Cert.FfnDwoRefIdeal.defs (F := Ideal)) (onTc (τ := Cert.FfnDwoRefIdeal.τ) (Cert.FfnDwoRefIdeal.main (F := Ideal))) ⟨m', fun _ => 0, g'⟩ (fun r => ∀ c : Dev Cert.FfnDwoRefIdeal.nD,
          r.2.mem ((c.tc : Thread Cert.FfnDwoRefIdeal.nD Cert.FfnDwoRefIdeal.τ).loc Cert.FfnDwoRefIdeal.main_v9) = v0 c
          ∧ r.2.mem ((c.tc : Thread Cert.FfnDwoRefIdeal.nD Cert.FfnDwoRefIdeal.τ).loc Cert.FfnDwoRefIdeal.main_arg0) = m' ((c.tc : Thread Cert.FfnDwoRefIdeal.nD Cert.FfnDwoRefIdeal.τ).loc Cert.FfnDwoRefIdeal.main_arg0)
          ∧ r.2.mem ((c.tc : Thread Cert.FfnDwoRefIdeal.nD Cert.FfnDwoRefIdeal.τ).loc Cert.FfnDwoRefIdeal.main_arg1) = m' ((c.tc : Thread Cert.FfnDwoRefIdeal.nD Cert.FfnDwoRefIdeal.τ).loc Cert.FfnDwoRefIdeal.main_arg1))

def preserves_FfnTwo_FfnTwoIdeal : Prop :=
  True

def algebraic_FfnTwoIdeal_FfnTwoRefIdeal [hFfnTwoIdeal : Cert.FfnTwoIdeal.Facts] [hFfnTwoRefIdeal : Cert.FfnTwoRefIdeal.Facts] : Prop :=
  ∀ (m : (ℓ : Loc Cert.FfnTwoIdeal.nD Cert.FfnTwoIdeal.τ Cert.FfnTwoIdeal.sig) → Buf (Elt Ideal) ℓ) (g : Dev Cert.FfnTwoIdeal.nD → PrngReg)
    (m' : (ℓ : Loc Cert.FfnTwoRefIdeal.nD Cert.FfnTwoRefIdeal.τ Cert.FfnTwoRefIdeal.sig) → Buf (Elt Ideal) ℓ) (g' : Dev Cert.FfnTwoRefIdeal.nD → PrngReg), Pre_FfnTwoIdeal m →
    (∀ c : Dev Cert.FfnTwoIdeal.nD,
      m' ((c.tc : Thread Cert.FfnTwoRefIdeal.nD Cert.FfnTwoRefIdeal.τ).loc Cert.FfnTwoRefIdeal.main_arg0) = m ((c.tc : Thread Cert.FfnTwoIdeal.nD Cert.FfnTwoIdeal.τ).loc Cert.FfnTwoIdeal.main_arg0)
      ∧ m' ((c.tc : Thread Cert.FfnTwoRefIdeal.nD Cert.FfnTwoRefIdeal.τ).loc Cert.FfnTwoRefIdeal.main_arg1) = m ((c.tc : Thread Cert.FfnTwoIdeal.nD Cert.FfnTwoIdeal.τ).loc Cert.FfnTwoIdeal.main_arg1)) →
    ∃ (v0 : (c : Dev Cert.FfnTwoIdeal.nD) → Buf (Elt Ideal) ((c.tc : Thread Cert.FfnTwoIdeal.nD Cert.FfnTwoIdeal.τ).loc Cert.FfnTwoIdeal.main_v3_0)) (v1 : (c : Dev Cert.FfnTwoIdeal.nD) → Buf (Elt Ideal) ((c.tc : Thread Cert.FfnTwoIdeal.nD Cert.FfnTwoIdeal.τ).loc Cert.FfnTwoIdeal.main_v3_1)),
      θ_run (Cert.FfnTwoIdeal.defs (F := Ideal)) (onTc (τ := Cert.FfnTwoIdeal.τ) (Cert.FfnTwoIdeal.main (F := Ideal))) ⟨m, fun _ => 0, g⟩ (fun r => ∀ c : Dev Cert.FfnTwoIdeal.nD,
          r.2.mem ((c.tc : Thread Cert.FfnTwoIdeal.nD Cert.FfnTwoIdeal.τ).loc Cert.FfnTwoIdeal.main_v3_0) = v0 c
          ∧ r.2.mem ((c.tc : Thread Cert.FfnTwoIdeal.nD Cert.FfnTwoIdeal.τ).loc Cert.FfnTwoIdeal.main_v3_1) = v1 c
          ∧ r.2.mem ((c.tc : Thread Cert.FfnTwoIdeal.nD Cert.FfnTwoIdeal.τ).loc Cert.FfnTwoIdeal.main_arg0) = m ((c.tc : Thread Cert.FfnTwoIdeal.nD Cert.FfnTwoIdeal.τ).loc Cert.FfnTwoIdeal.main_arg0)
          ∧ r.2.mem ((c.tc : Thread Cert.FfnTwoIdeal.nD Cert.FfnTwoIdeal.τ).loc Cert.FfnTwoIdeal.main_arg1) = m ((c.tc : Thread Cert.FfnTwoIdeal.nD Cert.FfnTwoIdeal.τ).loc Cert.FfnTwoIdeal.main_arg1))
      ∧ θ_run (Cert.FfnTwoRefIdeal.defs (F := Ideal)) (onTc (τ := Cert.FfnTwoRefIdeal.τ) (Cert.FfnTwoRefIdeal.main (F := Ideal))) ⟨m', fun _ => 0, g'⟩ (fun r => ∀ c : Dev Cert.FfnTwoRefIdeal.nD,
          r.2.mem ((c.tc : Thread Cert.FfnTwoRefIdeal.nD Cert.FfnTwoRefIdeal.τ).loc Cert.FfnTwoRefIdeal.main_v2) = v0 c
          ∧ r.2.mem ((c.tc : Thread Cert.FfnTwoRefIdeal.nD Cert.FfnTwoRefIdeal.τ).loc Cert.FfnTwoRefIdeal.main_v7) = v1 c
          ∧ r.2.mem ((c.tc : Thread Cert.FfnTwoRefIdeal.nD Cert.FfnTwoRefIdeal.τ).loc Cert.FfnTwoRefIdeal.main_arg0) = m' ((c.tc : Thread Cert.FfnTwoRefIdeal.nD Cert.FfnTwoRefIdeal.τ).loc Cert.FfnTwoRefIdeal.main_arg0)
          ∧ r.2.mem ((c.tc : Thread Cert.FfnTwoRefIdeal.nD Cert.FfnTwoRefIdeal.τ).loc Cert.FfnTwoRefIdeal.main_arg1) = m' ((c.tc : Thread Cert.FfnTwoRefIdeal.nD Cert.FfnTwoRefIdeal.τ).loc Cert.FfnTwoRefIdeal.main_arg1))

def preserves_FfnTwoDwi_FfnTwoDwiIdeal : Prop :=
  True

def algebraic_FfnTwoDwiIdeal_FfnTwoDwiRefIdeal [hFfnTwoDwiIdeal : Cert.FfnTwoDwiIdeal.Facts] [hFfnTwoDwiRefIdeal : Cert.FfnTwoDwiRefIdeal.Facts] : Prop :=
  ∀ (m : (ℓ : Loc Cert.FfnTwoDwiIdeal.nD Cert.FfnTwoDwiIdeal.τ Cert.FfnTwoDwiIdeal.sig) → Buf (Elt Ideal) ℓ) (g : Dev Cert.FfnTwoDwiIdeal.nD → PrngReg)
    (m' : (ℓ : Loc Cert.FfnTwoDwiRefIdeal.nD Cert.FfnTwoDwiRefIdeal.τ Cert.FfnTwoDwiRefIdeal.sig) → Buf (Elt Ideal) ℓ) (g' : Dev Cert.FfnTwoDwiRefIdeal.nD → PrngReg), Pre_FfnTwoDwiIdeal m →
    (∀ c : Dev Cert.FfnTwoDwiIdeal.nD,
      m' ((c.tc : Thread Cert.FfnTwoDwiRefIdeal.nD Cert.FfnTwoDwiRefIdeal.τ).loc Cert.FfnTwoDwiRefIdeal.main_arg0) = m ((c.tc : Thread Cert.FfnTwoDwiIdeal.nD Cert.FfnTwoDwiIdeal.τ).loc Cert.FfnTwoDwiIdeal.main_arg0)
      ∧ m' ((c.tc : Thread Cert.FfnTwoDwiRefIdeal.nD Cert.FfnTwoDwiRefIdeal.τ).loc Cert.FfnTwoDwiRefIdeal.main_arg1) = m ((c.tc : Thread Cert.FfnTwoDwiIdeal.nD Cert.FfnTwoDwiIdeal.τ).loc Cert.FfnTwoDwiIdeal.main_arg1)) →
    ∃ (v0 : (c : Dev Cert.FfnTwoDwiIdeal.nD) → Buf (Elt Ideal) ((c.tc : Thread Cert.FfnTwoDwiIdeal.nD Cert.FfnTwoDwiIdeal.τ).loc Cert.FfnTwoDwiIdeal.main_v0)),
      θ_run (Cert.FfnTwoDwiIdeal.defs (F := Ideal)) (onTc (τ := Cert.FfnTwoDwiIdeal.τ) (Cert.FfnTwoDwiIdeal.main (F := Ideal))) ⟨m, fun _ => 0, g⟩ (fun r => ∀ c : Dev Cert.FfnTwoDwiIdeal.nD,
          r.2.mem ((c.tc : Thread Cert.FfnTwoDwiIdeal.nD Cert.FfnTwoDwiIdeal.τ).loc Cert.FfnTwoDwiIdeal.main_v0) = v0 c
          ∧ r.2.mem ((c.tc : Thread Cert.FfnTwoDwiIdeal.nD Cert.FfnTwoDwiIdeal.τ).loc Cert.FfnTwoDwiIdeal.main_arg0) = m ((c.tc : Thread Cert.FfnTwoDwiIdeal.nD Cert.FfnTwoDwiIdeal.τ).loc Cert.FfnTwoDwiIdeal.main_arg0)
          ∧ r.2.mem ((c.tc : Thread Cert.FfnTwoDwiIdeal.nD Cert.FfnTwoDwiIdeal.τ).loc Cert.FfnTwoDwiIdeal.main_arg1) = m ((c.tc : Thread Cert.FfnTwoDwiIdeal.nD Cert.FfnTwoDwiIdeal.τ).loc Cert.FfnTwoDwiIdeal.main_arg1))
      ∧ θ_run (Cert.FfnTwoDwiRefIdeal.defs (F := Ideal)) (onTc (τ := Cert.FfnTwoDwiRefIdeal.τ) (Cert.FfnTwoDwiRefIdeal.main (F := Ideal))) ⟨m', fun _ => 0, g'⟩ (fun r => ∀ c : Dev Cert.FfnTwoDwiRefIdeal.nD,
          r.2.mem ((c.tc : Thread Cert.FfnTwoDwiRefIdeal.nD Cert.FfnTwoDwiRefIdeal.τ).loc Cert.FfnTwoDwiRefIdeal.main_v8) = v0 c
          ∧ r.2.mem ((c.tc : Thread Cert.FfnTwoDwiRefIdeal.nD Cert.FfnTwoDwiRefIdeal.τ).loc Cert.FfnTwoDwiRefIdeal.main_arg0) = m' ((c.tc : Thread Cert.FfnTwoDwiRefIdeal.nD Cert.FfnTwoDwiRefIdeal.τ).loc Cert.FfnTwoDwiRefIdeal.main_arg0)
          ∧ r.2.mem ((c.tc : Thread Cert.FfnTwoDwiRefIdeal.nD Cert.FfnTwoDwiRefIdeal.τ).loc Cert.FfnTwoDwiRefIdeal.main_arg1) = m' ((c.tc : Thread Cert.FfnTwoDwiRefIdeal.nD Cert.FfnTwoDwiRefIdeal.τ).loc Cert.FfnTwoDwiRefIdeal.main_arg1))

def preserves_ProjIn_ProjInIdeal : Prop :=
  True

def algebraic_ProjInIdeal_ProjInRefIdeal [hProjInIdeal : Cert.ProjInIdeal.Facts] [hProjInRefIdeal : Cert.ProjInRefIdeal.Facts] : Prop :=
  ∀ (m : (ℓ : Loc Cert.ProjInIdeal.nD Cert.ProjInIdeal.τ Cert.ProjInIdeal.sig) → Buf (Elt Ideal) ℓ) (g : Dev Cert.ProjInIdeal.nD → PrngReg)
    (m' : (ℓ : Loc Cert.ProjInRefIdeal.nD Cert.ProjInRefIdeal.τ Cert.ProjInRefIdeal.sig) → Buf (Elt Ideal) ℓ) (g' : Dev Cert.ProjInRefIdeal.nD → PrngReg), Pre_ProjInIdeal m →
    (∀ c : Dev Cert.ProjInIdeal.nD,
      m' ((c.tc : Thread Cert.ProjInRefIdeal.nD Cert.ProjInRefIdeal.τ).loc Cert.ProjInRefIdeal.main_arg0) = m ((c.tc : Thread Cert.ProjInIdeal.nD Cert.ProjInIdeal.τ).loc Cert.ProjInIdeal.main_arg0)
      ∧ m' ((c.tc : Thread Cert.ProjInRefIdeal.nD Cert.ProjInRefIdeal.τ).loc Cert.ProjInRefIdeal.main_arg1) = m ((c.tc : Thread Cert.ProjInIdeal.nD Cert.ProjInIdeal.τ).loc Cert.ProjInIdeal.main_arg1)) →
    ∃ (v0 : (c : Dev Cert.ProjInIdeal.nD) → Buf (Elt Ideal) ((c.tc : Thread Cert.ProjInIdeal.nD Cert.ProjInIdeal.τ).loc Cert.ProjInIdeal.main_v5)),
      θ_run (Cert.ProjInIdeal.defs (F := Ideal)) (onTc (τ := Cert.ProjInIdeal.τ) (Cert.ProjInIdeal.main (F := Ideal))) ⟨m, fun _ => 0, g⟩ (fun r => ∀ c : Dev Cert.ProjInIdeal.nD,
          r.2.mem ((c.tc : Thread Cert.ProjInIdeal.nD Cert.ProjInIdeal.τ).loc Cert.ProjInIdeal.main_v5) = v0 c
          ∧ r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
          ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1))
      ∧ θ_run (Cert.ProjInRefIdeal.defs (F := Ideal)) (onTc (τ := Cert.ProjInRefIdeal.τ) (Cert.ProjInRefIdeal.main (F := Ideal))) ⟨m', fun _ => 0, g'⟩ (fun r => ∀ c : Dev Cert.ProjInRefIdeal.nD,
          r.2.mem ((c.tc : Thread Cert.ProjInRefIdeal.nD Cert.ProjInRefIdeal.τ).loc Cert.ProjInRefIdeal.main_v5) = v0 c
          ∧ r.2.mem ((c.tc : Thread Cert.ProjInRefIdeal.nD Cert.ProjInRefIdeal.τ).loc Cert.ProjInRefIdeal.main_arg0) = m' ((c.tc : Thread Cert.ProjInRefIdeal.nD Cert.ProjInRefIdeal.τ).loc Cert.ProjInRefIdeal.main_arg0)
          ∧ r.2.mem ((c.tc : Thread Cert.ProjInRefIdeal.nD Cert.ProjInRefIdeal.τ).loc Cert.ProjInRefIdeal.main_arg1) = m' ((c.tc : Thread Cert.ProjInRefIdeal.nD Cert.ProjInRefIdeal.τ).loc Cert.ProjInRefIdeal.main_arg1))

def preserves_ProjDws_ProjDwsIdeal : Prop :=
  True

def algebraic_ProjDwsIdeal_ProjDwsRefIdeal [hProjDwsIdeal : Cert.ProjDwsIdeal.Facts] [hProjDwsRefIdeal : Cert.ProjDwsRefIdeal.Facts] : Prop :=
  ∀ (m : (ℓ : Loc Cert.ProjDwsIdeal.nD Cert.ProjDwsIdeal.τ Cert.ProjDwsIdeal.sig) → Buf (Elt Ideal) ℓ) (g : Dev Cert.ProjDwsIdeal.nD → PrngReg)
    (m' : (ℓ : Loc Cert.ProjDwsRefIdeal.nD Cert.ProjDwsRefIdeal.τ Cert.ProjDwsRefIdeal.sig) → Buf (Elt Ideal) ℓ) (g' : Dev Cert.ProjDwsRefIdeal.nD → PrngReg), Pre_ProjDwsIdeal m →
    (∀ c : Dev Cert.ProjDwsIdeal.nD,
      m' ((c.tc : Thread Cert.ProjDwsRefIdeal.nD Cert.ProjDwsRefIdeal.τ).loc Cert.ProjDwsRefIdeal.main_arg0) = m ((c.tc : Thread Cert.ProjDwsIdeal.nD Cert.ProjDwsIdeal.τ).loc Cert.ProjDwsIdeal.main_arg0)
      ∧ m' ((c.tc : Thread Cert.ProjDwsRefIdeal.nD Cert.ProjDwsRefIdeal.τ).loc Cert.ProjDwsRefIdeal.main_arg1) = m ((c.tc : Thread Cert.ProjDwsIdeal.nD Cert.ProjDwsIdeal.τ).loc Cert.ProjDwsIdeal.main_arg1)) →
    ∃ (v0 : (c : Dev Cert.ProjDwsIdeal.nD) → Buf (Elt Ideal) ((c.tc : Thread Cert.ProjDwsIdeal.nD Cert.ProjDwsIdeal.τ).loc Cert.ProjDwsIdeal.main_v0)),
      θ_run (Cert.ProjDwsIdeal.defs (F := Ideal)) (onTc (τ := Cert.ProjDwsIdeal.τ) (Cert.ProjDwsIdeal.main (F := Ideal))) ⟨m, fun _ => 0, g⟩ (fun r => ∀ c : Dev Cert.ProjDwsIdeal.nD,
          r.2.mem ((c.tc : Thread Cert.ProjDwsIdeal.nD Cert.ProjDwsIdeal.τ).loc Cert.ProjDwsIdeal.main_v0) = v0 c
          ∧ r.2.mem ((c.tc : Thread Cert.ProjDwsIdeal.nD Cert.ProjDwsIdeal.τ).loc Cert.ProjDwsIdeal.main_arg0) = m ((c.tc : Thread Cert.ProjDwsIdeal.nD Cert.ProjDwsIdeal.τ).loc Cert.ProjDwsIdeal.main_arg0)
          ∧ r.2.mem ((c.tc : Thread Cert.ProjDwsIdeal.nD Cert.ProjDwsIdeal.τ).loc Cert.ProjDwsIdeal.main_arg1) = m ((c.tc : Thread Cert.ProjDwsIdeal.nD Cert.ProjDwsIdeal.τ).loc Cert.ProjDwsIdeal.main_arg1))
      ∧ θ_run (Cert.ProjDwsRefIdeal.defs (F := Ideal)) (onTc (τ := Cert.ProjDwsRefIdeal.τ) (Cert.ProjDwsRefIdeal.main (F := Ideal))) ⟨m', fun _ => 0, g'⟩ (fun r => ∀ c : Dev Cert.ProjDwsRefIdeal.nD,
          r.2.mem ((c.tc : Thread Cert.ProjDwsRefIdeal.nD Cert.ProjDwsRefIdeal.τ).loc Cert.ProjDwsRefIdeal.main_v6) = v0 c
          ∧ r.2.mem ((c.tc : Thread Cert.ProjDwsRefIdeal.nD Cert.ProjDwsRefIdeal.τ).loc Cert.ProjDwsRefIdeal.main_arg0) = m' ((c.tc : Thread Cert.ProjDwsRefIdeal.nD Cert.ProjDwsRefIdeal.τ).loc Cert.ProjDwsRefIdeal.main_arg0)
          ∧ r.2.mem ((c.tc : Thread Cert.ProjDwsRefIdeal.nD Cert.ProjDwsRefIdeal.τ).loc Cert.ProjDwsRefIdeal.main_arg1) = m' ((c.tc : Thread Cert.ProjDwsRefIdeal.nD Cert.ProjDwsRefIdeal.τ).loc Cert.ProjDwsRefIdeal.main_arg1))

def preserves_ProjDwc_ProjDwcIdeal : Prop :=
  True

def algebraic_ProjDwcIdeal_ProjDwcRefIdeal [hProjDwcIdeal : Cert.ProjDwcIdeal.Facts] [hProjDwcRefIdeal : Cert.ProjDwcRefIdeal.Facts] : Prop :=
  ∀ (m : (ℓ : Loc Cert.ProjDwcIdeal.nD Cert.ProjDwcIdeal.τ Cert.ProjDwcIdeal.sig) → Buf (Elt Ideal) ℓ) (g : Dev Cert.ProjDwcIdeal.nD → PrngReg)
    (m' : (ℓ : Loc Cert.ProjDwcRefIdeal.nD Cert.ProjDwcRefIdeal.τ Cert.ProjDwcRefIdeal.sig) → Buf (Elt Ideal) ℓ) (g' : Dev Cert.ProjDwcRefIdeal.nD → PrngReg), Pre_ProjDwcIdeal m →
    (∀ c : Dev Cert.ProjDwcIdeal.nD,
      m' ((c.tc : Thread Cert.ProjDwcRefIdeal.nD Cert.ProjDwcRefIdeal.τ).loc Cert.ProjDwcRefIdeal.main_arg0) = m ((c.tc : Thread Cert.ProjDwcIdeal.nD Cert.ProjDwcIdeal.τ).loc Cert.ProjDwcIdeal.main_arg0)
      ∧ m' ((c.tc : Thread Cert.ProjDwcRefIdeal.nD Cert.ProjDwcRefIdeal.τ).loc Cert.ProjDwcRefIdeal.main_arg1) = m ((c.tc : Thread Cert.ProjDwcIdeal.nD Cert.ProjDwcIdeal.τ).loc Cert.ProjDwcIdeal.main_arg1)) →
    ∃ (v0 : (c : Dev Cert.ProjDwcIdeal.nD) → Buf (Elt Ideal) ((c.tc : Thread Cert.ProjDwcIdeal.nD Cert.ProjDwcIdeal.τ).loc Cert.ProjDwcIdeal.main_v0)),
      θ_run (Cert.ProjDwcIdeal.defs (F := Ideal)) (onTc (τ := Cert.ProjDwcIdeal.τ) (Cert.ProjDwcIdeal.main (F := Ideal))) ⟨m, fun _ => 0, g⟩ (fun r => ∀ c : Dev Cert.ProjDwcIdeal.nD,
          r.2.mem ((c.tc : Thread Cert.ProjDwcIdeal.nD Cert.ProjDwcIdeal.τ).loc Cert.ProjDwcIdeal.main_v0) = v0 c
          ∧ r.2.mem ((c.tc : Thread Cert.ProjDwcIdeal.nD Cert.ProjDwcIdeal.τ).loc Cert.ProjDwcIdeal.main_arg0) = m ((c.tc : Thread Cert.ProjDwcIdeal.nD Cert.ProjDwcIdeal.τ).loc Cert.ProjDwcIdeal.main_arg0)
          ∧ r.2.mem ((c.tc : Thread Cert.ProjDwcIdeal.nD Cert.ProjDwcIdeal.τ).loc Cert.ProjDwcIdeal.main_arg1) = m ((c.tc : Thread Cert.ProjDwcIdeal.nD Cert.ProjDwcIdeal.τ).loc Cert.ProjDwcIdeal.main_arg1))
      ∧ θ_run (Cert.ProjDwcRefIdeal.defs (F := Ideal)) (onTc (τ := Cert.ProjDwcRefIdeal.τ) (Cert.ProjDwcRefIdeal.main (F := Ideal))) ⟨m', fun _ => 0, g'⟩ (fun r => ∀ c : Dev Cert.ProjDwcRefIdeal.nD,
          r.2.mem ((c.tc : Thread Cert.ProjDwcRefIdeal.nD Cert.ProjDwcRefIdeal.τ).loc Cert.ProjDwcRefIdeal.main_v6) = v0 c
          ∧ r.2.mem ((c.tc : Thread Cert.ProjDwcRefIdeal.nD Cert.ProjDwcRefIdeal.τ).loc Cert.ProjDwcRefIdeal.main_arg0) = m' ((c.tc : Thread Cert.ProjDwcRefIdeal.nD Cert.ProjDwcRefIdeal.τ).loc Cert.ProjDwcRefIdeal.main_arg0)
          ∧ r.2.mem ((c.tc : Thread Cert.ProjDwcRefIdeal.nD Cert.ProjDwcRefIdeal.τ).loc Cert.ProjDwcRefIdeal.main_arg1) = m' ((c.tc : Thread Cert.ProjDwcRefIdeal.nD Cert.ProjDwcRefIdeal.τ).loc Cert.ProjDwcRefIdeal.main_arg1))

def preserves_ProjDx_ProjDxIdeal : Prop :=
  True

def algebraic_ProjDxIdeal_ProjDxRefIdeal [hProjDxIdeal : Cert.ProjDxIdeal.Facts] [hProjDxRefIdeal : Cert.ProjDxRefIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg)
    (m' : (ℓ : Loc Cert.ProjDxRefIdeal.nD Cert.ProjDxRefIdeal.τ Cert.ProjDxRefIdeal.sig) → Buf (Elt Ideal) ℓ) (g' : Dev Cert.ProjDxRefIdeal.nD → PrngReg), Pre_ProjDxIdeal m →
    (∀ c : Dev Cert.ProjDxIdeal.nD,
      m' ((c.tc : Thread Cert.ProjDxRefIdeal.nD Cert.ProjDxRefIdeal.τ).loc Cert.ProjDxRefIdeal.main_arg0) = m ((c.tc : Thread Cert.ProjDxIdeal.nD Cert.ProjDxIdeal.τ).loc Cert.ProjDxIdeal.main_arg0)
      ∧ m' ((c.tc : Thread Cert.ProjDxRefIdeal.nD Cert.ProjDxRefIdeal.τ).loc Cert.ProjDxRefIdeal.main_arg1) = m ((c.tc : Thread Cert.ProjDxIdeal.nD Cert.ProjDxIdeal.τ).loc Cert.ProjDxIdeal.main_arg1)) →
    ∃ (v0 : (c : Dev Cert.ProjDxIdeal.nD) → Buf (Elt Ideal) ((c.tc : Thread Cert.ProjDxIdeal.nD Cert.ProjDxIdeal.τ).loc Cert.ProjDxIdeal.main_v1)),
      θ_run (Cert.ProjDxIdeal.defs (F := Ideal)) (onTc (τ := Cert.ProjDxIdeal.τ) (Cert.ProjDxIdeal.main (F := Ideal))) ⟨m, fun _ => 0, g⟩ (fun r => ∀ c : Dev Cert.ProjDxIdeal.nD,
          r.2.mem ((c.tc : Thread Cert.ProjDxIdeal.nD Cert.ProjDxIdeal.τ).loc Cert.ProjDxIdeal.main_v1) = v0 c
          ∧ r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
          ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1))
      ∧ θ_run (Cert.ProjDxRefIdeal.defs (F := Ideal)) (onTc (τ := Cert.ProjDxRefIdeal.τ) (Cert.ProjDxRefIdeal.main (F := Ideal))) ⟨m', fun _ => 0, g'⟩ (fun r => ∀ c : Dev Cert.ProjDxRefIdeal.nD,
          r.2.mem ((c.tc : Thread Cert.ProjDxRefIdeal.nD Cert.ProjDxRefIdeal.τ).loc Cert.ProjDxRefIdeal.main_v2) = v0 c
          ∧ r.2.mem ((c.tc : Thread Cert.ProjDxRefIdeal.nD Cert.ProjDxRefIdeal.τ).loc Cert.ProjDxRefIdeal.main_arg0) = m' ((c.tc : Thread Cert.ProjDxRefIdeal.nD Cert.ProjDxRefIdeal.τ).loc Cert.ProjDxRefIdeal.main_arg0)
          ∧ r.2.mem ((c.tc : Thread Cert.ProjDxRefIdeal.nD Cert.ProjDxRefIdeal.τ).loc Cert.ProjDxRefIdeal.main_arg1) = m' ((c.tc : Thread Cert.ProjDxRefIdeal.nD Cert.ProjDxRefIdeal.τ).loc Cert.ProjDxRefIdeal.main_arg1))

def preserves_ProjDwo_ProjDwoIdeal : Prop :=
  True

def algebraic_ProjDwoIdeal_ProjDwoRefIdeal [hProjDwoIdeal : Cert.ProjDwoIdeal.Facts] [hProjDwoRefIdeal : Cert.ProjDwoRefIdeal.Facts] : Prop :=
  ∀ (m : (ℓ : Loc Cert.ProjDwoIdeal.nD Cert.ProjDwoIdeal.τ Cert.ProjDwoIdeal.sig) → Buf (Elt Ideal) ℓ) (g : Dev Cert.ProjDwoIdeal.nD → PrngReg)
    (m' : (ℓ : Loc Cert.ProjDwoRefIdeal.nD Cert.ProjDwoRefIdeal.τ Cert.ProjDwoRefIdeal.sig) → Buf (Elt Ideal) ℓ) (g' : Dev Cert.ProjDwoRefIdeal.nD → PrngReg), Pre_ProjDwoIdeal m →
    (∀ c : Dev Cert.ProjDwoIdeal.nD,
      m' ((c.tc : Thread Cert.ProjDwoRefIdeal.nD Cert.ProjDwoRefIdeal.τ).loc Cert.ProjDwoRefIdeal.main_arg0) = m ((c.tc : Thread Cert.ProjDwoIdeal.nD Cert.ProjDwoIdeal.τ).loc Cert.ProjDwoIdeal.main_arg0)
      ∧ m' ((c.tc : Thread Cert.ProjDwoRefIdeal.nD Cert.ProjDwoRefIdeal.τ).loc Cert.ProjDwoRefIdeal.main_arg1) = m ((c.tc : Thread Cert.ProjDwoIdeal.nD Cert.ProjDwoIdeal.τ).loc Cert.ProjDwoIdeal.main_arg1)) →
    ∃ (v0 : (c : Dev Cert.ProjDwoIdeal.nD) → Buf (Elt Ideal) ((c.tc : Thread Cert.ProjDwoIdeal.nD Cert.ProjDwoIdeal.τ).loc Cert.ProjDwoIdeal.main_v0)),
      θ_run (Cert.ProjDwoIdeal.defs (F := Ideal)) (onTc (τ := Cert.ProjDwoIdeal.τ) (Cert.ProjDwoIdeal.main (F := Ideal))) ⟨m, fun _ => 0, g⟩ (fun r => ∀ c : Dev Cert.ProjDwoIdeal.nD,
          r.2.mem ((c.tc : Thread Cert.ProjDwoIdeal.nD Cert.ProjDwoIdeal.τ).loc Cert.ProjDwoIdeal.main_v0) = v0 c
          ∧ r.2.mem ((c.tc : Thread Cert.ProjDwoIdeal.nD Cert.ProjDwoIdeal.τ).loc Cert.ProjDwoIdeal.main_arg0) = m ((c.tc : Thread Cert.ProjDwoIdeal.nD Cert.ProjDwoIdeal.τ).loc Cert.ProjDwoIdeal.main_arg0)
          ∧ r.2.mem ((c.tc : Thread Cert.ProjDwoIdeal.nD Cert.ProjDwoIdeal.τ).loc Cert.ProjDwoIdeal.main_arg1) = m ((c.tc : Thread Cert.ProjDwoIdeal.nD Cert.ProjDwoIdeal.τ).loc Cert.ProjDwoIdeal.main_arg1))
      ∧ θ_run (Cert.ProjDwoRefIdeal.defs (F := Ideal)) (onTc (τ := Cert.ProjDwoRefIdeal.τ) (Cert.ProjDwoRefIdeal.main (F := Ideal))) ⟨m', fun _ => 0, g'⟩ (fun r => ∀ c : Dev Cert.ProjDwoRefIdeal.nD,
          r.2.mem ((c.tc : Thread Cert.ProjDwoRefIdeal.nD Cert.ProjDwoRefIdeal.τ).loc Cert.ProjDwoRefIdeal.main_v5) = v0 c
          ∧ r.2.mem ((c.tc : Thread Cert.ProjDwoRefIdeal.nD Cert.ProjDwoRefIdeal.τ).loc Cert.ProjDwoRefIdeal.main_arg0) = m' ((c.tc : Thread Cert.ProjDwoRefIdeal.nD Cert.ProjDwoRefIdeal.τ).loc Cert.ProjDwoRefIdeal.main_arg0)
          ∧ r.2.mem ((c.tc : Thread Cert.ProjDwoRefIdeal.nD Cert.ProjDwoRefIdeal.τ).loc Cert.ProjDwoRefIdeal.main_arg1) = m' ((c.tc : Thread Cert.ProjDwoRefIdeal.nD Cert.ProjDwoRefIdeal.τ).loc Cert.ProjDwoRefIdeal.main_arg1))

def preserves_FfnLn_FfnLnIdeal : Prop :=
  True

def algebraic_FfnLnIdeal_FfnLnRefIdeal [hFfnLnIdeal : Cert.FfnLnIdeal.Facts] [hFfnLnRefIdeal : Cert.FfnLnRefIdeal.Facts] : Prop :=
  ∀ (m : (ℓ : Loc Cert.FfnLnIdeal.nD Cert.FfnLnIdeal.τ Cert.FfnLnIdeal.sig) → Buf (Elt Ideal) ℓ) (g : Dev Cert.FfnLnIdeal.nD → PrngReg)
    (m' : (ℓ : Loc Cert.FfnLnRefIdeal.nD Cert.FfnLnRefIdeal.τ Cert.FfnLnRefIdeal.sig) → Buf (Elt Ideal) ℓ) (g' : Dev Cert.FfnLnRefIdeal.nD → PrngReg), Pre_FfnLnIdeal m →
    (∀ c : Dev Cert.FfnLnIdeal.nD,
      m' ((c.tc : Thread Cert.FfnLnRefIdeal.nD Cert.FfnLnRefIdeal.τ).loc Cert.FfnLnRefIdeal.main_arg0) = m ((c.tc : Thread Cert.FfnLnIdeal.nD Cert.FfnLnIdeal.τ).loc Cert.FfnLnIdeal.main_arg0)
      ∧ m' ((c.tc : Thread Cert.FfnLnRefIdeal.nD Cert.FfnLnRefIdeal.τ).loc Cert.FfnLnRefIdeal.main_arg1) = m ((c.tc : Thread Cert.FfnLnIdeal.nD Cert.FfnLnIdeal.τ).loc Cert.FfnLnIdeal.main_arg1)
      ∧ m' ((c.tc : Thread Cert.FfnLnRefIdeal.nD Cert.FfnLnRefIdeal.τ).loc Cert.FfnLnRefIdeal.main_arg2) = m ((c.tc : Thread Cert.FfnLnIdeal.nD Cert.FfnLnIdeal.τ).loc Cert.FfnLnIdeal.main_arg2)
      ∧ m' ((c.tc : Thread Cert.FfnLnRefIdeal.nD Cert.FfnLnRefIdeal.τ).loc Cert.FfnLnRefIdeal.main_arg3) = m ((c.tc : Thread Cert.FfnLnIdeal.nD Cert.FfnLnIdeal.τ).loc Cert.FfnLnIdeal.main_arg3)
      ∧ m' ((c.tc : Thread Cert.FfnLnRefIdeal.nD Cert.FfnLnRefIdeal.τ).loc Cert.FfnLnRefIdeal.main_arg4) = m ((c.tc : Thread Cert.FfnLnIdeal.nD Cert.FfnLnIdeal.τ).loc Cert.FfnLnIdeal.main_arg4)) →
    ∃ (v0 : (c : Dev Cert.FfnLnIdeal.nD) → Buf (Elt Ideal) ((c.tc : Thread Cert.FfnLnIdeal.nD Cert.FfnLnIdeal.τ).loc Cert.FfnLnIdeal.main_v3_0)) (v1 : (c : Dev Cert.FfnLnIdeal.nD) → Buf (Elt Ideal) ((c.tc : Thread Cert.FfnLnIdeal.nD Cert.FfnLnIdeal.τ).loc Cert.FfnLnIdeal.main_v3_1)) (v2 : (c : Dev Cert.FfnLnIdeal.nD) → Buf (Elt Ideal) ((c.tc : Thread Cert.FfnLnIdeal.nD Cert.FfnLnIdeal.τ).loc Cert.FfnLnIdeal.main_v3_2)),
      θ_run (Cert.FfnLnIdeal.defs (F := Ideal)) (onTc (τ := Cert.FfnLnIdeal.τ) (Cert.FfnLnIdeal.main (F := Ideal))) ⟨m, fun _ => 0, g⟩ (fun r => ∀ c : Dev Cert.FfnLnIdeal.nD,
          r.2.mem ((c.tc : Thread Cert.FfnLnIdeal.nD Cert.FfnLnIdeal.τ).loc Cert.FfnLnIdeal.main_v3_0) = v0 c
          ∧ r.2.mem ((c.tc : Thread Cert.FfnLnIdeal.nD Cert.FfnLnIdeal.τ).loc Cert.FfnLnIdeal.main_v3_1) = v1 c
          ∧ r.2.mem ((c.tc : Thread Cert.FfnLnIdeal.nD Cert.FfnLnIdeal.τ).loc Cert.FfnLnIdeal.main_v3_2) = v2 c
          ∧ r.2.mem ((c.tc : Thread Cert.FfnLnIdeal.nD Cert.FfnLnIdeal.τ).loc Cert.FfnLnIdeal.main_arg0) = m ((c.tc : Thread Cert.FfnLnIdeal.nD Cert.FfnLnIdeal.τ).loc Cert.FfnLnIdeal.main_arg0)
          ∧ r.2.mem ((c.tc : Thread Cert.FfnLnIdeal.nD Cert.FfnLnIdeal.τ).loc Cert.FfnLnIdeal.main_arg1) = m ((c.tc : Thread Cert.FfnLnIdeal.nD Cert.FfnLnIdeal.τ).loc Cert.FfnLnIdeal.main_arg1)
          ∧ r.2.mem ((c.tc : Thread Cert.FfnLnIdeal.nD Cert.FfnLnIdeal.τ).loc Cert.FfnLnIdeal.main_arg2) = m ((c.tc : Thread Cert.FfnLnIdeal.nD Cert.FfnLnIdeal.τ).loc Cert.FfnLnIdeal.main_arg2)
          ∧ r.2.mem ((c.tc : Thread Cert.FfnLnIdeal.nD Cert.FfnLnIdeal.τ).loc Cert.FfnLnIdeal.main_arg3) = m ((c.tc : Thread Cert.FfnLnIdeal.nD Cert.FfnLnIdeal.τ).loc Cert.FfnLnIdeal.main_arg3)
          ∧ r.2.mem ((c.tc : Thread Cert.FfnLnIdeal.nD Cert.FfnLnIdeal.τ).loc Cert.FfnLnIdeal.main_arg4) = m ((c.tc : Thread Cert.FfnLnIdeal.nD Cert.FfnLnIdeal.τ).loc Cert.FfnLnIdeal.main_arg4))
      ∧ θ_run (Cert.FfnLnRefIdeal.defs (F := Ideal)) (onTc (τ := Cert.FfnLnRefIdeal.τ) (Cert.FfnLnRefIdeal.main (F := Ideal))) ⟨m', fun _ => 0, g'⟩ (fun r => ∀ c : Dev Cert.FfnLnRefIdeal.nD,
          r.2.mem ((c.tc : Thread Cert.FfnLnRefIdeal.nD Cert.FfnLnRefIdeal.τ).loc Cert.FfnLnRefIdeal.main_v6) = v0 c
          ∧ r.2.mem ((c.tc : Thread Cert.FfnLnRefIdeal.nD Cert.FfnLnRefIdeal.τ).loc Cert.FfnLnRefIdeal.main_v30) = v1 c
          ∧ r.2.mem ((c.tc : Thread Cert.FfnLnRefIdeal.nD Cert.FfnLnRefIdeal.τ).loc Cert.FfnLnRefIdeal.main_v31) = v2 c
          ∧ r.2.mem ((c.tc : Thread Cert.FfnLnRefIdeal.nD Cert.FfnLnRefIdeal.τ).loc Cert.FfnLnRefIdeal.main_arg0) = m' ((c.tc : Thread Cert.FfnLnRefIdeal.nD Cert.FfnLnRefIdeal.τ).loc Cert.FfnLnRefIdeal.main_arg0)
          ∧ r.2.mem ((c.tc : Thread Cert.FfnLnRefIdeal.nD Cert.FfnLnRefIdeal.τ).loc Cert.FfnLnRefIdeal.main_arg1) = m' ((c.tc : Thread Cert.FfnLnRefIdeal.nD Cert.FfnLnRefIdeal.τ).loc Cert.FfnLnRefIdeal.main_arg1)
          ∧ r.2.mem ((c.tc : Thread Cert.FfnLnRefIdeal.nD Cert.FfnLnRefIdeal.τ).loc Cert.FfnLnRefIdeal.main_arg2) = m' ((c.tc : Thread Cert.FfnLnRefIdeal.nD Cert.FfnLnRefIdeal.τ).loc Cert.FfnLnRefIdeal.main_arg2)
          ∧ r.2.mem ((c.tc : Thread Cert.FfnLnRefIdeal.nD Cert.FfnLnRefIdeal.τ).loc Cert.FfnLnRefIdeal.main_arg3) = m' ((c.tc : Thread Cert.FfnLnRefIdeal.nD Cert.FfnLnRefIdeal.τ).loc Cert.FfnLnRefIdeal.main_arg3)
          ∧ r.2.mem ((c.tc : Thread Cert.FfnLnRefIdeal.nD Cert.FfnLnRefIdeal.τ).loc Cert.FfnLnRefIdeal.main_arg4) = m' ((c.tc : Thread Cert.FfnLnRefIdeal.nD Cert.FfnLnRefIdeal.τ).loc Cert.FfnLnRefIdeal.main_arg4))

def preserves_ProjLn_ProjLnIdeal : Prop :=
  True

def algebraic_ProjLnIdeal_ProjLnRefIdeal [hProjLnIdeal : Cert.ProjLnIdeal.Facts] [hProjLnRefIdeal : Cert.ProjLnRefIdeal.Facts] : Prop :=
  ∀ (m : (ℓ : Loc Cert.ProjLnIdeal.nD Cert.ProjLnIdeal.τ Cert.ProjLnIdeal.sig) → Buf (Elt Ideal) ℓ) (g : Dev Cert.ProjLnIdeal.nD → PrngReg)
    (m' : (ℓ : Loc Cert.ProjLnRefIdeal.nD Cert.ProjLnRefIdeal.τ Cert.ProjLnRefIdeal.sig) → Buf (Elt Ideal) ℓ) (g' : Dev Cert.ProjLnRefIdeal.nD → PrngReg), Pre_ProjLnIdeal m →
    (∀ c : Dev Cert.ProjLnIdeal.nD,
      m' ((c.tc : Thread Cert.ProjLnRefIdeal.nD Cert.ProjLnRefIdeal.τ).loc Cert.ProjLnRefIdeal.main_arg0) = m ((c.tc : Thread Cert.ProjLnIdeal.nD Cert.ProjLnIdeal.τ).loc Cert.ProjLnIdeal.main_arg0)
      ∧ m' ((c.tc : Thread Cert.ProjLnRefIdeal.nD Cert.ProjLnRefIdeal.τ).loc Cert.ProjLnRefIdeal.main_arg1) = m ((c.tc : Thread Cert.ProjLnIdeal.nD Cert.ProjLnIdeal.τ).loc Cert.ProjLnIdeal.main_arg1)
      ∧ m' ((c.tc : Thread Cert.ProjLnRefIdeal.nD Cert.ProjLnRefIdeal.τ).loc Cert.ProjLnRefIdeal.main_arg2) = m ((c.tc : Thread Cert.ProjLnIdeal.nD Cert.ProjLnIdeal.τ).loc Cert.ProjLnIdeal.main_arg2)
      ∧ m' ((c.tc : Thread Cert.ProjLnRefIdeal.nD Cert.ProjLnRefIdeal.τ).loc Cert.ProjLnRefIdeal.main_arg3) = m ((c.tc : Thread Cert.ProjLnIdeal.nD Cert.ProjLnIdeal.τ).loc Cert.ProjLnIdeal.main_arg3)
      ∧ m' ((c.tc : Thread Cert.ProjLnRefIdeal.nD Cert.ProjLnRefIdeal.τ).loc Cert.ProjLnRefIdeal.main_arg4) = m ((c.tc : Thread Cert.ProjLnIdeal.nD Cert.ProjLnIdeal.τ).loc Cert.ProjLnIdeal.main_arg4)
      ∧ m' ((c.tc : Thread Cert.ProjLnRefIdeal.nD Cert.ProjLnRefIdeal.τ).loc Cert.ProjLnRefIdeal.main_arg5) = m ((c.tc : Thread Cert.ProjLnIdeal.nD Cert.ProjLnIdeal.τ).loc Cert.ProjLnIdeal.main_arg5)) →
    ∃ (v0 : (c : Dev Cert.ProjLnIdeal.nD) → Buf (Elt Ideal) ((c.tc : Thread Cert.ProjLnIdeal.nD Cert.ProjLnIdeal.τ).loc Cert.ProjLnIdeal.main_v3_0)) (v1 : (c : Dev Cert.ProjLnIdeal.nD) → Buf (Elt Ideal) ((c.tc : Thread Cert.ProjLnIdeal.nD Cert.ProjLnIdeal.τ).loc Cert.ProjLnIdeal.main_v3_1)) (v2 : (c : Dev Cert.ProjLnIdeal.nD) → Buf (Elt Ideal) ((c.tc : Thread Cert.ProjLnIdeal.nD Cert.ProjLnIdeal.τ).loc Cert.ProjLnIdeal.main_v3_2)),
      θ_run (Cert.ProjLnIdeal.defs (F := Ideal)) (onTc (τ := Cert.ProjLnIdeal.τ) (Cert.ProjLnIdeal.main (F := Ideal))) ⟨m, fun _ => 0, g⟩ (fun r => ∀ c : Dev Cert.ProjLnIdeal.nD,
          r.2.mem ((c.tc : Thread Cert.ProjLnIdeal.nD Cert.ProjLnIdeal.τ).loc Cert.ProjLnIdeal.main_v3_0) = v0 c
          ∧ r.2.mem ((c.tc : Thread Cert.ProjLnIdeal.nD Cert.ProjLnIdeal.τ).loc Cert.ProjLnIdeal.main_v3_1) = v1 c
          ∧ r.2.mem ((c.tc : Thread Cert.ProjLnIdeal.nD Cert.ProjLnIdeal.τ).loc Cert.ProjLnIdeal.main_v3_2) = v2 c
          ∧ r.2.mem ((c.tc : Thread Cert.ProjLnIdeal.nD Cert.ProjLnIdeal.τ).loc Cert.ProjLnIdeal.main_arg0) = m ((c.tc : Thread Cert.ProjLnIdeal.nD Cert.ProjLnIdeal.τ).loc Cert.ProjLnIdeal.main_arg0)
          ∧ r.2.mem ((c.tc : Thread Cert.ProjLnIdeal.nD Cert.ProjLnIdeal.τ).loc Cert.ProjLnIdeal.main_arg1) = m ((c.tc : Thread Cert.ProjLnIdeal.nD Cert.ProjLnIdeal.τ).loc Cert.ProjLnIdeal.main_arg1)
          ∧ r.2.mem ((c.tc : Thread Cert.ProjLnIdeal.nD Cert.ProjLnIdeal.τ).loc Cert.ProjLnIdeal.main_arg2) = m ((c.tc : Thread Cert.ProjLnIdeal.nD Cert.ProjLnIdeal.τ).loc Cert.ProjLnIdeal.main_arg2)
          ∧ r.2.mem ((c.tc : Thread Cert.ProjLnIdeal.nD Cert.ProjLnIdeal.τ).loc Cert.ProjLnIdeal.main_arg3) = m ((c.tc : Thread Cert.ProjLnIdeal.nD Cert.ProjLnIdeal.τ).loc Cert.ProjLnIdeal.main_arg3)
          ∧ r.2.mem ((c.tc : Thread Cert.ProjLnIdeal.nD Cert.ProjLnIdeal.τ).loc Cert.ProjLnIdeal.main_arg4) = m ((c.tc : Thread Cert.ProjLnIdeal.nD Cert.ProjLnIdeal.τ).loc Cert.ProjLnIdeal.main_arg4)
          ∧ r.2.mem ((c.tc : Thread Cert.ProjLnIdeal.nD Cert.ProjLnIdeal.τ).loc Cert.ProjLnIdeal.main_arg5) = m ((c.tc : Thread Cert.ProjLnIdeal.nD Cert.ProjLnIdeal.τ).loc Cert.ProjLnIdeal.main_arg5))
      ∧ θ_run (Cert.ProjLnRefIdeal.defs (F := Ideal)) (onTc (τ := Cert.ProjLnRefIdeal.τ) (Cert.ProjLnRefIdeal.main (F := Ideal))) ⟨m', fun _ => 0, g'⟩ (fun r => ∀ c : Dev Cert.ProjLnRefIdeal.nD,
          r.2.mem ((c.tc : Thread Cert.ProjLnRefIdeal.nD Cert.ProjLnRefIdeal.τ).loc Cert.ProjLnRefIdeal.main_v5) = v0 c
          ∧ r.2.mem ((c.tc : Thread Cert.ProjLnRefIdeal.nD Cert.ProjLnRefIdeal.τ).loc Cert.ProjLnRefIdeal.main_v29) = v1 c
          ∧ r.2.mem ((c.tc : Thread Cert.ProjLnRefIdeal.nD Cert.ProjLnRefIdeal.τ).loc Cert.ProjLnRefIdeal.main_v30) = v2 c
          ∧ r.2.mem ((c.tc : Thread Cert.ProjLnRefIdeal.nD Cert.ProjLnRefIdeal.τ).loc Cert.ProjLnRefIdeal.main_arg0) = m' ((c.tc : Thread Cert.ProjLnRefIdeal.nD Cert.ProjLnRefIdeal.τ).loc Cert.ProjLnRefIdeal.main_arg0)
          ∧ r.2.mem ((c.tc : Thread Cert.ProjLnRefIdeal.nD Cert.ProjLnRefIdeal.τ).loc Cert.ProjLnRefIdeal.main_arg1) = m' ((c.tc : Thread Cert.ProjLnRefIdeal.nD Cert.ProjLnRefIdeal.τ).loc Cert.ProjLnRefIdeal.main_arg1)
          ∧ r.2.mem ((c.tc : Thread Cert.ProjLnRefIdeal.nD Cert.ProjLnRefIdeal.τ).loc Cert.ProjLnRefIdeal.main_arg2) = m' ((c.tc : Thread Cert.ProjLnRefIdeal.nD Cert.ProjLnRefIdeal.τ).loc Cert.ProjLnRefIdeal.main_arg2)
          ∧ r.2.mem ((c.tc : Thread Cert.ProjLnRefIdeal.nD Cert.ProjLnRefIdeal.τ).loc Cert.ProjLnRefIdeal.main_arg3) = m' ((c.tc : Thread Cert.ProjLnRefIdeal.nD Cert.ProjLnRefIdeal.τ).loc Cert.ProjLnRefIdeal.main_arg3)
          ∧ r.2.mem ((c.tc : Thread Cert.ProjLnRefIdeal.nD Cert.ProjLnRefIdeal.τ).loc Cert.ProjLnRefIdeal.main_arg4) = m' ((c.tc : Thread Cert.ProjLnRefIdeal.nD Cert.ProjLnRefIdeal.τ).loc Cert.ProjLnRefIdeal.main_arg4)
          ∧ r.2.mem ((c.tc : Thread Cert.ProjLnRefIdeal.nD Cert.ProjLnRefIdeal.τ).loc Cert.ProjLnRefIdeal.main_arg5) = m' ((c.tc : Thread Cert.ProjLnRefIdeal.nD Cert.ProjLnRefIdeal.τ).loc Cert.ProjLnRefIdeal.main_arg5))

def preserves_FfnDxLn_FfnDxLnIdeal : Prop :=
  True

def algebraic_FfnDxLnIdeal_FfnDxLnRefIdeal_pre_ffn_dx_finite [hFfnDxLnIdeal : Cert.FfnDxLnIdeal.Facts] [hFfnDxLnRefIdeal : Cert.FfnDxLnRefIdeal.Facts] [hPre_ffn_dx_finite : Cert.Pre_ffn_dx_finite.Facts] : Prop :=
  ∀ (m : (ℓ : Loc Cert.FfnDxLnIdeal.nD Cert.FfnDxLnIdeal.τ Cert.FfnDxLnIdeal.sig) → Buf (Elt Ideal) ℓ) (g : Dev Cert.FfnDxLnIdeal.nD → PrngReg)
    (m' : (ℓ : Loc Cert.FfnDxLnRefIdeal.nD Cert.FfnDxLnRefIdeal.τ Cert.FfnDxLnRefIdeal.sig) → Buf (Elt Ideal) ℓ) (g' : Dev Cert.FfnDxLnRefIdeal.nD → PrngReg), Pre_FfnDxLnIdeal_ffn_dx_finite m →
    (∀ c : Dev Cert.FfnDxLnIdeal.nD,
      m' ((c.tc : Thread Cert.FfnDxLnRefIdeal.nD Cert.FfnDxLnRefIdeal.τ).loc Cert.FfnDxLnRefIdeal.main_arg0) = m ((c.tc : Thread Cert.FfnDxLnIdeal.nD Cert.FfnDxLnIdeal.τ).loc Cert.FfnDxLnIdeal.main_arg0)
      ∧ m' ((c.tc : Thread Cert.FfnDxLnRefIdeal.nD Cert.FfnDxLnRefIdeal.τ).loc Cert.FfnDxLnRefIdeal.main_arg1) = m ((c.tc : Thread Cert.FfnDxLnIdeal.nD Cert.FfnDxLnIdeal.τ).loc Cert.FfnDxLnIdeal.main_arg1)
      ∧ m' ((c.tc : Thread Cert.FfnDxLnRefIdeal.nD Cert.FfnDxLnRefIdeal.τ).loc Cert.FfnDxLnRefIdeal.main_arg2) = m ((c.tc : Thread Cert.FfnDxLnIdeal.nD Cert.FfnDxLnIdeal.τ).loc Cert.FfnDxLnIdeal.main_arg2)
      ∧ m' ((c.tc : Thread Cert.FfnDxLnRefIdeal.nD Cert.FfnDxLnRefIdeal.τ).loc Cert.FfnDxLnRefIdeal.main_arg3) = m ((c.tc : Thread Cert.FfnDxLnIdeal.nD Cert.FfnDxLnIdeal.τ).loc Cert.FfnDxLnIdeal.main_arg3)
      ∧ m' ((c.tc : Thread Cert.FfnDxLnRefIdeal.nD Cert.FfnDxLnRefIdeal.τ).loc Cert.FfnDxLnRefIdeal.main_arg4) = m ((c.tc : Thread Cert.FfnDxLnIdeal.nD Cert.FfnDxLnIdeal.τ).loc Cert.FfnDxLnIdeal.main_arg4)
      ∧ m' ((c.tc : Thread Cert.FfnDxLnRefIdeal.nD Cert.FfnDxLnRefIdeal.τ).loc Cert.FfnDxLnRefIdeal.main_arg5) = m ((c.tc : Thread Cert.FfnDxLnIdeal.nD Cert.FfnDxLnIdeal.τ).loc Cert.FfnDxLnIdeal.main_arg5)) →
    ∃ (v0 : (c : Dev Cert.FfnDxLnIdeal.nD) → Buf (Elt Ideal) ((c.tc : Thread Cert.FfnDxLnIdeal.nD Cert.FfnDxLnIdeal.τ).loc Cert.FfnDxLnIdeal.main_v5_0)) (v1 : (c : Dev Cert.FfnDxLnIdeal.nD) → Buf (Elt Ideal) ((c.tc : Thread Cert.FfnDxLnIdeal.nD Cert.FfnDxLnIdeal.τ).loc Cert.FfnDxLnIdeal.main_v5_1)) (v2 : (c : Dev Cert.FfnDxLnIdeal.nD) → Buf (Elt Ideal) ((c.tc : Thread Cert.FfnDxLnIdeal.nD Cert.FfnDxLnIdeal.τ).loc Cert.FfnDxLnIdeal.main_v5_2)),
      θ_run (Cert.FfnDxLnIdeal.defs (F := Ideal)) (onTc (τ := Cert.FfnDxLnIdeal.τ) (Cert.FfnDxLnIdeal.main (F := Ideal))) ⟨m, fun _ => 0, g⟩ (fun r => ∀ c : Dev Cert.FfnDxLnIdeal.nD,
          r.2.mem ((c.tc : Thread Cert.FfnDxLnIdeal.nD Cert.FfnDxLnIdeal.τ).loc Cert.FfnDxLnIdeal.main_v5_0) = v0 c
          ∧ r.2.mem ((c.tc : Thread Cert.FfnDxLnIdeal.nD Cert.FfnDxLnIdeal.τ).loc Cert.FfnDxLnIdeal.main_v5_1) = v1 c
          ∧ r.2.mem ((c.tc : Thread Cert.FfnDxLnIdeal.nD Cert.FfnDxLnIdeal.τ).loc Cert.FfnDxLnIdeal.main_v5_2) = v2 c
          ∧ r.2.mem ((c.tc : Thread Cert.FfnDxLnIdeal.nD Cert.FfnDxLnIdeal.τ).loc Cert.FfnDxLnIdeal.main_arg0) = m ((c.tc : Thread Cert.FfnDxLnIdeal.nD Cert.FfnDxLnIdeal.τ).loc Cert.FfnDxLnIdeal.main_arg0)
          ∧ r.2.mem ((c.tc : Thread Cert.FfnDxLnIdeal.nD Cert.FfnDxLnIdeal.τ).loc Cert.FfnDxLnIdeal.main_arg1) = m ((c.tc : Thread Cert.FfnDxLnIdeal.nD Cert.FfnDxLnIdeal.τ).loc Cert.FfnDxLnIdeal.main_arg1)
          ∧ r.2.mem ((c.tc : Thread Cert.FfnDxLnIdeal.nD Cert.FfnDxLnIdeal.τ).loc Cert.FfnDxLnIdeal.main_arg2) = m ((c.tc : Thread Cert.FfnDxLnIdeal.nD Cert.FfnDxLnIdeal.τ).loc Cert.FfnDxLnIdeal.main_arg2)
          ∧ r.2.mem ((c.tc : Thread Cert.FfnDxLnIdeal.nD Cert.FfnDxLnIdeal.τ).loc Cert.FfnDxLnIdeal.main_arg3) = m ((c.tc : Thread Cert.FfnDxLnIdeal.nD Cert.FfnDxLnIdeal.τ).loc Cert.FfnDxLnIdeal.main_arg3)
          ∧ r.2.mem ((c.tc : Thread Cert.FfnDxLnIdeal.nD Cert.FfnDxLnIdeal.τ).loc Cert.FfnDxLnIdeal.main_arg4) = m ((c.tc : Thread Cert.FfnDxLnIdeal.nD Cert.FfnDxLnIdeal.τ).loc Cert.FfnDxLnIdeal.main_arg4)
          ∧ r.2.mem ((c.tc : Thread Cert.FfnDxLnIdeal.nD Cert.FfnDxLnIdeal.τ).loc Cert.FfnDxLnIdeal.main_arg5) = m ((c.tc : Thread Cert.FfnDxLnIdeal.nD Cert.FfnDxLnIdeal.τ).loc Cert.FfnDxLnIdeal.main_arg5))
      ∧ θ_run (Cert.FfnDxLnRefIdeal.defs (F := Ideal)) (onTc (τ := Cert.FfnDxLnRefIdeal.τ) (Cert.FfnDxLnRefIdeal.main (F := Ideal))) ⟨m', fun _ => 0, g'⟩ (fun r => ∀ c : Dev Cert.FfnDxLnRefIdeal.nD,
          r.2.mem ((c.tc : Thread Cert.FfnDxLnRefIdeal.nD Cert.FfnDxLnRefIdeal.τ).loc Cert.FfnDxLnRefIdeal.main_v69) = v0 c
          ∧ r.2.mem ((c.tc : Thread Cert.FfnDxLnRefIdeal.nD Cert.FfnDxLnRefIdeal.τ).loc Cert.FfnDxLnRefIdeal.main_v70) = v1 c
          ∧ r.2.mem ((c.tc : Thread Cert.FfnDxLnRefIdeal.nD Cert.FfnDxLnRefIdeal.τ).loc Cert.FfnDxLnRefIdeal.main_v71) = v2 c
          ∧ r.2.mem ((c.tc : Thread Cert.FfnDxLnRefIdeal.nD Cert.FfnDxLnRefIdeal.τ).loc Cert.FfnDxLnRefIdeal.main_arg0) = m' ((c.tc : Thread Cert.FfnDxLnRefIdeal.nD Cert.FfnDxLnRefIdeal.τ).loc Cert.FfnDxLnRefIdeal.main_arg0)
          ∧ r.2.mem ((c.tc : Thread Cert.FfnDxLnRefIdeal.nD Cert.FfnDxLnRefIdeal.τ).loc Cert.FfnDxLnRefIdeal.main_arg1) = m' ((c.tc : Thread Cert.FfnDxLnRefIdeal.nD Cert.FfnDxLnRefIdeal.τ).loc Cert.FfnDxLnRefIdeal.main_arg1)
          ∧ r.2.mem ((c.tc : Thread Cert.FfnDxLnRefIdeal.nD Cert.FfnDxLnRefIdeal.τ).loc Cert.FfnDxLnRefIdeal.main_arg2) = m' ((c.tc : Thread Cert.FfnDxLnRefIdeal.nD Cert.FfnDxLnRefIdeal.τ).loc Cert.FfnDxLnRefIdeal.main_arg2)
          ∧ r.2.mem ((c.tc : Thread Cert.FfnDxLnRefIdeal.nD Cert.FfnDxLnRefIdeal.τ).loc Cert.FfnDxLnRefIdeal.main_arg3) = m' ((c.tc : Thread Cert.FfnDxLnRefIdeal.nD Cert.FfnDxLnRefIdeal.τ).loc Cert.FfnDxLnRefIdeal.main_arg3)
          ∧ r.2.mem ((c.tc : Thread Cert.FfnDxLnRefIdeal.nD Cert.FfnDxLnRefIdeal.τ).loc Cert.FfnDxLnRefIdeal.main_arg4) = m' ((c.tc : Thread Cert.FfnDxLnRefIdeal.nD Cert.FfnDxLnRefIdeal.τ).loc Cert.FfnDxLnRefIdeal.main_arg4)
          ∧ r.2.mem ((c.tc : Thread Cert.FfnDxLnRefIdeal.nD Cert.FfnDxLnRefIdeal.τ).loc Cert.FfnDxLnRefIdeal.main_arg5) = m' ((c.tc : Thread Cert.FfnDxLnRefIdeal.nD Cert.FfnDxLnRefIdeal.τ).loc Cert.FfnDxLnRefIdeal.main_arg5))

def preserves_ProjDxLn_ProjDxLnIdeal : Prop :=
  True

def algebraic_ProjDxLnIdeal_ProjDxLnRefIdeal_pre_proj_dx_finite [hProjDxLnIdeal : Cert.ProjDxLnIdeal.Facts] [hProjDxLnRefIdeal : Cert.ProjDxLnRefIdeal.Facts] [hPre_proj_dx_finite : Cert.Pre_proj_dx_finite.Facts] : Prop :=
  ∀ (m : (ℓ : Loc Cert.ProjDxLnIdeal.nD Cert.ProjDxLnIdeal.τ Cert.ProjDxLnIdeal.sig) → Buf (Elt Ideal) ℓ) (g : Dev Cert.ProjDxLnIdeal.nD → PrngReg)
    (m' : (ℓ : Loc Cert.ProjDxLnRefIdeal.nD Cert.ProjDxLnRefIdeal.τ Cert.ProjDxLnRefIdeal.sig) → Buf (Elt Ideal) ℓ) (g' : Dev Cert.ProjDxLnRefIdeal.nD → PrngReg), Pre_ProjDxLnIdeal_proj_dx_finite m →
    (∀ c : Dev Cert.ProjDxLnIdeal.nD,
      m' ((c.tc : Thread Cert.ProjDxLnRefIdeal.nD Cert.ProjDxLnRefIdeal.τ).loc Cert.ProjDxLnRefIdeal.main_arg0) = m ((c.tc : Thread Cert.ProjDxLnIdeal.nD Cert.ProjDxLnIdeal.τ).loc Cert.ProjDxLnIdeal.main_arg0)
      ∧ m' ((c.tc : Thread Cert.ProjDxLnRefIdeal.nD Cert.ProjDxLnRefIdeal.τ).loc Cert.ProjDxLnRefIdeal.main_arg1) = m ((c.tc : Thread Cert.ProjDxLnIdeal.nD Cert.ProjDxLnIdeal.τ).loc Cert.ProjDxLnIdeal.main_arg1)
      ∧ m' ((c.tc : Thread Cert.ProjDxLnRefIdeal.nD Cert.ProjDxLnRefIdeal.τ).loc Cert.ProjDxLnRefIdeal.main_arg2) = m ((c.tc : Thread Cert.ProjDxLnIdeal.nD Cert.ProjDxLnIdeal.τ).loc Cert.ProjDxLnIdeal.main_arg2)
      ∧ m' ((c.tc : Thread Cert.ProjDxLnRefIdeal.nD Cert.ProjDxLnRefIdeal.τ).loc Cert.ProjDxLnRefIdeal.main_arg3) = m ((c.tc : Thread Cert.ProjDxLnIdeal.nD Cert.ProjDxLnIdeal.τ).loc Cert.ProjDxLnIdeal.main_arg3)
      ∧ m' ((c.tc : Thread Cert.ProjDxLnRefIdeal.nD Cert.ProjDxLnRefIdeal.τ).loc Cert.ProjDxLnRefIdeal.main_arg4) = m ((c.tc : Thread Cert.ProjDxLnIdeal.nD Cert.ProjDxLnIdeal.τ).loc Cert.ProjDxLnIdeal.main_arg4)
      ∧ m' ((c.tc : Thread Cert.ProjDxLnRefIdeal.nD Cert.ProjDxLnRefIdeal.τ).loc Cert.ProjDxLnRefIdeal.main_arg5) = m ((c.tc : Thread Cert.ProjDxLnIdeal.nD Cert.ProjDxLnIdeal.τ).loc Cert.ProjDxLnIdeal.main_arg5)
      ∧ m' ((c.tc : Thread Cert.ProjDxLnRefIdeal.nD Cert.ProjDxLnRefIdeal.τ).loc Cert.ProjDxLnRefIdeal.main_arg6) = m ((c.tc : Thread Cert.ProjDxLnIdeal.nD Cert.ProjDxLnIdeal.τ).loc Cert.ProjDxLnIdeal.main_arg6)) →
    ∃ (v0 : (c : Dev Cert.ProjDxLnIdeal.nD) → Buf (Elt Ideal) ((c.tc : Thread Cert.ProjDxLnIdeal.nD Cert.ProjDxLnIdeal.τ).loc Cert.ProjDxLnIdeal.main_v7_0)) (v1 : (c : Dev Cert.ProjDxLnIdeal.nD) → Buf (Elt Ideal) ((c.tc : Thread Cert.ProjDxLnIdeal.nD Cert.ProjDxLnIdeal.τ).loc Cert.ProjDxLnIdeal.main_v7_1)) (v2 : (c : Dev Cert.ProjDxLnIdeal.nD) → Buf (Elt Ideal) ((c.tc : Thread Cert.ProjDxLnIdeal.nD Cert.ProjDxLnIdeal.τ).loc Cert.ProjDxLnIdeal.main_v7_2)),
      θ_run (Cert.ProjDxLnIdeal.defs (F := Ideal)) (onTc (τ := Cert.ProjDxLnIdeal.τ) (Cert.ProjDxLnIdeal.main (F := Ideal))) ⟨m, fun _ => 0, g⟩ (fun r => ∀ c : Dev Cert.ProjDxLnIdeal.nD,
          r.2.mem ((c.tc : Thread Cert.ProjDxLnIdeal.nD Cert.ProjDxLnIdeal.τ).loc Cert.ProjDxLnIdeal.main_v7_0) = v0 c
          ∧ r.2.mem ((c.tc : Thread Cert.ProjDxLnIdeal.nD Cert.ProjDxLnIdeal.τ).loc Cert.ProjDxLnIdeal.main_v7_1) = v1 c
          ∧ r.2.mem ((c.tc : Thread Cert.ProjDxLnIdeal.nD Cert.ProjDxLnIdeal.τ).loc Cert.ProjDxLnIdeal.main_v7_2) = v2 c
          ∧ r.2.mem ((c.tc : Thread Cert.ProjDxLnIdeal.nD Cert.ProjDxLnIdeal.τ).loc Cert.ProjDxLnIdeal.main_arg0) = m ((c.tc : Thread Cert.ProjDxLnIdeal.nD Cert.ProjDxLnIdeal.τ).loc Cert.ProjDxLnIdeal.main_arg0)
          ∧ r.2.mem ((c.tc : Thread Cert.ProjDxLnIdeal.nD Cert.ProjDxLnIdeal.τ).loc Cert.ProjDxLnIdeal.main_arg1) = m ((c.tc : Thread Cert.ProjDxLnIdeal.nD Cert.ProjDxLnIdeal.τ).loc Cert.ProjDxLnIdeal.main_arg1)
          ∧ r.2.mem ((c.tc : Thread Cert.ProjDxLnIdeal.nD Cert.ProjDxLnIdeal.τ).loc Cert.ProjDxLnIdeal.main_arg2) = m ((c.tc : Thread Cert.ProjDxLnIdeal.nD Cert.ProjDxLnIdeal.τ).loc Cert.ProjDxLnIdeal.main_arg2)
          ∧ r.2.mem ((c.tc : Thread Cert.ProjDxLnIdeal.nD Cert.ProjDxLnIdeal.τ).loc Cert.ProjDxLnIdeal.main_arg3) = m ((c.tc : Thread Cert.ProjDxLnIdeal.nD Cert.ProjDxLnIdeal.τ).loc Cert.ProjDxLnIdeal.main_arg3)
          ∧ r.2.mem ((c.tc : Thread Cert.ProjDxLnIdeal.nD Cert.ProjDxLnIdeal.τ).loc Cert.ProjDxLnIdeal.main_arg4) = m ((c.tc : Thread Cert.ProjDxLnIdeal.nD Cert.ProjDxLnIdeal.τ).loc Cert.ProjDxLnIdeal.main_arg4)
          ∧ r.2.mem ((c.tc : Thread Cert.ProjDxLnIdeal.nD Cert.ProjDxLnIdeal.τ).loc Cert.ProjDxLnIdeal.main_arg5) = m ((c.tc : Thread Cert.ProjDxLnIdeal.nD Cert.ProjDxLnIdeal.τ).loc Cert.ProjDxLnIdeal.main_arg5)
          ∧ r.2.mem ((c.tc : Thread Cert.ProjDxLnIdeal.nD Cert.ProjDxLnIdeal.τ).loc Cert.ProjDxLnIdeal.main_arg6) = m ((c.tc : Thread Cert.ProjDxLnIdeal.nD Cert.ProjDxLnIdeal.τ).loc Cert.ProjDxLnIdeal.main_arg6))
      ∧ θ_run (Cert.ProjDxLnRefIdeal.defs (F := Ideal)) (onTc (τ := Cert.ProjDxLnRefIdeal.τ) (Cert.ProjDxLnRefIdeal.main (F := Ideal))) ⟨m', fun _ => 0, g'⟩ (fun r => ∀ c : Dev Cert.ProjDxLnRefIdeal.nD,
          r.2.mem ((c.tc : Thread Cert.ProjDxLnRefIdeal.nD Cert.ProjDxLnRefIdeal.τ).loc Cert.ProjDxLnRefIdeal.main_v71) = v0 c
          ∧ r.2.mem ((c.tc : Thread Cert.ProjDxLnRefIdeal.nD Cert.ProjDxLnRefIdeal.τ).loc Cert.ProjDxLnRefIdeal.main_v72) = v1 c
          ∧ r.2.mem ((c.tc : Thread Cert.ProjDxLnRefIdeal.nD Cert.ProjDxLnRefIdeal.τ).loc Cert.ProjDxLnRefIdeal.main_v73) = v2 c
          ∧ r.2.mem ((c.tc : Thread Cert.ProjDxLnRefIdeal.nD Cert.ProjDxLnRefIdeal.τ).loc Cert.ProjDxLnRefIdeal.main_arg0) = m' ((c.tc : Thread Cert.ProjDxLnRefIdeal.nD Cert.ProjDxLnRefIdeal.τ).loc Cert.ProjDxLnRefIdeal.main_arg0)
          ∧ r.2.mem ((c.tc : Thread Cert.ProjDxLnRefIdeal.nD Cert.ProjDxLnRefIdeal.τ).loc Cert.ProjDxLnRefIdeal.main_arg1) = m' ((c.tc : Thread Cert.ProjDxLnRefIdeal.nD Cert.ProjDxLnRefIdeal.τ).loc Cert.ProjDxLnRefIdeal.main_arg1)
          ∧ r.2.mem ((c.tc : Thread Cert.ProjDxLnRefIdeal.nD Cert.ProjDxLnRefIdeal.τ).loc Cert.ProjDxLnRefIdeal.main_arg2) = m' ((c.tc : Thread Cert.ProjDxLnRefIdeal.nD Cert.ProjDxLnRefIdeal.τ).loc Cert.ProjDxLnRefIdeal.main_arg2)
          ∧ r.2.mem ((c.tc : Thread Cert.ProjDxLnRefIdeal.nD Cert.ProjDxLnRefIdeal.τ).loc Cert.ProjDxLnRefIdeal.main_arg3) = m' ((c.tc : Thread Cert.ProjDxLnRefIdeal.nD Cert.ProjDxLnRefIdeal.τ).loc Cert.ProjDxLnRefIdeal.main_arg3)
          ∧ r.2.mem ((c.tc : Thread Cert.ProjDxLnRefIdeal.nD Cert.ProjDxLnRefIdeal.τ).loc Cert.ProjDxLnRefIdeal.main_arg4) = m' ((c.tc : Thread Cert.ProjDxLnRefIdeal.nD Cert.ProjDxLnRefIdeal.τ).loc Cert.ProjDxLnRefIdeal.main_arg4)
          ∧ r.2.mem ((c.tc : Thread Cert.ProjDxLnRefIdeal.nD Cert.ProjDxLnRefIdeal.τ).loc Cert.ProjDxLnRefIdeal.main_arg5) = m' ((c.tc : Thread Cert.ProjDxLnRefIdeal.nD Cert.ProjDxLnRefIdeal.τ).loc Cert.ProjDxLnRefIdeal.main_arg5)
          ∧ r.2.mem ((c.tc : Thread Cert.ProjDxLnRefIdeal.nD Cert.ProjDxLnRefIdeal.τ).loc Cert.ProjDxLnRefIdeal.main_arg6) = m' ((c.tc : Thread Cert.ProjDxLnRefIdeal.nD Cert.ProjDxLnRefIdeal.τ).loc Cert.ProjDxLnRefIdeal.main_arg6))

def preserves_LossLn_LossLnIdeal : Prop :=
  True

def algebraic_LossLnIdeal_LossLnRefIdeal_pre_loss_finite [hLossLnIdeal : Cert.LossLnIdeal.Facts] [hLossLnRefIdeal : Cert.LossLnRefIdeal.Facts] [hPre_loss_finite : Cert.Pre_loss_finite.Facts] : Prop :=
  ∀ (m : (ℓ : Loc Cert.LossLnIdeal.nD Cert.LossLnIdeal.τ Cert.LossLnIdeal.sig) → Buf (Elt Ideal) ℓ) (g : Dev Cert.LossLnIdeal.nD → PrngReg)
    (m' : (ℓ : Loc Cert.LossLnRefIdeal.nD Cert.LossLnRefIdeal.τ Cert.LossLnRefIdeal.sig) → Buf (Elt Ideal) ℓ) (g' : Dev Cert.LossLnRefIdeal.nD → PrngReg), Pre_LossLnIdeal_loss_finite m →
    (∀ c : Dev Cert.LossLnIdeal.nD,
      m' ((c.tc : Thread Cert.LossLnRefIdeal.nD Cert.LossLnRefIdeal.τ).loc Cert.LossLnRefIdeal.main_arg0) = m ((c.tc : Thread Cert.LossLnIdeal.nD Cert.LossLnIdeal.τ).loc Cert.LossLnIdeal.main_arg0)
      ∧ m' ((c.tc : Thread Cert.LossLnRefIdeal.nD Cert.LossLnRefIdeal.τ).loc Cert.LossLnRefIdeal.main_arg1) = m ((c.tc : Thread Cert.LossLnIdeal.nD Cert.LossLnIdeal.τ).loc Cert.LossLnIdeal.main_arg1)
      ∧ m' ((c.tc : Thread Cert.LossLnRefIdeal.nD Cert.LossLnRefIdeal.τ).loc Cert.LossLnRefIdeal.main_arg2) = m ((c.tc : Thread Cert.LossLnIdeal.nD Cert.LossLnIdeal.τ).loc Cert.LossLnIdeal.main_arg2)
      ∧ m' ((c.tc : Thread Cert.LossLnRefIdeal.nD Cert.LossLnRefIdeal.τ).loc Cert.LossLnRefIdeal.main_arg3) = m ((c.tc : Thread Cert.LossLnIdeal.nD Cert.LossLnIdeal.τ).loc Cert.LossLnIdeal.main_arg3)
      ∧ m' ((c.tc : Thread Cert.LossLnRefIdeal.nD Cert.LossLnRefIdeal.τ).loc Cert.LossLnRefIdeal.main_arg4) = m ((c.tc : Thread Cert.LossLnIdeal.nD Cert.LossLnIdeal.τ).loc Cert.LossLnIdeal.main_arg4)
      ∧ m' ((c.tc : Thread Cert.LossLnRefIdeal.nD Cert.LossLnRefIdeal.τ).loc Cert.LossLnRefIdeal.main_arg5) = m ((c.tc : Thread Cert.LossLnIdeal.nD Cert.LossLnIdeal.τ).loc Cert.LossLnIdeal.main_arg5)) →
    ∃ (v0 : (c : Dev Cert.LossLnIdeal.nD) → Buf (Elt Ideal) ((c.tc : Thread Cert.LossLnIdeal.nD Cert.LossLnIdeal.τ).loc Cert.LossLnIdeal.main_v3_0)) (v1 : (c : Dev Cert.LossLnIdeal.nD) → Buf (Elt Ideal) ((c.tc : Thread Cert.LossLnIdeal.nD Cert.LossLnIdeal.τ).loc Cert.LossLnIdeal.main_v3_1)) (v2 : (c : Dev Cert.LossLnIdeal.nD) → Buf (Elt Ideal) ((c.tc : Thread Cert.LossLnIdeal.nD Cert.LossLnIdeal.τ).loc Cert.LossLnIdeal.main_v3_2)) (v3 : (c : Dev Cert.LossLnIdeal.nD) → Buf (Elt Ideal) ((c.tc : Thread Cert.LossLnIdeal.nD Cert.LossLnIdeal.τ).loc Cert.LossLnIdeal.main_v3_3)),
      θ_run (Cert.LossLnIdeal.defs (F := Ideal)) (onTc (τ := Cert.LossLnIdeal.τ) (Cert.LossLnIdeal.main (F := Ideal))) ⟨m, fun _ => 0, g⟩ (fun r => ∀ c : Dev Cert.LossLnIdeal.nD,
          r.2.mem ((c.tc : Thread Cert.LossLnIdeal.nD Cert.LossLnIdeal.τ).loc Cert.LossLnIdeal.main_v3_0) = v0 c
          ∧ r.2.mem ((c.tc : Thread Cert.LossLnIdeal.nD Cert.LossLnIdeal.τ).loc Cert.LossLnIdeal.main_v3_1) = v1 c
          ∧ r.2.mem ((c.tc : Thread Cert.LossLnIdeal.nD Cert.LossLnIdeal.τ).loc Cert.LossLnIdeal.main_v3_2) = v2 c
          ∧ r.2.mem ((c.tc : Thread Cert.LossLnIdeal.nD Cert.LossLnIdeal.τ).loc Cert.LossLnIdeal.main_v3_3) = v3 c
          ∧ r.2.mem ((c.tc : Thread Cert.LossLnIdeal.nD Cert.LossLnIdeal.τ).loc Cert.LossLnIdeal.main_arg0) = m ((c.tc : Thread Cert.LossLnIdeal.nD Cert.LossLnIdeal.τ).loc Cert.LossLnIdeal.main_arg0)
          ∧ r.2.mem ((c.tc : Thread Cert.LossLnIdeal.nD Cert.LossLnIdeal.τ).loc Cert.LossLnIdeal.main_arg1) = m ((c.tc : Thread Cert.LossLnIdeal.nD Cert.LossLnIdeal.τ).loc Cert.LossLnIdeal.main_arg1)
          ∧ r.2.mem ((c.tc : Thread Cert.LossLnIdeal.nD Cert.LossLnIdeal.τ).loc Cert.LossLnIdeal.main_arg2) = m ((c.tc : Thread Cert.LossLnIdeal.nD Cert.LossLnIdeal.τ).loc Cert.LossLnIdeal.main_arg2)
          ∧ r.2.mem ((c.tc : Thread Cert.LossLnIdeal.nD Cert.LossLnIdeal.τ).loc Cert.LossLnIdeal.main_arg3) = m ((c.tc : Thread Cert.LossLnIdeal.nD Cert.LossLnIdeal.τ).loc Cert.LossLnIdeal.main_arg3)
          ∧ r.2.mem ((c.tc : Thread Cert.LossLnIdeal.nD Cert.LossLnIdeal.τ).loc Cert.LossLnIdeal.main_arg4) = m ((c.tc : Thread Cert.LossLnIdeal.nD Cert.LossLnIdeal.τ).loc Cert.LossLnIdeal.main_arg4)
          ∧ r.2.mem ((c.tc : Thread Cert.LossLnIdeal.nD Cert.LossLnIdeal.τ).loc Cert.LossLnIdeal.main_arg5) = m ((c.tc : Thread Cert.LossLnIdeal.nD Cert.LossLnIdeal.τ).loc Cert.LossLnIdeal.main_arg5))
      ∧ θ_run (Cert.LossLnRefIdeal.defs (F := Ideal)) (onTc (τ := Cert.LossLnRefIdeal.τ) (Cert.LossLnRefIdeal.main (F := Ideal))) ⟨m', fun _ => 0, g'⟩ (fun r => ∀ c : Dev Cert.LossLnRefIdeal.nD,
          r.2.mem ((c.tc : Thread Cert.LossLnRefIdeal.nD Cert.LossLnRefIdeal.τ).loc Cert.LossLnRefIdeal.main_v83) = v0 c
          ∧ r.2.mem ((c.tc : Thread Cert.LossLnRefIdeal.nD Cert.LossLnRefIdeal.τ).loc Cert.LossLnRefIdeal.main_v84) = v1 c
          ∧ r.2.mem ((c.tc : Thread Cert.LossLnRefIdeal.nD Cert.LossLnRefIdeal.τ).loc Cert.LossLnRefIdeal.main_v85) = v2 c
          ∧ r.2.mem ((c.tc : Thread Cert.LossLnRefIdeal.nD Cert.LossLnRefIdeal.τ).loc Cert.LossLnRefIdeal.main_v86) = v3 c
          ∧ r.2.mem ((c.tc : Thread Cert.LossLnRefIdeal.nD Cert.LossLnRefIdeal.τ).loc Cert.LossLnRefIdeal.main_arg0) = m' ((c.tc : Thread Cert.LossLnRefIdeal.nD Cert.LossLnRefIdeal.τ).loc Cert.LossLnRefIdeal.main_arg0)
          ∧ r.2.mem ((c.tc : Thread Cert.LossLnRefIdeal.nD Cert.LossLnRefIdeal.τ).loc Cert.LossLnRefIdeal.main_arg1) = m' ((c.tc : Thread Cert.LossLnRefIdeal.nD Cert.LossLnRefIdeal.τ).loc Cert.LossLnRefIdeal.main_arg1)
          ∧ r.2.mem ((c.tc : Thread Cert.LossLnRefIdeal.nD Cert.LossLnRefIdeal.τ).loc Cert.LossLnRefIdeal.main_arg2) = m' ((c.tc : Thread Cert.LossLnRefIdeal.nD Cert.LossLnRefIdeal.τ).loc Cert.LossLnRefIdeal.main_arg2)
          ∧ r.2.mem ((c.tc : Thread Cert.LossLnRefIdeal.nD Cert.LossLnRefIdeal.τ).loc Cert.LossLnRefIdeal.main_arg3) = m' ((c.tc : Thread Cert.LossLnRefIdeal.nD Cert.LossLnRefIdeal.τ).loc Cert.LossLnRefIdeal.main_arg3)
          ∧ r.2.mem ((c.tc : Thread Cert.LossLnRefIdeal.nD Cert.LossLnRefIdeal.τ).loc Cert.LossLnRefIdeal.main_arg4) = m' ((c.tc : Thread Cert.LossLnRefIdeal.nD Cert.LossLnRefIdeal.τ).loc Cert.LossLnRefIdeal.main_arg4)
          ∧ r.2.mem ((c.tc : Thread Cert.LossLnRefIdeal.nD Cert.LossLnRefIdeal.τ).loc Cert.LossLnRefIdeal.main_arg5) = m' ((c.tc : Thread Cert.LossLnRefIdeal.nD Cert.LossLnRefIdeal.τ).loc Cert.LossLnRefIdeal.main_arg5))

def preserves_ShiftBwd_ShiftBwdIdeal : Prop :=
  True

def algebraic_ShiftBwdIdeal_ShiftBwdRefIdeal_pre_shift_finite [hShiftBwdIdeal : Cert.ShiftBwdIdeal.Facts] [hShiftBwdRefIdeal : Cert.ShiftBwdRefIdeal.Facts] [hPre_shift_finite : Cert.Pre_shift_finite.Facts] : Prop :=
  ∀ (m : (ℓ : Loc Cert.ShiftBwdIdeal.nD Cert.ShiftBwdIdeal.τ Cert.ShiftBwdIdeal.sig) → Buf (Elt Ideal) ℓ) (g : Dev Cert.ShiftBwdIdeal.nD → PrngReg)
    (m' : (ℓ : Loc Cert.ShiftBwdRefIdeal.nD Cert.ShiftBwdRefIdeal.τ Cert.ShiftBwdRefIdeal.sig) → Buf (Elt Ideal) ℓ) (g' : Dev Cert.ShiftBwdRefIdeal.nD → PrngReg), Pre_ShiftBwdIdeal_shift_finite m →
    (∀ c : Dev Cert.ShiftBwdIdeal.nD,
      m' ((c.tc : Thread Cert.ShiftBwdRefIdeal.nD Cert.ShiftBwdRefIdeal.τ).loc Cert.ShiftBwdRefIdeal.main_arg0) = m ((c.tc : Thread Cert.ShiftBwdIdeal.nD Cert.ShiftBwdIdeal.τ).loc Cert.ShiftBwdIdeal.main_arg0)
      ∧ m' ((c.tc : Thread Cert.ShiftBwdRefIdeal.nD Cert.ShiftBwdRefIdeal.τ).loc Cert.ShiftBwdRefIdeal.main_arg1) = m ((c.tc : Thread Cert.ShiftBwdIdeal.nD Cert.ShiftBwdIdeal.τ).loc Cert.ShiftBwdIdeal.main_arg1)
      ∧ m' ((c.tc : Thread Cert.ShiftBwdRefIdeal.nD Cert.ShiftBwdRefIdeal.τ).loc Cert.ShiftBwdRefIdeal.main_arg2) = m ((c.tc : Thread Cert.ShiftBwdIdeal.nD Cert.ShiftBwdIdeal.τ).loc Cert.ShiftBwdIdeal.main_arg2)
      ∧ m' ((c.tc : Thread Cert.ShiftBwdRefIdeal.nD Cert.ShiftBwdRefIdeal.τ).loc Cert.ShiftBwdRefIdeal.main_arg3) = m ((c.tc : Thread Cert.ShiftBwdIdeal.nD Cert.ShiftBwdIdeal.τ).loc Cert.ShiftBwdIdeal.main_arg3)) →
    ∃ (v0 : (c : Dev Cert.ShiftBwdIdeal.nD) → Buf (Elt Ideal) ((c.tc : Thread Cert.ShiftBwdIdeal.nD Cert.ShiftBwdIdeal.τ).loc Cert.ShiftBwdIdeal.main_v2_0)) (v1 : (c : Dev Cert.ShiftBwdIdeal.nD) → Buf (Elt Ideal) ((c.tc : Thread Cert.ShiftBwdIdeal.nD Cert.ShiftBwdIdeal.τ).loc Cert.ShiftBwdIdeal.main_v2_1)) (v2 : (c : Dev Cert.ShiftBwdIdeal.nD) → Buf (Elt Ideal) ((c.tc : Thread Cert.ShiftBwdIdeal.nD Cert.ShiftBwdIdeal.τ).loc Cert.ShiftBwdIdeal.main_v2_2)),
      θ_run (Cert.ShiftBwdIdeal.defs (F := Ideal)) (onTc (τ := Cert.ShiftBwdIdeal.τ) (Cert.ShiftBwdIdeal.main (F := Ideal))) ⟨m, fun _ => 0, g⟩ (fun r => ∀ c : Dev Cert.ShiftBwdIdeal.nD,
          r.2.mem ((c.tc : Thread Cert.ShiftBwdIdeal.nD Cert.ShiftBwdIdeal.τ).loc Cert.ShiftBwdIdeal.main_v2_0) = v0 c
          ∧ r.2.mem ((c.tc : Thread Cert.ShiftBwdIdeal.nD Cert.ShiftBwdIdeal.τ).loc Cert.ShiftBwdIdeal.main_v2_1) = v1 c
          ∧ r.2.mem ((c.tc : Thread Cert.ShiftBwdIdeal.nD Cert.ShiftBwdIdeal.τ).loc Cert.ShiftBwdIdeal.main_v2_2) = v2 c
          ∧ r.2.mem ((c.tc : Thread Cert.ShiftBwdIdeal.nD Cert.ShiftBwdIdeal.τ).loc Cert.ShiftBwdIdeal.main_arg0) = m ((c.tc : Thread Cert.ShiftBwdIdeal.nD Cert.ShiftBwdIdeal.τ).loc Cert.ShiftBwdIdeal.main_arg0)
          ∧ r.2.mem ((c.tc : Thread Cert.ShiftBwdIdeal.nD Cert.ShiftBwdIdeal.τ).loc Cert.ShiftBwdIdeal.main_arg1) = m ((c.tc : Thread Cert.ShiftBwdIdeal.nD Cert.ShiftBwdIdeal.τ).loc Cert.ShiftBwdIdeal.main_arg1)
          ∧ r.2.mem ((c.tc : Thread Cert.ShiftBwdIdeal.nD Cert.ShiftBwdIdeal.τ).loc Cert.ShiftBwdIdeal.main_arg2) = m ((c.tc : Thread Cert.ShiftBwdIdeal.nD Cert.ShiftBwdIdeal.τ).loc Cert.ShiftBwdIdeal.main_arg2)
          ∧ r.2.mem ((c.tc : Thread Cert.ShiftBwdIdeal.nD Cert.ShiftBwdIdeal.τ).loc Cert.ShiftBwdIdeal.main_arg3) = m ((c.tc : Thread Cert.ShiftBwdIdeal.nD Cert.ShiftBwdIdeal.τ).loc Cert.ShiftBwdIdeal.main_arg3))
      ∧ θ_run (Cert.ShiftBwdRefIdeal.defs (F := Ideal)) (onTc (τ := Cert.ShiftBwdRefIdeal.τ) (Cert.ShiftBwdRefIdeal.main (F := Ideal))) ⟨m', fun _ => 0, g'⟩ (fun r => ∀ c : Dev Cert.ShiftBwdRefIdeal.nD,
          r.2.mem ((c.tc : Thread Cert.ShiftBwdRefIdeal.nD Cert.ShiftBwdRefIdeal.τ).loc Cert.ShiftBwdRefIdeal.main_v46) = v0 c
          ∧ r.2.mem ((c.tc : Thread Cert.ShiftBwdRefIdeal.nD Cert.ShiftBwdRefIdeal.τ).loc Cert.ShiftBwdRefIdeal.main_v47) = v1 c
          ∧ r.2.mem ((c.tc : Thread Cert.ShiftBwdRefIdeal.nD Cert.ShiftBwdRefIdeal.τ).loc Cert.ShiftBwdRefIdeal.main_v48) = v2 c
          ∧ r.2.mem ((c.tc : Thread Cert.ShiftBwdRefIdeal.nD Cert.ShiftBwdRefIdeal.τ).loc Cert.ShiftBwdRefIdeal.main_arg0) = m' ((c.tc : Thread Cert.ShiftBwdRefIdeal.nD Cert.ShiftBwdRefIdeal.τ).loc Cert.ShiftBwdRefIdeal.main_arg0)
          ∧ r.2.mem ((c.tc : Thread Cert.ShiftBwdRefIdeal.nD Cert.ShiftBwdRefIdeal.τ).loc Cert.ShiftBwdRefIdeal.main_arg1) = m' ((c.tc : Thread Cert.ShiftBwdRefIdeal.nD Cert.ShiftBwdRefIdeal.τ).loc Cert.ShiftBwdRefIdeal.main_arg1)
          ∧ r.2.mem ((c.tc : Thread Cert.ShiftBwdRefIdeal.nD Cert.ShiftBwdRefIdeal.τ).loc Cert.ShiftBwdRefIdeal.main_arg2) = m' ((c.tc : Thread Cert.ShiftBwdRefIdeal.nD Cert.ShiftBwdRefIdeal.τ).loc Cert.ShiftBwdRefIdeal.main_arg2)
          ∧ r.2.mem ((c.tc : Thread Cert.ShiftBwdRefIdeal.nD Cert.ShiftBwdRefIdeal.τ).loc Cert.ShiftBwdRefIdeal.main_arg3) = m' ((c.tc : Thread Cert.ShiftBwdRefIdeal.nD Cert.ShiftBwdRefIdeal.τ).loc Cert.ShiftBwdRefIdeal.main_arg3))

def preserves_ConvPost_ConvPostIdeal : Prop :=
  True

def algebraic_ConvPostIdeal_ConvPostRefIdeal_pre_conv_post_finite [hConvPostIdeal : Cert.ConvPostIdeal.Facts] [hConvPostRefIdeal : Cert.ConvPostRefIdeal.Facts] [hPre_conv_post_finite : Cert.Pre_conv_post_finite.Facts] : Prop :=
  ∀ (m : (ℓ : Loc Cert.ConvPostIdeal.nD Cert.ConvPostIdeal.τ Cert.ConvPostIdeal.sig) → Buf (Elt Ideal) ℓ) (g : Dev Cert.ConvPostIdeal.nD → PrngReg)
    (m' : (ℓ : Loc Cert.ConvPostRefIdeal.nD Cert.ConvPostRefIdeal.τ Cert.ConvPostRefIdeal.sig) → Buf (Elt Ideal) ℓ) (g' : Dev Cert.ConvPostRefIdeal.nD → PrngReg), Pre_ConvPostIdeal_conv_post_finite m →
    (∀ c : Dev Cert.ConvPostIdeal.nD,
      m' ((c.tc : Thread Cert.ConvPostRefIdeal.nD Cert.ConvPostRefIdeal.τ).loc Cert.ConvPostRefIdeal.main_arg0) = m ((c.tc : Thread Cert.ConvPostIdeal.nD Cert.ConvPostIdeal.τ).loc Cert.ConvPostIdeal.main_arg0)
      ∧ m' ((c.tc : Thread Cert.ConvPostRefIdeal.nD Cert.ConvPostRefIdeal.τ).loc Cert.ConvPostRefIdeal.main_arg1) = m ((c.tc : Thread Cert.ConvPostIdeal.nD Cert.ConvPostIdeal.τ).loc Cert.ConvPostIdeal.main_arg1)
      ∧ m' ((c.tc : Thread Cert.ConvPostRefIdeal.nD Cert.ConvPostRefIdeal.τ).loc Cert.ConvPostRefIdeal.main_arg2) = m ((c.tc : Thread Cert.ConvPostIdeal.nD Cert.ConvPostIdeal.τ).loc Cert.ConvPostIdeal.main_arg2)
      ∧ m' ((c.tc : Thread Cert.ConvPostRefIdeal.nD Cert.ConvPostRefIdeal.τ).loc Cert.ConvPostRefIdeal.main_arg3) = m ((c.tc : Thread Cert.ConvPostIdeal.nD Cert.ConvPostIdeal.τ).loc Cert.ConvPostIdeal.main_arg3)) →
    ∃ (v0 : (c : Dev Cert.ConvPostIdeal.nD) → Buf (Elt Ideal) ((c.tc : Thread Cert.ConvPostIdeal.nD Cert.ConvPostIdeal.τ).loc Cert.ConvPostIdeal.main_v2_0)) (v1 : (c : Dev Cert.ConvPostIdeal.nD) → Buf (Elt Ideal) ((c.tc : Thread Cert.ConvPostIdeal.nD Cert.ConvPostIdeal.τ).loc Cert.ConvPostIdeal.main_v2_1)) (v2 : (c : Dev Cert.ConvPostIdeal.nD) → Buf (Elt Ideal) ((c.tc : Thread Cert.ConvPostIdeal.nD Cert.ConvPostIdeal.τ).loc Cert.ConvPostIdeal.main_v2_2)) (v3 : (c : Dev Cert.ConvPostIdeal.nD) → Buf (Elt Ideal) ((c.tc : Thread Cert.ConvPostIdeal.nD Cert.ConvPostIdeal.τ).loc Cert.ConvPostIdeal.main_v2_3)),
      θ_run (Cert.ConvPostIdeal.defs (F := Ideal)) (onTc (τ := Cert.ConvPostIdeal.τ) (Cert.ConvPostIdeal.main (F := Ideal))) ⟨m, fun _ => 0, g⟩ (fun r => ∀ c : Dev Cert.ConvPostIdeal.nD,
          r.2.mem ((c.tc : Thread Cert.ConvPostIdeal.nD Cert.ConvPostIdeal.τ).loc Cert.ConvPostIdeal.main_v2_0) = v0 c
          ∧ r.2.mem ((c.tc : Thread Cert.ConvPostIdeal.nD Cert.ConvPostIdeal.τ).loc Cert.ConvPostIdeal.main_v2_1) = v1 c
          ∧ r.2.mem ((c.tc : Thread Cert.ConvPostIdeal.nD Cert.ConvPostIdeal.τ).loc Cert.ConvPostIdeal.main_v2_2) = v2 c
          ∧ r.2.mem ((c.tc : Thread Cert.ConvPostIdeal.nD Cert.ConvPostIdeal.τ).loc Cert.ConvPostIdeal.main_v2_3) = v3 c
          ∧ r.2.mem ((c.tc : Thread Cert.ConvPostIdeal.nD Cert.ConvPostIdeal.τ).loc Cert.ConvPostIdeal.main_arg0) = m ((c.tc : Thread Cert.ConvPostIdeal.nD Cert.ConvPostIdeal.τ).loc Cert.ConvPostIdeal.main_arg0)
          ∧ r.2.mem ((c.tc : Thread Cert.ConvPostIdeal.nD Cert.ConvPostIdeal.τ).loc Cert.ConvPostIdeal.main_arg1) = m ((c.tc : Thread Cert.ConvPostIdeal.nD Cert.ConvPostIdeal.τ).loc Cert.ConvPostIdeal.main_arg1)
          ∧ r.2.mem ((c.tc : Thread Cert.ConvPostIdeal.nD Cert.ConvPostIdeal.τ).loc Cert.ConvPostIdeal.main_arg2) = m ((c.tc : Thread Cert.ConvPostIdeal.nD Cert.ConvPostIdeal.τ).loc Cert.ConvPostIdeal.main_arg2)
          ∧ r.2.mem ((c.tc : Thread Cert.ConvPostIdeal.nD Cert.ConvPostIdeal.τ).loc Cert.ConvPostIdeal.main_arg3) = m ((c.tc : Thread Cert.ConvPostIdeal.nD Cert.ConvPostIdeal.τ).loc Cert.ConvPostIdeal.main_arg3))
      ∧ θ_run (Cert.ConvPostRefIdeal.defs (F := Ideal)) (onTc (τ := Cert.ConvPostRefIdeal.τ) (Cert.ConvPostRefIdeal.main (F := Ideal))) ⟨m', fun _ => 0, g'⟩ (fun r => ∀ c : Dev Cert.ConvPostRefIdeal.nD,
          r.2.mem ((c.tc : Thread Cert.ConvPostRefIdeal.nD Cert.ConvPostRefIdeal.τ).loc Cert.ConvPostRefIdeal.main_v64) = v0 c
          ∧ r.2.mem ((c.tc : Thread Cert.ConvPostRefIdeal.nD Cert.ConvPostRefIdeal.τ).loc Cert.ConvPostRefIdeal.main_v65) = v1 c
          ∧ r.2.mem ((c.tc : Thread Cert.ConvPostRefIdeal.nD Cert.ConvPostRefIdeal.τ).loc Cert.ConvPostRefIdeal.main_v66) = v2 c
          ∧ r.2.mem ((c.tc : Thread Cert.ConvPostRefIdeal.nD Cert.ConvPostRefIdeal.τ).loc Cert.ConvPostRefIdeal.main_v68) = v3 c
          ∧ r.2.mem ((c.tc : Thread Cert.ConvPostRefIdeal.nD Cert.ConvPostRefIdeal.τ).loc Cert.ConvPostRefIdeal.main_arg0) = m' ((c.tc : Thread Cert.ConvPostRefIdeal.nD Cert.ConvPostRefIdeal.τ).loc Cert.ConvPostRefIdeal.main_arg0)
          ∧ r.2.mem ((c.tc : Thread Cert.ConvPostRefIdeal.nD Cert.ConvPostRefIdeal.τ).loc Cert.ConvPostRefIdeal.main_arg1) = m' ((c.tc : Thread Cert.ConvPostRefIdeal.nD Cert.ConvPostRefIdeal.τ).loc Cert.ConvPostRefIdeal.main_arg1)
          ∧ r.2.mem ((c.tc : Thread Cert.ConvPostRefIdeal.nD Cert.ConvPostRefIdeal.τ).loc Cert.ConvPostRefIdeal.main_arg2) = m' ((c.tc : Thread Cert.ConvPostRefIdeal.nD Cert.ConvPostRefIdeal.τ).loc Cert.ConvPostRefIdeal.main_arg2)
          ∧ r.2.mem ((c.tc : Thread Cert.ConvPostRefIdeal.nD Cert.ConvPostRefIdeal.τ).loc Cert.ConvPostRefIdeal.main_arg3) = m' ((c.tc : Thread Cert.ConvPostRefIdeal.nD Cert.ConvPostRefIdeal.τ).loc Cert.ConvPostRefIdeal.main_arg3))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)
      ∧ m' ((c.tc : Thread Cert.ConvFwdRefIdeal.nD Cert.ConvFwdRefIdeal.τ).loc Cert.ConvFwdRefIdeal.main_arg3) = m ((c.tc : Thread Cert.ConvFwdIdeal.nD Cert.ConvFwdIdeal.τ).loc Cert.ConvFwdIdeal.main_arg3)
      ∧ m' ((c.tc : Thread Cert.ConvFwdRefIdeal.nD Cert.ConvFwdRefIdeal.τ).loc Cert.ConvFwdRefIdeal.main_arg4) = m ((c.tc : Thread Cert.ConvFwdIdeal.nD Cert.ConvFwdIdeal.τ).loc Cert.ConvFwdIdeal.main_arg4)) →
    ∃ (v0 : (c : Dev Cert.ConvFwdIdeal.nD) → Buf (Elt Ideal) ((c.tc : Thread Cert.ConvFwdIdeal.nD Cert.ConvFwdIdeal.τ).loc Cert.ConvFwdIdeal.main_v3_0)) (v1 : (c : Dev Cert.ConvFwdIdeal.nD) → Buf (Elt Ideal) ((c.tc : Thread Cert.ConvFwdIdeal.nD Cert.ConvFwdIdeal.τ).loc Cert.ConvFwdIdeal.main_v3_1)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v3_0) = v0 c
          ∧ r.2.mem ((c.tc : Thread Cert.ConvFwdIdeal.nD Cert.ConvFwdIdeal.τ).loc Cert.ConvFwdIdeal.main_v3_1) = v1 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2)
          ∧ r.2.mem ((c.tc : Thread Cert.ConvFwdIdeal.nD Cert.ConvFwdIdeal.τ).loc Cert.ConvFwdIdeal.main_arg3) = m ((c.tc : Thread Cert.ConvFwdIdeal.nD Cert.ConvFwdIdeal.τ).loc Cert.ConvFwdIdeal.main_arg3)
          ∧ r.2.mem ((c.tc : Thread Cert.ConvFwdIdeal.nD Cert.ConvFwdIdeal.τ).loc Cert.ConvFwdIdeal.main_arg4) = m ((c.tc : Thread Cert.ConvFwdIdeal.nD Cert.ConvFwdIdeal.τ).loc Cert.ConvFwdIdeal.main_arg4))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v85) = v0 c
          ∧ r.2.mem ((c.tc : Thread Cert.ConvFwdRefIdeal.nD Cert.ConvFwdRefIdeal.τ).loc Cert.ConvFwdRefIdeal.main_v111) = v1 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2)
          ∧ r.2.mem ((c.tc : Thread Cert.ConvFwdRefIdeal.nD Cert.ConvFwdRefIdeal.τ).loc Cert.ConvFwdRefIdeal.main_arg3) = m' ((c.tc : Thread Cert.ConvFwdRefIdeal.nD Cert.ConvFwdRefIdeal.τ).loc Cert.ConvFwdRefIdeal.main_arg3)
          ∧ r.2.mem ((c.tc : Thread Cert.ConvFwdRefIdeal.nD Cert.ConvFwdRefIdeal.τ).loc Cert.ConvFwdRefIdeal.main_arg4) = m' ((c.tc : Thread Cert.ConvFwdRefIdeal.nD Cert.ConvFwdRefIdeal.τ).loc Cert.ConvFwdRefIdeal.main_arg4))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v0) = v0 c
          ∧ r.2.mem ((c.tc : Thread Cert.AdamInRefIdeal.nD Cert.AdamInRefIdeal.τ).loc Cert.AdamInRefIdeal.main_v24) = v1 c
          ∧ r.2.mem ((c.tc : Thread Cert.AdamInRefIdeal.nD Cert.AdamInRefIdeal.τ).loc Cert.AdamInRefIdeal.main_v5) = v2 c
          ∧ r.2.mem ((c.tc : Thread Cert.AdamInRefIdeal.nD Cert.AdamInRefIdeal.τ).loc Cert.AdamInRefIdeal.main_v11) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4))

def preserves_AdamProj_AdamProjIdeal : Prop :=
  True

def algebraic_AdamProjIdeal_AdamProjRefIdeal [hAdamProjIdeal : Cert.AdamProjIdeal.Facts] [hAdamProjRefIdeal : Cert.AdamProjRefIdeal.Facts] : Prop :=
  ∀ (m : (ℓ : Loc Cert.AdamProjIdeal.nD Cert.AdamProjIdeal.τ Cert.AdamProjIdeal.sig) → Buf (Elt Ideal) ℓ) (g : Dev Cert.AdamProjIdeal.nD → PrngReg)
    (m' : (ℓ : Loc Cert.AdamProjRefIdeal.nD Cert.AdamProjRefIdeal.τ Cert.AdamProjRefIdeal.sig) → Buf (Elt Ideal) ℓ) (g' : Dev Cert.AdamProjRefIdeal.nD → PrngReg), Pre_AdamProjIdeal m →
    (∀ c : Dev Cert.AdamProjIdeal.nD,
      m' ((c.tc : Thread Cert.AdamProjRefIdeal.nD Cert.AdamProjRefIdeal.τ).loc Cert.AdamProjRefIdeal.main_arg0) = m ((c.tc : Thread Cert.AdamProjIdeal.nD Cert.AdamProjIdeal.τ).loc Cert.AdamProjIdeal.main_arg0)
      ∧ m' ((c.tc : Thread Cert.AdamProjRefIdeal.nD Cert.AdamProjRefIdeal.τ).loc Cert.AdamProjRefIdeal.main_arg1) = m ((c.tc : Thread Cert.AdamProjIdeal.nD Cert.AdamProjIdeal.τ).loc Cert.AdamProjIdeal.main_arg1)
      ∧ m' ((c.tc : Thread Cert.AdamProjRefIdeal.nD Cert.AdamProjRefIdeal.τ).loc Cert.AdamProjRefIdeal.main_arg2) = m ((c.tc : Thread Cert.AdamProjIdeal.nD Cert.AdamProjIdeal.τ).loc Cert.AdamProjIdeal.main_arg2)
      ∧ m' ((c.tc : Thread Cert.AdamProjRefIdeal.nD Cert.AdamProjRefIdeal.τ).loc Cert.AdamProjRefIdeal.main_arg3) = m ((c.tc : Thread Cert.AdamProjIdeal.nD Cert.AdamProjIdeal.τ).loc Cert.AdamProjIdeal.main_arg3)
      ∧ m' ((c.tc : Thread Cert.AdamProjRefIdeal.nD Cert.AdamProjRefIdeal.τ).loc Cert.AdamProjRefIdeal.main_arg4) = m ((c.tc : Thread Cert.AdamProjIdeal.nD Cert.AdamProjIdeal.τ).loc Cert.AdamProjIdeal.main_arg4)) →
    ∃ (v0 : (c : Dev Cert.AdamProjIdeal.nD) → Buf (Elt Ideal) ((c.tc : Thread Cert.AdamProjIdeal.nD Cert.AdamProjIdeal.τ).loc Cert.AdamProjIdeal.main_v0_0)) (v1 : (c : Dev Cert.AdamProjIdeal.nD) → Buf (Elt Ideal) ((c.tc : Thread Cert.AdamProjIdeal.nD Cert.AdamProjIdeal.τ).loc Cert.AdamProjIdeal.main_v0_1)) (v2 : (c : Dev Cert.AdamProjIdeal.nD) → Buf (Elt Ideal) ((c.tc : Thread Cert.AdamProjIdeal.nD Cert.AdamProjIdeal.τ).loc Cert.AdamProjIdeal.main_v0_2)) (v3 : (c : Dev Cert.AdamProjIdeal.nD) → Buf (Elt Ideal) ((c.tc : Thread Cert.AdamProjIdeal.nD Cert.AdamProjIdeal.τ).loc Cert.AdamProjIdeal.main_v0_3)),
      θ_run (Cert.AdamProjIdeal.defs (F := Ideal)) (onTc (τ := Cert.AdamProjIdeal.τ) (Cert.AdamProjIdeal.main (F := Ideal))) ⟨m, fun _ => 0, g⟩ (fun r => ∀ c : Dev Cert.AdamProjIdeal.nD,
          r.2.mem ((c.tc : Thread Cert.AdamProjIdeal.nD Cert.AdamProjIdeal.τ).loc Cert.AdamProjIdeal.main_v0_0) = v0 c
          ∧ r.2.mem ((c.tc : Thread Cert.AdamProjIdeal.nD Cert.AdamProjIdeal.τ).loc Cert.AdamProjIdeal.main_v0_1) = v1 c
          ∧ r.2.mem ((c.tc : Thread Cert.AdamProjIdeal.nD Cert.AdamProjIdeal.τ).loc Cert.AdamProjIdeal.main_v0_2) = v2 c
          ∧ r.2.mem ((c.tc : Thread Cert.AdamProjIdeal.nD Cert.AdamProjIdeal.τ).loc Cert.AdamProjIdeal.main_v0_3) = v3 c
          ∧ r.2.mem ((c.tc : Thread Cert.AdamProjIdeal.nD Cert.AdamProjIdeal.τ).loc Cert.AdamProjIdeal.main_arg0) = m ((c.tc : Thread Cert.AdamProjIdeal.nD Cert.AdamProjIdeal.τ).loc Cert.AdamProjIdeal.main_arg0)
          ∧ r.2.mem ((c.tc : Thread Cert.AdamProjIdeal.nD Cert.AdamProjIdeal.τ).loc Cert.AdamProjIdeal.main_arg1) = m ((c.tc : Thread Cert.AdamProjIdeal.nD Cert.AdamProjIdeal.τ).loc Cert.AdamProjIdeal.main_arg1)
          ∧ r.2.mem ((c.tc : Thread Cert.AdamProjIdeal.nD Cert.AdamProjIdeal.τ).loc Cert.AdamProjIdeal.main_arg2) = m ((c.tc : Thread Cert.AdamProjIdeal.nD Cert.AdamProjIdeal.τ).loc Cert.AdamProjIdeal.main_arg2)
          ∧ r.2.mem ((c.tc : Thread Cert.AdamProjIdeal.nD Cert.AdamProjIdeal.τ).loc Cert.AdamProjIdeal.main_arg3) = m ((c.tc : Thread Cert.AdamProjIdeal.nD Cert.AdamProjIdeal.τ).loc Cert.AdamProjIdeal.main_arg3)
          ∧ r.2.mem ((c.tc : Thread Cert.AdamProjIdeal.nD Cert.AdamProjIdeal.τ).loc Cert.AdamProjIdeal.main_arg4) = m ((c.tc : Thread Cert.AdamProjIdeal.nD Cert.AdamProjIdeal.τ).loc Cert.AdamProjIdeal.main_arg4))
      ∧ θ_run (Cert.AdamProjRefIdeal.defs (F := Ideal)) (onTc (τ := Cert.AdamProjRefIdeal.τ) (Cert.AdamProjRefIdeal.main (F := Ideal))) ⟨m', fun _ => 0, g'⟩ (fun r => ∀ c : Dev Cert.AdamProjRefIdeal.nD,
          r.2.mem ((c.tc : Thread Cert.AdamProjRefIdeal.nD Cert.AdamProjRefIdeal.τ).loc Cert.AdamProjRefIdeal.main_v0) = v0 c
          ∧ r.2.mem ((c.tc : Thread Cert.AdamProjRefIdeal.nD Cert.AdamProjRefIdeal.τ).loc Cert.AdamProjRefIdeal.main_v24) = v1 c
          ∧ r.2.mem ((c.tc : Thread Cert.AdamProjRefIdeal.nD Cert.AdamProjRefIdeal.τ).loc Cert.AdamProjRefIdeal.main_v5) = v2 c
          ∧ r.2.mem ((c.tc : Thread Cert.AdamProjRefIdeal.nD Cert.AdamProjRefIdeal.τ).loc Cert.AdamProjRefIdeal.main_v11) = v3 c
          ∧ r.2.mem ((c.tc : Thread Cert.AdamProjRefIdeal.nD Cert.AdamProjRefIdeal.τ).loc Cert.AdamProjRefIdeal.main_arg0) = m' ((c.tc : Thread Cert.AdamProjRefIdeal.nD Cert.AdamProjRefIdeal.τ).loc Cert.AdamProjRefIdeal.main_arg0)
          ∧ r.2.mem ((c.tc : Thread Cert.AdamProjRefIdeal.nD Cert.AdamProjRefIdeal.τ).loc Cert.AdamProjRefIdeal.main_arg1) = m' ((c.tc : Thread Cert.AdamProjRefIdeal.nD Cert.AdamProjRefIdeal.τ).loc Cert.AdamProjRefIdeal.main_arg1)
          ∧ r.2.mem ((c.tc : Thread Cert.AdamProjRefIdeal.nD Cert.AdamProjRefIdeal.τ).loc Cert.AdamProjRefIdeal.main_arg2) = m' ((c.tc : Thread Cert.AdamProjRefIdeal.nD Cert.AdamProjRefIdeal.τ).loc Cert.AdamProjRefIdeal.main_arg2)
          ∧ r.2.mem ((c.tc : Thread Cert.AdamProjRefIdeal.nD Cert.AdamProjRefIdeal.τ).loc Cert.AdamProjRefIdeal.main_arg3) = m' ((c.tc : Thread Cert.AdamProjRefIdeal.nD Cert.AdamProjRefIdeal.τ).loc Cert.AdamProjRefIdeal.main_arg3)
          ∧ r.2.mem ((c.tc : Thread Cert.AdamProjRefIdeal.nD Cert.AdamProjRefIdeal.τ).loc Cert.AdamProjRefIdeal.main_arg4) = m' ((c.tc : Thread Cert.AdamProjRefIdeal.nD Cert.AdamProjRefIdeal.τ).loc Cert.AdamProjRefIdeal.main_arg4))

def preserves_AdamFfn_AdamFfnIdeal : Prop :=
  True

def algebraic_AdamFfnIdeal_AdamFfnRefIdeal [hAdamFfnIdeal : Cert.AdamFfnIdeal.Facts] [hAdamFfnRefIdeal : Cert.AdamFfnRefIdeal.Facts] : Prop :=
  ∀ (m : (ℓ : Loc Cert.AdamFfnIdeal.nD Cert.AdamFfnIdeal.τ Cert.AdamFfnIdeal.sig) → Buf (Elt Ideal) ℓ) (g : Dev Cert.AdamFfnIdeal.nD → PrngReg)
    (m' : (ℓ : Loc Cert.AdamFfnRefIdeal.nD Cert.AdamFfnRefIdeal.τ Cert.AdamFfnRefIdeal.sig) → Buf (Elt Ideal) ℓ) (g' : Dev Cert.AdamFfnRefIdeal.nD → PrngReg), Pre_AdamFfnIdeal m →
    (∀ c : Dev Cert.AdamFfnIdeal.nD,
      m' ((c.tc : Thread Cert.AdamFfnRefIdeal.nD Cert.AdamFfnRefIdeal.τ).loc Cert.AdamFfnRefIdeal.main_arg0) = m ((c.tc : Thread Cert.AdamFfnIdeal.nD Cert.AdamFfnIdeal.τ).loc Cert.AdamFfnIdeal.main_arg0)
      ∧ m' ((c.tc : Thread Cert.AdamFfnRefIdeal.nD Cert.AdamFfnRefIdeal.τ).loc Cert.AdamFfnRefIdeal.main_arg1) = m ((c.tc : Thread Cert.AdamFfnIdeal.nD Cert.AdamFfnIdeal.τ).loc Cert.AdamFfnIdeal.main_arg1)
      ∧ m' ((c.tc : Thread Cert.AdamFfnRefIdeal.nD Cert.AdamFfnRefIdeal.τ).loc Cert.AdamFfnRefIdeal.main_arg2) = m ((c.tc : Thread Cert.AdamFfnIdeal.nD Cert.AdamFfnIdeal.τ).loc Cert.AdamFfnIdeal.main_arg2)
      ∧ m' ((c.tc : Thread Cert.AdamFfnRefIdeal.nD Cert.AdamFfnRefIdeal.τ).loc Cert.AdamFfnRefIdeal.main_arg3) = m ((c.tc : Thread Cert.AdamFfnIdeal.nD Cert.AdamFfnIdeal.τ).loc Cert.AdamFfnIdeal.main_arg3)
      ∧ m' ((c.tc : Thread Cert.AdamFfnRefIdeal.nD Cert.AdamFfnRefIdeal.τ).loc Cert.AdamFfnRefIdeal.main_arg4) = m ((c.tc : Thread Cert.AdamFfnIdeal.nD Cert.AdamFfnIdeal.τ).loc Cert.AdamFfnIdeal.main_arg4)) →
    ∃ (v0 : (c : Dev Cert.AdamFfnIdeal.nD) → Buf (Elt Ideal) ((c.tc : Thread Cert.AdamFfnIdeal.nD Cert.AdamFfnIdeal.τ).loc Cert.AdamFfnIdeal.main_v0_0)) (v1 : (c : Dev Cert.AdamFfnIdeal.nD) → Buf (Elt Ideal) ((c.tc : Thread Cert.AdamFfnIdeal.nD Cert.AdamFfnIdeal.τ).loc Cert.AdamFfnIdeal.main_v0_1)) (v2 : (c : Dev Cert.AdamFfnIdeal.nD) → Buf (Elt Ideal) ((c.tc : Thread Cert.AdamFfnIdeal.nD Cert.AdamFfnIdeal.τ).loc Cert.AdamFfnIdeal.main_v0_2)) (v3 : (c : Dev Cert.AdamFfnIdeal.nD) → Buf (Elt Ideal) ((c.tc : Thread Cert.AdamFfnIdeal.nD Cert.AdamFfnIdeal.τ).loc Cert.AdamFfnIdeal.main_v0_3)),
      θ_run (Cert.AdamFfnIdeal.defs (F := Ideal)) (onTc (τ := Cert.AdamFfnIdeal.τ) (Cert.AdamFfnIdeal.main (F := Ideal))) ⟨m, fun _ => 0, g⟩ (fun r => ∀ c : Dev Cert.AdamFfnIdeal.nD,
          r.2.mem ((c.tc : Thread Cert.AdamFfnIdeal.nD Cert.AdamFfnIdeal.τ).loc Cert.AdamFfnIdeal.main_v0_0) = v0 c
          ∧ r.2.mem ((c.tc : Thread Cert.AdamFfnIdeal.nD Cert.AdamFfnIdeal.τ).loc Cert.AdamFfnIdeal.main_v0_1) = v1 c
          ∧ r.2.mem ((c.tc : Thread Cert.AdamFfnIdeal.nD Cert.AdamFfnIdeal.τ).loc Cert.AdamFfnIdeal.main_v0_2) = v2 c
          ∧ r.2.mem ((c.tc : Thread Cert.AdamFfnIdeal.nD Cert.AdamFfnIdeal.τ).loc Cert.AdamFfnIdeal.main_v0_3) = v3 c
          ∧ r.2.mem ((c.tc : Thread Cert.AdamFfnIdeal.nD Cert.AdamFfnIdeal.τ).loc Cert.AdamFfnIdeal.main_arg0) = m ((c.tc : Thread Cert.AdamFfnIdeal.nD Cert.AdamFfnIdeal.τ).loc Cert.AdamFfnIdeal.main_arg0)
          ∧ r.2.mem ((c.tc : Thread Cert.AdamFfnIdeal.nD Cert.AdamFfnIdeal.τ).loc Cert.AdamFfnIdeal.main_arg1) = m ((c.tc : Thread Cert.AdamFfnIdeal.nD Cert.AdamFfnIdeal.τ).loc Cert.AdamFfnIdeal.main_arg1)
          ∧ r.2.mem ((c.tc : Thread Cert.AdamFfnIdeal.nD Cert.AdamFfnIdeal.τ).loc Cert.AdamFfnIdeal.main_arg2) = m ((c.tc : Thread Cert.AdamFfnIdeal.nD Cert.AdamFfnIdeal.τ).loc Cert.AdamFfnIdeal.main_arg2)
          ∧ r.2.mem ((c.tc : Thread Cert.AdamFfnIdeal.nD Cert.AdamFfnIdeal.τ).loc Cert.AdamFfnIdeal.main_arg3) = m ((c.tc : Thread Cert.AdamFfnIdeal.nD Cert.AdamFfnIdeal.τ).loc Cert.AdamFfnIdeal.main_arg3)
          ∧ r.2.mem ((c.tc : Thread Cert.AdamFfnIdeal.nD Cert.AdamFfnIdeal.τ).loc Cert.AdamFfnIdeal.main_arg4) = m ((c.tc : Thread Cert.AdamFfnIdeal.nD Cert.AdamFfnIdeal.τ).loc Cert.AdamFfnIdeal.main_arg4))
      ∧ θ_run (Cert.AdamFfnRefIdeal.defs (F := Ideal)) (onTc (τ := Cert.AdamFfnRefIdeal.τ) (Cert.AdamFfnRefIdeal.main (F := Ideal))) ⟨m', fun _ => 0, g'⟩ (fun r => ∀ c : Dev Cert.AdamFfnRefIdeal.nD,
          r.2.mem ((c.tc : Thread Cert.AdamFfnRefIdeal.nD Cert.AdamFfnRefIdeal.τ).loc Cert.AdamFfnRefIdeal.main_v0) = v0 c
          ∧ r.2.mem ((c.tc : Thread Cert.AdamFfnRefIdeal.nD Cert.AdamFfnRefIdeal.τ).loc Cert.AdamFfnRefIdeal.main_v24) = v1 c
          ∧ r.2.mem ((c.tc : Thread Cert.AdamFfnRefIdeal.nD Cert.AdamFfnRefIdeal.τ).loc Cert.AdamFfnRefIdeal.main_v5) = v2 c
          ∧ r.2.mem ((c.tc : Thread Cert.AdamFfnRefIdeal.nD Cert.AdamFfnRefIdeal.τ).loc Cert.AdamFfnRefIdeal.main_v11) = v3 c
          ∧ r.2.mem ((c.tc : Thread Cert.AdamFfnRefIdeal.nD Cert.AdamFfnRefIdeal.τ).loc Cert.AdamFfnRefIdeal.main_arg0) = m' ((c.tc : Thread Cert.AdamFfnRefIdeal.nD Cert.AdamFfnRefIdeal.τ).loc Cert.AdamFfnRefIdeal.main_arg0)
          ∧ r.2.mem ((c.tc : Thread Cert.AdamFfnRefIdeal.nD Cert.AdamFfnRefIdeal.τ).loc Cert.AdamFfnRefIdeal.main_arg1) = m' ((c.tc : Thread Cert.AdamFfnRefIdeal.nD Cert.AdamFfnRefIdeal.τ).loc Cert.AdamFfnRefIdeal.main_arg1)
          ∧ r.2.mem ((c.tc : Thread Cert.AdamFfnRefIdeal.nD Cert.AdamFfnRefIdeal.τ).loc Cert.AdamFfnRefIdeal.main_arg2) = m' ((c.tc : Thread Cert.AdamFfnRefIdeal.nD Cert.AdamFfnRefIdeal.τ).loc Cert.AdamFfnRefIdeal.main_arg2)
          ∧ r.2.mem ((c.tc : Thread Cert.AdamFfnRefIdeal.nD Cert.AdamFfnRefIdeal.τ).loc Cert.AdamFfnRefIdeal.main_arg3) = m' ((c.tc : Thread Cert.AdamFfnRefIdeal.nD Cert.AdamFfnRefIdeal.τ).loc Cert.AdamFfnRefIdeal.main_arg3)
          ∧ r.2.mem ((c.tc : Thread Cert.AdamFfnRefIdeal.nD Cert.AdamFfnRefIdeal.τ).loc Cert.AdamFfnRefIdeal.main_arg4) = m' ((c.tc : Thread Cert.AdamFfnRefIdeal.nD Cert.AdamFfnRefIdeal.τ).loc Cert.AdamFfnRefIdeal.main_arg4))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v0) = v0 c
          ∧ r.2.mem ((c.tc : Thread Cert.AdamOutRefIdeal.nD Cert.AdamOutRefIdeal.τ).loc Cert.AdamOutRefIdeal.main_v24) = v1 c
          ∧ r.2.mem ((c.tc : Thread Cert.AdamOutRefIdeal.nD Cert.AdamOutRefIdeal.τ).loc Cert.AdamOutRefIdeal.main_v5) = v2 c
          ∧ r.2.mem ((c.tc : Thread Cert.AdamOutRefIdeal.nD Cert.AdamOutRefIdeal.τ).loc Cert.AdamOutRefIdeal.main_v11) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def Claim : Prop :=
  ∃ (hConvBwd : Cert.ConvBwd.Facts) (hConvBwdIdeal : Cert.ConvBwdIdeal.Facts) (hConvBwdRefIdeal : Cert.ConvBwdRefIdeal.Facts) (hFfnIn : Cert.FfnIn.Facts) (hFfnInIdeal : Cert.FfnInIdeal.Facts) (hFfnInRefIdeal : Cert.FfnInRefIdeal.Facts) (hFfnDx : Cert.FfnDx.Facts) (hFfnDxIdeal : Cert.FfnDxIdeal.Facts) (hFfnDxRefIdeal : Cert.FfnDxRefIdeal.Facts) (hFfnDh : Cert.FfnDh.Facts) (hFfnDhIdeal : Cert.FfnDhIdeal.Facts) (hFfnDhRefIdeal : Cert.FfnDhRefIdeal.Facts) (hFfnDwi : Cert.FfnDwi.Facts) (hFfnDwiIdeal : Cert.FfnDwiIdeal.Facts) (hFfnDwiRefIdeal : Cert.FfnDwiRefIdeal.Facts) (hFfnDwo : Cert.FfnDwo.Facts) (hFfnDwoIdeal : Cert.FfnDwoIdeal.Facts) (hFfnDwoRefIdeal : Cert.FfnDwoRefIdeal.Facts) (hFfnTwo : Cert.FfnTwo.Facts) (hFfnTwoIdeal : Cert.FfnTwoIdeal.Facts) (hFfnTwoRefIdeal : Cert.FfnTwoRefIdeal.Facts) (hFfnTwoDwi : Cert.FfnTwoDwi.Facts) (hFfnTwoDwiIdeal : Cert.FfnTwoDwiIdeal.Facts) (hFfnTwoDwiRefIdeal : Cert.FfnTwoDwiRefIdeal.Facts) (hProjIn : Cert.ProjIn.Facts) (hProjInIdeal : Cert.ProjInIdeal.Facts) (hProjInRefIdeal : Cert.ProjInRefIdeal.Facts) (hProjDws : Cert.ProjDws.Facts) (hProjDwsIdeal : Cert.ProjDwsIdeal.Facts) (hProjDwsRefIdeal : Cert.ProjDwsRefIdeal.Facts) (hProjDwc : Cert.ProjDwc.Facts) (hProjDwcIdeal : Cert.ProjDwcIdeal.Facts) (hProjDwcRefIdeal : Cert.ProjDwcRefIdeal.Facts) (hProjDx : Cert.ProjDx.Facts) (hProjDxIdeal : Cert.ProjDxIdeal.Facts) (hProjDxRefIdeal : Cert.ProjDxRefIdeal.Facts) (hProjDwo : Cert.ProjDwo.Facts) (hProjDwoIdeal : Cert.ProjDwoIdeal.Facts) (hProjDwoRefIdeal : Cert.ProjDwoRefIdeal.Facts) (hFfnLn : Cert.FfnLn.Facts) (hFfnLnIdeal : Cert.FfnLnIdeal.Facts) (hFfnLnRefIdeal : Cert.FfnLnRefIdeal.Facts) (hProjLn : Cert.ProjLn.Facts) (hProjLnIdeal : Cert.ProjLnIdeal.Facts) (hProjLnRefIdeal : Cert.ProjLnRefIdeal.Facts) (hFfnDxLn : Cert.FfnDxLn.Facts) (hFfnDxLnIdeal : Cert.FfnDxLnIdeal.Facts) (hFfnDxLnRefIdeal : Cert.FfnDxLnRefIdeal.Facts) (hProjDxLn : Cert.ProjDxLn.Facts) (hProjDxLnIdeal : Cert.ProjDxLnIdeal.Facts) (hProjDxLnRefIdeal : Cert.ProjDxLnRefIdeal.Facts) (hLossLn : Cert.LossLn.Facts) (hLossLnIdeal : Cert.LossLnIdeal.Facts) (hLossLnRefIdeal : Cert.LossLnRefIdeal.Facts) (hShiftBwd : Cert.ShiftBwd.Facts) (hShiftBwdIdeal : Cert.ShiftBwdIdeal.Facts) (hShiftBwdRefIdeal : Cert.ShiftBwdRefIdeal.Facts) (hConvPost : Cert.ConvPost.Facts) (hConvPostIdeal : Cert.ConvPostIdeal.Facts) (hConvPostRefIdeal : Cert.ConvPostRefIdeal.Facts) (hConvFwd : Cert.ConvFwd.Facts) (hConvFwdIdeal : Cert.ConvFwdIdeal.Facts) (hConvFwdRefIdeal : Cert.ConvFwdRefIdeal.Facts) (hAdamIn : Cert.AdamIn.Facts) (hAdamInIdeal : Cert.AdamInIdeal.Facts) (hAdamInRefIdeal : Cert.AdamInRefIdeal.Facts) (hAdamProj : Cert.AdamProj.Facts) (hAdamProjIdeal : Cert.AdamProjIdeal.Facts) (hAdamProjRefIdeal : Cert.AdamProjRefIdeal.Facts) (hAdamFfn : Cert.AdamFfn.Facts) (hAdamFfnIdeal : Cert.AdamFfnIdeal.Facts) (hAdamFfnRefIdeal : Cert.AdamFfnRefIdeal.Facts) (hAdamOut : Cert.AdamOut.Facts) (hAdamOutIdeal : Cert.AdamOutIdeal.Facts) (hAdamOutRefIdeal : Cert.AdamOutRefIdeal.Facts) (hAdamSmall : Cert.AdamSmall.Facts) (hAdamSmallIdeal : Cert.AdamSmallIdeal.Facts) (hAdamSmallRefIdeal : Cert.AdamSmallRefIdeal.Facts) (hPre_hidden_finite : Cert.Pre_hidden_finite.Facts) (hPre_ffn_dx_finite : Cert.Pre_ffn_dx_finite.Facts) (hPre_proj_dx_finite : Cert.Pre_proj_dx_finite.Facts) (hPre_loss_finite : Cert.Pre_loss_finite.Facts) (hPre_shift_finite : Cert.Pre_shift_finite.Facts) (hPre_conv_post_finite : Cert.Pre_conv_post_finite.Facts),
    quiescent_ConvBwd (hConvBwd := hConvBwd)
    ∧ quiescent_ConvBwdIdeal (hConvBwdIdeal := hConvBwdIdeal)
    ∧ quiescent_ConvBwdRefIdeal (hConvBwdRefIdeal := hConvBwdRefIdeal)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_FfnDx (hFfnDx := hFfnDx)
    ∧ quiescent_FfnDxIdeal (hFfnDxIdeal := hFfnDxIdeal)
    ∧ quiescent_FfnDxRefIdeal (hFfnDxRefIdeal := hFfnDxRefIdeal)
    ∧ quiescent_FfnDh (hFfnDh := hFfnDh)
    ∧ quiescent_FfnDhIdeal (hFfnDhIdeal := hFfnDhIdeal)
    ∧ quiescent_FfnDhIdeal_pre_hidden_finite (hFfnDhIdeal := hFfnDhIdeal) (hPre_hidden_finite := hPre_hidden_finite)
    ∧ quiescent_FfnDhRefIdeal (hFfnDhRefIdeal := hFfnDhRefIdeal)
    ∧ quiescent_FfnDhRefIdeal_pre_hidden_finite (hFfnDhRefIdeal := hFfnDhRefIdeal) (hPre_hidden_finite := hPre_hidden_finite)
    ∧ quiescent_FfnDwi (hFfnDwi := hFfnDwi)
    ∧ quiescent_FfnDwiIdeal (hFfnDwiIdeal := hFfnDwiIdeal)
    ∧ quiescent_FfnDwiRefIdeal (hFfnDwiRefIdeal := hFfnDwiRefIdeal)
    ∧ quiescent_FfnDwo (hFfnDwo := hFfnDwo)
    ∧ quiescent_FfnDwoIdeal (hFfnDwoIdeal := hFfnDwoIdeal)
    ∧ quiescent_FfnDwoRefIdeal (hFfnDwoRefIdeal := hFfnDwoRefIdeal)
    ∧ quiescent_FfnTwo (hFfnTwo := hFfnTwo)
    ∧ quiescent_FfnTwoIdeal (hFfnTwoIdeal := hFfnTwoIdeal)
    ∧ quiescent_FfnTwoRefIdeal (hFfnTwoRefIdeal := hFfnTwoRefIdeal)
    ∧ quiescent_FfnTwoDwi (hFfnTwoDwi := hFfnTwoDwi)
    ∧ quiescent_FfnTwoDwiIdeal (hFfnTwoDwiIdeal := hFfnTwoDwiIdeal)
    ∧ quiescent_FfnTwoDwiRefIdeal (hFfnTwoDwiRefIdeal := hFfnTwoDwiRefIdeal)
    ∧ quiescent_ProjIn (hProjIn := hProjIn)
    ∧ quiescent_ProjInIdeal (hProjInIdeal := hProjInIdeal)
    ∧ quiescent_ProjInRefIdeal (hProjInRefIdeal := hProjInRefIdeal)
    ∧ quiescent_ProjDws (hProjDws := hProjDws)
    ∧ quiescent_ProjDwsIdeal (hProjDwsIdeal := hProjDwsIdeal)
    ∧ quiescent_ProjDwsRefIdeal (hProjDwsRefIdeal := hProjDwsRefIdeal)
    ∧ quiescent_ProjDwc (hProjDwc := hProjDwc)
    ∧ quiescent_ProjDwcIdeal (hProjDwcIdeal := hProjDwcIdeal)
    ∧ quiescent_ProjDwcRefIdeal (hProjDwcRefIdeal := hProjDwcRefIdeal)
    ∧ quiescent_ProjDx (hProjDx := hProjDx)
    ∧ quiescent_ProjDxIdeal (hProjDxIdeal := hProjDxIdeal)
    ∧ quiescent_ProjDxRefIdeal (hProjDxRefIdeal := hProjDxRefIdeal)
    ∧ quiescent_ProjDwo (hProjDwo := hProjDwo)
    ∧ quiescent_ProjDwoIdeal (hProjDwoIdeal := hProjDwoIdeal)
    ∧ quiescent_ProjDwoRefIdeal (hProjDwoRefIdeal := hProjDwoRefIdeal)
    ∧ quiescent_FfnLn (hFfnLn := hFfnLn)
    ∧ quiescent_FfnLnIdeal (hFfnLnIdeal := hFfnLnIdeal)
    ∧ quiescent_FfnLnRefIdeal (hFfnLnRefIdeal := hFfnLnRefIdeal)
    ∧ quiescent_ProjLn (hProjLn := hProjLn)
    ∧ quiescent_ProjLnIdeal (hProjLnIdeal := hProjLnIdeal)
    ∧ quiescent_ProjLnRefIdeal (hProjLnRefIdeal := hProjLnRefIdeal)
    ∧ quiescent_FfnDxLn (hFfnDxLn := hFfnDxLn)
    ∧ quiescent_FfnDxLnIdeal (hFfnDxLnIdeal := hFfnDxLnIdeal)
    ∧ quiescent_FfnDxLnIdeal_pre_ffn_dx_finite (hFfnDxLnIdeal := hFfnDxLnIdeal) (hPre_ffn_dx_finite := hPre_ffn_dx_finite)
    ∧ quiescent_FfnDxLnRefIdeal (hFfnDxLnRefIdeal := hFfnDxLnRefIdeal)
    ∧ quiescent_FfnDxLnRefIdeal_pre_ffn_dx_finite (hFfnDxLnRefIdeal := hFfnDxLnRefIdeal) (hPre_ffn_dx_finite := hPre_ffn_dx_finite)
    ∧ quiescent_ProjDxLn (hProjDxLn := hProjDxLn)
    ∧ quiescent_ProjDxLnIdeal (hProjDxLnIdeal := hProjDxLnIdeal)
    ∧ quiescent_ProjDxLnIdeal_pre_proj_dx_finite (hProjDxLnIdeal := hProjDxLnIdeal) (hPre_proj_dx_finite := hPre_proj_dx_finite)
    ∧ quiescent_ProjDxLnRefIdeal (hProjDxLnRefIdeal := hProjDxLnRefIdeal)
    ∧ quiescent_ProjDxLnRefIdeal_pre_proj_dx_finite (hProjDxLnRefIdeal := hProjDxLnRefIdeal) (hPre_proj_dx_finite := hPre_proj_dx_finite)
    ∧ quiescent_LossLn (hLossLn := hLossLn)
    ∧ quiescent_LossLnIdeal (hLossLnIdeal := hLossLnIdeal)
    ∧ quiescent_LossLnIdeal_pre_loss_finite (hLossLnIdeal := hLossLnIdeal) (hPre_loss_finite := hPre_loss_finite)
    ∧ quiescent_LossLnRefIdeal (hLossLnRefIdeal := hLossLnRefIdeal)
    ∧ quiescent_LossLnRefIdeal_pre_loss_finite (hLossLnRefIdeal := hLossLnRefIdeal) (hPre_loss_finite := hPre_loss_finite)
    ∧ quiescent_ShiftBwd (hShiftBwd := hShiftBwd)
    ∧ quiescent_ShiftBwdIdeal (hShiftBwdIdeal := hShiftBwdIdeal)
    ∧ quiescent_ShiftBwdIdeal_pre_shift_finite (hShiftBwdIdeal := hShiftBwdIdeal) (hPre_shift_finite := hPre_shift_finite)
    ∧ quiescent_ShiftBwdRefIdeal (hShiftBwdRefIdeal := hShiftBwdRefIdeal)
    ∧ quiescent_ShiftBwdRefIdeal_pre_shift_finite (hShiftBwdRefIdeal := hShiftBwdRefIdeal) (hPre_shift_finite := hPre_shift_finite)
    ∧ quiescent_ConvPost (hConvPost := hConvPost)
    ∧ quiescent_ConvPostIdeal (hConvPostIdeal := hConvPostIdeal)
    ∧ quiescent_ConvPostIdeal_pre_conv_post_finite (hConvPostIdeal := hConvPostIdeal) (hPre_conv_post_finite := hPre_conv_post_finite)
    ∧ quiescent_ConvPostRefIdeal (hConvPostRefIdeal := hConvPostRefIdeal)
    ∧ quiescent_ConvPostRefIdeal_pre_conv_post_finite (hConvPostRefIdeal := hConvPostRefIdeal) (hPre_conv_post_finite := hPre_conv_post_finite)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamProj (hAdamProj := hAdamProj)
    ∧ quiescent_AdamProjIdeal (hAdamProjIdeal := hAdamProjIdeal)
    ∧ quiescent_AdamProjRefIdeal (hAdamProjRefIdeal := hAdamProjRefIdeal)
    ∧ quiescent_AdamFfn (hAdamFfn := hAdamFfn)
    ∧ quiescent_AdamFfnIdeal (hAdamFfnIdeal := hAdamFfnIdeal)
    ∧ quiescent_AdamFfnRefIdeal (hAdamFfnRefIdeal := hAdamFfnRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ preserves_ConvBwd_ConvBwdIdeal
    ∧ algebraic_ConvBwdIdeal_ConvBwdRefIdeal (hConvBwdIdeal := hConvBwdIdeal) (hConvBwdRefIdeal := hConvBwdRefIdeal)
    ∧ preserves_FfnIn_FfnInIdeal
    ∧ algebraic_FfnInIdeal_FfnInRefIdeal (hFfnInIdeal := hFfnInIdeal) (hFfnInRefIdeal := hFfnInRefIdeal)
    ∧ preserves_FfnDx_FfnDxIdeal
    ∧ algebraic_FfnDxIdeal_FfnDxRefIdeal (hFfnDxIdeal := hFfnDxIdeal) (hFfnDxRefIdeal := hFfnDxRefIdeal)
    ∧ preserves_FfnDh_FfnDhIdeal
    ∧ algebraic_FfnDhIdeal_FfnDhRefIdeal_pre_hidden_finite (hFfnDhIdeal := hFfnDhIdeal) (hFfnDhRefIdeal := hFfnDhRefIdeal) (hPre_hidden_finite := hPre_hidden_finite)
    ∧ preserves_FfnDwi_FfnDwiIdeal
    ∧ algebraic_FfnDwiIdeal_FfnDwiRefIdeal (hFfnDwiIdeal := hFfnDwiIdeal) (hFfnDwiRefIdeal := hFfnDwiRefIdeal)
    ∧ preserves_FfnDwo_FfnDwoIdeal
    ∧ algebraic_FfnDwoIdeal_FfnDwoRefIdeal (hFfnDwoIdeal := hFfnDwoIdeal) (hFfnDwoRefIdeal := hFfnDwoRefIdeal)
    ∧ preserves_FfnTwo_FfnTwoIdeal
    ∧ algebraic_FfnTwoIdeal_FfnTwoRefIdeal (hFfnTwoIdeal := hFfnTwoIdeal) (hFfnTwoRefIdeal := hFfnTwoRefIdeal)
    ∧ preserves_FfnTwoDwi_FfnTwoDwiIdeal
    ∧ algebraic_FfnTwoDwiIdeal_FfnTwoDwiRefIdeal (hFfnTwoDwiIdeal := hFfnTwoDwiIdeal) (hFfnTwoDwiRefIdeal := hFfnTwoDwiRefIdeal)
    ∧ preserves_ProjIn_ProjInIdeal
    ∧ algebraic_ProjInIdeal_ProjInRefIdeal (hProjInIdeal := hProjInIdeal) (hProjInRefIdeal := hProjInRefIdeal)
    ∧ preserves_ProjDws_ProjDwsIdeal
    ∧ algebraic_ProjDwsIdeal_ProjDwsRefIdeal (hProjDwsIdeal := hProjDwsIdeal) (hProjDwsRefIdeal := hProjDwsRefIdeal)
    ∧ preserves_ProjDwc_ProjDwcIdeal
    ∧ algebraic_ProjDwcIdeal_ProjDwcRefIdeal (hProjDwcIdeal := hProjDwcIdeal) (hProjDwcRefIdeal := hProjDwcRefIdeal)
    ∧ preserves_ProjDx_ProjDxIdeal
    ∧ algebraic_ProjDxIdeal_ProjDxRefIdeal (hProjDxIdeal := hProjDxIdeal) (hProjDxRefIdeal := hProjDxRefIdeal)
    ∧ preserves_ProjDwo_ProjDwoIdeal
    ∧ algebraic_ProjDwoIdeal_ProjDwoRefIdeal (hProjDwoIdeal := hProjDwoIdeal) (hProjDwoRefIdeal := hProjDwoRefIdeal)
    ∧ preserves_FfnLn_FfnLnIdeal
    ∧ algebraic_FfnLnIdeal_FfnLnRefIdeal (hFfnLnIdeal := hFfnLnIdeal) (hFfnLnRefIdeal := hFfnLnRefIdeal)
    ∧ preserves_ProjLn_ProjLnIdeal
    ∧ algebraic_ProjLnIdeal_ProjLnRefIdeal (hProjLnIdeal := hProjLnIdeal) (hProjLnRefIdeal := hProjLnRefIdeal)
    ∧ preserves_FfnDxLn_FfnDxLnIdeal
    ∧ algebraic_FfnDxLnIdeal_FfnDxLnRefIdeal_pre_ffn_dx_finite (hFfnDxLnIdeal := hFfnDxLnIdeal) (hFfnDxLnRefIdeal := hFfnDxLnRefIdeal) (hPre_ffn_dx_finite := hPre_ffn_dx_finite)
    ∧ preserves_ProjDxLn_ProjDxLnIdeal
    ∧ algebraic_ProjDxLnIdeal_ProjDxLnRefIdeal_pre_proj_dx_finite (hProjDxLnIdeal := hProjDxLnIdeal) (hProjDxLnRefIdeal := hProjDxLnRefIdeal) (hPre_proj_dx_finite := hPre_proj_dx_finite)
    ∧ preserves_LossLn_LossLnIdeal
    ∧ algebraic_LossLnIdeal_LossLnRefIdeal_pre_loss_finite (hLossLnIdeal := hLossLnIdeal) (hLossLnRefIdeal := hLossLnRefIdeal) (hPre_loss_finite := hPre_loss_finite)
    ∧ preserves_ShiftBwd_ShiftBwdIdeal
    ∧ algebraic_ShiftBwdIdeal_ShiftBwdRefIdeal_pre_shift_finite (hShiftBwdIdeal := hShiftBwdIdeal) (hShiftBwdRefIdeal := hShiftBwdRefIdeal) (hPre_shift_finite := hPre_shift_finite)
    ∧ preserves_ConvPost_ConvPostIdeal
    ∧ algebraic_ConvPostIdeal_ConvPostRefIdeal_pre_conv_post_finite (hConvPostIdeal := hConvPostIdeal) (hConvPostRefIdeal := hConvPostRefIdeal) (hPre_conv_post_finite := hPre_conv_post_finite)
    ∧ preserves_ConvFwd_ConvFwdIdeal
    ∧ algebraic_ConvFwdIdeal_ConvFwdRefIdeal (hConvFwdIdeal := hConvFwdIdeal) (hConvFwdRefIdeal := hConvFwdRefIdeal)
    ∧ preserves_AdamIn_AdamInIdeal
    ∧ algebraic_AdamInIdeal_AdamInRefIdeal (hAdamInIdeal := hAdamInIdeal) (hAdamInRefIdeal := hAdamInRefIdeal)
    ∧ preserves_AdamProj_AdamProjIdeal
    ∧ algebraic_AdamProjIdeal_AdamProjRefIdeal (hAdamProjIdeal := hAdamProjIdeal) (hAdamProjRefIdeal := hAdamProjRefIdeal)
    ∧ preserves_AdamFfn_AdamFfnIdeal
    ∧ algebraic_AdamFfnIdeal_AdamFfnRefIdeal (hAdamFfnIdeal := hAdamFfnIdeal) (hAdamFfnRefIdeal := hAdamFfnRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamSmall_AdamSmallIdeal
    ∧ algebraic_AdamSmallIdeal_AdamSmallRefIdeal (hAdamSmallIdeal := hAdamSmallIdeal) (hAdamSmallRefIdeal := hAdamSmallRefIdeal)
-- ==== Pre_conv_post_finite.lean ====
abbrev S8192x512 : Shape := ⟨2, ![8192, 512]⟩
abbrev S8192x1024 : Shape := ⟨2, ![8192, 1024]⟩
abbrev S512 : Shape := ⟨1, ![512]⟩
abbrev S_ : Shape := ⟨0, ![]⟩

class Facts : Prop where
  slices_S8192x1024_S8192x512_0_512 : S8192x1024.Slices ![0, 512] S8192x512
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512 : S_.BroadcastsInDim S512 (![] : Fin 0 → Fin S512.rank)
  reducesTo_S512_S_d0 : S512.ReducesTo [0] S_

variable [Facts]

def fn {F : FTy → Type} [FloatOps F] (main_arg0 : FVec F S8192x512 .f32) (main_arg1 : FVec F S8192x1024 .f32) (main_arg2 : FVec F S512 .f32) (main_arg3 : FVec F S512 .f32) : IVec S_ 1 :=
  let main_v0 : FVec F S8192x512 .f32 := (extractStridedSlice S8192x512 ![0, 512] · slices_S8192x1024_S8192x512_0_512) main_arg1
  let main_v1 : FVec F S8192x512 .f32 := Host.absf main_v0
  let main_cst : FVec F S_ .f32 := constant S_ .f32 0x7F800000#32
  let main_v2 : FVec F S8192x512 .f32 := broadcastInDim S8192x512 ![] bcast_S_S8192x512 main_cst
  let main_v3 : IVec S8192x512 1 := cmpf .olt main_v1 main_v2
  let main_c : IVec S_ 1 := constantI S_ 1 1#1
  let main_v4 : IVec S_ 1 := (fun x v => Host.reduce IntOp.andi x v reducesTo_S8192x512_S_d0_1 h_S_) main_v3 main_c
  let main_v5 : FVec F S512 .f32 := Host.absf main_arg2
  let main_cst_0 : FVec F S_ .f32 := constant S_ .f32 0x7F800000#32
  let main_v6 : FVec F S512 .f32 := broadcastInDim S512 ![] bcast_S_S512 main_cst_0
  let main_v7 : IVec S512 1 := cmpf .olt main_v5 main_v6
  let main_c_1 : IVec S_ 1 := constantI S_ 1 1#1
  let main_v8 : IVec S_ 1 := (fun x v => Host.reduce IntOp.andi x v reducesTo_S512_S_d0 h_S_) main_v7 main_c_1
  let main_v9 : IVec S_ 1 := andi main_v4 main_v8
  main_v9
-- ==== Pre_ffn_dx_finite.lean ====
abbrev S8192x5632 : Shape := ⟨2, ![8192, 5632]⟩
abbrev S1024x5632 : Shape := ⟨2, ![1024, 5632]⟩
abbrev S8192x1024 : Shape := ⟨2, ![8192, 1024]⟩
abbrev S1024 : Shape := ⟨1, ![1024]⟩
abbrev S_ : Shape := ⟨0, ![]⟩

class Facts : Prop where
  bitsLt_bf16_f32 : FTy.bits .bf16 < FTy.bits .f32
  bcast_S_S8192x5632 : S_.BroadcastsInDim S8192x5632 (![] : Fin 0 → Fin S8192x5632.rank)
  reducesTo_S8192x5632_S_d0_1 : S8192x5632.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v14 : IVec S_ 1) (main_v15 : FVec F S1024 .f32) (main_v16 : FVec F S1024 .f32) : IVec S_ 1 :=
  let main_v17 : IVec S1024 1 := cmpf .olt main_v15 main_v16
  let main_c_5 : IVec S_ 1 := constantI S_ 1 1#1
  let main_v18 : IVec S_ 1 := (fun x v => Host.reduce IntOp.andi x v reducesTo_S1024_S_d0 h_S_) main_v17 main_c_5
  let main_v19 : IVec S_ 1 := andi main_v14 main_v18
  main_v19

def fn {F : FTy → Type} [FloatOps F] (main_arg0 : FVec F S8192x5632 .bf16) (main_arg1 : FVec F S1024x5632 .f32) (main_arg2 : FVec F S8192x1024 .f32) (main_arg3 : FVec F S8192x1024 .f32) (main_arg4 : FVec F S1024 .f32) (main_arg5 : FVec F S1024 .f32) : IVec S_ 1 :=
  let main_v0 : FVec F S8192x5632 .f32 := (extf .f32 · bitsLt_bf16_f32) main_arg0
  let main_v1 : FVec F S8192x5632 .f32 := Host.absf main_v0
  let main_cst : FVec F S_ .f32 := constant S_ .f32 0x7F800000#32
  let main_v2 : FVec F S8192x5632 .f32 := broadcastInDim S8192x5632 ![] bcast_S_S8192x5632 main_cst
  let main_v3 : IVec S8192x5632 1 := cmpf .olt main_v1 main_v2
  let main_c : IVec S_ 1 := constantI S_ 1 1#1
  let main_v4 : IVec S_ 1 := (fun x v => Host.reduce IntOp.andi x v reducesTo_S8192x5632_S_d0_1 h_S_) main_v3 main_c
  let main_v5 : FVec F S1024x5632 .f32 := Host.absf main_arg1
  let main_cst_0 : FVec F S_ .f32 := constant S_ .f32 0x7F800000#32
  let main_v6 : FVec F S1024x5632 .f32 := broadcastInDim S1024x5632 ![] bcast_S_S1024x5632 main_cst_0
  let main_v7 : IVec S1024x5632 1 := cmpf .olt main_v5 main_v6
  let main_c_1 : IVec S_ 1 := constantI S_ 1 1#1
  let main_v8 : IVec S_ 1 := (fun x v => Host.reduce IntOp.andi x v reducesTo_S1024x5632_S_d0_1 h_S_) main_v7 main_c_1
  let main_v9 : IVec S_ 1 := andi main_v4 main_v8
  let main_v10 : FVec F S8192x1024 .f32 := Host.absf main_arg2
  let main_cst_2 : FVec F S_ .f32 := constant S_ .f32 0x7F800000#32
  let main_v11 : FVec F S8192x1024 .f32 := broadcastInDim S8192x1024 ![] bcast_S_S8192x1024 main_cst_2
  let main_v12 : IVec S8192x1024 1 := cmpf .olt main_v10 main_v11
  let main_c_3 : IVec S_ 1 := constantI S_ 1 1#1
  let main_v13 : IVec S_ 1 := (fun x v => Host.reduce IntOp.andi x v reducesTo_S8192x1024_S_d0_1 h_S_) main_v12 main_c_3
  let main_v14 : IVec S_ 1 := andi main_v9 main_v13
  let main_v15 : FVec F S1024 .f32 := Host.absf main_arg4
  let main_cst_4 : FVec F S_ .f32 := constant S_ .f32 0x7F800000#32
  let main_v16 : FVec F S1024 .f32 := broadcastInDim S1024 ![] bcast_S_S1024 main_cst_4
  fn_part1 (F := F) main_v14 main_v15 main_v16
-- ==== Pre_hidden_finite.lean ====
abbrev S8192x1024 : Shape := ⟨2, ![8192, 1024]⟩
abbrev S2816x1024 : Shape := ⟨2, ![2816, 1024]⟩
abbrev S8192x5632 : Shape := ⟨2, ![8192, 5632]⟩
abbrev S8192x2816 : Shape := ⟨2, ![8192, 2816]⟩
abbrev S_ : Shape := ⟨0, ![]⟩

class Facts : Prop where
  slices_S8192x5632_S8192x2816_0_2816 : S8192x5632.Slices ![0, 2816] S8192x2816
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S8192x2816 : S_.BroadcastsInDim S8192x2816 (![] : Fin 0 → Fin S8192x2816.rank)
  reducesTo_S8192x2816_S_d0_1 : S8192x2816.ReducesTo [0, 1] S_

variable [Facts]

def fn {F : FTy → Type} [FloatOps F] (main_arg0 : FVec F S8192x1024 .f32) (main_arg1 : FVec F S2816x1024 .f32) (main_arg2 : FVec F S8192x5632 .bf16) : IVec S_ 1 :=
  let main_v0 : FVec F S8192x2816 .bf16 := (extractStridedSlice S8192x2816 ![0, 2816] · slices_S8192x5632_S8192x2816_0_2816) main_arg2
  let main_v1 : FVec F S8192x2816 .f32 := (extf .f32 · bitsLt_bf16_f32) main_v0
  let main_v2 : FVec F S8192x1024 .f32 := Host.absf main_arg0
  let main_cst : FVec F S_ .f32 := constant S_ .f32 0x7F800000#32
  let main_v3 : FVec F S8192x1024 .f32 := broadcastInDim S8192x1024 ![] bcast_S_S8192x1024 main_cst
  let main_v4 : IVec S8192x1024 1 := cmpf .olt main_v2 main_v3
  let main_c : IVec S_ 1 := constantI S_ 1 1#1
  let main_v5 : IVec S_ 1 := (fun x v => Host.reduce IntOp.andi x v reducesTo_S8192x1024_S_d0_1 h_S_) main_v4 main_c
  let main_v6 : FVec F S2816x1024 .f32 := Host.absf main_arg1
  let main_cst_0 : FVec F S_ .f32 := constant S_ .f32 0x7F800000#32
  let main_v7 : FVec F S2816x1024 .f32 := broadcastInDim S2816x1024 ![] bcast_S_S2816x1024 main_cst_0
  let main_v8 : IVec S2816x1024 1 := cmpf .olt main_v6 main_v7
  let main_c_1 : IVec S_ 1 := constantI S_ 1 1#1
  let main_v9 : IVec S_ 1 := (fun x v => Host.reduce IntOp.andi x v reducesTo_S2816x1024_S_d0_1 h_S_) main_v8 main_c_1
  let main_v10 : IVec S_ 1 := andi main_v5 main_v9
  let main_v11 : FVec F S8192x2816 .f32 := Host.absf main_v1
  let main_cst_2 : FVec F S_ .f32 := constant S_ .f32 0x7F800000#32
  let main_v12 : FVec F S8192x2816 .f32 := broadcastInDim S8192x2816 ![] bcast_S_S8192x2816 main_cst_2
  let main_v13 : IVec S8192x2816 1 := cmpf .olt main_v11 main_v12
  let main_c_3 : IVec S_ 1 := constantI S_ 1 1#1
  let main_v14 : IVec S_ 1 := (fun x v => Host.reduce IntOp.andi x v reducesTo_S8192x2816_S_d0_1 h_S_) main_v13 main_c_3
  let main_v15 : IVec S_ 1 := andi main_v10 main_v14
  main_v15
-- ==== Pre_loss_finite.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S8192x2816 .bf16) (main_arg1 : FVec F S2816x1024 .f32) (main_arg2 : FVec F S8192x1024 .f32) (main_arg3 : FVec F S1024 .f32) (main_arg4 : FVec F S1024 .f32) (main_arg5 : FVec F S8192x1024 .f32) : IVec S_ 1 :=
  let main_v0 : FVec F S1024 .f32 := Host.absf main_arg3
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024 .f32 := Host.absf main_arg4
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S8192x1024 .f32 := Host.absf main_arg5
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  main_v13
-- ==== Pre_proj_dx_finite.lean ====
abbrev S8192x2048 : Shape := ⟨2, ![8192, 2048]⟩
abbrev S8192x1024 : Shape := ⟨2, ![8192, 1024]⟩
abbrev S1024x2976 : Shape := ⟨2, ![1024, 2976]⟩
abbrev S1024 : Shape := ⟨1, ![1024]⟩
abbrev S8192x1952 : Shape := ⟨2, ![8192, 1952]⟩
abbrev S_ : Shape := ⟨0, ![]⟩

class Facts : Prop where
  slices_S8192x2048_S8192x1952_0_0 : S8192x2048.Slices ![0, 0] S8192x1952
  bitsLt_bf16_f32 : FTy.bits .bf16 < FTy.bits .f32
  bcast_S_S8192x1952 : S_.BroadcastsInDim S8192x1952 (![] : Fin 0 → Fin S8192x1952.rank)
  reducesTo_S8192x1952_S_d0_1 : S8192x1952.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1024x2976 : S_.BroadcastsInDim S1024x2976 (![] : Fin 0 → Fin S1024x2976.rank)
  reducesTo_S1024x2976_S_d0_1 : S1024x2976.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg5 : FVec F S1024 .f32) (main_v16 : IVec S_ 1) (main_v17 : FVec F S8192x1024 .f32) : IVec S_ 1 :=
  let main_cst_4 : FVec F S_ .f32 := constant S_ .f32 0x7F800000#32
  let main_v18 : FVec F S8192x1024 .f32 := broadcastInDim S8192x1024 ![] bcast_S_S8192x1024 main_cst_4
  let main_v19 : IVec S8192x1024 1 := cmpf .olt main_v17 main_v18
  let main_c_5 : IVec S_ 1 := constantI S_ 1 1#1
  let main_v20 : IVec S_ 1 := (fun x v => Host.reduce IntOp.andi x v reducesTo_S8192x1024_S_d0_1 h_S_) main_v19 main_c_5
  let main_v21 : IVec S_ 1 := andi main_v16 main_v20
  let main_v22 : FVec F S1024 .f32 := Host.absf main_arg5
  let main_cst_6 : FVec F S_ .f32 := constant S_ .f32 0x7F800000#32
  let main_v23 : FVec F S1024 .f32 := broadcastInDim S1024 ![] bcast_S_S1024 main_cst_6
  let main_v24 : IVec S1024 1 := cmpf .olt main_v22 main_v23
  let main_c_7 : IVec S_ 1 := constantI S_ 1 1#1
  let main_v25 : IVec S_ 1 := (fun x v => Host.reduce IntOp.andi x v reducesTo_S1024_S_d0 h_S_) main_v24 main_c_7
  let main_v26 : IVec S_ 1 := andi main_v21 main_v25
  main_v26

def fn {F : FTy → Type} [FloatOps F] (main_arg0 : FVec F S8192x2048 .bf16) (main_arg1 : FVec F S8192x1024 .bf16) (main_arg2 : FVec F S1024x2976 .f32) (main_arg3 : FVec F S8192x1024 .f32) (main_arg4 : FVec F S8192x1024 .f32) (main_arg5 : FVec F S1024 .f32) (main_arg6 : FVec F S1024 .f32) : IVec S_ 1 :=
  let main_v0 : FVec F S8192x1952 .bf16 := (extractStridedSlice S8192x1952 ![0, 0] · slices_S8192x2048_S8192x1952_0_0) main_arg0
  let main_v1 : FVec F S8192x1952 .f32 := (extf .f32 · bitsLt_bf16_f32) main_v0
  let main_v2 : FVec F S8192x1952 .f32 := Host.absf main_v1
  let main_cst : FVec F S_ .f32 := constant S_ .f32 0x7F800000#32
  let main_v3 : FVec F S8192x1952 .f32 := broadcastInDim S8192x1952 ![] bcast_S_S8192x1952 main_cst
  let main_v4 : IVec S8192x1952 1 := cmpf .olt main_v2 main_v3
  let main_c : IVec S_ 1 := constantI S_ 1 1#1
  let main_v5 : IVec S_ 1 := (fun x v => Host.reduce IntOp.andi x v reducesTo_S8192x1952_S_d0_1 h_S_) main_v4 main_c
  let main_v6 : FVec F S8192x1024 .f32 := (extf .f32 · bitsLt_bf16_f32) main_arg1
  let main_v7 : FVec F S8192x1024 .f32 := Host.absf main_v6
  let main_cst_0 : FVec F S_ .f32 := constant S_ .f32 0x7F800000#32
  let main_v8 : FVec F S8192x1024 .f32 := broadcastInDim S8192x1024 ![] bcast_S_S8192x1024 main_cst_0
  let main_v9 : IVec S8192x1024 1 := cmpf .olt main_v7 main_v8
  let main_c_1 : IVec S_ 1 := constantI S_ 1 1#1
  let main_v10 : IVec S_ 1 := (fun x v => Host.reduce IntOp.andi x v reducesTo_S8192x1024_S_d0_1 h_S_) main_v9 main_c_1
  let main_v11 : IVec S_ 1 := andi main_v5 main_v10
  let main_v12 : FVec F S1024x2976 .f32 := Host.absf main_arg2
  let main_cst_2 : FVec F S_ .f32 := constant S_ .f32 0x7F800000#32
  let main_v13 : FVec F S1024x2976 .f32 := broadcastInDim S1024x2976 ![] bcast_S_S1024x2976 main_cst_2
  let main_v14 : IVec S1024x2976 1 := cmpf .olt main_v12 main_v13
  let main_c_3 : IVec S_ 1 := constantI S_ 1 1#1
  let main_v15 : IVec S_ 1 := (fun x v => Host.reduce IntOp.andi x v reducesTo_S1024x2976_S_d0_1 h_S_) main_v14 main_c_3
  let main_v16 : IVec S_ 1 := andi main_v11 main_v15
  let main_v17 : FVec F S8192x1024 .f32 := Host.absf main_arg3
  fn_part1 (F := F) main_arg5 main_v16 main_v17
-- ==== Pre_shift_finite.lean ====
abbrev S8192x2048 : Shape := ⟨2, ![8192, 2048]⟩
abbrev S8192x3072 : Shape := ⟨2, ![8192, 3072]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S8192x2048 .f32) (main_arg1 : FVec F S8192x3072 .f32) (main_arg2 : FVec F S2048 .f32) (main_arg3 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048 .f32 := Host.absf main_arg3
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  main_v8
-- ==== ConvBwd.lean ====
abbrev S8192x512 : Shape := ⟨2, ![8192, 512]⟩
abbrev S8192x3072 : Shape := ⟨2, ![8192, 3072]⟩
abbrev S31x512 : Shape := ⟨2, ![31, 512]⟩
abbrev S8192x1024 : Shape := ⟨2, ![8192, 1024]⟩
abbrev S32x512 : Shape := ⟨2, ![32, 512]⟩
abbrev S256x512 : Shape := ⟨2, ![256, 512]⟩
abbrev S16x512 : Shape := ⟨2, ![16, 512]⟩
abbrev S256x1024 : Shape := ⟨2, ![256, 1024]⟩
abbrev S288x512 : Shape := ⟨2, ![288, 512]⟩
abbrev S1x512 : Shape := ⟨2, ![1, 512]⟩
abbrev S512 : Shape := ⟨1, ![512]⟩

abbrev nBuf : Space → Nat
  | .hbm => 5
  | .vmem => 23
  | .smem => 0
  | _ => 0

abbrev bufTy : (tb : Table) → Fin (tcTables nBuf tb) → BufTy
  | .hbm, ⟨0, _⟩ => ⟨S8192x512, .f32⟩
  | .hbm, ⟨1, _⟩ => ⟨S8192x3072, .f32⟩
  | .hbm, ⟨2, _⟩ => ⟨S31x512, .f32⟩
  | .hbm, ⟨3, _⟩ => ⟨S8192x1024, .bf16⟩
  | .hbm, ⟨4, _⟩ => ⟨S32x512, .f32⟩
  | .local _ .vmem, ⟨0, _⟩ => ⟨S256x512, .f32⟩
  | .local _ .vmem, ⟨1, _⟩ => ⟨S256x512, .f32⟩
  | .local _ .vmem, ⟨2, _⟩ => ⟨S16x512, .f32⟩
  | .local _ .vmem, ⟨3, _⟩ => ⟨S16x512, .f32⟩
  | .local _ .vmem, ⟨4, _⟩ => ⟨S16x512, .f32⟩
  | .local _ .vmem, ⟨5, _⟩ => ⟨S16x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S16x512, .f32⟩
  | .local _ .vmem, ⟨11, _⟩ => ⟨S16x512, .f32⟩
  | .local _ .vmem, ⟨12, _⟩ => ⟨S16x512, .f32⟩
  | .local _ .vmem, ⟨13, _⟩ => ⟨S16x512, .f32⟩
  | .local _ .vmem, ⟨14, _⟩ => ⟨S16x512, .f32⟩
  | .local _ .vmem, ⟨15, _⟩ => ⟨S16x512, .f32⟩
  | .local _ .vmem, ⟨16, _⟩ => ⟨S16x512, .f32⟩
  | .local _ .vmem, ⟨17, _⟩ => ⟨S16x512, .f32⟩
  | .local _ .vmem, ⟨18, _⟩ => ⟨S31x512, .f32⟩
  | .local _ .vmem, ⟨19, _⟩ => ⟨S256x1024, .bf16⟩
  | .local _ .vmem, ⟨20, _⟩ => ⟨S256x1024, .bf16⟩
  | .local _ .vmem, ⟨21, _⟩ => ⟨S32x512, .f32⟩
  | .local _ .vmem, ⟨22, _⟩ => ⟨S288x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_6 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c4_i32 : BitVec 32 := 4#32
  let c0_i32 : BitVec 32 := 0#32
  ![v2.toNat, c4_i32.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c5_i32 : BitVec 32 := 5#32
  let c0_i32 : BitVec 32 := 0#32
  ![v2.toNat, c5_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S31x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S32x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ConvBwdRefIdeal.lean ====
abbrev S8192x512 : Shape := ⟨2, ![8192, 512]⟩
abbrev S8192x3072 : Shape := ⟨2, ![8192, 3072]⟩
abbrev S31x512 : Shape := ⟨2, ![31, 512]⟩
abbrev S8192x1024 : Shape := ⟨2, ![8192, 1024]⟩
abbrev S4x2048x1024 : Shape := ⟨3, ![4, 2048, 1024]⟩
abbrev S4x2048x512 : Shape := ⟨3, ![4, 2048, 512]⟩
abbrev S_ : Shape := ⟨0, ![]⟩
abbrev S4x15x512 : Shape := ⟨3, ![4, 15, 512]⟩
abbrev S4x2078x512 : Shape := ⟨3, ![4, 2078, 512]⟩
abbrev S1x4x2048x512 : Shape := ⟨4, ![1, 4, 2048, 512]⟩
abbrev S16x4x2048x512 : Shape := ⟨4, ![16, 4, 2048, 512]⟩
abbrev S15x4x2048x512 : Shape := ⟨4, ![15, 4, 2048, 512]⟩
abbrev S31x4x2048x512 : Shape := ⟨4, ![31, 4, 2048, 512]⟩
abbrev S31x1x1x512 : Shape := ⟨4, ![31, 1, 1, 512]⟩
abbrev S1x512 : Shape := ⟨2, ![1, 512]⟩
abbrev S32x512 : Shape := ⟨2, ![32, 512]⟩

abbrev nBuf : Space → Nat
  | .hbm => 277
  | .vmem => 0
  | .smem => 0
  | _ => 0

abbrev hbmTy0_0 (i : Nat) : BufTy := match i % 128 with
  | 0 => ⟨S8192x512, .f32⟩
  | 1 => ⟨S8192x3072, .f32⟩
  | 2 => ⟨S31x512, .f32⟩
  | 3 => ⟨S8192x1024, .f32⟩
  | 4 => ⟨S4x2048x1024, .f32⟩
  | 5 => ⟨S4x2048x512, .f32⟩
  | 6 => ⟨S4x2048x512, .f32⟩
  | 7 => ⟨S4x2048x512, .f32⟩
  | 8 => ⟨S4x2048x512, .f32⟩
  | 9 => ⟨S_, .f32⟩
  | 10 => ⟨S4x2048x512, .f32⟩
  | 11 => ⟨S4x2048x512, .f32⟩
  | 12 => ⟨S_, .f32⟩
  | 13 => ⟨S4x2048x512, .f32⟩
  | 14 => ⟨S4x2048x512, .f32⟩
  | 15 => ⟨S_, .f32⟩
  | 16 => ⟨S4x2048x512, .f32⟩
  | 17 => ⟨S4x2048x512, .f32⟩
  | 18 => ⟨S4x2048x512, .f32⟩
  | 19 => ⟨S4x2048x512, .f32⟩
  | 20 => ⟨S_, .f32⟩
  | 21 => ⟨S4x15x512, .f32⟩
  | 22 => ⟨S4x2078x512, .f32⟩
  | 23 => ⟨S_, .f32⟩
  | 24 => ⟨S4x15x512, .f32⟩
  | 25 => ⟨S_, .f32⟩
  | 26 => ⟨S4x15x512, .f32⟩
  | 27 => ⟨S4x2048x512, .f32⟩
  | 28 => ⟨S4x2048x512, .f32⟩
  | 29 => ⟨S4x2048x512, .f32⟩
  | 30 => ⟨S4x2048x512, .f32⟩
  | 31 => ⟨S4x2048x512, .f32⟩
  | 32 => ⟨S4x2048x512, .f32⟩
  | 33 => ⟨S4x2048x512, .f32⟩
  | 34 => ⟨S4x2048x512, .f32⟩
  | 35 => ⟨S4x2048x512, .f32⟩
  | 36 => ⟨S4x2048x512, .f32⟩
  | 37 => ⟨S4x2048x512, .f32⟩
  | 38 => ⟨S4x2048x512, .f32⟩
  | 39 => ⟨S4x2048x512, .f32⟩
  | 40 => ⟨S4x2048x512, .f32⟩
  | 41 => ⟨S4x2048x512, .f32⟩
  | 42 => ⟨S4x2048x512, .f32⟩
  | 43 => ⟨S4x2048x512, .f32⟩
  | 44 => ⟨S4x2048x512, .f32⟩
  | 45 => ⟨S4x2048x512, .f32⟩
  | 46 => ⟨S4x2048x512, .f32⟩
  | 47 => ⟨S4x2048x512, .f32⟩
  | 48 => ⟨S4x2048x512, .f32⟩
  | 49 => ⟨S4x2048x512, .f32⟩
  | 50 => ⟨S4x2048x512, .f32⟩
  | 51 => ⟨S4x2048x512, .f32⟩
  | 52 => ⟨S4x2048x512, .f32⟩
  | 53 => ⟨S4x2048x512, .f32⟩
  | 54 => ⟨S4x2048x512, .f32⟩
  | 55 => ⟨S4x2048x512, .f32⟩
  | 56 => ⟨S4x2048x512, .f32⟩
  | 57 => ⟨S4x2048x512, .f32⟩
  | 58 => ⟨S1x4x2048x512, .f32⟩
  | 59 => ⟨S1x4x2048x512, .f32⟩
  | 60 => ⟨S1x4x2048x512, .f32⟩
  | 61 => ⟨S1x4x2048x512, .f32⟩
  | 62 => ⟨S1x4x2048x512, .f32⟩
  | 63 => ⟨S1x4x2048x512, .f32⟩
  | 64 => ⟨S1x4x2048x512, .f32⟩
  | 65 => ⟨S1x4x2048x512, .f32⟩
  | 66 => ⟨S1x4x2048x512, .f32⟩
  | 67 => ⟨S1x4x2048x512, .f32⟩
  | 68 => ⟨S1x4x2048x512, .f32⟩
  | 69 => ⟨S1x4x2048x512, .f32⟩
  | 70 => ⟨S1x4x2048x512, .f32⟩
  | 71 => ⟨S1x4x2048x512, .f32⟩
  | 72 => ⟨S1x4x2048x512, .f32⟩
  | 73 => ⟨S1x4x2048x512, .f32⟩
  | 74 => ⟨S1x4x2048x512, .f32⟩
  | 75 => ⟨S1x4x2048x512, .f32⟩
  | 76 => ⟨S1x4x2048x512, .f32⟩
  | 77 => ⟨S1x4x2048x512, .f32⟩
  | 78 => ⟨S1x4x2048x512, .f32⟩
  | 79 => ⟨S1x4x2048x512, .f32⟩
  | 80 => ⟨S1x4x2048x512, .f32⟩
  | 81 => ⟨S1x4x2048x512, .f32⟩
  | 82 => ⟨S1x4x2048x512, .f32⟩
  | 83 => ⟨S1x4x2048x512, .f32⟩
  | 84 => ⟨S1x4x2048x512, .f32⟩
  | 85 => ⟨S1x4x2048x512, .f32⟩
  | 86 => ⟨S1x4x2048x512, .f32⟩
  | 87 => ⟨S1x4x2048x512, .f32⟩
  | 88 => ⟨S1x4x2048x512, .f32⟩
  | 89 => ⟨S16x4x2048x512, .f32⟩
  | 90 => ⟨S15x4x2048x512, .f32⟩
  | 91 => ⟨S31x4x2048x512, .f32⟩
  | 92 => ⟨S31x1x1x512, .f32⟩
  | 93 => ⟨S31x4x2048x512, .f32⟩
  | 94 => ⟨S31x4x2048x512, .f32⟩
  | 95 => ⟨S_, .f32⟩
  | 96 => ⟨S4x2048x512, .f32⟩
  | 97 => ⟨S4x2048x512, .f32⟩
  | 98 => ⟨S31x4x2048x512, .f32⟩
  | 99 => ⟨S31x4x2048x512, .f32⟩
  | 100 => ⟨S_, .f32⟩
  | 101 => ⟨S31x512, .f32⟩
  | 102 => ⟨S31x1x1x512, .f32⟩
  | 103 => ⟨S31x4x2048x512, .f32⟩
  | 104 => ⟨S31x4x2048x512, .f32⟩
  | 105 => ⟨S_, .f32⟩
  | 106 => ⟨S31x512, .f32⟩
  | 107 => ⟨S1x4x2048x512, .f32⟩
  | 108 => ⟨S4x2048x512, .f32⟩
  | 109 => ⟨S1x4x2048x512, .f32⟩
  | 110 => ⟨S4x2048x512, .f32⟩
  | 111 => ⟨S1x4x2048x512, .f32⟩
  | 112 => ⟨S4x2048x512, .f32⟩
  | 113 => ⟨S1x4x2048x512, .f32⟩
  | 114 => ⟨S4x2048x512, .f32⟩
  | 115 => ⟨S1x4x2048x512, .f32⟩
  | 116 => ⟨S4x2048x512, .f32⟩
  | 117 => ⟨S1x4x2048x512, .f32⟩
  | 118 => ⟨S4x2048x512, .f32⟩
  | 119 => ⟨S1x4x2048x512, .f32⟩
  | 120 => ⟨S4x2048x512, .f32⟩
  | 121 => ⟨S1x4x2048x512, .f32⟩
  | 122 => ⟨S4x2048x512, .f32⟩
  | 123 => ⟨S1x4x2048x512, .f32⟩
  | 124 => ⟨S4x2048x512, .f32⟩
  | 125 => ⟨S1x4x2048x512, .f32⟩
  | 126 => ⟨S4x2048x512, .f32⟩
  | 127 => ⟨S1x4x2048x512, .f32⟩
  | _ => ⟨S8192x512, .f32⟩

abbrev hbmTy0_1 (i : Nat) : BufTy := match i % 128 with
  | 0 => ⟨S4x2048x512, .f32⟩
  | 1 => ⟨S1x4x2048x512, .f32⟩
  | 2 => ⟨S4x2048x512, .f32⟩
  | 3 => ⟨S1x4x2048x512, .f32⟩
  | 4 => ⟨S4x2048x512, .f32⟩
  | 5 => ⟨S1x4x2048x512, .f32⟩
  | 6 => ⟨S4x2048x512, .f32⟩
  | 7 => ⟨S1x4x2048x512, .f32⟩
  | 8 => ⟨S4x2048x512, .f32⟩
  | 9 => ⟨S1x4x2048x512, .f32⟩
  | 10 => ⟨S4x2048x512, .f32⟩
  | 11 => ⟨S1x4x2048x512, .f32⟩
  | 12 => ⟨S4x2048x512, .f32⟩
  | 13 => ⟨S1x4x2048x512, .f32⟩
  | 14 => ⟨S4x2048x512, .f32⟩
  | 15 => ⟨S1x4x2048x512, .f32⟩
  | 16 => ⟨S4x2048x512, .f32⟩
  | 17 => ⟨S1x4x2048x512, .f32⟩
  | 18 => ⟨S4x2048x512, .f32⟩
  | 19 => ⟨S1x4x2048x512, .f32⟩
  | 20 => ⟨S4x2048x512, .f32⟩
  | 21 => ⟨S1x4x2048x512, .f32⟩
  | 22 => ⟨S4x2048x512, .f32⟩
  | 23 => ⟨S1x4x2048x512, .f32⟩
  | 24 => ⟨S4x2048x512, .f32⟩
  | 25 => ⟨S1x4x2048x512, .f32⟩
  | 26 => ⟨S4x2048x512, .f32⟩
  | 27 => ⟨S1x4x2048x512, .f32⟩
  | 28 => ⟨S4x2048x512, .f32⟩
  | 29 => ⟨S1x4x2048x512, .f32⟩
  | 30 => ⟨S4x2048x512, .f32⟩
  | 31 => ⟨S1x4x2048x512, .f32⟩
  | 32 => ⟨S4x2048x512, .f32⟩
  | 33 => ⟨S1x4x2048x512, .f32⟩
  | 34 => ⟨S4x2048x512, .f32⟩
  | 35 => ⟨S1x4x2048x512, .f32⟩
  | 36 => ⟨S4x2048x512, .f32⟩
  | 37 => ⟨S1x4x2048x512, .f32⟩
  | 38 => ⟨S4x2048x512, .f32⟩
  | 39 => ⟨S1x4x2048x512, .f32⟩
  | 40 => ⟨S4x2048x512, .f32⟩
  | 41 => ⟨S_, .f32⟩
  | 42 => ⟨S4x2078x512, .f32⟩
  | 43 => ⟨S_, .f32⟩
  | 44 => ⟨S4x2078x512, .f32⟩
  | 45 => ⟨S4x2078x512, .f32⟩
  | 46 => ⟨S_, .f32⟩
  | 47 => ⟨S4x2078x512, .f32⟩
  | 48 => ⟨S4x2078x512, .f32⟩
  | 49 => ⟨S_, .f32⟩
  | 50 => ⟨S4x2078x512, .f32⟩
  | 51 => ⟨S4x2078x512, .f32⟩
  | 52 => ⟨S_, .f32⟩
  | 53 => ⟨S4x2078x512, .f32⟩
  | 54 => ⟨S4x2078x512, .f32⟩
  | 55 => ⟨S_, .f32⟩
  | 56 => ⟨S4x2078x512, .f32⟩
  | 57 => ⟨S4x2078x512, .f32⟩
  | 58 => ⟨S_, .f32⟩
  | 59 => ⟨S4x2078x512, .f32⟩
  | 60 => ⟨S4x2078x512, .f32⟩
  | 61 => ⟨S_, .f32⟩
  | 62 => ⟨S4x2078x512, .f32⟩
  | 63 => ⟨S4x2078x512, .f32⟩
  | 64 => ⟨S_, .f32⟩
  | 65 => ⟨S4x2078x512, .f32⟩
  | 66 => ⟨S4x2078x512, .f32⟩
  | 67 => ⟨S_, .f32⟩
  | 68 => ⟨S4x2078x512, .f32⟩
  | 69 => ⟨S4x2078x512, .f32⟩
  | 70 => ⟨S_, .f32⟩
  | 71 => ⟨S4x2078x512, .f32⟩
  | 72 => ⟨S4x2078x512, .f32⟩
  | 73 => ⟨S_, .f32⟩
  | 74 => ⟨S4x2078x512, .f32⟩
  | 75 => ⟨S4x2078x512, .f32⟩
  | 76 => ⟨S_, .f32⟩
  | 77 => ⟨S4x2078x512, .f32⟩
  | 78 => ⟨S4x2078x512, .f32⟩
  | 79 => ⟨S_, .f32⟩
  | 80 => ⟨S4x2078x512, .f32⟩
  | 81 => ⟨S4x2078x512, .f32⟩
  | 82 => ⟨S_, .f32⟩
  | 83 => ⟨S4x2078x512, .f32⟩
  | 84 => ⟨S4x2078x512, .f32⟩
  | 85 => ⟨S_, .f32⟩
  | 86 => ⟨S4x2078x512, .f32⟩
  | 87 => ⟨S4x2078x512, .f32⟩
  | 88 => ⟨S_, .f32⟩
  | 89 => ⟨S4x2078x512, .f32⟩
  | 90 => ⟨S4x2078x512, .f32⟩
  | 91 => ⟨S_, .f32⟩
  | 92 => ⟨S4x2078x512, .f32⟩
  | 93 => ⟨S4x2078x512, .f32⟩
  | 94 => ⟨S_, .f32⟩
  | 95 => ⟨S4x2078x512, .f32⟩
  | 96 => ⟨S4x2078x512, .f32⟩
  | 97 => ⟨S_, .f32⟩
  | 98 => ⟨S4x2078x512, .f32⟩
  | 99 => ⟨S4x2078x512, .f32⟩
  | 100 => ⟨S_, .f32⟩
  | 101 => ⟨S4x2078x512, .f32⟩
  | 102 => ⟨S4x2078x512, .f32⟩
  | 103 => ⟨S_, .f32⟩
  | 104 => ⟨S4x2078x512, .f32⟩
  | 105 => ⟨S4x2078x512, .f32⟩
  | 106 => ⟨S_, .f32⟩
  | 107 => ⟨S4x2078x512, .f32⟩
  | 108 => ⟨S4x2078x512, .f32⟩
  | 109 => ⟨S_, .f32⟩
  | 110 => ⟨S4x2078x512, .f32⟩
  | 111 => ⟨S4x2078x512, .f32⟩
  | 112 => ⟨S_, .f32⟩
  | 113 => ⟨S4x2078x512, .f32⟩
  | 114 => ⟨S4x2078x512, .f32⟩
  | 115 => ⟨S_, .f32⟩
  | 116 => ⟨S4x2078x512, .f32⟩
  | 117 => ⟨S4x2078x512, .f32⟩
  | 118 => ⟨S_, .f32⟩
  | 119 => ⟨S4x2078x512, .f32⟩
  | 120 => ⟨S4x2078x512, .f32⟩
  | 121 => ⟨S_, .f32⟩
  | 122 => ⟨S4x2078x512, .f32⟩
  | 123 => ⟨S4x2078x512, .f32⟩
  | 124 => ⟨S_, .f32⟩
  | 125 => ⟨S4x2078x512, .f32⟩
  | 126 => ⟨S4x2078x512, .f32⟩
  | 127 => ⟨S_, .f32⟩
  | _ => ⟨S8192x512, .f32⟩

abbrev hbmTy0_2 (i : Nat) : BufTy := match i % 128 with
  | 0 => ⟨S4x2078x512, .f32⟩
  | 1 => ⟨S4x2078x512, .f32⟩
  | 2 => ⟨S_, .f32⟩
  | 3 => ⟨S4x2078x512, .f32⟩
  | 4 => ⟨S4x2078x512, .f32⟩
  | 5 => ⟨S4x15x512, .f32⟩
  | 6 => ⟨S4x2048x512, .f32⟩
  | 7 => ⟨S4x15x512, .f32⟩
  | 8 => ⟨S4x2048x512, .f32⟩
  | 9 => ⟨S4x2048x512, .f32⟩
  | 10 => ⟨S4x2048x512, .f32⟩
  | 11 => ⟨S_, .f32⟩
  | 12 => ⟨S4x2048x1024, .f32⟩
  | 13 => ⟨S_, .f32⟩
  | 14 => ⟨S4x2048x1024, .f32⟩
  | 15 => ⟨S4x2048x1024, .f32⟩
  | 16 => ⟨S8192x1024, .f32⟩
  | 17 => ⟨S8192x1024, .bf16⟩
  | 18 => ⟨S_, .f32⟩
  | 19 => ⟨S1x512, .f32⟩
  | 20 => ⟨S32x512, .f32⟩
  | _ => ⟨S8192x512, .f32⟩

abbrev hbmTy (i : Nat) : BufTy := match i / 128 with
  | 0 => hbmTy0_0 i
  | 1 => hbmTy0_1 i
  | 2 => hbmTy0_2 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_cst_5 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_cst_6 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_cst_7 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩
abbrev main_v156 : Ref sig .tc := ⟨.hbm, 168, rfl⟩
abbrev main_cst_8 : Ref sig .tc := ⟨.hbm, 169, rfl⟩
abbrev main_v157 : Ref sig .tc := ⟨.hbm, 170, rfl⟩
abbrev main_cst_9 : Ref sig .tc := ⟨.hbm, 171, rfl⟩
abbrev main_v158 : Ref sig .tc := ⟨.hbm, 172, rfl⟩
abbrev main_v159 : Ref sig .tc := ⟨.hbm, 173, rfl⟩
abbrev main_cst_10 : Ref sig .tc := ⟨.hbm, 174, rfl⟩
abbrev main_v160 : Ref sig .tc := ⟨.hbm, 175, rfl⟩
abbrev main_v161 : Ref sig .tc := ⟨.hbm, 176, rfl⟩
abbrev main_cst_11 : Ref sig .tc := ⟨.hbm, 177, rfl⟩
abbrev main_v162 : Ref sig .tc := ⟨.hbm, 178, rfl⟩
abbrev main_v163 : Ref sig .tc := ⟨.hbm, 179, rfl⟩
abbrev main_cst_12 : Ref sig .tc := ⟨.hbm, 180, rfl⟩
abbrev main_v164 : Ref sig .tc := ⟨.hbm, 181, rfl⟩
abbrev main_v165 : Ref sig .tc := ⟨.hbm, 182, rfl⟩
abbrev main_cst_13 : Ref sig .tc := ⟨.hbm, 183, rfl⟩
abbrev main_v166 : Ref sig .tc := ⟨.hbm, 184, rfl⟩
abbrev main_v167 : Ref sig .tc := ⟨.hbm, 185, rfl⟩
abbrev main_cst_14 : Ref sig .tc := ⟨.hbm, 186, rfl⟩
abbrev main_v168 : Ref sig .tc := ⟨.hbm, 187, rfl⟩
abbrev main_v169 : Ref sig .tc := ⟨.hbm, 188, rfl⟩
abbrev main_cst_15 : Ref sig .tc := ⟨.hbm, 189, rfl⟩
abbrev main_v170 : Ref sig .tc := ⟨.hbm, 190, rfl⟩
abbrev main_v171 : Ref sig .tc := ⟨.hbm, 191, rfl⟩
abbrev main_cst_16 : Ref sig .tc := ⟨.hbm, 192, rfl⟩
abbrev main_v172 : Ref sig .tc := ⟨.hbm, 193, rfl⟩
abbrev main_v173 : Ref sig .tc := ⟨.hbm, 194, rfl⟩
abbrev main_cst_17 : Ref sig .tc := ⟨.hbm, 195, rfl⟩
abbrev main_v174 : Ref sig .tc := ⟨.hbm, 196, rfl⟩
abbrev main_v175 : Ref sig .tc := ⟨.hbm, 197, rfl⟩
abbrev main_cst_18 : Ref sig .tc := ⟨.hbm, 198, rfl⟩
abbrev main_v176 : Ref sig .tc := ⟨.hbm, 199, rfl⟩
abbrev main_v177 : Ref sig .tc := ⟨.hbm, 200, rfl⟩
abbrev main_cst_19 : Ref sig .tc := ⟨.hbm, 201, rfl⟩
abbrev main_v178 : Ref sig .tc := ⟨.hbm, 202, rfl⟩
abbrev main_v179 : Ref sig .tc := ⟨.hbm, 203, rfl⟩
abbrev main_cst_20 : Ref sig .tc := ⟨.hbm, 204, rfl⟩
abbrev main_v180 : Ref sig .tc := ⟨.hbm, 205, rfl⟩
abbrev main_v181 : Ref sig .tc := ⟨.hbm, 206, rfl⟩
abbrev main_cst_21 : Ref sig .tc := ⟨.hbm, 207, rfl⟩
abbrev main_v182 : Ref sig .tc := ⟨.hbm, 208, rfl⟩
abbrev main_v183 : Ref sig .tc := ⟨.hbm, 209, rfl⟩
abbrev main_cst_22 : Ref sig .tc := ⟨.hbm, 210, rfl⟩
abbrev main_v184 : Ref sig .tc := ⟨.hbm, 211, rfl⟩
abbrev main_v185 : Ref sig .tc := ⟨.hbm, 212, rfl⟩
abbrev main_cst_23 : Ref sig .tc := ⟨.hbm, 213, rfl⟩
abbrev main_v186 : Ref sig .tc := ⟨.hbm, 214, rfl⟩
abbrev main_v187 : Ref sig .tc := ⟨.hbm, 215, rfl⟩
abbrev main_cst_24 : Ref sig .tc := ⟨.hbm, 216, rfl⟩
abbrev main_v188 : Ref sig .tc := ⟨.hbm, 217, rfl⟩
abbrev main_v189 : Ref sig .tc := ⟨.hbm, 218, rfl⟩
abbrev main_cst_25 : Ref sig .tc := ⟨.hbm, 219, rfl⟩
abbrev main_v190 : Ref sig .tc := ⟨.hbm, 220, rfl⟩
abbrev main_v191 : Ref sig .tc := ⟨.hbm, 221, rfl⟩
abbrev main_cst_26 : Ref sig .tc := ⟨.hbm, 222, rfl⟩
abbrev main_v192 : Ref sig .tc := ⟨.hbm, 223, rfl⟩
abbrev main_v193 : Ref sig .tc := ⟨.hbm, 224, rfl⟩
abbrev main_cst_27 : Ref sig .tc := ⟨.hbm, 225, rfl⟩
abbrev main_v194 : Ref sig .tc := ⟨.hbm, 226, rfl⟩
abbrev main_v195 : Ref sig .tc := ⟨.hbm, 227, rfl⟩
abbrev main_cst_28 : Ref sig .tc := ⟨.hbm, 228, rfl⟩
abbrev main_v196 : Ref sig .tc := ⟨.hbm, 229, rfl⟩
abbrev main_v197 : Ref sig .tc := ⟨.hbm, 230, rfl⟩
abbrev main_cst_29 : Ref sig .tc := ⟨.hbm, 231, rfl⟩
abbrev main_v198 : Ref sig .tc := ⟨.hbm, 232, rfl⟩
abbrev main_v199 : Ref sig .tc := ⟨.hbm, 233, rfl⟩
abbrev main_cst_30 : Ref sig .tc := ⟨.hbm, 234, rfl⟩
abbrev main_v200 : Ref sig .tc := ⟨.hbm, 235, rfl⟩
abbrev main_v201 : Ref sig .tc := ⟨.hbm, 236, rfl⟩
abbrev main_cst_31 : Ref sig .tc := ⟨.hbm, 237, rfl⟩
abbrev main_v202 : Ref sig .tc := ⟨.hbm, 238, rfl⟩
abbrev main_v203 : Ref sig .tc := ⟨.hbm, 239, rfl⟩
abbrev main_cst_32 : Ref sig .tc := ⟨.hbm, 240, rfl⟩
abbrev main_v204 : Ref sig .tc := ⟨.hbm, 241, rfl⟩
abbrev main_v205 : Ref sig .tc := ⟨.hbm, 242, rfl⟩
abbrev main_cst_33 : Ref sig .tc := ⟨.hbm, 243, rfl⟩
abbrev main_v206 : Ref sig .tc := ⟨.hbm, 244, rfl⟩
abbrev main_v207 : Ref sig .tc := ⟨.hbm, 245, rfl⟩
abbrev main_cst_34 : Ref sig .tc := ⟨.hbm, 246, rfl⟩
abbrev main_v208 : Ref sig .tc := ⟨.hbm, 247, rfl⟩
abbrev main_v209 : Ref sig .tc := ⟨.hbm, 248, rfl⟩
abbrev main_cst_35 : Ref sig .tc := ⟨.hbm, 249, rfl⟩
abbrev main_v210 : Ref sig .tc := ⟨.hbm, 250, rfl⟩
abbrev main_v211 : Ref sig .tc := ⟨.hbm, 251, rfl⟩
abbrev main_cst_36 : Ref sig .tc := ⟨.hbm, 252, rfl⟩
abbrev main_v212 : Ref sig .tc := ⟨.hbm, 253, rfl⟩
abbrev main_v213 : Ref sig .tc := ⟨.hbm, 254, rfl⟩
abbrev main_cst_37 : Ref sig .tc := ⟨.hbm, 255, rfl⟩
abbrev main_v214 : Ref sig .tc := ⟨.hbm, 256, rfl⟩
abbrev main_v215 : Ref sig .tc := ⟨.hbm, 257, rfl⟩
abbrev main_cst_38 : Ref sig .tc := ⟨.hbm, 258, rfl⟩
abbrev main_v216 : Ref sig .tc := ⟨.hbm, 259, rfl⟩
abbrev main_v217 : Ref sig .tc := ⟨.hbm, 260, rfl⟩
abbrev main_v218 : Ref sig .tc := ⟨.hbm, 261, rfl⟩
abbrev main_v219 : Ref sig .tc := ⟨.hbm, 262, rfl⟩
abbrev main_v220 : Ref sig .tc := ⟨.hbm, 263, rfl⟩
abbrev main_v221 : Ref sig .tc := ⟨.hbm, 264, rfl⟩
abbrev main_v222 : Ref sig .tc := ⟨.hbm, 265, rfl⟩
abbrev main_v223 : Ref sig .tc := ⟨.hbm, 266, rfl⟩
abbrev main_cst_39 : Ref sig .tc := ⟨.hbm, 267, rfl⟩
abbrev main_v224 : Ref sig .tc := ⟨.hbm, 268, rfl⟩
abbrev main_cst_40 : Ref sig .tc := ⟨.hbm, 269, rfl⟩
abbrev main_v225 : Ref sig .tc := ⟨.hbm, 270, rfl⟩
abbrev main_v226 : Ref sig .tc := ⟨.hbm, 271, rfl⟩
abbrev main_v227 : Ref sig .tc := ⟨.hbm, 272, rfl⟩
abbrev main_v228 : Ref sig .tc := ⟨.hbm, 273, rfl⟩
abbrev main_cst_41 : Ref sig .tc := ⟨.hbm, 274, rfl⟩
abbrev main_v229 : Ref sig .tc := ⟨.hbm, 275, rfl⟩
abbrev main_v230 : Ref sig .tc := ⟨.hbm, 276, rfl⟩

abbrev nD : Nat := 1
abbrev τ : Topo := Topo.v7x

variable {F : FTy → Type} [FloatOps F]
-- ==== FfnIn.lean ====
abbrev S8192x1024 : Shape := ⟨2, ![8192, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S8192x5632 : Shape := ⟨2, ![8192, 5632]⟩
abbrev S8192x2816 : Shape := ⟨2, ![8192, 2816]⟩
abbrev S256x1024 : Shape := ⟨2, ![256, 1024]⟩
abbrev S256x5632 : Shape := ⟨2, ![256, 5632]⟩
abbrev S256x2816 : Shape := ⟨2, ![256, 2816]⟩
abbrev S1x1024x1408 : Shape := ⟨3, ![1, 1024, 1408]⟩
abbrev S1024x1408 : Shape := ⟨2, ![1024, 1408]⟩
abbrev S256x1408 : Shape := ⟨2, ![256, 1408]⟩

abbrev nBuf : Space → Nat
  | .hbm => 7
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S1024x5632, .bf16⟩
  | .hbm, ⟨3, _⟩ => ⟨S1024x4x1408, .bf16⟩
  | .hbm, ⟨4, _⟩ => ⟨S4x1024x1408, .bf16⟩
  | .hbm, ⟨5, _⟩ => ⟨S8192x5632, .bf16⟩
  | .hbm, ⟨6, _⟩ => ⟨S8192x2816, .bf16⟩
  | .local _ .vmem, ⟨0, _⟩ => ⟨S256x1024, .f32⟩
  | .local _ .vmem, ⟨1, _⟩ => ⟨S256x1024, .f32⟩
  | .local _ .vmem, ⟨2, _⟩ => ⟨S4x1024x1408, .bf16⟩
  | .local _ .vmem, ⟨3, _⟩ => ⟨S256x5632, .bf16⟩
  | .local _ .vmem, ⟨4, _⟩ => ⟨S256x5632, .bf16⟩
  | .local _ .vmem, ⟨5, _⟩ => ⟨S256x2816, .bf16⟩
  | .local _ .vmem, ⟨6, _⟩ => ⟨S256x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FfnInRefIdeal.lean ====
abbrev S8192x1024 : Shape := ⟨2, ![8192, 1024]⟩
abbrev S1024x5632 : Shape := ⟨2, ![1024, 5632]⟩
abbrev S8192x5632 : Shape := ⟨2, ![8192, 5632]⟩
abbrev S8192x2816 : Shape := ⟨2, ![8192, 2816]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .hbm, ⟨3, _⟩ => ⟨S8192x5632, .bf16⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== FfnDx.lean ====
abbrev S8192x5632 : Shape := ⟨2, ![8192, 5632]⟩
abbrev S1024x5632 : Shape := ⟨2, ![1024, 5632]⟩
abbrev S8192x1024 : Shape := ⟨2, ![8192, 1024]⟩
abbrev S1024x4x1408 : Shape := ⟨3, ![1024, 4, 1408]⟩
abbrev S4x1024x1408 : Shape := ⟨3, ![4, 1024, 1408]⟩
abbrev S256x5632 : Shape := ⟨2, ![256, 5632]⟩
abbrev S256x1024 : Shape := ⟨2, ![256, 1024]⟩
abbrev S256x1408 : Shape := ⟨2, ![256, 1408]⟩
abbrev S1x1024x1408 : Shape := ⟨3, ![1, 1024, 1408]⟩
abbrev S1024x1408 : Shape := ⟨2, ![1024, 1408]⟩

abbrev nBuf : Space → Nat
  | .hbm => 7
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .f32⟩
  | .hbm, ⟨2, _⟩ => ⟨S8192x1024, .f32⟩
  | .hbm, ⟨3, _⟩ => ⟨S1024x5632, .bf16⟩
  | .hbm, ⟨4, _⟩ => ⟨S1024x4x1408, .bf16⟩
  | .hbm, ⟨5, _⟩ => ⟨S4x1024x1408, .bf16⟩
  | .hbm, ⟨6, _⟩ => ⟨S8192x1024, .f32⟩
  | .local _ .vmem, ⟨0, _⟩ => ⟨S256x5632, .bf16⟩
  | .local _ .vmem, ⟨1, _⟩ => ⟨S256x5632, .bf16⟩
  | .local _ .vmem, ⟨2, _⟩ => ⟨S4x1024x1408, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FfnDxRefIdeal.lean ====
abbrev S8192x5632 : Shape := ⟨2, ![8192, 5632]⟩
abbrev S1024x5632 : Shape := ⟨2, ![1024, 5632]⟩
abbrev S8192x1024 : Shape := ⟨2, ![8192, 1024]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .f32⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x5632, .f32⟩
  | .hbm, ⟨9, _⟩ => ⟨S8192x5632, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== FfnDh.lean ====
abbrev S8192x1024 : Shape := ⟨2, ![8192, 1024]⟩
abbrev S2816x1024 : Shape := ⟨2, ![2816, 1024]⟩
abbrev S8192x5632 : Shape := ⟨2, ![8192, 5632]⟩
abbrev S256x1024 : Shape := ⟨2, ![256, 1024]⟩
abbrev S256x5632 : Shape := ⟨2, ![256, 5632]⟩
abbrev S1408x1024 : Shape := ⟨2, ![1408, 1024]⟩
abbrev S256x1408 : Shape := ⟨2, ![256, 1408]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S2816x1024, .f32⟩
  | .hbm, ⟨2, _⟩ => ⟨S8192x5632, .bf16⟩
  | .hbm, ⟨3, _⟩ => ⟨S2816x1024, .bf16⟩
  | .hbm, ⟨4, _⟩ => ⟨S8192x5632, .bf16⟩
  | .local _ .vmem, ⟨0, _⟩ => ⟨S256x1024, .f32⟩
  | .local _ .vmem, ⟨1, _⟩ => ⟨S256x1024, .f32⟩
  | .local _ .vmem, ⟨2, _⟩ => ⟨S2816x1024, .bf16⟩
  | .local _ .vmem, ⟨3, _⟩ => ⟨S256x5632, .bf16⟩
  | .local _ .vmem, ⟨4, _⟩ => ⟨S256x5632, .bf16⟩
  | .local _ .vmem, ⟨5, _⟩ => ⟨S256x5632, .bf16⟩
  | .local _ .vmem, ⟨6, _⟩ => ⟨S256x5632, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FfnDhRefIdeal.lean ====
abbrev S8192x1024 : Shape := ⟨2, ![8192, 1024]⟩
abbrev S2816x1024 : Shape := ⟨2, ![2816, 1024]⟩
abbrev S8192x5632 : Shape := ⟨2, ![8192, 5632]⟩
abbrev S8192x2816 : Shape := ⟨2, ![8192, 2816]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .f32⟩
  | .hbm, ⟨2, _⟩ => ⟨S8192x5632, .bf16⟩
  | .hbm, ⟨3, _⟩ => ⟨S8192x5632, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x5632, .f32⟩
  | .hbm, ⟨35, _⟩ => ⟨S8192x5632, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v3_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v3_1 : Ref sig .tc := ⟨.hbm, 17, rfl⟩
abbrev main_v3_0 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩

abbrev nD : Nat := 1
abbrev τ : Topo := Topo.v7x

variable {F : FTy → Type} [FloatOps F]
-- ==== FfnDwi.lean ====
abbrev S8192x1024 : Shape := ⟨2, ![8192, 1024]⟩
abbrev S8192x5632 : Shape := ⟨2, ![8192, 5632]⟩
abbrev S4x1024x1408 : Shape := ⟨3, ![4, 1024, 1408]⟩
abbrev S1024x1024 : Shape := ⟨2, ![1024, 1024]⟩
abbrev S1024x1408 : Shape := ⟨2, ![1024, 1408]⟩
abbrev S1x1024x1408 : Shape := ⟨3, ![1, 1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x5632, .bf16⟩
  | .hbm, ⟨2, _⟩ => ⟨S4x1024x1408, .bf16⟩
  | .local _ .vmem, ⟨0, _⟩ => ⟨S1024x1024, .f32⟩
  | .local _ .vmem, ⟨1, _⟩ => ⟨S1024x1024, .f32⟩
  | .local _ .vmem, ⟨2, _⟩ => ⟨S1024x1408, .bf16⟩
  | .local _ .vmem, ⟨3, _⟩ => ⟨S1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDwiRefIdeal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5632, .bf16⟩
  | .hbm, ⟨2, _⟩ => ⟨S_, .f32⟩
  | .hbm, ⟨3, _⟩ => ⟨S1024x5632, .f32⟩
  | .hbm, ⟨4, _⟩ => ⟨S8192x5632, .f32⟩
  | .hbm, ⟨5, _⟩ => ⟨S8192x5632, .f32⟩
  | .hbm, ⟨6, _⟩ => ⟨S5632x1024, .f32⟩
  | .hbm, ⟨7, _⟩ => ⟨S1024x5632, .f32⟩
  | .hbm, ⟨8, _⟩ => ⟨S1024x4x1408, .f32⟩
  | .hbm, ⟨9, _⟩ => ⟨S4x1024x1408, .f32⟩
  | .hbm, ⟨10, _⟩ => ⟨S4x1024x1408, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== FfnDwo.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDwoRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 15
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S1024x2816, .f32⟩
  | .hbm, ⟨13, _⟩ => ⟨S2816x1024, .f32⟩
  | .hbm, ⟨14, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== FfnTwo.lean ====
abbrev S8192x1024 : Shape := ⟨2, ![8192, 1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S8192x5632 : Shape := ⟨2, ![8192, 5632]⟩
abbrev S8192x2816 : Shape := ⟨2, ![8192, 2816]⟩
abbrev S256x1024 : Shape := ⟨2, ![256, 1024]⟩
abbrev S256x5632 : Shape := ⟨2, ![256, 5632]⟩
abbrev S256x2816 : Shape := ⟨2, ![256, 2816]⟩
abbrev S1x1024x1408 : Shape := ⟨3, ![1, 1024, 1408]⟩
abbrev S1024x1408 : Shape := ⟨2, ![1024, 1408]⟩
abbrev S256x1408 : Shape := ⟨2, ![256, 1408]⟩

abbrev nBuf : Space → Nat
  | .hbm => 7
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .f32⟩
  | .hbm, ⟨2, _⟩ => ⟨S1024x5632, .bf16⟩
  | .hbm, ⟨3, _⟩ => ⟨S1024x4x1408, .bf16⟩
  | .hbm, ⟨4, _⟩ => ⟨S4x1024x1408, .bf16⟩
  | .hbm, ⟨5, _⟩ => ⟨S8192x5632, .bf16⟩
  | .hbm, ⟨6, _⟩ => ⟨S8192x2816, .bf16⟩
  | .local _ .vmem, ⟨0, _⟩ => ⟨S256x1024, .bf16⟩
  | .local _ .vmem, ⟨1, _⟩ => ⟨S256x1024, .bf16⟩
  | .local _ .vmem, ⟨2, _⟩ => ⟨S4x1024x1408, .bf16⟩
  | .local _ .vmem, ⟨3, _⟩ => ⟨S256x5632, .bf16⟩
  | .local _ .vmem, ⟨4, _⟩ => ⟨S256x5632, .bf16⟩
  | .local _ .vmem, ⟨5, _⟩ => ⟨S256x2816, .bf16⟩
  | .local _ .vmem, ⟨6, _⟩ => ⟨S256x2816, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FfnTwoRefIdeal.lean ====
abbrev S8192x1024 : Shape := ⟨2, ![8192, 1024]⟩
abbrev S1024x5632 : Shape := ⟨2, ![1024, 5632]⟩
abbrev S8192x5632 : Shape := ⟨2, ![8192, 5632]⟩
abbrev S8192x2816 : Shape := ⟨2, ![8192, 2816]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .f32⟩
  | .hbm, ⟨2, _⟩ => ⟨S8192x1024, .f32⟩
  | .hbm, ⟨3, _⟩ => ⟨S8192x5632, .f32⟩
  | .hbm, ⟨4, _⟩ => ⟨S8192x5632, .bf16⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== FfnTwoDwi.lean ====
abbrev S8192x1024 : Shape := ⟨2, ![8192, 1024]⟩
abbrev S8192x5632 : Shape := ⟨2, ![8192, 5632]⟩
abbrev S4x1024x1408 : Shape := ⟨3, ![4, 1024, 1408]⟩
abbrev S1024x1024 : Shape := ⟨2, ![1024, 1024]⟩
abbrev S1024x1408 : Shape := ⟨2, ![1024, 1408]⟩
abbrev S1x1024x1408 : Shape := ⟨3, ![1, 1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S4x1024x1408, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnTwoDwiRefIdeal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S_, .f32⟩
  | .hbm, ⟨3, _⟩ => ⟨S1024x5632, .f32⟩
  | .hbm, ⟨4, _⟩ => ⟨S8192x1024, .f32⟩
  | .hbm, ⟨5, _⟩ => ⟨S8192x5632, .f32⟩
  | .hbm, ⟨6, _⟩ => ⟨S8192x5632, .f32⟩
  | .hbm, ⟨7, _⟩ => ⟨S5632x1024, .f32⟩
  | .hbm, ⟨8, _⟩ => ⟨S1024x5632, .f32⟩
  | .hbm, ⟨9, _⟩ => ⟨S1024x4x1408, .f32⟩
  | .hbm, ⟨10, _⟩ => ⟨S4x1024x1408, .f32⟩
  | .hbm, ⟨11, _⟩ => ⟨S4x1024x1408, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== ProjIn.lean ====
abbrev S8192x1024 : Shape := ⟨2, ![8192, 1024]⟩
abbrev S1024x2976 : Shape := ⟨2, ![1024, 2976]⟩
abbrev S_ : Shape := ⟨0, ![]⟩
abbrev S1024x96 : Shape := ⟨2, ![1024, 96]⟩
abbrev S1024x1952 : Shape := ⟨2, ![1024, 1952]⟩
abbrev S1024x1024 : Shape := ⟨2, ![1024, 1024]⟩
abbrev S1024x3072 : Shape := ⟨2, ![1024, 3072]⟩
abbrev S8192x3072 : Shape := ⟨2, ![8192, 3072]⟩

abbrev nBuf : Space → Nat
  | .hbm => 9
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x2976, .f32⟩
  | .hbm, ⟨2, _⟩ => ⟨S1024x2976, .bf16⟩
  | .hbm, ⟨3, _⟩ => ⟨S_, .bf16⟩
  | .hbm, ⟨4, _⟩ => ⟨S1024x96, .bf16⟩
  | .hbm, ⟨5, _⟩ => ⟨S1024x1952, .bf16⟩
  | .hbm, ⟨6, _⟩ => ⟨S1024x1024, .bf16⟩
  | .hbm, ⟨7, _⟩ => ⟨S1024x3072, .bf16⟩
  | .hbm, ⟨8, _⟩ => ⟨S8192x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjInRefIdeal.lean ====
abbrev S8192x1024 : Shape := ⟨2, ![8192, 1024]⟩
abbrev S1024x2976 : Shape := ⟨2, ![1024, 2976]⟩
abbrev S8192x2976 : Shape := ⟨2, ![8192, 2976]⟩
abbrev S8192x1952 : Shape := ⟨2, ![8192, 1952]⟩
abbrev S_ : Shape := ⟨0, ![]⟩
abbrev S8192x96 : Shape := ⟨2, ![8192, 96]⟩
abbrev S8192x3072 : Shape := ⟨2, ![8192, 3072]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2976, .f32⟩
  | .hbm, ⟨2, _⟩ => ⟨S8192x1024, .f32⟩
  | .hbm, ⟨3, _⟩ => ⟨S8192x2976, .f32⟩
  | .hbm, ⟨4, _⟩ => ⟨S8192x1952, .f32⟩
  | .hbm, ⟨5, _⟩ => ⟨S_, .f32⟩
  | .hbm, ⟨6, _⟩ => ⟨S8192x96, .f32⟩
  | .hbm, ⟨7, _⟩ => ⟨S8192x1024, .f32⟩
  | .hbm, ⟨8, _⟩ => ⟨S8192x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ProjDws.lean ====
abbrev S8192x1024 : Shape := ⟨2, ![8192, 1024]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjDwsRefIdeal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S_, .f32⟩
  | .hbm, ⟨3, _⟩ => ⟨S1024x2048, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ProjDwc.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ProjDwcRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ProjDx.lean ====
abbrev S8192x1024 : Shape := ⟨2, ![8192, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .bf16⟩
  | .hbm, ⟨3, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjDxRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== ProjDwo.lean ====
abbrev S8192x512 : Shape := ⟨2, ![8192, 512]⟩
abbrev S8192x1024 : Shape := ⟨2, ![8192, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .f32⟩
  | .hbm, ⟨2, _⟩ => ⟨S512x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .f32⟩
  | .local _ .vmem, ⟨3, _⟩ => ⟨S1024x1024, .f32⟩
  | .local _ .vmem, ⟨4, _⟩ => ⟨S512x1024, .bf16⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ProjDwoRefIdeal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .f32⟩
  | .hbm, ⟨2, _⟩ => ⟨S_, .f32⟩
  | .hbm, ⟨3, _⟩ => ⟨S512x1024, .f32⟩
  | .hbm, ⟨4, _⟩ => ⟨S8192x512, .f32⟩
  | .hbm, ⟨5, _⟩ => ⟨S8192x1024, .f32⟩
  | .hbm, ⟨6, _⟩ => ⟨S1024x512, .f32⟩
  | .hbm, ⟨7, _⟩ => ⟨S512x1024, .f32⟩
  | .hbm, ⟨8, _⟩ => ⟨S512x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FfnLn.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .f32⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S2816x1024, .bf16⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S8192x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnLnRefIdeal.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 44
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .f32⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x2816, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== ProjLn.lean ====
abbrev S8192x512 : Shape := ⟨2, ![8192, 512]⟩
abbrev S1024x1024 : Shape := ⟨2, ![1024, 1024]⟩
abbrev S8192x1024 : Shape := ⟨2, ![8192, 1024]⟩
abbrev S1024 : Shape := ⟨1, ![1024]⟩
abbrev S1x1024 : Shape := ⟨2, ![1, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 15
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S1024x1024, .f32⟩
  | .hbm, ⟨3, _⟩ => ⟨S8192x1024, .f32⟩
  | .hbm, ⟨4, _⟩ => ⟨S1024, .f32⟩
  | .hbm, ⟨5, _⟩ => ⟨S1024, .f32⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S8192x1024, .f32⟩
  | .hbm, ⟨10, _⟩ => ⟨S8192x1024, .f32⟩
  | .hbm, ⟨11, _⟩ => ⟨S8192x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ProjLnRefIdeal.lean ====
abbrev S8192x512 : Shape := ⟨2, ![8192, 512]⟩
abbrev S1024x1024 : Shape := ⟨2, ![1024, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S1024x1024, .f32⟩
  | .hbm, ⟨3, _⟩ => ⟨S8192x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x1024, .bf16⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== FfnDxLn.lean ====
abbrev S8192x5632 : Shape := ⟨2, ![8192, 5632]⟩
abbrev S1024x5632 : Shape := ⟨2, ![1024, 5632]⟩
abbrev S8192x1024 : Shape := ⟨2, ![8192, 1024]⟩
abbrev S1024 : Shape := ⟨1, ![1024]⟩
abbrev S1024x4x1408 : Shape := ⟨3, ![1024, 4, 1408]⟩
abbrev S4x1024x1408 : Shape := ⟨3, ![4, 1024, 1408]⟩
abbrev S1x1024 : Shape := ⟨2, ![1, 1024]⟩
abbrev S256x5632 : Shape := ⟨2, ![256, 5632]⟩
abbrev S256x1024 : Shape := ⟨2, ![256, 1024]⟩
abbrev S256x1408 : Shape := ⟨2, ![256, 1408]⟩
abbrev S1x1024x1408 : Shape := ⟨3, ![1, 1024, 1408]⟩
abbrev S1024x1408 : Shape := ⟨2, ![1024, 1408]⟩
abbrev S256 : Shape := ⟨1, ![256]⟩
abbrev S256x1 : Shape := ⟨2, ![256, 1]⟩

abbrev nBuf : Space → Nat
  | .hbm => 14
  | .vmem => 13
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .f32⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S1024, .f32⟩
  | .hbm, ⟨6, _⟩ => ⟨S1024x5632, .bf16⟩
  | .hbm, ⟨7, _⟩ => ⟨S1024x4x1408, .bf16⟩
  | .hbm, ⟨8, _⟩ => ⟨S4x1024x1408, .bf16⟩
  | .hbm, ⟨9, _⟩ => ⟨S1x1024, .f32⟩
  | .hbm, ⟨10, _⟩ => ⟨S1x1024, .f32⟩
  | .hbm, ⟨11, _⟩ => ⟨S8192x1024, .f32⟩
  | .hbm, ⟨12, _⟩ => ⟨S1x1024, .f32⟩
  | .hbm, ⟨13, _⟩ => ⟨S1x1024, .f32⟩
  | .local _ .vmem, ⟨0, _⟩ => ⟨S256x5632, .bf16⟩
  | .local _ .vmem, ⟨1, _⟩ => ⟨S256x5632, .bf16⟩
  | .local _ .vmem, ⟨2, _⟩ => ⟨S4x1024x1408, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S1x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== FfnDxLnRefIdeal.lean ====
abbrev S8192x5632 : Shape := ⟨2, ![8192, 5632]⟩
abbrev S1024x5632 : Shape := ⟨2, ![1024, 5632]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 98
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .f32⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S8192x5632, .f32⟩
  | .hbm, ⟨46, _⟩ => ⟨S8192x5632, .f32⟩
  | .hbm, ⟨47, _⟩ => ⟨S8192x1024, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S_, .f32⟩
  | .hbm, ⟨56, _⟩ => ⟨S1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S1024, .f32⟩
  | .hbm, ⟨65, _⟩ => ⟨S8192x1024, .f32⟩
  | .hbm, ⟨66, _⟩ => ⟨S_, .f32⟩
  | .hbm, ⟨67, _⟩ => ⟨S8192, .f32⟩
  | .hbm, ⟨68, _⟩ => ⟨S8192x1, .f32⟩
  | .hbm, ⟨69, _⟩ => ⟨S8192x1024, .f32⟩
  | .hbm, ⟨70, _⟩ => ⟨S8192x1024, .f32⟩
  | .hbm, ⟨71, _⟩ => ⟨S8192x1, .f32⟩
  | .hbm, ⟨72, _⟩ => ⟨S8192x1024, .f32⟩
  | .hbm, ⟨73, _⟩ => ⟨S_, .f32⟩
  | .hbm, ⟨74, _⟩ => ⟨S8192, .f32⟩
  | .hbm, ⟨75, _⟩ => ⟨S8192x1, .f32⟩
  | .hbm, ⟨76, _⟩ => ⟨S_, .f32⟩
  | .hbm, ⟨77, _⟩ => ⟨S8192x1, .f32⟩
  | .hbm, ⟨78, _⟩ => ⟨S8192x1, .f32⟩
  | .hbm, ⟨79, _⟩ => ⟨S_, .f32⟩
  | .hbm, ⟨80, _⟩ => ⟨S8192, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S_, .f32⟩
  | .hbm, ⟨85, _⟩ => ⟨S8192, .f32⟩
  | .hbm, ⟨86, _⟩ => ⟨S8192x1, .f32⟩
  | .hbm, ⟨87, _⟩ => ⟨S8192x1024, .f32⟩
  | .hbm, ⟨88, _⟩ => ⟨S8192x1, .f32⟩
  | .hbm, ⟨89, _⟩ => ⟨S_, .f32⟩
  | .hbm, ⟨90, _⟩ => ⟨S8192x1, .f32⟩
  | .hbm, ⟨91, _⟩ => ⟨S8192x1, .f32⟩
  | .hbm, ⟨92, _⟩ => ⟨S_, .f32⟩
  | .hbm, ⟨93, _⟩ => ⟨S8192, .f32⟩
  | .hbm, ⟨94, _⟩ => ⟨S8192x1024, .f32⟩
  | .hbm, ⟨95, _⟩ => ⟨S8192x1024, .f32⟩
  | .hbm, ⟨96, _⟩ => ⟨S1x1024, .f32⟩
  | .hbm, ⟨97, _⟩ => ⟨S1x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_cst_10 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_11 : Ref sig .tc := ⟨.hbm, 63, rfl⟩
abbrev main_v45 : Ref sig .tc := ⟨.hbm, 64, rfl⟩
abbrev main_v46 : Ref sig .tc := ⟨.hbm, 65, rfl⟩
abbrev main_cst_12 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_13 : Ref sig .tc := ⟨.hbm, 73, rfl⟩
abbrev main_v53 : Ref sig .tc := ⟨.hbm, 74, rfl⟩
abbrev main_v54 : Ref sig .tc := ⟨.hbm, 75, rfl⟩
abbrev main_cst_14 : Ref sig .tc := ⟨.hbm, 76, rfl⟩
abbrev main_v55 : Ref sig .tc := ⟨.hbm, 77, rfl⟩
abbrev main_v56 : Ref sig .tc := ⟨.hbm, 78, rfl⟩
abbrev main_cst_15 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_16 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_17 : Ref sig .tc := ⟨.hbm, 89, rfl⟩
abbrev main_v65 : Ref sig .tc := ⟨.hbm, 90, rfl⟩
abbrev main_v66 : Ref sig .tc := ⟨.hbm, 91, rfl⟩
abbrev main_cst_18 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩

abbrev nD : Nat := 1
abbrev τ : Topo := Topo.v7x

variable {F : FTy → Type} [FloatOps F]
-- ==== ProjDxLn.lean ====
abbrev S8192x2048 : Shape := ⟨2, ![8192, 2048]⟩
abbrev S8192x1024 : Shape := ⟨2, ![8192, 1024]⟩
abbrev S1024x2976 : Shape := ⟨2, ![1024, 2976]⟩
abbrev S1024 : Shape := ⟨1, ![1024]⟩
abbrev S_ : Shape := ⟨0, ![]⟩
abbrev S1024x96 : Shape := ⟨2, ![1024, 96]⟩
abbrev S1024x1952 : Shape := ⟨2, ![1024, 1952]⟩
abbrev S1024x1024 : Shape := ⟨2, ![1024, 1024]⟩
abbrev S1024x3072 : Shape := ⟨2, ![1024, 3072]⟩
abbrev S1x1024 : Shape := ⟨2, ![1, 1024]⟩
abbrev S256x2048 : Shape := ⟨2, ![256, 2048]⟩
abbrev S256x1024 : Shape := ⟨2, ![256, 1024]⟩
abbrev S1024x2048 : Shape := ⟨2, ![1024, 2048]⟩
abbrev S256 : Shape := ⟨1, ![256]⟩
abbrev S256x1 : Shape := ⟨2, ![256, 1]⟩

abbrev nBuf : Space → Nat
  | .hbm => 18
  | .vmem => 15
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S1024x2976, .f32⟩
  | .hbm, ⟨3, _⟩ => ⟨S8192x1024, .f32⟩
  | .hbm, ⟨4, _⟩ => ⟨S8192x1024, .f32⟩
  | .hbm, ⟨5, _⟩ => ⟨S1024, .f32⟩
  | .hbm, ⟨6, _⟩ => ⟨S1024, .f32⟩
  | .hbm, ⟨7, _⟩ => ⟨S1024x2976, .bf16⟩
  | .hbm, ⟨8, _⟩ => ⟨S_, .bf16⟩
  | .hbm, ⟨9, _⟩ => ⟨S1024x96, .bf16⟩
  | .hbm, ⟨10, _⟩ => ⟨S1024x1952, .bf16⟩
  | .hbm, ⟨11, _⟩ => ⟨S1024x1024, .bf16⟩
  | .hbm, ⟨12, _⟩ => ⟨S1024x3072, .bf16⟩
  | .hbm, ⟨13, _⟩ => ⟨S1x1024, .f32⟩
  | .hbm, ⟨14, _⟩ => ⟨S1x1024, .f32⟩
  | .hbm, ⟨15, _⟩ => ⟨S8192x1024, .f32⟩
  | .hbm, ⟨16, _⟩ => ⟨S1x1024, .f32⟩
  | .hbm, ⟨17, _⟩ => ⟨S1x1024, .f32⟩
  | .local _ .vmem, ⟨0, _⟩ => ⟨S256x2048, .bf16⟩
  | .local _ .vmem, ⟨1, _⟩ => ⟨S256x2048, .bf16⟩
  | .local _ .vmem, ⟨2, _⟩ => ⟨S256x1024, .bf16⟩
  | .local _ .vmem, ⟨3, _⟩ => ⟨S256x1024, .bf16⟩
  | .local _ .vmem, ⟨4, _⟩ => ⟨S1024x3072, .bf16⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | .local _ .vmem, ⟨14, _⟩ => ⟨S1x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ProjDxLnRefIdeal.lean ====
abbrev S8192x2048 : Shape := ⟨2, ![8192, 2048]⟩
abbrev S8192x1024 : Shape := ⟨2, ![8192, 1024]⟩
abbrev S1024x2976 : Shape := ⟨2, ![1024, 2976]⟩
abbrev S1024 : Shape := ⟨1, ![1024]⟩
abbrev S8192x1952 : Shape := ⟨2, ![8192, 1952]⟩
abbrev S8192x2976 : Shape := ⟨2, ![8192, 2976]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 101
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S1024x2976, .f32⟩
  | .hbm, ⟨3, _⟩ => ⟨S8192x1024, .f32⟩
  | .hbm, ⟨4, _⟩ => ⟨S8192x1024, .f32⟩
  | .hbm, ⟨5, _⟩ => ⟨S1024, .f32⟩
  | .hbm, ⟨6, _⟩ => ⟨S1024, .f32⟩
  | .hbm, ⟨7, _⟩ => ⟨S8192x1952, .bf16⟩
  | .hbm, ⟨8, _⟩ => ⟨S8192x2976, .bf16⟩
  | .hbm, ⟨9, _⟩ => ⟨S8192x2976, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S1x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S8192x2976, .f32⟩
  | .hbm, ⟨50, _⟩ => ⟨S8192x1024, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S_, .f32⟩
  | .hbm, ⟨59, _⟩ => ⟨S1024, .f32⟩
  | .hbm, ⟨60, _⟩ => ⟨S8192x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S1024, .f32⟩
  | .hbm, ⟨68, _⟩ => ⟨S8192x1024, .f32⟩
  | .hbm, ⟨69, _⟩ => ⟨S_, .f32⟩
  | .hbm, ⟨70, _⟩ => ⟨S8192, .f32⟩
  | .hbm, ⟨71, _⟩ => ⟨S8192x1, .f32⟩
  | .hbm, ⟨72, _⟩ => ⟨S8192x1024, .f32⟩
  | .hbm, ⟨73, _⟩ => ⟨S8192x1024, .f32⟩
  | .hbm, ⟨74, _⟩ => ⟨S8192x1, .f32⟩
  | .hbm, ⟨75, _⟩ => ⟨S8192x1024, .f32⟩
  | .hbm, ⟨76, _⟩ => ⟨S_, .f32⟩
  | .hbm, ⟨77, _⟩ => ⟨S8192, .f32⟩
  | .hbm, ⟨78, _⟩ => ⟨S8192x1, .f32⟩
  | .hbm, ⟨79, _⟩ => ⟨S_, .f32⟩
  | .hbm, ⟨80, _⟩ => ⟨S8192x1, .f32⟩
  | .hbm, ⟨81, _⟩ => ⟨S8192x1, .f32⟩
  | .hbm, ⟨82, _⟩ => ⟨S_, .f32⟩
  | .hbm, ⟨83, _⟩ => ⟨S8192, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S_, .f32⟩
  | .hbm, ⟨88, _⟩ => ⟨S8192, .f32⟩
  | .hbm, ⟨89, _⟩ => ⟨S8192x1, .f32⟩
  | .hbm, ⟨90, _⟩ => ⟨S8192x1024, .f32⟩
  | .hbm, ⟨91, _⟩ => ⟨S8192x1, .f32⟩
  | .hbm, ⟨92, _⟩ => ⟨S_, .f32⟩
  | .hbm, ⟨93, _⟩ => ⟨S8192x1, .f32⟩
  | .hbm, ⟨94, _⟩ => ⟨S8192x1, .f32⟩
  | .hbm, ⟨95, _⟩ => ⟨S_, .f32⟩
  | .hbm, ⟨96, _⟩ => ⟨S8192, .f32⟩
  | .hbm, ⟨97, _⟩ => ⟨S8192x1024, .f32⟩
  | .hbm, ⟨98, _⟩ => ⟨S8192x1024, .f32⟩
  | .hbm, ⟨99, _⟩ => ⟨S1x1024, .f32⟩
  | .hbm, ⟨100, _⟩ => ⟨S1x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_11 : Ref sig .tc := ⟨.hbm, 66, rfl⟩
abbrev main_v47 : Ref sig .tc := ⟨.hbm, 67, rfl⟩
abbrev main_v48 : Ref sig .tc := ⟨.hbm, 68, rfl⟩
abbrev main_cst_12 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_13 : Ref sig .tc := ⟨.hbm, 76, rfl⟩
abbrev main_v55 : Ref sig .tc := ⟨.hbm, 77, rfl⟩
abbrev main_v56 : Ref sig .tc := ⟨.hbm, 78, rfl⟩
abbrev main_cst_14 : Ref sig .tc := ⟨.hbm, 79, rfl⟩
abbrev main_v57 : Ref sig .tc := ⟨.hbm, 80, rfl⟩
abbrev main_v58 : Ref sig .tc := ⟨.hbm, 81, rfl⟩
abbrev main_cst_15 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_16 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_17 : Ref sig .tc := ⟨.hbm, 92, rfl⟩
abbrev main_v67 : Ref sig .tc := ⟨.hbm, 93, rfl⟩
abbrev main_v68 : Ref sig .tc := ⟨.hbm, 94, rfl⟩
abbrev main_cst_18 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩

abbrev nD : Nat := 1
abbrev τ : Topo := Topo.v7x

variable {F : FTy → Type} [FloatOps F]
-- ==== LossLn.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S1x1024 : Shape := ⟨2, ![1, 1024]⟩
abbrev S8x128 : Shape := ⟨2, ![8, 128]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 13
  | .vmem => 14
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .f32⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S8192x1024, .f32⟩
  | .hbm, ⟨6, _⟩ => ⟨S2816x1024, .bf16⟩
  | .hbm, ⟨7, _⟩ => ⟨S1x1024, .f32⟩
  | .hbm, ⟨8, _⟩ => ⟨S1x1024, .f32⟩
  | .hbm, ⟨9, _⟩ => ⟨S8192x1024, .f32⟩
  | .hbm, ⟨10, _⟩ => ⟨S1x1024, .f32⟩
  | .hbm, ⟨11, _⟩ => ⟨S1x1024, .f32⟩
  | .hbm, ⟨12, _⟩ => ⟨S8x128, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S8x128, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LossLnRefIdeal.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x128 : Shape := ⟨2, ![8, 128]⟩

abbrev nBuf : Space → Nat
  | .hbm => 121
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .f32⟩
  | .hbm, ⟨2, _⟩ => ⟨S8192x1024, .f32⟩
  | .hbm, ⟨3, _⟩ => ⟨S1024, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x2816, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S1x1024, .f32⟩
  | .hbm, ⟨46, _⟩ => ⟨S8192x1024, .f32⟩
  | .hbm, ⟨47, _⟩ => ⟨S8192x1024, .f32⟩
  | .hbm, ⟨48, _⟩ => ⟨S1x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S_, .f32⟩
  | .hbm, ⟨59, _⟩ => ⟨S8192, .f32⟩
  | .hbm, ⟨60, _⟩ => ⟨S8192, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S8192, .f32⟩
  | .hbm, ⟨69, _⟩ => ⟨S_, .f32⟩
  | .hbm, ⟨70, _⟩ => ⟨S8192, .f32⟩
  | .hbm, ⟨71, _⟩ => ⟨S8192, .f32⟩
  | .hbm, ⟨72, _⟩ => ⟨S8192x1024, .f32⟩
  | .hbm, ⟨73, _⟩ => ⟨S8192x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S_, .f32⟩
  | .hbm, ⟨78, _⟩ => ⟨S1024, .f32⟩
  | .hbm, ⟨79, _⟩ => ⟨S8192x1024, .f32⟩
  | .hbm, ⟨80, _⟩ => ⟨S_, .f32⟩
  | .hbm, ⟨81, _⟩ => ⟨S1024, .f32⟩
  | .hbm, ⟨82, _⟩ => ⟨S1x1024, .f32⟩
  | .hbm, ⟨83, _⟩ => ⟨S8192x1024, .f32⟩
  | .hbm, ⟨84, _⟩ => ⟨S8192x1024, .f32⟩
  | .hbm, ⟨85, _⟩ => ⟨S_, .f32⟩
  | .hbm, ⟨86, _⟩ => ⟨S1024, .f32⟩
  | .hbm, ⟨87, _⟩ => ⟨S8192x1024, .f32⟩
  | .hbm, ⟨88, _⟩ => ⟨S_, .f32⟩
  | .hbm, ⟨89, _⟩ => ⟨S8192, .f32⟩
  | .hbm, ⟨90, _⟩ => ⟨S8192x1, .f32⟩
  | .hbm, ⟨91, _⟩ => ⟨S8192x1024, .f32⟩
  | .hbm, ⟨92, _⟩ => ⟨S8192x1024, .f32⟩
  | .hbm, ⟨93, _⟩ => ⟨S8192x1, .f32⟩
  | .hbm, ⟨94, _⟩ => ⟨S8192x1024, .f32⟩
  | .hbm, ⟨95, _⟩ => ⟨S_, .f32⟩
  | .hbm, ⟨96, _⟩ => ⟨S8192, .f32⟩
  | .hbm, ⟨97, _⟩ => ⟨S8192x1, .f32⟩
  | .hbm, ⟨98, _⟩ => ⟨S_, .f32⟩
  | .hbm, ⟨99, _⟩ => ⟨S8192x1, .f32⟩
  | .hbm, ⟨100, _⟩ => ⟨S8192x1, .f32⟩
  | .hbm, ⟨101, _⟩ => ⟨S_, .f32⟩
  | .hbm, ⟨102, _⟩ => ⟨S8192, .f32⟩
  | .hbm, ⟨103, _⟩ => ⟨S8192x1024, .f32⟩
  | .hbm, ⟨104, _⟩ => ⟨S8192x1024, .f32⟩
  | .hbm, ⟨105, _⟩ => ⟨S8192x1024, .f32⟩
  | .hbm, ⟨106, _⟩ => ⟨S_, .f32⟩
  | .hbm, ⟨107, _⟩ => ⟨S8192, .f32⟩
  | .hbm, ⟨108, _⟩ => ⟨S8192x1, .f32⟩
  | .hbm, ⟨109, _⟩ => ⟨S8192x1024, .f32⟩
  | .hbm, ⟨110, _⟩ => ⟨S8192x1, .f32⟩
  | .hbm, ⟨111, _⟩ => ⟨S_, .f32⟩
  | .hbm, ⟨112, _⟩ => ⟨S8192x1, .f32⟩
  | .hbm, ⟨113, _⟩ => ⟨S8192x1, .f32⟩
  | .hbm, ⟨114, _⟩ => ⟨S_, .f32⟩
  | .hbm, ⟨115, _⟩ => ⟨S8192, .f32⟩
  | .hbm, ⟨116, _⟩ => ⟨S8192x1024, .f32⟩
  | .hbm, ⟨117, _⟩ => ⟨S8192x1024, .f32⟩
  | .hbm, ⟨118, _⟩ => ⟨S1x1024, .f32⟩
  | .hbm, ⟨119, _⟩ => ⟨S1x1024, .f32⟩
  | .hbm, ⟨120, _⟩ => ⟨S8x128, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_7 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_cst_10 : Ref sig .tc := ⟨.hbm, 58, rfl⟩
abbrev main_v41 : Ref sig .tc := ⟨.hbm, 59, rfl⟩
abbrev main_v42 : Ref sig .tc := ⟨.hbm, 60, rfl⟩
abbrev main_cst_11 : Ref sig .tc := ⟨.hbm, 61, rfl⟩
abbrev main_v43 : Ref sig .tc := ⟨.hbm, 62, rfl⟩
abbrev main_cst_12 : Ref sig .tc := ⟨.hbm, 63, rfl⟩
abbrev main_v44 : Ref sig .tc := ⟨.hbm, 64, rfl⟩
abbrev main_cst_13 : Ref sig .tc := ⟨.hbm, 65, rfl⟩
abbrev main_cst_14 : Ref sig .tc := ⟨.hbm, 66, rfl⟩
abbrev main_v45 : Ref sig .tc := ⟨.hbm, 67, rfl⟩
abbrev main_v46 : Ref sig .tc := ⟨.hbm, 68, rfl⟩
abbrev main_cst_15 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_16 : Ref sig .tc := ⟨.hbm, 74, rfl⟩
abbrev main_v51 : Ref sig .tc := ⟨.hbm, 75, rfl⟩
abbrev main_v52 : Ref sig .tc := ⟨.hbm, 76, rfl⟩
abbrev main_cst_17 : Ref sig .tc := ⟨.hbm, 77, rfl⟩
abbrev main_v53 : Ref sig .tc := ⟨.hbm, 78, rfl⟩
abbrev main_v54 : Ref sig .tc := ⟨.hbm, 79, rfl⟩
abbrev main_cst_18 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_19 : Ref sig .tc := ⟨.hbm, 85, rfl⟩
abbrev main_v59 : Ref sig .tc := ⟨.hbm, 86, rfl⟩
abbrev main_v60 : Ref sig .tc := ⟨.hbm, 87, rfl⟩
abbrev main_cst_20 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_21 : Ref sig .tc := ⟨.hbm, 95, rfl⟩
abbrev main_v67 : Ref sig .tc := ⟨.hbm, 96, rfl⟩
abbrev main_v68 : Ref sig .tc := ⟨.hbm, 97, rfl⟩
abbrev main_cst_22 : Ref sig .tc := ⟨.hbm, 98, rfl⟩
abbrev main_v69 : Ref sig .tc := ⟨.hbm, 99, rfl⟩
abbrev main_v70 : Ref sig .tc := ⟨.hbm, 100, rfl⟩
abbrev main_cst_23 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_24 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_25 : Ref sig .tc := ⟨.hbm, 111, rfl⟩
abbrev main_v79 : Ref sig .tc := ⟨.hbm, 112, rfl⟩
abbrev main_v80 : Ref sig .tc := ⟨.hbm, 113, rfl⟩
abbrev main_cst_26 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩

abbrev nD : Nat := 1
abbrev τ : Topo := Topo.v7x

variable {F : FTy → Type} [FloatOps F]
-- ==== ShiftBwd.lean ====
abbrev S8192x2048 : Shape := ⟨2, ![8192, 2048]⟩
abbrev S8192x3072 : Shape := ⟨2, ![8192, 3072]⟩
abbrev S2048 : Shape := ⟨1, ![2048]⟩
abbrev S1x2048 : Shape := ⟨2, ![1, 2048]⟩
abbrev S256x2048 : Shape := ⟨2, ![256, 2048]⟩
abbrev S8x2048 : Shape := ⟨2, ![8, 2048]⟩
abbrev S272x2048 : Shape := ⟨2, ![272, 2048]⟩
abbrev S16x2048 : Shape := ⟨2, ![16, 2048]⟩

abbrev nBuf : Space → Nat
  | .hbm => 9
  | .vmem => 19
  | .smem => 0
  | _ => 0

abbrev bufTy : (tb : Table) → Fin (tcTables nBuf tb) → BufTy
  | .hbm, ⟨0, _⟩ => ⟨S8192x2048, .f32⟩
  | .hbm, ⟨1, _⟩ => ⟨S8192x3072, .f32⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S8192x2048, .bf16⟩
  | .hbm, ⟨7, _⟩ => ⟨S1x2048, .f32⟩
  | .hbm, ⟨8, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S8x2048, .f32⟩
  | .local _ .vmem, ⟨3, _⟩ => ⟨S8x2048, .f32⟩
  | .local _ .vmem, ⟨4, _⟩ => ⟨S8x2048, .f32⟩
  | .local _ .vmem, ⟨5, _⟩ => ⟨S8x2048, .f32⟩
  | .local _ .vmem, ⟨6, _⟩ => ⟨S256x2048, .f32⟩
  | .local _ .vmem, ⟨7, _⟩ => ⟨S256x2048, .f32⟩
  | .local _ .vmem, ⟨8, _⟩ => ⟨S8x2048, .f32⟩
  | .local _ .vmem, ⟨9, _⟩ => ⟨S8x2048, .f32⟩
  | .local _ .vmem, ⟨10, _⟩ => ⟨S8x2048, .f32⟩
  | .local _ .vmem, ⟨11, _⟩ => ⟨S8x2048, .f32⟩
  | .local _ .vmem, ⟨12, _⟩ => ⟨S1x2048, .f32⟩
  | .local _ .vmem, ⟨13, _⟩ => ⟨S1x2048, .f32⟩
  | .local _ .vmem, ⟨14, _⟩ => ⟨S256x2048, .bf16⟩
  | .local _ .vmem, ⟨15, _⟩ => ⟨S256x2048, .bf16⟩
  | .local _ .vmem, ⟨16, _⟩ => ⟨S1x2048, .f32⟩
  | .local _ .vmem, ⟨17, _⟩ => ⟨S1x2048, .f32⟩
  | .local _ .vmem, ⟨18, _⟩ => ⟨S272x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ShiftBwdRefIdeal.lean ====
abbrev S8192x2048 : Shape := ⟨2, ![8192, 2048]⟩
abbrev S8192x3072 : Shape := ⟨2, ![8192, 3072]⟩
abbrev S2048 : Shape := ⟨1, ![2048]⟩
abbrev S4x2048x2048 : Shape := ⟨3, ![4, 2048, 2048]⟩
abbrev S4x1x2048 : Shape := ⟨3, ![4, 1, 2048]⟩
abbrev S_ : Shape := ⟨0, ![]⟩
abbrev S4x2047x2048 : Shape := ⟨3, ![4, 2047, 2048]⟩
abbrev S1x1x2048 : Shape := ⟨3, ![1, 1, 2048]⟩
abbrev S1x2048 : Shape := ⟨2, ![1, 2048]⟩

abbrev nBuf : Space → Nat
  | .hbm => 62
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x3072, .f32⟩
  | .hbm, ⟨2, _⟩ => ⟨S2048, .f32⟩
  | .hbm, ⟨3, _⟩ => ⟨S2048, .f32⟩
  | .hbm, ⟨4, _⟩ => ⟨S8192x2048, .f32⟩
  | .hbm, ⟨5, _⟩ => ⟨S4x2048x2048, .f32⟩
  | .hbm, ⟨6, _⟩ => ⟨S4x1x2048, .f32⟩
  | .hbm, ⟨7, _⟩ => ⟨S_, .f32⟩
  | .hbm, ⟨8, _⟩ => ⟨S4x1x2048, .f32⟩
  | .hbm, ⟨9, _⟩ => ⟨S4x2047x2048, .f32⟩
  | .hbm, ⟨10, _⟩ => ⟨S4x2048x2048, .f32⟩
  | .hbm, ⟨11, _⟩ => ⟨S_, .f32⟩
  | .hbm, ⟨12, _⟩ => ⟨S4x1x2048, .f32⟩
  | .hbm, ⟨13, _⟩ => ⟨S4x2047x2048, .f32⟩
  | .hbm, ⟨14, _⟩ => ⟨S4x2048x2048, .f32⟩
  | .hbm, ⟨15, _⟩ => ⟨S_, .f32⟩
  | .hbm, ⟨16, _⟩ => ⟨S4x1x2048, .f32⟩
  | .hbm, ⟨17, _⟩ => ⟨S4x2048x2048, .f32⟩
  | .hbm, ⟨18, _⟩ => ⟨S1x1x2048, .f32⟩
  | .hbm, ⟨19, _⟩ => ⟨S4x2048x2048, .f32⟩
  | .hbm, ⟨20, _⟩ => ⟨S4x2048x2048, .f32⟩
  | .hbm, ⟨21, _⟩ => ⟨S4x2048x2048, .f32⟩
  | .hbm, ⟨22, _⟩ => ⟨S4x2048x2048, .f32⟩
  | .hbm, ⟨23, _⟩ => ⟨S1x1x2048, .f32⟩
  | .hbm, ⟨24, _⟩ => ⟨S4x2048x2048, .f32⟩
  | .hbm, ⟨25, _⟩ => ⟨S4x2048x2048, .f32⟩
  | .hbm, ⟨26, _⟩ => ⟨S4x2048x2048, .f32⟩
  | .hbm, ⟨27, _⟩ => ⟨S4x2048x2048, .f32⟩
  | .hbm, ⟨28, _⟩ => ⟨S4x2048x2048, .f32⟩
  | .hbm, ⟨29, _⟩ => ⟨S4x2048x2048, .f32⟩
  | .hbm, ⟨30, _⟩ => ⟨S4x2048x2048, .f32⟩
  | .hbm, ⟨31, _⟩ => ⟨S_, .f32⟩
  | .hbm, ⟨32, _⟩ => ⟨S2048, .f32⟩
  | .hbm, ⟨33, _⟩ => ⟨S1x1x2048, .f32⟩
  | .hbm, ⟨34, _⟩ => ⟨S_, .f32⟩
  | .hbm, ⟨35, _⟩ => ⟨S2048, .f32⟩
  | .hbm, ⟨36, _⟩ => ⟨S4x2048x2048, .f32⟩
  | .hbm, ⟨37, _⟩ => ⟨S4x2048x2048, .f32⟩
  | .hbm, ⟨38, _⟩ => ⟨S4x2048x2048, .f32⟩
  | .hbm, ⟨39, _⟩ => ⟨S4x2048x2048, .f32⟩
  | .hbm, ⟨40, _⟩ => ⟨S4x2048x2048, .f32⟩
  | .hbm, ⟨41, _⟩ => ⟨S_, .f32⟩
  | .hbm, ⟨42, _⟩ => ⟨S2048, .f32⟩
  | .hbm, ⟨43, _⟩ => ⟨S1x1x2048, .f32⟩
  | .hbm, ⟨44, _⟩ => ⟨S_, .f32⟩
  | .hbm, ⟨45, _⟩ => ⟨S2048, .f32⟩
  | .hbm, ⟨46, _⟩ => ⟨S4x2048x2048, .f32⟩
  | .hbm, ⟨47, _⟩ => ⟨S4x2048x2048, .f32⟩
  | .hbm, ⟨48, _⟩ => ⟨S4x2047x2048, .f32⟩
  | .hbm, ⟨49, _⟩ => ⟨S4x1x2048, .f32⟩
  | .hbm, ⟨50, _⟩ => ⟨S_, .f32⟩
  | .hbm, ⟨51, _⟩ => ⟨S4x2048x2048, .f32⟩
  | .hbm, ⟨52, _⟩ => ⟨S4x2048x2048, .f32⟩
  | .hbm, ⟨53, _⟩ => ⟨S4x1x2048, .f32⟩
  | .hbm, ⟨54, _⟩ => ⟨S4x2047x2048, .f32⟩
  | .hbm, ⟨55, _⟩ => ⟨S_, .f32⟩
  | .hbm, ⟨56, _⟩ => ⟨S4x2048x2048, .f32⟩
  | .hbm, ⟨57, _⟩ => ⟨S4x2048x2048, .f32⟩
  | .hbm, ⟨58, _⟩ => ⟨S8192x2048, .f32⟩
  | .hbm, ⟨59, _⟩ => ⟨S8192x2048, .bf16⟩
  | .hbm, ⟨60, _⟩ => ⟨S1x2048, .f32⟩
  | .hbm, ⟨61, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_6 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_7 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩

abbrev nD : Nat := 1
abbrev τ : Topo := Topo.v7x

variable {F : FTy → Type} [FloatOps F]
-- ==== ConvPost.lean ====
abbrev S8192x512 : Shape := ⟨2, ![8192, 512]⟩
abbrev S8192x1024 : Shape := ⟨2, ![8192, 1024]⟩
abbrev S512 : Shape := ⟨1, ![512]⟩
abbrev S1x512 : Shape := ⟨2, ![1, 512]⟩
abbrev S256x512 : Shape := ⟨2, ![256, 512]⟩
abbrev S256 : Shape := ⟨1, ![256]⟩
abbrev S256x1 : Shape := ⟨2, ![256, 1]⟩

abbrev nBuf : Space → Nat
  | .hbm => 10
  | .vmem => 11
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S512, .f32⟩
  | .hbm, ⟨3, _⟩ => ⟨S512, .f32⟩
  | .hbm, ⟨4, _⟩ => ⟨S1x512, .f32⟩
  | .hbm, ⟨5, _⟩ => ⟨S1x512, .f32⟩
  | .hbm, ⟨6, _⟩ => ⟨S8192x512, .f32⟩
  | .hbm, ⟨7, _⟩ => ⟨S1x512, .f32⟩
  | .hbm, ⟨8, _⟩ => ⟨S1x512, .f32⟩
  | .hbm, ⟨9, _⟩ => ⟨S1x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S1x512, .f32⟩
  | .local _ .vmem, ⟨5, _⟩ => ⟨S1x512, .f32⟩
  | .local _ .vmem, ⟨6, _⟩ => ⟨S256x512, .f32⟩
  | .local _ .vmem, ⟨7, _⟩ => ⟨S256x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ConvPostRefIdeal.lean ====
abbrev S8192x512 : Shape := ⟨2, ![8192, 512]⟩
abbrev S8192x1024 : Shape := ⟨2, ![8192, 1024]⟩
abbrev S512 : Shape := ⟨1, ![512]⟩
abbrev S_ : Shape := ⟨0, ![]⟩
abbrev S8192 : Shape := ⟨1, ![8192]⟩
abbrev S8192x1 : Shape := ⟨2, ![8192, 1]⟩
abbrev S1x512 : Shape := ⟨2, ![1, 512]⟩

abbrev nBuf : Space → Nat
  | .hbm => 107
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S512, .f32⟩
  | .hbm, ⟨3, _⟩ => ⟨S512, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S_, .f32⟩
  | .hbm, ⟨14, _⟩ => ⟨S8192x512, .f32⟩
  | .hbm, ⟨15, _⟩ => ⟨S8192x512, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x512, .f32⟩
  | .hbm, ⟨23, _⟩ => ⟨S8192x512, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x512, .f32⟩
  | .hbm, ⟨33, _⟩ => ⟨S8192x512, .f32⟩
  | .hbm, ⟨34, _⟩ => ⟨S1x512, .f32⟩
  | .hbm, ⟨35, _⟩ => ⟨S8192x512, .f32⟩
  | .hbm, ⟨36, _⟩ => ⟨S8192x512, .f32⟩
  | .hbm, ⟨37, _⟩ => ⟨S1x512, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S_, .f32⟩
  | .hbm, ⟨43, _⟩ => ⟨S8192x512, .f32⟩
  | .hbm, ⟨44, _⟩ => ⟨S8192x512, .f32⟩
  | .hbm, ⟨45, _⟩ => ⟨S_, .f32⟩
  | .hbm, ⟨46, _⟩ => ⟨S8192x512, .f32⟩
  | .hbm, ⟨47, _⟩ => ⟨S8192x512, .f32⟩
  | .hbm, ⟨48, _⟩ => ⟨S_, .f32⟩
  | .hbm, ⟨49, _⟩ => ⟨S8192x512, .f32⟩
  | .hbm, ⟨50, _⟩ => ⟨S8192x512, .f32⟩
  | .hbm, ⟨51, _⟩ => ⟨S8192x512, .f32⟩
  | .hbm, ⟨52, _⟩ => ⟨S8192x512, .f32⟩
  | .hbm, ⟨53, _⟩ => ⟨S8192x512, .f32⟩
  | .hbm, ⟨54, _⟩ => ⟨S8192x512, .f32⟩
  | .hbm, ⟨55, _⟩ => ⟨S8192x512, .f32⟩
  | .hbm, ⟨56, _⟩ => ⟨S8192x512, .f32⟩
  | .hbm, ⟨57, _⟩ => ⟨S8192x512, .f32⟩
  | .hbm, ⟨58, _⟩ => ⟨S_, .f32⟩
  | .hbm, ⟨59, _⟩ => ⟨S512, .f32⟩
  | .hbm, ⟨60, _⟩ => ⟨S1x512, .f32⟩
  | .hbm, ⟨61, _⟩ => ⟨S_, .f32⟩
  | .hbm, ⟨62, _⟩ => ⟨S512, .f32⟩
  | .hbm, ⟨63, _⟩ => ⟨S8192x512, .f32⟩
  | .hbm, ⟨64, _⟩ => ⟨S_, .f32⟩
  | .hbm, ⟨65, _⟩ => ⟨S512, .f32⟩
  | .hbm, ⟨66, _⟩ => ⟨S1x512, .f32⟩
  | .hbm, ⟨67, _⟩ => ⟨S8192x512, .f32⟩
  | .hbm, ⟨68, _⟩ => ⟨S8192x512, .f32⟩
  | .hbm, ⟨69, _⟩ => ⟨S_, .f32⟩
  | .hbm, ⟨70, _⟩ => ⟨S512, .f32⟩
  | .hbm, ⟨71, _⟩ => ⟨S8192x512, .f32⟩
  | .hbm, ⟨72, _⟩ => ⟨S_, .f32⟩
  | .hbm, ⟨73, _⟩ => ⟨S8192, .f32⟩
  | .hbm, ⟨74, _⟩ => ⟨S8192x1, .f32⟩
  | .hbm, ⟨75, _⟩ => ⟨S8192x512, .f32⟩
  | .hbm, ⟨76, _⟩ => ⟨S8192x512, .f32⟩
  | .hbm, ⟨77, _⟩ => ⟨S8192x1, .f32⟩
  | .hbm, ⟨78, _⟩ => ⟨S8192x512, .f32⟩
  | .hbm, ⟨79, _⟩ => ⟨S_, .f32⟩
  | .hbm, ⟨80, _⟩ => ⟨S8192, .f32⟩
  | .hbm, ⟨81, _⟩ => ⟨S8192x1, .f32⟩
  | .hbm, ⟨82, _⟩ => ⟨S_, .f32⟩
  | .hbm, ⟨83, _⟩ => ⟨S8192x1, .f32⟩
  | .hbm, ⟨84, _⟩ => ⟨S8192x1, .f32⟩
  | .hbm, ⟨85, _⟩ => ⟨S_, .f32⟩
  | .hbm, ⟨86, _⟩ => ⟨S8192, .f32⟩
  | .hbm, ⟨87, _⟩ => ⟨S8192x512, .f32⟩
  | .hbm, ⟨88, _⟩ => ⟨S8192x512, .f32⟩
  | .hbm, ⟨89, _⟩ => ⟨S8192x512, .f32⟩
  | .hbm, ⟨90, _⟩ => ⟨S_, .f32⟩
  | .hbm, ⟨91, _⟩ => ⟨S8192, .f32⟩
  | .hbm, ⟨92, _⟩ => ⟨S8192x1, .f32⟩
  | .hbm, ⟨93, _⟩ => ⟨S8192x512, .f32⟩
  | .hbm, ⟨94, _⟩ => ⟨S8192x1, .f32⟩
  | .hbm, ⟨95, _⟩ => ⟨S_, .f32⟩
  | .hbm, ⟨96, _⟩ => ⟨S8192x1, .f32⟩
  | .hbm, ⟨97, _⟩ => ⟨S8192x1, .f32⟩
  | .hbm, ⟨98, _⟩ => ⟨S_, .f32⟩
  | .hbm, ⟨99, _⟩ => ⟨S8192, .f32⟩
  | .hbm, ⟨100, _⟩ => ⟨S8192x512, .f32⟩
  | .hbm, ⟨101, _⟩ => ⟨S8192x512, .f32⟩
  | .hbm, ⟨102, _⟩ => ⟨S1x512, .f32⟩
  | .hbm, ⟨103, _⟩ => ⟨S1x512, .f32⟩
  | .hbm, ⟨104, _⟩ => ⟨S_, .f32⟩
  | .hbm, ⟨105, _⟩ => ⟨S512, .f32⟩
  | .hbm, ⟨106, _⟩ => ⟨S1x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_v29_2 : Ref sig .tc := ⟨.hbm, 47, rfl⟩
abbrev main_call0_cst_1 : Ref sig .tc := ⟨.hbm, 48, rfl⟩
abbrev main_call0_v6 : Ref sig .tc := ⟨.hbm, 49, rfl⟩
abbrev main_call0_v7 : Ref sig .tc := ⟨.hbm, 50, rfl⟩
abbrev main_v29_1 : Ref sig .tc := ⟨.hbm, 51, rfl⟩
abbrev main_v29_0 : Ref sig .tc := ⟨.hbm, 52, rfl⟩
abbrev main_v30 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v31 : Ref sig .tc := ⟨.hbm, 57, rfl⟩
abbrev main_cst_6 : Ref sig .tc := ⟨.hbm, 58, rfl⟩
abbrev main_v32 : Ref sig .tc := ⟨.hbm, 59, rfl⟩
abbrev main_v33 : Ref sig .tc := ⟨.hbm, 60, rfl⟩
abbrev main_cst_7 : Ref sig .tc := ⟨.hbm, 61, rfl⟩
abbrev main_v34 : Ref sig .tc := ⟨.hbm, 62, rfl⟩
abbrev main_v35 : Ref sig .tc := ⟨.hbm, 63, rfl⟩
abbrev main_cst_8 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_9 : Ref sig .tc := ⟨.hbm, 69, rfl⟩
abbrev main_v40 : Ref sig .tc := ⟨.hbm, 70, rfl⟩
abbrev main_v41 : Ref sig .tc := ⟨.hbm, 71, rfl⟩
abbrev main_cst_10 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_11 : Ref sig .tc := ⟨.hbm, 79, rfl⟩
abbrev main_v48 : Ref sig .tc := ⟨.hbm, 80, rfl⟩
abbrev main_v49 : Ref sig .tc := ⟨.hbm, 81, rfl⟩
abbrev main_cst_12 : Ref sig .tc := ⟨.hbm, 82, rfl⟩
abbrev main_v50 : Ref sig .tc := ⟨.hbm, 83, rfl⟩
abbrev main_v51 : Ref sig .tc := ⟨.hbm, 84, rfl⟩
abbrev main_cst_13 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_14 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_15 : Ref sig .tc := ⟨.hbm, 95, rfl⟩
abbrev main_v60 : Ref sig .tc := ⟨.hbm, 96, rfl⟩
abbrev main_v61 : Ref sig .tc := ⟨.hbm, 97, rfl⟩
abbrev main_cst_16 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_17 : Ref sig .tc := ⟨.hbm, 104, rfl⟩
abbrev main_v67 : Ref sig .tc := ⟨.hbm, 105, rfl⟩
abbrev main_v68 : Ref sig .tc := ⟨.hbm, 106, rfl⟩

abbrev nD : Nat := 1
abbrev τ : Topo := Topo.v7x

variable {F : FTy → Type} [FloatOps F]
-- ==== ConvFwd.lean ====
abbrev S8192x3072 : Shape := ⟨2, ![8192, 3072]⟩
abbrev S31x512 : Shape := ⟨2, ![31, 512]⟩
abbrev S512 : Shape := ⟨1, ![512]⟩
abbrev S1x512 : Shape := ⟨2, ![1, 512]⟩
abbrev S8192x512 : Shape := ⟨2, ![8192, 512]⟩
abbrev S256x512 : Shape := ⟨2, ![256, 512]⟩
abbrev S16x512 : Shape := ⟨2, ![16, 512]⟩
abbrev S288x512 : Shape := ⟨2, ![288, 512]⟩
abbrev S32x512 : Shape := ⟨2, ![32, 512]⟩
abbrev S256 : Shape := ⟨1, ![256]⟩
abbrev S256x1 : Shape := ⟨2, ![256, 1]⟩

abbrev nBuf : Space → Nat
  | .hbm => 10
  | .vmem => 21
  | .smem => 0
  | _ => 0

abbrev bufTy : (tb : Table) → Fin (tcTables nBuf tb) → BufTy
  | .hbm, ⟨0, _⟩ => ⟨S8192x3072, .f32⟩
  | .hbm, ⟨1, _⟩ => ⟨S31x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S8192x512, .f32⟩
  | .hbm, ⟨9, _⟩ => ⟨S8192x512, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S16x512, .f32⟩
  | .local _ .vmem, ⟨5, _⟩ => ⟨S16x512, .f32⟩
  | .local _ .vmem, ⟨6, _⟩ => ⟨S16x512, .f32⟩
  | .local _ .vmem, ⟨7, _⟩ => ⟨S16x512, .f32⟩
  | .local _ .vmem, ⟨8, _⟩ => ⟨S16x512, .f32⟩
  | .local _ .vmem, ⟨9, _⟩ => ⟨S16x512, .f32⟩
  | .local _ .vmem, ⟨10, _⟩ => ⟨S16x512, .f32⟩
  | .local _ .vmem, ⟨11, _⟩ => ⟨S16x512, .f32⟩
  | .local _ .vmem, ⟨12, _⟩ => ⟨S31x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S256x512, .f32⟩
  | .local _ .vmem, ⟨17, _⟩ => ⟨S256x512, .f32⟩
  | .local _ .vmem, ⟨18, _⟩ => ⟨S256x512, .bf16⟩
  | .local _ .vmem, ⟨19, _⟩ => ⟨S256x512, .bf16⟩
  | .local _ .vmem, ⟨20, _⟩ => ⟨S288x512, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_3 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c4_i32 : BitVec 32 := 4#32
  let c0_i32 : BitVec 32 := 0#32
  ![v2.toNat, c4_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c5_i32 : BitVec 32 := 5#32
  let c0_i32 : BitVec 32 := 0#32
  ![v2.toNat, c5_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S31x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ConvFwdRefIdeal.lean ====
abbrev S8192x3072 : Shape := ⟨2, ![8192, 3072]⟩
abbrev S31x512 : Shape := ⟨2, ![31, 512]⟩
abbrev S512 : Shape := ⟨1, ![512]⟩
abbrev S8192x1024 : Shape := ⟨2, ![8192, 1024]⟩
abbrev S4x2048x1024 : Shape := ⟨3, ![4, 2048, 1024]⟩
abbrev S4x2048x512 : Shape := ⟨3, ![4, 2048, 512]⟩
abbrev S_ : Shape := ⟨0, ![]⟩
abbrev S4x15x512 : Shape := ⟨3, ![4, 15, 512]⟩
abbrev S4x2078x512 : Shape := ⟨3, ![4, 2078, 512]⟩
abbrev S1x4x2048x512 : Shape := ⟨4, ![1, 4, 2048, 512]⟩
abbrev S16x4x2048x512 : Shape := ⟨4, ![16, 4, 2048, 512]⟩
abbrev S15x4x2048x512 : Shape := ⟨4, ![15, 4, 2048, 512]⟩
abbrev S31x4x2048x512 : Shape := ⟨4, ![31, 4, 2048, 512]⟩
abbrev S31x1x1x512 : Shape := ⟨4, ![31, 1, 1, 512]⟩
abbrev S1x1x512 : Shape := ⟨3, ![1, 1, 512]⟩
abbrev S8192x512 : Shape := ⟨2, ![8192, 512]⟩
abbrev S8192 : Shape := ⟨1, ![8192]⟩
abbrev S8192x1 : Shape := ⟨2, ![8192, 1]⟩
abbrev S1x512 : Shape := ⟨2, ![1, 512]⟩

abbrev nBuf : Space → Nat
  | .hbm => 134
  | .vmem => 0
  | .smem => 0
  | _ => 0

abbrev hbmTy0_0 (i : Nat) : BufTy := match i % 128 with
  | 0 => ⟨S8192x3072, .f32⟩
  | 1 => ⟨S31x512, .f32⟩
  | 2 => ⟨S512, .f32⟩
  | 3 => ⟨S512, .f32⟩
  | 4 => ⟨S512, .f32⟩
  | 5 => ⟨S8192x1024, .f32⟩
  | 6 => ⟨S4x2048x1024, .f32⟩
  | 7 => ⟨S4x2048x512, .f32⟩
  | 8 => ⟨S4x2048x512, .f32⟩
  | 9 => ⟨S4x2048x512, .f32⟩
  | 10 => ⟨S4x2048x512, .f32⟩
  | 11 => ⟨S_, .f32⟩
  | 12 => ⟨S4x2048x512, .f32⟩
  | 13 => ⟨S4x2048x512, .f32⟩
  | 14 => ⟨S_, .f32⟩
  | 15 => ⟨S4x2048x512, .f32⟩
  | 16 => ⟨S4x2048x512, .f32⟩
  | 17 => ⟨S4x2048x512, .f32⟩
  | 18 => ⟨S_, .f32⟩
  | 19 => ⟨S4x15x512, .f32⟩
  | 20 => ⟨S4x2078x512, .f32⟩
  | 21 => ⟨S4x2048x512, .f32⟩
  | 22 => ⟨S4x2048x512, .f32⟩
  | 23 => ⟨S4x2048x512, .f32⟩
  | 24 => ⟨S4x2048x512, .f32⟩
  | 25 => ⟨S4x2048x512, .f32⟩
  | 26 => ⟨S4x2048x512, .f32⟩
  | 27 => ⟨S4x2048x512, .f32⟩
  | 28 => ⟨S4x2048x512, .f32⟩
  | 29 => ⟨S4x2048x512, .f32⟩
  | 30 => ⟨S4x2048x512, .f32⟩
  | 31 => ⟨S4x2048x512, .f32⟩
  | 32 => ⟨S4x2048x512, .f32⟩
  | 33 => ⟨S4x2048x512, .f32⟩
  | 34 => ⟨S4x2048x512, .f32⟩
  | 35 => ⟨S4x2048x512, .f32⟩
  | 36 => ⟨S4x2048x512, .f32⟩
  | 37 => ⟨S4x2048x512, .f32⟩
  | 38 => ⟨S4x2048x512, .f32⟩
  | 39 => ⟨S4x2048x512, .f32⟩
  | 40 => ⟨S4x2048x512, .f32⟩
  | 41 => ⟨S4x2048x512, .f32⟩
  | 42 => ⟨S4x2048x512, .f32⟩
  | 43 => ⟨S4x2048x512, .f32⟩
  | 44 => ⟨S4x2048x512, .f32⟩
  | 45 => ⟨S4x2048x512, .f32⟩
  | 46 => ⟨S4x2048x512, .f32⟩
  | 47 => ⟨S4x2048x512, .f32⟩
  | 48 => ⟨S4x2048x512, .f32⟩
  | 49 => ⟨S4x2048x512, .f32⟩
  | 50 => ⟨S4x2048x512, .f32⟩
  | 51 => ⟨S4x2048x512, .f32⟩
  | 52 => ⟨S1x4x2048x512, .f32⟩
  | 53 => ⟨S1x4x2048x512, .f32⟩
  | 54 => ⟨S1x4x2048x512, .f32⟩
  | 55 => ⟨S1x4x2048x512, .f32⟩
  | 56 => ⟨S1x4x2048x512, .f32⟩
  | 57 => ⟨S1x4x2048x512, .f32⟩
  | 58 => ⟨S1x4x2048x512, .f32⟩
  | 59 => ⟨S1x4x2048x512, .f32⟩
  | 60 => ⟨S1x4x2048x512, .f32⟩
  | 61 => ⟨S1x4x2048x512, .f32⟩
  | 62 => ⟨S1x4x2048x512, .f32⟩
  | 63 => ⟨S1x4x2048x512, .f32⟩
  | 64 => ⟨S1x4x2048x512, .f32⟩
  | 65 => ⟨S1x4x2048x512, .f32⟩
  | 66 => ⟨S1x4x2048x512, .f32⟩
  | 67 => ⟨S1x4x2048x512, .f32⟩
  | 68 => ⟨S1x4x2048x512, .f32⟩
  | 69 => ⟨S1x4x2048x512, .f32⟩
  | 70 => ⟨S1x4x2048x512, .f32⟩
  | 71 => ⟨S1x4x2048x512, .f32⟩
  | 72 => ⟨S1x4x2048x512, .f32⟩
  | 73 => ⟨S1x4x2048x512, .f32⟩
  | 74 => ⟨S1x4x2048x512, .f32⟩
  | 75 => ⟨S1x4x2048x512, .f32⟩
  | 76 => ⟨S1x4x2048x512, .f32⟩
  | 77 => ⟨S1x4x2048x512, .f32⟩
  | 78 => ⟨S1x4x2048x512, .f32⟩
  | 79 => ⟨S1x4x2048x512, .f32⟩
  | 80 => ⟨S1x4x2048x512, .f32⟩
  | 81 => ⟨S1x4x2048x512, .f32⟩
  | 82 => ⟨S1x4x2048x512, .f32⟩
  | 83 => ⟨S16x4x2048x512, .f32⟩
  | 84 => ⟨S15x4x2048x512, .f32⟩
  | 85 => ⟨S31x4x2048x512, .f32⟩
  | 86 => ⟨S31x1x1x512, .f32⟩
  | 87 => ⟨S31x4x2048x512, .f32⟩
  | 88 => ⟨S31x4x2048x512, .f32⟩
  | 89 => ⟨S_, .f32⟩
  | 90 => ⟨S4x2048x512, .f32⟩
  | 91 => ⟨S1x1x512, .f32⟩
  | 92 => ⟨S4x2048x512, .f32⟩
  | 93 => ⟨S4x2048x512, .f32⟩
  | 94 => ⟨S8192x512, .f32⟩
  | 95 => ⟨S_, .f32⟩
  | 96 => ⟨S8192, .f32⟩
  | 97 => ⟨S8192x1, .f32⟩
  | 98 => ⟨S_, .f32⟩
  | 99 => ⟨S8192x1, .f32⟩
  | 100 => ⟨S8192x1, .f32⟩
  | 101 => ⟨S8192x512, .f32⟩
  | 102 => ⟨S8192x512, .f32⟩
  | 103 => ⟨S8192x512, .f32⟩
  | 104 => ⟨S_, .f32⟩
  | 105 => ⟨S8192, .f32⟩
  | 106 => ⟨S8192x1, .f32⟩
  | 107 => ⟨S_, .f32⟩
  | 108 => ⟨S8192x1, .f32⟩
  | 109 => ⟨S8192x1, .f32⟩
  | 110 => ⟨S8192x512, .f32⟩
  | 111 => ⟨S8192x512, .f32⟩
  | 112 => ⟨S_, .f32⟩
  | 113 => ⟨S8192x1, .f32⟩
  | 114 => ⟨S8192x1, .f32⟩
  | 115 => ⟨S8192x1, .f32⟩
  | 116 => ⟨S8192x512, .f32⟩
  | 117 => ⟨S8192x512, .f32⟩
  | 118 => ⟨S1x512, .f32⟩
  | 119 => ⟨S8192x512, .f32⟩
  | 120 => ⟨S8192x512, .f32⟩
  | 121 => ⟨S1x512, .f32⟩
  | 122 => ⟨S8192x512, .f32⟩
  | 123 => ⟨S8192x512, .f32⟩
  | 124 => ⟨S8192x512, .f32⟩
  | 125 => ⟨S8192x512, .f32⟩
  | 126 => ⟨S_, .f32⟩
  | 127 => ⟨S8192x512, .f32⟩
  | _ => ⟨S8192x3072, .f32⟩

abbrev hbmTy0_1 (i : Nat) : BufTy := match i % 128 with
  | 0 => ⟨S8192x512, .f32⟩
  | 1 => ⟨S_, .f32⟩
  | 2 => ⟨S8192x512, .f32⟩
  | 3 => ⟨S8192x512, .f32⟩
  | 4 => ⟨S8192x512, .f32⟩
  | 5 => ⟨S8192x512, .bf16⟩
  | _ => ⟨S8192x3072, .f32⟩

abbrev hbmTy (i : Nat) : BufTy := match i / 128 with
  | 0 => hbmTy0_0 i
  | 1 => hbmTy0_1 i
  | _ => ⟨S8192x3072, .f32⟩

abbrev bufTy : (tb : Table) → Fin (tcTables nBuf tb) → BufTy
  | .hbm, ⟨i, _⟩ => hbmTy i
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_cst_2 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_cst_3 : Ref sig .tc := ⟨.hbm, 95, rfl⟩
abbrev main_v86 : Ref sig .tc := ⟨.hbm, 96, rfl⟩
abbrev main_v87 : Ref sig .tc := ⟨.hbm, 97, rfl⟩
abbrev main_cst_4 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_cst_5 : Ref sig .tc := ⟨.hbm, 104, rfl⟩
abbrev main_v93 : Ref sig .tc := ⟨.hbm, 105, rfl⟩
abbrev main_v94 : Ref sig .tc := ⟨.hbm, 106, rfl⟩
abbrev main_cst_6 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_cst_7 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_call0_v0 : Ref sig .tc := ⟨.hbm, 124, rfl⟩
abbrev main_call0_v1 : Ref sig .tc := ⟨.hbm, 125, rfl⟩
abbrev main_call0_cst : Ref sig .tc := ⟨.hbm, 126, rfl⟩
abbrev main_call0_v2 : Ref sig .tc := ⟨.hbm, 127, rfl⟩
abbrev main_call0_v3 : Ref sig .tc := ⟨.hbm, 128, rfl⟩
abbrev main_call0_cst_0 : Ref sig .tc := ⟨.hbm, 129, rfl⟩
abbrev main_call0_v4 : Ref sig .tc := ⟨.hbm, 130, rfl⟩
abbrev main_call0_v5 : Ref sig .tc := ⟨.hbm, 131, rfl⟩
abbrev main_v110 : Ref sig .tc := ⟨.hbm, 132, rfl⟩
abbrev main_v111 : Ref sig .tc := ⟨.hbm, 133, rfl⟩

abbrev nD : Nat := 1
abbrev τ : Topo := Topo.v7x

variable {F : FTy → Type} [FloatOps F]
-- ==== AdamIn.lean ====
abbrev S1024x1408 : Shape := ⟨2, ![1024, 1408]⟩
abbrev S256x1408 : Shape := ⟨2, ![256, 1408]⟩

abbrev nBuf : Space → Nat
  | .hbm => 9
  | .vmem => 18
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .hbm, ⟨7, _⟩ => ⟨S1024x1408, .f32⟩
  | .hbm, ⟨8, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | .local _ .vmem, ⟨16, _⟩ => ⟨S256x1408, .f32⟩
  | .local _ .vmem, ⟨17, _⟩ => ⟨S256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamInIdeal.lean ====
abbrev S1024x1408 : Shape := ⟨2, ![1024, 1408]⟩
abbrev S256x1408 : Shape := ⟨2, ![256, 1408]⟩

abbrev nBuf : Space → Nat
  | .hbm => 9
  | .vmem => 18
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .hbm, ⟨7, _⟩ => ⟨S1024x1408, .f32⟩
  | .hbm, ⟨8, _⟩ => ⟨S1024x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | .local _ .vmem, ⟨16, _⟩ => ⟨S256x1408, .f32⟩
  | .local _ .vmem, ⟨17, _⟩ => ⟨S256x1408, .f32⟩
  | _, _ => ⟨S1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamInRefIdeal.lean ====
abbrev S1024x1408 : Shape := ⟨2, ![1024, 1408]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S1024x1408, .f32⟩
  | .hbm, ⟨2, _⟩ => ⟨S1024x1408, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S_, .f32⟩
  | .hbm, ⟨7, _⟩ => ⟨S1024x1408, .f32⟩
  | .hbm, ⟨8, _⟩ => ⟨S1024x1408, .f32⟩
  | .hbm, ⟨9, _⟩ => ⟨S_, .f32⟩
  | .hbm, ⟨10, _⟩ => ⟨S1024x1408, .f32⟩
  | .hbm, ⟨11, _⟩ => ⟨S1024x1408, .f32⟩
  | .hbm, ⟨12, _⟩ => ⟨S1024x1408, .f32⟩
  | .hbm, ⟨13, _⟩ => ⟨S_, .f32⟩
  | .hbm, ⟨14, _⟩ => ⟨S1024x1408, .f32⟩
  | .hbm, ⟨15, _⟩ => ⟨S1024x1408, .f32⟩
  | .hbm, ⟨16, _⟩ => ⟨S1024x1408, .f32⟩
  | .hbm, ⟨17, _⟩ => ⟨S_, .f32⟩
  | .hbm, ⟨18, _⟩ => ⟨S1024x1408, .f32⟩
  | .hbm, ⟨19, _⟩ => ⟨S1024x1408, .f32⟩
  | .hbm, ⟨20, _⟩ => ⟨S1024x1408, .f32⟩
  | .hbm, ⟨21, _⟩ => ⟨S_, .f32⟩
  | .hbm, ⟨22, _⟩ => ⟨S1024x1408, .f32⟩
  | .hbm, ⟨23, _⟩ => ⟨S1024x1408, .f32⟩
  | .hbm, ⟨24, _⟩ => ⟨S_, .f32⟩
  | .hbm, ⟨25, _⟩ => ⟨S1024x1408, .f32⟩
  | .hbm, ⟨26, _⟩ => ⟨S1024x1408, .f32⟩
  | .hbm, ⟨27, _⟩ => ⟨S1024x1408, .f32⟩
  | .hbm, ⟨28, _⟩ => ⟨S_, .f32⟩
  | .hbm, ⟨29, _⟩ => ⟨S1024x1408, .f32⟩
  | .hbm, ⟨30, _⟩ => ⟨S1024x1408, .f32⟩
  | .hbm, ⟨31, _⟩ => ⟨S1024x1408, .f32⟩
  | .hbm, ⟨32, _⟩ => ⟨S_, .f32⟩
  | .hbm, ⟨33, _⟩ => ⟨S1024x1408, .f32⟩
  | .hbm, ⟨34, _⟩ => ⟨S1024x1408, .f32⟩
  | .hbm, ⟨35, _⟩ => ⟨S1024x1408, .f32⟩
  | .hbm, ⟨36, _⟩ => ⟨S_, .f32⟩
  | .hbm, ⟨37, _⟩ => ⟨S1024x1408, .f32⟩
  | .hbm, ⟨38, _⟩ => ⟨S1024x1408, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamProj.lean ====
abbrev S1024x744 : Shape := ⟨2, ![1024, 744]⟩
abbrev S256x744 : Shape := ⟨2, ![256, 744]⟩

abbrev nBuf : Space → Nat
  | .hbm => 9
  | .vmem => 18
  | .smem => 0
  | _ => 0

abbrev bufTy : (tb : Table) → Fin (tcTables nBuf tb) → BufTy
  | .hbm, ⟨0, _⟩ => ⟨S1024x744, .f32⟩
  | .hbm, ⟨1, _⟩ => ⟨S1024x744, .f32⟩
  | .hbm, ⟨2, _⟩ => ⟨S1024x744, .f32⟩
  | .hbm, ⟨3, _⟩ => ⟨S1024x744, .f32⟩
  | .hbm, ⟨4, _⟩ => ⟨S1024x744, .f32⟩
  | .hbm, ⟨5, _⟩ => ⟨S1024x744, .f32⟩
  | .hbm, ⟨6, _⟩ => ⟨S1024x744, .f32⟩
  | .hbm, ⟨7, _⟩ => ⟨S1024x744, .f32⟩
  | .hbm, ⟨8, _⟩ => ⟨S1024x744, .f32⟩
  | .local _ .vmem, ⟨0, _⟩ => ⟨S256x744, .f32⟩
  | .local _ .vmem, ⟨1, _⟩ => ⟨S256x744, .f32⟩
  | .local _ .vmem, ⟨2, _⟩ => ⟨S256x744, .f32⟩
  | .local _ .vmem, ⟨3, _⟩ => ⟨S256x744, .f32⟩
  | .local _ .vmem, ⟨4, _⟩ => ⟨S256x744, .f32⟩
  | .local _ .vmem, ⟨5, _⟩ => ⟨S256x744, .f32⟩
  | .local _ .vmem, ⟨6, _⟩ => ⟨S256x744, .f32⟩
  | .local _ .vmem, ⟨7, _⟩ => ⟨S256x744, .f32⟩
  | .local _ .vmem, ⟨8, _⟩ => ⟨S256x744, .f32⟩
  | .local _ .vmem, ⟨9, _⟩ => ⟨S256x744, .f32⟩
  | .local _ .vmem, ⟨10, _⟩ => ⟨S256x744, .f32⟩
  | .local _ .vmem, ⟨11, _⟩ => ⟨S256x744, .f32⟩
  | .local _ .vmem, ⟨12, _⟩ => ⟨S256x744, .f32⟩
  | .local _ .vmem, ⟨13, _⟩ => ⟨S256x744, .f32⟩
  | .local _ .vmem, ⟨14, _⟩ => ⟨S256x744, .f32⟩
  | .local _ .vmem, ⟨15, _⟩ => ⟨S256x744, .f32⟩
  | .local _ .vmem, ⟨16, _⟩ => ⟨S256x744, .f32⟩
  | .local _ .vmem, ⟨17, _⟩ => ⟨S256x744, .f32⟩
  | _, _ => ⟨S1024x744, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x744 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x744 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x744 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x744 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x744 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x744 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x744 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x744 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x744 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamProjIdeal.lean ====
abbrev S1024x744 : Shape := ⟨2, ![1024, 744]⟩
abbrev S256x744 : Shape := ⟨2, ![256, 744]⟩

abbrev nBuf : Space → Nat
  | .hbm => 9
  | .vmem => 18
  | .smem => 0
  | _ => 0

abbrev bufTy : (tb : Table) → Fin (tcTables nBuf tb) → BufTy
  | .hbm, ⟨0, _⟩ => ⟨S1024x744, .f32⟩
  | .hbm, ⟨1, _⟩ => ⟨S1024x744, .f32⟩
  | .hbm, ⟨2, _⟩ => ⟨S1024x744, .f32⟩
  | .hbm, ⟨3, _⟩ => ⟨S1024x744, .f32⟩
  | .hbm, ⟨4, _⟩ => ⟨S1024x744, .f32⟩
  | .hbm, ⟨5, _⟩ => ⟨S1024x744, .f32⟩
  | .hbm, ⟨6, _⟩ => ⟨S1024x744, .f32⟩
  | .hbm, ⟨7, _⟩ => ⟨S1024x744, .f32⟩
  | .hbm, ⟨8, _⟩ => ⟨S1024x744, .f32⟩
  | .local _ .vmem, ⟨0, _⟩ => ⟨S256x744, .f32⟩
  | .local _ .vmem, ⟨1, _⟩ => ⟨S256x744, .f32⟩
  | .local _ .vmem, ⟨2, _⟩ => ⟨S256x744, .f32⟩
  | .local _ .vmem, ⟨3, _⟩ => ⟨S256x744, .f32⟩
  | .local _ .vmem, ⟨4, _⟩ => ⟨S256x744, .f32⟩
  | .local _ .vmem, ⟨5, _⟩ => ⟨S256x744, .f32⟩
  | .local _ .vmem, ⟨6, _⟩ => ⟨S256x744, .f32⟩
  | .local _ .vmem, ⟨7, _⟩ => ⟨S256x744, .f32⟩
  | .local _ .vmem, ⟨8, _⟩ => ⟨S256x744, .f32⟩
  | .local _ .vmem, ⟨9, _⟩ => ⟨S256x744, .f32⟩
  | .local _ .vmem, ⟨10, _⟩ => ⟨S256x744, .f32⟩
  | .local _ .vmem, ⟨11, _⟩ => ⟨S256x744, .f32⟩
  | .local _ .vmem, ⟨12, _⟩ => ⟨S256x744, .f32⟩
  | .local _ .vmem, ⟨13, _⟩ => ⟨S256x744, .f32⟩
  | .local _ .vmem, ⟨14, _⟩ => ⟨S256x744, .f32⟩
  | .local _ .vmem, ⟨15, _⟩ => ⟨S256x744, .f32⟩
  | .local _ .vmem, ⟨16, _⟩ => ⟨S256x744, .f32⟩
  | .local _ .vmem, ⟨17, _⟩ => ⟨S256x744, .f32⟩
  | _, _ => ⟨S1024x744, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x744 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x744 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x744 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x744 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x744 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x744 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x744 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x744 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x744 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamProjRefIdeal.lean ====
abbrev S1024x744 : Shape := ⟨2, ![1024, 744]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1024x744, .f32⟩
  | .hbm, ⟨1, _⟩ => ⟨S1024x744, .f32⟩
  | .hbm, ⟨2, _⟩ => ⟨S1024x744, .f32⟩
  | .hbm, ⟨3, _⟩ => ⟨S1024x744, .f32⟩
  | .hbm, ⟨4, _⟩ => ⟨S1024x744, .f32⟩
  | .hbm, ⟨5, _⟩ => ⟨S1024x744, .f32⟩
  | .hbm, ⟨6, _⟩ => ⟨S_, .f32⟩
  | .hbm, ⟨7, _⟩ => ⟨S1024x744, .f32⟩
  | .hbm, ⟨8, _⟩ => ⟨S1024x744, .f32⟩
  | .hbm, ⟨9, _⟩ => ⟨S_, .f32⟩
  | .hbm, ⟨10, _⟩ => ⟨S1024x744, .f32⟩
  | .hbm, ⟨11, _⟩ => ⟨S1024x744, .f32⟩
  | .hbm, ⟨12, _⟩ => ⟨S1024x744, .f32⟩
  | .hbm, ⟨13, _⟩ => ⟨S_, .f32⟩
  | .hbm, ⟨14, _⟩ => ⟨S1024x744, .f32⟩
  | .hbm, ⟨15, _⟩ => ⟨S1024x744, .f32⟩
  | .hbm, ⟨16, _⟩ => ⟨S1024x744, .f32⟩
  | .hbm, ⟨17, _⟩ => ⟨S_, .f32⟩
  | .hbm, ⟨18, _⟩ => ⟨S1024x744, .f32⟩
  | .hbm, ⟨19, _⟩ => ⟨S1024x744, .f32⟩
  | .hbm, ⟨20, _⟩ => ⟨S1024x744, .f32⟩
  | .hbm, ⟨21, _⟩ => ⟨S_, .f32⟩
  | .hbm, ⟨22, _⟩ => ⟨S1024x744, .f32⟩
  | .hbm, ⟨23, _⟩ => ⟨S1024x744, .f32⟩
  | .hbm, ⟨24, _⟩ => ⟨S_, .f32⟩
  | .hbm, ⟨25, _⟩ => ⟨S1024x744, .f32⟩
  | .hbm, ⟨26, _⟩ => ⟨S1024x744, .f32⟩
  | .hbm, ⟨27, _⟩ => ⟨S1024x744, .f32⟩
  | .hbm, ⟨28, _⟩ => ⟨S_, .f32⟩
  | .hbm, ⟨29, _⟩ => ⟨S1024x744, .f32⟩
  | .hbm, ⟨30, _⟩ => ⟨S1024x744, .f32⟩
  | .hbm, ⟨31, _⟩ => ⟨S1024x744, .f32⟩
  | .hbm, ⟨32, _⟩ => ⟨S_, .f32⟩
  | .hbm, ⟨33, _⟩ => ⟨S1024x744, .f32⟩
  | .hbm, ⟨34, _⟩ => ⟨S1024x744, .f32⟩
  | .hbm, ⟨35, _⟩ => ⟨S1024x744, .f32⟩
  | .hbm, ⟨36, _⟩ => ⟨S_, .f32⟩
  | .hbm, ⟨37, _⟩ => ⟨S1024x744, .f32⟩
  | .hbm, ⟨38, _⟩ => ⟨S1024x744, .f32⟩
  | _, _ => ⟨S1024x744, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamFfn.lean ====
abbrev S704x1024 : Shape := ⟨2, ![704, 1024]⟩
abbrev S176x1024 : Shape := ⟨2, ![176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamFfnIdeal.lean ====
abbrev S704x1024 : Shape := ⟨2, ![704, 1024]⟩
abbrev S176x1024 : Shape := ⟨2, ![176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .hbm, ⟨8, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamFfnRefIdeal.lean ====
abbrev S704x1024 : Shape := ⟨2, ![704, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S_, .f32⟩
  | .hbm, ⟨7, _⟩ => ⟨S704x1024, .f32⟩
  | .hbm, ⟨8, _⟩ => ⟨S704x1024, .f32⟩
  | .hbm, ⟨9, _⟩ => ⟨S_, .f32⟩
  | .hbm, ⟨10, _⟩ => ⟨S704x1024, .f32⟩
  | .hbm, ⟨11, _⟩ => ⟨S704x1024, .f32⟩
  | .hbm, ⟨12, _⟩ => ⟨S704x1024, .f32⟩
  | .hbm, ⟨13, _⟩ => ⟨S_, .f32⟩
  | .hbm, ⟨14, _⟩ => ⟨S704x1024, .f32⟩
  | .hbm, ⟨15, _⟩ => ⟨S704x1024, .f32⟩
  | .hbm, ⟨16, _⟩ => ⟨S704x1024, .f32⟩
  | .hbm, ⟨17, _⟩ => ⟨S_, .f32⟩
  | .hbm, ⟨18, _⟩ => ⟨S704x1024, .f32⟩
  | .hbm, ⟨19, _⟩ => ⟨S704x1024, .f32⟩
  | .hbm, ⟨20, _⟩ => ⟨S704x1024, .f32⟩
  | .hbm, ⟨21, _⟩ => ⟨S_, .f32⟩
  | .hbm, ⟨22, _⟩ => ⟨S704x1024, .f32⟩
  | .hbm, ⟨23, _⟩ => ⟨S704x1024, .f32⟩
  | .hbm, ⟨24, _⟩ => ⟨S_, .f32⟩
  | .hbm, ⟨25, _⟩ => ⟨S704x1024, .f32⟩
  | .hbm, ⟨26, _⟩ => ⟨S704x1024, .f32⟩
  | .hbm, ⟨27, _⟩ => ⟨S704x1024, .f32⟩
  | .hbm, ⟨28, _⟩ => ⟨S_, .f32⟩
  | .hbm, ⟨29, _⟩ => ⟨S704x1024, .f32⟩
  | .hbm, ⟨30, _⟩ => ⟨S704x1024, .f32⟩
  | .hbm, ⟨31, _⟩ => ⟨S704x1024, .f32⟩
  | .hbm, ⟨32, _⟩ => ⟨S_, .f32⟩
  | .hbm, ⟨33, _⟩ => ⟨S704x1024, .f32⟩
  | .hbm, ⟨34, _⟩ => ⟨S704x1024, .f32⟩
  | .hbm, ⟨35, _⟩ => ⟨S704x1024, .f32⟩
  | .hbm, ⟨36, _⟩ => ⟨S_, .f32⟩
  | .hbm, ⟨37, _⟩ => ⟨S704x1024, .f32⟩
  | .hbm, ⟨38, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamOut.lean ====
abbrev S256x1024 : Shape := ⟨2, ![256, 1024]⟩

abbrev nBuf : Space → Nat
  | .hbm => 9
  | .vmem => 9
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamOutRefIdeal.lean ====
abbrev S256x1024 : Shape := ⟨2, ![256, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S_, .f32⟩
  | .hbm, ⟨7, _⟩ => ⟨S256x1024, .f32⟩
  | .hbm, ⟨8, _⟩ => ⟨S256x1024, .f32⟩
  | .hbm, ⟨9, _⟩ => ⟨S_, .f32⟩
  | .hbm, ⟨10, _⟩ => ⟨S256x1024, .f32⟩
  | .hbm, ⟨11, _⟩ => ⟨S256x1024, .f32⟩
  | .hbm, ⟨12, _⟩ => ⟨S256x1024, .f32⟩
  | .hbm, ⟨13, _⟩ => ⟨S_, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S_, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S_, .f32⟩
  | .hbm, ⟨22, _⟩ => ⟨S256x1024, .f32⟩
  | .hbm, ⟨23, _⟩ => ⟨S256x1024, .f32⟩
  | .hbm, ⟨24, _⟩ => ⟨S_, .f32⟩
  | .hbm, ⟨25, _⟩ => ⟨S256x1024, .f32⟩
  | .hbm, ⟨26, _⟩ => ⟨S256x1024, .f32⟩
  | .hbm, ⟨27, _⟩ => ⟨S256x1024, .f32⟩
  | .hbm, ⟨28, _⟩ => ⟨S_, .f32⟩
  | .hbm, ⟨29, _⟩ => ⟨S256x1024, .f32⟩
  | .hbm, ⟨30, _⟩ => ⟨S256x1024, .f32⟩
  | .hbm, ⟨31, _⟩ => ⟨S256x1024, .f32⟩
  | .hbm, ⟨32, _⟩ => ⟨S_, .f32⟩
  | .hbm, ⟨33, _⟩ => ⟨S256x1024, .f32⟩
  | .hbm, ⟨34, _⟩ => ⟨S256x1024, .f32⟩
  | .hbm, ⟨35, _⟩ => ⟨S256x1024, .f32⟩
  | .hbm, ⟨36, _⟩ => ⟨S_, .f32⟩
  | .hbm, ⟨37, _⟩ => ⟨S256x1024, .f32⟩
  | .hbm, ⟨38, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamSmall.lean ====
abbrev S608x128 : Shape := ⟨2, ![608, 128]⟩

abbrev nBuf : Space → Nat
  | .hbm => 7
  | .vmem => 7
  | .smem => 0
  | _ => 0

abbrev bufTy : (tb : Table) → Fin (tcTables nBuf tb) → BufTy
  | .hbm, ⟨0, _⟩ => ⟨S608x128, .f32⟩
  | .hbm, ⟨1, _⟩ => ⟨S608x128, .f32⟩
  | .hbm, ⟨2, _⟩ => ⟨S608x128, .f32⟩
  | .hbm, ⟨3, _⟩ => ⟨S608x128, .f32⟩
  | .hbm, ⟨4, _⟩ => ⟨S608x128, .f32⟩
  | .hbm, ⟨5, _⟩ => ⟨S608x128, .f32⟩
  | .hbm, ⟨6, _⟩ => ⟨S608x128, .f32⟩
  | .local _ .vmem, ⟨0, _⟩ => ⟨S608x128, .f32⟩
  | .local _ .vmem, ⟨1, _⟩ => ⟨S608x128, .f32⟩
  | .local _ .vmem, ⟨2, _⟩ => ⟨S608x128, .f32⟩
  | .local _ .vmem, ⟨3, _⟩ => ⟨S608x128, .f32⟩
  | .local _ .vmem, ⟨4, _⟩ => ⟨S608x128, .f32⟩
  | .local _ .vmem, ⟨5, _⟩ => ⟨S608x128, .f32⟩
  | .local _ .vmem, ⟨6, _⟩ => ⟨S608x128, .f32⟩
  | _, _ => ⟨S608x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S608x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S608x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S608x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S608x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S608x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S608x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S608x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamSmallRefIdeal.lean ====
abbrev S608x128 : Shape := ⟨2, ![608, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S608x128, .f32⟩
  | .hbm, ⟨1, _⟩ => ⟨S608x128, .f32⟩
  | .hbm, ⟨2, _⟩ => ⟨S608x128, .f32⟩
  | .hbm, ⟨3, _⟩ => ⟨S608x128, .f32⟩
  | .hbm, ⟨4, _⟩ => ⟨S_, .f32⟩
  | .hbm, ⟨5, _⟩ => ⟨S608x128, .f32⟩
  | .hbm, ⟨6, _⟩ => ⟨S608x128, .f32⟩
  | .hbm, ⟨7, _⟩ => ⟨S_, .f32⟩
  | .hbm, ⟨8, _⟩ => ⟨S608x128, .f32⟩
  | .hbm, ⟨9, _⟩ => ⟨S608x128, .f32⟩
  | .hbm, ⟨10, _⟩ => ⟨S608x128, .f32⟩
  | .hbm, ⟨11, _⟩ => ⟨S_, .f32⟩
  | .hbm, ⟨12, _⟩ => ⟨S608x128, .f32⟩
  | .hbm, ⟨13, _⟩ => ⟨S608x128, .f32⟩
  | .hbm, ⟨14, _⟩ => ⟨S608x128, .f32⟩
  | .hbm, ⟨15, _⟩ => ⟨S_, .f32⟩
  | .hbm, ⟨16, _⟩ => ⟨S608x128, .f32⟩
  | .hbm, ⟨17, _⟩ => ⟨S608x128, .f32⟩
  | .hbm, ⟨18, _⟩ => ⟨S608x128, .f32⟩
  | .hbm, ⟨19, _⟩ => ⟨S_, .f32⟩
  | .hbm, ⟨20, _⟩ => ⟨S608x128, .f32⟩
  | .hbm, ⟨21, _⟩ => ⟨S608x128, .f32⟩
  | .hbm, ⟨22, _⟩ => ⟨S_, .f32⟩
  | .hbm, ⟨23, _⟩ => ⟨S608x128, .f32⟩
  | .hbm, ⟨24, _⟩ => ⟨S608x128, .f32⟩
  | .hbm, ⟨25, _⟩ => ⟨S608x128, .f32⟩
  | .hbm, ⟨26, _⟩ => ⟨S_, .f32⟩
  | .hbm, ⟨27, _⟩ => ⟨S608x128, .f32⟩
  | .hbm, ⟨28, _⟩ => ⟨S608x128, .f32⟩
  | .hbm, ⟨29, _⟩ => ⟨S608x128, .f32⟩
  | .hbm, ⟨30, _⟩ => ⟨S_, .f32⟩
  | .hbm, ⟨31, _⟩ => ⟨S608x128, .f32⟩
  | .hbm, ⟨32, _⟩ => ⟨S608x128, .f32⟩
  | .hbm, ⟨33, _⟩ => ⟨S608x128, .f32⟩
  | .hbm, ⟨34, _⟩ => ⟨S_, .f32⟩
  | .hbm, ⟨35, _⟩ => ⟨S608x128, .f32⟩
  | .hbm, ⟨36, _⟩ => ⟨S608x128, .f32⟩
  | _, _ => ⟨S608x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.ConvTile.lean ====
module
public import proofs.«01_k».proof.Proof.Gen.ConvBwdIdeal.Value
public import Idealize.ShloMosaic.Lib.Pipeline.ValueKit
public import Idealize.ShloMosaic.Lib.Pointwise
@[expose] public section
set_option maxRecDepth 16384
noncomputable section
namespace Cert.ConvBwdIdeal.Hand
open Cert.ConvBwdIdeal Cert.ConvBwdIdeal.Gen Idealize.ShloMosaic Idealize.ShloMosaic.TcCoe Idealize.SL.Sem
open Idealize.ShloMosaic.Pipeline (Dat)
variable (m : (ℓ : Loc nD τ sig) → Buf (Elt Ideal) ℓ)

theorem readCov_ld {Val : EltTy → Type} [∀ e, Nonempty (Val e)] {sg : RefSig} {κ : Kind} {sp : Space} {s : Shape} {e : EltTy}
    (v : View sg κ sp s e) (L : List (View.Piece Val s e)) (r : Rect s) :
    v.readCov L r.toLoadRect = View.ld (View.canon L) r := View.readCov_eq_canon' v L r.toLoadRect

/-- The transposed depthwise convolution of the window `E`, at row `r` and channel `l`. -/
def DU (E : FVec Ideal S288x512 .f32) (W : FVec Ideal S31x512 .f32) (r : Fin 256) (l : Fin 512) : EReal :=
  ∑ k : Fin 31, E (ix2 ⟨31 - (k : ℕ) + r, by omega⟩ l) * W (ix2 k l)

theorem DU_terms (E : FVec Ideal S288x512 .f32) (W : FVec Ideal S31x512 .f32) (r : Fin 256) (l : Fin 512) :
    DU E W r l = E (ix2 ⟨31 + (r : ℕ), by omega⟩ l) * W (ix2 0 l) + E (ix2 ⟨30 + (r : ℕ), by omega⟩ l) * W (ix2 1 l) + E (ix2 ⟨29 + (r : ℕ), by omega⟩ l) * W (ix2 2 l) + E (ix2 ⟨28 + (r : ℕ), by omega⟩ l) * W (ix2 3 l) + E (ix2 ⟨27 + (r : ℕ), by omega⟩ l) * W (ix2 4 l) + E (ix2 ⟨26 + (r : ℕ), by omega⟩ l) * W (ix2 5 l) + E (ix2 ⟨25 + (r : ℕ), by omega⟩ l) * W (ix2 6 l) + E (ix2 ⟨24 + (r : ℕ), by omega⟩ l) * W (ix2 7 l) + E (ix2 ⟨23 + (r : ℕ), by omega⟩ l) * W (ix2 8 l) + E (ix2 ⟨22 + (r : ℕ), by omega⟩ l) * W (ix2 9 l) + E (ix2 ⟨21 + (r : ℕ), by omega⟩ l) * W (ix2 10 l) + E (ix2 ⟨20 + (r : ℕ), by omega⟩ l) * W (ix2 11 l) + E (ix2 ⟨19 + (r : ℕ), by omega⟩ l) * W (ix2 12 l) + E (ix2 ⟨18 + (r : ℕ), by omega⟩ l) * W (ix2 13 l) + E (ix2 ⟨17 + (r : ℕ), by omega⟩ l) * W (ix2 14 l) + E (ix2 ⟨16 + (r : ℕ), by omega⟩ l) * W (ix2 15 l) + E (ix2 ⟨15 + (r : ℕ), by omega⟩ l) * W (ix2 16 l) + E (ix2 ⟨14 + (r : ℕ), by omega⟩ l) * W (ix2 17 l) + E (ix2 ⟨13 + (r : ℕ), by omega⟩ l) * W (ix2 18 l) + E (ix2 ⟨12 + (r : ℕ), by omega⟩ l) * W (ix2 19 l) + E (ix2 ⟨11 + (r : ℕ), by omega⟩ l) * W (ix2 20 l) + E (ix2 ⟨10 + (r : ℕ), by omega⟩ l) * W (ix2 21 l) + E (ix2 ⟨9 + (r : ℕ), by omega⟩ l) * W (ix2 22 l) + E (ix2 ⟨8 + (r : ℕ), by omega⟩ l) * W (ix2 23 l) + E (ix2 ⟨7 + (r : ℕ), by omega⟩ l) * W (ix2 24 l) + E (ix2 ⟨6 + (r : ℕ), by omega⟩ l) * W (ix2 25 l) + E (ix2 ⟨5 + (r : ℕ), by omega⟩ l) * W (ix2 26 l) + E (ix2 ⟨4 + (r : ℕ), by omega⟩ l) * W (ix2 27 l) + E (ix2 ⟨3 + (r : ℕ), by omega⟩ l) * W (ix2 28 l) + E (ix2 ⟨2 + (r : ℕ), by omega⟩ l) * W (ix2 29 l) + E (ix2 ⟨1 + (r : ℕ), by omega⟩ l) * W (ix2 30 l) := by
  rw [DU]
  simp only [Fin.sum_univ_castSucc, Fin.sum_univ_zero, zero_add]
  rfl

/-- What a tile's first result holds: the gradient of the gated unit's two halves. -/
def G (E : FVec Ideal S288x512 .f32) (W : FVec Ideal S31x512 .f32) (U V : FVec Ideal S256x512 .f32) (y : S256x1024.Idx) : EReal :=
  if h : (y 1 : ℕ) < 512 then DU E W (y 0) ⟨y 1, h⟩ * Ideal.logistic (V (ix2 (y 0) ⟨y 1, h⟩))
  else DU E W (y 0) ⟨y 1 - 512, by have : (y 1 : ℕ) < 1024 := (y 1).isLt; omega⟩ * U (ix2 (y 0) ⟨y 1 - 512, by have : (y 1 : ℕ) < 1024 := (y 1).isLt; omega⟩)
    * Ideal.logistic (V (ix2 (y 0) ⟨y 1 - 512, by have : (y 1 : ℕ) < 1024 := (y 1).isLt; omega⟩))
    * (1 - Ideal.logistic (V (ix2 (y 0) ⟨y 1 - 512, by have : (y 1 : ℕ) < 1024 := (y 1).isLt; omega⟩)))

theorem G_right (E : FVec Ideal S288x512 .f32) (W : FVec Ideal S31x512 .f32) (U V : FVec Ideal S256x512 .f32) (y : S256x1024.Idx)
    (r : Fin 256) (l : Fin 512) (h0 : (y 0 : ℕ) = r) (h1 : (y 1 : ℕ) = 512 + l) :
    G E W U V y = DU E W r l * U (ix2 r l) * Ideal.logistic (V (ix2 r l)) * (1 - Ideal.logistic (V (ix2 r l))) := by
  obtain rfl : r = y 0 := Fin.ext h0.symm
  have h2 : ¬ (y 1 : ℕ) < 512 := by omega
  have h3 : (⟨y 1 - 512, by have : (y 1 : ℕ) < 1024 := (y 1).isLt; omega⟩ : Fin 512) = l := Fin.ext (by show (y 1 : ℕ) - 512 = l; omega)
  rw [G, dif_neg h2, h3]

theorem G_left (E : FVec Ideal S288x512 .f32) (W : FVec Ideal S31x512 .f32) (U V : FVec Ideal S256x512 .f32) (y : S256x1024.Idx)
    (r : Fin 256) (l : Fin 512) (h0 : (y 0 : ℕ) = r) (h1 : (y 1 : ℕ) = l) :
    G E W U V y = DU E W r l * Ideal.logistic (V (ix2 r l)) := by
  obtain rfl : r = y 0 := Fin.ext h0.symm
  have h2 : (y 1 : ℕ) < 512 := by omega
  have h3 : (⟨y 1, h2⟩ : Fin 512) = l := Fin.ext h1
  rw [G, dif_pos h2, h3]

theorem G_right' (E : FVec Ideal S288x512 .f32) (W : FVec Ideal S31x512 .f32) (U V : FVec Ideal S256x512 .f32) (y : S256x1024.Idx) (r : Fin 256) (l : Fin 512) (z : EReal) (h0 : (y 0 : ℕ) = r) (h1 : (y 1 : ℕ) = 512 + l)
    (h : z = (E (ix2 ⟨31 + (r : ℕ), by omega⟩ l) * W (ix2 (0 : Fin 31) l) + E (ix2 ⟨30 + (r : ℕ), by omega⟩ l) * W (ix2 (1 : Fin 31) l) + E (ix2 ⟨29 + (r : ℕ), by omega⟩ l) * W (ix2 (2 : Fin 31) l) + E (ix2 ⟨28 + (r : ℕ), by omega⟩ l) * W (ix2 (3 : Fin 31) l) + E (ix2 ⟨27 + (r : ℕ), by omega⟩ l) * W (ix2 (4 : Fin 31) l) + E (ix2 ⟨26 + (r : ℕ), by omega⟩ l) * W (ix2 (5 : Fin 31) l) + E (ix2 ⟨25 + (r : ℕ), by omega⟩ l) * W (ix2 (6 : Fin 31) l) + E (ix2 ⟨24 + (r : ℕ), by omega⟩ l) * W (ix2 (7 : Fin 31) l) + E (ix2 ⟨23 + (r : ℕ), by omega⟩ l) * W (ix2 (8 : Fin 31) l) + E (ix2 ⟨22 + (r : ℕ), by omega⟩ l) * W (ix2 (9 : Fin 31) l) + E (ix2 ⟨21 + (r : ℕ), by omega⟩ l) * W (ix2 (10 : Fin 31) l) + E (ix2 ⟨20 + (r : ℕ), by omega⟩ l) * W (ix2 (11 : Fin 31) l) + E (ix2 ⟨19 + (r : ℕ), by omega⟩ l) * W (ix2 (12 : Fin 31) l) + E (ix2 ⟨18 + (r : ℕ), by omega⟩ l) * W (ix2 (13 : Fin 31) l) + E (ix2 ⟨17 + (r : ℕ), by omega⟩ l) * W (ix2 (14 : Fin 31) l) + E (ix2 ⟨16 + (r : ℕ), by omega⟩ l) * W (ix2 (15 : Fin 31) l) + E (ix2 ⟨15 + (r : ℕ), by omega⟩ l) * W (ix2 (16 : Fin 31) l) + E (ix2 ⟨14 + (r : ℕ), by omega⟩ l) * W (ix2 (17 : Fin 31) l) + E (ix2 ⟨13 + (r : ℕ), by omega⟩ l) * W (ix2 (18 : Fin 31) l) + E (ix2 ⟨12 + (r : ℕ), by omega⟩ l) * W (ix2 (19 : Fin 31) l) + E (ix2 ⟨11 + (r : ℕ), by omega⟩ l) * W (ix2 (20 : Fin 31) l) + E (ix2 ⟨10 + (r : ℕ), by omega⟩ l) * W (ix2 (21 : Fin 31) l) + E (ix2 ⟨9 + (r : ℕ), by omega⟩ l) * W (ix2 (22 : Fin 31) l) + E (ix2 ⟨8 + (r : ℕ), by omega⟩ l) * W (ix2 (23 : Fin 31) l) + E (ix2 ⟨7 + (r : ℕ), by omega⟩ l) * W (ix2 (24 : Fin 31) l) + E (ix2 ⟨6 + (r : ℕ), by omega⟩ l) * W (ix2 (25 : Fin 31) l) + E (ix2 ⟨5 + (r : ℕ), by omega⟩ l) * W (ix2 (26 : Fin 31) l) + E (ix2 ⟨4 + (r : ℕ), by omega⟩ l) * W (ix2 (27 : Fin 31) l) + E (ix2 ⟨3 + (r : ℕ), by omega⟩ l) * W (ix2 (28 : Fin 31) l) + E (ix2 ⟨2 + (r : ℕ), by omega⟩ l) * W (ix2 (29 : Fin 31) l) + E (ix2 ⟨1 + (r : ℕ), by omega⟩ l) * W (ix2 (30 : Fin 31) l)) * U (ix2 r l) * Ideal.logistic (V (ix2 r l)) * (1 - Ideal.logistic (V (ix2 r l)))) : z = G E W U V y := by
  rw [G_right E W U V y r l h0 h1, DU_terms]; exact h
theorem G_left' (E : FVec Ideal S288x512 .f32) (W : FVec Ideal S31x512 .f32) (U V : FVec Ideal S256x512 .f32) (y : S256x1024.Idx) (r : Fin 256) (l : Fin 512) (z : EReal) (h0 : (y 0 : ℕ) = r) (h1 : (y 1 : ℕ) = l)
    (h : z = (E (ix2 ⟨31 + (r : ℕ), by omega⟩ l) * W (ix2 (0 : Fin 31) l) + E (ix2 ⟨30 + (r : ℕ), by omega⟩ l) * W (ix2 (1 : Fin 31) l) + E (ix2 ⟨29 + (r : ℕ), by omega⟩ l) * W (ix2 (2 : Fin 31) l) + E (ix2 ⟨28 + (r : ℕ), by omega⟩ l) * W (ix2 (3 : Fin 31) l) + E (ix2 ⟨27 + (r : ℕ), by omega⟩ l) * W (ix2 (4 : Fin 31) l) + E (ix2 ⟨26 + (r : ℕ), by omega⟩ l) * W (ix2 (5 : Fin 31) l) + E (ix2 ⟨25 + (r : ℕ), by omega⟩ l) * W (ix2 (6 : Fin 31) l) + E (ix2 ⟨24 + (r : ℕ), by omega⟩ l) * W (ix2 (7 : Fin 31) l) + E (ix2 ⟨23 + (r : ℕ), by omega⟩ l) * W (ix2 (8 : Fin 31) l) + E (ix2 ⟨22 + (r : ℕ), by omega⟩ l) * W (ix2 (9 : Fin 31) l) + E (ix2 ⟨21 + (r : ℕ), by omega⟩ l) * W (ix2 (10 : Fin 31) l) + E (ix2 ⟨20 + (r : ℕ), by omega⟩ l) * W (ix2 (11 : Fin 31) l) + E (ix2 ⟨19 + (r : ℕ), by omega⟩ l) * W (ix2 (12 : Fin 31) l) + E (ix2 ⟨18 + (r : ℕ), by omega⟩ l) * W (ix2 (13 : Fin 31) l) + E (ix2 ⟨17 + (r : ℕ), by omega⟩ l) * W (ix2 (14 : Fin 31) l) + E (ix2 ⟨16 + (r : ℕ), by omega⟩ l) * W (ix2 (15 : Fin 31) l) + E (ix2 ⟨15 + (r : ℕ), by omega⟩ l) * W (ix2 (16 : Fin 31) l) + E (ix2 ⟨14 + (r : ℕ), by omega⟩ l) * W (ix2 (17 : Fin 31) l) + E (ix2 ⟨13 + (r : ℕ), by omega⟩ l) * W (ix2 (18 : Fin 31) l) + E (ix2 ⟨12 + (r : ℕ), by omega⟩ l) * W (ix2 (19 : Fin 31) l) + E (ix2 ⟨11 + (r : ℕ), by omega⟩ l) * W (ix2 (20 : Fin 31) l) + E (ix2 ⟨10 + (r : ℕ), by omega⟩ l) * W (ix2 (21 : Fin 31) l) + E (ix2 ⟨9 + (r : ℕ), by omega⟩ l) * W (ix2 (22 : Fin 31) l) + E (ix2 ⟨8 + (r : ℕ), by omega⟩ l) * W (ix2 (23 : Fin 31) l) + E (ix2 ⟨7 + (r : ℕ), by omega⟩ l) * W (ix2 (24 : Fin 31) l) + E (ix2 ⟨6 + (r : ℕ), by omega⟩ l) * W (ix2 (25 : Fin 31) l) + E (ix2 ⟨5 + (r : ℕ), by omega⟩ l) * W (ix2 (26 : Fin 31) l) + E (ix2 ⟨4 + (r : ℕ), by omega⟩ l) * W (ix2 (27 : Fin 31) l) + E (ix2 ⟨3 + (r : ℕ), by omega⟩ l) * W (ix2 (28 : Fin 31) l) + E (ix2 ⟨2 + (r : ℕ), by omega⟩ l) * W (ix2 (29 : Fin 31) l) + E (ix2 ⟨1 + (r : ℕ), by omega⟩ l) * W (ix2 (30 : Fin 31) l)) * Ideal.logistic (V (ix2 r l))) : z = G E W U V y := by
  rw [G_left E W U V y r l h0 h1, DU_terms]; exact h

/-- The window a tile works on: the tile's rows between the sixteen rows before it and the sixteen after, the neighbours' rows zero at
    the two ends of a sequence. -/
def EXT (n : ℕ) (Z0 : FVec Ideal S16x512 .f32) (X : FVec Ideal S256x512 .f32) (Z1 : FVec Ideal S16x512 .f32) : FVec Ideal S288x512 .f32 := fun e =>
  if h : (e 0 : ℕ) < 16 then (if n % 8 = 0 then 0 else Z0 (ix2 ⟨e 0, h⟩ (e 1)))
  else if h' : (e 0 : ℕ) < 272 then X (ix2 ⟨e 0 - 16, by omega⟩ (e 1))
  else if n % 8 = 7 then 0 else Z1 (ix2 ⟨e 0 - 272, by have : (e 0 : ℕ) < 288 := (e 0).isLt; omega⟩ (e 1))

theorem EXT_lo (n : ℕ) (Z0 : FVec Ideal S16x512 .f32) (X : FVec Ideal S256x512 .f32) (Z1 : FVec Ideal S16x512 .f32) (e : S288x512.Idx)
    (x : S16x512.Idx) (h0 : (e 0 : ℕ) = x 0) (h1 : (e 1 : ℕ) = x 1) : EXT n Z0 X Z1 e = if n % 8 = 0 then 0 else Z0 x := by
  have hx : (x 0 : ℕ) < 16 := (x 0).isLt
  have e1 : (ix2 ⟨e 0, by omega⟩ (e 1) : S16x512.Idx) = x := by
    refine Eq.trans ?_ (eq_ix2 x).symm
    exact congrArg₂ ix2 (Fin.ext h0) (Fin.ext h1)
  rw [EXT, dif_pos (by omega), e1]

theorem EXT_mid (n : ℕ) (Z0 : FVec Ideal S16x512 .f32) (X : FVec Ideal S256x512 .f32) (Z1 : FVec Ideal S16x512 .f32) (e : S288x512.Idx)
    (x : S256x512.Idx) (h0 : (e 0 : ℕ) = 16 + x 0) (h1 : (e 1 : ℕ) = x 1) : EXT n Z0 X Z1 e = X x := by
  have hx : (x 0 : ℕ) < 256 := (x 0).isLt
  have e1 : (ix2 ⟨(e 0 : ℕ) - 16, by omega⟩ (e 1) : S256x512.Idx) = x := by
    refine Eq.trans ?_ (eq_ix2 x).symm
    exact congrArg₂ ix2 (Fin.ext (by show (e 0 : ℕ) - 16 = x 0; omega)) (Fin.ext h1)
  rw [EXT, dif_neg (by omega), dif_pos (by omega), e1]

theorem EXT_hi (n : ℕ) (Z0 : FVec Ideal S16x512 .f32) (X : FVec Ideal S256x512 .f32) (Z1 : FVec Ideal S16x512 .f32) (e : S288x512.Idx)
    (x : S16x512.Idx) (h0 : (e 0 : ℕ) = 272 + x 0) (h1 : (e 1 : ℕ) = x 1) : EXT n Z0 X Z1 e = if n % 8 = 7 then 0 else Z1 x := by
  have hx : (x 0 : ℕ) < 16 := (x 0).isLt
  have e1 : (ix2 ⟨(e 0 : ℕ) - 272, by omega⟩ (e 1) : S16x512.Idx) = x := by
    refine Eq.trans ?_ (eq_ix2 x).symm
    exact congrArg₂ ix2 (Fin.ext (by show (e 0 : ℕ) - 272 = x 0; omega)) (Fin.ext h1)
  rw [EXT, dif_neg (by omega), dif_neg (by omega), e1]

/-- The three pieces of the window cover it. -/
theorem cover (e : S288x512.Idx) : (e 0 : ℕ) < 16 ∧ (∀ a : Fin 2, (![0, 0] : Fin 2 → ℕ) a ≤ e a ∧ (e a : ℕ) < (![0, 0] : Fin 2 → ℕ) a + (![16, 512] : Fin 2 → ℕ) a) ∨
    ((∀ a : Fin 2, (![16, 0] : Fin 2 → ℕ) a ≤ e a ∧ (e a : ℕ) < (![16, 0] : Fin 2 → ℕ) a + (![256, 512] : Fin 2 → ℕ) a) ∨
     (∀ a : Fin 2, (![272, 0] : Fin 2 → ℕ) a ≤ e a ∧ (e a : ℕ) < (![272, 0] : Fin 2 → ℕ) a + (![16, 512] : Fin 2 → ℕ) a)) := by
  have hl : (e 1 : ℕ) < 512 := (e 1).isLt
  have hr : (e 0 : ℕ) < 288 := (e 0).isLt
  simp only [Fin.forall_fin_two, Matrix.cons_val_zero, Matrix.cons_val_one]
  omega

/-- The test for the first tile of a sequence. -/
theorem sel_first (t : Fin cfg0.N) (z w : EReal) : Scalar.select (Scalar.cmpi CmpIPredicate.eq
        (Scalar.select
          (Scalar.andi
            (Scalar.xori (Scalar.cmpi CmpIPredicate.slt (Scalar.remsi (BitVec.ofNat 32 ↑(grid0.coords t 0)) 8#32) 0#32)
              0#1)
            (Scalar.cmpi CmpIPredicate.ne (Scalar.remsi (BitVec.ofNat 32 ↑(grid0.coords t 0)) 8#32) 0#32))
          (Scalar.addi (Scalar.remsi (BitVec.ofNat 32 ↑(grid0.coords t 0)) 8#32) 8#32)
          (Scalar.remsi (BitVec.ofNat 32 ↑(grid0.coords t 0)) 8#32))
        0#32) z w = if t.val % 8 = 0 then z else w := by
  have e := (by decide +kernel : ∀ t : Fin grid0.N, (Scalar.cmpi CmpIPredicate.eq
        (Scalar.select
          (Scalar.andi
            (Scalar.xori (Scalar.cmpi CmpIPredicate.slt (Scalar.remsi (BitVec.ofNat 32 ↑(grid0.coords t 0)) 8#32) 0#32)
              0#1)
            (Scalar.cmpi CmpIPredicate.ne (Scalar.remsi (BitVec.ofNat 32 ↑(grid0.coords t 0)) 8#32) 0#32))
          (Scalar.addi (Scalar.remsi (BitVec.ofNat 32 ↑(grid0.coords t 0)) 8#32) 8#32)
          (Scalar.remsi (BitVec.ofNat 32 ↑(grid0.coords t 0)) 8#32))
        0#32) = if t.val % 8 = 0 then 1#1 else 0#1) t
  rw [e]
  split <;> rfl

/-- The test for the last tile of a sequence. -/
theorem sel_last (t : Fin cfg0.N) (z w : EReal) : Scalar.select (Scalar.cmpi CmpIPredicate.eq
        (Scalar.select
          (Scalar.andi
            (Scalar.xori (Scalar.cmpi CmpIPredicate.slt (Scalar.remsi (BitVec.ofNat 32 ↑(grid0.coords t 0)) 8#32) 0#32)
              0#1)
            (Scalar.cmpi CmpIPredicate.ne (Scalar.remsi (BitVec.ofNat 32 ↑(grid0.coords t 0)) 8#32) 0#32))
          (Scalar.addi (Scalar.remsi (BitVec.ofNat 32 ↑(grid0.coords t 0)) 8#32) 8#32)
          (Scalar.remsi (BitVec.ofNat 32 ↑(grid0.coords t 0)) 8#32))
        7#32) z w = if t.val % 8 = 7 then z else w := by
  have e := (by decide +kernel : ∀ t : Fin grid0.N, (Scalar.cmpi CmpIPredicate.eq
        (Scalar.select
          (Scalar.andi
            (Scalar.xori (Scalar.cmpi CmpIPredicate.slt (Scalar.remsi (BitVec.ofNat 32 ↑(grid0.coords t 0)) 8#32) 0#32)
              0#1)
            (Scalar.cmpi CmpIPredicate.ne (Scalar.remsi (BitVec.ofNat 32 ↑(grid0.coords t 0)) 8#32) 0#32))
          (Scalar.addi (Scalar.remsi (BitVec.ofNat 32 ↑(grid0.coords t 0)) 8#32) 8#32)
          (Scalar.remsi (BitVec.ofNat 32 ↑(grid0.coords t 0)) 8#32))
        7#32) = if t.val % 8 = 7 then 1#1 else 0#1) t
  rw [e]
  split <;> rfl

end Cert.ConvBwdIdeal.Hand
-- ==== Proof.ConvStrips.lean ====
module
public import proofs.«01_k».proof.Proof.ConvTile
public import Idealize.ShloMosaic.Lib.Pipeline.ValueKit
public import Idealize.ShloMosaic.Lib.Pointwise
@[expose] public section
set_option maxRecDepth 16384
noncomputable section
namespace Cert.ConvBwdIdeal.Hand
open Cert.ConvBwdIdeal Cert.ConvBwdIdeal.Gen Idealize.ShloMosaic Idealize.ShloMosaic.TcCoe Idealize.SL.Sem
open Idealize.ShloMosaic.Pipeline (Dat)
variable (m : (ℓ : Loc nD τ sig) → Buf (Elt Ideal) ℓ)

set_option maxHeartbeats 2000000 in
theorem strips_A (c : Dev nD) (t : Fin cfg0.N) (h : t.val % 32 = 0) (y : S256x1024.Idx) : (outsAt0 m c t.val t.isLt).1 y
    = G (EXT t.val (iblk m c 1 t) (iblk m c 0 t) (iblk m c 2 t)) (iblk m c 9 t) (iblk m c 3 t) (iblk m c 4 t) y := by
  rw [outsAt0_A m c t h]
  frame_out
  simp only [readCov_ld]
  generalize hE : View.canon (Val := Elt Ideal) (_ :: _ :: _ :: []) = E
  have hE' : E = EXT t.val (iblk m c 1 t) (iblk m c 0 t) (iblk m c 2 t) := by
    subst hE
    funext e
    clear h
    canon_tiles x h using (by
      rcases cover e with h1 | h1 | h1
      · exact ⟨_, List.mem_cons_of_mem _ (List.mem_cons_of_mem _ List.mem_cons_self), by rw [Rect.mem_set_unit]; exact h1.2⟩
      · exact ⟨_, List.mem_cons_of_mem _ List.mem_cons_self, by rw [Rect.mem_set_unit]; exact h1⟩
      · exact ⟨_, List.mem_cons_self, by rw [Rect.mem_set_unit]; exact h1⟩)
    case piece0 => rw [EXT_hi _ _ _ _ e x h0 h1]; open_payloads; pointwise; exact sel_last t _ _
    case piece1 => rw [EXT_mid _ _ _ _ e x h0 h1]; open_payloads; pointwise
    case piece2 => rw [EXT_lo _ _ _ _ e x h0 h1]; open_payloads; pointwise; exact sel_first t _ _
  rw [← hE']
  clear hE hE' h
  canon_tiles x h
  case piece0 =>
    refine G_right' _ _ _ _ y ⟨224 + x 0, by omega⟩ (x 1) _ h0 h1 ?_
    open_payloads; pointwise; simp only [← Nat.add_assoc, Nat.reduceAdd, Ideal.logistic, zero_sub]
  case piece1 =>
    refine G_left' _ _ _ _ y ⟨224 + x 0, by omega⟩ (x 1) _ h0 h1 ?_
    open_payloads; pointwise; simp only [← Nat.add_assoc, Nat.reduceAdd, Ideal.logistic, zero_sub]
  case piece2 =>
    refine G_right' _ _ _ _ y ⟨192 + x 0, by omega⟩ (x 1) _ h0 h1 ?_
    open_payloads; pointwise; simp only [← Nat.add_assoc, Nat.reduceAdd, Ideal.logistic, zero_sub]
  case piece3 =>
    refine G_left' _ _ _ _ y ⟨192 + x 0, by omega⟩ (x 1) _ h0 h1 ?_
    open_payloads; pointwise; simp only [← Nat.add_assoc, Nat.reduceAdd, Ideal.logistic, zero_sub]
  case piece4 =>
    refine G_right' _ _ _ _ y ⟨160 + x 0, by omega⟩ (x 1) _ h0 h1 ?_
    open_payloads; pointwise; simp only [← Nat.add_assoc, Nat.reduceAdd, Ideal.logistic, zero_sub]
  case piece5 =>
    refine G_left' _ _ _ _ y ⟨160 + x 0, by omega⟩ (x 1) _ h0 h1 ?_
    open_payloads; pointwise; simp only [← Nat.add_assoc, Nat.reduceAdd, Ideal.logistic, zero_sub]
  case piece6 =>
    refine G_right' _ _ _ _ y ⟨128 + x 0, by omega⟩ (x 1) _ h0 h1 ?_
    open_payloads; pointwise; simp only [← Nat.add_assoc, Nat.reduceAdd, Ideal.logistic, zero_sub]
  case piece7 =>
    refine G_left' _ _ _ _ y ⟨128 + x 0, by omega⟩ (x 1) _ h0 h1 ?_
    open_payloads; pointwise; simp only [← Nat.add_assoc, Nat.reduceAdd, Ideal.logistic, zero_sub]
  case piece8 =>
    refine G_right' _ _ _ _ y ⟨96 + x 0, by omega⟩ (x 1) _ h0 h1 ?_
    open_payloads; pointwise; simp only [← Nat.add_assoc, Nat.reduceAdd, Ideal.logistic, zero_sub]
  case piece9 =>
    refine G_left' _ _ _ _ y ⟨96 + x 0, by omega⟩ (x 1) _ h0 h1 ?_
    open_payloads; pointwise; simp only [← Nat.add_assoc, Nat.reduceAdd, Ideal.logistic, zero_sub]
  case piece10 =>
    refine G_right' _ _ _ _ y ⟨64 + x 0, by omega⟩ (x 1) _ h0 h1 ?_
    open_payloads; pointwise; simp only [← Nat.add_assoc, Nat.reduceAdd, Ideal.logistic, zero_sub]
  case piece11 =>
    refine G_left' _ _ _ _ y ⟨64 + x 0, by omega⟩ (x 1) _ h0 h1 ?_
    open_payloads; pointwise; simp only [← Nat.add_assoc, Nat.reduceAdd, Ideal.logistic, zero_sub]
  case piece12 =>
    refine G_right' _ _ _ _ y ⟨32 + x 0, by omega⟩ (x 1) _ h0 h1 ?_
    open_payloads; pointwise; simp only [← Nat.add_assoc, Nat.reduceAdd, Ideal.logistic, zero_sub]
  case piece13 =>
    refine G_left' _ _ _ _ y ⟨32 + x 0, by omega⟩ (x 1) _ h0 h1 ?_
    open_payloads; pointwise; simp only [← Nat.add_assoc, Nat.reduceAdd, Ideal.logistic, zero_sub]
  case piece14 =>
    refine G_right' _ _ _ _ y ⟨0 + x 0, by omega⟩ (x 1) _ (h0.trans (Nat.zero_add _).symm) h1 ?_
    open_payloads; pointwise; simp only [← Nat.add_assoc, Nat.reduceAdd, Ideal.logistic, zero_sub]
  case piece15 =>
    refine G_left' _ _ _ _ y ⟨0 + x 0, by omega⟩ (x 1) _ (h0.trans (Nat.zero_add _).symm) h1 ?_
    open_payloads; pointwise; simp only [← Nat.add_assoc, Nat.reduceAdd, Ideal.logistic, zero_sub]

set_option maxHeartbeats 2000000 in
theorem strips_B (c : Dev nD) (t : Fin cfg0.N) (h : ¬ t.val % 32 = 0) (y : S256x1024.Idx) : (outsAt0 m c t.val t.isLt).1 y
    = G (EXT t.val (iblk m c 1 t) (iblk m c 0 t) (iblk m c 2 t)) (iblk m c 9 t) (iblk m c 3 t) (iblk m c 4 t) y := by
  rw [outsAt0_B m c t h]
  frame_out
  simp only [readCov_ld]
  generalize hE : View.canon (Val := Elt Ideal) (_ :: _ :: _ :: []) = E
  have hE' : E = EXT t.val (iblk m c 1 t) (iblk m c 0 t) (iblk m c 2 t) := by
    subst hE
    funext e
    clear h
    canon_tiles x h using (by
      rcases cover e with h1 | h1 | h1
      · exact ⟨_, List.mem_cons_of_mem _ (List.mem_cons_of_mem _ List.mem_cons_self), by rw [Rect.mem_set_unit]; exact h1.2⟩
      · exact ⟨_, List.mem_cons_of_mem _ List.mem_cons_self, by rw [Rect.mem_set_unit]; exact h1⟩
      · exact ⟨_, List.mem_cons_self, by rw [Rect.mem_set_unit]; exact h1⟩)
    case piece0 => rw [EXT_hi _ _ _ _ e x h0 h1]; open_payloads; pointwise; exact sel_last t _ _
    case piece1 => rw [EXT_mid _ _ _ _ e x h0 h1]; open_payloads; pointwise
    case piece2 => rw [EXT_lo _ _ _ _ e x h0 h1]; open_payloads; pointwise; exact sel_first t _ _
  rw [← hE']
  clear hE hE' h
  canon_tiles x h
  case piece0 =>
    refine G_right' _ _ _ _ y ⟨224 + x 0, by omega⟩ (x 1) _ h0 h1 ?_
    open_payloads; pointwise; simp only [← Nat.add_assoc, Nat.reduceAdd, Ideal.logistic, zero_sub]
  case piece1 =>
    refine G_left' _ _ _ _ y ⟨224 + x 0, by omega⟩ (x 1) _ h0 h1 ?_
    open_payloads; pointwise; simp only [← Nat.add_assoc, Nat.reduceAdd, Ideal.logistic, zero_sub]
  case piece2 =>
    refine G_right' _ _ _ _ y ⟨192 + x 0, by omega⟩ (x 1) _ h0 h1 ?_
    open_payloads; pointwise; simp only [← Nat.add_assoc, Nat.reduceAdd, Ideal.logistic, zero_sub]
  case piece3 =>
    refine G_left' _ _ _ _ y ⟨192 + x 0, by omega⟩ (x 1) _ h0 h1 ?_
    open_payloads; pointwise; simp only [← Nat.add_assoc, Nat.reduceAdd, Ideal.logistic, zero_sub]
  case piece4 =>
    refine G_right' _ _ _ _ y ⟨160 + x 0, by omega⟩ (x 1) _ h0 h1 ?_
    open_payloads; pointwise; simp only [← Nat.add_assoc, Nat.reduceAdd, Ideal.logistic, zero_sub]
  case piece5 =>
    refine G_left' _ _ _ _ y ⟨160 + x 0, by omega⟩ (x 1) _ h0 h1 ?_
    open_payloads; pointwise; simp only [← Nat.add_assoc, Nat.reduceAdd, Ideal.logistic, zero_sub]
  case piece6 =>
    refine G_right' _ _ _ _ y ⟨128 + x 0, by omega⟩ (x 1) _ h0 h1 ?_
    open_payloads; pointwise; simp only [← Nat.add_assoc, Nat.reduceAdd, Ideal.logistic, zero_sub]
  case piece7 =>
    refine G_left' _ _ _ _ y ⟨128 + x 0, by omega⟩ (x 1) _ h0 h1 ?_
    open_payloads; pointwise; simp only [← Nat.add_assoc, Nat.reduceAdd, Ideal.logistic, zero_sub]
  case piece8 =>
    refine G_right' _ _ _ _ y ⟨96 + x 0, by omega⟩ (x 1) _ h0 h1 ?_
    open_payloads; pointwise; simp only [← Nat.add_assoc, Nat.reduceAdd, Ideal.logistic, zero_sub]
  case piece9 =>
    refine G_left' _ _ _ _ y ⟨96 + x 0, by omega⟩ (x 1) _ h0 h1 ?_
    open_payloads; pointwise; simp only [← Nat.add_assoc, Nat.reduceAdd, Ideal.logistic, zero_sub]
  case piece10 =>
    refine G_right' _ _ _ _ y ⟨64 + x 0, by omega⟩ (x 1) _ h0 h1 ?_
    open_payloads; pointwise; simp only [← Nat.add_assoc, Nat.reduceAdd, Ideal.logistic, zero_sub]
  case piece11 =>
    refine G_left' _ _ _ _ y ⟨64 + x 0, by omega⟩ (x 1) _ h0 h1 ?_
    open_payloads; pointwise; simp only [← Nat.add_assoc, Nat.reduceAdd, Ideal.logistic, zero_sub]
  case piece12 =>
    refine G_right' _ _ _ _ y ⟨32 + x 0, by omega⟩ (x 1) _ h0 h1 ?_
    open_payloads; pointwise; simp only [← Nat.add_assoc, Nat.reduceAdd, Ideal.logistic, zero_sub]
  case piece13 =>
    refine G_left' _ _ _ _ y ⟨32 + x 0, by omega⟩ (x 1) _ h0 h1 ?_
    open_payloads; pointwise; simp only [← Nat.add_assoc, Nat.reduceAdd, Ideal.logistic, zero_sub]
  case piece14 =>
    refine G_right' _ _ _ _ y ⟨0 + x 0, by omega⟩ (x 1) _ (h0.trans (Nat.zero_add _).symm) h1 ?_
    open_payloads; pointwise; simp only [← Nat.add_assoc, Nat.reduceAdd, Ideal.logistic, zero_sub]
  case piece15 =>
    refine G_left' _ _ _ _ y ⟨0 + x 0, by omega⟩ (x 1) _ (h0.trans (Nat.zero_add _).symm) h1 ?_
    open_payloads; pointwise; simp only [← Nat.add_assoc, Nat.reduceAdd, Ideal.logistic, zero_sub]

end Cert.ConvBwdIdeal.Hand
-- ==== Proof.ConvAcc.lean ====
module
public import proofs.«01_k».proof.Proof.ConvTile
public import Idealize.ShloMosaic.Lib.Pipeline.ValueKit
public import Idealize.ShloMosaic.Lib.Pointwise
public import Idealize.ShloMosaic.Lib.WritesUnit
@[expose] public section
set_option maxRecDepth 16384
noncomputable section
namespace Cert.ConvBwdIdeal.Hand
open Cert.ConvBwdIdeal Cert.ConvBwdIdeal.Gen Idealize.ShloMosaic Idealize.ShloMosaic.TcCoe Idealize.SL.Sem
open Idealize.ShloMosaic.Pipeline (Dat)
variable (m : (ℓ : Loc nD τ sig) → Buf (Elt Ideal) ℓ)

theorem pay1_apply (X : FVec Ideal S256x512 .f32) (P : FVec Ideal S1x512 .f32) (Q : FVec Ideal S256x512 .f32) (x : S1x512.Idx) :
    k0_pay1 (F := Ideal) X P Q x = P x + ∑ r : Fin 256, X (ix2 r (x 1)) * Q (ix2 r (x 1)) := by
  unfold k0_pay1
  pointwise

/-- One row of the filter's gradient over a tile: the tile `X` against the window `E` shifted by the row's number. -/
def ROW (X : FVec Ideal S256x512 .f32) (E : FVec Ideal S288x512 .f32) (k : Fin 32) (l : Fin 512) : EReal :=
  ∑ r : Fin 256, X (ix2 r l) * E (ix2 ⟨(k : ℕ) + 1 + r, by omega⟩ l)

/-- The accumulator after the first `n` rows of a tile are added to it. -/
def ACC (b : FVec Ideal S32x512 .f32) (X : FVec Ideal S256x512 .f32) (E : FVec Ideal S288x512 .f32) (n : ℕ) (y : S32x512.Idx) : EReal :=
  if (y 0 : ℕ) < n then b y + ROW X E (y 0) (y 1) else b y

theorem row_emb (k : ℕ) (inb : ∀ a, (![k, 0] : Fin 2 → ℕ) a + (![1, 512] : Fin 2 → ℕ) a ≤ S32x512.size a) (y : S32x512.Idx) (x : S1x512.Idx)
    (h0 : (y 0 : ℕ) = k) (h1 : (y 1 : ℕ) = x 1) : (Rect.unit ![k, 0] ![1, 512] inb : Rect S32x512).emb x = y := by
  have hx : (x 0 : ℕ) < 1 := (x 0).isLt
  funext a
  apply Fin.ext
  fin_cases a
  · show k + 1 * (x 0 : ℕ) = y 0
    omega
  · show 0 + 1 * (x 1 : ℕ) = y 1
    omega

theorem win_emb (k : ℕ) (inb : ∀ a, (![k, 0] : Fin 2 → ℕ) a + (![256, 512] : Fin 2 → ℕ) a ≤ S288x512.size a) (r : Fin 256) (l : Fin 512) (h : k + (r : ℕ) < 288) :
    (Rect.unit ![k, 0] ![256, 512] inb : Rect S288x512).emb (ix2 r l : S256x512.Idx) = ix2 ⟨k + r, h⟩ l := by
  funext a
  apply Fin.ext
  fin_cases a
  · show k + 1 * (r : ℕ) = k + r
    omega
  · show 0 + 1 * (l : ℕ) = l
    omega

theorem win_read (Ls : List (View.Piece (Elt Ideal) S288x512 .f32)) (E : FVec Ideal S288x512 .f32) (k' : ℕ)
    (inbs : ∀ a, (![k', 0] : Fin 2 → ℕ) a + (![256, 512] : Fin 2 → ℕ) a ≤ S288x512.size a)
    (hS : ∀ e, View.canon (Val := Elt Ideal) Ls e = E e) (r : Fin 256) (l : Fin 512) (h : k' + (r : ℕ) < 288) :
    (View.whole cc0_scratch0).readCov Ls (Rect.unit ![k', 0] ![256, 512] inbs : Rect S288x512).toLoadRect (ix2 r l) = E (ix2 ⟨k' + r, h⟩ l) := by
  rw [readCov_ld]
  show View.canon (Val := Elt Ideal) Ls ((Rect.unit ![k', 0] ![256, 512] inbs : Rect S288x512).emb (ix2 r l)) = _
  rw [win_emb k' inbs r l h, hS]

theorem ACC_step {sg : RefSig} {κ : Kind} {sp : Space} (v : View sg κ sp S32x512 .f32) (L : List (View.Piece (Elt Ideal) S32x512 .f32)) (k k' : ℕ) (hk : k < 31) (hk' : k' = k + 1)
    (inb : ∀ a, (![k, 0] : Fin 2 → ℕ) a + (![1, 512] : Fin 2 → ℕ) a ≤ S32x512.size a)
    (b : FVec Ideal S32x512 .f32) (X : FVec Ideal S256x512 .f32) (E : FVec Ideal S288x512 .f32)
    (Q : FVec Ideal S256x512 .f32) (w : FVec Ideal S1x512 .f32)
    (hw : w = k0_pay1 (F := Ideal) X (v.readCov L (Rect.unit ![k, 0] ![1, 512] inb : Rect S32x512).toLoadRect) Q)
    (hQ : ∀ (r : Fin 256) (l : Fin 512) (h : k' + (r : ℕ) < 288), Q (ix2 r l) = E (ix2 ⟨k' + r, h⟩ l))
    (hL : ∀ y, View.canon (Val := Elt Ideal) L y = ACC b X E k y) (y : S32x512.Idx) :
    View.canon (Val := Elt Ideal) (⟨(Rect.unit ![k, 0] ![1, 512] inb : Rect S32x512), w⟩ :: L) y = ACC b X E k' y := by
  subst hk'
  have hl : (y 1 : ℕ) < 512 := (y 1).isLt
  by_cases hy : (y 0 : ℕ) = k
  · have e := row_emb k inb y (ix2 (0 : Fin 1) (y 1)) hy rfl
    have hr := View.canon_cons_emb (Val := Elt Ideal) (Rect.unit ![k, 0] ![1, 512] inb : Rect S32x512) w L (ix2 (0 : Fin 1) (y 1) : S1x512.Idx)
    rw [e] at hr
    rw [hr, hw, pay1_apply, readCov_ld, ACC, if_pos (by omega)]
    refine congrArg₂ (· + ·) ?_ ?_
    · show View.canon (Val := Elt Ideal) L ((Rect.unit ![k, 0] ![1, 512] inb : Rect S32x512).emb (ix2 (0 : Fin 1) (y 1))) = b y
      rw [e, hL, ACC, if_neg (by omega)]
    · unfold ROW
      refine Finset.sum_congr rfl fun r _ => congrArg (X (ix2 r (y 1)) * ·) ?_
      refine (hQ r (y 1) (by omega)).trans ?_
      exact congrArg E (congrArg₂ ix2 (Fin.ext (by show k + 1 + (r : ℕ) = y 0 + 1 + r; omega)) rfl)
  · rw [View.canon_cons_of_not_mem]
    · rw [hL, ACC, ACC]
      by_cases h : (y 0 : ℕ) < k
      · rw [if_pos h, if_pos (by omega)]
      · rw [if_neg h, if_neg (by omega)]
    · rw [Rect.mem_set_unit]
      intro h
      have h0 : k ≤ (y 0 : ℕ) ∧ (y 0 : ℕ) < k + 1 := h 0
      omega

theorem ACC_stepB {sg : RefSig} {κ : Kind} {sp : Space} (v : View sg κ sp S32x512 .f32) (f : v.ty.Contents (Elt Ideal)) (L : List (View.Piece (Elt Ideal) S32x512 .f32)) (k k' : ℕ) (hk : k < 31) (hk' : k' = k + 1)
    (inb : ∀ a, (![k, 0] : Fin 2 → ℕ) a + (![1, 512] : Fin 2 → ℕ) a ≤ S32x512.size a)
    (b : FVec Ideal S32x512 .f32) (X : FVec Ideal S256x512 .f32) (E : FVec Ideal S288x512 .f32)
    (Q : FVec Ideal S256x512 .f32) (w : FVec Ideal S1x512 .f32)
    (hw : w = k0_pay1 (F := Ideal) X (View.ld (Val := Elt Ideal) (e' := .f32) b (Rect.unit ![k, 0] ![1, 512] inb : Rect S32x512)) Q)
    (hQ : ∀ (r : Fin 256) (l : Fin 512) (h : k' + (r : ℕ) < 288), Q (ix2 r l) = E (ix2 ⟨k' + r, h⟩ l))
    (hL : ∀ y, v.read (Elt Ideal) (v.writes (Elt Ideal) f L) y = ACC b X E k y) (y : S32x512.Idx) :
    v.read (Elt Ideal) (v.writes (Elt Ideal) f (⟨(Rect.unit ![k, 0] ![1, 512] inb : Rect S32x512), w⟩ :: L)) y = ACC b X E k' y := by
  subst hk'
  have hl : (y 1 : ℕ) < 512 := (y 1).isLt
  by_cases hy : (y 0 : ℕ) = k
  · have e := row_emb k inb y (ix2 (0 : Fin 1) (y 1)) hy rfl
    rw [View.read_writes_cons_unit_of_mem v f inb w L y (ix2 (0 : Fin 1) (y 1) : S1x512.Idx) rfl (fun a => by
      fin_cases a
      · exact hy
      · exact (Nat.zero_add _).symm)]
    rw [hw, pay1_apply, ACC, if_pos (by omega)]
    refine congrArg₂ (· + ·) ?_ ?_
    · show b ((Rect.unit ![k, 0] ![1, 512] inb : Rect S32x512).emb (ix2 (0 : Fin 1) (y 1))) = b y
      rw [e]
    · unfold ROW
      refine Finset.sum_congr rfl fun r _ => congrArg (X (ix2 r (y 1)) * ·) ?_
      refine (hQ r (y 1) (by omega)).trans ?_
      exact congrArg E (congrArg₂ ix2 (Fin.ext (by show k + 1 + (r : ℕ) = y 0 + 1 + r; omega)) rfl)
  · rw [View.read_writes_cons_unit_of_not_mem v f inb w L y rfl 0 (by
      show (y 0 : ℕ) < k ∨ k + 1 ≤ (y 0 : ℕ)
      omega), hL, ACC, ACC]
    by_cases h : (y 0 : ℕ) < k
    · rw [if_pos h, if_pos (by omega)]
    · rw [if_neg h, if_neg (by omega)]

/-- Three pieces that cover the window, over whatever lay below them: the window is the function the pieces agree with. -/
theorem canon3 (wh : FVec Ideal S16x512 .f32) (wm : FVec Ideal S256x512 .f32) (wl : FVec Ideal S16x512 .f32) (Ls : List (View.Piece (Elt Ideal) S288x512 .f32))
    (F : FVec Ideal S288x512 .f32)
    (hh : ∀ (e : S288x512.Idx) (x : S16x512.Idx), (e 0 : ℕ) = 272 + x 0 → (e 1 : ℕ) = x 1 → wh x = F e)
    (hm : ∀ (e : S288x512.Idx) (x : S256x512.Idx), (e 0 : ℕ) = 16 + x 0 → (e 1 : ℕ) = x 1 → wm x = F e)
    (hl : ∀ (e : S288x512.Idx) (x : S16x512.Idx), (e 0 : ℕ) = x 0 → (e 1 : ℕ) = x 1 → wl x = F e) (e : S288x512.Idx) :
    View.canon (Val := Elt Ideal) ((⟨(Rect.unit ![272, 0] ![16, 512] inb_S288x512_S16x512_272_0 : Rect S288x512), wh⟩ : View.Piece (Elt Ideal) S288x512 .f32) ::
      (⟨(Rect.unit ![16, 0] ![256, 512] inb_S288x512_S256x512_16_0 : Rect S288x512), wm⟩ : View.Piece (Elt Ideal) S288x512 .f32) ::
      (⟨(Rect.unit ![0, 0] ![16, 512] inb_S288x512_S16x512_0_0 : Rect S288x512), wl⟩ : View.Piece (Elt Ideal) S288x512 .f32) :: Ls) e = F e := by
  have h1 : (e 1 : ℕ) < 512 := (e 1).isLt
  have h0 : (e 0 : ℕ) < 288 := (e 0).isLt
  by_cases ha : 272 ≤ (e 0 : ℕ)
  · have he : (Rect.unit ![272, 0] ![16, 512] inb_S288x512_S16x512_272_0 : Rect S288x512).emb (ix2 ⟨(e 0 : ℕ) - 272, by omega⟩ (e 1) : S16x512.Idx) = e := by
      funext a
      apply Fin.ext
      fin_cases a
      · show 272 + 1 * ((e 0 : ℕ) - 272) = e 0
        omega
      · show 0 + 1 * (e 1 : ℕ) = e 1
        omega
    have hr := View.canon_cons_emb (Val := Elt Ideal) (Rect.unit ![272, 0] ![16, 512] inb_S288x512_S16x512_272_0 : Rect S288x512) wh
      ((⟨(Rect.unit ![16, 0] ![256, 512] inb_S288x512_S256x512_16_0 : Rect S288x512), wm⟩ : View.Piece (Elt Ideal) S288x512 .f32) ::
      (⟨(Rect.unit ![0, 0] ![16, 512] inb_S288x512_S16x512_0_0 : Rect S288x512), wl⟩ : View.Piece (Elt Ideal) S288x512 .f32) :: Ls) (ix2 ⟨(e 0 : ℕ) - 272, by omega⟩ (e 1) : S16x512.Idx)
    rw [he] at hr
    exact hr.trans (hh e _ (by show (e 0 : ℕ) = 272 + ((e 0 : ℕ) - 272); omega) rfl)
  · refine (View.canon_cons_of_not_mem (Val := Elt Ideal) _ _ ?_).trans ?_
    · rw [Rect.mem_set_unit]
      intro h
      have h := (h 0).1
      exact ha h
    by_cases hb : 16 ≤ (e 0 : ℕ)
    · have he : (Rect.unit ![16, 0] ![256, 512] inb_S288x512_S256x512_16_0 : Rect S288x512).emb (ix2 ⟨(e 0 : ℕ) - 16, by omega⟩ (e 1) : S256x512.Idx) = e := by
        funext a
        apply Fin.ext
        fin_cases a
        · show 16 + 1 * ((e 0 : ℕ) - 16) = e 0
          omega
        · show 0 + 1 * (e 1 : ℕ) = e 1
          omega
      have hr := View.canon_cons_emb (Val := Elt Ideal) (Rect.unit ![16, 0] ![256, 512] inb_S288x512_S256x512_16_0 : Rect S288x512) wm
        ((⟨(Rect.unit ![0, 0] ![16, 512] inb_S288x512_S16x512_0_0 : Rect S288x512), wl⟩ : View.Piece (Elt Ideal) S288x512 .f32) :: Ls) (ix2 ⟨(e 0 : ℕ) - 16, by omega⟩ (e 1) : S256x512.Idx)
      rw [he] at hr
      exact hr.trans (hm e _ (by show (e 0 : ℕ) = 16 + ((e 0 : ℕ) - 16); omega) rfl)
    · refine (View.canon_cons_of_not_mem (Val := Elt Ideal) _ _ ?_).trans ?_
      · rw [Rect.mem_set_unit]
        intro h
        have h := (h 0).1
        exact hb h
      have he : (Rect.unit ![0, 0] ![16, 512] inb_S288x512_S16x512_0_0 : Rect S288x512).emb (ix2 ⟨(e 0 : ℕ), by omega⟩ (e 1) : S16x512.Idx) = e := by
        funext a
        apply Fin.ext
        fin_cases a
        · show 0 + 1 * (e 0 : ℕ) = e 0
          omega
        · show 0 + 1 * (e 1 : ℕ) = e 1
          omega
      have hr := View.canon_cons_emb (Val := Elt Ideal) (Rect.unit ![0, 0] ![16, 512] inb_S288x512_S16x512_0_0 : Rect S288x512) wl Ls (ix2 ⟨(e 0 : ℕ), by omega⟩ (e 1) : S16x512.Idx)
      rw [he] at hr
      exact hr.trans (hl e _ rfl rfl)

/-- A gated linear unit: the first half times the logistic function of the second. -/
def GLU {s : Shape} (P Q : FVec Ideal s .f32) : FVec Ideal s .f32 := fun x => P x * Ideal.logistic (Q x)

/-- The second window of a tile: the gated linear unit of the tile's rows and its neighbours'. -/
def UWIN (c : Dev nD) (t : Fin cfg0.N) : FVec Ideal S288x512 .f32 :=
  EXT t.val (GLU (s := S16x512) (iblk m c 5 t) (iblk m c 6 t)) (GLU (s := S256x512) (iblk m c 3 t) (iblk m c 4 t)) (GLU (s := S16x512) (iblk m c 7 t) (iblk m c 8 t))

theorem window2 (c : Dev nD) (t : Fin cfg0.N) (e : S288x512.Idx) (Ls : List (View.Piece (Elt Ideal) S288x512 .f32)) :
    View.canon (Val := Elt Ideal) ((⟨(Rect.unit ![272, 0] ![16, 512] inb_S288x512_S16x512_272_0 : Rect S288x512),
        k0_pay78 (F := Ideal) (Scalar.cmpi CmpIPredicate.eq
        (Scalar.select
          (Scalar.andi
            (Scalar.xori (Scalar.cmpi CmpIPredicate.slt (Scalar.remsi (BitVec.ofNat 32 ↑(grid0.coords t 0)) 8#32) 0#32)
              0#1)
            (Scalar.cmpi CmpIPredicate.ne (Scalar.remsi (BitVec.ofNat 32 ↑(grid0.coords t 0)) 8#32) 0#32))
          (Scalar.addi (Scalar.remsi (BitVec.ofNat 32 ↑(grid0.coords t 0)) 8#32) 8#32)
          (Scalar.remsi (BitVec.ofNat 32 ↑(grid0.coords t 0)) 8#32))
        7#32) (iblk m c 7 t) (iblk m c 8 t)⟩ : View.Piece (Elt Ideal) S288x512 .f32) ::
      (⟨(Rect.unit ![16, 0] ![256, 512] inb_S288x512_S256x512_16_0 : Rect S288x512), k0_pay77 (F := Ideal) (iblk m c 3 t) (iblk m c 4 t)⟩ : View.Piece (Elt Ideal) S288x512 .f32) ::
      (⟨(Rect.unit ![0, 0] ![16, 512] inb_S288x512_S16x512_0_0 : Rect S288x512),
        k0_pay76 (F := Ideal) (Scalar.cmpi CmpIPredicate.eq
        (Scalar.select
          (Scalar.andi
            (Scalar.xori (Scalar.cmpi CmpIPredicate.slt (Scalar.remsi (BitVec.ofNat 32 ↑(grid0.coords t 0)) 8#32) 0#32)
              0#1)
            (Scalar.cmpi CmpIPredicate.ne (Scalar.remsi (BitVec.ofNat 32 ↑(grid0.coords t 0)) 8#32) 0#32))
          (Scalar.addi (Scalar.remsi (BitVec.ofNat 32 ↑(grid0.coords t 0)) 8#32) 8#32)
          (Scalar.remsi (BitVec.ofNat 32 ↑(grid0.coords t 0)) 8#32))
        0#32) (iblk m c 5 t) (iblk m c 6 t)⟩ : View.Piece (Elt Ideal) S288x512 .f32) :: Ls) e = UWIN m c t e := by
  refine canon3 _ _ _ Ls (UWIN m c t) (fun e x h0 h1 => ?_) (fun e x h0 h1 => ?_) (fun e x h0 h1 => ?_) e
  all_goals unfold UWIN
  · rw [EXT_hi _ _ _ _ e x h0 h1]; open_payloads; pointwise [GLU, Ideal.logistic, zero_sub]; exact sel_last t _ _
  · rw [EXT_mid _ _ _ _ e x h0 h1]; open_payloads; pointwise [GLU, Ideal.logistic, zero_sub]
  · rw [EXT_lo _ _ _ _ e x h0 h1]; open_payloads; pointwise [GLU, Ideal.logistic, zero_sub]; exact sel_first t _ _

set_option maxHeartbeats 1000000
theorem acc_A (c : Dev nD) (t : Fin cfg0.N) (h : t.val % 32 = 0) (y : S32x512.Idx) : (outsAt0 m c t.val t.isLt).2 y = ACC (fun _ => 0) (iblk m c 0 t) (UWIN m c t) 31 y := by
  rw [outsAt0_A m c t h]
  frame_out
  clear h
  refine ACC_step _ _ 30 31 (by omega) rfl _ _ _ _ _ _ rfl ?_ ?_ y
  · exact win_read _ _ 31 _ (fun e => window2 m c t e _)
  clear y; intro y
  refine ACC_step _ _ 29 30 (by omega) rfl _ _ _ _ _ _ rfl ?_ ?_ y
  · exact win_read _ _ 30 _ (fun e => window2 m c t e _)
  clear y; intro y
  refine ACC_step _ _ 28 29 (by omega) rfl _ _ _ _ _ _ rfl ?_ ?_ y
  · exact win_read _ _ 29 _ (fun e => window2 m c t e _)
  clear y; intro y
  refine ACC_step _ _ 27 28 (by omega) rfl _ _ _ _ _ _ rfl ?_ ?_ y
  · exact win_read _ _ 28 _ (fun e => window2 m c t e _)
  clear y; intro y
  refine ACC_step _ _ 26 27 (by omega) rfl _ _ _ _ _ _ rfl ?_ ?_ y
  · exact win_read _ _ 27 _ (fun e => window2 m c t e _)
  clear y; intro y
  refine ACC_step _ _ 25 26 (by omega) rfl _ _ _ _ _ _ rfl ?_ ?_ y
  · exact win_read _ _ 26 _ (fun e => window2 m c t e _)
  clear y; intro y
  refine ACC_step _ _ 24 25 (by omega) rfl _ _ _ _ _ _ rfl ?_ ?_ y
  · exact win_read _ _ 25 _ (fun e => window2 m c t e _)
  clear y; intro y
  refine ACC_step _ _ 23 24 (by omega) rfl _ _ _ _ _ _ rfl ?_ ?_ y
  · exact win_read _ _ 24 _ (fun e => window2 m c t e _)
  clear y; intro y
  refine ACC_step _ _ 22 23 (by omega) rfl _ _ _ _ _ _ rfl ?_ ?_ y
  · exact win_read _ _ 23 _ (fun e => window2 m c t e _)
  clear y; intro y
  refine ACC_step _ _ 21 22 (by omega) rfl _ _ _ _ _ _ rfl ?_ ?_ y
  · exact win_read _ _ 22 _ (fun e => window2 m c t e _)
  clear y; intro y
  refine ACC_step _ _ 20 21 (by omega) rfl _ _ _ _ _ _ rfl ?_ ?_ y
  · exact win_read _ _ 21 _ (fun e => window2 m c t e _)
  clear y; intro y
  refine ACC_step _ _ 19 20 (by omega) rfl _ _ _ _ _ _ rfl ?_ ?_ y
  · exact win_read _ _ 20 _ (fun e => window2 m c t e _)
  clear y; intro y
  refine ACC_step _ _ 18 19 (by omega) rfl _ _ _ _ _ _ rfl ?_ ?_ y
  · exact win_read _ _ 19 _ (fun e => window2 m c t e _)
  clear y; intro y
  refine ACC_step _ _ 17 18 (by omega) rfl _ _ _ _ _ _ rfl ?_ ?_ y
  · exact win_read _ _ 18 _ (fun e => window2 m c t e _)
  clear y; intro y
  refine ACC_step _ _ 16 17 (by omega) rfl _ _ _ _ _ _ rfl ?_ ?_ y
  · exact win_read _ _ 17 _ (fun e => window2 m c t e _)
  clear y; intro y
  refine ACC_step _ _ 15 16 (by omega) rfl _ _ _ _ _ _ rfl ?_ ?_ y
  · exact win_read _ _ 16 _ (fun e => window2 m c t e _)
  clear y; intro y
  refine ACC_step _ _ 14 15 (by omega) rfl _ _ _ _ _ _ rfl ?_ ?_ y
  · exact win_read _ _ 15 _ (fun e => window2 m c t e _)
  clear y; intro y
  refine ACC_step _ _ 13 14 (by omega) rfl _ _ _ _ _ _ rfl ?_ ?_ y
  · exact win_read _ _ 14 _ (fun e => window2 m c t e _)
  clear y; intro y
  refine ACC_step _ _ 12 13 (by omega) rfl _ _ _ _ _ _ rfl ?_ ?_ y
  · exact win_read _ _ 13 _ (fun e => window2 m c t e _)
  clear y; intro y
  refine ACC_step _ _ 11 12 (by omega) rfl _ _ _ _ _ _ rfl ?_ ?_ y
  · exact win_read _ _ 12 _ (fun e => window2 m c t e _)
  clear y; intro y
  refine ACC_step _ _ 10 11 (by omega) rfl _ _ _ _ _ _ rfl ?_ ?_ y
  · exact win_read _ _ 11 _ (fun e => window2 m c t e _)
  clear y; intro y
  refine ACC_step _ _ 9 10 (by omega) rfl _ _ _ _ _ _ rfl ?_ ?_ y
  · exact win_read _ _ 10 _ (fun e => window2 m c t e _)
  clear y; intro y
  refine ACC_step _ _ 8 9 (by omega) rfl _ _ _ _ _ _ rfl ?_ ?_ y
  · exact win_read _ _ 9 _ (fun e => window2 m c t e _)
  clear y; intro y
  refine ACC_step _ _ 7 8 (by omega) rfl _ _ _ _ _ _ rfl ?_ ?_ y
  · exact win_read _ _ 8 _ (fun e => window2 m c t e _)
  clear y; intro y
  refine ACC_step _ _ 6 7 (by omega) rfl _ _ _ _ _ _ rfl ?_ ?_ y
  · exact win_read _ _ 7 _ (fun e => window2 m c t e _)
  clear y; intro y
  refine ACC_step _ _ 5 6 (by omega) rfl _ _ _ _ _ _ rfl ?_ ?_ y
  · exact win_read _ _ 6 _ (fun e => window2 m c t e _)
  clear y; intro y
  refine ACC_step _ _ 4 5 (by omega) rfl _ _ _ _ _ _ rfl ?_ ?_ y
  · exact win_read _ _ 5 _ (fun e => window2 m c t e _)
  clear y; intro y
  refine ACC_step _ _ 3 4 (by omega) rfl _ _ _ _ _ _ rfl ?_ ?_ y
  · exact win_read _ _ 4 _ (fun e => window2 m c t e _)
  clear y; intro y
  refine ACC_step _ _ 2 3 (by omega) rfl _ _ _ _ _ _ rfl ?_ ?_ y
  · exact win_read _ _ 3 _ (fun e => window2 m c t e _)
  clear y; intro y
  refine ACC_step _ _ 1 2 (by omega) rfl _ _ _ _ _ _ rfl ?_ ?_ y
  · exact win_read _ _ 2 _ (fun e => window2 m c t e _)
  clear y; intro y
  refine ACC_step _ _ 0 1 (by omega) rfl _ _ _ _ _ _ rfl ?_ ?_ y
  · exact win_read _ _ 1 _ (fun e => window2 m c t e _)
  clear y; intro y
  unfold ACC
  rw [if_neg (Nat.not_lt_zero _)]
  canon_tiles x h
  open_payloads; pointwise

set_option maxHeartbeats 1000000
theorem acc_B (c : Dev nD) (t : Fin cfg0.N) (h : ¬ t.val % 32 = 0) (y : S32x512.Idx) : (outsAt0 m c t.val t.isLt).2 y = ACC (outsAt0 m c (t.val - 1) (by omega)).2 (iblk m c 0 t) (UWIN m c t) 31 y := by
  rw [outsAt0_B m c t h]
  frame_out
  generalize (outsAt0 m c (t.val - 1) _).2 = b
  refine ACC_stepB _ _ _ 30 31 (by omega) rfl _ _ _ _ _ _ rfl ?_ ?_ y
  · exact win_read _ _ 31 _ (fun e => window2 m c t e _)
  clear y; intro y
  refine ACC_stepB _ _ _ 29 30 (by omega) rfl _ _ _ _ _ _ rfl ?_ ?_ y
  · exact win_read _ _ 30 _ (fun e => window2 m c t e _)
  clear y; intro y
  refine ACC_stepB _ _ _ 28 29 (by omega) rfl _ _ _ _ _ _ rfl ?_ ?_ y
  · exact win_read _ _ 29 _ (fun e => window2 m c t e _)
  clear y; intro y
  refine ACC_stepB _ _ _ 27 28 (by omega) rfl _ _ _ _ _ _ rfl ?_ ?_ y
  · exact win_read _ _ 28 _ (fun e => window2 m c t e _)
  clear y; intro y
  refine ACC_stepB _ _ _ 26 27 (by omega) rfl _ _ _ _ _ _ rfl ?_ ?_ y
  · exact win_read _ _ 27 _ (fun e => window2 m c t e _)
  clear y; intro y
  refine ACC_stepB _ _ _ 25 26 (by omega) rfl _ _ _ _ _ _ rfl ?_ ?_ y
  · exact win_read _ _ 26 _ (fun e => window2 m c t e _)
  clear y; intro y
  refine ACC_stepB _ _ _ 24 25 (by omega) rfl _ _ _ _ _ _ rfl ?_ ?_ y
  · exact win_read _ _ 25 _ (fun e => window2 m c t e _)
  clear y; intro y
  refine ACC_stepB _ _ _ 23 24 (by omega) rfl _ _ _ _ _ _ rfl ?_ ?_ y
  · exact win_read _ _ 24 _ (fun e => window2 m c t e _)
  clear y; intro y
  refine ACC_stepB _ _ _ 22 23 (by omega) rfl _ _ _ _ _ _ rfl ?_ ?_ y
  · exact win_read _ _ 23 _ (fun e => window2 m c t e _)
  clear y; intro y
  refine ACC_stepB _ _ _ 21 22 (by omega) rfl _ _ _ _ _ _ rfl ?_ ?_ y
  · exact win_read _ _ 22 _ (fun e => window2 m c t e _)
  clear y; intro y
  refine ACC_stepB _ _ _ 20 21 (by omega) rfl _ _ _ _ _ _ rfl ?_ ?_ y
  · exact win_read _ _ 21 _ (fun e => window2 m c t e _)
  clear y; intro y
  refine ACC_stepB _ _ _ 19 20 (by omega) rfl _ _ _ _ _ _ rfl ?_ ?_ y
  · exact win_read _ _ 20 _ (fun e => window2 m c t e _)
  clear y; intro y
  refine ACC_stepB _ _ _ 18 19 (by omega) rfl _ _ _ _ _ _ rfl ?_ ?_ y
  · exact win_read _ _ 19 _ (fun e => window2 m c t e _)
  clear y; intro y
  refine ACC_stepB _ _ _ 17 18 (by omega) rfl _ _ _ _ _ _ rfl ?_ ?_ y
  · exact win_read _ _ 18 _ (fun e => window2 m c t e _)
  clear y; intro y
  refine ACC_stepB _ _ _ 16 17 (by omega) rfl _ _ _ _ _ _ rfl ?_ ?_ y
  · exact win_read _ _ 17 _ (fun e => window2 m c t e _)
  clear y; intro y
  refine ACC_stepB _ _ _ 15 16 (by omega) rfl _ _ _ _ _ _ rfl ?_ ?_ y
  · exact win_read _ _ 16 _ (fun e => window2 m c t e _)
  clear y; intro y
  refine ACC_stepB _ _ _ 14 15 (by omega) rfl _ _ _ _ _ _ rfl ?_ ?_ y
  · exact win_read _ _ 15 _ (fun e => window2 m c t e _)
  clear y; intro y
  refine ACC_stepB _ _ _ 13 14 (by omega) rfl _ _ _ _ _ _ rfl ?_ ?_ y
  · exact win_read _ _ 14 _ (fun e => window2 m c t e _)
  clear y; intro y
  refine ACC_stepB _ _ _ 12 13 (by omega) rfl _ _ _ _ _ _ rfl ?_ ?_ y
  · exact win_read _ _ 13 _ (fun e => window2 m c t e _)
  clear y; intro y
  refine ACC_stepB _ _ _ 11 12 (by omega) rfl _ _ _ _ _ _ rfl ?_ ?_ y
  · exact win_read _ _ 12 _ (fun e => window2 m c t e _)
  clear y; intro y
  refine ACC_stepB _ _ _ 10 11 (by omega) rfl _ _ _ _ _ _ rfl ?_ ?_ y
  · exact win_read _ _ 11 _ (fun e => window2 m c t e _)
  clear y; intro y
  refine ACC_stepB _ _ _ 9 10 (by omega) rfl _ _ _ _ _ _ rfl ?_ ?_ y
  · exact win_read _ _ 10 _ (fun e => window2 m c t e _)
  clear y; intro y
  refine ACC_stepB _ _ _ 8 9 (by omega) rfl _ _ _ _ _ _ rfl ?_ ?_ y
  · exact win_read _ _ 9 _ (fun e => window2 m c t e _)
  clear y; intro y
  refine ACC_stepB _ _ _ 7 8 (by omega) rfl _ _ _ _ _ _ rfl ?_ ?_ y
  · exact win_read _ _ 8 _ (fun e => window2 m c t e _)
  clear y; intro y
  refine ACC_stepB _ _ _ 6 7 (by omega) rfl _ _ _ _ _ _ rfl ?_ ?_ y
  · exact win_read _ _ 7 _ (fun e => window2 m c t e _)
  clear y; intro y
  refine ACC_stepB _ _ _ 5 6 (by omega) rfl _ _ _ _ _ _ rfl ?_ ?_ y
  · exact win_read _ _ 6 _ (fun e => window2 m c t e _)
  clear y; intro y
  refine ACC_stepB _ _ _ 4 5 (by omega) rfl _ _ _ _ _ _ rfl ?_ ?_ y
  · exact win_read _ _ 5 _ (fun e => window2 m c t e _)
  clear y; intro y
  refine ACC_stepB _ _ _ 3 4 (by omega) rfl _ _ _ _ _ _ rfl ?_ ?_ y
  · exact win_read _ _ 4 _ (fun e => window2 m c t e _)
  clear y; intro y
  refine ACC_stepB _ _ _ 2 3 (by omega) rfl _ _ _ _ _ _ rfl ?_ ?_ y
  · exact win_read _ _ 3 _ (fun e => window2 m c t e _)
  clear y; intro y
  refine ACC_stepB _ _ _ 1 2 (by omega) rfl _ _ _ _ _ _ rfl ?_ ?_ y
  · exact win_read _ _ 2 _ (fun e => window2 m c t e _)
  clear y; intro y
  refine ACC_stepB _ _ _ 0 1 (by omega) rfl _ _ _ _ _ _ rfl ?_ ?_ y
  · exact win_read _ _ 1 _ (fun e => window2 m c t e _)
  clear y; intro y
  unfold ACC
  rw [if_neg (Nat.not_lt_zero _)]
  exact congrFun (Memref.IsWhole.read_unread _ _) y

end Cert.ConvBwdIdeal.Hand
-- ==== Proof.ConvFinal.lean ====
module
public import proofs.«01_k».proof.Proof.ConvStrips
public import proofs.«01_k».proof.Proof.ConvAcc
public import Idealize.ShloMosaic.Lib.Pipeline.ValueKit
public import Idealize.ShloMosaic.Lib.Pointwise
@[expose] public section
set_option maxRecDepth 16384
noncomputable section
namespace Cert.ConvBwdIdeal.Hand
open Cert.ConvBwdIdeal Cert.ConvBwdIdeal.Gen Idealize.ShloMosaic Idealize.ShloMosaic.TcCoe Idealize.SL.Sem
open Idealize.ShloMosaic.Pipeline (Dat)
variable (m : (ℓ : Loc nD τ sig) → Buf (Elt Ideal) ℓ)

/-- The output's gradient, the projected array and the filter, as device `c` holds them. -/
def dY (c : Dev nD) : FVec Ideal S8192x512 .f32 := m ((c : Thread nD τ).loc main_arg0)
def pR (c : Dev nD) : FVec Ideal S8192x3072 .f32 := m ((c : Thread nD τ).loc main_arg1)
def wF (c : Dev nD) : FVec Ideal S31x512 .f32 := m ((c : Thread nD τ).loc main_arg2)

theorem idx : ∀ t : Fin cfg0.N, win0_0.index t = ![t.val, 0] ∧ win0_1.index t = ![16 * t.val - 1, 0] ∧ win0_2.index t = ![min (16 * t.val + 16) 511, 0]
    ∧ win0_3.index t = ![t.val, 4] ∧ win0_4.index t = ![t.val, 5] ∧ win0_5.index t = ![16 * t.val - 1, 4] ∧ win0_6.index t = ![16 * t.val - 1, 5]
    ∧ win0_7.index t = ![min (16 * t.val + 16) 511, 4] ∧ win0_8.index t = ![min (16 * t.val + 16) 511, 5] ∧ win0_9.index t = ![0, 0]
    ∧ win0_10.index t = ![t.val, 0] ∧ win0_11.index t = ![0, 0] ∧ t.val < 32 :=
  (by decide +kernel : ∀ t : Fin grid0.N, _)

/-- The sixteen-row blocks before and after tile `n`. -/
def before (n : ℕ) : ℕ := 16 * (16 * n - 1)
def after (n : ℕ) : ℕ := 16 * min (16 * n + 16) 511

theorem blk0 (c : Dev nD) (t : Fin cfg0.N) (r : Fin 256) (l : Fin 512) (h : 256 * t.val + r < 8192) :
    (show FVec Ideal S256x512 .f32 from iblk m c 0 t) (ix2 r l) = dY m c (ix2 ⟨256 * t.val + r, h⟩ l) := by
  show iblk m c 0 t (ix2 r l) = m ((c : Thread nD τ).loc main_arg0) _
  blk_ext [iblk, V, idx t]

theorem blk1 (c : Dev nD) (t : Fin cfg0.N) (r : Fin 16) (l : Fin 512) (h : before t.val + r < 8192) :
    (show FVec Ideal S16x512 .f32 from iblk m c 1 t) (ix2 r l) = dY m c (ix2 ⟨before t.val + r, h⟩ l) := by
  show iblk m c 1 t (ix2 r l) = m ((c : Thread nD τ).loc main_arg0) _
  unfold before
  blk_ext [iblk, V, idx t]

theorem blk2 (c : Dev nD) (t : Fin cfg0.N) (r : Fin 16) (l : Fin 512) (h : after t.val + r < 8192) :
    (show FVec Ideal S16x512 .f32 from iblk m c 2 t) (ix2 r l) = dY m c (ix2 ⟨after t.val + r, h⟩ l) := by
  show iblk m c 2 t (ix2 r l) = m ((c : Thread nD τ).loc main_arg0) _
  unfold after
  blk_ext [iblk, V, idx t]

theorem blk3 (c : Dev nD) (t : Fin cfg0.N) (r : Fin 256) (l : Fin 512) (h : 256 * t.val + r < 8192) :
    (show FVec Ideal S256x512 .f32 from iblk m c 3 t) (ix2 r l) = pR m c (ix2 ⟨256 * t.val + r, h⟩ ⟨2048 + l, by omega⟩) := by
  show iblk m c 3 t (ix2 r l) = m ((c : Thread nD τ).loc main_arg1) _
  blk_ext [iblk, V, idx t]

theorem blk4 (c : Dev nD) (t : Fin cfg0.N) (r : Fin 256) (l : Fin 512) (h : 256 * t.val + r < 8192) :
    (show FVec Ideal S256x512 .f32 from iblk m c 4 t) (ix2 r l) = pR m c (ix2 ⟨256 * t.val + r, h⟩ ⟨2560 + l, by omega⟩) := by
  show iblk m c 4 t (ix2 r l) = m ((c : Thread nD τ).loc main_arg1) _
  blk_ext [iblk, V, idx t]

theorem blk5 (c : Dev nD) (t : Fin cfg0.N) (r : Fin 16) (l : Fin 512) (h : before t.val + r < 8192) :
    (show FVec Ideal S16x512 .f32 from iblk m c 5 t) (ix2 r l) = pR m c (ix2 ⟨before t.val + r, h⟩ ⟨2048 + l, by omega⟩) := by
  show iblk m c 5 t (ix2 r l) = m ((c : Thread nD τ).loc main_arg1) _
  unfold before
  blk_ext [iblk, V, idx t]

theorem blk6 (c : Dev nD) (t : Fin cfg0.N) (r : Fin 16) (l : Fin 512) (h : before t.val + r < 8192) :
    (show FVec Ideal S16x512 .f32 from iblk m c 6 t) (ix2 r l) = pR m c (ix2 ⟨before t.val + r, h⟩ ⟨2560 + l, by omega⟩) := by
  show iblk m c 6 t (ix2 r l) = m ((c : Thread nD τ).loc main_arg1) _
  unfold before
  blk_ext [iblk, V, idx t]

theorem blk7 (c : Dev nD) (t : Fin cfg0.N) (r : Fin 16) (l : Fin 512) (h : after t.val + r < 8192) :
    (show FVec Ideal S16x512 .f32 from iblk m c 7 t) (ix2 r l) = pR m c (ix2 ⟨after t.val + r, h⟩ ⟨2048 + l, by omega⟩) := by
  show iblk m c 7 t (ix2 r l) = m ((c : Thread nD τ).loc main_arg1) _
  unfold after
  blk_ext [iblk, V, idx t]

theorem blk8 (c : Dev nD) (t : Fin cfg0.N) (r : Fin 16) (l : Fin 512) (h : after t.val + r < 8192) :
    (show FVec Ideal S16x512 .f32 from iblk m c 8 t) (ix2 r l) = pR m c (ix2 ⟨after t.val + r, h⟩ ⟨2560 + l, by omega⟩) := by
  show iblk m c 8 t (ix2 r l) = m ((c : Thread nD τ).loc main_arg1) _
  unfold after
  blk_ext [iblk, V, idx t]

theorem blk9 (c : Dev nD) (t : Fin cfg0.N) (k : Fin 31) (l : Fin 512) :
    (show FVec Ideal S31x512 .f32 from iblk m c 9 t) (ix2 k l) = wF m c (ix2 k l) := by
  show iblk m c 9 t (ix2 k l) = m ((c : Thread nD τ).loc main_arg2) _
  blk_ext [iblk, V, idx t]

/-- Sequence `b` of the array `A` with fifteen rows of zeros before it and after it, at row `s` and channel `l`. -/
def SQ (A : FVec Ideal S8192x512 .f32) (b s : ℕ) (l : Fin 512) : EReal :=
  if h : 15 ≤ s ∧ s < 2063 ∧ b < 4 then A (ix2 ⟨2048 * b + (s - 15), by omega⟩ l) else 0

/-- The window of tile `n` is a stretch of the padded sequence the tile lies in. -/
theorem EXT_SQ (n : ℕ) (hn : n < 32) (A : FVec Ideal S8192x512 .f32) (Z0 : FVec Ideal S16x512 .f32) (X : FVec Ideal S256x512 .f32) (Z1 : FVec Ideal S16x512 .f32)
    (h0 : ∀ (r : Fin 16) (l : Fin 512) (h : before n + r < 8192), Z0 (ix2 r l) = A (ix2 ⟨before n + r, h⟩ l))
    (hX : ∀ (r : Fin 256) (l : Fin 512) (h : 256 * n + r < 8192), X (ix2 r l) = A (ix2 ⟨256 * n + r, h⟩ l))
    (h1 : ∀ (r : Fin 16) (l : Fin 512) (h : after n + r < 8192), Z1 (ix2 r l) = A (ix2 ⟨after n + r, h⟩ l))
    (e : ℕ) (he : e < 288) (he1 : 1 ≤ e) (he2 : e ≤ 286) (l : Fin 512) :
    EXT n Z0 X Z1 (ix2 ⟨e, he⟩ l) = SQ A (n / 8) (n % 8 * 256 + e - 1) l := by
  unfold EXT SQ
  show (if h : e < 16 then (if n % 8 = 0 then 0 else Z0 (ix2 ⟨e, h⟩ l))
    else if h' : e < 272 then X (ix2 ⟨e - 16, by omega⟩ l)
    else if n % 8 = 7 then 0 else Z1 (ix2 ⟨e - 272, by omega⟩ l)) = _
  have hd := Nat.div_add_mod n 8
  have hm : n % 8 < 8 := Nat.mod_lt _ (by decide)
  have hb : before n = 16 * (16 * n - 1) := rfl
  have ha : after n = 16 * min (16 * n + 16) 511 := rfl
  by_cases c1 : e < 16
  · rw [dif_pos c1]
    by_cases c2 : n % 8 = 0
    · rw [if_pos c2, dif_neg (by omega)]
    · rw [if_neg c2, dif_pos (by omega), h0 _ _ (by show before n + e < 8192; omega)]
      exact congrArg A (congrArg₂ ix2 (Fin.ext (by show before n + e = 2048 * (n / 8) + (n % 8 * 256 + e - 1 - 15); omega)) rfl)
  · rw [dif_neg c1]
    by_cases c2 : e < 272
    · rw [dif_pos c2, dif_pos (by omega), hX _ _ (by show 256 * n + (e - 16) < 8192; omega)]
      exact congrArg A (congrArg₂ ix2 (Fin.ext (by show 256 * n + (e - 16) = 2048 * (n / 8) + (n % 8 * 256 + e - 1 - 15); omega)) rfl)
    · rw [dif_neg c2]
      by_cases c3 : n % 8 = 7
      · rw [if_pos c3, dif_neg (by omega)]
      · rw [if_neg c3, dif_pos (by omega), h1 _ _ (by show after n + (e - 272) < 8192; omega)]
        exact congrArg A (congrArg₂ ix2 (Fin.ext (by show after n + (e - 272) = 2048 * (n / 8) + (n % 8 * 256 + e - 1 - 15); omega)) rfl)

/-- The convolution's input: the gated linear unit of the projected array's last two blocks of columns. -/
def U (P : FVec Ideal S8192x3072 .f32) : FVec Ideal S8192x512 .f32 := fun j =>
  P (ix2 (j 0) ⟨2048 + j 1, by have : (j 1 : ℕ) < 512 := (j 1).isLt; omega⟩) * Ideal.logistic (P (ix2 (j 0) ⟨2560 + j 1, by have : (j 1 : ℕ) < 512 := (j 1).isLt; omega⟩))

/-- The gradient of the convolution's input at row `R`: the gradient of its output read against the filter backwards. -/
def DUR (A : FVec Ideal S8192x512 .f32) (W : FVec Ideal S31x512 .f32) (R : Fin 8192) (l : Fin 512) : EReal :=
  ∑ k : Fin 31, SQ A ((R : ℕ) / 2048) ((R : ℕ) % 2048 + 30 - k) l * W (ix2 k l)

/-- The gradient of the gated linear unit's two halves. -/
def DP (A : FVec Ideal S8192x512 .f32) (P : FVec Ideal S8192x3072 .f32) (W : FVec Ideal S31x512 .f32) : FVec Ideal S8192x1024 .f32 := fun j =>
  if h : (j 1 : ℕ) < 512 then DUR A W (j 0) ⟨j 1, h⟩ * Ideal.logistic (P (ix2 (j 0) ⟨2560 + j 1, by omega⟩))
  else DUR A W (j 0) ⟨j 1 - 512, by have : (j 1 : ℕ) < 1024 := (j 1).isLt; omega⟩ * P (ix2 (j 0) ⟨2048 + (j 1 - 512), by have : (j 1 : ℕ) < 1024 := (j 1).isLt; omega⟩)
    * Ideal.logistic (P (ix2 (j 0) ⟨2560 + (j 1 - 512), by have : (j 1 : ℕ) < 1024 := (j 1).isLt; omega⟩))
    * (1 - Ideal.logistic (P (ix2 (j 0) ⟨2560 + (j 1 - 512), by have : (j 1 : ℕ) < 1024 := (j 1).isLt; omega⟩)))

/-- The gradient of the filter, with the row of zeros below it: each row adds, over all positions, the gradient of the output against the
    convolution's input shifted by the row's number. -/
def DDW (A : FVec Ideal S8192x512 .f32) (P : FVec Ideal S8192x3072 .f32) : FVec Ideal S32x512 .f32 := fun j =>
  if (j 0 : ℕ) < 31 then ∑ R : Fin 8192, A (ix2 R (j 1)) * SQ (U P) ((R : ℕ) / 2048) ((R : ℕ) % 2048 + j 0) (j 1) else 0

theorem DU_DUR (c : Dev nD) (t : Fin cfg0.N) (r : Fin 256) (l : Fin 512) (R : Fin 8192) (hR : (R : ℕ) = 256 * t.val + r) :
    DU (EXT t.val (iblk m c 1 t) (iblk m c 0 t) (iblk m c 2 t)) (iblk m c 9 t) r l = DUR (dY m c) (wF m c) R l := by
  have ht : t.val < 32 := (idx t).2.2.2.2.2.2.2.2.2.2.2.2
  have hd := Nat.div_add_mod t.val 8
  unfold DU DUR
  refine Finset.sum_congr rfl fun k _ => ?_
  refine congrArg₂ (· * ·) ?_ (blk9 m c t k l)
  rw [EXT_SQ t.val ht (dY m c) _ _ _ (blk1 m c t) (blk0 m c t) (blk2 m c t) _ _ (by omega) (by omega)]
  exact congrArg₂ (fun b s => SQ (dY m c) b s l) (by omega) (by omega)

theorem strips (c : Dev nD) (t : Fin cfg0.N) (y : S256x1024.Idx) (j : S8192x1024.Idx) (h0 : (j 0 : ℕ) = 256 * t.val + y 0) (h1 : (j 1 : ℕ) = y 1) :
    (outsAt0 m c t.val t.isLt).1 y = DP (dY m c) (pR m c) (wF m c) j := by
  have ht : t.val < 32 := (idx t).2.2.2.2.2.2.2.2.2.2.2.2
  have hy0 : (y 0 : ℕ) < 256 := (y 0).isLt
  have hy1 : (y 1 : ℕ) < 1024 := (y 1).isLt
  have e : (outsAt0 m c t.val t.isLt).1 y = G (EXT t.val (iblk m c 1 t) (iblk m c 0 t) (iblk m c 2 t)) (iblk m c 9 t) (iblk m c 3 t) (iblk m c 4 t) y := by
    by_cases h : t.val % 32 = 0
    · exact strips_A m c t h y
    · exact strips_B m c t h y
  rw [e]
  have hj : ∀ h, (⟨256 * t.val + (y 0 : ℕ), h⟩ : Fin 8192) = j 0 := fun h => Fin.ext h0.symm
  unfold DP
  by_cases hc : (y 1 : ℕ) < 512
  · rw [dif_pos (by omega), G_left _ _ _ _ y (y 0) ⟨y 1, hc⟩ rfl rfl, DU_DUR m c t (y 0) ⟨y 1, hc⟩ (j 0) h0]
    refine congrArg₂ (· * ·) ?_ (congrArg Ideal.logistic ?_)
    · exact congrArg (DUR _ _ _) (Fin.ext h1.symm)
    · refine (blk4 m c t (y 0) ⟨y 1, hc⟩ (by omega)).trans ?_
      exact congrArg (pR m c) (congrArg₂ ix2 (hj _) (Fin.ext (by show 2560 + (y 1 : ℕ) = 2560 + (j 1 : ℕ); omega)))
  · rw [dif_neg (by omega), G_right _ _ _ _ y (y 0) ⟨y 1 - 512, by omega⟩ rfl (by show (y 1 : ℕ) = 512 + (y 1 - 512); omega), DU_DUR m c t (y 0) ⟨y 1 - 512, by omega⟩ (j 0) h0]
    have e4 := (blk4 m c t (y 0) ⟨y 1 - 512, by omega⟩ (by omega)).trans
      (congrArg (pR m c) (congrArg₂ ix2 (hj _) (Fin.ext (by show 2560 + ((y 1 : ℕ) - 512) = 2560 + ((j 1 : ℕ) - 512); omega) : _ = (⟨2560 + ((j 1 : ℕ) - 512), by omega⟩ : Fin 3072))))
    have e3 := (blk3 m c t (y 0) ⟨y 1 - 512, by omega⟩ (by omega)).trans
      (congrArg (pR m c) (congrArg₂ ix2 (hj _) (Fin.ext (by show 2048 + ((y 1 : ℕ) - 512) = 2048 + ((j 1 : ℕ) - 512); omega) : _ = (⟨2048 + ((j 1 : ℕ) - 512), by omega⟩ : Fin 3072))))
    refine congrArg₂ (· * ·) (congrArg₂ (· * ·) (congrArg₂ (· * ·) ?_ e3) (congrArg Ideal.logistic e4)) (congrArg (fun z => 1 - Ideal.logistic z) e4)
    exact congrArg (DUR _ _ _) (Fin.ext (by show (y 1 : ℕ) - 512 = (j 1 : ℕ) - 512; omega))

theorem final10 (c : Dev nD) : (dats m 0 c).arrAt 10 cfg0.N = DP (dY m c) (pR m c) (wF m c) := by
  refine (dats m 0 c).arrAt_eq_of_covers 10 _ (by decide +kernel) fun t _ y => ?_
  blk_simp
  rw [after0_10]
  refine strips m c t y _ ?_ ?_ <;> blk_simp [idx t] <;> omega

theorem UWIN_SQ (c : Dev nD) (t : Fin cfg0.N) (e : ℕ) (he : e < 288) (he1 : 1 ≤ e) (he2 : e ≤ 286) (l : Fin 512) :
    UWIN m c t (ix2 ⟨e, he⟩ l) = SQ (U (pR m c)) (t.val / 8) (t.val % 8 * 256 + e - 1) l := by
  have ht : t.val < 32 := (idx t).2.2.2.2.2.2.2.2.2.2.2.2
  unfold UWIN
  refine EXT_SQ t.val ht (U (pR m c)) _ _ _ (fun r l h => ?_) (fun r l h => ?_) (fun r l h => ?_) e he he1 he2 l
  · exact congrArg₂ (fun a b => a * Ideal.logistic b) (blk5 m c t r l h) (blk6 m c t r l h)
  · exact congrArg₂ (fun a b => a * Ideal.logistic b) (blk3 m c t r l h) (blk4 m c t r l h)
  · exact congrArg₂ (fun a b => a * Ideal.logistic b) (blk7 m c t r l h) (blk8 m c t r l h)

/-- What the point `t` adds to the accumulator. -/
def TERM (c : Dev nD) (t : Fin cfg0.N) (y : S32x512.Idx) : EReal :=
  if (y 0 : ℕ) < 31 then ROW (iblk m c 0 t) (UWIN m c t) (y 0) (y 1) else 0

theorem ACC_TERM (c : Dev nD) (t : Fin cfg0.N) (b : FVec Ideal S32x512 .f32) (y : S32x512.Idx) :
    ACC b (iblk m c 0 t) (UWIN m c t) 31 y = b y + TERM m c t y := by
  unfold ACC TERM
  by_cases h : (y 0 : ℕ) < 31
  · rw [if_pos h, if_pos h]
  · rw [if_neg h, if_neg h, add_zero]

theorem acc (c : Dev nD) (t : Fin cfg0.N) (ht : t.val % 32 = 31) (y : S32x512.Idx) : (outsAt0 m c t.val t.isLt).2 y = DDW (dY m c) (pR m c) y := by
  rw [Pipeline.eq_sum_fin_of_reset_step_apply_of_flush (fun n h => (outsAt0 m c n h).2) 32 (fun _ => (0 : EReal)) (TERM m c)
    (fun t h j => (acc_A m c t h j).trans (ACC_TERM m c t _ j)) (fun t h j => (acc_B m c t h j).trans (ACC_TERM m c t _ j)) t ht y]
  have hlt : t.val < 32 := (idx t).2.2.2.2.2.2.2.2.2.2.2.2
  refine (zero_add _).trans ?_
  unfold DDW TERM
  by_cases h : (y 0 : ℕ) < 31
  · rw [if_pos h]
    simp only [if_pos h]
    unfold ROW
    refine Fin.sum_mul_add_congr fun s r hl => ?_
    have e0 : 32 * (t.val / 32) + (s : ℕ) = s := by omega
    have hy : ((⟨(s : ℕ) * 256 + r, hl⟩ : Fin 8192) : ℕ) = s * 256 + r := rfl
    refine congrArg₂ (· * ·) ?_ ?_
    · refine (blk0 m c _ r (y 1) (by show 256 * (32 * (t.val / 32) + (s : ℕ)) + (r : ℕ) < 8192; omega)).trans ?_
      exact congrArg (dY m c) (congrArg₂ ix2 (Fin.ext (by show 256 * (32 * (t.val / 32) + (s : ℕ)) + (r : ℕ) = s * 256 + r; omega)) rfl)
    · refine (UWIN_SQ m c _ _ _ (by show 1 ≤ (y 0 : ℕ) + 1 + r; omega) (by show (y 0 : ℕ) + 1 + r ≤ 286; omega) (y 1)).trans ?_
      exact congrArg₂ (fun b k => SQ (U (pR m c)) b k (y 1)) (by show (32 * (t.val / 32) + (s : ℕ)) / 8 = (s * 256 + r) / 2048; omega)
        (by show (32 * (t.val / 32) + (s : ℕ)) % 8 * 256 + ((y 0 : ℕ) + 1 + r) - 1 = (s * 256 + r) % 2048 + y 0; omega)
  · rw [if_neg h]
    simp only [if_neg h, Finset.sum_const_zero]

theorem final11 (c : Dev nD) : (dats m 0 c).arrAt 11 cfg0.N = DDW (dY m c) (pR m c) := by
  refine (dats m 0 c).arrAt_eq_of_covers 11 _ (by decide +kernel) fun t hf y => ?_
  blk_simp
  rw [after0_11]
  refine (acc m c t ((flush0_11 t).mp hf) y).trans (congrArg _ ?_)
  funext a
  apply Fin.ext
  fin_cases a <;> blk_simp [idx t]

end Cert.ConvBwdIdeal.Hand
-- ==== Proof.ConvRef.lean ====
module
public import proofs.«01_k».proof.Proof.Gen.ConvBwdRefIdeal.Run
public import proofs.«01_k».proof.Proof.ConvFinal
public import Idealize.ShloMosaic.Lib.Pipeline.ValueKit
public import Idealize.ShloMosaic.Lib.Pointwise
/-! The reference's host code read at indices: the gated input framed by fifteen zeros, its
thirty-one windows, and the sum of shifted products that is the gradient of the gate's output. -/

@[expose] public section
set_option maxRecDepth 16384
noncomputable section
namespace Cert.ConvBwdRefIdeal.Hand
open Cert.ConvBwdRefIdeal Cert.ConvBwdRefIdeal.Gen Cert.ConvBwdRefIdeal.Value Idealize.ShloMosaic Idealize.ShloMosaic.TcCoe Idealize.SL.Sem
open Cert.ConvBwdIdeal.Hand (SQ U DUR DP DDW)
variable (V0 : Valuation τ sig (Elt Ideal))

/-- The gradient that comes in. -/
abbrev A0 : FVec Ideal S8192x512 .f32 := V0 (Proc.tc.devRef main_arg0)
/-- The projection's output. -/
abbrev P0 : FVec Ideal S8192x3072 .f32 := V0 (Proc.tc.devRef main_arg1)
/-- The filter. -/
abbrev W0 : FVec Ideal S31x512 .f32 := V0 (Proc.tc.devRef main_arg2)

/-- The framed sequence. -/
abbrev X15 : FVec Ideal S4x2078x512 .f32 := res_main_v15 V0

theorem r2 (b : Fin 4) (t : Fin 2048) (l : Fin 512) :
    (show FVec Ideal S4x2048x512 .f32 from res_main_v2 V0) (ix3 b t l)
      = P0 V0 (ix2 ⟨b * 2048 + t, by omega⟩ ⟨2048 + l, by omega⟩) := by
  show res_main_v2 V0 (ix3 b t l) = _
  pointwise [res_main_v2, res_main_v1]

theorem r9 (b : Fin 4) (t : Fin 2048) (l : Fin 512) :
    (show FVec Ideal S4x2048x512 .f32 from res_main_v9 V0) (ix3 b t l)
      = Ideal.logistic (P0 V0 (ix2 ⟨b * 2048 + t, by omega⟩ ⟨2560 + l, by omega⟩)) := by
  show res_main_v9 V0 (ix3 b t l) = _
  pointwise [res_main_v9, res_main_v1]
  unfold Ideal.logistic
  refine congrArg (fun x => Ideal.div 1 (1 + Ideal.exp (-x))) ?_
  exact congrArg (P0 V0) (congrArg₂ ix2 rfl (Fin.ext (by show 2048 + (512 + (l : ℕ)) = 2560 + l; omega)))

/-- The framed sequence of the gated input. -/
theorem r15 (b : Fin 4) (s : Fin 2078) (l : Fin 512) :
    (show FVec Ideal S4x2078x512 .f32 from res_main_v15 V0) (ix3 b s l)
      = SQ (U (P0 V0)) b s l := by
  show res_main_v15 V0 (ix3 b s l) = _
  pointwise [res_main_v15, res_main_v14]
  unfold SQ
  by_cases h1 : (s : ℕ) < 15
  · rw [dif_pos h1, dif_neg (by omega)]
  · rw [dif_neg h1]
    by_cases h2 : (s : ℕ) - 15 < 2048
    · rw [dif_pos h2, dif_pos (by omega)]
      refine (congrArg₂ (· * ·) (r2 V0 b ⟨s - 15, h2⟩ l) (r9 V0 b ⟨s - 15, h2⟩ l)).trans ?_
      unfold U
      refine congrArg₂ (fun x y => P0 V0 x * Ideal.logistic (P0 V0 y)) ?_ ?_
      · exact congrArg₂ ix2 (Fin.ext (by show (b : ℕ) * 2048 + (s - 15) = 2048 * b + (s - 15); omega)) rfl
      · exact congrArg₂ ix2 (Fin.ext (by show (b : ℕ) * 2048 + (s - 15) = 2048 * b + (s - 15); omega)) rfl
    · rw [dif_neg h2, dif_neg (by omega)]

theorem r93 (k : Fin 31) (b : Fin 4) (t : Fin 2048) (l : Fin 512) :
    (show FVec Ideal S31x4x2048x512 .f32 from res_main_v93 V0) (ix4 k b t l)
      = A0 V0 (ix2 ⟨b * 2048 + t, by omega⟩ l) * W0 V0 (ix2 k l) := by
  show res_main_v93 V0 (ix4 k b t l) = _
  pointwise [res_main_v93, res_main_v88, res_main_v83]

theorem r88 (k : Fin 31) (b : Fin 4) (t : Fin 2048) (l : Fin 512) :
    (show FVec Ideal S31x4x2048x512 .f32 from res_main_v88 V0) (ix4 k b t l)
      = A0 V0 (ix2 ⟨b * 2048 + t, by omega⟩ l) := by
  show res_main_v88 V0 (ix4 k b t l) = _
  pointwise [res_main_v88]

/-- A choice is a value if both its branches are. -/
theorem pick {α : Type} {p : Prop} [Decidable p] {f : p → α} {g : ¬ p → α} {x : α}
    (hf : ∀ h, f h = x) (hg : ∀ h, g h = x) : dite p f g = x := by
  by_cases h : p
  · rw [dif_pos h]; exact hf h
  · rw [dif_neg h]; exact hg h

/-- The framed sequence at equal positions. -/
theorem x15 (b : Fin 4) (l : Fin 512) {s s' : Fin 2078} (h : (s : ℕ) = s') :
    X15 V0 (ix3 b s l) = X15 V0 (ix3 b s' l) := by
  rw [Fin.ext h]

/-- Window `k` of the stack. -/
theorem r82 (k : Fin 31) (b : Fin 4) (t : Fin 2048) (l : Fin 512) :
    (show FVec Ideal S31x4x2048x512 .f32 from res_main_v82 V0) (ix4 k b t l)
      = (show FVec Ideal S4x2078x512 .f32 from res_main_v15 V0) (ix3 b ⟨t + k, by omega⟩ l) := by
  show res_main_v82 V0 (ix4 k b t l) = _
  pointwise [res_main_v82, res_main_v80, res_main_v81]
  repeat' refine pick (fun h => ?_) (fun h => ?_)
  all_goals exact x15 V0 b l (by
    first
    | (show (t : ℕ) = t + k; omega)
    | (simp only []; omega))

/-- One shifted product of the gradient's sum. -/
theorem shifted (k : Fin 31) (n : ℕ) (hn : n = k) (b : Fin 4) (t : Fin 2048) (l : Fin 512) :
    (if h : n ≤ 15 + (t : ℕ) ∧ 15 + (t : ℕ) - n < 2048 then
        (show FVec Ideal S31x4x2048x512 .f32 from res_main_v93 V0)
          (ix4 k b ⟨15 + t - n, h.2⟩ l) else 0)
      = SQ (A0 V0) b (t + 30 - k) l * W0 V0 (ix2 k l) := by
  subst hn
  unfold SQ
  by_cases h : (k : ℕ) ≤ 15 + (t : ℕ) ∧ 15 + (t : ℕ) - k < 2048
  · rw [dif_pos h, dif_pos (by omega), r93]
    exact congrArg (fun x => A0 V0 x * _) (congrArg₂ ix2 (Fin.ext (by
      show (b : ℕ) * 2048 + (15 + t - k) = 2048 * b + (t + 30 - k - 15); omega)) rfl)
  · rw [dif_neg h, dif_neg (by omega), zero_mul]

theorem shifted_first (b : Fin 4) (t : Fin 2048) (l : Fin 512) :
    (if h : 15 + (t : ℕ) < 2048 then
        (show FVec Ideal S31x4x2048x512 .f32 from res_main_v93 V0) (ix4 0 b ⟨15 + t, h⟩ l) else 0)
      = SQ (A0 V0) b (t + 30 - (0 : Fin 31)) l * W0 V0 (ix2 0 l) := by
  rw [← shifted V0 0 0 rfl b t l]
  by_cases h : 15 + (t : ℕ) < 2048
  · rw [dif_pos h, dif_pos (by omega)]
    rfl
  · rw [dif_neg h, dif_neg (by omega)]

theorem shifted_mid (b : Fin 4) (t : Fin 2048) (l : Fin 512) :
    (show FVec Ideal S31x4x2048x512 .f32 from res_main_v93 V0) (ix4 15 b t l)
      = SQ (A0 V0) b (t + 30 - (15 : Fin 31)) l * W0 V0 (ix2 15 l) := by
  rw [← shifted V0 15 15 rfl b t l, dif_pos (by omega)]
  refine congrArg (fun y => (show FVec Ideal S31x4x2048x512 .f32 from res_main_v93 V0)
    (ix4 15 b y l)) (Fin.ext ?_)
  show (t : ℕ) = 15 + t - 15
  omega

/-- Thirty-one summands from the last to the first. -/
theorem sum31 (f : Fin 31 → EReal) : ∑ k : Fin 31, f k
    = f 30 + f 29 + f 28 + f 27 + f 26 + f 25 + f 24 + f 23 + f 22 + f 21 + f 20 + f 19 + f 18 + f 17 + f 16 + f 15 + f 14 + f 13 + f 12 + f 11 + f 10 + f 9 + f 8 + f 7 + f 6 + f 5 + f 4 + f 3 + f 2 + f 1 + f 0 := by
  rw [← Equiv.sum_comp Fin.revPerm f]
  repeat rw [Fin.sum_univ_castSucc]
  rw [Fin.sum_univ_zero, zero_add]
  rfl

/-- The gradient of the gate's output. -/
theorem r219 (b : Fin 4) (t : Fin 2048) (l : Fin 512) :
    (show FVec Ideal S4x2048x512 .f32 from res_main_v219 V0) (ix3 b t l)
      = ∑ k : Fin 31, SQ (A0 V0) b (t + 30 - k) l * W0 V0 (ix2 k l) := by
  show res_main_v219 V0 (ix3 b t l) = _
  pointwise [res_main_v219, res_main_v217, res_main_v183, res_main_v211]
  refine Eq.trans ?_ (sum31 fun k => SQ (A0 V0) b (t + 30 - k) l * W0 V0 (ix2 k l)).symm
  refine congrArg₂ (· + ·) ?_ (shifted_first V0 b t l)
  refine congrArg₂ (· + ·) ?_ (shifted V0 1 1 rfl b t l)
  refine congrArg₂ (· + ·) ?_ (shifted V0 2 2 rfl b t l)
  refine congrArg₂ (· + ·) ?_ (shifted V0 3 3 rfl b t l)
  refine congrArg₂ (· + ·) ?_ (shifted V0 4 4 rfl b t l)
  refine congrArg₂ (· + ·) ?_ (shifted V0 5 5 rfl b t l)
  refine congrArg₂ (· + ·) ?_ (shifted V0 6 6 rfl b t l)
  refine congrArg₂ (· + ·) ?_ (shifted V0 7 7 rfl b t l)
  refine congrArg₂ (· + ·) ?_ (shifted V0 8 8 rfl b t l)
  refine congrArg₂ (· + ·) ?_ (shifted V0 9 9 rfl b t l)
  refine congrArg₂ (· + ·) ?_ (shifted V0 10 10 rfl b t l)
  refine congrArg₂ (· + ·) ?_ (shifted V0 11 11 rfl b t l)
  refine congrArg₂ (· + ·) ?_ (shifted V0 12 12 rfl b t l)
  refine congrArg₂ (· + ·) ?_ (shifted V0 13 13 rfl b t l)
  refine congrArg₂ (· + ·) ?_ (shifted V0 14 14 rfl b t l)
  refine congrArg₂ (· + ·) ?_ (shifted_mid V0 b t l)
  refine congrArg₂ (· + ·) ?_ (shifted V0 16 16 rfl b t l)
  refine congrArg₂ (· + ·) ?_ (shifted V0 17 17 rfl b t l)
  refine congrArg₂ (· + ·) ?_ (shifted V0 18 18 rfl b t l)
  refine congrArg₂ (· + ·) ?_ (shifted V0 19 19 rfl b t l)
  refine congrArg₂ (· + ·) ?_ (shifted V0 20 20 rfl b t l)
  refine congrArg₂ (· + ·) ?_ (shifted V0 21 21 rfl b t l)
  refine congrArg₂ (· + ·) ?_ (shifted V0 22 22 rfl b t l)
  refine congrArg₂ (· + ·) ?_ (shifted V0 23 23 rfl b t l)
  refine congrArg₂ (· + ·) ?_ (shifted V0 24 24 rfl b t l)
  refine congrArg₂ (· + ·) ?_ (shifted V0 25 25 rfl b t l)
  refine congrArg₂ (· + ·) ?_ (shifted V0 26 26 rfl b t l)
  refine congrArg₂ (· + ·) ?_ (shifted V0 27 27 rfl b t l)
  refine congrArg₂ (· + ·) ?_ (shifted V0 28 28 rfl b t l)
  refine congrArg₂ (· + ·) ?_ (shifted V0 29 29 rfl b t l)
  exact shifted V0 30 30 rfl b t l

/-- The sum over the two middle axes of four. -/
theorem middle_sum {n0 n1 n2 n3 : ℕ}
    (h : (⟨4, ![n0, n1, n2, n3]⟩ : Shape).ReducesTo [1, 2] ⟨2, ![n0, n3]⟩)
    (v : (⟨4, ![n0, n1, n2, n3]⟩ : Shape).Idx → EReal) (k : Fin n0) (l : Fin n3) :
    Ideal.hostReduceAdd h v 0 (ix2 k l) = ∑ b : Fin n1, ∑ t : Fin n2, v (ix4 k b t l) := by
  refine (zero_add _).trans ?_
  refine (Finset.sum_filter_eq_sum_of_fiber _ (fun p : Fin n1 × Fin n2 => ix4 k p.1 p.2 l)
    (fun _ _ e => Prod.ext (congrFun e 1) (congrFun e 2)) ?_ v).trans
    (Fintype.sum_prod_type _)
  intro i
  constructor
  · intro e
    refine ⟨(i 1, i 2), ?_⟩
    funext a
    apply Fin.ext
    match a with
    | ⟨0, _⟩ => exact (congrArg Fin.val (congrFun e 0)).symm
    | ⟨1, _⟩ => rfl
    | ⟨2, _⟩ => rfl
    | ⟨3, _⟩ => exact (congrArg Fin.val (congrFun e 1)).symm
  · rintro ⟨p, rfl⟩
    funext a
    apply Fin.ext
    match a with
    | ⟨0, _⟩ => rfl
    | ⟨1, _⟩ => rfl

/-- The sum over batches and positions. -/
theorem red2 (X : FVec Ideal S31x4x2048x512 .f32) (k : Fin 31) (l : Fin 512) :
    Host.reduceAdd X (constant S_ .f32 0x00000000#32) reducesTo_S31x4x2048x512_S31x512_d1_2 h_S_ (ix2 k l)
      = ∑ b : Fin 4, ∑ t : Fin 2048, X (ix4 k b t l) := by
  pointwise
  exact middle_sum reducesTo_S31x4x2048x512_S31x512_d1_2 X k l

/-- The sum over two axes of one position each. -/
theorem red1 (X : FVec Ideal S31x512 .f32) (k : Fin 31) (l : Fin 512) :
    Host.reduceAdd (shapeCast S31x1x1x512 X shapeCasts_S31x512_S31x1x1x512) (constant S_ .f32 0x00000000#32) reducesTo_S31x1x1x512_S31x512_d1_2 h_S_ (ix2 k l)
      = X (ix2 k l) := by
  pointwise
  refine (middle_sum reducesTo_S31x1x1x512_S31x512_d1_2 _ k l).trans ?_
  rw [Fin.sum_univ_one, Fin.sum_univ_one]
  pointwise

/-- The two halves side by side. -/
theorem left_gen (X Y : FVec Ideal S4x2048x512 .f32) (R : Fin 8192) (j : Fin 1024) :
    truncf .bf16 (shapeCast S8192x1024 (addf (pad S4x2048x1024 ![0, 0, 512] ![0, 0, 0] ![0, 0, 0] X (constant S_ .f32 0x00000000#32) pads_S4x2048x512_S4x2048x1024_000_000_51200 h_S_) (pad S4x2048x1024 ![0, 0, 0] ![0, 0, 512] ![0, 0, 0] Y (constant S_ .f32 0x00000000#32) pads_S4x2048x512_S4x2048x1024_000_000_05120 h_S_)) shapeCasts_S4x2048x1024_S8192x1024) bitsLt_bf16_f32 (ix2 R j)
      = if h : (j : ℕ) < 512 then
          Y (ix3 ⟨(R : ℕ) / 2048, by omega⟩ ⟨(R : ℕ) % 2048, by omega⟩ ⟨j, h⟩)
        else X (ix3 ⟨(R : ℕ) / 2048, by omega⟩ ⟨(R : ℕ) % 2048, by omega⟩ ⟨j - 512, by omega⟩) := by
  pointwise
  by_cases h : (j : ℕ) < 512
  · rw [dif_neg (by omega), dif_pos (by omega), dif_pos h, zero_add]
  · rw [dif_pos (by omega), dif_neg (by omega), dif_neg h, add_zero]

theorem one_read (i : S4x2048x512.Idx) :
    broadcastInDim S4x2048x512 ![] bcast_S_S4x2048x512
      (constant (F := Ideal) S_ .f32 0x3F800000#32) i = (1 : EReal) := by
  pointwise

/-- The last row is zero. -/
theorem right_gen (X : FVec Ideal S31x512 .f32) (k : Fin 32) (l : Fin 512) :
    concatenate S32x512 0 [⟨S31x512, X⟩, ⟨S1x512, (broadcastInDim S1x512 ![] bcast_S_S1x512 (constant S_ .f32 0x00000000#32))⟩] concatenates_S31x512_S1x512_S32x512_d0 (ix2 k l)
      = if h : (k : ℕ) < 31 then X (ix2 ⟨k, h⟩ l) else 0 := by
  pointwise

/-- The first result. -/
theorem left_ref : truncf .bf16 (shapeCast _ (addf (pad S4x2048x1024 ![0, 0, 512] ![0, 0, 0] ![0, 0, 0] (mulf (mulf (res_main_v2 V0) (res_main_v219 V0)) (mulf (res_main_v9 V0) (subf (broadcastInDim S4x2048x512 ![] bcast_S_S4x2048x512 (constant S_ .f32 0x3F800000#32)) (res_main_v9 V0)))) (constant S_ .f32 0x00000000#32) pads_S4x2048x512_S4x2048x1024_000_000_51200 h_S_) (pad S4x2048x1024 ![0, 0, 0] ![0, 0, 512] ![0, 0, 0] (mulf (res_main_v219 V0) (res_main_v9 V0)) (constant S_ .f32 0x00000000#32) pads_S4x2048x512_S4x2048x1024_000_000_05120 h_S_)) shapeCasts_S4x2048x1024_S8192x1024) bitsLt_bf16_f32
    = DP (A0 V0) (P0 V0) (W0 V0) := by
  funext e
  obtain ⟨R, j, rfl⟩ : ∃ R j, e = ix2 R j := ⟨_, _, eq_ix2 e⟩
  refine (left_gen _ _ R j).trans ?_
  have hR : (R : ℕ) / 2048 * 2048 + (R : ℕ) % 2048 = R := by omega
  unfold DP
  by_cases h : (j : ℕ) < 512
  · refine (dif_pos h).trans (Eq.trans ?_ (dif_pos (c := ((j : ℕ) < 512)) h).symm)
    refine (congrArg₂ (· * ·) (r219 V0 _ _ _) (r9 V0 _ _ _)).trans ?_
    refine congrArg (fun x => DUR (A0 V0) (W0 V0) R ⟨j, h⟩ * Ideal.logistic (P0 V0 x)) ?_
    exact congrArg₂ ix2 (Fin.ext hR) rfl
  · refine (dif_neg h).trans (Eq.trans ?_ (dif_neg (c := ((j : ℕ) < 512)) h).symm)
    have e9 := r9 V0 ⟨(R : ℕ) / 2048, by omega⟩ ⟨(R : ℕ) % 2048, by omega⟩ ⟨j - 512, by omega⟩
    refine (congrArg₂ (· * ·)
      (congrArg₂ (· * ·) (r2 V0 _ _ _) (r219 V0 _ _ _))
      (congrArg₂ (· * ·) e9 (congrArg₂ (· - ·) (one_read _) e9))).trans ?_
    have eR : ∀ q : Fin 3072, P0 V0 (ix2 ⟨(R : ℕ) / 2048 * 2048 + (R : ℕ) % 2048, by omega⟩ q)
        = P0 V0 (ix2 R q) := fun q => congrArg (P0 V0) (congrArg₂ ix2 (Fin.ext hR) rfl)
    have a1 := eR ⟨2048 + (j - 512), by omega⟩
    have a2 := eR ⟨2560 + (j - 512), by omega⟩
    refine (congrArg₂ (fun x y => x * DUR (A0 V0) (W0 V0) R ⟨j - 512, by omega⟩
      * (Ideal.logistic y * (1 - Ideal.logistic y))) a1 a2).trans ?_
    refine (mul_assoc _ _ _).symm.trans ?_
    exact congrArg (fun x => x * Ideal.logistic _ * (1 - Ideal.logistic _)) (mul_comm _ _)

/-- The second result. -/
theorem right_ref : concatenate S32x512 0 [⟨S31x512, (Host.reduceAdd (shapeCast _ (Host.reduceAdd (mulf (res_main_v82 V0) (res_main_v88 V0)) (constant S_ .f32 0x00000000#32) reducesTo_S31x4x2048x512_S31x512_d1_2 h_S_) shapeCasts_S31x512_S31x1x1x512) (constant S_ .f32 0x00000000#32) reducesTo_S31x1x1x512_S31x512_d1_2 h_S_)⟩, ⟨S1x512, (broadcastInDim S1x512 ![] bcast_S_S1x512 (constant S_ .f32 0x00000000#32))⟩] concatenates_S31x512_S1x512_S32x512_d0
    = DDW (A0 V0) (P0 V0) := by
  funext e
  obtain ⟨k, l, rfl⟩ : ∃ R j, e = ix2 R j := ⟨_, _, eq_ix2 e⟩
  refine (right_gen _ k l).trans ?_
  unfold DDW
  by_cases h : (k : ℕ) < 31
  · refine (dif_pos h).trans (Eq.trans ?_ (if_pos (c := ((k : ℕ) < 31)) h).symm)
    refine (red1 _ ⟨k, h⟩ l).trans ((red2 _ ⟨k, h⟩ l).trans ?_)
    refine Fin.sum_mul_add_congr fun b t hl => ?_
    refine (congrArg₂ (· * ·) ((r82 V0 _ _ _ _).trans (r15 V0 _ _ _)) (r88 V0 _ _ _ _)).trans ?_
    refine (mul_comm _ _).trans ?_
    refine congrArg (fun x => A0 V0 (ix2 ⟨(b : ℕ) * 2048 + t, hl⟩ l) * x) ?_
    refine congrArg₂ (fun x y => SQ (U (P0 V0)) x y l) ?_ ?_
    · show (b : ℕ) = ((b : ℕ) * 2048 + t) / 2048
      omega
    · show (t : ℕ) + k = ((b : ℕ) * 2048 + t) % 2048 + k
      omega
  · exact (dif_neg h).trans (if_neg (c := ((k : ℕ) < 31)) h).symm
end Cert.ConvBwdRefIdeal.Hand
-- ==== Proof.ConvClaim.lean ====
module
public import proofs.«01_k».proof.Defs
public import proofs.«01_k».proof.Proof.Gen.ConvBwdIdeal
public import proofs.«01_k».proof.Proof.Gen.ConvBwdRefIdeal
public import proofs.«01_k».proof.Proof.ConvFinal
public import proofs.«01_k».proof.Proof.ConvRef
public import Idealize.ShloMosaic.Lib.Claim

/-! The convolution's backward call and its reference end with the same two arrays. -/

@[expose] public section
noncomputable section
namespace Cert.Proof
open Idealize.ShloMosaic Idealize.SL.Sem

/-- The reference's frame: its run, and no semaphore is declared. -/
theorem conv_reference : Cert.quiescent_ConvBwdRefIdeal := by
  intro m g _
  exact (θ_run Cert.ConvBwdRefIdeal.defs _ _).mono
    (fun r h => ⟨fun c => ⟨(h c).2.2.1, (h c).2.2.2.1, (h c).2.2.2.2⟩,
      sem_eq_zero_of_no_sems (by decide) r.2⟩)
    (Cert.ConvBwdRefIdeal.Value.run m g)

/-- The kernel and the reference end with equal arrays. -/
theorem conv_algebraic : Cert.algebraic_ConvBwdIdeal_ConvBwdRefIdeal := by
  intro m g m' g' _ hagree
  refine ⟨fun c => (Cert.ConvBwdIdeal.Gen.dats m 0 c).arrAt 10 Cert.ConvBwdIdeal.cfg0.N,
    fun c => (Cert.ConvBwdIdeal.Gen.dats m 0 c).arrAt 11 Cert.ConvBwdIdeal.cfg0.N,
    Cert.ConvBwdIdeal.Value.run_blocks m g, ?_⟩
  refine (θ_run Cert.ConvBwdRefIdeal.defs _ _).mono (fun r h c => ?_)
    (Cert.ConvBwdRefIdeal.Value.run m' g')
  obtain ⟨e0, e1, e2⟩ := hagree c
  have d0 : Cert.ConvBwdRefIdeal.Hand.A0 (StableHlo.launchContents m' c)
      = Cert.ConvBwdIdeal.Hand.dY m c := e0
  have d1 : Cert.ConvBwdRefIdeal.Hand.P0 (StableHlo.launchContents m' c)
      = Cert.ConvBwdIdeal.Hand.pR m c := e1
  have d2 : Cert.ConvBwdRefIdeal.Hand.W0 (StableHlo.launchContents m' c)
      = Cert.ConvBwdIdeal.Hand.wF m c := e2
  refine ⟨(h c).1.trans ?_, (h c).2.1.trans ?_, (h c).2.2⟩
  · refine (Cert.ConvBwdRefIdeal.Hand.left_ref (StableHlo.launchContents m' c)).trans ?_
    rw [d0, d1, d2]
    exact (Cert.ConvBwdIdeal.Hand.final10 m c).symm
  · refine (Cert.ConvBwdRefIdeal.Hand.right_ref (StableHlo.launchContents m' c)).trans ?_
    rw [d0, d1]
    exact (Cert.ConvBwdIdeal.Hand.final11 m c).symm

end Cert.Proof
-- ==== Proof.FfnInFinal.lean ====
module
public import proofs.«01_k».proof.Proof.Gen.FfnInIdeal.Value
public import proofs.«01_k».proof.Proof.Gen.FfnInRefIdeal.Run
public import Idealize.ShloMosaic.Lib.Pipeline.ValueKit
public import Idealize.ShloMosaic.Lib.Pointwise

/-! The feed-forward block's first product and its gated activation: the kernel works slab by slab, the reference on whole rows. -/

@[expose] public section
set_option maxRecDepth 16384
noncomputable section
namespace Cert.FfnInIdeal.Hand
open Cert.FfnInIdeal Cert.FfnInIdeal.Gen Idealize.ShloMosaic Idealize.ShloMosaic.TcCoe Idealize.SL.Sem
open Idealize.ShloMosaic.Pipeline (Dat)
variable (m : (ℓ : Loc nD τ sig) → Buf (Elt Ideal) ℓ)

/-- The block's input and the weight, as device `c` holds them. -/
def xIn (c : Dev nD) : FVec Ideal S8192x1024 .f32 := m ((c : Thread nD τ).loc main_arg0)
def wI (c : Dev nD) : FVec Ideal S1024x5632 .f32 := m ((c : Thread nD τ).loc main_arg1)

/-- The hidden value at a row and a column: the product's entry. -/
def HID (X : FVec Ideal S8192x1024 .f32) (W : FVec Ideal S1024x5632 .f32) (r : Fin 8192) (l : Fin 5632) : EReal :=
  ∑ k : Fin 1024, X (ix2 r k) * W (ix2 k l)

/-- The gate times its logistic function, times the other half. -/
def GATED (a b : EReal) : EReal := a * Ideal.logistic a * b

/-- The two results of the reference over its two arrays. -/
def REFH (X : FVec Ideal S8192x1024 .f32) (W : FVec Ideal S1024x5632 .f32) : FVec Ideal S8192x5632 .bf16 :=
  truncf .bf16 (Host.dotGeneral Cert.FfnInRefIdeal.dot_S8192x1024_S1024x5632_S8192x5632_1_0_0_1_n_n none X W) Cert.FfnInRefIdeal.Gen.bitsLt_bf16_f32
def REFP (X : FVec Ideal S8192x1024 .f32) (W : FVec Ideal S1024x5632 .f32) : FVec Ideal S8192x5632 .f32 :=
  Host.dotGeneral Cert.FfnInRefIdeal.dot_S8192x1024_S1024x5632_S8192x5632_1_0_0_1_n_n none X W
def REFA (P : FVec Ideal S8192x5632 .f32) : FVec Ideal S8192x2816 .bf16 :=
  truncf .bf16 (mulf (mulf (extractStridedSlice Cert.FfnInRefIdeal.S8192x2816 ![0, 0] P Cert.FfnInRefIdeal.Gen.slices_S8192x5632_S8192x2816_0_0)
    (Host.divf (broadcastInDim Cert.FfnInRefIdeal.S8192x2816 ![] Cert.FfnInRefIdeal.Gen.bcast_S_S8192x2816 (constant Cert.FfnInRefIdeal.S_ .f32 0x3F800000#32))
      (addf (broadcastInDim Cert.FfnInRefIdeal.S8192x2816 ![] Cert.FfnInRefIdeal.Gen.bcast_S_S8192x2816 (constant Cert.FfnInRefIdeal.S_ .f32 0x3F800000#32))
        (Host.exp (Host.negf (extractStridedSlice Cert.FfnInRefIdeal.S8192x2816 ![0, 0] P Cert.FfnInRefIdeal.Gen.slices_S8192x5632_S8192x2816_0_0))))))
    (extractStridedSlice Cert.FfnInRefIdeal.S8192x2816 ![0, 2816] P Cert.FfnInRefIdeal.Gen.slices_S8192x5632_S8192x2816_0_2816)) Cert.FfnInRefIdeal.Gen.bitsLt_bf16_f32

theorem refH_at (X : FVec Ideal S8192x1024 .f32) (W : FVec Ideal S1024x5632 .f32) (r : Fin 8192) (l : Fin 5632) :
    REFH X W (ix2 r l) = HID X W r l := by
  unfold HID
  pointwise [REFH]
theorem refP_at (X : FVec Ideal S8192x1024 .f32) (W : FVec Ideal S1024x5632 .f32) (r : Fin 8192) (l : Fin 5632) :
    REFP X W (ix2 r l) = HID X W r l := by
  unfold HID
  pointwise [REFP]
theorem refA_at (P : FVec Ideal S8192x5632 .f32) (r : Fin 8192) (l : Fin 2816) :
    REFA P (ix2 r l) = GATED (P (ix2 r ⟨l, by omega⟩)) (P (ix2 r ⟨2816 + l, by omega⟩)) := by
  unfold GATED Ideal.logistic
  pointwise [REFA]

theorem idx : ∀ t : Fin cfg0.N, win0_0.index t = ![t.val, 0] ∧ win0_1.index t = ![0, 0, 0] ∧ win0_2.index t = ![t.val, 0]
    ∧ win0_3.index t = ![t.val, 0] ∧ t.val < 32 :=
  (by decide +kernel : ∀ t : Fin grid0.N, _)

theorem slab (c : Dev nD) (s : Fin 4) (i : Fin 1024) (k : Fin 1408) :
    (show FVec Ideal S4x1024x1408 .bf16 from V m c (Pipeline.arrRef spec0 1)) (ix3 s i k) = wI m c (ix2 i ⟨s * 1408 + k, by omega⟩) := by
  entry_read
  pointwise
  rfl

theorem blk0 (c : Dev nD) (t : Fin cfg0.N) (r : Fin 256) (k : Fin 1024) (h : 256 * t.val + r < 8192) :
    (show FVec Ideal S256x1024 .f32 from iblk m c 0 t) (ix2 r k) = xIn m c (ix2 ⟨256 * t.val + r, h⟩ k) := by
  show iblk m c 0 t (ix2 r k) = m ((c : Thread nD τ).loc main_arg0) _
  blk_ext [iblk, V, idx t]

theorem blk1 (c : Dev nD) (t : Fin cfg0.N) (s : Fin 4) (i : Fin 1024) (k : Fin 1408) :
    (show FVec Ideal S4x1024x1408 .bf16 from iblk m c 1 t) (ix3 s i k) = wI m c (ix2 i ⟨s * 1408 + k, by omega⟩) := by
  refine Eq.trans ?_ (slab m c s i k)
  show iblk m c 1 t (ix3 s i k) = V m c (Pipeline.arrRef spec0 1) (ix3 s i k)
  blk_ext [iblk, idx t]

/-- Which slab of the weight a product reads. -/
def DOT (x0 : Vec Ideal S256x1024 .f32) (x1 : Vec Ideal S4x1024x1408 .bf16) (s : Fin 4) (r : Fin 256) (l : Fin 1408) : EReal :=
  ∑ k : Fin 1024, (show FVec Ideal S256x1024 .f32 from x0) (ix2 r k) * (show FVec Ideal S4x1024x1408 .bf16 from x1) (ix3 s k l)

theorem pay5_at (x0 : Vec Ideal S256x1024 .f32) (x1 : Vec Ideal S4x1024x1408 .bf16) (r : Fin 256) (l : Fin 1408) :
    k0_pay5 (View.ld x0 r0_0) (View.ld x1 r0_1) (ix2 r l) = DOT x0 x1 0 r l := by
  unfold DOT
  rw [View.ld_unit, View.ld_unit]
  pointwise [k0_pay5, k0_pay4]
theorem pay6_at (x0 : Vec Ideal S256x1024 .f32) (x1 : Vec Ideal S4x1024x1408 .bf16) (r : Fin 256) (l : Fin 1408) :
    k0_pay6 (View.ld x0 r0_0) (View.ld x1 r0_2) (ix2 r l) = DOT x0 x1 2 r l := by
  unfold DOT
  rw [View.ld_unit, View.ld_unit]
  pointwise [k0_pay6, k0_pay4]
theorem pay12_at (x0 : Vec Ideal S256x1024 .f32) (x1 : Vec Ideal S4x1024x1408 .bf16) (r : Fin 256) (l : Fin 1408) :
    k0_pay12 x0 x1 (ix2 r l) = DOT x0 x1 1 r l := by
  unfold DOT k0_pay12
  rw [View.ld_unit, View.ld_unit]
  pointwise [k0_pay10, k0_pay4]
theorem pay13_at (x0 : Vec Ideal S256x1024 .f32) (x1 : Vec Ideal S4x1024x1408 .bf16) (r : Fin 256) (l : Fin 1408) :
    k0_pay13 x0 x1 (ix2 r l) = DOT x0 x1 3 r l := by
  unfold DOT k0_pay13
  rw [View.ld_unit, View.ld_unit]
  pointwise [k0_pay11, k0_pay4]

theorem pay3_at (a b : FVec Ideal S256x1408 .f32) (r : Fin 256) (l : Fin 1408) :
    k0_pay3 a b (ix2 r l) = GATED (a (ix2 r l)) (b (ix2 r l)) := by
  unfold GATED Ideal.logistic
  pointwise [k0_pay3]
  rw [zero_sub]
theorem pay9_at (v0 : Vec Ideal S256x1024 .f32) (v2 v5 : Vec Ideal S1x1024x1408 .bf16) (r : Fin 256) (l : Fin 1408) :
    k0_pay9 v0 v2 v5 (ix2 r l) = GATED (k0_pay5 v0 v2 (ix2 r l)) (k0_pay6 v0 v5 (ix2 r l)) := by
  unfold GATED Ideal.logistic
  pointwise [k0_pay9]
  rw [zero_sub]

theorem DOT_HID (c : Dev nD) (t : Fin cfg0.N) (s : Fin 4) (r r' : Fin 256) (b : Fin 1408) (l : Fin 5632) (h : 256 * t.val + r < 8192)
    (hr : (r : ℕ) = r') (hl : (l : ℕ) = s * 1408 + b) :
    DOT (iblk m c 0 t) (iblk m c 1 t) s r' b = HID (xIn m c) (wI m c) ⟨256 * t.val + r, h⟩ l := by
  obtain rfl : r = r' := Fin.ext hr
  have he : (⟨s * 1408 + b, by omega⟩ : Fin 5632) = l := Fin.ext hl.symm
  rw [← he]
  unfold DOT HID
  exact Finset.sum_congr rfl fun k _ => congrArg₂ _ (blk0 m c t r k h) (blk1 m c t s k b)

theorem point2 (c : Dev nD) (t : Fin cfg0.N) (r : Fin 256) (l : Fin 5632) (h : 256 * t.val + r < 8192) :
    out0_2 (iblk m c 0 t) (iblk m c 1 t) (ix2 r l) = HID (xIn m c) (wI m c) ⟨256 * t.val + r, h⟩ l := by
  unfold out0_2
  canon_tiles x hx
  all_goals
    obtain ⟨a, b, rfl⟩ : ∃ (a : Fin 256) (b : Fin 1408), x = ix2 a b := ⟨_, _, eq_ix2 x⟩
    have hr : (r : ℕ) = a := hx0
  · have hl : (l : ℕ) = 4224 + b := hx1
    exact (pay13_at _ _ a b).trans (DOT_HID m c t 3 r a b l h hr (hl.trans (by simp)))
  · have hl : (l : ℕ) = 1408 + b := hx1
    exact (pay12_at _ _ a b).trans (DOT_HID m c t 1 r a b l h hr (hl.trans (by simp)))
  · have hl : (l : ℕ) = 2816 + b := hx1
    exact (pay6_at _ _ a b).trans (DOT_HID m c t 2 r a b l h hr (hl.trans (by simp)))
  · have hl : (l : ℕ) = b := hx1
    exact (pay5_at _ _ a b).trans (DOT_HID m c t 0 r a b l h hr (hl.trans (by simp)))

theorem point3 (c : Dev nD) (t : Fin cfg0.N) (r : Fin 256) (l : Fin 2816) (h : 256 * t.val + r < 8192) :
    out0_3 (iblk m c 0 t) (iblk m c 1 t) (ix2 r l)
      = GATED (HID (xIn m c) (wI m c) ⟨256 * t.val + r, h⟩ ⟨l, by omega⟩) (HID (xIn m c) (wI m c) ⟨256 * t.val + r, h⟩ ⟨2816 + l, by omega⟩) := by
  unfold out0_3
  canon_tiles x hx
  all_goals
    obtain ⟨a, b, rfl⟩ : ∃ (a : Fin 256) (b : Fin 1408), x = ix2 a b := ⟨_, _, eq_ix2 x⟩
    have hr : (r : ℕ) = a := hx0
  · have hl : (l : ℕ) = 1408 + b := hx1
    refine (pay3_at _ _ a b).trans (congrArg₂ GATED ?_ ?_)
    · exact (pay12_at _ _ a b).trans (DOT_HID m c t 1 r a b _ h hr (hl.trans (by simp)))
    · exact (pay13_at _ _ a b).trans (DOT_HID m c t 3 r a b _ h hr (by simp; omega))
  · have hl : (l : ℕ) = b := hx1
    refine (pay9_at _ _ _ a b).trans (congrArg₂ GATED ?_ ?_)
    · exact (pay5_at _ _ a b).trans (DOT_HID m c t 0 r a b _ h hr (hl.trans (by simp)))
    · exact (pay6_at _ _ a b).trans (DOT_HID m c t 2 r a b _ h hr (by simp; omega))

theorem fin2 (c : Dev nD) : (dats m 0 c).arrAt 2 (cfgs 0).N = REFH (xIn m c) (wI m c) := by
  refine (dats m 0 c).arrAt_eq_of_covers 2 _ (by decide +kernel) fun t _ y => ?_
  blk_simp
  rw [after0_2]
  obtain ⟨r, l, rfl⟩ : ∃ (r : Fin 256) (l : Fin 5632), y = ix2 r l := ⟨_, _, eq_ix2 y⟩
  refine (point2 m c t r l (by have := idx t; omega)).trans ?_
  rw [← refH_at]
  blk_ext [idx t]

theorem fin3 (c : Dev nD) : (dats m 0 c).arrAt 3 (cfgs 0).N = REFA (REFP (xIn m c) (wI m c)) := by
  refine (dats m 0 c).arrAt_eq_of_covers 3 _ (by decide +kernel) fun t _ y => ?_
  blk_simp
  rw [after0_3]
  obtain ⟨r, l, rfl⟩ : ∃ (r : Fin 256) (l : Fin 2816), y = ix2 r l := ⟨_, _, eq_ix2 y⟩
  refine (point3 m c t r l (by have := idx t; omega)).trans ?_
  rw [← refP_at, ← refP_at]
  refine (refA_at (REFP (xIn m c) (wI m c)) _ l).symm.trans ?_
  blk_ext [idx t]

end Cert.FfnInIdeal.Hand
-- ==== Proof.FfnInClaim.lean ====
module
public import proofs.«01_k».proof.Defs
public import proofs.«01_k».proof.Proof.Gen.FfnInIdeal
public import proofs.«01_k».proof.Proof.Gen.FfnInRefIdeal
public import proofs.«01_k».proof.Proof.FfnInFinal
public import Idealize.ShloMosaic.Lib.Claim

/-! The feed-forward block's first product and its activation: kernel and reference end with the same two arrays. -/

@[expose] public section
noncomputable section
namespace Cert.Proof
open Idealize.ShloMosaic Idealize.SL.Sem

/-- The reference's frame: its run, and no semaphore is declared. -/
theorem in_reference : Cert.quiescent_FfnInRefIdeal := by
  intro m g _
  exact (θ_run Cert.FfnInRefIdeal.defs _ _).mono
    (fun r h => ⟨fun c => (h c).2.2, sem_eq_zero_of_no_sems (by decide) r.2⟩)
    (Cert.FfnInRefIdeal.Value.run m g)

/-- The kernel and the reference end with equal arrays. -/
theorem in_algebraic : Cert.algebraic_FfnInIdeal_FfnInRefIdeal := by
  intro m g m' g' _ hagree
  refine ⟨fun c => (Cert.FfnInIdeal.Gen.dats m 0 c).arrAt 2 Cert.FfnInIdeal.cfg0.N,
    fun c => (Cert.FfnInIdeal.Gen.dats m 0 c).arrAt 3 Cert.FfnInIdeal.cfg0.N,
    Cert.FfnInIdeal.Value.run_blocks m g, ?_⟩
  refine (θ_run Cert.FfnInRefIdeal.defs _ _).mono (fun r h c => ?_)
    (Cert.FfnInRefIdeal.Value.run m' g')
  obtain ⟨e0, e1⟩ := hagree c
  refine ⟨(h c).1.trans ?_, (h c).2.1.trans ?_, (h c).2.2⟩
  · refine Eq.trans ?_ (Cert.FfnInIdeal.Hand.fin2 m c).symm
    rw [e0, e1]
    rfl
  · refine Eq.trans ?_ (Cert.FfnInIdeal.Hand.fin3 m c).symm
    rw [e0, e1]
    rfl

end Cert.Proof
-- ==== Proof.FfnDxFinal.lean ====
module
public import proofs.«01_k».proof.Proof.Gen.FfnDxIdeal.Value
public import proofs.«01_k».proof.Proof.Gen.FfnDxRefIdeal.Run
public import Idealize.ShloMosaic.Lib.Pipeline.ValueKit
public import Idealize.ShloMosaic.Lib.Pointwise

/-! The gradient of the feed-forward block's input: the kernel adds four slabs' products, the reference has one product. -/

@[expose] public section
set_option maxRecDepth 16384
noncomputable section
namespace Cert.FfnDxIdeal.Hand
open Cert.FfnDxIdeal Cert.FfnDxIdeal.Gen Idealize.ShloMosaic Idealize.ShloMosaic.TcCoe Idealize.SL.Sem
open Idealize.ShloMosaic.Pipeline (Dat)
variable (m : (ℓ : Loc nD τ sig) → Buf (Elt Ideal) ℓ)

/-- The gradient of the hidden values, the weight and the gradient of the block's output, as device `c` holds them. -/
def dH (c : Dev nD) : FVec Ideal S8192x5632 .bf16 := m ((c : Thread nD τ).loc main_arg0)
def wI (c : Dev nD) : FVec Ideal S1024x5632 .f32 := m ((c : Thread nD τ).loc main_arg1)
def dZ (c : Dev nD) : FVec Ideal S8192x1024 .f32 := m ((c : Thread nD τ).loc main_arg2)

/-- The reference's term over its three arrays. -/
def REF (H : FVec Ideal S8192x5632 .bf16) (W : FVec Ideal S1024x5632 .f32) (Z : FVec Ideal S8192x1024 .f32) : FVec Ideal S8192x1024 .f32 :=
  addf (Host.dotGeneral Cert.FfnDxRefIdeal.dot_S8192x5632_S1024x5632_S8192x1024_1_1_0_0_n_n none (extf .f32 H Cert.FfnDxRefIdeal.Gen.bitsLt_bf16_f32) W)
    (mulf (broadcastInDim Cert.FfnDxRefIdeal.S8192x1024 ![] Cert.FfnDxRefIdeal.Gen.bcast_S_S8192x1024 (constant Cert.FfnDxRefIdeal.S_ .f32 0x3F9837F0#32)) Z)

theorem idx : ∀ t : Fin cfg0.N, win0_0.index t = ![t.val, 0] ∧ win0_1.index t = ![0, 0, 0] ∧ win0_2.index t = ![t.val, 0]
    ∧ win0_3.index t = ![t.val, 0] ∧ t.val < 32 :=
  (by decide +kernel : ∀ t : Fin grid0.N, _)

theorem ref_at (H : FVec Ideal S8192x5632 .bf16) (W : FVec Ideal S1024x5632 .f32) (Z : FVec Ideal S8192x1024 .f32) (j : S8192x1024.Idx) :
    REF H W Z j = ∑ x : Fin 5632, H (ix2 (j 0) x) * W (ix2 (j 1) x) + Ideal.ofBits .f32 0x3F9837F0#32 * Z j := by
  pointwise [REF]

/-- A sum over the 5632 hidden columns is the sum over the four slabs of 1408. -/
theorem four_slabs (f : Fin 5632 → EReal) : ∑ x, f x
    = ∑ k : Fin 1408, f ⟨k, by omega⟩ + ∑ k : Fin 1408, f ⟨1408 + k, by omega⟩ + ∑ k : Fin 1408, f ⟨2816 + k, by omega⟩
      + ∑ k : Fin 1408, f ⟨4224 + k, by omega⟩ := by
  have h : ∑ s : Fin 4, ∑ k : Fin 1408, f ⟨s * 1408 + k, by omega⟩ = ∑ x, f x :=
    Fin.sum_mul_add_congr fun s k hl => rfl
  rw [← h, Fin.sum_univ_four]
  refine congrArg₂ _ (congrArg₂ _ (congrArg₂ _ ?_ ?_) ?_) ?_ <;> exact Finset.sum_congr rfl fun k _ => congrArg f (Fin.ext (by simp))

theorem pay_at (v0 : Vec Ideal S256x1024 .f32) (v3 : Vec Ideal S256x1408 .bf16) (v4 : Vec Ideal S1x1024x1408 .bf16) (v8 : Vec Ideal S256x1408 .bf16) (v9 : Vec Ideal S1x1024x1408 .bf16) (v13 : Vec Ideal S256x1408 .bf16) (v14 : Vec Ideal S1x1024x1408 .bf16) (v18 : Vec Ideal S256x1408 .bf16) (v19 : Vec Ideal S1x1024x1408 .bf16) (r : Fin 256) (l : Fin 1024) :
    k0_pay1 v0 v3 v4 v8 v9 v13 v14 v18 v19 (ix2 r l) = Ideal.ofBits .f32 0x3F9837F0#32 * v0 (ix2 r l)
      + ∑ x : Fin 1408, v3 (ix2 r x) * v4 (ix3 0 l x) + ∑ x : Fin 1408, v8 (ix2 r x) * v9 (ix3 0 l x)
      + ∑ x : Fin 1408, v13 (ix2 r x) * v14 (ix3 0 l x) + ∑ x : Fin 1408, v18 (ix2 r x) * v19 (ix3 0 l x) := by
  pointwise [k0_pay1]

/-- The four slabs, laid one after another, are the columns of the weight. -/
theorem slab (c : Dev nD) (s : Fin 4) (i : Fin 1024) (k : Fin 1408) :
    (show FVec Ideal S4x1024x1408 .bf16 from V m c (Pipeline.arrRef spec0 1)) (ix3 s i k) = wI m c (ix2 i ⟨s * 1408 + k, by omega⟩) := by
  entry_read
  pointwise
  rfl

theorem blk0 (c : Dev nD) (t : Fin cfg0.N) (r : Fin 256) (k : Fin 5632) (h : 256 * t.val + r < 8192) :
    (show FVec Ideal S256x5632 .bf16 from iblk m c 0 t) (ix2 r k) = dH m c (ix2 ⟨256 * t.val + r, h⟩ k) := by
  show iblk m c 0 t (ix2 r k) = m ((c : Thread nD τ).loc main_arg0) _
  blk_ext [iblk, V, idx t]

theorem blk1 (c : Dev nD) (t : Fin cfg0.N) (s : Fin 4) (i : Fin 1024) (k : Fin 1408) :
    (show FVec Ideal S4x1024x1408 .bf16 from iblk m c 1 t) (ix3 s i k) = wI m c (ix2 i ⟨s * 1408 + k, by omega⟩) := by
  refine Eq.trans ?_ (slab m c s i k)
  show iblk m c 1 t (ix3 s i k) = V m c (Pipeline.arrRef spec0 1) (ix3 s i k)
  blk_ext [iblk, idx t]

theorem blk2 (c : Dev nD) (t : Fin cfg0.N) (r : Fin 256) (k : Fin 1024) (h : 256 * t.val + r < 8192) :
    (show FVec Ideal S256x1024 .f32 from iblk m c 2 t) (ix2 r k) = dZ m c (ix2 ⟨256 * t.val + r, h⟩ k) := by
  show iblk m c 2 t (ix2 r k) = m ((c : Thread nD τ).loc main_arg2) _
  blk_ext [iblk, V, idx t]

theorem ld1 (X : Vec Ideal S256x5632 .bf16) (r : Fin 256) (x : Fin 1408) : View.ld X r0_1 (ix2 r x) = X (ix2 r ⟨0 + x, by omega⟩) := by
  rw [View.ld_unit]; pointwise
theorem ld3 (X : Vec Ideal S256x5632 .bf16) (r : Fin 256) (x : Fin 1408) : View.ld X r0_3 (ix2 r x) = X (ix2 r ⟨1408 + x, by omega⟩) := by
  rw [View.ld_unit]; pointwise
theorem ld5 (X : Vec Ideal S256x5632 .bf16) (r : Fin 256) (x : Fin 1408) : View.ld X r0_5 (ix2 r x) = X (ix2 r ⟨2816 + x, by omega⟩) := by
  rw [View.ld_unit]; pointwise
theorem ld7 (X : Vec Ideal S256x5632 .bf16) (r : Fin 256) (x : Fin 1408) : View.ld X r0_7 (ix2 r x) = X (ix2 r ⟨4224 + x, by omega⟩) := by
  rw [View.ld_unit]; pointwise
theorem ld2 (X : Vec Ideal S4x1024x1408 .bf16) (l : Fin 1024) (x : Fin 1408) : View.ld X r0_2 (ix3 0 l x) = X (ix3 0 l x) := by
  rw [View.ld_unit]; pointwise
theorem ld4 (X : Vec Ideal S4x1024x1408 .bf16) (l : Fin 1024) (x : Fin 1408) : View.ld X r0_4 (ix3 0 l x) = X (ix3 1 l x) := by
  rw [View.ld_unit]; pointwise
theorem ld6 (X : Vec Ideal S4x1024x1408 .bf16) (l : Fin 1024) (x : Fin 1408) : View.ld X r0_6 (ix3 0 l x) = X (ix3 2 l x) := by
  rw [View.ld_unit]; pointwise
theorem ld8 (X : Vec Ideal S4x1024x1408 .bf16) (l : Fin 1024) (x : Fin 1408) : View.ld X r0_8 (ix3 0 l x) = X (ix3 3 l x) := by
  rw [View.ld_unit]; pointwise

theorem point (c : Dev nD) (t : Fin cfg0.N) (r : Fin 256) (l : Fin 1024) (h : 256 * t.val + r < 8192) :
    k0_pay1 (iblk m c 2 t) (View.ld (iblk m c 0 t) r0_1) (View.ld (iblk m c 1 t) r0_2) (View.ld (iblk m c 0 t) r0_3)
      (View.ld (iblk m c 1 t) r0_4) (View.ld (iblk m c 0 t) r0_5) (View.ld (iblk m c 1 t) r0_6)
      (View.ld (iblk m c 0 t) r0_7) (View.ld (iblk m c 1 t) r0_8) (ix2 r l)
    = REF (dH m c) (wI m c) (dZ m c) (ix2 ⟨256 * t.val + r, h⟩ l) := by
  rw [pay_at, ref_at, four_slabs]
  have sw : ∀ a b c d e : EReal, a + b + c + d + e = b + c + d + e + a := by intros; abel
  refine (sw _ _ _ _ _).trans ?_
  refine congrArg₂ _ (congrArg₂ _ (congrArg₂ _ (congrArg₂ _ ?_ ?_) ?_) ?_) (congrArg₂ _ rfl (blk2 m c t r l h))
  · exact Finset.sum_congr rfl fun x _ => congrArg₂ _
      ((ld1 _ r x).trans ((blk0 m c t r _ h).trans (congrArg (dH m c) (congrArg₂ ix2 rfl (Fin.ext (by simp))))))
      ((ld2 _ l x).trans ((blk1 m c t _ l x).trans (congrArg (wI m c) (congrArg₂ ix2 rfl (Fin.ext (by simp))))))
  · exact Finset.sum_congr rfl fun x _ => congrArg₂ _
      ((ld3 _ r x).trans ((blk0 m c t r _ h).trans (congrArg (dH m c) (congrArg₂ ix2 rfl (Fin.ext (by simp))))))
      ((ld4 _ l x).trans ((blk1 m c t _ l x).trans (congrArg (wI m c) (congrArg₂ ix2 rfl (Fin.ext (by simp))))))
  · exact Finset.sum_congr rfl fun x _ => congrArg₂ _
      ((ld5 _ r x).trans ((blk0 m c t r _ h).trans (congrArg (dH m c) (congrArg₂ ix2 rfl (Fin.ext (by simp))))))
      ((ld6 _ l x).trans ((blk1 m c t _ l x).trans (congrArg (wI m c) (congrArg₂ ix2 rfl (Fin.ext (by simp))))))
  · exact Finset.sum_congr rfl fun x _ => congrArg₂ _
      ((ld7 _ r x).trans ((blk0 m c t r _ h).trans (congrArg (dH m c) (congrArg₂ ix2 rfl (Fin.ext (by simp))))))
      ((ld8 _ l x).trans ((blk1 m c t _ l x).trans (congrArg (wI m c) (congrArg₂ ix2 rfl (Fin.ext (by simp))))))

theorem fin3 (c : Dev nD) : (dats m 0 c).arrAt 3 (cfgs 0).N = REF (dH m c) (wI m c) (dZ m c) := by
  refine (dats m 0 c).arrAt_eq_of_covers 3 _ (by decide +kernel) fun t _ y => ?_
  blk_simp
  rw [after0_3]; frame_out
  obtain ⟨r, l, rfl⟩ : ∃ (r : Fin 256) (l : Fin 1024), y = ix2 r l := ⟨_, _, eq_ix2 y⟩
  refine (point m c t r l (by have := idx t; omega)).trans ?_
  blk_ext [idx t]

end Cert.FfnDxIdeal.Hand
-- ==== Proof.FfnDxClaim.lean ====
module
public import proofs.«01_k».proof.Defs
public import proofs.«01_k».proof.Proof.Gen.FfnDxIdeal
public import proofs.«01_k».proof.Proof.Gen.FfnDxRefIdeal
public import proofs.«01_k».proof.Proof.FfnDxFinal
public import Idealize.ShloMosaic.Lib.Claim

/-! The gradient of the feed-forward block's input: kernel and reference end with the same array. -/

@[expose] public section
noncomputable section
namespace Cert.Proof
open Idealize.ShloMosaic Idealize.SL.Sem

/-- The reference's frame: its run, and no semaphore is declared. -/
theorem dx_reference : Cert.quiescent_FfnDxRefIdeal := by
  intro m g _
  exact (θ_run Cert.FfnDxRefIdeal.defs _ _).mono
    (fun r h => ⟨fun c => (h c).2, sem_eq_zero_of_no_sems (by decide) r.2⟩)
    (Cert.FfnDxRefIdeal.Value.run m g)

/-- The kernel and the reference end with equal arrays. -/
theorem dx_algebraic : Cert.algebraic_FfnDxIdeal_FfnDxRefIdeal := by
  intro m g m' g' _ hagree
  refine ⟨fun c => (Cert.FfnDxIdeal.Gen.dats m 0 c).arrAt 3 Cert.FfnDxIdeal.cfg0.N,
    Cert.FfnDxIdeal.Value.run_blocks m g, ?_⟩
  refine (θ_run Cert.FfnDxRefIdeal.defs _ _).mono (fun r h c => ?_)
    (Cert.FfnDxRefIdeal.Value.run m' g')
  obtain ⟨e0, e1, e2⟩ := hagree c
  refine ⟨(h c).1.trans ?_, (h c).2⟩
  refine Eq.trans ?_ (Cert.FfnDxIdeal.Hand.fin3 m c).symm
  rw [e0, e1, e2]
  rfl

end Cert.Proof
-- ==== Proof.RealLaws.lean ====
module
public import Idealize.ShloMosaic.Lib.Pipeline.ValueKit
public import Idealize.ShloMosaic.Lib.Pointwise

/-! Laws of the extended reals the feed-forward claims use: a sum may be halved before or after it is taken. -/

@[expose] public section
noncomputable section
namespace Cert.Laws
open Idealize.ShloMosaic

/-- The constant one half. -/
theorem half : Ideal.ofBits .f32 0x3F000000#32 = ((1 / 2 : ℝ) : EReal) := by
  simp [Ideal.ofBits, Ideal.ieee, -EReal.coe_mul]; norm_num

/-- A nonnegative finite number times a sum is the sum of its products. -/
theorem scale_sum {ι : Type*} (c : ℝ) (h : 0 ≤ c) (s : Finset ι) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, ← ih,
      EReal.left_distrib_of_nonneg_of_ne_top (EReal.coe_nonneg.mpr h) (EReal.coe_ne_top c)]

end Cert.Laws
-- ==== Proof.FfnDhFinal.lean ====
module
public import proofs.«01_k».proof.Proof.Gen.FfnDhIdeal.Value
public import proofs.«01_k».proof.Proof.Gen.FfnDhRefIdeal.Run
public import proofs.«01_k».proof.Proof.RealLaws
public import Idealize.ShloMosaic.Lib.Pipeline.ValueKit
public import Idealize.ShloMosaic.Lib.Pointwise

/-! The gradient of the hidden values: the second product backwards and the gated activation backwards. -/

@[expose] public section
set_option maxRecDepth 16384
noncomputable section
namespace Cert.FfnDhIdeal.Hand
open Cert.FfnDhIdeal Cert.FfnDhIdeal.Gen Idealize.ShloMosaic Idealize.ShloMosaic.TcCoe Idealize.SL.Sem
open Idealize.ShloMosaic.Pipeline (Dat)
variable (m : (ℓ : Loc nD τ sig) → Buf (Elt Ideal) ℓ)

/-- The gradient of the block's output, the second weight and the hidden values, as device `c` holds them. -/
def dZ (c : Dev nD) : FVec Ideal S8192x1024 .f32 := m ((c : Thread nD τ).loc main_arg0)
def wO (c : Dev nD) : FVec Ideal S2816x1024 .f32 := m ((c : Thread nD τ).loc main_arg1)
def hid (c : Dev nD) : FVec Ideal S8192x5632 .bf16 := m ((c : Thread nD τ).loc main_arg2)

/-- The reference's values: the gradient of the activation, the two halves of the hidden values, the logistic function of the first. -/
def RC (Z : FVec Ideal S8192x1024 .f32) (W : FVec Ideal S2816x1024 .f32) : FVec Ideal Cert.FfnDhRefIdeal.S8192x2816 .f32 :=
  Host.dotGeneral Cert.FfnDhRefIdeal.dot_S8192x1024_S2816x1024_S8192x2816_1_1_0_0_n_n none
    (mulf (broadcastInDim Cert.FfnDhRefIdeal.S8192x1024 ![] Cert.FfnDhRefIdeal.Gen.bcast_S_S8192x1024 (constant Cert.FfnDhRefIdeal.S_ .f32 0x3F000000#32)) Z) W
def RG (H : FVec Ideal S8192x5632 .bf16) : FVec Ideal Cert.FfnDhRefIdeal.S8192x2816 .f32 :=
  extractStridedSlice Cert.FfnDhRefIdeal.S8192x2816 ![0, 0] (extf .f32 H Cert.FfnDhRefIdeal.Gen.bitsLt_bf16_f32) Cert.FfnDhRefIdeal.Gen.slices_S8192x5632_S8192x2816_0_0
def RU (H : FVec Ideal S8192x5632 .bf16) : FVec Ideal Cert.FfnDhRefIdeal.S8192x2816 .f32 :=
  extractStridedSlice Cert.FfnDhRefIdeal.S8192x2816 ![0, 2816] (extf .f32 H Cert.FfnDhRefIdeal.Gen.bitsLt_bf16_f32) Cert.FfnDhRefIdeal.Gen.slices_S8192x5632_S8192x2816_0_2816
def ONE : FVec Ideal Cert.FfnDhRefIdeal.S8192x2816 .f32 :=
  broadcastInDim Cert.FfnDhRefIdeal.S8192x2816 ![] Cert.FfnDhRefIdeal.Gen.bcast_S_S8192x2816 (constant Cert.FfnDhRefIdeal.S_ .f32 0x3F800000#32)
def RS (G : FVec Ideal Cert.FfnDhRefIdeal.S8192x2816 .f32) : FVec Ideal Cert.FfnDhRefIdeal.S8192x2816 .f32 :=
  Host.divf ONE (addf ONE (Host.exp (Host.negf G)))
/-- The reference's result: the gradients of the two halves side by side. -/
def REFC (C G U S : FVec Ideal Cert.FfnDhRefIdeal.S8192x2816 .f32) : FVec Ideal S8192x5632 .bf16 :=
  truncf .bf16 (concatenate Cert.FfnDhRefIdeal.S8192x5632 1
    [⟨Cert.FfnDhRefIdeal.S8192x2816, addf (mulf (mulf C U) S) (mulf (mulf G (mulf C U)) (mulf S (subf ONE S)))⟩,
     ⟨Cert.FfnDhRefIdeal.S8192x2816, mulf (mulf G S) C⟩] Cert.FfnDhRefIdeal.Gen.concatenates_S8192x2816_S8192x2816_S8192x5632_d1) Cert.FfnDhRefIdeal.Gen.bitsLt_bf16_f32
def REF (Z : FVec Ideal S8192x1024 .f32) (W : FVec Ideal S2816x1024 .f32) (H : FVec Ideal S8192x5632 .bf16) : FVec Ideal S8192x5632 .bf16 :=
  REFC (RC Z W) (RG H) (RU H) (RS (RG H))

/-- The gradient of the activation at a row and a column. -/
def CT (Z : FVec Ideal S8192x1024 .f32) (W : FVec Ideal S2816x1024 .f32) (r : Fin 8192) (l : Fin 2816) : EReal :=
  ((1 / 2 : ℝ) : EReal) * ∑ k : Fin 1024, Z (ix2 r k) * W (ix2 l k)

theorem RC_at (Z : FVec Ideal S8192x1024 .f32) (W : FVec Ideal S2816x1024 .f32) (r : Fin 8192) (l : Fin 2816) :
    RC Z W (ix2 r l) = CT Z W r l := by
  unfold CT
  rw [Cert.Laws.scale_sum _ (by norm_num)]
  pointwise [RC]
  rw [Cert.Laws.half]
  exact Finset.sum_congr rfl fun R _ => mul_assoc _ _ _
theorem RG_at (H : FVec Ideal S8192x5632 .bf16) (r : Fin 8192) (l : Fin 2816) : RG H (ix2 r l) = H (ix2 r ⟨l, by omega⟩) := by
  pointwise [RG]
theorem RU_at (H : FVec Ideal S8192x5632 .bf16) (r : Fin 8192) (l : Fin 2816) : RU H (ix2 r l) = H (ix2 r ⟨2816 + l, by omega⟩) := by
  pointwise [RU]
theorem RS_at (G : FVec Ideal Cert.FfnDhRefIdeal.S8192x2816 .f32) (r : Fin 8192) (l : Fin 2816) : RS G (ix2 r l) = Ideal.logistic (G (ix2 r l)) := by
  unfold Ideal.logistic
  pointwise [RS, ONE]

theorem REFC_left (C G U S : FVec Ideal Cert.FfnDhRefIdeal.S8192x2816 .f32) (r : Fin 8192) (l : Fin 2816) (l' : Fin 5632) (hl : (l' : ℕ) = l) :
    REFC C G U S (ix2 r l') = C (ix2 r l) * U (ix2 r l) * S (ix2 r l)
      + G (ix2 r l) * (C (ix2 r l) * U (ix2 r l)) * (S (ix2 r l) * (1 - S (ix2 r l))) := by
  have e : l' = ⟨l, by omega⟩ := Fin.ext hl
  rw [e]
  pointwise [REFC, ONE]
theorem REFC_right (C G U S : FVec Ideal Cert.FfnDhRefIdeal.S8192x2816 .f32) (r : Fin 8192) (l : Fin 2816) (l' : Fin 5632) (hl : (l' : ℕ) = 2816 + l) :
    REFC C G U S (ix2 r l') = G (ix2 r l) * S (ix2 r l) * C (ix2 r l) := by
  have e : l' = ⟨2816 + l, by omega⟩ := Fin.ext hl
  rw [e]
  pointwise [REFC, ONE]

theorem idx : ∀ t : Fin cfg0.N, win0_0.index t = ![t.val, 0] ∧ win0_1.index t = ![0, 0] ∧ win0_2.index t = ![t.val, 0]
    ∧ win0_3.index t = ![t.val, 0] ∧ t.val < 32 :=
  (by decide +kernel : ∀ t : Fin grid0.N, _)

theorem blk0 (c : Dev nD) (t : Fin cfg0.N) (r : Fin 256) (k : Fin 1024) (h : 256 * t.val + r < 8192) :
    (show FVec Ideal S256x1024 .f32 from iblk m c 0 t) (ix2 r k) = dZ m c (ix2 ⟨256 * t.val + r, h⟩ k) := by
  show iblk m c 0 t (ix2 r k) = m ((c : Thread nD τ).loc main_arg0) _
  blk_ext [iblk, V, idx t]

theorem wcast (c : Dev nD) (l : Fin 2816) (k : Fin 1024) :
    (show FVec Ideal S2816x1024 .bf16 from V m c (Pipeline.arrRef spec0 1)) (ix2 l k) = wO m c (ix2 l k) := by
  entry_read
  pointwise
  rfl

theorem blk1 (c : Dev nD) (t : Fin cfg0.N) (l : Fin 2816) (k : Fin 1024) :
    (show FVec Ideal S2816x1024 .bf16 from iblk m c 1 t) (ix2 l k) = wO m c (ix2 l k) := by
  refine Eq.trans ?_ (wcast m c l k)
  show iblk m c 1 t (ix2 l k) = V m c (Pipeline.arrRef spec0 1) (ix2 l k)
  blk_ext [iblk, idx t]

theorem blk2 (c : Dev nD) (t : Fin cfg0.N) (r : Fin 256) (k : Fin 5632) (h : 256 * t.val + r < 8192) :
    (show FVec Ideal S256x5632 .bf16 from iblk m c 2 t) (ix2 r k) = hid m c (ix2 ⟨256 * t.val + r, h⟩ k) := by
  show iblk m c 2 t (ix2 r k) = m ((c : Thread nD τ).loc main_arg2) _
  blk_ext [iblk, V, idx t]

/-- The product's entry over a block, `o` the first of the columns it works on. -/
def DOT (x0 : Vec Ideal S256x1024 .f32) (x1 : Vec Ideal S2816x1024 .bf16) (r : Fin 256) (l : Fin 2816) : EReal :=
  ∑ k : Fin 1024, (show FVec Ideal S256x1024 .f32 from x0) (ix2 r k) * (show FVec Ideal S2816x1024 .bf16 from x1) (ix2 l k)

theorem pay7_at (x0 : Vec Ideal S256x1024 .f32) (x1 : Vec Ideal S2816x1024 .bf16) (r : Fin 256) (l : Fin 1408) :
    k0_pay7 (View.ld x0 r0_0) (View.ld x1 r0_1) (ix2 r l) = ((1 / 2 : ℝ) : EReal) * DOT x0 x1 r ⟨l, by omega⟩ := by
  unfold DOT
  rw [View.ld_unit, View.ld_unit]
  pointwise [k0_pay7, k0_pay6]
  rw [Cert.Laws.half]
theorem pay13_at (x0 : Vec Ideal S256x1024 .f32) (x1 : Vec Ideal S2816x1024 .bf16) (x2 : Vec Ideal S256x5632 .bf16) (r : Fin 256) (l : Fin 1408) :
    k0_pay1 (k0_pay13 x0 x1 x2) (ix2 r l) = ((1 / 2 : ℝ) : EReal) * DOT x0 x1 r ⟨1408 + l, by omega⟩ := by
  unfold DOT k0_pay13
  rw [View.ld_unit, View.ld_unit]
  pointwise [k0_pay1, k0_pay12, k0_pay6]
  rw [Cert.Laws.half]

/-- The two gradients of the gated activation, as the kernel writes them. -/
def KG (C g u : EReal) : EReal := C * u * Ideal.logistic g * (1 + g * (1 - Ideal.logistic g))
def KU (C g : EReal) : EReal := C * g * Ideal.logistic g

theorem pay4_at (v34 : FVec Ideal S256x1408 .f32) (v37 v39 : Vec Ideal S256x1408 .bf16) (r : Fin 256) (l : Fin 1408) :
    k0_pay4 v34 v37 v39 (ix2 r l) = KG (k0_pay1 v34 (ix2 r l)) (v37 (ix2 r l)) (v39 (ix2 r l)) := by
  unfold KG Ideal.logistic
  pointwise [k0_pay4, k0_pay3, k0_pay2]
  rw [zero_sub]
theorem pay5_at (v34 : FVec Ideal S256x1408 .f32) (v37 : Vec Ideal S256x1408 .bf16) (r : Fin 256) (l : Fin 1408) :
    k0_pay5 v34 v37 (ix2 r l) = KU (k0_pay1 v34 (ix2 r l)) (v37 (ix2 r l)) := by
  unfold KU Ideal.logistic
  pointwise [k0_pay5, k0_pay3, k0_pay2]
  rw [zero_sub]
theorem pay10_at (v0 : Vec Ideal S256x1024 .f32) (v2 : Vec Ideal S1408x1024 .bf16) (v7 v9 : Vec Ideal S256x1408 .bf16) (r : Fin 256) (l : Fin 1408) :
    k0_pay10 v0 v2 v7 v9 (ix2 r l) = KG (k0_pay7 v0 v2 (ix2 r l)) (v7 (ix2 r l)) (v9 (ix2 r l)) := by
  unfold KG Ideal.logistic
  pointwise [k0_pay10, k0_pay9, k0_pay8]
  rw [zero_sub]
theorem pay11_at (v0 : Vec Ideal S256x1024 .f32) (v2 : Vec Ideal S1408x1024 .bf16) (v7 : Vec Ideal S256x1408 .bf16) (r : Fin 256) (l : Fin 1408) :
    k0_pay11 v0 v2 v7 (ix2 r l) = KU (k0_pay7 v0 v2 (ix2 r l)) (v7 (ix2 r l)) := by
  unfold KU Ideal.logistic
  pointwise [k0_pay11, k0_pay9, k0_pay8]
  rw [zero_sub]

theorem ld2 (X : Vec Ideal S256x5632 .bf16) (r : Fin 256) (x : Fin 1408) : View.ld X r0_2 (ix2 r x) = X (ix2 r ⟨x, by omega⟩) := by
  rw [View.ld_unit]; pointwise
theorem ld3 (X : Vec Ideal S256x5632 .bf16) (r : Fin 256) (x : Fin 1408) : View.ld X r0_3 (ix2 r x) = X (ix2 r ⟨2816 + x, by omega⟩) := by
  rw [View.ld_unit]; pointwise
theorem ld5 (X : Vec Ideal S256x5632 .bf16) (r : Fin 256) (x : Fin 1408) : View.ld X r0_5 (ix2 r x) = X (ix2 r ⟨1408 + x, by omega⟩) := by
  rw [View.ld_unit]; pointwise
theorem ld6 (X : Vec Ideal S256x5632 .bf16) (r : Fin 256) (x : Fin 1408) : View.ld X r0_6 (ix2 r x) = X (ix2 r ⟨4224 + x, by omega⟩) := by
  rw [View.ld_unit]; pointwise

theorem DOT_CT (c : Dev nD) (t : Fin cfg0.N) (r : Fin 256) (l : Fin 2816) (h : 256 * t.val + r < 8192) :
    ((1 / 2 : ℝ) : EReal) * DOT (iblk m c 0 t) (iblk m c 1 t) r l = CT (dZ m c) (wO m c) ⟨256 * t.val + r, h⟩ l := by
  unfold DOT CT
  exact congrArg _ (Finset.sum_congr rfl fun k _ => congrArg₂ _ (blk0 m c t r k h) (blk1 m c t l k))

/-- A column of the result, `l` its place in its half: the left half holds the first half's gradient. -/
theorem point_left (c : Dev nD) (t : Fin cfg0.N) (r : Fin 256) (l : Fin 2816) (l' : Fin 5632) (hl' : (l' : ℕ) = l) (h : 256 * t.val + r < 8192) :
    out0_3 (iblk m c 0 t) (iblk m c 1 t) (iblk m c 2 t) (ix2 r l')
      = KG (CT (dZ m c) (wO m c) ⟨256 * t.val + r, h⟩ l) (hid m c (ix2 ⟨256 * t.val + r, h⟩ ⟨l, by omega⟩)) (hid m c (ix2 ⟨256 * t.val + r, h⟩ ⟨2816 + l, by omega⟩)) := by
  obtain ⟨l, hlt⟩ := l
  unfold out0_3
  canon_tiles x hx
  all_goals
    obtain ⟨a, b, rfl⟩ : ∃ (a : Fin 256) (b : Fin 1408), x = ix2 a b := ⟨_, _, eq_ix2 x⟩
    obtain rfl : r = a := Fin.ext hx0
  · have hl : (l' : ℕ) = 4224 + b := hx1
    omega
  · have hl : (l' : ℕ) = 1408 + b := hx1
    obtain rfl : l = 1408 + b := by have h2 : (l' : ℕ) = l := hl'; omega
    rw [pay4_at, pay13_at, DOT_CT m c t r _ h, ld5, ld6]
    exact congrArg₂ (KG _) (blk2 m c t r _ h) ((blk2 m c t r _ h).trans (congrArg (hid m c) (congrArg₂ ix2 rfl (Fin.ext (by simp; omega)))))
  · have hl : (l' : ℕ) = 2816 + b := hx1
    omega
  · have hl : (l' : ℕ) = b := hx1
    obtain rfl : l = (b : ℕ) := by have h2 : (l' : ℕ) = l := hl'; omega
    rw [pay10_at, pay7_at, DOT_CT m c t r _ h, ld2, ld3]
    exact congrArg₂ (KG _) (blk2 m c t r _ h) (blk2 m c t r _ h)

theorem point_right (c : Dev nD) (t : Fin cfg0.N) (r : Fin 256) (l : Fin 2816) (l' : Fin 5632) (hl' : (l' : ℕ) = 2816 + l) (h : 256 * t.val + r < 8192) :
    out0_3 (iblk m c 0 t) (iblk m c 1 t) (iblk m c 2 t) (ix2 r l')
      = KU (CT (dZ m c) (wO m c) ⟨256 * t.val + r, h⟩ l) (hid m c (ix2 ⟨256 * t.val + r, h⟩ ⟨l, by omega⟩)) := by
  obtain ⟨l, hlt⟩ := l
  unfold out0_3
  canon_tiles x hx
  all_goals
    obtain ⟨a, b, rfl⟩ : ∃ (a : Fin 256) (b : Fin 1408), x = ix2 a b := ⟨_, _, eq_ix2 x⟩
    obtain rfl : r = a := Fin.ext hx0
  · have hl : (l' : ℕ) = 4224 + b := hx1
    obtain rfl : l = 1408 + b := by have h2 : (l' : ℕ) = 2816 + l := hl'; omega
    rw [pay5_at, pay13_at, DOT_CT m c t r _ h, ld5]
    exact congrArg (KU _) (blk2 m c t r _ h)
  · have hl : (l' : ℕ) = 1408 + b := hx1
    omega
  · have hl : (l' : ℕ) = 2816 + b := hx1
    obtain rfl : l = (b : ℕ) := by have h2 : (l' : ℕ) = 2816 + l := hl'; omega
    rw [pay11_at, pay7_at, DOT_CT m c t r _ h, ld2]
    exact congrArg (KU _) (blk2 m c t r _ h)
  · have hl : (l' : ℕ) = b := hx1
    omega

/-- What the finite gradient, weight and second half make finite: the gradient that reaches the activation. -/
theorem mul_fin {a b : EReal} (ha : a ≠ ⊤ ∧ a ≠ ⊥) (hb : b ≠ ⊤ ∧ b ≠ ⊥) : a * b ≠ ⊤ ∧ a * b ≠ ⊥ := by
  lift a to ℝ using ha
  lift b to ℝ using hb
  exact ⟨EReal.coe_ne_top _, EReal.coe_ne_bot _⟩
theorem sum_fin {ι : Type} (s : Finset ι) (f : ι → EReal) (h : ∀ i, f i ≠ ⊤ ∧ f i ≠ ⊥) : ∑ i ∈ s, f i ≠ ⊤ ∧ ∑ i ∈ s, f i ≠ ⊥ := by
  classical
  induction s using Finset.induction_on with
  | empty => simp
  | insert i s hi ih =>
    rw [Finset.sum_insert hi]
    obtain ⟨a, ha⟩ : ∃ a : ℝ, f i = a := ⟨_, (EReal.coe_toReal (h i).1 (h i).2).symm⟩
    obtain ⟨b, hb⟩ : ∃ b : ℝ, ∑ i ∈ s, f i = b := ⟨_, (EReal.coe_toReal ih.1 ih.2).symm⟩
    rw [ha, hb]
    exact ⟨EReal.coe_ne_top (a + b), EReal.coe_ne_bot (a + b)⟩

/-- The first half's gradient: the kernel's factored form is the product rule's sum, where the gradient coming in is finite. -/
theorem KG_eq (C g u : EReal) (hD : C * u ≠ ⊤ ∧ C * u ≠ ⊥) :
    KG C g u = C * u * Ideal.logistic g + g * (C * u) * (Ideal.logistic g * (1 - Ideal.logistic g)) := by
  unfold KG
  generalize C * u = D at hD
  lift D to ℝ using hD
  induction g using EReal.rec with
  | bot => simp
  | top =>
    have e : (1 : EReal) - 1 = 0 := by rw [← EReal.coe_one, ← EReal.coe_sub, sub_self, EReal.coe_zero]
    simp [e]
  | coe g =>
    rw [Ideal.logistic_coe]
    generalize (1 + Real.exp (-g))⁻¹ = s
    have : D * s * (1 + g * (1 - s)) = D * s + g * D * (s * (1 - s)) := by ring
    exact_mod_cast congrArg ((↑) : ℝ → EReal) this
theorem KU_eq (C g : EReal) : KU C g = g * Ideal.logistic g * C := by
  unfold KU
  rw [mul_comm C g, mul_assoc, mul_comm C, mul_assoc]

/-- The arrays the precondition makes finite. -/
def Fin_ (Z : FVec Ideal S8192x1024 .f32) (W : FVec Ideal S2816x1024 .f32) (H : FVec Ideal S8192x5632 .bf16) : Prop :=
  (∀ i, Z i ≠ ⊤ ∧ Z i ≠ ⊥) ∧ (∀ i, W i ≠ ⊤ ∧ W i ≠ ⊥) ∧ ∀ (r : Fin 8192) (l : Fin 2816), H (ix2 r ⟨2816 + l, by omega⟩) ≠ ⊤ ∧ H (ix2 r ⟨2816 + l, by omega⟩) ≠ ⊥

theorem D_fin (Z : FVec Ideal S8192x1024 .f32) (W : FVec Ideal S2816x1024 .f32) (H : FVec Ideal S8192x5632 .bf16) (h : Fin_ Z W H) (r : Fin 8192) (l : Fin 2816) :
    CT Z W r l * H (ix2 r ⟨2816 + l, by omega⟩) ≠ ⊤ ∧ CT Z W r l * H (ix2 r ⟨2816 + l, by omega⟩) ≠ ⊥ :=
  mul_fin (mul_fin ⟨EReal.coe_ne_top _, EReal.coe_ne_bot _⟩ (sum_fin _ _ fun k => mul_fin (h.1 _) (h.2.1 _))) (h.2.2 r l)

theorem REF_left (Z : FVec Ideal S8192x1024 .f32) (W : FVec Ideal S2816x1024 .f32) (H : FVec Ideal S8192x5632 .bf16) (h : Fin_ Z W H) (r : Fin 8192) (l : Fin 2816) (l' : Fin 5632) (hl : (l' : ℕ) = l) :
    REF Z W H (ix2 r l') = KG (CT Z W r l) (H (ix2 r ⟨l, by omega⟩)) (H (ix2 r ⟨2816 + l, by omega⟩)) := by
  unfold REF
  rw [REFC_left _ _ _ _ r l l' hl, RC_at, RS_at, RG_at, RU_at, KG_eq _ _ _ (D_fin Z W H h r l)]
theorem REF_right (Z : FVec Ideal S8192x1024 .f32) (W : FVec Ideal S2816x1024 .f32) (H : FVec Ideal S8192x5632 .bf16) (r : Fin 8192) (l : Fin 2816) (l' : Fin 5632) (hl : (l' : ℕ) = 2816 + l) :
    REF Z W H (ix2 r l') = KU (CT Z W r l) (H (ix2 r ⟨l, by omega⟩)) := by
  unfold REF
  rw [REFC_right _ _ _ _ r l l' hl, RC_at, RS_at, RG_at, KU_eq]

theorem point (c : Dev nD) (hf : Fin_ (dZ m c) (wO m c) (hid m c)) (t : Fin cfg0.N) (r : Fin 256) (l : Fin 5632) (h : 256 * t.val + r < 8192) :
    out0_3 (iblk m c 0 t) (iblk m c 1 t) (iblk m c 2 t) (ix2 r l) = REF (dZ m c) (wO m c) (hid m c) (ix2 ⟨256 * t.val + r, h⟩ l) := by
  by_cases hl : (l : ℕ) < 2816
  · exact (point_left m c t r ⟨l, hl⟩ l rfl h).trans (REF_left _ _ _ hf _ ⟨l, hl⟩ l rfl).symm
  · have e : (l : ℕ) = 2816 + (l - 2816) := by omega
    exact (point_right m c t r ⟨l - 2816, by omega⟩ l e h).trans (REF_right _ _ _ _ ⟨l - 2816, by omega⟩ l e).symm

theorem fin3 (c : Dev nD) (hf : Fin_ (dZ m c) (wO m c) (hid m c)) : (dats m 0 c).arrAt 3 (cfgs 0).N = REF (dZ m c) (wO m c) (hid m c) := by
  refine (dats m 0 c).arrAt_eq_of_covers 3 _ (by decide +kernel) fun t _ y => ?_
  blk_simp
  rw [after0_3]
  obtain ⟨r, l, rfl⟩ : ∃ (r : Fin 256) (l : Fin 5632), y = ix2 r l := ⟨_, _, eq_ix2 y⟩
  refine (point m c hf t r l (by have := idx t; omega)).trans ?_
  blk_ext [idx t]

end Cert.FfnDhIdeal.Hand
-- ==== Proof.FfnDhClaim.lean ====
module
public import proofs.«01_k».proof.Defs
public import proofs.«01_k».proof.Proof.Gen.FfnDhIdeal
public import proofs.«01_k».proof.Proof.Gen.FfnDhRefIdeal
public import proofs.«01_k».proof.Proof.FfnDhFinal
public import Idealize.ShloMosaic.Lib.Claim
public import Idealize.ShloMosaic.Lib.Affine
public import Idealize.ShloMosaic.Lib.ReduceAll

/-! The gradient of the hidden values: kernel and reference end with the same array, from finite arguments. -/

@[expose] public section
set_option maxRecDepth 16384
noncomputable section
namespace Cert.Proof
open Idealize.ShloMosaic Idealize.SL.Sem

/-- The reference's frame: its run, and no semaphore is declared. -/
theorem dh_reference : Cert.quiescent_FfnDhRefIdeal := by
  intro m g _
  exact (θ_run Cert.FfnDhRefIdeal.defs _ _).mono
    (fun r h => ⟨fun c => (h c).2, sem_eq_zero_of_no_sems (by decide) r.2⟩)
    (Cert.FfnDhRefIdeal.Value.run m g)

theorem dh_reference_finite [Cert.Pre_hidden_finite.Facts] : Cert.quiescent_FfnDhRefIdeal_pre_hidden_finite :=
  fun m g _ => dh_reference m g trivial

/-- The shapes the precondition's operations state. -/
theorem hidden_facts : Cert.Pre_hidden_finite.Facts where
  slices_S8192x5632_S8192x2816_0_2816 := by decide
  bitsLt_bf16_f32 := by decide
  bcast_S_S8192x1024 := by decide
  reducesTo_S8192x1024_S_d0_1 := by decide
  h_S_ := by decide
  bcast_S_S2816x1024 := by decide
  reducesTo_S2816x1024_S_d0_1 := by decide
  bcast_S_S8192x2816 := by decide
  reducesTo_S8192x2816_S_d0_1 := by decide

/-- A value whose magnitude compares below infinity is neither infinity. -/
theorem below_inf {x : EReal} (h : Ideal.cmp .olt (max x (-x)) (Ideal.ofBits .f32 0x7F800000#32) = 1#1) : x ≠ ⊤ ∧ x ≠ ⊥ := by
  have e : Ideal.ofBits .f32 0x7F800000#32 = ⊤ := by simp [Ideal.ofBits, Ideal.ieee]
  rw [e] at h
  unfold Ideal.cmp at h
  constructor <;> rintro rfl <;> simp at h

/-- What the precondition says of each element. -/
theorem pre_fin [Cert.Pre_hidden_finite.Facts] (m : (ℓ : Loc Cert.FfnDhIdeal.nD Cert.FfnDhIdeal.τ Cert.FfnDhIdeal.sig) → Buf (Elt Ideal) ℓ)
    (h : Cert.Pre_FfnDhIdeal_hidden_finite m) (c : Dev Cert.FfnDhIdeal.nD) :
    Cert.FfnDhIdeal.Hand.Fin_ (Cert.FfnDhIdeal.Hand.dZ m c) (Cert.FfnDhIdeal.Hand.wO m c) (Cert.FfnDhIdeal.Hand.hid m c) := by
  have hj := congrFun (h c) ix0
  obtain ⟨h1, h3⟩ := IntOp.andi_eq_one.1 hj
  obtain ⟨h1, h2⟩ := IntOp.andi_eq_one.1 h1
  refine ⟨fun i => below_inf (Host.reduce_andi_all _ _ _ _ _ h1 i), fun i => below_inf (Host.reduce_andi_all _ _ _ _ _ h2 i), fun r l => ?_⟩
  have e := below_inf (Host.reduce_andi_all _ _ _ _ _ h3 (ix2 r l))
  have q : extractStridedSlice Cert.Pre_hidden_finite.S8192x2816 ![0, 2816] (Cert.FfnDhIdeal.Hand.hid m c) Cert.Pre_hidden_finite.Facts.slices_S8192x5632_S8192x2816_0_2816 (ix2 r l)
      = Cert.FfnDhIdeal.Hand.hid m c (ix2 r ⟨2816 + l, by omega⟩) := by pointwise
  exact ⟨fun he => e.1 (q.trans he), fun he => e.2 (q.trans he)⟩

/-- The kernel and the reference end with equal arrays. -/
theorem dh_algebraic [Cert.Pre_hidden_finite.Facts] : Cert.algebraic_FfnDhIdeal_FfnDhRefIdeal_pre_hidden_finite := by
  intro m g m' g' hpre hagree
  refine ⟨fun c => (Cert.FfnDhIdeal.Gen.dats m 0 c).arrAt 3 Cert.FfnDhIdeal.cfg0.N,
    Cert.FfnDhIdeal.Value.run_blocks m g, ?_⟩
  refine (θ_run Cert.FfnDhRefIdeal.defs _ _).mono (fun r h c => ?_)
    (Cert.FfnDhRefIdeal.Value.run m' g')
  obtain ⟨e0, e1, e2⟩ := hagree c
  refine ⟨(h c).1.trans ?_, (h c).2⟩
  refine Eq.trans ?_ (Cert.FfnDhIdeal.Hand.fin3 m c (pre_fin m hpre c)).symm
  rw [e0, e1, e2]
  rfl

end Cert.Proof
-- ==== Proof.FfnDwiFinal.lean ====
module
public import proofs.«01_k».proof.Proof.Gen.FfnDwiIdeal.Value
public import proofs.«01_k».proof.Proof.Gen.FfnDwiRefIdeal.Run
public import Idealize.ShloMosaic.Lib.Pipeline.ValueKit
public import Idealize.ShloMosaic.Lib.Pointwise

/-! The gradient of the first weight: the kernel adds eight stretches of rows for each slab, the reference sums over all rows. -/

@[expose] public section
set_option maxRecDepth 16384
noncomputable section
namespace Cert.FfnDwiIdeal.Hand
open Cert.FfnDwiIdeal Cert.FfnDwiIdeal.Gen Idealize.ShloMosaic Idealize.ShloMosaic.TcCoe Idealize.SL.Sem
open Idealize.ShloMosaic.Pipeline (Dat)
variable (m : (ℓ : Loc nD τ sig) → Buf (Elt Ideal) ℓ)

/-- The block's input and the gradient of the hidden values, as device `c` holds them. -/
def xIn (c : Dev nD) : FVec Ideal S8192x1024 .f32 := m ((c : Thread nD τ).loc main_arg0)
def dH (c : Dev nD) : FVec Ideal S8192x5632 .bf16 := m ((c : Thread nD τ).loc main_arg1)

/-- The reference's term over its two arrays. -/
def REF (X : FVec Ideal S8192x1024 .f32) (H : FVec Ideal S8192x5632 .bf16) : FVec Ideal S4x1024x1408 .bf16 :=
  truncf .bf16 (transpose Cert.FfnDwiRefIdeal.S4x1024x1408 [1, 0, 2] (shapeCast _ (transpose Cert.FfnDwiRefIdeal.S1024x5632 [1, 0]
    (Host.dotGeneral Cert.FfnDwiRefIdeal.dot_S8192x5632_S8192x1024_S5632x1024_0_0_1_1_n_n none (extf .f32 H Cert.FfnDwiRefIdeal.Gen.bitsLt_bf16_f32) X)
    Cert.FfnDwiRefIdeal.Gen.transposes_S5632x1024_S1024x5632_1_0) Cert.FfnDwiRefIdeal.Gen.shapeCasts_S1024x5632_S1024x4x1408)
    Cert.FfnDwiRefIdeal.Gen.transposes_S1024x4x1408_S4x1024x1408_1_0_2) Cert.FfnDwiRefIdeal.Gen.bitsLt_bf16_f32

theorem ref_at (X : FVec Ideal S8192x1024 .f32) (H : FVec Ideal S8192x5632 .bf16) (s : Fin 4) (i : Fin 1024) (l : Fin 1408) :
    REF X H (ix3 s i l) = ∑ R : Fin 8192, X (ix2 R i) * H (ix2 R ⟨s * 1408 + l, by omega⟩) := by
  pointwise [REF]
  exact Finset.sum_congr rfl fun R _ => mul_comm _ _

theorem idx : ∀ t : Fin cfg0.N, win0_0.index t = ![t.val % 8, 0] ∧ win0_1.index t = ![t.val % 8, t.val / 8] ∧ win0_2.index t = ![t.val / 8, 0, 0]
    ∧ t.val < 32 :=
  (by decide +kernel : ∀ t : Fin grid0.N, _)

theorem blk0 (c : Dev nD) (t : Fin cfg0.N) (r : Fin 1024) (i : Fin 1024) (h : t.val % 8 * 1024 + r < 8192) :
    (show FVec Ideal S1024x1024 .f32 from iblk m c 0 t) (ix2 r i) = xIn m c (ix2 ⟨t.val % 8 * 1024 + r, h⟩ i) := by
  show iblk m c 0 t (ix2 r i) = m ((c : Thread nD τ).loc main_arg0) _
  blk_ext [iblk, V, idx t]

theorem blk1 (c : Dev nD) (t : Fin cfg0.N) (r : Fin 1024) (l : Fin 1408) (h : t.val % 8 * 1024 + r < 8192) (h' : t.val / 8 * 1408 + l < 5632) :
    (show FVec Ideal S1024x1408 .bf16 from iblk m c 1 t) (ix2 r l) = dH m c (ix2 ⟨t.val % 8 * 1024 + r, h⟩ ⟨t.val / 8 * 1408 + l, h'⟩) := by
  show iblk m c 1 t (ix2 r l) = m ((c : Thread nD τ).loc main_arg1) _
  blk_ext [iblk, V, idx t]

theorem pay1_at (j : S1024x1408.Idx) : k0_pay1 (F := Ideal) j = 0 := by pointwise [k0_pay1]

theorem pay2_at (acc : Vec Ideal S1024x1408 .f32) (a : Vec Ideal S1024x1024 .f32) (b : Vec Ideal S1024x1408 .bf16) (i : Fin 1024) (l : Fin 1408) :
    k0_pay2 acc a b (ix2 i l) = acc (ix2 i l) + ∑ k : Fin 1024, a (ix2 k i) * b (ix2 k l) := by
  pointwise [k0_pay2]

theorem pay3_at (acc : Vec Ideal S1024x1408 .f32) (u : Fin 1) (i : Fin 1024) (l : Fin 1408) :
    k0_pay3 acc (ix3 u i l) = acc (ix2 i l) := by
  pointwise [k0_pay3]

/-- What a point adds to the accumulator. -/
def TERM (c : Dev nD) (t : Fin cfg0.N) (j : S1024x1408.Idx) : EReal :=
  ∑ k : Fin 1024, (show FVec Ideal S1024x1024 .f32 from iblk m c 0 t) (ix2 k (j 0)) * (show FVec Ideal S1024x1408 .bf16 from iblk m c 1 t) (ix2 k (j 1))

theorem acc_reset (c : Dev nD) (t : Fin cfg0.N) (h : t.val % 8 = 0) (j : S1024x1408.Idx) :
    (outsAt0 m c t.val t.isLt).2 j = 0 + TERM m c t j := by
  obtain ⟨i, l, rfl⟩ : ∃ (i : Fin 1024) (l : Fin 1408), j = ix2 i l := ⟨_, _, eq_ix2 j⟩
  rw [outsAt0_A m c t h (by omega)]
  frame_out
  rw [pay2_at, pay1_at]
  rfl

theorem acc_step (c : Dev nD) (t : Fin cfg0.N) (h : ¬t.val % 8 = 0) (j : S1024x1408.Idx) :
    (outsAt0 m c t.val t.isLt).2 j = (outsAt0 m c (t.val - 1) (Nat.lt_of_le_of_lt (Nat.sub_le _ _) t.isLt)).2 j + TERM m c t j := by
  obtain ⟨i, l, rfl⟩ : ∃ (i : Fin 1024) (l : Fin 1408), j = ix2 i l := ⟨_, _, eq_ix2 j⟩
  by_cases h7 : t.val % 8 = 7
  · rw [outsAt0_C m c t h h7]
    frame_out
    rw [pay2_at]
    exact congrArg₂ (· + ·) (congrFun (Memref.IsWhole.read_unread _ _) (ix2 i l)) rfl
  · rw [outsAt0_B m c t h h7]
    frame_out
    rw [pay2_at]
    exact congrArg₂ (· + ·) (congrFun (Memref.IsWhole.read_unread _ _) (ix2 i l)) rfl

theorem out_last (c : Dev nD) (t : Fin cfg0.N) (h : t.val % 8 = 7) (u : Fin 1) (i : Fin 1024) (l : Fin 1408) :
    (outsAt0 m c t.val t.isLt).1 (ix3 u i l) = (outsAt0 m c t.val t.isLt).2 (ix2 i l) := by
  rw [outsAt0_C m c t (by omega) h]
  frame_out
  rw [pay3_at]

theorem acc_last (c : Dev nD) (t : Fin cfg0.N) (h : t.val % 8 = 7) (i : Fin 1024) (l : Fin 1408) (h' : t.val / 8 < 4) :
    (outsAt0 m c t.val t.isLt).2 (ix2 i l) = REF (xIn m c) (dH m c) (ix3 ⟨t.val / 8, h'⟩ i l) := by
  refine (Pipeline.eq_sum_fin_of_reset_step_apply_of_flush (fun n hn => (outsAt0 m c n hn).2) 8 (fun _ => (0 : EReal)) (TERM m c)
    (acc_reset m c) (acc_step m c) t h (ix2 i l)).trans ?_
  rw [zero_add, ref_at]
  unfold TERM
  refine Fin.sum_mul_add_congr fun s k hl => ?_
  have hN := (idx t).2.2.2
  have hs : (8 * (t.val / 8) + s.val) % 8 = s.val := by omega
  have hd : (8 * (t.val / 8) + s.val) / 8 = t.val / 8 := by omega
  refine congrArg₂ _ ((blk0 m c _ k i (by show (8 * (t.val / 8) + s.val) % 8 * 1024 + k < 8192; omega)).trans ?_)
    ((blk1 m c _ k l (by show (8 * (t.val / 8) + s.val) % 8 * 1024 + k < 8192; omega) (by show (8 * (t.val / 8) + s.val) / 8 * 1408 + l < 5632; omega)).trans ?_)
  · exact congrArg (xIn m c) (congrArg₂ ix2 (Fin.ext (by show (8 * (t.val / 8) + s.val) % 8 * 1024 + k = s * 1024 + k; rw [hs])) rfl)
  · exact congrArg (dH m c) (congrArg₂ ix2 (Fin.ext (by show (8 * (t.val / 8) + s.val) % 8 * 1024 + k = s * 1024 + k; rw [hs]))
      (Fin.ext (by show (8 * (t.val / 8) + s.val) / 8 * 1408 + l = t.val / 8 * 1408 + l; rw [hd])))

theorem fin2 (c : Dev nD) : (dats m 0 c).arrAt 2 (cfgs 0).N = REF (xIn m c) (dH m c) := by
  refine (dats m 0 c).arrAt_eq_of_covers 2 _ (by decide +kernel) fun t hf y => ?_
  have h7 : t.val % 8 = 7 := (flush0_2 t).mp hf
  blk_simp
  rw [after0_2]
  obtain ⟨u, i, l, rfl⟩ : ∃ (u : Fin 1) (i : Fin 1024) (l : Fin 1408), y = ix3 u i l := ⟨_, _, _, eq_ix3 y⟩
  refine (out_last m c t h7 u i l).trans ((acc_last m c t h7 i l (by have := (idx t).2.2.2; omega)).trans ?_)
  blk_ext [idx t]

end Cert.FfnDwiIdeal.Hand
-- ==== Proof.FfnDwiClaim.lean ====
module
public import proofs.«01_k».proof.Defs
public import proofs.«01_k».proof.Proof.Gen.FfnDwiIdeal
public import proofs.«01_k».proof.Proof.Gen.FfnDwiRefIdeal
public import proofs.«01_k».proof.Proof.FfnDwiFinal
public import Idealize.ShloMosaic.Lib.Claim

/-! The gradient of the first weight: kernel and reference end with the same array. -/

@[expose] public section
noncomputable section
namespace Cert.Proof
open Idealize.ShloMosaic Idealize.SL.Sem

/-- The reference's frame: its run, and no semaphore is declared. -/
theorem dwi_reference : Cert.quiescent_FfnDwiRefIdeal := by
  intro m g _
  exact (θ_run Cert.FfnDwiRefIdeal.defs _ _).mono
    (fun r h => ⟨fun c => (h c).2, sem_eq_zero_of_no_sems (by decide) r.2⟩)
    (Cert.FfnDwiRefIdeal.Value.run m g)

/-- The kernel and the reference end with equal arrays. -/
theorem dwi_algebraic : Cert.algebraic_FfnDwiIdeal_FfnDwiRefIdeal := by
  intro m g m' g' _ hagree
  refine ⟨fun c => (Cert.FfnDwiIdeal.Gen.dats m 0 c).arrAt 2 Cert.FfnDwiIdeal.cfg0.N,
    Cert.FfnDwiIdeal.Value.run_blocks m g, ?_⟩
  refine (θ_run Cert.FfnDwiRefIdeal.defs _ _).mono (fun r h c => ?_)
    (Cert.FfnDwiRefIdeal.Value.run m' g')
  obtain ⟨e0, e1⟩ := hagree c
  refine ⟨(h c).1.trans ?_, (h c).2⟩
  refine Eq.trans ?_ (Cert.FfnDwiIdeal.Hand.fin2 m c).symm
  rw [e0, e1]
  rfl

end Cert.Proof
-- ==== Proof.FfnDwoFinal.lean ====
module
public import proofs.«01_k».proof.Proof.Gen.FfnDwoIdeal.Value
public import proofs.«01_k».proof.Proof.Gen.FfnDwoRefIdeal.Run
public import proofs.«01_k».proof.Proof.RealLaws
public import Idealize.ShloMosaic.Lib.Pipeline.ValueKit
public import Idealize.ShloMosaic.Lib.Pointwise

/-! The gradient of the second weight: the kernel adds eight stretches of rows and halves the sum, the reference halves the rows first. -/

@[expose] public section
set_option maxRecDepth 16384
noncomputable section
namespace Cert.FfnDwoIdeal.Hand
open Cert.FfnDwoIdeal Cert.FfnDwoIdeal.Gen Idealize.ShloMosaic Idealize.ShloMosaic.TcCoe Idealize.SL.Sem
open Idealize.ShloMosaic.Pipeline (Dat)
variable (m : (ℓ : Loc nD τ sig) → Buf (Elt Ideal) ℓ)

/-- The activation and the gradient of the block's output, as device `c` holds them. -/
def aCt (c : Dev nD) : FVec Ideal S8192x2816 .bf16 := m ((c : Thread nD τ).loc main_arg0)
def dZ (c : Dev nD) : FVec Ideal S8192x1024 .f32 := m ((c : Thread nD τ).loc main_arg1)

/-- The reference's term over its two arrays. -/
def REF (A : FVec Ideal S8192x2816 .bf16) (Z : FVec Ideal S8192x1024 .f32) : FVec Ideal S2816x1024 .bf16 :=
  truncf .bf16 (transpose Cert.FfnDwoRefIdeal.S2816x1024 [1, 0] (Host.dotGeneral Cert.FfnDwoRefIdeal.dot_S8192x1024_S8192x2816_S1024x2816_0_0_1_1_n_n none
    (mulf (broadcastInDim Cert.FfnDwoRefIdeal.S8192x1024 ![] Cert.FfnDwoRefIdeal.Gen.bcast_S_S8192x1024 (constant Cert.FfnDwoRefIdeal.S_ .f32 0x3F000000#32)) Z)
    (extf .f32 A Cert.FfnDwoRefIdeal.Gen.bitsLt_bf16_f32)) Cert.FfnDwoRefIdeal.Gen.transposes_S1024x2816_S2816x1024_1_0) Cert.FfnDwoRefIdeal.Gen.bitsLt_bf16_f32

theorem ref_at (A : FVec Ideal S8192x2816 .bf16) (Z : FVec Ideal S8192x1024 .f32) (i : Fin 2816) (l : Fin 1024) :
    REF A Z (ix2 i l) = ((1 / 2 : ℝ) : EReal) * ∑ R : Fin 8192, A (ix2 R i) * Z (ix2 R l) := by
  rw [Cert.Laws.scale_sum _ (by norm_num)]
  pointwise [REF]
  rw [Cert.Laws.half]
  exact Finset.sum_congr rfl fun R _ => (mul_assoc _ _ _).trans (congrArg _ (mul_comm _ _))

theorem idx : ∀ t : Fin cfg0.N, win0_0.index t = ![t.val % 8, t.val / 8] ∧ win0_1.index t = ![t.val % 8, 0] ∧ win0_2.index t = ![t.val / 8, 0]
    ∧ t.val < 16 :=
  (by decide +kernel : ∀ t : Fin grid0.N, _)

theorem blk0 (c : Dev nD) (t : Fin cfg0.N) (r : Fin 1024) (i : Fin 1408) (h : t.val % 8 * 1024 + r < 8192) (h' : t.val / 8 * 1408 + i < 2816) :
    (show FVec Ideal S1024x1408 .bf16 from iblk m c 0 t) (ix2 r i) = aCt m c (ix2 ⟨t.val % 8 * 1024 + r, h⟩ ⟨t.val / 8 * 1408 + i, h'⟩) := by
  show iblk m c 0 t (ix2 r i) = m ((c : Thread nD τ).loc main_arg0) _
  blk_ext [iblk, V, idx t]

theorem blk1 (c : Dev nD) (t : Fin cfg0.N) (r : Fin 1024) (l : Fin 1024) (h : t.val % 8 * 1024 + r < 8192) :
    (show FVec Ideal S1024x1024 .f32 from iblk m c 1 t) (ix2 r l) = dZ m c (ix2 ⟨t.val % 8 * 1024 + r, h⟩ l) := by
  show iblk m c 1 t (ix2 r l) = m ((c : Thread nD τ).loc main_arg1) _
  blk_ext [iblk, V, idx t]

theorem pay1_at (j : S1408x1024.Idx) : k0_pay1 (F := Ideal) j = 0 := by pointwise [k0_pay1]

theorem pay2_at (acc : Vec Ideal S1408x1024 .f32) (a : Vec Ideal S1024x1408 .bf16) (b : Vec Ideal S1024x1024 .f32) (i : Fin 1408) (l : Fin 1024) :
    k0_pay2 acc a b (ix2 i l) = acc (ix2 i l) + ∑ k : Fin 1024, a (ix2 k i) * b (ix2 k l) := by
  pointwise [k0_pay2]

theorem pay3_at (acc : Vec Ideal S1408x1024 .f32) (i : Fin 1408) (l : Fin 1024) :
    k0_pay3 acc (ix2 i l) = ((1 / 2 : ℝ) : EReal) * acc (ix2 i l) := by
  pointwise [k0_pay3]
  rw [Cert.Laws.half]
  exact mul_comm _ _

/-- What a point adds to the accumulator. -/
def TERM (c : Dev nD) (t : Fin cfg0.N) (j : S1408x1024.Idx) : EReal :=
  ∑ k : Fin 1024, (show FVec Ideal S1024x1408 .bf16 from iblk m c 0 t) (ix2 k (j 0)) * (show FVec Ideal S1024x1024 .f32 from iblk m c 1 t) (ix2 k (j 1))

theorem acc_reset (c : Dev nD) (t : Fin cfg0.N) (h : t.val % 8 = 0) (j : S1408x1024.Idx) :
    (outsAt0 m c t.val t.isLt).2 j = 0 + TERM m c t j := by
  obtain ⟨i, l, rfl⟩ : ∃ (i : Fin 1408) (l : Fin 1024), j = ix2 i l := ⟨_, _, eq_ix2 j⟩
  rw [outsAt0_A m c t h (by omega)]
  frame_out
  rw [pay2_at, pay1_at]
  rfl

theorem acc_step (c : Dev nD) (t : Fin cfg0.N) (h : ¬t.val % 8 = 0) (j : S1408x1024.Idx) :
    (outsAt0 m c t.val t.isLt).2 j = (outsAt0 m c (t.val - 1) (Nat.lt_of_le_of_lt (Nat.sub_le _ _) t.isLt)).2 j + TERM m c t j := by
  obtain ⟨i, l, rfl⟩ : ∃ (i : Fin 1408) (l : Fin 1024), j = ix2 i l := ⟨_, _, eq_ix2 j⟩
  by_cases h7 : t.val % 8 = 7
  · rw [outsAt0_C m c t h h7]
    frame_out
    rw [pay2_at]
    exact congrArg₂ (· + ·) (congrFun (Memref.IsWhole.read_unread _ _) (ix2 i l)) rfl
  · rw [outsAt0_B m c t h h7]
    frame_out
    rw [pay2_at]
    exact congrArg₂ (· + ·) (congrFun (Memref.IsWhole.read_unread _ _) (ix2 i l)) rfl

theorem out_last (c : Dev nD) (t : Fin cfg0.N) (h : t.val % 8 = 7) (i : Fin 1408) (l : Fin 1024) :
    (outsAt0 m c t.val t.isLt).1 (ix2 i l) = ((1 / 2 : ℝ) : EReal) * (outsAt0 m c t.val t.isLt).2 (ix2 i l) := by
  rw [outsAt0_C m c t (by omega) h]
  frame_out
  rw [pay3_at]

theorem acc_last (c : Dev nD) (t : Fin cfg0.N) (h : t.val % 8 = 7) (i : Fin 1408) (l : Fin 1024) (h' : t.val / 8 * 1408 + i < 2816) :
    (outsAt0 m c t.val t.isLt).2 (ix2 i l) = ∑ R : Fin 8192, aCt m c (ix2 R ⟨t.val / 8 * 1408 + i, h'⟩) * dZ m c (ix2 R l) := by
  refine (Pipeline.eq_sum_fin_of_reset_step_apply_of_flush (fun n hn => (outsAt0 m c n hn).2) 8 (fun _ => (0 : EReal)) (TERM m c)
    (acc_reset m c) (acc_step m c) t h (ix2 i l)).trans ?_
  rw [zero_add]
  unfold TERM
  refine Fin.sum_mul_add_congr fun s k hl => ?_
  have hs : (8 * (t.val / 8) + s.val) % 8 = s.val := by omega
  have hd : (8 * (t.val / 8) + s.val) / 8 = t.val / 8 := by omega
  refine congrArg₂ _ ((blk0 m c _ k i (by show (8 * (t.val / 8) + s.val) % 8 * 1024 + k < 8192; omega) (by show (8 * (t.val / 8) + s.val) / 8 * 1408 + i < 2816; omega)).trans ?_)
    ((blk1 m c _ k l (by show (8 * (t.val / 8) + s.val) % 8 * 1024 + k < 8192; omega)).trans ?_)
  · exact congrArg (aCt m c) (congrArg₂ ix2 (Fin.ext (by show (8 * (t.val / 8) + s.val) % 8 * 1024 + k = s * 1024 + k; rw [hs]))
      (Fin.ext (by show (8 * (t.val / 8) + s.val) / 8 * 1408 + i = t.val / 8 * 1408 + i; rw [hd])))
  · exact congrArg (dZ m c) (congrArg₂ ix2 (Fin.ext (by show (8 * (t.val / 8) + s.val) % 8 * 1024 + k = s * 1024 + k; rw [hs])) rfl)

theorem fin2 (c : Dev nD) : (dats m 0 c).arrAt 2 (cfgs 0).N = REF (aCt m c) (dZ m c) := by
  refine (dats m 0 c).arrAt_eq_of_covers 2 _ (by decide +kernel) fun t hf y => ?_
  have h7 : t.val % 8 = 7 := (flush0_2 t).mp hf
  blk_simp
  rw [after0_2]
  obtain ⟨i, l, rfl⟩ : ∃ (i : Fin 1408) (l : Fin 1024), y = ix2 i l := ⟨_, _, eq_ix2 y⟩
  have hN := (idx t).2.2.2
  refine (out_last m c t h7 i l).trans ((congrArg _ (acc_last m c t h7 i l (by omega))).trans ?_)
  refine (ref_at (aCt m c) (dZ m c) _ l).symm.trans ?_
  blk_ext [idx t]

end Cert.FfnDwoIdeal.Hand
-- ==== Proof.FfnDwoClaim.lean ====
module
public import proofs.«01_k».proof.Defs
public import proofs.«01_k».proof.Proof.Gen.FfnDwoIdeal
public import proofs.«01_k».proof.Proof.Gen.FfnDwoRefIdeal
public import proofs.«01_k».proof.Proof.FfnDwoFinal
public import Idealize.ShloMosaic.Lib.Claim

/-! The gradient of the second weight: kernel and reference end with the same array. -/

@[expose] public section
noncomputable section
namespace Cert.Proof
open Idealize.ShloMosaic Idealize.SL.Sem

/-- The reference's frame: its run, and no semaphore is declared. -/
theorem dwo_reference : Cert.quiescent_FfnDwoRefIdeal := by
  intro m g _
  exact (θ_run Cert.FfnDwoRefIdeal.defs _ _).mono
    (fun r h => ⟨fun c => (h c).2, sem_eq_zero_of_no_sems (by decide) r.2⟩)
    (Cert.FfnDwoRefIdeal.Value.run m g)

/-- The kernel and the reference end with equal arrays. -/
theorem dwo_algebraic : Cert.algebraic_FfnDwoIdeal_FfnDwoRefIdeal := by
  intro m g m' g' _ hagree
  refine ⟨fun c => (Cert.FfnDwoIdeal.Gen.dats m 0 c).arrAt 2 Cert.FfnDwoIdeal.cfg0.N,
    Cert.FfnDwoIdeal.Value.run_blocks m g, ?_⟩
  refine (θ_run Cert.FfnDwoRefIdeal.defs _ _).mono (fun r h c => ?_)
    (Cert.FfnDwoRefIdeal.Value.run m' g')
  obtain ⟨e0, e1⟩ := hagree c
  refine ⟨(h c).1.trans ?_, (h c).2⟩
  refine Eq.trans ?_ (Cert.FfnDwoIdeal.Hand.fin2 m c).symm
  rw [e0, e1]
  rfl

end Cert.Proof
-- ==== Proof.FfnTwoFinal.lean ====
module
public import proofs.«01_k».proof.Proof.Gen.FfnTwoIdeal.Value
public import proofs.«01_k».proof.Proof.Gen.FfnTwoRefIdeal.Run
public import Idealize.ShloMosaic.Lib.Pipeline.ValueKit
public import Idealize.ShloMosaic.Lib.Pointwise

/-! The feed-forward block's first product and its gated activation: the kernel works slab by slab, the reference on whole rows. -/

@[expose] public section
set_option maxRecDepth 16384
noncomputable section
namespace Cert.FfnTwoIdeal.Hand
open Cert.FfnTwoIdeal Cert.FfnTwoIdeal.Gen Idealize.ShloMosaic Idealize.ShloMosaic.TcCoe Idealize.SL.Sem
open Idealize.ShloMosaic.Pipeline (Dat)
variable (m : (ℓ : Loc nD τ sig) → Buf (Elt Ideal) ℓ)

/-- The block's input and the weight, as device `c` holds them. -/
def xIn (c : Dev nD) : FVec Ideal S8192x1024 .bf16 := m ((c : Thread nD τ).loc main_arg0)
def wI (c : Dev nD) : FVec Ideal S1024x5632 .f32 := m ((c : Thread nD τ).loc main_arg1)

/-- The hidden value at a row and a column: the product's entry. -/
def HID (X : FVec Ideal S8192x1024 .bf16) (W : FVec Ideal S1024x5632 .f32) (r : Fin 8192) (l : Fin 5632) : EReal :=
  ∑ k : Fin 1024, X (ix2 r k) * W (ix2 k l)

/-- The gate times its logistic function, times the other half. -/
def GATED (a b : EReal) : EReal := a * Ideal.logistic a * b

/-- The two results of the reference over its two arrays. -/
def REFH (X : FVec Ideal S8192x1024 .bf16) (W : FVec Ideal S1024x5632 .f32) : FVec Ideal S8192x5632 .bf16 :=
  truncf .bf16 (Host.dotGeneral Cert.FfnTwoRefIdeal.dot_S8192x1024_S1024x5632_S8192x5632_1_0_0_1_n_n none (extf .f32 X Cert.FfnTwoRefIdeal.Gen.bitsLt_bf16_f32) W) Cert.FfnTwoRefIdeal.Gen.bitsLt_bf16_f32
def REFP (X : FVec Ideal S8192x1024 .bf16) (W : FVec Ideal S1024x5632 .f32) : FVec Ideal S8192x5632 .f32 :=
  Host.dotGeneral Cert.FfnTwoRefIdeal.dot_S8192x1024_S1024x5632_S8192x5632_1_0_0_1_n_n none (extf .f32 X Cert.FfnTwoRefIdeal.Gen.bitsLt_bf16_f32) W
def REFA (P : FVec Ideal S8192x5632 .f32) : FVec Ideal S8192x2816 .bf16 :=
  truncf .bf16 (mulf (mulf (extractStridedSlice Cert.FfnTwoRefIdeal.S8192x2816 ![0, 0] P Cert.FfnTwoRefIdeal.Gen.slices_S8192x5632_S8192x2816_0_0)
    (Host.divf (broadcastInDim Cert.FfnTwoRefIdeal.S8192x2816 ![] Cert.FfnTwoRefIdeal.Gen.bcast_S_S8192x2816 (constant Cert.FfnTwoRefIdeal.S_ .f32 0x3F800000#32))
      (addf (broadcastInDim Cert.FfnTwoRefIdeal.S8192x2816 ![] Cert.FfnTwoRefIdeal.Gen.bcast_S_S8192x2816 (constant Cert.FfnTwoRefIdeal.S_ .f32 0x3F800000#32))
        (Host.exp (Host.negf (extractStridedSlice Cert.FfnTwoRefIdeal.S8192x2816 ![0, 0] P Cert.FfnTwoRefIdeal.Gen.slices_S8192x5632_S8192x2816_0_0))))))
    (extractStridedSlice Cert.FfnTwoRefIdeal.S8192x2816 ![0, 2816] P Cert.FfnTwoRefIdeal.Gen.slices_S8192x5632_S8192x2816_0_2816)) Cert.FfnTwoRefIdeal.Gen.bitsLt_bf16_f32

theorem refH_at (X : FVec Ideal S8192x1024 .bf16) (W : FVec Ideal S1024x5632 .f32) (r : Fin 8192) (l : Fin 5632) :
    REFH X W (ix2 r l) = HID X W r l := by
  unfold HID
  pointwise [REFH]
theorem refP_at (X : FVec Ideal S8192x1024 .bf16) (W : FVec Ideal S1024x5632 .f32) (r : Fin 8192) (l : Fin 5632) :
    REFP X W (ix2 r l) = HID X W r l := by
  unfold HID
  pointwise [REFP]
theorem refA_at (P : FVec Ideal S8192x5632 .f32) (r : Fin 8192) (l : Fin 2816) :
    REFA P (ix2 r l) = GATED (P (ix2 r ⟨l, by omega⟩)) (P (ix2 r ⟨2816 + l, by omega⟩)) := by
  unfold GATED Ideal.logistic
  pointwise [REFA]

theorem idx : ∀ t : Fin cfg0.N, win0_0.index t = ![t.val, 0] ∧ win0_1.index t = ![0, 0, 0] ∧ win0_2.index t = ![t.val, 0]
    ∧ win0_3.index t = ![t.val, 0] ∧ t.val < 32 :=
  (by decide +kernel : ∀ t : Fin grid0.N, _)

theorem slab (c : Dev nD) (s : Fin 4) (i : Fin 1024) (k : Fin 1408) :
    (show FVec Ideal S4x1024x1408 .bf16 from V m c (Pipeline.arrRef spec0 1)) (ix3 s i k) = wI m c (ix2 i ⟨s * 1408 + k, by omega⟩) := by
  entry_read
  pointwise
  rfl

theorem blk0 (c : Dev nD) (t : Fin cfg0.N) (r : Fin 256) (k : Fin 1024) (h : 256 * t.val + r < 8192) :
    (show FVec Ideal S256x1024 .bf16 from iblk m c 0 t) (ix2 r k) = xIn m c (ix2 ⟨256 * t.val + r, h⟩ k) := by
  show iblk m c 0 t (ix2 r k) = m ((c : Thread nD τ).loc main_arg0) _
  blk_ext [iblk, V, idx t]

theorem blk1 (c : Dev nD) (t : Fin cfg0.N) (s : Fin 4) (i : Fin 1024) (k : Fin 1408) :
    (show FVec Ideal S4x1024x1408 .bf16 from iblk m c 1 t) (ix3 s i k) = wI m c (ix2 i ⟨s * 1408 + k, by omega⟩) := by
  refine Eq.trans ?_ (slab m c s i k)
  show iblk m c 1 t (ix3 s i k) = V m c (Pipeline.arrRef spec0 1) (ix3 s i k)
  blk_ext [iblk, idx t]

/-- Which slab of the weight a product reads. -/
def DOT (x0 : Vec Ideal S256x1024 .bf16) (x1 : Vec Ideal S4x1024x1408 .bf16) (s : Fin 4) (r : Fin 256) (l : Fin 1408) : EReal :=
  ∑ k : Fin 1024, (show FVec Ideal S256x1024 .bf16 from x0) (ix2 r k) * (show FVec Ideal S4x1024x1408 .bf16 from x1) (ix3 s k l)

theorem pay5_at (x0 : Vec Ideal S256x1024 .bf16) (x1 : Vec Ideal S4x1024x1408 .bf16) (r : Fin 256) (l : Fin 1408) :
    k0_pay5 (View.ld x0 r0_0) (View.ld x1 r0_1) (ix2 r l) = DOT x0 x1 0 r l := by
  unfold DOT
  rw [View.ld_unit, View.ld_unit]
  pointwise [k0_pay5, k0_pay3]
theorem pay6_at (x0 : Vec Ideal S256x1024 .bf16) (x1 : Vec Ideal S4x1024x1408 .bf16) (r : Fin 256) (l : Fin 1408) :
    k0_pay6 (View.ld x0 r0_0) (View.ld x1 r0_2) (ix2 r l) = DOT x0 x1 2 r l := by
  unfold DOT
  rw [View.ld_unit, View.ld_unit]
  pointwise [k0_pay6, k0_pay4]
theorem pay10_at (x0 : Vec Ideal S256x1024 .bf16) (x1 : Vec Ideal S4x1024x1408 .bf16) (r : Fin 256) (l : Fin 1408) :
    k0_pay10 (View.ld x0 r0_0) (View.ld x1 r0_6) (ix2 r l) = DOT x0 x1 1 r l := by
  unfold DOT
  rw [View.ld_unit, View.ld_unit]
  pointwise [k0_pay10, k0_pay8]
theorem pay11_at (x0 : Vec Ideal S256x1024 .bf16) (x1 : Vec Ideal S4x1024x1408 .bf16) (r : Fin 256) (l : Fin 1408) :
    k0_pay11 x0 x1 (ix2 r l) = DOT x0 x1 3 r l := by
  unfold DOT k0_pay11
  rw [View.ld_unit, View.ld_unit]
  pointwise [k0_pay9]

theorem pay2_at (a b : FVec Ideal S256x1408 .f32) (r : Fin 256) (l : Fin 1408) :
    k0_pay2 a b (ix2 r l) = GATED (a (ix2 r l)) (b (ix2 r l)) := by
  unfold GATED Ideal.logistic
  pointwise [k0_pay2]
  rw [zero_sub]
theorem pay7_at (v0 : Vec Ideal S256x1024 .bf16) (v2 v5 : Vec Ideal S1x1024x1408 .bf16) (r : Fin 256) (l : Fin 1408) :
    k0_pay7 v0 v2 v5 (ix2 r l) = GATED (k0_pay5 v0 v2 (ix2 r l)) (k0_pay6 v0 v5 (ix2 r l)) := by
  unfold GATED Ideal.logistic
  pointwise [k0_pay7, k0_pay5, k0_pay6]
  rw [zero_sub]

theorem DOT_HID (c : Dev nD) (t : Fin cfg0.N) (s : Fin 4) (r r' : Fin 256) (b : Fin 1408) (l : Fin 5632) (h : 256 * t.val + r < 8192)
    (hr : (r : ℕ) = r') (hl : (l : ℕ) = s * 1408 + b) :
    DOT (iblk m c 0 t) (iblk m c 1 t) s r' b = HID (xIn m c) (wI m c) ⟨256 * t.val + r, h⟩ l := by
  obtain rfl : r = r' := Fin.ext hr
  have he : (⟨s * 1408 + b, by omega⟩ : Fin 5632) = l := Fin.ext hl.symm
  rw [← he]
  unfold DOT HID
  exact Finset.sum_congr rfl fun k _ => congrArg₂ _ (blk0 m c t r k h) (blk1 m c t s k b)

theorem point2 (c : Dev nD) (t : Fin cfg0.N) (r : Fin 256) (l : Fin 5632) (h : 256 * t.val + r < 8192) :
    out0_2 (iblk m c 0 t) (iblk m c 1 t) (ix2 r l) = HID (xIn m c) (wI m c) ⟨256 * t.val + r, h⟩ l := by
  unfold out0_2
  canon_tiles x hx
  all_goals
    obtain ⟨a, b, rfl⟩ : ∃ (a : Fin 256) (b : Fin 1408), x = ix2 a b := ⟨_, _, eq_ix2 x⟩
    have hr : (r : ℕ) = a := hx0
  · have hl : (l : ℕ) = 4224 + b := hx1
    exact (pay11_at _ _ a b).trans (DOT_HID m c t 3 r a b l h hr (hl.trans (by simp)))
  · have hl : (l : ℕ) = 1408 + b := hx1
    exact (pay10_at _ _ a b).trans (DOT_HID m c t 1 r a b l h hr (hl.trans (by simp)))
  · have hl : (l : ℕ) = 2816 + b := hx1
    exact (pay6_at _ _ a b).trans (DOT_HID m c t 2 r a b l h hr (hl.trans (by simp)))
  · have hl : (l : ℕ) = b := hx1
    exact (pay5_at _ _ a b).trans (DOT_HID m c t 0 r a b l h hr (hl.trans (by simp)))

theorem point3 (c : Dev nD) (t : Fin cfg0.N) (r : Fin 256) (l : Fin 2816) (h : 256 * t.val + r < 8192) :
    out0_3 (iblk m c 0 t) (iblk m c 1 t) (ix2 r l)
      = GATED (HID (xIn m c) (wI m c) ⟨256 * t.val + r, h⟩ ⟨l, by omega⟩) (HID (xIn m c) (wI m c) ⟨256 * t.val + r, h⟩ ⟨2816 + l, by omega⟩) := by
  unfold out0_3
  canon_tiles x hx
  all_goals
    obtain ⟨a, b, rfl⟩ : ∃ (a : Fin 256) (b : Fin 1408), x = ix2 a b := ⟨_, _, eq_ix2 x⟩
    have hr : (r : ℕ) = a := hx0
  · have hl : (l : ℕ) = 1408 + b := hx1
    refine (pay2_at _ _ a b).trans (congrArg₂ GATED ?_ ?_)
    · exact (pay10_at _ _ a b).trans (DOT_HID m c t 1 r a b _ h hr (hl.trans (by simp)))
    · exact (pay11_at _ _ a b).trans (DOT_HID m c t 3 r a b _ h hr (by simp; omega))
  · have hl : (l : ℕ) = b := hx1
    refine (pay7_at _ _ _ a b).trans (congrArg₂ GATED ?_ ?_)
    · exact (pay5_at _ _ a b).trans (DOT_HID m c t 0 r a b _ h hr (hl.trans (by simp)))
    · exact (pay6_at _ _ a b).trans (DOT_HID m c t 2 r a b _ h hr (by simp; omega))

theorem fin2 (c : Dev nD) : (dats m 0 c).arrAt 2 (cfgs 0).N = REFH (xIn m c) (wI m c) := by
  refine (dats m 0 c).arrAt_eq_of_covers 2 _ (by decide +kernel) fun t _ y => ?_
  blk_simp
  rw [after0_2]
  obtain ⟨r, l, rfl⟩ : ∃ (r : Fin 256) (l : Fin 5632), y = ix2 r l := ⟨_, _, eq_ix2 y⟩
  refine (point2 m c t r l (by have := idx t; omega)).trans ?_
  rw [← refH_at]
  blk_ext [idx t]

theorem fin3 (c : Dev nD) : (dats m 0 c).arrAt 3 (cfgs 0).N = REFA (REFP (xIn m c) (wI m c)) := by
  refine (dats m 0 c).arrAt_eq_of_covers 3 _ (by decide +kernel) fun t _ y => ?_
  blk_simp
  rw [after0_3]
  obtain ⟨r, l, rfl⟩ : ∃ (r : Fin 256) (l : Fin 2816), y = ix2 r l := ⟨_, _, eq_ix2 y⟩
  refine (point3 m c t r l (by have := idx t; omega)).trans ?_
  rw [← refP_at, ← refP_at]
  refine (refA_at (REFP (xIn m c) (wI m c)) _ l).symm.trans ?_
  blk_ext [idx t]

end Cert.FfnTwoIdeal.Hand
-- ==== Proof.FfnTwoClaim.lean ====
module
public import proofs.«01_k».proof.Defs
public import proofs.«01_k».proof.Proof.Gen.FfnTwoIdeal
public import proofs.«01_k».proof.Proof.Gen.FfnTwoRefIdeal
public import proofs.«01_k».proof.Proof.FfnTwoFinal
public import Idealize.ShloMosaic.Lib.Claim

/-! The feed-forward block's first product and its activation: kernel and reference end with the same two arrays. -/

@[expose] public section
noncomputable section
namespace Cert.Proof
open Idealize.ShloMosaic Idealize.SL.Sem

/-- The reference's frame: its run, and no semaphore is declared. -/
theorem two_reference : Cert.quiescent_FfnTwoRefIdeal := by
  intro m g _
  exact (θ_run Cert.FfnTwoRefIdeal.defs _ _).mono
    (fun r h => ⟨fun c => (h c).2.2, sem_eq_zero_of_no_sems (by decide) r.2⟩)
    (Cert.FfnTwoRefIdeal.Value.run m g)

/-- The kernel and the reference end with equal arrays. -/
theorem two_algebraic : Cert.algebraic_FfnTwoIdeal_FfnTwoRefIdeal := by
  intro m g m' g' _ hagree
  refine ⟨fun c => (Cert.FfnTwoIdeal.Gen.dats m 0 c).arrAt 2 Cert.FfnTwoIdeal.cfg0.N,
    fun c => (Cert.FfnTwoIdeal.Gen.dats m 0 c).arrAt 3 Cert.FfnTwoIdeal.cfg0.N,
    Cert.FfnTwoIdeal.Value.run_blocks m g, ?_⟩
  refine (θ_run Cert.FfnTwoRefIdeal.defs _ _).mono (fun r h c => ?_)
    (Cert.FfnTwoRefIdeal.Value.run m' g')
  obtain ⟨e0, e1⟩ := hagree c
  refine ⟨(h c).1.trans ?_, (h c).2.1.trans ?_, (h c).2.2⟩
  · refine Eq.trans ?_ (Cert.FfnTwoIdeal.Hand.fin2 m c).symm
    rw [e0, e1]
    rfl
  · refine Eq.trans ?_ (Cert.FfnTwoIdeal.Hand.fin3 m c).symm
    rw [e0, e1]
    rfl

end Cert.Proof
-- ==== Proof.FfnTwoDwiFinal.lean ====
module
public import proofs.«01_k».proof.Proof.Gen.FfnTwoDwiIdeal.Value
public import proofs.«01_k».proof.Proof.Gen.FfnTwoDwiRefIdeal.Run
public import Idealize.ShloMosaic.Lib.Pipeline.ValueKit
public import Idealize.ShloMosaic.Lib.Pointwise

/-! The gradient of the first weight: the kernel adds eight stretches of rows for each slab, the reference sums over all rows. -/

@[expose] public section
set_option maxRecDepth 16384
noncomputable section
namespace Cert.FfnTwoDwiIdeal.Hand
open Cert.FfnTwoDwiIdeal Cert.FfnTwoDwiIdeal.Gen Idealize.ShloMosaic Idealize.ShloMosaic.TcCoe Idealize.SL.Sem
open Idealize.ShloMosaic.Pipeline (Dat)
variable (m : (ℓ : Loc nD τ sig) → Buf (Elt Ideal) ℓ)

/-- The block's input and the gradient of the hidden values, as device `c` holds them. -/
def xIn (c : Dev nD) : FVec Ideal S8192x1024 .bf16 := m ((c : Thread nD τ).loc main_arg0)
def dH (c : Dev nD) : FVec Ideal S8192x5632 .bf16 := m ((c : Thread nD τ).loc main_arg1)

/-- The reference's term over its two arrays. -/
def REF (X : FVec Ideal S8192x1024 .bf16) (H : FVec Ideal S8192x5632 .bf16) : FVec Ideal S4x1024x1408 .bf16 :=
  truncf .bf16 (transpose Cert.FfnTwoDwiRefIdeal.S4x1024x1408 [1, 0, 2] (shapeCast _ (transpose Cert.FfnTwoDwiRefIdeal.S1024x5632 [1, 0]
    (Host.dotGeneral Cert.FfnTwoDwiRefIdeal.dot_S8192x5632_S8192x1024_S5632x1024_0_0_1_1_n_n none (extf .f32 H Cert.FfnTwoDwiRefIdeal.Gen.bitsLt_bf16_f32) (extf .f32 X Cert.FfnTwoDwiRefIdeal.Gen.bitsLt_bf16_f32))
    Cert.FfnTwoDwiRefIdeal.Gen.transposes_S5632x1024_S1024x5632_1_0) Cert.FfnTwoDwiRefIdeal.Gen.shapeCasts_S1024x5632_S1024x4x1408)
    Cert.FfnTwoDwiRefIdeal.Gen.transposes_S1024x4x1408_S4x1024x1408_1_0_2) Cert.FfnTwoDwiRefIdeal.Gen.bitsLt_bf16_f32

theorem ref_at (X : FVec Ideal S8192x1024 .bf16) (H : FVec Ideal S8192x5632 .bf16) (s : Fin 4) (i : Fin 1024) (l : Fin 1408) :
    REF X H (ix3 s i l) = ∑ R : Fin 8192, X (ix2 R i) * H (ix2 R ⟨s * 1408 + l, by omega⟩) := by
  pointwise [REF]
  exact Finset.sum_congr rfl fun R _ => mul_comm _ _

theorem idx : ∀ t : Fin cfg0.N, win0_0.index t = ![t.val % 8, 0] ∧ win0_1.index t = ![t.val % 8, t.val / 8] ∧ win0_2.index t = ![t.val / 8, 0, 0]
    ∧ t.val < 32 :=
  (by decide +kernel : ∀ t : Fin grid0.N, _)

theorem blk0 (c : Dev nD) (t : Fin cfg0.N) (r : Fin 1024) (i : Fin 1024) (h : t.val % 8 * 1024 + r < 8192) :
    (show FVec Ideal S1024x1024 .bf16 from iblk m c 0 t) (ix2 r i) = xIn m c (ix2 ⟨t.val % 8 * 1024 + r, h⟩ i) := by
  show iblk m c 0 t (ix2 r i) = m ((c : Thread nD τ).loc main_arg0) _
  blk_ext [iblk, V, idx t]

theorem blk1 (c : Dev nD) (t : Fin cfg0.N) (r : Fin 1024) (l : Fin 1408) (h : t.val % 8 * 1024 + r < 8192) (h' : t.val / 8 * 1408 + l < 5632) :
    (show FVec Ideal S1024x1408 .bf16 from iblk m c 1 t) (ix2 r l) = dH m c (ix2 ⟨t.val % 8 * 1024 + r, h⟩ ⟨t.val / 8 * 1408 + l, h'⟩) := by
  show iblk m c 1 t (ix2 r l) = m ((c : Thread nD τ).loc main_arg1) _
  blk_ext [iblk, V, idx t]

theorem pay1_at (j : S1024x1408.Idx) : k0_pay1 (F := Ideal) j = 0 := by pointwise [k0_pay1]

theorem pay2_at (acc : Vec Ideal S1024x1408 .f32) (a : Vec Ideal S1024x1024 .bf16) (b : Vec Ideal S1024x1408 .bf16) (i : Fin 1024) (l : Fin 1408) :
    k0_pay2 acc a b (ix2 i l) = acc (ix2 i l) + ∑ k : Fin 1024, a (ix2 k i) * b (ix2 k l) := by
  pointwise [k0_pay2]

theorem pay3_at (acc : Vec Ideal S1024x1408 .f32) (u : Fin 1) (i : Fin 1024) (l : Fin 1408) :
    k0_pay3 acc (ix3 u i l) = acc (ix2 i l) := by
  pointwise [k0_pay3]

/-- What a point adds to the accumulator. -/
def TERM (c : Dev nD) (t : Fin cfg0.N) (j : S1024x1408.Idx) : EReal :=
  ∑ k : Fin 1024, (show FVec Ideal S1024x1024 .bf16 from iblk m c 0 t) (ix2 k (j 0)) * (show FVec Ideal S1024x1408 .bf16 from iblk m c 1 t) (ix2 k (j 1))

theorem acc_reset (c : Dev nD) (t : Fin cfg0.N) (h : t.val % 8 = 0) (j : S1024x1408.Idx) :
    (outsAt0 m c t.val t.isLt).2 j = 0 + TERM m c t j := by
  obtain ⟨i, l, rfl⟩ : ∃ (i : Fin 1024) (l : Fin 1408), j = ix2 i l := ⟨_, _, eq_ix2 j⟩
  rw [outsAt0_A m c t h (by omega)]
  frame_out
  rw [pay2_at, pay1_at]
  rfl

theorem acc_step (c : Dev nD) (t : Fin cfg0.N) (h : ¬t.val % 8 = 0) (j : S1024x1408.Idx) :
    (outsAt0 m c t.val t.isLt).2 j = (outsAt0 m c (t.val - 1) (Nat.lt_of_le_of_lt (Nat.sub_le _ _) t.isLt)).2 j + TERM m c t j := by
  obtain ⟨i, l, rfl⟩ : ∃ (i : Fin 1024) (l : Fin 1408), j = ix2 i l := ⟨_, _, eq_ix2 j⟩
  by_cases h7 : t.val % 8 = 7
  · rw [outsAt0_C m c t h h7]
    frame_out
    rw [pay2_at]
    exact congrArg₂ (· + ·) (congrFun (Memref.IsWhole.read_unread _ _) (ix2 i l)) rfl
  · rw [outsAt0_B m c t h h7]
    frame_out
    rw [pay2_at]
    exact congrArg₂ (· + ·) (congrFun (Memref.IsWhole.read_unread _ _) (ix2 i l)) rfl

theorem out_last (c : Dev nD) (t : Fin cfg0.N) (h : t.val % 8 = 7) (u : Fin 1) (i : Fin 1024) (l : Fin 1408) :
    (outsAt0 m c t.val t.isLt).1 (ix3 u i l) = (outsAt0 m c t.val t.isLt).2 (ix2 i l) := by
  rw [outsAt0_C m c t (by omega) h]
  frame_out
  rw [pay3_at]

theorem acc_last (c : Dev nD) (t : Fin cfg0.N) (h : t.val % 8 = 7) (i : Fin 1024) (l : Fin 1408) (h' : t.val / 8 < 4) :
    (outsAt0 m c t.val t.isLt).2 (ix2 i l) = REF (xIn m c) (dH m c) (ix3 ⟨t.val / 8, h'⟩ i l) := by
  refine (Pipeline.eq_sum_fin_of_reset_step_apply_of_flush (fun n hn => (outsAt0 m c n hn).2) 8 (fun _ => (0 : EReal)) (TERM m c)
    (acc_reset m c) (acc_step m c) t h (ix2 i l)).trans ?_
  rw [zero_add, ref_at]
  unfold TERM
  refine Fin.sum_mul_add_congr fun s k hl => ?_
  have hN := (idx t).2.2.2
  have hs : (8 * (t.val / 8) + s.val) % 8 = s.val := by omega
  have hd : (8 * (t.val / 8) + s.val) / 8 = t.val / 8 := by omega
  refine congrArg₂ _ ((blk0 m c _ k i (by show (8 * (t.val / 8) + s.val) % 8 * 1024 + k < 8192; omega)).trans ?_)
    ((blk1 m c _ k l (by show (8 * (t.val / 8) + s.val) % 8 * 1024 + k < 8192; omega) (by show (8 * (t.val / 8) + s.val) / 8 * 1408 + l < 5632; omega)).trans ?_)
  · exact congrArg (xIn m c) (congrArg₂ ix2 (Fin.ext (by show (8 * (t.val / 8) + s.val) % 8 * 1024 + k = s * 1024 + k; rw [hs])) rfl)
  · exact congrArg (dH m c) (congrArg₂ ix2 (Fin.ext (by show (8 * (t.val / 8) + s.val) % 8 * 1024 + k = s * 1024 + k; rw [hs]))
      (Fin.ext (by show (8 * (t.val / 8) + s.val) / 8 * 1408 + l = t.val / 8 * 1408 + l; rw [hd])))

theorem fin2 (c : Dev nD) : (dats m 0 c).arrAt 2 (cfgs 0).N = REF (xIn m c) (dH m c) := by
  refine (dats m 0 c).arrAt_eq_of_covers 2 _ (by decide +kernel) fun t hf y => ?_
  have h7 : t.val % 8 = 7 := (flush0_2 t).mp hf
  blk_simp
  rw [after0_2]
  obtain ⟨u, i, l, rfl⟩ : ∃ (u : Fin 1) (i : Fin 1024) (l : Fin 1408), y = ix3 u i l := ⟨_, _, _, eq_ix3 y⟩
  refine (out_last m c t h7 u i l).trans ((acc_last m c t h7 i l (by have := (idx t).2.2.2; omega)).trans ?_)
  blk_ext [idx t]

end Cert.FfnTwoDwiIdeal.Hand
-- ==== Proof.FfnTwoDwiClaim.lean ====
module
public import proofs.«01_k».proof.Defs
public import proofs.«01_k».proof.Proof.Gen.FfnTwoDwiIdeal
public import proofs.«01_k».proof.Proof.Gen.FfnTwoDwiRefIdeal
public import proofs.«01_k».proof.Proof.FfnTwoDwiFinal
public import Idealize.ShloMosaic.Lib.Claim

/-! The gradient of the first weight: kernel and reference end with the same array. -/

@[expose] public section
noncomputable section
namespace Cert.Proof
open Idealize.ShloMosaic Idealize.SL.Sem

/-- The reference's frame: its run, and no semaphore is declared. -/
theorem twodwi_reference : Cert.quiescent_FfnTwoDwiRefIdeal := by
  intro m g _
  exact (θ_run Cert.FfnTwoDwiRefIdeal.defs _ _).mono
    (fun r h => ⟨fun c => (h c).2, sem_eq_zero_of_no_sems (by decide) r.2⟩)
    (Cert.FfnTwoDwiRefIdeal.Value.run m g)

/-- The kernel and the reference end with equal arrays. -/
theorem twodwi_algebraic : Cert.algebraic_FfnTwoDwiIdeal_FfnTwoDwiRefIdeal := by
  intro m g m' g' _ hagree
  refine ⟨fun c => (Cert.FfnTwoDwiIdeal.Gen.dats m 0 c).arrAt 2 Cert.FfnTwoDwiIdeal.cfg0.N,
    Cert.FfnTwoDwiIdeal.Value.run_blocks m g, ?_⟩
  refine (θ_run Cert.FfnTwoDwiRefIdeal.defs _ _).mono (fun r h c => ?_)
    (Cert.FfnTwoDwiRefIdeal.Value.run m' g')
  obtain ⟨e0, e1⟩ := hagree c
  refine ⟨(h c).1.trans ?_, (h c).2⟩
  refine Eq.trans ?_ (Cert.FfnTwoDwiIdeal.Hand.fin2 m c).symm
  rw [e0, e1]
  rfl

end Cert.Proof
-- ==== Proof.ProjInFinal.lean ====
module
public import proofs.«01_k».proof.Proof.Gen.ProjInIdeal.Value
public import proofs.«01_k».proof.Proof.Gen.ProjInRefIdeal.Run
public import Idealize.ShloMosaic.Lib.Pipeline.ValueKit
public import Idealize.ShloMosaic.Lib.Pointwise

/-! The input projection, with zero columns between the mixer's and the convolution's: the kernel multiplies
by a weight padded with zero columns, the reference puts the zeros between the product's parts. -/

@[expose] public section
set_option maxRecDepth 16384
noncomputable section
namespace Cert.ProjInIdeal.Hand
open Cert.ProjInIdeal Cert.ProjInIdeal.Gen Idealize.ShloMosaic Idealize.ShloMosaic.TcCoe Idealize.SL.Sem
open Idealize.ShloMosaic.Pipeline (Dat)
variable (m : (ℓ : Loc nD τ sig) → Buf (Elt Ideal) ℓ)

/-- The input and the weight, as device `c` holds them. -/
def xIn (c : Dev nD) : FVec Ideal S8192x1024 .bf16 := m ((c : Thread nD τ).loc main_arg0)
def wI (c : Dev nD) : FVec Ideal S1024x2976 .f32 := m ((c : Thread nD τ).loc main_arg1)

/-- The reference's term over its two arrays. -/
def PROD (X : FVec Ideal S8192x1024 .bf16) (W : FVec Ideal S1024x2976 .f32) : FVec Ideal Cert.ProjInRefIdeal.S8192x2976 .f32 :=
  Host.dotGeneral Cert.ProjInRefIdeal.dot_S8192x1024_S1024x2976_S8192x2976_1_0_0_1_n_n none (extf .f32 X Cert.ProjInRefIdeal.Gen.bitsLt_bf16_f32) W
def REF (P : FVec Ideal Cert.ProjInRefIdeal.S8192x2976 .f32) : FVec Ideal S8192x3072 .f32 :=
  concatenate Cert.ProjInRefIdeal.S8192x3072 1
    [⟨Cert.ProjInRefIdeal.S8192x1952, ((extractStridedSlice Cert.ProjInRefIdeal.S8192x1952 ![0, 0] P Cert.ProjInRefIdeal.Gen.slices_S8192x2976_S8192x1952_0_0) : FVec Ideal Cert.ProjInRefIdeal.S8192x1952 .f32)⟩,
     ⟨Cert.ProjInRefIdeal.S8192x96, ((broadcastInDim Cert.ProjInRefIdeal.S8192x96 ![] Cert.ProjInRefIdeal.Gen.bcast_S_S8192x96 (constant Cert.ProjInRefIdeal.S_ .f32 0x00000000#32)) : FVec Ideal Cert.ProjInRefIdeal.S8192x96 .f32)⟩,
     ⟨Cert.ProjInRefIdeal.S8192x1024, ((extractStridedSlice Cert.ProjInRefIdeal.S8192x1024 ![0, 1952] P Cert.ProjInRefIdeal.Gen.slices_S8192x2976_S8192x1024_0_1952) : FVec Ideal Cert.ProjInRefIdeal.S8192x1024 .f32)⟩]
    Cert.ProjInRefIdeal.Gen.concatenates_S8192x1952_S8192x96_S8192x1024_S8192x3072_d1

/-- The padded weight's entry: the weight's before the gap and after it, zero in the gap. -/
def PADW (W : FVec Ideal S1024x2976 .f32) (k : Fin 1024) (l : Fin 3072) : EReal :=
  if h : (l : ℕ) < 1952 then W (ix2 k ⟨l, by omega⟩) else if h' : (l : ℕ) < 2048 then 0 else W (ix2 k ⟨l - 96, by omega⟩)

theorem prod_at (X : FVec Ideal S8192x1024 .bf16) (W : FVec Ideal S1024x2976 .f32) (r : Fin 8192) (l : Fin 2976) :
    PROD X W (ix2 r l) = ∑ k : Fin 1024, X (ix2 r k) * W (ix2 k l) := by
  pointwise [PROD]

theorem ref_at (X : FVec Ideal S8192x1024 .bf16) (W : FVec Ideal S1024x2976 .f32) (r : Fin 8192) (l : Fin 3072) :
    REF (PROD X W) (ix2 r l) = ∑ k : Fin 1024, X (ix2 r k) * PADW W k l := by
  unfold PADW
  by_cases h : (l : ℕ) < 1952
  · simp only [h, dif_pos]
    rw [← prod_at]
    pointwise [REF]
    rw [dif_pos h]
  · by_cases h' : (l : ℕ) < 2048
    · simp only [h, h', dif_pos, dif_neg, not_false_eq_true, mul_zero, Finset.sum_const_zero]
      pointwise [REF]
      rw [dif_neg h, dif_pos (by omega)]
    · simp only [h, h', dif_neg, not_false_eq_true]
      rw [← prod_at]
      pointwise [REF]
      rw [dif_neg h, dif_neg (by omega)]
      exact congrArg (PROD X W) (congrArg (ix2 r) (Fin.ext (by show 1952 + ((l : ℕ) - 1952 - 96) = (l : ℕ) - 96; omega)))

theorem idx : ∀ t : Fin cfg0.N, win0_0.index t = ![t.val / 3, 0] ∧ win0_1.index t = ![0, t.val % 3] ∧ win0_2.index t = ![t.val / 3, t.val % 3] ∧ t.val < 24 :=
  (by decide +kernel : ∀ t : Fin grid0.N, _)

/-- The padded weight as the kernel's call receives it. -/
def PADT (W : FVec Ideal S1024x2976 .f32) : FVec Ideal S1024x3072 .bf16 :=
  concatenate S1024x3072 1
    [⟨S1024x1952, ((extractStridedSlice S1024x1952 ![0, 0] (truncf .bf16 W bitsLt_bf16_f32) slices_S1024x2976_S1024x1952_0_0) : FVec Ideal S1024x1952 .bf16)⟩,
     ⟨S1024x96, ((broadcastInDim S1024x96 ![] bcast_S_S1024x96 (constant S_ .bf16 0x0000#16)) : FVec Ideal S1024x96 .bf16)⟩,
     ⟨S1024x1024, ((extractStridedSlice S1024x1024 ![0, 1952] (truncf .bf16 W bitsLt_bf16_f32) slices_S1024x2976_S1024x1024_0_1952) : FVec Ideal S1024x1024 .bf16)⟩]
    concatenates_S1024x1952_S1024x96_S1024x1024_S1024x3072_d1

theorem weight_term (c : Dev nD) : (V m c (Pipeline.arrRef spec0 1)) = PADT (wI m c) := by
  rfl

theorem weight (c : Dev nD) (k : Fin 1024) (l : Fin 3072) :
    (show FVec Ideal S1024x3072 .bf16 from V m c (Pipeline.arrRef spec0 1)) (ix2 k l) = PADW (wI m c) k l := by
  refine (congrFun (weight_term m c) (ix2 k l)).trans ?_
  pointwise [PADT]
  unfold PADW
  by_cases h : (l : ℕ) < 1952
  · rw [dif_pos h, dif_pos h]
  · by_cases h' : (l : ℕ) < 2048
    · rw [dif_neg h, dif_pos (by omega), dif_neg h, dif_pos h']
    · rw [dif_neg h, dif_neg (by omega), dif_neg h, dif_neg h']
      exact congrArg (wI m c) (congrArg (ix2 k) (Fin.ext (by show 1952 + ((l : ℕ) - 1952 - 96) = (l : ℕ) - 96; omega)))

theorem blk0 (c : Dev nD) (t : Fin cfg0.N) (r k : Fin 1024) (h : t.val / 3 * 1024 + r < 8192) :
    (show FVec Ideal S1024x1024 .bf16 from iblk m c 0 t) (ix2 r k) = xIn m c (ix2 ⟨t.val / 3 * 1024 + r, h⟩ k) := by
  show iblk m c 0 t (ix2 r k) = m ((c : Thread nD τ).loc main_arg0) _
  blk_ext [iblk, V, idx t]

theorem blk1 (c : Dev nD) (t : Fin cfg0.N) (k l : Fin 1024) (h : t.val % 3 * 1024 + l < 3072) :
    (show FVec Ideal S1024x1024 .bf16 from iblk m c 1 t) (ix2 k l) = PADW (wI m c) k ⟨t.val % 3 * 1024 + l, h⟩ := by
  refine Eq.trans ?_ (weight m c k _)
  show iblk m c 1 t (ix2 k l) = V m c (Pipeline.arrRef spec0 1) _
  blk_ext [iblk, idx t]

theorem pay_at (a : Vec Ideal S1024x1024 .bf16) (b : Vec Ideal S1024x1024 .bf16) (r l : Fin 1024) :
    k0_pay3 (k0_pay2 (k0_pay1 (F := Ideal)) a b) (ix2 r l) = ∑ k : Fin 1024, a (ix2 r k) * b (ix2 k l) := by
  pointwise [k0_pay3, k0_pay2, k0_pay1]

theorem point (c : Dev nD) (t : Fin cfg0.N) (r l : Fin 1024) (h : t.val / 3 * 1024 + r < 8192) (h' : t.val % 3 * 1024 + l < 3072) :
    outsAt0 m c t (ix2 r l) = REF (PROD (xIn m c) (wI m c)) (ix2 ⟨t.val / 3 * 1024 + r, h⟩ ⟨t.val % 3 * 1024 + l, h'⟩) := by
  unfold outsAt0
  frame_out
  refine (pay_at _ _ r l).trans ((Finset.sum_congr rfl fun k _ => ?_).trans (ref_at (xIn m c) (wI m c) _ _).symm)
  exact congrArg₂ _ (blk0 m c t r k h) (blk1 m c t k l h')

theorem fin2 (c : Dev nD) : (dats m 0 c).arrAt 2 (cfgs 0).N = REF (PROD (xIn m c) (wI m c)) := by
  refine (dats m 0 c).arrAt_eq_of_covers 2 _ (by decide +kernel) fun t _ y => ?_
  blk_simp
  rw [after0_2]
  obtain ⟨r, l, rfl⟩ : ∃ (r : Fin 1024) (l : Fin 1024), y = ix2 r l := ⟨_, _, eq_ix2 y⟩
  refine (point m c t r l (by have := (idx t).2.2.2; omega) (by omega)).trans ?_
  blk_ext [idx t]

end Cert.ProjInIdeal.Hand
-- ==== Proof.ProjInClaim.lean ====
module
public import proofs.«01_k».proof.Defs
public import proofs.«01_k».proof.Proof.Gen.ProjInIdeal
public import proofs.«01_k».proof.Proof.Gen.ProjInRefIdeal
public import proofs.«01_k».proof.Proof.ProjInFinal
public import Idealize.ShloMosaic.Lib.Claim

/-! The input projection: kernel and reference end with the same array. -/

@[expose] public section
noncomputable section
namespace Cert.Proof
open Idealize.ShloMosaic Idealize.SL.Sem

/-- The reference's frame: its run, and no semaphore is declared. -/
theorem pin_reference : Cert.quiescent_ProjInRefIdeal := by
  intro m g _
  exact (θ_run Cert.ProjInRefIdeal.defs _ _).mono
    (fun r h => ⟨fun c => (h c).2, sem_eq_zero_of_no_sems (by decide) r.2⟩)
    (Cert.ProjInRefIdeal.Value.run m g)

/-- The kernel and the reference end with equal arrays. -/
theorem pin_algebraic : Cert.algebraic_ProjInIdeal_ProjInRefIdeal := by
  intro m g m' g' _ hagree
  refine ⟨fun c => (Cert.ProjInIdeal.Gen.dats m 0 c).arrAt 2 Cert.ProjInIdeal.cfg0.N,
    Cert.ProjInIdeal.Value.run_blocks m g, ?_⟩
  refine (θ_run Cert.ProjInRefIdeal.defs _ _).mono (fun r h c => ?_)
    (Cert.ProjInRefIdeal.Value.run m' g')
  obtain ⟨e0, e1⟩ := hagree c
  refine ⟨(h c).1.trans ?_, (h c).2⟩
  refine Eq.trans ?_ (Cert.ProjInIdeal.Hand.fin2 m c).symm
  rw [e0, e1]
  rfl

end Cert.Proof
-- ==== Proof.ProjDwsFinal.lean ====
module
public import proofs.«01_k».proof.Proof.Gen.ProjDwsIdeal.Value
public import proofs.«01_k».proof.Proof.Gen.ProjDwsRefIdeal.Run
public import Idealize.ShloMosaic.Lib.Pipeline.ValueKit
public import Idealize.ShloMosaic.Lib.Pointwise

/-! The gradient of the input projection's weight, the mixer's columns: the kernel adds eight stretches of rows, the reference sums over all rows. -/

@[expose] public section
set_option maxRecDepth 16384
noncomputable section
namespace Cert.ProjDwsIdeal.Hand
open Cert.ProjDwsIdeal Cert.ProjDwsIdeal.Gen Idealize.ShloMosaic Idealize.ShloMosaic.TcCoe Idealize.SL.Sem
open Idealize.ShloMosaic.Pipeline (Dat)
variable (m : (ℓ : Loc nD τ sig) → Buf (Elt Ideal) ℓ)

/-- The product's first factor and the gradient of its result, as device `c` holds them. -/
def aIn (c : Dev nD) : FVec Ideal S8192x1024 .bf16 := m ((c : Thread nD τ).loc main_arg0)
def dP (c : Dev nD) : FVec Ideal S8192x2048 .bf16 := m ((c : Thread nD τ).loc main_arg1)

/-- The reference's term over its two arrays. -/
def REF (A : FVec Ideal S8192x1024 .bf16) (D : FVec Ideal S8192x2048 .bf16) : FVec Ideal S1024x2048 .bf16 :=
  truncf .bf16 (transpose Cert.ProjDwsRefIdeal.S1024x2048 [1, 0]
    (Host.dotGeneral Cert.ProjDwsRefIdeal.dot_S8192x2048_S8192x1024_S2048x1024_0_0_1_1_n_n none (extf .f32 D Cert.ProjDwsRefIdeal.Gen.bitsLt_bf16_f32) (extf .f32 A Cert.ProjDwsRefIdeal.Gen.bitsLt_bf16_f32))
    Cert.ProjDwsRefIdeal.Gen.transposes_S2048x1024_S1024x2048_1_0) Cert.ProjDwsRefIdeal.Gen.bitsLt_bf16_f32

theorem ref_at (A : FVec Ideal S8192x1024 .bf16) (D : FVec Ideal S8192x2048 .bf16) (i : Fin 1024) (l : Fin 2048) :
    REF A D (ix2 i l) = ∑ R : Fin 8192, A (ix2 R i) * D (ix2 R l) := by
  pointwise [REF]
  exact Finset.sum_congr rfl fun R _ => mul_comm _ _

theorem idx : ∀ t : Fin cfg0.N, win0_0.index t = ![t.val % 8, 0] ∧ win0_1.index t = ![t.val % 8, t.val / 8] ∧ win0_2.index t = ![0, t.val / 8]
    ∧ t.val < 16 :=
  (by decide +kernel : ∀ t : Fin grid0.N, _)

theorem blk0 (c : Dev nD) (t : Fin cfg0.N) (r : Fin 1024) (i : Fin 1024) (h : t.val % 8 * 1024 + r < 8192) :
    (show FVec Ideal S1024x1024 .bf16 from iblk m c 0 t) (ix2 r i) = aIn m c (ix2 ⟨t.val % 8 * 1024 + r, h⟩ i) := by
  show iblk m c 0 t (ix2 r i) = m ((c : Thread nD τ).loc main_arg0) _
  blk_ext [iblk, V, idx t]

theorem blk1 (c : Dev nD) (t : Fin cfg0.N) (r : Fin 1024) (l : Fin 1024) (h : t.val % 8 * 1024 + r < 8192) (h' : t.val / 8 * 1024 + l < 2048) :
    (show FVec Ideal S1024x1024 .bf16 from iblk m c 1 t) (ix2 r l) = dP m c (ix2 ⟨t.val % 8 * 1024 + r, h⟩ ⟨t.val / 8 * 1024 + l, h'⟩) := by
  show iblk m c 1 t (ix2 r l) = m ((c : Thread nD τ).loc main_arg1) _
  blk_ext [iblk, V, idx t]

theorem pay1_at (j : S1024x1024.Idx) : k0_pay1 (F := Ideal) j = 0 := by pointwise [k0_pay1]

theorem pay2_at (acc : Vec Ideal S1024x1024 .f32) (a : Vec Ideal S1024x1024 .bf16) (b : Vec Ideal S1024x1024 .bf16) (i : Fin 1024) (l : Fin 1024) :
    k0_pay2 acc a b (ix2 i l) = acc (ix2 i l) + ∑ k : Fin 1024, a (ix2 k i) * b (ix2 k l) := by
  pointwise [k0_pay2]

theorem pay3_at (acc : Vec Ideal S1024x1024 .f32) (i : Fin 1024) (l : Fin 1024) :
    k0_pay3 acc (ix2 i l) = acc (ix2 i l) := by
  pointwise [k0_pay3]

/-- What a point adds to the accumulator. -/
def TERM (c : Dev nD) (t : Fin cfg0.N) (j : S1024x1024.Idx) : EReal :=
  ∑ k : Fin 1024, (show FVec Ideal S1024x1024 .bf16 from iblk m c 0 t) (ix2 k (j 0)) * (show FVec Ideal S1024x1024 .bf16 from iblk m c 1 t) (ix2 k (j 1))

theorem acc_reset (c : Dev nD) (t : Fin cfg0.N) (h : t.val % 8 = 0) (j : S1024x1024.Idx) :
    (outsAt0 m c t.val t.isLt).2 j = 0 + TERM m c t j := by
  obtain ⟨i, l, rfl⟩ : ∃ (i : Fin 1024) (l : Fin 1024), j = ix2 i l := ⟨_, _, eq_ix2 j⟩
  rw [outsAt0_A m c t h (by omega)]
  frame_out
  rw [pay2_at, pay1_at]
  rfl

theorem acc_step (c : Dev nD) (t : Fin cfg0.N) (h : ¬t.val % 8 = 0) (j : S1024x1024.Idx) :
    (outsAt0 m c t.val t.isLt).2 j = (outsAt0 m c (t.val - 1) (Nat.lt_of_le_of_lt (Nat.sub_le _ _) t.isLt)).2 j + TERM m c t j := by
  obtain ⟨i, l, rfl⟩ : ∃ (i : Fin 1024) (l : Fin 1024), j = ix2 i l := ⟨_, _, eq_ix2 j⟩
  by_cases h7 : t.val % 8 = 7
  · rw [outsAt0_C m c t h h7]
    frame_out
    rw [pay2_at]
    exact congrArg₂ (· + ·) (congrFun (Memref.IsWhole.read_unread _ _) (ix2 i l)) rfl
  · rw [outsAt0_B m c t h h7]
    frame_out
    rw [pay2_at]
    exact congrArg₂ (· + ·) (congrFun (Memref.IsWhole.read_unread _ _) (ix2 i l)) rfl

theorem out_last (c : Dev nD) (t : Fin cfg0.N) (h : t.val % 8 = 7) (i : Fin 1024) (l : Fin 1024) :
    (outsAt0 m c t.val t.isLt).1 (ix2 i l) = (outsAt0 m c t.val t.isLt).2 (ix2 i l) := by
  rw [outsAt0_C m c t (by omega) h]
  frame_out
  rw [pay3_at]

theorem acc_last (c : Dev nD) (t : Fin cfg0.N) (h : t.val % 8 = 7) (i : Fin 1024) (l : Fin 1024) (h' : t.val / 8 * 1024 + l < 2048) :
    (outsAt0 m c t.val t.isLt).2 (ix2 i l) = REF (aIn m c) (dP m c) (ix2 i ⟨t.val / 8 * 1024 + l, h'⟩) := by
  refine (Pipeline.eq_sum_fin_of_reset_step_apply_of_flush (fun n hn => (outsAt0 m c n hn).2) 8 (fun _ => (0 : EReal)) (TERM m c)
    (acc_reset m c) (acc_step m c) t h (ix2 i l)).trans ?_
  rw [zero_add, ref_at]
  unfold TERM
  refine Fin.sum_mul_add_congr fun s k hl => ?_
  have hs : (8 * (t.val / 8) + s.val) % 8 = s.val := by omega
  have hd : (8 * (t.val / 8) + s.val) / 8 = t.val / 8 := by omega
  refine congrArg₂ _ ((blk0 m c _ k i (by show (8 * (t.val / 8) + s.val) % 8 * 1024 + k < 8192; omega)).trans ?_)
    ((blk1 m c _ k l (by show (8 * (t.val / 8) + s.val) % 8 * 1024 + k < 8192; omega) (by show (8 * (t.val / 8) + s.val) / 8 * 1024 + l < 2048; omega)).trans ?_)
  · exact congrArg (aIn m c) (congrArg₂ ix2 (Fin.ext (by show (8 * (t.val / 8) + s.val) % 8 * 1024 + k = s * 1024 + k; rw [hs])) rfl)
  · exact congrArg (dP m c) (congrArg₂ ix2 (Fin.ext (by show (8 * (t.val / 8) + s.val) % 8 * 1024 + k = s * 1024 + k; rw [hs]))
      (Fin.ext (by show (8 * (t.val / 8) + s.val) / 8 * 1024 + l = t.val / 8 * 1024 + l; rw [hd])))

theorem fin2 (c : Dev nD) : (dats m 0 c).arrAt 2 (cfgs 0).N = REF (aIn m c) (dP m c) := by
  refine (dats m 0 c).arrAt_eq_of_covers 2 _ (by decide +kernel) fun t hf y => ?_
  have h7 : t.val % 8 = 7 := (flush0_2 t).mp hf
  blk_simp
  rw [after0_2]
  obtain ⟨i, l, rfl⟩ : ∃ (i : Fin 1024) (l : Fin 1024), y = ix2 i l := ⟨_, _, eq_ix2 y⟩
  refine (out_last m c t h7 i l).trans ((acc_last m c t h7 i l (by have := (idx t).2.2.2; omega)).trans ?_)
  blk_ext [idx t]

end Cert.ProjDwsIdeal.Hand
-- ==== Proof.ProjDwsClaim.lean ====
module
public import proofs.«01_k».proof.Defs
public import proofs.«01_k».proof.Proof.Gen.ProjDwsIdeal
public import proofs.«01_k».proof.Proof.Gen.ProjDwsRefIdeal
public import proofs.«01_k».proof.Proof.ProjDwsFinal
public import Idealize.ShloMosaic.Lib.Claim

/-! The gradient of the input projection's weight, the mixer's columns: kernel and reference end with the same array. -/

@[expose] public section
noncomputable section
namespace Cert.Proof
open Idealize.ShloMosaic Idealize.SL.Sem

/-- The reference's frame: its run, and no semaphore is declared. -/
theorem pdws_reference : Cert.quiescent_ProjDwsRefIdeal := by
  intro m g _
  exact (θ_run Cert.ProjDwsRefIdeal.defs _ _).mono
    (fun r h => ⟨fun c => (h c).2, sem_eq_zero_of_no_sems (by decide) r.2⟩)
    (Cert.ProjDwsRefIdeal.Value.run m g)

/-- The kernel and the reference end with equal arrays. -/
theorem pdws_algebraic : Cert.algebraic_ProjDwsIdeal_ProjDwsRefIdeal := by
  intro m g m' g' _ hagree
  refine ⟨fun c => (Cert.ProjDwsIdeal.Gen.dats m 0 c).arrAt 2 Cert.ProjDwsIdeal.cfg0.N,
    Cert.ProjDwsIdeal.Value.run_blocks m g, ?_⟩
  refine (θ_run Cert.ProjDwsRefIdeal.defs _ _).mono (fun r h c => ?_)
    (Cert.ProjDwsRefIdeal.Value.run m' g')
  obtain ⟨e0, e1⟩ := hagree c
  refine ⟨(h c).1.trans ?_, (h c).2⟩
  refine Eq.trans ?_ (Cert.ProjDwsIdeal.Hand.fin2 m c).symm
  rw [e0, e1]
  rfl

end Cert.Proof
-- ==== Proof.ProjDwcFinal.lean ====
module
public import proofs.«01_k».proof.Proof.Gen.ProjDwcIdeal.Value
public import proofs.«01_k».proof.Proof.Gen.ProjDwcRefIdeal.Run
public import Idealize.ShloMosaic.Lib.Pipeline.ValueKit
public import Idealize.ShloMosaic.Lib.Pointwise

/-! The gradient of the input projection's weight, the convolution's columns: the kernel adds eight stretches of rows, the reference sums over all rows. -/

@[expose] public section
set_option maxRecDepth 16384
noncomputable section
namespace Cert.ProjDwcIdeal.Hand
open Cert.ProjDwcIdeal Cert.ProjDwcIdeal.Gen Idealize.ShloMosaic Idealize.ShloMosaic.TcCoe Idealize.SL.Sem
open Idealize.ShloMosaic.Pipeline (Dat)
variable (m : (ℓ : Loc nD τ sig) → Buf (Elt Ideal) ℓ)

/-- The product's first factor and the gradient of its result, as device `c` holds them. -/
def aIn (c : Dev nD) : FVec Ideal S8192x1024 .bf16 := m ((c : Thread nD τ).loc main_arg0)
def dP (c : Dev nD) : FVec Ideal S8192x1024 .bf16 := m ((c : Thread nD τ).loc main_arg1)

/-- The reference's term over its two arrays. -/
def REF (A : FVec Ideal S8192x1024 .bf16) (D : FVec Ideal S8192x1024 .bf16) : FVec Ideal S1024x1024 .bf16 :=
  truncf .bf16 (transpose Cert.ProjDwcRefIdeal.S1024x1024 [1, 0]
    (Host.dotGeneral Cert.ProjDwcRefIdeal.dot_S8192x1024_S8192x1024_S1024x1024_0_0_1_1_n_n none (extf .f32 D Cert.ProjDwcRefIdeal.Gen.bitsLt_bf16_f32) (extf .f32 A Cert.ProjDwcRefIdeal.Gen.bitsLt_bf16_f32))
    Cert.ProjDwcRefIdeal.Gen.transposes_S1024x1024_S1024x1024_1_0) Cert.ProjDwcRefIdeal.Gen.bitsLt_bf16_f32

theorem ref_at (A : FVec Ideal S8192x1024 .bf16) (D : FVec Ideal S8192x1024 .bf16) (i : Fin 1024) (l : Fin 1024) :
    REF A D (ix2 i l) = ∑ R : Fin 8192, A (ix2 R i) * D (ix2 R l) := by
  pointwise [REF]
  exact Finset.sum_congr rfl fun R _ => mul_comm _ _

theorem idx : ∀ t : Fin cfg0.N, win0_0.index t = ![t.val % 8, 0] ∧ win0_1.index t = ![t.val % 8, t.val / 8] ∧ win0_2.index t = ![0, t.val / 8]
    ∧ t.val < 8 :=
  (by decide +kernel : ∀ t : Fin grid0.N, _)

theorem blk0 (c : Dev nD) (t : Fin cfg0.N) (r : Fin 1024) (i : Fin 1024) (h : t.val % 8 * 1024 + r < 8192) :
    (show FVec Ideal S1024x1024 .bf16 from iblk m c 0 t) (ix2 r i) = aIn m c (ix2 ⟨t.val % 8 * 1024 + r, h⟩ i) := by
  show iblk m c 0 t (ix2 r i) = m ((c : Thread nD τ).loc main_arg0) _
  blk_ext [iblk, V, idx t]

theorem blk1 (c : Dev nD) (t : Fin cfg0.N) (r : Fin 1024) (l : Fin 1024) (h : t.val % 8 * 1024 + r < 8192) (h' : t.val / 8 * 1024 + l < 1024) :
    (show FVec Ideal S1024x1024 .bf16 from iblk m c 1 t) (ix2 r l) = dP m c (ix2 ⟨t.val % 8 * 1024 + r, h⟩ ⟨t.val / 8 * 1024 + l, h'⟩) := by
  show iblk m c 1 t (ix2 r l) = m ((c : Thread nD τ).loc main_arg1) _
  blk_ext [iblk, V, idx t]

theorem pay1_at (j : S1024x1024.Idx) : k0_pay1 (F := Ideal) j = 0 := by pointwise [k0_pay1]

theorem pay2_at (acc : Vec Ideal S1024x1024 .f32) (a : Vec Ideal S1024x1024 .bf16) (b : Vec Ideal S1024x1024 .bf16) (i : Fin 1024) (l : Fin 1024) :
    k0_pay2 acc a b (ix2 i l) = acc (ix2 i l) + ∑ k : Fin 1024, a (ix2 k i) * b (ix2 k l) := by
  pointwise [k0_pay2]

theorem pay3_at (acc : Vec Ideal S1024x1024 .f32) (i : Fin 1024) (l : Fin 1024) :
    k0_pay3 acc (ix2 i l) = acc (ix2 i l) := by
  pointwise [k0_pay3]

/-- What a point adds to the accumulator. -/
def TERM (c : Dev nD) (t : Fin cfg0.N) (j : S1024x1024.Idx) : EReal :=
  ∑ k : Fin 1024, (show FVec Ideal S1024x1024 .bf16 from iblk m c 0 t) (ix2 k (j 0)) * (show FVec Ideal S1024x1024 .bf16 from iblk m c 1 t) (ix2 k (j 1))

theorem acc_reset (c : Dev nD) (t : Fin cfg0.N) (h : t.val % 8 = 0) (j : S1024x1024.Idx) :
    (outsAt0 m c t.val t.isLt).2 j = 0 + TERM m c t j := by
  obtain ⟨i, l, rfl⟩ : ∃ (i : Fin 1024) (l : Fin 1024), j = ix2 i l := ⟨_, _, eq_ix2 j⟩
  rw [outsAt0_A m c t h (by omega)]
  frame_out
  rw [pay2_at, pay1_at]
  rfl

theorem acc_step (c : Dev nD) (t : Fin cfg0.N) (h : ¬t.val % 8 = 0) (j : S1024x1024.Idx) :
    (outsAt0 m c t.val t.isLt).2 j = (outsAt0 m c (t.val - 1) (Nat.lt_of_le_of_lt (Nat.sub_le _ _) t.isLt)).2 j + TERM m c t j := by
  obtain ⟨i, l, rfl⟩ : ∃ (i : Fin 1024) (l : Fin 1024), j = ix2 i l := ⟨_, _, eq_ix2 j⟩
  by_cases h7 : t.val % 8 = 7
  · rw [outsAt0_C m c t h h7]
    frame_out
    rw [pay2_at]
    exact congrArg₂ (· + ·) (congrFun (Memref.IsWhole.read_unread _ _) (ix2 i l)) rfl
  · rw [outsAt0_B m c t h h7]
    frame_out
    rw [pay2_at]
    exact congrArg₂ (· + ·) (congrFun (Memref.IsWhole.read_unread _ _) (ix2 i l)) rfl

theorem out_last (c : Dev nD) (t : Fin cfg0.N) (h : t.val % 8 = 7) (i : Fin 1024) (l : Fin 1024) :
    (outsAt0 m c t.val t.isLt).1 (ix2 i l) = (outsAt0 m c t.val t.isLt).2 (ix2 i l) := by
  rw [outsAt0_C m c t (by omega) h]
  frame_out
  rw [pay3_at]

theorem acc_last (c : Dev nD) (t : Fin cfg0.N) (h : t.val % 8 = 7) (i : Fin 1024) (l : Fin 1024) (h' : t.val / 8 * 1024 + l < 1024) :
    (outsAt0 m c t.val t.isLt).2 (ix2 i l) = REF (aIn m c) (dP m c) (ix2 i ⟨t.val / 8 * 1024 + l, h'⟩) := by
  refine (Pipeline.eq_sum_fin_of_reset_step_apply_of_flush (fun n hn => (outsAt0 m c n hn).2) 8 (fun _ => (0 : EReal)) (TERM m c)
    (acc_reset m c) (acc_step m c) t h (ix2 i l)).trans ?_
  rw [zero_add, ref_at]
  unfold TERM
  refine Fin.sum_mul_add_congr fun s k hl => ?_
  have hs : (8 * (t.val / 8) + s.val) % 8 = s.val := by omega
  have hd : (8 * (t.val / 8) + s.val) / 8 = t.val / 8 := by omega
  refine congrArg₂ _ ((blk0 m c _ k i (by show (8 * (t.val / 8) + s.val) % 8 * 1024 + k < 8192; omega)).trans ?_)
    ((blk1 m c _ k l (by show (8 * (t.val / 8) + s.val) % 8 * 1024 + k < 8192; omega) (by show (8 * (t.val / 8) + s.val) / 8 * 1024 + l < 1024; omega)).trans ?_)
  · exact congrArg (aIn m c) (congrArg₂ ix2 (Fin.ext (by show (8 * (t.val / 8) + s.val) % 8 * 1024 + k = s * 1024 + k; rw [hs])) rfl)
  · exact congrArg (dP m c) (congrArg₂ ix2 (Fin.ext (by show (8 * (t.val / 8) + s.val) % 8 * 1024 + k = s * 1024 + k; rw [hs]))
      (Fin.ext (by show (8 * (t.val / 8) + s.val) / 8 * 1024 + l = t.val / 8 * 1024 + l; rw [hd])))

theorem fin2 (c : Dev nD) : (dats m 0 c).arrAt 2 (cfgs 0).N = REF (aIn m c) (dP m c) := by
  refine (dats m 0 c).arrAt_eq_of_covers 2 _ (by decide +kernel) fun t hf y => ?_
  have h7 : t.val % 8 = 7 := (flush0_2 t).mp hf
  blk_simp
  rw [after0_2]
  obtain ⟨i, l, rfl⟩ : ∃ (i : Fin 1024) (l : Fin 1024), y = ix2 i l := ⟨_, _, eq_ix2 y⟩
  refine (out_last m c t h7 i l).trans ((acc_last m c t h7 i l (by have := (idx t).2.2.2; omega)).trans ?_)
  blk_ext [idx t]

end Cert.ProjDwcIdeal.Hand
-- ==== Proof.ProjDwcClaim.lean ====
module
public import proofs.«01_k».proof.Defs
public import proofs.«01_k».proof.Proof.Gen.ProjDwcIdeal
public import proofs.«01_k».proof.Proof.Gen.ProjDwcRefIdeal
public import proofs.«01_k».proof.Proof.ProjDwcFinal
public import Idealize.ShloMosaic.Lib.Claim

/-! The gradient of the input projection's weight, the convolution's columns: kernel and reference end with the same array. -/

@[expose] public section
noncomputable section
namespace Cert.Proof
open Idealize.ShloMosaic Idealize.SL.Sem

/-- The reference's frame: its run, and no semaphore is declared. -/
theorem pdwc_reference : Cert.quiescent_ProjDwcRefIdeal := by
  intro m g _
  exact (θ_run Cert.ProjDwcRefIdeal.defs _ _).mono
    (fun r h => ⟨fun c => (h c).2, sem_eq_zero_of_no_sems (by decide) r.2⟩)
    (Cert.ProjDwcRefIdeal.Value.run m g)

/-- The kernel and the reference end with equal arrays. -/
theorem pdwc_algebraic : Cert.algebraic_ProjDwcIdeal_ProjDwcRefIdeal := by
  intro m g m' g' _ hagree
  refine ⟨fun c => (Cert.ProjDwcIdeal.Gen.dats m 0 c).arrAt 2 Cert.ProjDwcIdeal.cfg0.N,
    Cert.ProjDwcIdeal.Value.run_blocks m g, ?_⟩
  refine (θ_run Cert.ProjDwcRefIdeal.defs _ _).mono (fun r h c => ?_)
    (Cert.ProjDwcRefIdeal.Value.run m' g')
  obtain ⟨e0, e1⟩ := hagree c
  refine ⟨(h c).1.trans ?_, (h c).2⟩
  refine Eq.trans ?_ (Cert.ProjDwcIdeal.Hand.fin2 m c).symm
  rw [e0, e1]
  rfl

end Cert.Proof
-- ==== Proof.ProjDxFinal.lean ====
module
public import proofs.«01_k».proof.Proof.Gen.ProjDxIdeal.Value
public import proofs.«01_k».proof.Proof.Gen.ProjDxRefIdeal.Run
public import Idealize.ShloMosaic.Lib.Pipeline.ValueKit
public import Idealize.ShloMosaic.Lib.Pointwise

/-! The gradient that reaches the output projection's input: one product per block of rows. -/

@[expose] public section
set_option maxRecDepth 16384
noncomputable section
namespace Cert.ProjDxIdeal.Hand
open Cert.ProjDxIdeal Cert.ProjDxIdeal.Gen Idealize.ShloMosaic Idealize.ShloMosaic.TcCoe Idealize.SL.Sem
open Idealize.ShloMosaic.Pipeline (Dat)
variable (m : (ℓ : Loc nD τ sig) → Buf (Elt Ideal) ℓ)

/-- The upstream gradient and the weight, as device `c` holds them. -/
def dZ (c : Dev nD) : FVec Ideal S8192x1024 .f32 := m ((c : Thread nD τ).loc main_arg0)
def wO (c : Dev nD) : FVec Ideal S1024x1024 .f32 := m ((c : Thread nD τ).loc main_arg1)

/-- The reference's term over its two arrays. -/
def REF (D : FVec Ideal S8192x1024 .f32) (W : FVec Ideal S1024x1024 .f32) : FVec Ideal S8192x1024 .f32 :=
  Host.dotGeneral Cert.ProjDxRefIdeal.dot_S8192x1024_S1024x1024_S8192x1024_1_1_0_0_n_n none D W

theorem ref_at (D : FVec Ideal S8192x1024 .f32) (W : FVec Ideal S1024x1024 .f32) (r : Fin 8192) (l : Fin 1024) :
    REF D W (ix2 r l) = ∑ k : Fin 1024, D (ix2 r k) * W (ix2 l k) := by
  pointwise [REF]

theorem idx : ∀ t : Fin cfg0.N, win0_0.index t = ![t.val, 0] ∧ win0_1.index t = ![0, 0] ∧ win0_2.index t = ![t.val, 0] ∧ t.val < 8 :=
  (by decide +kernel : ∀ t : Fin grid0.N, _)

theorem weight (c : Dev nD) (l k : Fin 1024) :
    (show FVec Ideal S1024x1024 .bf16 from V m c (Pipeline.arrRef spec0 1)) (ix2 l k) = wO m c (ix2 l k) := by
  entry_read
  rfl

theorem blk0 (c : Dev nD) (t : Fin cfg0.N) (r k : Fin 1024) (h : t.val * 1024 + r < 8192) :
    (show FVec Ideal S1024x1024 .f32 from iblk m c 0 t) (ix2 r k) = dZ m c (ix2 ⟨t.val * 1024 + r, h⟩ k) := by
  show iblk m c 0 t (ix2 r k) = m ((c : Thread nD τ).loc main_arg0) _
  blk_ext [iblk, V, idx t]

theorem blk1 (c : Dev nD) (t : Fin cfg0.N) (l k : Fin 1024) :
    (show FVec Ideal S1024x1024 .bf16 from iblk m c 1 t) (ix2 l k) = wO m c (ix2 l k) := by
  refine Eq.trans ?_ (weight m c l k)
  show iblk m c 1 t (ix2 l k) = V m c (Pipeline.arrRef spec0 1) (ix2 l k)
  blk_ext [iblk, idx t]

theorem pay_at (a : Vec Ideal S1024x1024 .f32) (b : Vec Ideal S1024x1024 .bf16) (r l : Fin 1024) :
    k0_pay3 (k0_pay2 (k0_pay1 (F := Ideal)) a b) (ix2 r l) = ∑ k : Fin 1024, a (ix2 r k) * b (ix2 l k) := by
  pointwise [k0_pay3, k0_pay2, k0_pay1]

theorem point (c : Dev nD) (t : Fin cfg0.N) (r l : Fin 1024) (h : t.val * 1024 + r < 8192) :
    outsAt0 m c t (ix2 r l) = REF (dZ m c) (wO m c) (ix2 ⟨t.val * 1024 + r, h⟩ l) := by
  unfold outsAt0
  frame_out
  refine (pay_at _ _ r l).trans ((Finset.sum_congr rfl fun k _ => ?_).trans (ref_at (dZ m c) (wO m c) _ l).symm)
  exact congrArg₂ _ (blk0 m c t r k h) (blk1 m c t l k)

theorem fin2 (c : Dev nD) : (dats m 0 c).arrAt 2 (cfgs 0).N = REF (dZ m c) (wO m c) := by
  refine (dats m 0 c).arrAt_eq_of_covers 2 _ (by decide +kernel) fun t _ y => ?_
  blk_simp
  rw [after0_2]
  obtain ⟨r, l, rfl⟩ : ∃ (r : Fin 1024) (l : Fin 1024), y = ix2 r l := ⟨_, _, eq_ix2 y⟩
  refine (point m c t r l (by have := (idx t).2.2.2; omega)).trans ?_
  blk_ext [idx t]

end Cert.ProjDxIdeal.Hand
-- ==== Proof.ProjDxClaim.lean ====
module
public import proofs.«01_k».proof.Defs
public import proofs.«01_k».proof.Proof.Gen.ProjDxIdeal
public import proofs.«01_k».proof.Proof.Gen.ProjDxRefIdeal
public import proofs.«01_k».proof.Proof.ProjDxFinal
public import Idealize.ShloMosaic.Lib.Claim

/-! The gradient that reaches the output projection's input: kernel and reference end with the same array. -/

@[expose] public section
noncomputable section
namespace Cert.Proof
open Idealize.ShloMosaic Idealize.SL.Sem

/-- The reference's frame: its run, and no semaphore is declared. -/
theorem pdx_reference : Cert.quiescent_ProjDxRefIdeal := by
  intro m g _
  exact (θ_run Cert.ProjDxRefIdeal.defs _ _).mono
    (fun r h => ⟨fun c => (h c).2, sem_eq_zero_of_no_sems (by decide) r.2⟩)
    (Cert.ProjDxRefIdeal.Value.run m g)

/-- The kernel and the reference end with equal arrays. -/
theorem pdx_algebraic : Cert.algebraic_ProjDxIdeal_ProjDxRefIdeal := by
  intro m g m' g' _ hagree
  refine ⟨fun c => (Cert.ProjDxIdeal.Gen.dats m 0 c).arrAt 2 Cert.ProjDxIdeal.cfg0.N,
    Cert.ProjDxIdeal.Value.run_blocks m g, ?_⟩
  refine (θ_run Cert.ProjDxRefIdeal.defs _ _).mono (fun r h c => ?_)
    (Cert.ProjDxRefIdeal.Value.run m' g')
  obtain ⟨e0, e1⟩ := hagree c
  refine ⟨(h c).1.trans ?_, (h c).2⟩
  refine Eq.trans ?_ (Cert.ProjDxIdeal.Hand.fin2 m c).symm
  rw [e0, e1]
  rfl

end Cert.Proof
-- ==== Proof.ProjDwoFinal.lean ====
module
public import proofs.«01_k».proof.Proof.Gen.ProjDwoIdeal.Value
public import proofs.«01_k».proof.Proof.Gen.ProjDwoRefIdeal.Run
public import Idealize.ShloMosaic.Lib.Pipeline.ValueKit
public import Idealize.ShloMosaic.Lib.Pointwise

/-! The gradient of one half of the output projection's weight: the kernel adds eight stretches of rows, the reference sums over all rows. -/

@[expose] public section
set_option maxRecDepth 16384
noncomputable section
namespace Cert.ProjDwoIdeal.Hand
open Cert.ProjDwoIdeal Cert.ProjDwoIdeal.Gen Idealize.ShloMosaic Idealize.ShloMosaic.TcCoe Idealize.SL.Sem
open Idealize.ShloMosaic.Pipeline (Dat)
variable (m : (ℓ : Loc nD τ sig) → Buf (Elt Ideal) ℓ)

/-- The product's first factor and the gradient of its result, as device `c` holds them. -/
def aIn (c : Dev nD) : FVec Ideal S8192x512 .bf16 := m ((c : Thread nD τ).loc main_arg0)
def dP (c : Dev nD) : FVec Ideal S8192x1024 .f32 := m ((c : Thread nD τ).loc main_arg1)

/-- The reference's term over its two arrays. -/
def REF (A : FVec Ideal S8192x512 .bf16) (D : FVec Ideal S8192x1024 .f32) : FVec Ideal S512x1024 .bf16 :=
  truncf .bf16 (transpose Cert.ProjDwoRefIdeal.S512x1024 [1, 0]
    (Host.dotGeneral Cert.ProjDwoRefIdeal.dot_S8192x1024_S8192x512_S1024x512_0_0_1_1_n_n none D (extf .f32 A Cert.ProjDwoRefIdeal.Gen.bitsLt_bf16_f32))
    Cert.ProjDwoRefIdeal.Gen.transposes_S1024x512_S512x1024_1_0) Cert.ProjDwoRefIdeal.Gen.bitsLt_bf16_f32

theorem ref_at (A : FVec Ideal S8192x512 .bf16) (D : FVec Ideal S8192x1024 .f32) (i : Fin 512) (l : Fin 1024) :
    REF A D (ix2 i l) = ∑ R : Fin 8192, A (ix2 R i) * D (ix2 R l) := by
  pointwise [REF]
  exact Finset.sum_congr rfl fun R _ => mul_comm _ _

theorem idx : ∀ t : Fin cfg0.N, win0_0.index t = ![t.val % 8, 0] ∧ win0_1.index t = ![t.val % 8, t.val / 8] ∧ win0_2.index t = ![0, t.val / 8]
    ∧ t.val < 8 :=
  (by decide +kernel : ∀ t : Fin grid0.N, _)

theorem blk0 (c : Dev nD) (t : Fin cfg0.N) (r : Fin 1024) (i : Fin 512) (h : t.val % 8 * 1024 + r < 8192) :
    (show FVec Ideal S1024x512 .bf16 from iblk m c 0 t) (ix2 r i) = aIn m c (ix2 ⟨t.val % 8 * 1024 + r, h⟩ i) := by
  show iblk m c 0 t (ix2 r i) = m ((c : Thread nD τ).loc main_arg0) _
  blk_ext [iblk, V, idx t]

theorem blk1 (c : Dev nD) (t : Fin cfg0.N) (r : Fin 1024) (l : Fin 1024) (h : t.val % 8 * 1024 + r < 8192) (h' : t.val / 8 * 1024 + l < 1024) :
    (show FVec Ideal S1024x1024 .f32 from iblk m c 1 t) (ix2 r l) = dP m c (ix2 ⟨t.val % 8 * 1024 + r, h⟩ ⟨t.val / 8 * 1024 + l, h'⟩) := by
  show iblk m c 1 t (ix2 r l) = m ((c : Thread nD τ).loc main_arg1) _
  blk_ext [iblk, V, idx t]

theorem pay1_at (j : S512x1024.Idx) : k0_pay1 (F := Ideal) j = 0 := by pointwise [k0_pay1]

theorem pay2_at (acc : Vec Ideal S512x1024 .f32) (a : Vec Ideal S1024x512 .bf16) (b : Vec Ideal S1024x1024 .f32) (i : Fin 512) (l : Fin 1024) :
    k0_pay2 acc a b (ix2 i l) = acc (ix2 i l) + ∑ k : Fin 1024, a (ix2 k i) * b (ix2 k l) := by
  pointwise [k0_pay2]

theorem pay3_at (acc : Vec Ideal S512x1024 .f32) (i : Fin 512) (l : Fin 1024) :
    k0_pay3 acc (ix2 i l) = acc (ix2 i l) := by
  pointwise [k0_pay3]

/-- What a point adds to the accumulator. -/
def TERM (c : Dev nD) (t : Fin cfg0.N) (j : S512x1024.Idx) : EReal :=
  ∑ k : Fin 1024, (show FVec Ideal S1024x512 .bf16 from iblk m c 0 t) (ix2 k (j 0)) * (show FVec Ideal S1024x1024 .f32 from iblk m c 1 t) (ix2 k (j 1))

theorem acc_reset (c : Dev nD) (t : Fin cfg0.N) (h : t.val % 8 = 0) (j : S512x1024.Idx) :
    (outsAt0 m c t.val t.isLt).2 j = 0 + TERM m c t j := by
  obtain ⟨i, l, rfl⟩ : ∃ (i : Fin 512) (l : Fin 1024), j = ix2 i l := ⟨_, _, eq_ix2 j⟩
  rw [outsAt0_A m c t h (by omega)]
  frame_out
  rw [pay2_at, pay1_at]
  rfl

theorem acc_step (c : Dev nD) (t : Fin cfg0.N) (h : ¬t.val % 8 = 0) (j : S512x1024.Idx) :
    (outsAt0 m c t.val t.isLt).2 j = (outsAt0 m c (t.val - 1) (Nat.lt_of_le_of_lt (Nat.sub_le _ _) t.isLt)).2 j + TERM m c t j := by
  obtain ⟨i, l, rfl⟩ : ∃ (i : Fin 512) (l : Fin 1024), j = ix2 i l := ⟨_, _, eq_ix2 j⟩
  by_cases h7 : t.val % 8 = 7
  · rw [outsAt0_C m c t h h7]
    frame_out
    rw [pay2_at]
    exact congrArg₂ (· + ·) (congrFun (Memref.IsWhole.read_unread _ _) (ix2 i l)) rfl
  · rw [outsAt0_B m c t h h7]
    frame_out
    rw [pay2_at]
    exact congrArg₂ (· + ·) (congrFun (Memref.IsWhole.read_unread _ _) (ix2 i l)) rfl

theorem out_last (c : Dev nD) (t : Fin cfg0.N) (h : t.val % 8 = 7) (i : Fin 512) (l : Fin 1024) :
    (outsAt0 m c t.val t.isLt).1 (ix2 i l) = (outsAt0 m c t.val t.isLt).2 (ix2 i l) := by
  rw [outsAt0_C m c t (by omega) h]
  frame_out
  rw [pay3_at]

theorem acc_last (c : Dev nD) (t : Fin cfg0.N) (h : t.val % 8 = 7) (i : Fin 512) (l : Fin 1024) (h' : t.val / 8 * 1024 + l < 1024) :
    (outsAt0 m c t.val t.isLt).2 (ix2 i l) = REF (aIn m c) (dP m c) (ix2 i ⟨t.val / 8 * 1024 + l, h'⟩) := by
  refine (Pipeline.eq_sum_fin_of_reset_step_apply_of_flush (fun n hn => (outsAt0 m c n hn).2) 8 (fun _ => (0 : EReal)) (TERM m c)
    (acc_reset m c) (acc_step m c) t h (ix2 i l)).trans ?_
  rw [zero_add, ref_at]
  unfold TERM
  refine Fin.sum_mul_add_congr fun s k hl => ?_
  have hs : (8 * (t.val / 8) + s.val) % 8 = s.val := by omega
  have hd : (8 * (t.val / 8) + s.val) / 8 = t.val / 8 := by omega
  refine congrArg₂ _ ((blk0 m c _ k i (by show (8 * (t.val / 8) + s.val) % 8 * 1024 + k < 8192; omega)).trans ?_)
    ((blk1 m c _ k l (by show (8 * (t.val / 8) + s.val) % 8 * 1024 + k < 8192; omega) (by show (8 * (t.val / 8) + s.val) / 8 * 1024 + l < 1024; omega)).trans ?_)
  · exact congrArg (aIn m c) (congrArg₂ ix2 (Fin.ext (by show (8 * (t.val / 8) + s.val) % 8 * 1024 + k = s * 1024 + k; rw [hs])) rfl)
  · exact congrArg (dP m c) (congrArg₂ ix2 (Fin.ext (by show (8 * (t.val / 8) + s.val) % 8 * 1024 + k = s * 1024 + k; rw [hs]))
      (Fin.ext (by show (8 * (t.val / 8) + s.val) / 8 * 1024 + l = t.val / 8 * 1024 + l; rw [hd])))

theorem fin2 (c : Dev nD) : (dats m 0 c).arrAt 2 (cfgs 0).N = REF (aIn m c) (dP m c) := by
  refine (dats m 0 c).arrAt_eq_of_covers 2 _ (by decide +kernel) fun t hf y => ?_
  have h7 : t.val % 8 = 7 := (flush0_2 t).mp hf
  blk_simp
  rw [after0_2]
  obtain ⟨i, l, rfl⟩ : ∃ (i : Fin 512) (l : Fin 1024), y = ix2 i l := ⟨_, _, eq_ix2 y⟩
  refine (out_last m c t h7 i l).trans ((acc_last m c t h7 i l (by have := (idx t).2.2.2; omega)).trans ?_)
  blk_ext [idx t]

end Cert.ProjDwoIdeal.Hand
-- ==== Proof.ProjDwoClaim.lean ====
module
public import proofs.«01_k».proof.Defs
public import proofs.«01_k».proof.Proof.Gen.ProjDwoIdeal
public import proofs.«01_k».proof.Proof.Gen.ProjDwoRefIdeal
public import proofs.«01_k».proof.Proof.ProjDwoFinal
public import Idealize.ShloMosaic.Lib.Claim

/-! The gradient of one half of the output projection's weight: kernel and reference end with the same array. -/

@[expose] public section
noncomputable section
namespace Cert.Proof
open Idealize.ShloMosaic Idealize.SL.Sem

/-- The reference's frame: its run, and no semaphore is declared. -/
theorem pdwo_reference : Cert.quiescent_ProjDwoRefIdeal := by
  intro m g _
  exact (θ_run Cert.ProjDwoRefIdeal.defs _ _).mono
    (fun r h => ⟨fun c => (h c).2, sem_eq_zero_of_no_sems (by decide) r.2⟩)
    (Cert.ProjDwoRefIdeal.Value.run m g)

/-- The kernel and the reference end with equal arrays. -/
theorem pdwo_algebraic : Cert.algebraic_ProjDwoIdeal_ProjDwoRefIdeal := by
  intro m g m' g' _ hagree
  refine ⟨fun c => (Cert.ProjDwoIdeal.Gen.dats m 0 c).arrAt 2 Cert.ProjDwoIdeal.cfg0.N,
    Cert.ProjDwoIdeal.Value.run_blocks m g, ?_⟩
  refine (θ_run Cert.ProjDwoRefIdeal.defs _ _).mono (fun r h c => ?_)
    (Cert.ProjDwoRefIdeal.Value.run m' g')
  obtain ⟨e0, e1⟩ := hagree c
  refine ⟨(h c).1.trans ?_, (h c).2⟩
  refine Eq.trans ?_ (Cert.ProjDwoIdeal.Hand.fin2 m c).symm
  rw [e0, e1]
  rfl

end Cert.Proof
-- ==== Proof.FfnLnFinal.lean ====
module
public import proofs.«01_k».proof.Proof.Gen.FfnLnIdeal.Value
public import proofs.«01_k».proof.Proof.Gen.FfnLnRefIdeal.Run
public import Idealize.ShloMosaic.Lib.Pipeline.ValueKit
public import Idealize.ShloMosaic.Lib.Pointwise

/-! The feed-forward layer's output with the residual and the layer norm, one block of rows at a time. -/

@[expose] public section
set_option maxRecDepth 16384
noncomputable section
namespace Cert.FfnLnIdeal.Hand
open Cert.FfnLnIdeal Cert.FfnLnIdeal.Gen Idealize.ShloMosaic Idealize.ShloMosaic.TcCoe Idealize.SL.Sem
open Idealize.ShloMosaic.Pipeline (Dat)
variable (m : (ℓ : Loc nD τ sig) → Buf (Elt Ideal) ℓ)

/-- The arguments, as device `c` holds them. -/
def aIn (c : Dev nD) : FVec Ideal S8192x2816 .bf16 := m ((c : Thread nD τ).loc main_arg0)
def wO (c : Dev nD) : FVec Ideal S2816x1024 .f32 := m ((c : Thread nD τ).loc main_arg1)
def xIn (c : Dev nD) : FVec Ideal S8192x1024 .f32 := m ((c : Thread nD τ).loc main_arg2)
def gIn (c : Dev nD) : FVec Ideal S1024 .f32 := m ((c : Thread nD τ).loc main_arg3)
def bIn (c : Dev nD) : FVec Ideal S1024 .f32 := m ((c : Thread nD τ).loc main_arg4)

/-- A row normalised, scaled and shifted: the layer norm's entry. -/
def MU (z : Fin 1024 → EReal) : EReal := Ideal.div (∑ k : Fin 1024, z k) (Ideal.ofBits FTy.f32 0x44800000#32)
def VAR (z : Fin 1024 → EReal) : EReal := Ideal.div (∑ k : Fin 1024, (z k - MU z) * (z k - MU z)) (Ideal.ofBits FTy.f32 0x44800000#32)
def NORM (z : Fin 1024 → EReal) (g b : EReal) (l : Fin 1024) : EReal :=
  (z l - MU z) * Ideal.rsqrt (VAR z + Ideal.ofBits FTy.f32 0x3727C5AC#32) * g + b

/-- The reference's residual sum. -/
def REFZ (A : FVec Ideal S8192x2816 .bf16) (W : FVec Ideal S2816x1024 .f32) (X : FVec Ideal S8192x1024 .f32) : FVec Ideal S8192x1024 .f32 :=
  addf (mulf (broadcastInDim Cert.FfnLnRefIdeal.S8192x1024 ![] Cert.FfnLnRefIdeal.Gen.bcast_S_S8192x1024 (constant Cert.FfnLnRefIdeal.S_ .f32 0x3F9837F0#32)) X)
    (mulf (broadcastInDim Cert.FfnLnRefIdeal.S8192x1024 ![] Cert.FfnLnRefIdeal.Gen.bcast_S_S8192x1024 (constant Cert.FfnLnRefIdeal.S_ .f32 0x3F000000#32))
      (Host.dotGeneral Cert.FfnLnRefIdeal.dot_S8192x2816_S2816x1024_S8192x1024_1_0_0_1_n_n none (extf .f32 A Cert.FfnLnRefIdeal.Gen.bitsLt_bf16_f32) W))

theorem refz_at (A : FVec Ideal S8192x2816 .bf16) (W : FVec Ideal S2816x1024 .f32) (X : FVec Ideal S8192x1024 .f32) (r : Fin 8192) (l : Fin 1024) :
    REFZ A W X (ix2 r l) = Ideal.ofBits FTy.f32 0x3F9837F0#32 * X (ix2 r l) + Ideal.ofBits FTy.f32 0x3F000000#32 * ∑ k : Fin 2816, A (ix2 r k) * W (ix2 k l) := by
  pointwise [REFZ]

/-- The reference's layer norm over an array. -/
def CEN (Z : FVec Ideal S8192x1024 .f32) : FVec Ideal S8192x1024 .f32 :=
  subf Z (broadcastInDim Cert.FfnLnRefIdeal.S8192x1024 ![0, 1] Cert.FfnLnRefIdeal.Gen.bcast_S8192x1_S8192x1024_0_1
    (Host.divf (broadcastInDim Cert.FfnLnRefIdeal.S8192x1 ![0] Cert.FfnLnRefIdeal.Gen.bcast_S8192_S8192x1_0
      (Host.reduceAdd Z (constant Cert.FfnLnRefIdeal.S_ .f32 0x00000000#32) Cert.FfnLnRefIdeal.Gen.reducesTo_S8192x1024_S8192_d1 Cert.FfnLnRefIdeal.Gen.h_S_))
      (broadcastInDim Cert.FfnLnRefIdeal.S8192x1 ![] Cert.FfnLnRefIdeal.Gen.bcast_S_S8192x1 (constant Cert.FfnLnRefIdeal.S_ .f32 0x44800000#32))))
def RSQ (C : FVec Ideal S8192x1024 .f32) : FVec Ideal Cert.FfnLnRefIdeal.S8192x1 .f32 :=
  Host.rsqrt (addf (Host.divf (broadcastInDim Cert.FfnLnRefIdeal.S8192x1 ![0] Cert.FfnLnRefIdeal.Gen.bcast_S8192_S8192x1_0
      (Host.reduceAdd (mulf C C) (constant Cert.FfnLnRefIdeal.S_ .f32 0x00000000#32) Cert.FfnLnRefIdeal.Gen.reducesTo_S8192x1024_S8192_d1 Cert.FfnLnRefIdeal.Gen.h_S_))
      (broadcastInDim Cert.FfnLnRefIdeal.S8192x1 ![] Cert.FfnLnRefIdeal.Gen.bcast_S_S8192x1 (constant Cert.FfnLnRefIdeal.S_ .f32 0x44800000#32)))
    (broadcastInDim Cert.FfnLnRefIdeal.S8192x1 ![] Cert.FfnLnRefIdeal.Gen.bcast_S_S8192x1 (constant Cert.FfnLnRefIdeal.S_ .f32 0x3727C5AC#32)))
def REFN (Z : FVec Ideal S8192x1024 .f32) (g b : FVec Ideal Cert.FfnLnRefIdeal.S1024 .f32) : FVec Ideal S8192x1024 .f32 :=
  addf (mulf (mulf (CEN Z) (broadcastInDim Cert.FfnLnRefIdeal.S8192x1024 ![0, 1] Cert.FfnLnRefIdeal.Gen.bcast_S8192x1_S8192x1024_0_1 (RSQ (CEN Z))))
    (broadcastInDim Cert.FfnLnRefIdeal.S8192x1024 ![0, 1] Cert.FfnLnRefIdeal.Gen.bcast_S1x1024_S8192x1024_0_1 (broadcastInDim Cert.FfnLnRefIdeal.S1x1024 ![1] Cert.FfnLnRefIdeal.Gen.bcast_S1024_S1x1024_1 g)))
    (broadcastInDim Cert.FfnLnRefIdeal.S8192x1024 ![0, 1] Cert.FfnLnRefIdeal.Gen.bcast_S1x1024_S8192x1024_0_1 (broadcastInDim Cert.FfnLnRefIdeal.S1x1024 ![1] Cert.FfnLnRefIdeal.Gen.bcast_S1024_S1x1024_1 b))

theorem cen_at (Z : FVec Ideal S8192x1024 .f32) (r : Fin 8192) (l : Fin 1024) :
    CEN Z (ix2 r l) = Z (ix2 r l) - MU fun k => Z (ix2 r k) := by
  unfold MU
  pointwise [CEN]

theorem rsq_at (C : FVec Ideal S8192x1024 .f32) (r : Fin 8192) :
    RSQ C (ix2 r 0) = Ideal.rsqrt (Ideal.div (∑ k : Fin 1024, C (ix2 r k) * C (ix2 r k)) (Ideal.ofBits FTy.f32 0x44800000#32) + Ideal.ofBits FTy.f32 0x3727C5AC#32) := by
  pointwise [RSQ]

theorem refn_at (Z : FVec Ideal S8192x1024 .f32) (g b : FVec Ideal Cert.FfnLnRefIdeal.S1024 .f32) (r : Fin 8192) (l : Fin 1024) :
    REFN Z g b (ix2 r l) = NORM (fun k => Z (ix2 r k)) (g (ix1 l)) (b (ix1 l)) l := by
  unfold NORM VAR
  simp only [← cen_at]
  rw [← rsq_at]
  pointwise [REFN]

theorem idx : ∀ t : Fin cfg0.N, win0_0.index t = ![t.val, 0] ∧ win0_1.index t = ![0, 0] ∧ win0_2.index t = ![t.val, 0] ∧ win0_3.index t = ![0, 0] ∧ win0_4.index t = ![0, 0]
    ∧ win0_5.index t = ![t.val, 0] ∧ win0_6.index t = ![t.val, 0] ∧ win0_7.index t = ![t.val, 0] ∧ t.val < 16 :=
  (by decide +kernel : ∀ t : Fin grid0.N, _)

theorem weight (c : Dev nD) (k : Fin 2816) (l : Fin 1024) :
    (show FVec Ideal S2816x1024 .bf16 from V m c (Pipeline.arrRef spec0 1)) (ix2 k l) = wO m c (ix2 k l) := by
  entry_read
  rfl
theorem gain (c : Dev nD) (l : Fin 1024) :
    (show FVec Ideal S1x1024 .f32 from V m c (Pipeline.arrRef spec0 3)) (ix2 0 l) = gIn m c (ix1 l) := by
  entry_read
  pointwise
  rfl
theorem shift (c : Dev nD) (l : Fin 1024) :
    (show FVec Ideal S1x1024 .f32 from V m c (Pipeline.arrRef spec0 4)) (ix2 0 l) = bIn m c (ix1 l) := by
  entry_read
  pointwise
  rfl

theorem blk0 (c : Dev nD) (t : Fin cfg0.N) (r : Fin 512) (k : Fin 2816) (h : t.val * 512 + r < 8192) :
    (show FVec Ideal S512x2816 .bf16 from iblk m c 0 t) (ix2 r k) = aIn m c (ix2 ⟨t.val * 512 + r, h⟩ k) := by
  show iblk m c 0 t (ix2 r k) = m ((c : Thread nD τ).loc main_arg0) _
  blk_ext [iblk, V, idx t]
theorem blk1 (c : Dev nD) (t : Fin cfg0.N) (k : Fin 2816) (l : Fin 1024) :
    (show FVec Ideal S2816x1024 .bf16 from iblk m c 1 t) (ix2 k l) = wO m c (ix2 k l) := by
  refine Eq.trans ?_ (weight m c k l)
  show iblk m c 1 t (ix2 k l) = V m c (Pipeline.arrRef spec0 1) (ix2 k l)
  blk_ext [iblk, idx t]
theorem blk2 (c : Dev nD) (t : Fin cfg0.N) (r : Fin 512) (k : Fin 1024) (h : t.val * 512 + r < 8192) :
    (show FVec Ideal S512x1024 .f32 from iblk m c 2 t) (ix2 r k) = xIn m c (ix2 ⟨t.val * 512 + r, h⟩ k) := by
  show iblk m c 2 t (ix2 r k) = m ((c : Thread nD τ).loc main_arg2) _
  blk_ext [iblk, V, idx t]
theorem blk3 (c : Dev nD) (t : Fin cfg0.N) (l : Fin 1024) :
    (show FVec Ideal S1x1024 .f32 from iblk m c 3 t) (ix2 0 l) = gIn m c (ix1 l) := by
  refine Eq.trans ?_ (gain m c l)
  show iblk m c 3 t (ix2 0 l) = V m c (Pipeline.arrRef spec0 3) (ix2 0 l)
  blk_ext [iblk, idx t]
theorem blk4 (c : Dev nD) (t : Fin cfg0.N) (l : Fin 1024) :
    (show FVec Ideal S1x1024 .f32 from iblk m c 4 t) (ix2 0 l) = bIn m c (ix1 l) := by
  refine Eq.trans ?_ (shift m c l)
  show iblk m c 4 t (ix2 0 l) = V m c (Pipeline.arrRef spec0 4) (ix2 0 l)
  blk_ext [iblk, idx t]

/-- The residual sum's entry over one block. -/
def ZB (x0 : FVec Ideal S512x2816 .bf16) (x1 : FVec Ideal S2816x1024 .bf16) (x2 : FVec Ideal S512x1024 .f32) (r : Fin 512) (l : Fin 1024) : EReal :=
  Ideal.ofBits FTy.f32 0x3F9837F0#32 * x2 (ix2 r l) + Ideal.ofBits FTy.f32 0x3F000000#32 * ∑ k : Fin 2816, x0 (ix2 r k) * x1 (ix2 k l)

theorem pay2_at (x0 : Vec Ideal S512x2816 .bf16) (x1 : Vec Ideal S2816x1024 .bf16) (x2 : Vec Ideal S512x1024 .f32) (r : Fin 512) (l : Fin 1024) :
    k0_pay2 x0 x1 x2 (ix2 r l) = ZB x0 x1 x2 r l := by
  unfold ZB
  pointwise [k0_pay2]

theorem pay3_at (x0 : Vec Ideal S512x2816 .bf16) (x1 : Vec Ideal S2816x1024 .bf16) (x2 : Vec Ideal S512x1024 .f32) (x3 x4 : Vec Ideal S1x1024 .f32) (r : Fin 512) (l : Fin 1024) :
    k0_pay3 x0 x1 x2 x3 x4 (ix2 r l) = NORM (fun k => ZB x0 x1 x2 r k) (x3 (ix2 0 l)) (x4 (ix2 0 l)) l := by
  unfold NORM VAR MU
  simp only [← pay2_at]
  pointwise [k0_pay3]

theorem out5_at (x0 : Vec Ideal S512x2816 .bf16) (x1 : Vec Ideal S2816x1024 .bf16) (x2 : Vec Ideal S512x1024 .f32) (x3 x4 : Vec Ideal S1x1024 .f32) (r : Fin 512) (l : Fin 1024) :
    out0_5 x0 x1 x2 x3 x4 (ix2 r l) = ZB x0 x1 x2 r l := by
  unfold out0_5
  frame_out
  exact pay2_at x0 x1 x2 r l
theorem out6_at (x0 : Vec Ideal S512x2816 .bf16) (x1 : Vec Ideal S2816x1024 .bf16) (x2 : Vec Ideal S512x1024 .f32) (x3 x4 : Vec Ideal S1x1024 .f32) (r : Fin 512) (l : Fin 1024) :
    out0_6 x0 x1 x2 x3 x4 (ix2 r l) = NORM (fun k => ZB x0 x1 x2 r k) (x3 (ix2 0 l)) (x4 (ix2 0 l)) l := by
  unfold out0_6 k0_pay4
  frame_out
  exact pay3_at x0 x1 x2 x3 x4 r l
theorem out7_at (x0 : Vec Ideal S512x2816 .bf16) (x1 : Vec Ideal S2816x1024 .bf16) (x2 : Vec Ideal S512x1024 .f32) (x3 x4 : Vec Ideal S1x1024 .f32) (r : Fin 512) (l : Fin 1024) :
    out0_7 x0 x1 x2 x3 x4 (ix2 r l) = NORM (fun k => ZB x0 x1 x2 r k) (x3 (ix2 0 l)) (x4 (ix2 0 l)) l := by
  unfold out0_7 k0_pay4
  frame_out
  exact pay3_at x0 x1 x2 x3 x4 r l

theorem zb (c : Dev nD) (t : Fin cfg0.N) (r : Fin 512) (l : Fin 1024) (h : t.val * 512 + r < 8192) :
    ZB (iblk m c 0 t) (iblk m c 1 t) (iblk m c 2 t) r l = REFZ (aIn m c) (wO m c) (xIn m c) (ix2 ⟨t.val * 512 + r, h⟩ l) := by
  rw [refz_at]
  exact congrArg₂ (· + ·) (congrArg₂ (· * ·) rfl (blk2 m c t r l h))
    (congrArg₂ (· * ·) rfl (Finset.sum_congr rfl fun k _ => congrArg₂ (· * ·) (blk0 m c t r k h) (blk1 m c t k l)))

theorem nb (c : Dev nD) (t : Fin cfg0.N) (r : Fin 512) (l : Fin 1024) (h : t.val * 512 + r < 8192) :
    NORM (fun k => ZB (iblk m c 0 t) (iblk m c 1 t) (iblk m c 2 t) r k) ((show FVec Ideal S1x1024 .f32 from iblk m c 3 t) (ix2 0 l)) ((show FVec Ideal S1x1024 .f32 from iblk m c 4 t) (ix2 0 l)) l
      = REFN (REFZ (aIn m c) (wO m c) (xIn m c)) (gIn m c) (bIn m c) (ix2 ⟨t.val * 512 + r, h⟩ l) := by
  rw [refn_at, blk3, blk4]
  simp only [zb m c t r _ h]

theorem fin5 (c : Dev nD) : (dats m 0 c).arrAt 5 (cfgs 0).N = REFZ (aIn m c) (wO m c) (xIn m c) := by
  refine (dats m 0 c).arrAt_eq_of_covers 5 _ (by decide +kernel) fun t _ y => ?_
  blk_simp
  rw [after0_5]
  obtain ⟨r, l, rfl⟩ : ∃ (r : Fin 512) (l : Fin 1024), y = ix2 r l := ⟨_, _, eq_ix2 y⟩
  have h : t.val * 512 + r < 8192 := by have := idx t; omega
  refine (out5_at _ _ _ _ _ r l).trans ((zb m c t r l h).trans ?_)
  blk_ext [idx t]

theorem fin6 (c : Dev nD) : (dats m 0 c).arrAt 6 (cfgs 0).N = REFN (REFZ (aIn m c) (wO m c) (xIn m c)) (gIn m c) (bIn m c) := by
  refine (dats m 0 c).arrAt_eq_of_covers 6 _ (by decide +kernel) fun t _ y => ?_
  blk_simp
  rw [after0_6]
  obtain ⟨r, l, rfl⟩ : ∃ (r : Fin 512) (l : Fin 1024), y = ix2 r l := ⟨_, _, eq_ix2 y⟩
  have h : t.val * 512 + r < 8192 := by have := idx t; omega
  refine (out6_at _ _ _ _ _ r l).trans ((nb m c t r l h).trans ?_)
  blk_ext [idx t]

theorem fin7 (c : Dev nD) : (dats m 0 c).arrAt 7 (cfgs 0).N = (truncf .bf16 (REFN (REFZ (aIn m c) (wO m c) (xIn m c)) (gIn m c) (bIn m c)) Cert.FfnLnRefIdeal.Gen.bitsLt_bf16_f32) := by
  refine (dats m 0 c).arrAt_eq_of_covers 7 _ (by decide +kernel) fun t _ y => ?_
  blk_simp
  rw [after0_7]
  obtain ⟨r, l, rfl⟩ : ∃ (r : Fin 512) (l : Fin 1024), y = ix2 r l := ⟨_, _, eq_ix2 y⟩
  have h : t.val * 512 + r < 8192 := by have := idx t; omega
  refine (out7_at _ _ _ _ _ r l).trans ((nb m c t r l h).trans ?_)
  blk_ext [idx t]

end Cert.FfnLnIdeal.Hand
-- ==== Proof.FfnLnClaim.lean ====
module
public import proofs.«01_k».proof.Defs
public import proofs.«01_k».proof.Proof.Gen.FfnLnIdeal
public import proofs.«01_k».proof.Proof.Gen.FfnLnRefIdeal
public import proofs.«01_k».proof.Proof.FfnLnFinal
public import Idealize.ShloMosaic.Lib.Claim

/-! The feed-forward layer's output with the residual and the layer norm: kernel and reference end with the same array. -/

@[expose] public section
noncomputable section
namespace Cert.Proof
open Idealize.ShloMosaic Idealize.SL.Sem

/-- The reference's frame: its run, and no semaphore is declared. -/
theorem fln_reference : Cert.quiescent_FfnLnRefIdeal := by
  intro m g _
  exact (θ_run Cert.FfnLnRefIdeal.defs _ _).mono
    (fun r h => ⟨fun c => (h c).2.2.2, sem_eq_zero_of_no_sems (by decide) r.2⟩)
    (Cert.FfnLnRefIdeal.Value.run m g)

/-- The kernel and the reference end with equal arrays. -/
theorem fln_algebraic : Cert.algebraic_FfnLnIdeal_FfnLnRefIdeal := by
  intro m g m' g' _ hagree
  refine ⟨fun c => (Cert.FfnLnIdeal.Gen.dats m 0 c).arrAt 5 Cert.FfnLnIdeal.cfg0.N,
    fun c => (Cert.FfnLnIdeal.Gen.dats m 0 c).arrAt 6 Cert.FfnLnIdeal.cfg0.N,
    fun c => (Cert.FfnLnIdeal.Gen.dats m 0 c).arrAt 7 Cert.FfnLnIdeal.cfg0.N,
    Cert.FfnLnIdeal.Value.run_blocks m g, ?_⟩
  refine (θ_run Cert.FfnLnRefIdeal.defs _ _).mono (fun r h c => ?_)
    (Cert.FfnLnRefIdeal.Value.run m' g')
  obtain ⟨e0, e1, e2, e3, e4⟩ := hagree c
  refine ⟨(h c).1.trans ?_, (h c).2.1.trans ?_, (h c).2.2.1.trans ?_, (h c).2.2.2⟩
  · refine Eq.trans ?_ (Cert.FfnLnIdeal.Hand.fin5 m c).symm
    rw [e0, e1, e2]
    rfl
  · refine Eq.trans ?_ (Cert.FfnLnIdeal.Hand.fin6 m c).symm
    unfold Cert.FfnLnRefIdeal.Value.res_main_v30
    rw [e0, e1, e2, e3, e4]
    rfl
  · refine Eq.trans ?_ (Cert.FfnLnIdeal.Hand.fin7 m c).symm
    unfold Cert.FfnLnRefIdeal.Value.res_main_v31
    rw [e0, e1, e2, e3, e4]
    rfl

end Cert.Proof
-- ==== Proof.ProjLnFinal.lean ====
module
public import proofs.«01_k».proof.Proof.Gen.ProjLnIdeal.Value
public import proofs.«01_k».proof.Proof.Gen.ProjLnRefIdeal.Run
public import Idealize.ShloMosaic.Lib.Pipeline.ValueKit
public import Idealize.ShloMosaic.Lib.Pointwise

/-! The output projection of the two halves with the residual and the layer norm, one block of rows at a time:
the kernel adds the halves' products, the reference multiplies the halves put side by side. -/

@[expose] public section
set_option maxRecDepth 16384
noncomputable section
namespace Cert.ProjLnIdeal.Hand
open Cert.ProjLnIdeal Cert.ProjLnIdeal.Gen Idealize.ShloMosaic Idealize.ShloMosaic.TcCoe Idealize.SL.Sem
open Idealize.ShloMosaic.Pipeline (Dat)
variable (m : (ℓ : Loc nD τ sig) → Buf (Elt Ideal) ℓ)

/-- The arguments, as device `c` holds them. -/
def rIn (c : Dev nD) : FVec Ideal S8192x512 .bf16 := m ((c : Thread nD τ).loc main_arg0)
def vIn (c : Dev nD) : FVec Ideal S8192x512 .bf16 := m ((c : Thread nD τ).loc main_arg1)
def wO (c : Dev nD) : FVec Ideal S1024x1024 .f32 := m ((c : Thread nD τ).loc main_arg2)
def xIn (c : Dev nD) : FVec Ideal S8192x1024 .f32 := m ((c : Thread nD τ).loc main_arg3)
def gIn (c : Dev nD) : FVec Ideal S1024 .f32 := m ((c : Thread nD τ).loc main_arg4)
def bIn (c : Dev nD) : FVec Ideal S1024 .f32 := m ((c : Thread nD τ).loc main_arg5)

/-- A row normalised, scaled and shifted: the layer norm's entry. -/
def MU (z : Fin 1024 → EReal) : EReal := Ideal.div (∑ k : Fin 1024, z k) (Ideal.ofBits FTy.f32 0x44800000#32)
def VAR (z : Fin 1024 → EReal) : EReal := Ideal.div (∑ k : Fin 1024, (z k - MU z) * (z k - MU z)) (Ideal.ofBits FTy.f32 0x44800000#32)
def NORM (z : Fin 1024 → EReal) (g b : EReal) (l : Fin 1024) : EReal :=
  (z l - MU z) * Ideal.rsqrt (VAR z + Ideal.ofBits FTy.f32 0x3727C5AC#32) * g + b

/-- The reference's residual sum. -/
def REFZ (A B : FVec Ideal S8192x512 .bf16) (W : FVec Ideal S1024x1024 .f32) (X : FVec Ideal S8192x1024 .f32) : FVec Ideal S8192x1024 .f32 :=
  addf (mulf (broadcastInDim Cert.ProjLnRefIdeal.S8192x1024 ![] Cert.ProjLnRefIdeal.Gen.bcast_S_S8192x1024 (constant Cert.ProjLnRefIdeal.S_ .f32 0x3F9837F0#32)) X)
    (Host.dotGeneral Cert.ProjLnRefIdeal.dot_S8192x1024_S1024x1024_S8192x1024_1_0_0_1_n_n none
      (extf .f32 (concatenate Cert.ProjLnRefIdeal.S8192x1024 1 [⟨Cert.ProjLnRefIdeal.S8192x512, A⟩, ⟨Cert.ProjLnRefIdeal.S8192x512, B⟩] Cert.ProjLnRefIdeal.Gen.concatenates_S8192x512_S8192x512_S8192x1024_d1) Cert.ProjLnRefIdeal.Gen.bitsLt_bf16_f32) W)

/-- A row of the two halves put side by side. -/
def SIDE (A B : FVec Ideal S8192x512 .bf16) (r : Fin 8192) (k : Fin 1024) : EReal :=
  if h : (k : ℕ) < 512 then A (ix2 r ⟨k, h⟩) else B (ix2 r ⟨k - 512, by omega⟩)

theorem refz_side (A B : FVec Ideal S8192x512 .bf16) (W : FVec Ideal S1024x1024 .f32) (X : FVec Ideal S8192x1024 .f32) (r : Fin 8192) (l : Fin 1024) :
    REFZ A B W X (ix2 r l) = Ideal.ofBits FTy.f32 0x3F9837F0#32 * X (ix2 r l) + ∑ k : Fin 1024, SIDE A B r k * W (ix2 k l) := by
  unfold SIDE
  pointwise [REFZ]

theorem refz_at (A B : FVec Ideal S8192x512 .bf16) (W : FVec Ideal S1024x1024 .f32) (X : FVec Ideal S8192x1024 .f32) (r : Fin 8192) (l : Fin 1024) :
    REFZ A B W X (ix2 r l) = Ideal.ofBits FTy.f32 0x3F9837F0#32 * X (ix2 r l)
      + ((∑ k : Fin 512, A (ix2 r k) * W (ix2 ⟨k, by omega⟩ l)) + ∑ k : Fin 512, B (ix2 r k) * W (ix2 ⟨512 + k, by omega⟩ l)) := by
  rw [refz_side]
  refine congrArg₂ (· + ·) rfl ((Fin.sum_univ_add (a := 512) (b := 512) (fun k : Fin (512 + 512) => SIDE A B r k * W (ix2 k l))).trans (congrArg₂ (· + ·) ?_ ?_))
  · exact Finset.sum_congr rfl fun k _ => congrArg₂ (· * ·) (dif_pos k.isLt) rfl
  · refine Finset.sum_congr rfl fun k _ => congrArg₂ (· * ·) ((dif_neg (by show ¬(512 + (k : ℕ) < 512); omega)).trans ?_) rfl
    exact congrArg B (congrArg (ix2 r) (Fin.ext (by show 512 + (k : ℕ) - 512 = k; omega)))

/-- The reference's layer norm over an array. -/
def CEN (Z : FVec Ideal S8192x1024 .f32) : FVec Ideal S8192x1024 .f32 :=
  subf Z (broadcastInDim Cert.ProjLnRefIdeal.S8192x1024 ![0, 1] Cert.ProjLnRefIdeal.Gen.bcast_S8192x1_S8192x1024_0_1
    (Host.divf (broadcastInDim Cert.ProjLnRefIdeal.S8192x1 ![0] Cert.ProjLnRefIdeal.Gen.bcast_S8192_S8192x1_0
      (Host.reduceAdd Z (constant Cert.ProjLnRefIdeal.S_ .f32 0x00000000#32) Cert.ProjLnRefIdeal.Gen.reducesTo_S8192x1024_S8192_d1 Cert.ProjLnRefIdeal.Gen.h_S_))
      (broadcastInDim Cert.ProjLnRefIdeal.S8192x1 ![] Cert.ProjLnRefIdeal.Gen.bcast_S_S8192x1 (constant Cert.ProjLnRefIdeal.S_ .f32 0x44800000#32))))
def RSQ (C : FVec Ideal S8192x1024 .f32) : FVec Ideal Cert.ProjLnRefIdeal.S8192x1 .f32 :=
  Host.rsqrt (addf (Host.divf (broadcastInDim Cert.ProjLnRefIdeal.S8192x1 ![0] Cert.ProjLnRefIdeal.Gen.bcast_S8192_S8192x1_0
      (Host.reduceAdd (mulf C C) (constant Cert.ProjLnRefIdeal.S_ .f32 0x00000000#32) Cert.ProjLnRefIdeal.Gen.reducesTo_S8192x1024_S8192_d1 Cert.ProjLnRefIdeal.Gen.h_S_))
      (broadcastInDim Cert.ProjLnRefIdeal.S8192x1 ![] Cert.ProjLnRefIdeal.Gen.bcast_S_S8192x1 (constant Cert.ProjLnRefIdeal.S_ .f32 0x44800000#32)))
    (broadcastInDim Cert.ProjLnRefIdeal.S8192x1 ![] Cert.ProjLnRefIdeal.Gen.bcast_S_S8192x1 (constant Cert.ProjLnRefIdeal.S_ .f32 0x3727C5AC#32)))
def REFN (Z : FVec Ideal S8192x1024 .f32) (g b : FVec Ideal Cert.ProjLnRefIdeal.S1024 .f32) : FVec Ideal S8192x1024 .f32 :=
  addf (mulf (mulf (CEN Z) (broadcastInDim Cert.ProjLnRefIdeal.S8192x1024 ![0, 1] Cert.ProjLnRefIdeal.Gen.bcast_S8192x1_S8192x1024_0_1 (RSQ (CEN Z))))
    (broadcastInDim Cert.ProjLnRefIdeal.S8192x1024 ![0, 1] Cert.ProjLnRefIdeal.Gen.bcast_S1x1024_S8192x1024_0_1 (broadcastInDim Cert.ProjLnRefIdeal.S1x1024 ![1] Cert.ProjLnRefIdeal.Gen.bcast_S1024_S1x1024_1 g)))
    (broadcastInDim Cert.ProjLnRefIdeal.S8192x1024 ![0, 1] Cert.ProjLnRefIdeal.Gen.bcast_S1x1024_S8192x1024_0_1 (broadcastInDim Cert.ProjLnRefIdeal.S1x1024 ![1] Cert.ProjLnRefIdeal.Gen.bcast_S1024_S1x1024_1 b))

theorem cen_at (Z : FVec Ideal S8192x1024 .f32) (r : Fin 8192) (l : Fin 1024) :
    CEN Z (ix2 r l) = Z (ix2 r l) - MU fun k => Z (ix2 r k) := by
  unfold MU
  pointwise [CEN]

theorem rsq_at (C : FVec Ideal S8192x1024 .f32) (r : Fin 8192) :
    RSQ C (ix2 r 0) = Ideal.rsqrt (Ideal.div (∑ k : Fin 1024, C (ix2 r k) * C (ix2 r k)) (Ideal.ofBits FTy.f32 0x44800000#32) + Ideal.ofBits FTy.f32 0x3727C5AC#32) := by
  pointwise [RSQ]

theorem refn_at (Z : FVec Ideal S8192x1024 .f32) (g b : FVec Ideal Cert.ProjLnRefIdeal.S1024 .f32) (r : Fin 8192) (l : Fin 1024) :
    REFN Z g b (ix2 r l) = NORM (fun k => Z (ix2 r k)) (g (ix1 l)) (b (ix1 l)) l := by
  unfold NORM VAR
  simp only [← cen_at]
  rw [← rsq_at]
  pointwise [REFN]

theorem idx : ∀ t : Fin cfg0.N, win0_0.index t = ![t.val, 0] ∧ win0_1.index t = ![t.val, 0] ∧ win0_2.index t = ![0, 0] ∧ win0_3.index t = ![t.val, 0] ∧ win0_4.index t = ![0, 0] ∧ win0_5.index t = ![0, 0]
    ∧ win0_6.index t = ![t.val, 0] ∧ win0_7.index t = ![t.val, 0] ∧ win0_8.index t = ![t.val, 0] ∧ t.val < 16 :=
  (by decide +kernel : ∀ t : Fin grid0.N, _)

theorem weight (c : Dev nD) (k l : Fin 1024) :
    (show FVec Ideal S1024x1024 .bf16 from V m c (Pipeline.arrRef spec0 2)) (ix2 k l) = wO m c (ix2 k l) := by
  entry_read
  rfl
theorem gain (c : Dev nD) (l : Fin 1024) :
    (show FVec Ideal S1x1024 .f32 from V m c (Pipeline.arrRef spec0 4)) (ix2 0 l) = gIn m c (ix1 l) := by
  entry_read
  pointwise
  rfl
theorem shift (c : Dev nD) (l : Fin 1024) :
    (show FVec Ideal S1x1024 .f32 from V m c (Pipeline.arrRef spec0 5)) (ix2 0 l) = bIn m c (ix1 l) := by
  entry_read
  pointwise
  rfl

theorem blk0 (c : Dev nD) (t : Fin cfg0.N) (r : Fin 512) (k : Fin 512) (h : t.val * 512 + r < 8192) :
    (show FVec Ideal S512x512 .bf16 from iblk m c 0 t) (ix2 r k) = rIn m c (ix2 ⟨t.val * 512 + r, h⟩ k) := by
  show iblk m c 0 t (ix2 r k) = m ((c : Thread nD τ).loc main_arg0) _
  blk_ext [iblk, V, idx t]
theorem blk1 (c : Dev nD) (t : Fin cfg0.N) (r : Fin 512) (k : Fin 512) (h : t.val * 512 + r < 8192) :
    (show FVec Ideal S512x512 .bf16 from iblk m c 1 t) (ix2 r k) = vIn m c (ix2 ⟨t.val * 512 + r, h⟩ k) := by
  show iblk m c 1 t (ix2 r k) = m ((c : Thread nD τ).loc main_arg1) _
  blk_ext [iblk, V, idx t]
theorem blk2 (c : Dev nD) (t : Fin cfg0.N) (k l : Fin 1024) :
    (show FVec Ideal S1024x1024 .bf16 from iblk m c 2 t) (ix2 k l) = wO m c (ix2 k l) := by
  refine Eq.trans ?_ (weight m c k l)
  show iblk m c 2 t (ix2 k l) = V m c (Pipeline.arrRef spec0 2) (ix2 k l)
  blk_ext [iblk, idx t]
theorem blk3 (c : Dev nD) (t : Fin cfg0.N) (r : Fin 512) (k : Fin 1024) (h : t.val * 512 + r < 8192) :
    (show FVec Ideal S512x1024 .f32 from iblk m c 3 t) (ix2 r k) = xIn m c (ix2 ⟨t.val * 512 + r, h⟩ k) := by
  show iblk m c 3 t (ix2 r k) = m ((c : Thread nD τ).loc main_arg3) _
  blk_ext [iblk, V, idx t]
theorem blk4 (c : Dev nD) (t : Fin cfg0.N) (l : Fin 1024) :
    (show FVec Ideal S1x1024 .f32 from iblk m c 4 t) (ix2 0 l) = gIn m c (ix1 l) := by
  refine Eq.trans ?_ (gain m c l)
  show iblk m c 4 t (ix2 0 l) = V m c (Pipeline.arrRef spec0 4) (ix2 0 l)
  blk_ext [iblk, idx t]
theorem blk5 (c : Dev nD) (t : Fin cfg0.N) (l : Fin 1024) :
    (show FVec Ideal S1x1024 .f32 from iblk m c 5 t) (ix2 0 l) = bIn m c (ix1 l) := by
  refine Eq.trans ?_ (shift m c l)
  show iblk m c 5 t (ix2 0 l) = V m c (Pipeline.arrRef spec0 5) (ix2 0 l)
  blk_ext [iblk, idx t]

/-- The residual sum's entry over one block. -/
def ZB (x0 x1 : FVec Ideal S512x512 .bf16) (x2 : FVec Ideal S1024x1024 .bf16) (x3 : FVec Ideal S512x1024 .f32) (r : Fin 512) (l : Fin 1024) : EReal :=
  Ideal.ofBits FTy.f32 0x3F9837F0#32 * x3 (ix2 r l)
    + ((∑ k : Fin 512, x0 (ix2 r k) * x2 (ix2 ⟨k, by omega⟩ l)) + ∑ k : Fin 512, x1 (ix2 r k) * x2 (ix2 ⟨512 + k, by omega⟩ l))

theorem ld4 (X : Vec Ideal S1x1024 .f32) (k : Fin 1024) : View.ld X r0_4 (ix2 0 k) = X (ix2 0 k) := by
  rw [View.ld_unit]; pointwise

/-- The residual sum as the body computes it. -/
def ZV (x0 x1 : Vec Ideal S512x512 .bf16) (x2 : Vec Ideal S1024x1024 .bf16) (x3 : Vec Ideal S512x1024 .f32) : FVec Ideal S512x1024 .f32 :=
  k0_pay3 (View.ld x0 r0_0) (View.ld x2 r0_1) (View.ld x1 r0_0) (View.ld x2 r0_2) (View.ld x3 r0_3)

theorem zv_at (x0 x1 : Vec Ideal S512x512 .bf16) (x2 : Vec Ideal S1024x1024 .bf16) (x3 : Vec Ideal S512x1024 .f32) (r : Fin 512) (l : Fin 1024) :
    ZV x0 x1 x2 x3 (ix2 r l) = ZB x0 x1 x2 x3 r l := by
  unfold ZB
  pointwise [ZV, k0_pay3]

theorem norm_at (x0 x1 : Vec Ideal S512x512 .bf16) (x2 : Vec Ideal S1024x1024 .bf16) (x3 : Vec Ideal S512x1024 .f32) (r : Fin 512) (l : Fin 1024) :
    k0_pay8 x0 x1 x2 x3 (fun _ => 0) (fun _ => 0) (ix2 r l) = NORM (fun k => ZB x0 x1 x2 x3 r k) 1 0 l := by
  unfold NORM VAR MU k0_pay8
  simp only [← zv_at]
  rw [mul_one, add_zero]
  unfold ZV
  pointwise [k0_pay5]

theorem pay1_at (x0 x1 : Vec Ideal S512x512 .bf16) (x2 : Vec Ideal S1024x1024 .bf16) (x3 : Vec Ideal S512x1024 .f32) (x4 x5 : Vec Ideal S1x1024 .f32) (r : Fin 512) (l : Fin 1024) :
    k0_pay1 (k0_pay7 x0 x1 x2 x3 x4 x5) (k0_pay8 x0 x1 x2 x3 x4 x5) (k0_pay9 x0 x1 x2 x3 x4 x5) (ix2 r l)
      = NORM (fun k => ZB x0 x1 x2 x3 r k) (x4 (ix2 0 l)) (x5 (ix2 0 l)) l := by
  have e : k0_pay8 x0 x1 x2 x3 x4 x5 (ix2 r l) = NORM (fun k => ZB x0 x1 x2 x3 r k) 1 0 l := norm_at x0 x1 x2 x3 r l
  unfold NORM at e ⊢
  rw [mul_one, add_zero] at e
  rw [← e, ← ld4 x4, ← ld4 x5]
  pointwise [k0_pay1, k0_pay7, k0_pay4, k0_pay9, k0_pay6]

theorem out6_at (x0 x1 : Vec Ideal S512x512 .bf16) (x2 : Vec Ideal S1024x1024 .bf16) (x3 : Vec Ideal S512x1024 .f32) (x4 x5 : Vec Ideal S1x1024 .f32) (r : Fin 512) (l : Fin 1024) :
    out0_6 x0 x1 x2 x3 x4 x5 (ix2 r l) = ZB x0 x1 x2 x3 r l := by
  unfold out0_6
  refine (congrFun (View.canon_cons_unit_lit _ _ _ (fun a => by fin_cases a <;> rfl)) _).trans ?_
  exact zv_at x0 x1 x2 x3 r l
theorem out7_at (x0 x1 : Vec Ideal S512x512 .bf16) (x2 : Vec Ideal S1024x1024 .bf16) (x3 : Vec Ideal S512x1024 .f32) (x4 x5 : Vec Ideal S1x1024 .f32) (r : Fin 512) (l : Fin 1024) :
    out0_7 x0 x1 x2 x3 x4 x5 (ix2 r l) = NORM (fun k => ZB x0 x1 x2 x3 r k) (x4 (ix2 0 l)) (x5 (ix2 0 l)) l := by
  unfold out0_7
  refine (congrFun (View.canon_cons_unit_lit _ _ _ (fun a => by fin_cases a <;> rfl)) _).trans ?_
  exact pay1_at x0 x1 x2 x3 x4 x5 r l
theorem out8_at (x0 x1 : Vec Ideal S512x512 .bf16) (x2 : Vec Ideal S1024x1024 .bf16) (x3 : Vec Ideal S512x1024 .f32) (x4 x5 : Vec Ideal S1x1024 .f32) (r : Fin 512) (l : Fin 1024) :
    out0_8 x0 x1 x2 x3 x4 x5 (ix2 r l) = NORM (fun k => ZB x0 x1 x2 x3 r k) (x4 (ix2 0 l)) (x5 (ix2 0 l)) l := by
  unfold out0_8
  refine (congrFun (View.canon_cons_unit_lit _ _ _ (fun a => by fin_cases a <;> rfl)) _).trans ?_
  exact pay1_at x0 x1 x2 x3 x4 x5 r l

theorem zb (c : Dev nD) (t : Fin cfg0.N) (r : Fin 512) (l : Fin 1024) (h : t.val * 512 + r < 8192) :
    ZB (iblk m c 0 t) (iblk m c 1 t) (iblk m c 2 t) (iblk m c 3 t) r l = REFZ (rIn m c) (vIn m c) (wO m c) (xIn m c) (ix2 ⟨t.val * 512 + r, h⟩ l) := by
  rw [refz_at]
  exact congrArg₂ (· + ·) (congrArg₂ (· * ·) rfl (blk3 m c t r l h))
    (congrArg₂ (· + ·) (Finset.sum_congr rfl fun k _ => congrArg₂ (· * ·) (blk0 m c t r k h) (blk2 m c t _ l))
      (Finset.sum_congr rfl fun k _ => congrArg₂ (· * ·) (blk1 m c t r k h) (blk2 m c t _ l)))

theorem nb (c : Dev nD) (t : Fin cfg0.N) (r : Fin 512) (l : Fin 1024) (h : t.val * 512 + r < 8192) :
    NORM (fun k => ZB (iblk m c 0 t) (iblk m c 1 t) (iblk m c 2 t) (iblk m c 3 t) r k) ((show FVec Ideal S1x1024 .f32 from iblk m c 4 t) (ix2 0 l)) ((show FVec Ideal S1x1024 .f32 from iblk m c 5 t) (ix2 0 l)) l
      = REFN (REFZ (rIn m c) (vIn m c) (wO m c) (xIn m c)) (gIn m c) (bIn m c) (ix2 ⟨t.val * 512 + r, h⟩ l) := by
  rw [refn_at, blk4, blk5]
  simp only [zb m c t r _ h]

theorem fin6 (c : Dev nD) : (dats m 0 c).arrAt 6 (cfgs 0).N = REFZ (rIn m c) (vIn m c) (wO m c) (xIn m c) := by
  refine (dats m 0 c).arrAt_eq_of_covers 6 _ (by decide +kernel) fun t _ y => ?_
  blk_simp
  rw [after0_6]
  obtain ⟨r, l, rfl⟩ : ∃ (r : Fin 512) (l : Fin 1024), y = ix2 r l := ⟨_, _, eq_ix2 y⟩
  have h : t.val * 512 + r < 8192 := by have := idx t; omega
  refine (out6_at _ _ _ _ _ _ r l).trans ((zb m c t r l h).trans ?_)
  blk_ext [idx t]

theorem fin7 (c : Dev nD) : (dats m 0 c).arrAt 7 (cfgs 0).N = REFN (REFZ (rIn m c) (vIn m c) (wO m c) (xIn m c)) (gIn m c) (bIn m c) := by
  refine (dats m 0 c).arrAt_eq_of_covers 7 _ (by decide +kernel) fun t _ y => ?_
  blk_simp
  rw [after0_7]
  obtain ⟨r, l, rfl⟩ : ∃ (r : Fin 512) (l : Fin 1024), y = ix2 r l := ⟨_, _, eq_ix2 y⟩
  have h : t.val * 512 + r < 8192 := by have := idx t; omega
  refine (out7_at _ _ _ _ _ _ r l).trans ((nb m c t r l h).trans ?_)
  blk_ext [idx t]

theorem fin8 (c : Dev nD) : (dats m 0 c).arrAt 8 (cfgs 0).N = (truncf .bf16 (REFN (REFZ (rIn m c) (vIn m c) (wO m c) (xIn m c)) (gIn m c) (bIn m c)) Cert.ProjLnRefIdeal.Gen.bitsLt_bf16_f32) := by
  refine (dats m 0 c).arrAt_eq_of_covers 8 _ (by decide +kernel) fun t _ y => ?_
  blk_simp
  rw [after0_8]
  obtain ⟨r, l, rfl⟩ : ∃ (r : Fin 512) (l : Fin 1024), y = ix2 r l := ⟨_, _, eq_ix2 y⟩
  have h : t.val * 512 + r < 8192 := by have := idx t; omega
  refine (out8_at _ _ _ _ _ _ r l).trans ((nb m c t r l h).trans ?_)
  blk_ext [idx t]

end Cert.ProjLnIdeal.Hand
-- ==== Proof.ProjLnClaim.lean ====
module
public import proofs.«01_k».proof.Defs
public import proofs.«01_k».proof.Proof.Gen.ProjLnIdeal
public import proofs.«01_k».proof.Proof.Gen.ProjLnRefIdeal
public import proofs.«01_k».proof.Proof.ProjLnFinal
public import Idealize.ShloMosaic.Lib.Claim

/-! The output projection with the residual and the layer norm: kernel and reference end with the same array. -/

@[expose] public section
noncomputable section
namespace Cert.Proof
open Idealize.ShloMosaic Idealize.SL.Sem

/-- The reference's frame: its run, and no semaphore is declared. -/
theorem pln_reference : Cert.quiescent_ProjLnRefIdeal := by
  intro m g _
  exact (θ_run Cert.ProjLnRefIdeal.defs _ _).mono
    (fun r h => ⟨fun c => (h c).2.2.2, sem_eq_zero_of_no_sems (by decide) r.2⟩)
    (Cert.ProjLnRefIdeal.Value.run m g)

/-- The kernel and the reference end with equal arrays. -/
theorem pln_algebraic : Cert.algebraic_ProjLnIdeal_ProjLnRefIdeal := by
  intro m g m' g' _ hagree
  refine ⟨fun c => (Cert.ProjLnIdeal.Gen.dats m 0 c).arrAt 6 Cert.ProjLnIdeal.cfg0.N,
    fun c => (Cert.ProjLnIdeal.Gen.dats m 0 c).arrAt 7 Cert.ProjLnIdeal.cfg0.N,
    fun c => (Cert.ProjLnIdeal.Gen.dats m 0 c).arrAt 8 Cert.ProjLnIdeal.cfg0.N,
    Cert.ProjLnIdeal.Value.run_blocks m g, ?_⟩
  refine (θ_run Cert.ProjLnRefIdeal.defs _ _).mono (fun r h c => ?_)
    (Cert.ProjLnRefIdeal.Value.run m' g')
  obtain ⟨e0, e1, e2, e3, e4, e5⟩ := hagree c
  refine ⟨(h c).1.trans ?_, (h c).2.1.trans ?_, (h c).2.2.1.trans ?_, (h c).2.2.2⟩
  · refine Eq.trans ?_ (Cert.ProjLnIdeal.Hand.fin6 m c).symm
    rw [e0, e1, e2, e3]
    rfl
  · refine Eq.trans ?_ (Cert.ProjLnIdeal.Hand.fin7 m c).symm
    unfold Cert.ProjLnRefIdeal.Value.res_main_v29
    rw [e0, e1, e2, e3, e4, e5]
    rfl
  · refine Eq.trans ?_ (Cert.ProjLnIdeal.Hand.fin8 m c).symm
    unfold Cert.ProjLnRefIdeal.Value.res_main_v30
    rw [e0, e1, e2, e3, e4, e5]
    rfl

end Cert.Proof
-- ==== Proof.LnBack.lean ====
module
public import proofs.«01_k».proof.Proof.RealLaws

/-! The layer norm's gradient along one row: the two ways of writing it agree where the gradient that reaches the normalised row is finite. -/

@[expose] public section
noncomputable section
namespace Cert.LnBack
open Idealize.ShloMosaic

variable {n : ℕ}

/-- Neither infinity. -/
def Fi (x : EReal) : Prop := x ≠ ⊤ ∧ x ≠ ⊥

theorem fi_mul {a b : EReal} (ha : Fi a) (hb : Fi b) : Fi (a * b) := by
  lift a to ℝ using ha
  lift b to ℝ using hb
  exact ⟨EReal.coe_ne_top _, EReal.coe_ne_bot _⟩
theorem fi_add {a b : EReal} (ha : Fi a) (hb : Fi b) : Fi (a + b) := by
  lift a to ℝ using ha
  lift b to ℝ using hb
  exact ⟨EReal.coe_ne_top (a + b), EReal.coe_ne_bot (a + b)⟩
theorem fi_sub {a b : EReal} (ha : Fi a) (hb : Fi b) : Fi (a - b) := by
  lift a to ℝ using ha
  lift b to ℝ using hb
  exact ⟨EReal.coe_ne_top (a - b), EReal.coe_ne_bot (a - b)⟩
theorem fi_sum {ι : Type} (s : Finset ι) (f : ι → EReal) (h : ∀ i, Fi (f i)) : Fi (∑ i ∈ s, f i) := by
  classical
  induction s using Finset.induction_on with
  | empty => exact ⟨EReal.coe_ne_top 0, EReal.coe_ne_bot 0⟩
  | insert i s hi ih =>
    rw [Finset.sum_insert hi]
    exact fi_add (h i) ih

/-- The row's length, the small number under the root, minus one half, two. -/
def LEN : EReal := Ideal.ofBits FTy.f32 0x44800000#32
def EPS : EReal := Ideal.ofBits FTy.f32 0x3727C5AC#32
def MHALF : EReal := Ideal.ofBits FTy.f32 0xBF000000#32
def TWO : EReal := Ideal.ofBits FTy.f32 0x40000000#32

theorem len_eq : LEN = ((1024 : ℝ) : EReal) := by
  simp [LEN, Ideal.ofBits, Ideal.ieee, -EReal.coe_mul]; norm_num
theorem two_eq : TWO = ((2 : ℝ) : EReal) := by
  simp [TWO, Ideal.ofBits, Ideal.ieee, -EReal.coe_mul]; norm_num
theorem eps_pos : ∃ e : ℝ, 0 < e ∧ EPS = (e : EReal) := by
  refine ⟨10995116 * 2 ^ (-40 : ℤ), by positivity, ?_⟩
  simp [EPS, Ideal.ofBits, Ideal.ieee, -EReal.coe_mul]

theorem div_len (x : EReal) : Ideal.div x LEN = x * ((1 / 1024 : ℝ) : EReal) := by
  rw [len_eq, Ideal.div_coe (by norm_num)]

/-- A row's mean, the row less its mean, the mean square plus the small number, and one over its root. -/
def MU (z : Fin n → EReal) : EReal := Ideal.div (∑ k : Fin n, z k) LEN
def CE (z : Fin n → EReal) (k : Fin n) : EReal := z k - MU z
def SQ (z : Fin n → EReal) : EReal := Ideal.div (∑ k : Fin n, CE z k * CE z k) LEN + EPS
def RH (z : Fin n → EReal) : EReal := Ideal.rsqrt (SQ z)

theorem sq_nonneg (x : EReal) : 0 ≤ x * x := by
  induction x using EReal.rec with
  | bot => simp
  | top => simp
  | coe x => exact_mod_cast mul_self_nonneg x

theorem sq_pos (z : Fin n → EReal) : 0 < SQ z := by
  unfold SQ
  rw [div_len]
  obtain ⟨e, he, hE⟩ := eps_pos
  rw [hE]
  have h : 0 ≤ (∑ k : Fin n, CE z k * CE z k) * ((1 / 1024 : ℝ) : EReal) :=
    mul_nonneg (Finset.sum_nonneg fun k _ => sq_nonneg _) (by exact_mod_cast (by norm_num : (0 : ℝ) ≤ 1 / 1024))
  exact lt_of_lt_of_le (by exact_mod_cast he : (0 : EReal) < (e : EReal)) (le_add_of_nonneg_left h)

/-- One over the root is always finite: what stands under it is positive. -/
theorem rh_fi (z : Fin n → EReal) : Fi (RH z) := by
  unfold RH
  have h := sq_pos z
  generalize SQ z = s at h
  induction s using EReal.rec with
  | bot => exact absurd h (by simp)
  | top => rw [Ideal.rsqrt_top]; exact ⟨EReal.coe_ne_top 0, EReal.coe_ne_bot 0⟩
  | coe s =>
    have hs : 0 < s := by exact_mod_cast h
    rw [Ideal.rsqrt_coe, if_neg (not_lt.mpr hs.le), if_neg hs.ne']
    exact ⟨EReal.coe_ne_top _, EReal.coe_ne_bot _⟩

/-- An entry of the normalised row is always finite: beside an infinite entry the root is infinite, and one over it zero. -/
theorem xhat_fi (z : Fin n → EReal) (k : Fin n) : Fi (CE z k * RH z) := by
  by_cases h : Fi (CE z k)
  · exact fi_mul h (rh_fi z)
  have hk : CE z k * CE z k = ⊤ := by
    unfold Fi at h
    generalize CE z k = x at h
    induction x using EReal.rec with
    | bot => simp
    | top => simp
    | coe x => exact absurd ⟨EReal.coe_ne_top x, EReal.coe_ne_bot x⟩ h
  have hs : ∑ i : Fin n, CE z i * CE z i = ⊤ :=
    top_le_iff.mp (hk ▸ Finset.single_le_sum (f := fun i => CE z i * CE z i) (fun i _ => sq_nonneg _) (Finset.mem_univ k))
  have hr : RH z = 0 := by
    obtain ⟨e, he, hE⟩ := eps_pos
    unfold RH SQ
    rw [hs, div_len, hE, EReal.top_mul_coe_of_pos (by norm_num), EReal.top_add_coe, Ideal.rsqrt_top]
  rw [hr, mul_zero]
  exact ⟨EReal.coe_ne_top 0, EReal.coe_ne_bot 0⟩

/-- The factor the mean square's gradient carries. -/
def QQ (z dn : Fin n → EReal) : EReal := Ideal.div ((∑ k : Fin n, CE z k * dn k) * (MHALF * Ideal.div (RH z) (SQ z))) LEN
/-- The gradient of a row, its mean square's gradient written as a product's, and as a square's. -/
def CK (z dn : Fin n → EReal) (k : Fin n) : EReal := dn k * RH z + CE z k * QQ z dn + QQ z dn * CE z k
def KDX (z dn : Fin n → EReal) (l : Fin n) : EReal := CK z dn l + Ideal.div (∑ k : Fin n, (0 - CK z dn k)) LEN
def RDX (z dn : Fin n → EReal) (l : Fin n) : EReal :=
  dn l * RH z + QQ z dn * (TWO * CE z l)
    + Ideal.div (∑ k : Fin n, -(dn k * RH z) + ∑ k : Fin n, -(QQ z dn * (TWO * CE z k))) LEN

theorem twice (q x : EReal) : x * q + q * x = q * (TWO * x) := by
  have h : (TWO : EReal) = 1 + 1 := by
    rw [two_eq]
    rw [show (2 : ℝ) = 1 + 1 by norm_num, EReal.coe_add, EReal.coe_one]
  rw [mul_comm x q, mul_left_comm, h, EReal.right_distrib_of_nonneg (by simp) (by simp), one_mul]

theorem ck_eq (z dn : Fin n → EReal) (k : Fin n) : CK z dn k = dn k * RH z + QQ z dn * (TWO * CE z k) := by
  unfold CK
  rw [add_assoc, twice]

theorem kdx_eq (z dn : Fin n → EReal) (h : ∀ k, Fi (dn k)) (l : Fin n) : KDX z dn l = RDX z dn l := by
  unfold KDX RDX
  rw [← Finset.sum_add_distrib, ck_eq]
  refine congrArg (fun s => _ + Ideal.div s LEN) (Finset.sum_congr rfl fun k _ => ?_)
  have ha := fi_mul (h k) (rh_fi z)
  rw [zero_sub, ck_eq, EReal.neg_add (Or.inl ha.2) (Or.inl ha.1), sub_eq_add_neg]

end Cert.LnBack
-- ==== Proof.LnBackRef.lean ====
module
public import proofs.«01_k».proof.Proof.LnBack
public import proofs.«01_k».proof.Proof.Gen.FfnDxLnRefIdeal.Run
public import Idealize.ShloMosaic.Lib.Pipeline.ValueKit
public import Idealize.ShloMosaic.Lib.Pointwise

/-! The layer norm's gradient as the references write it over whole arrays, and each of its entries. -/

@[expose] public section
set_option maxRecDepth 16384
noncomputable section
namespace Cert.LnBack
open Cert.FfnDxLnRefIdeal Cert.FfnDxLnRefIdeal.Gen Idealize.ShloMosaic

/-- The rows less their means. -/
def CEN (Z : FVec Ideal S8192x1024 .f32) : FVec Ideal S8192x1024 .f32 :=
  subf Z (broadcastInDim S8192x1024 ![0, 1] bcast_S8192x1_S8192x1024_0_1 (Host.divf (broadcastInDim S8192x1 ![0] bcast_S8192_S8192x1_0
    (Host.reduceAdd Z (constant S_ .f32 0x00000000#32) reducesTo_S8192x1024_S8192_d1 h_S_)) (broadcastInDim S8192x1 ![] bcast_S_S8192x1 (constant S_ .f32 0x44800000#32))))
/-- The rows' mean squares with the small number added. -/
def SQA (C : FVec Ideal S8192x1024 .f32) : FVec Ideal S8192x1 .f32 :=
  addf (Host.divf (broadcastInDim S8192x1 ![0] bcast_S8192_S8192x1_0
    (Host.reduceAdd (mulf C C) (constant S_ .f32 0x00000000#32) reducesTo_S8192x1024_S8192_d1 h_S_)) (broadcastInDim S8192x1 ![] bcast_S_S8192x1 (constant S_ .f32 0x44800000#32)))
    (broadcastInDim S8192x1 ![] bcast_S_S8192x1 (constant S_ .f32 0x3727C5AC#32))
def RHA (C : FVec Ideal S8192x1024 .f32) : FVec Ideal S8192x1 .f32 := Host.rsqrt (SQA C)
/-- The gradient that reaches the normalised rows. -/
def DNA (T : FVec Ideal S8192x1024 .f32) (g : FVec Ideal S1024 .f32) : FVec Ideal S8192x1024 .f32 :=
  mulf T (broadcastInDim S8192x1024 ![0, 1] bcast_S1x1024_S8192x1024_0_1 (broadcastInDim S1x1024 ![1] bcast_S1024_S1x1024_1 g))
/-- The rows' factors of the mean square's gradient. -/
def QA (C N : FVec Ideal S8192x1024 .f32) : FVec Ideal S8192 .f32 :=
  Host.reduceAdd (Host.divf (mulf (shapeCast S8192x1 (Host.reduceAdd (mulf C N) (constant S_ .f32 0x00000000#32) reducesTo_S8192x1024_S8192_d1 h_S_) shapeCasts_S8192_S8192x1)
    (mulf (broadcastInDim S8192x1 ![] bcast_S_S8192x1 (constant S_ .f32 0xBF000000#32)) (Host.divf (RHA C) (SQA C))))
    (broadcastInDim S8192x1 ![] bcast_S_S8192x1 (constant S_ .f32 0x44800000#32))) (constant S_ .f32 0x00000000#32) reducesTo_S8192x1_S8192_d1 h_S_
/-- The two parts of the gradient of the rows less their means. -/
def PA (C N : FVec Ideal S8192x1024 .f32) : FVec Ideal S8192x1024 .f32 :=
  mulf N (broadcastInDim S8192x1024 ![0, 1] bcast_S8192x1_S8192x1024_0_1 (RHA C))
def PB (C N : FVec Ideal S8192x1024 .f32) : FVec Ideal S8192x1024 .f32 :=
  mulf (broadcastInDim S8192x1024 ![0] bcast_S8192_S8192x1024_0 (QA C N)) (mulf (broadcastInDim S8192x1024 ![] bcast_S_S8192x1024 (constant S_ .f32 0x40000000#32)) C)
/-- The gradient of the rows, from those two parts. -/
def SUMUP (A B : FVec Ideal S8192x1024 .f32) : FVec Ideal S8192x1024 .f32 :=
  addf (addf A B) (broadcastInDim S8192x1024 ![0] bcast_S8192_S8192x1024_0
    (Host.reduceAdd (Host.divf (addf (shapeCast S8192x1 (Host.reduceAdd (Host.negf A) (constant S_ .f32 0x00000000#32) reducesTo_S8192x1024_S8192_d1 h_S_) shapeCasts_S8192_S8192x1)
      (shapeCast S8192x1 (Host.reduceAdd (Host.negf B) (constant S_ .f32 0x00000000#32) reducesTo_S8192x1024_S8192_d1 h_S_) shapeCasts_S8192_S8192x1))
      (broadcastInDim S8192x1 ![] bcast_S_S8192x1 (constant S_ .f32 0x44800000#32))) (constant S_ .f32 0x00000000#32) reducesTo_S8192x1_S8192_d1 h_S_))
/-- The references' three results: the gradients of the rows, of the gain and of the shift. -/
def DXA (T Z : FVec Ideal S8192x1024 .f32) (g : FVec Ideal S1024 .f32) : FVec Ideal S8192x1024 .f32 :=
  SUMUP (PA (CEN Z) (DNA T g)) (PB (CEN Z) (DNA T g))
def COLS (X : FVec Ideal S8192x1024 .f32) : FVec Ideal S1x1024 .f32 :=
  broadcastInDim S1x1024 ![1] bcast_S1024_S1x1024_1 (Host.reduceAdd (shapeCast S1x1024 (Host.reduceAdd X
    (constant S_ .f32 0x00000000#32) reducesTo_S8192x1024_S1024_d0 h_S_) shapeCasts_S1024_S1x1024) (constant S_ .f32 0x00000000#32) reducesTo_S1x1024_S1024_d0 h_S_)
def DGA (T Z : FVec Ideal S8192x1024 .f32) : FVec Ideal S1x1024 .f32 :=
  COLS (mulf (mulf (CEN Z) (broadcastInDim S8192x1024 ![0, 1] bcast_S8192x1_S8192x1024_0_1 (RHA (CEN Z)))) T)

/-- A row of an array. -/
abbrev row (Z : FVec Ideal S8192x1024 .f32) (r : Fin 8192) (k : Fin 1024) : EReal := Z (ix2 r k)

theorem cen_at (Z : FVec Ideal S8192x1024 .f32) (r : Fin 8192) (l : Fin 1024) : CEN Z (ix2 r l) = CE (row Z r) l := by
  unfold CE MU LEN
  pointwise [CEN]
theorem sqa_at (Z : FVec Ideal S8192x1024 .f32) (r : Fin 8192) : SQA (CEN Z) (ix2 r 0) = SQ (row Z r) := by
  unfold SQ
  simp only [← cen_at]
  unfold LEN EPS
  pointwise [SQA]
theorem rha_at (Z : FVec Ideal S8192x1024 .f32) (r : Fin 8192) : RHA (CEN Z) (ix2 r 0) = RH (row Z r) := by
  unfold RH
  rw [← sqa_at]
  pointwise [RHA]
theorem dna_at (T : FVec Ideal S8192x1024 .f32) (g : FVec Ideal S1024 .f32) (r : Fin 8192) (l : Fin 1024) : DNA T g (ix2 r l) = T (ix2 r l) * g (ix1 l) := by
  pointwise [DNA]
theorem qa_at (Z N : FVec Ideal S8192x1024 .f32) (r : Fin 8192) : QA (CEN Z) N (ix1 r) = QQ (row Z r) (row N r) := by
  unfold QQ
  simp only [← cen_at]
  rw [← rha_at, ← sqa_at]
  unfold LEN MHALF
  pointwise [QA]
  exact Fin.sum_univ_one _
theorem pa_at (Z N : FVec Ideal S8192x1024 .f32) (r : Fin 8192) (l : Fin 1024) : PA (CEN Z) N (ix2 r l) = N (ix2 r l) * RH (row Z r) := by
  rw [← rha_at]
  pointwise [PA]
theorem pb_at (Z N : FVec Ideal S8192x1024 .f32) (r : Fin 8192) (l : Fin 1024) : PB (CEN Z) N (ix2 r l) = QQ (row Z r) (row N r) * (TWO * CE (row Z r) l) := by
  rw [← qa_at, ← cen_at]
  unfold TWO
  pointwise [PB]
theorem sumup_at (A B : FVec Ideal S8192x1024 .f32) (r : Fin 8192) (l : Fin 1024) :
    SUMUP A B (ix2 r l) = A (ix2 r l) + B (ix2 r l) + Ideal.div (∑ k : Fin 1024, -A (ix2 r k) + ∑ k : Fin 1024, -B (ix2 r k)) LEN := by
  unfold LEN
  pointwise [SUMUP]
  exact congrArg _ (Fin.sum_univ_one _)

theorem dxa_at (T Z : FVec Ideal S8192x1024 .f32) (g : FVec Ideal S1024 .f32) (r : Fin 8192) (l : Fin 1024) :
    DXA T Z g (ix2 r l) = RDX (row Z r) (fun k => T (ix2 r k) * g (ix1 k)) l := by
  unfold DXA RDX
  rw [sumup_at]
  have e : row (DNA T g) r = fun k => T (ix2 r k) * g (ix1 k) := funext fun k => dna_at T g r k
  simp only [pa_at, pb_at, e, dna_at]
theorem cols_at (X : FVec Ideal S8192x1024 .f32) (u : Fin 1) (l : Fin 1024) : COLS X (ix2 u l) = ∑ r : Fin 8192, X (ix2 r l) := by
  pointwise [COLS]
  exact Fin.sum_univ_one _
theorem dga_at (T Z : FVec Ideal S8192x1024 .f32) (u : Fin 1) (l : Fin 1024) :
    DGA T Z (ix2 u l) = ∑ r : Fin 8192, CE (row Z r) l * RH (row Z r) * T (ix2 r l) := by
  unfold DGA
  rw [cols_at]
  refine Finset.sum_congr rfl fun r _ => ?_
  rw [← cen_at, ← rha_at]
  pointwise

end Cert.LnBack
-- ==== Proof.FfnDxLnFinal.lean ====
module
public import proofs.«01_k».proof.Proof.Gen.FfnDxLnIdeal.Value
public import proofs.«01_k».proof.Proof.LnBackRef
public import Idealize.ShloMosaic.Lib.Pipeline.ValueKit
public import Idealize.ShloMosaic.Lib.Pointwise

/-! The gradient of the layer norm in front of the second feed-forward block: one block of rows at a time, the gain's and the shift's gradients added up over the blocks. -/

@[expose] public section
set_option maxRecDepth 16384
noncomputable section
namespace Cert.FfnDxLnIdeal.Hand
open Cert.FfnDxLnIdeal Cert.FfnDxLnIdeal.Gen Idealize.ShloMosaic Idealize.ShloMosaic.TcCoe Idealize.SL.Sem
open Idealize.ShloMosaic.Pipeline (Dat)
variable (m : (ℓ : Loc nD τ sig) → Buf (Elt Ideal) ℓ)

/-- The arguments, as device `c` holds them. -/
def dH (c : Dev nD) : FVec Ideal S8192x5632 .bf16 := m ((c : Thread nD τ).loc main_arg0)
def wI (c : Dev nD) : FVec Ideal S1024x5632 .f32 := m ((c : Thread nD τ).loc main_arg1)
def dZ (c : Dev nD) : FVec Ideal S8192x1024 .f32 := m ((c : Thread nD τ).loc main_arg2)
def zIn (c : Dev nD) : FVec Ideal S8192x1024 .f32 := m ((c : Thread nD τ).loc main_arg3)
def gIn (c : Dev nD) : FVec Ideal S1024 .f32 := m ((c : Thread nD τ).loc main_arg4)

/-- The reference's gradient of the layer norm's output. -/
def REFT (H : FVec Ideal S8192x5632 .bf16) (W : FVec Ideal S1024x5632 .f32) (Z : FVec Ideal S8192x1024 .f32) : FVec Ideal S8192x1024 .f32 :=
  addf (Host.dotGeneral Cert.FfnDxLnRefIdeal.dot_S8192x5632_S1024x5632_S8192x1024_1_1_0_0_n_n none (extf .f32 H Cert.FfnDxLnRefIdeal.Gen.bitsLt_bf16_f32) W)
    (mulf (broadcastInDim Cert.FfnDxLnRefIdeal.S8192x1024 ![] Cert.FfnDxLnRefIdeal.Gen.bcast_S_S8192x1024 (constant Cert.FfnDxLnRefIdeal.S_ .f32 0x3F9837F0#32)) Z)

theorem idx : ∀ t : Fin cfg0.N, win0_0.index t = ![t.val, 0] ∧ win0_1.index t = ![0, 0, 0] ∧ win0_2.index t = ![t.val, 0] ∧ win0_3.index t = ![t.val, 0]
    ∧ win0_4.index t = ![0, 0] ∧ win0_5.index t = ![0, 0] ∧ win0_6.index t = ![t.val, 0] ∧ win0_7.index t = ![0, 0] ∧ win0_8.index t = ![0, 0] ∧ t.val < 32 :=
  (by decide +kernel : ∀ t : Fin grid0.N, _)

theorem reft_at (H : FVec Ideal S8192x5632 .bf16) (W : FVec Ideal S1024x5632 .f32) (Z : FVec Ideal S8192x1024 .f32) (j : S8192x1024.Idx) :
    REFT H W Z j = ∑ x : Fin 5632, H (ix2 (j 0) x) * W (ix2 (j 1) x) + Ideal.ofBits .f32 0x3F9837F0#32 * Z j := by
  pointwise [REFT]

/-- A sum over the 5632 hidden columns is the sum over the four slabs of 1408. -/
theorem four_slabs (f : Fin 5632 → EReal) : ∑ x, f x
    = ∑ k : Fin 1408, f ⟨k, by omega⟩ + ∑ k : Fin 1408, f ⟨1408 + k, by omega⟩ + ∑ k : Fin 1408, f ⟨2816 + k, by omega⟩
      + ∑ k : Fin 1408, f ⟨4224 + k, by omega⟩ := by
  have h : ∑ s : Fin 4, ∑ k : Fin 1408, f ⟨s * 1408 + k, by omega⟩ = ∑ x, f x :=
    Fin.sum_mul_add_congr fun s k hl => rfl
  rw [← h, Fin.sum_univ_four]
  refine congrArg₂ _ (congrArg₂ _ (congrArg₂ _ ?_ ?_) ?_) ?_ <;> exact Finset.sum_congr rfl fun k _ => congrArg f (Fin.ext (by simp))

theorem pay6_at (v0 : Vec Ideal S256x1024 .f32) (v3 : Vec Ideal S256x1408 .bf16) (v4 : Vec Ideal S1x1024x1408 .bf16) (v8 : Vec Ideal S256x1408 .bf16) (v9 : Vec Ideal S1x1024x1408 .bf16) (v13 : Vec Ideal S256x1408 .bf16) (v14 : Vec Ideal S1x1024x1408 .bf16) (v18 : Vec Ideal S256x1408 .bf16) (v19 : Vec Ideal S1x1024x1408 .bf16) (r : Fin 256) (l : Fin 1024) :
    k0_pay6 v0 v3 v4 v8 v9 v13 v14 v18 v19 (ix2 r l) = Ideal.ofBits .f32 0x3F9837F0#32 * v0 (ix2 r l)
      + ∑ x : Fin 1408, v3 (ix2 r x) * v4 (ix3 0 l x) + ∑ x : Fin 1408, v8 (ix2 r x) * v9 (ix3 0 l x)
      + ∑ x : Fin 1408, v13 (ix2 r x) * v14 (ix3 0 l x) + ∑ x : Fin 1408, v18 (ix2 r x) * v19 (ix3 0 l x) := by
  pointwise [k0_pay6]

/-- The four slabs, laid one after another, are the columns of the weight. -/
theorem slab (c : Dev nD) (s : Fin 4) (i : Fin 1024) (k : Fin 1408) :
    (show FVec Ideal S4x1024x1408 .bf16 from V m c (Pipeline.arrRef spec0 1)) (ix3 s i k) = wI m c (ix2 i ⟨s * 1408 + k, by omega⟩) := by
  entry_read
  pointwise
  rfl

theorem blk0 (c : Dev nD) (t : Fin cfg0.N) (r : Fin 256) (k : Fin 5632) (h : 256 * t.val + r < 8192) :
    (show FVec Ideal S256x5632 .bf16 from iblk m c 0 t) (ix2 r k) = dH m c (ix2 ⟨256 * t.val + r, h⟩ k) := by
  show iblk m c 0 t (ix2 r k) = m ((c : Thread nD τ).loc main_arg0) _
  blk_ext [iblk, V, idx t]

theorem blk1 (c : Dev nD) (t : Fin cfg0.N) (s : Fin 4) (i : Fin 1024) (k : Fin 1408) :
    (show FVec Ideal S4x1024x1408 .bf16 from iblk m c 1 t) (ix3 s i k) = wI m c (ix2 i ⟨s * 1408 + k, by omega⟩) := by
  refine Eq.trans ?_ (slab m c s i k)
  show iblk m c 1 t (ix3 s i k) = V m c (Pipeline.arrRef spec0 1) (ix3 s i k)
  blk_ext [iblk, idx t]

theorem blk2 (c : Dev nD) (t : Fin cfg0.N) (r : Fin 256) (k : Fin 1024) (h : 256 * t.val + r < 8192) :
    (show FVec Ideal S256x1024 .f32 from iblk m c 2 t) (ix2 r k) = dZ m c (ix2 ⟨256 * t.val + r, h⟩ k) := by
  show iblk m c 2 t (ix2 r k) = m ((c : Thread nD τ).loc main_arg2) _
  blk_ext [iblk, V, idx t]

theorem blk3 (c : Dev nD) (t : Fin cfg0.N) (r : Fin 256) (k : Fin 1024) (h : 256 * t.val + r < 8192) :
    (show FVec Ideal S256x1024 .f32 from iblk m c 3 t) (ix2 r k) = zIn m c (ix2 ⟨256 * t.val + r, h⟩ k) := by
  show iblk m c 3 t (ix2 r k) = m ((c : Thread nD τ).loc main_arg3) _
  blk_ext [iblk, V, idx t]
theorem gain (c : Dev nD) (l : Fin 1024) :
    (show FVec Ideal S1x1024 .f32 from V m c (Pipeline.arrRef spec0 4)) (ix2 0 l) = gIn m c (ix1 l) := by
  entry_read
  pointwise
  rfl
theorem blk4 (c : Dev nD) (t : Fin cfg0.N) (l : Fin 1024) :
    (show FVec Ideal S1x1024 .f32 from iblk m c 4 t) (ix2 0 l) = gIn m c (ix1 l) := by
  refine Eq.trans ?_ (gain m c l)
  show iblk m c 4 t (ix2 0 l) = V m c (Pipeline.arrRef spec0 4) (ix2 0 l)
  blk_ext [iblk, idx t]

/-- The parts of the two operands the body loads. -/
abbrev r0_1 : Rect S256x5632 := Rect.unit (s := S256x5632) ![0, 0] S256x1408.size inb_S256x5632_S256x1408_0_0
abbrev r0_2 : Rect S4x1024x1408 := Rect.unit (s := S4x1024x1408) ![0, 0, 0] S1x1024x1408.size inb_S4x1024x1408_S1x1024x1408_0_0_0
abbrev r0_3 : Rect S256x5632 := Rect.unit (s := S256x5632) ![0, 1408] S256x1408.size inb_S256x5632_S256x1408_0_1408
abbrev r0_4 : Rect S4x1024x1408 := Rect.unit (s := S4x1024x1408) ![1, 0, 0] S1x1024x1408.size inb_S4x1024x1408_S1x1024x1408_1_0_0
abbrev r0_5 : Rect S256x5632 := Rect.unit (s := S256x5632) ![0, 2816] S256x1408.size inb_S256x5632_S256x1408_0_2816
abbrev r0_6 : Rect S4x1024x1408 := Rect.unit (s := S4x1024x1408) ![2, 0, 0] S1x1024x1408.size inb_S4x1024x1408_S1x1024x1408_2_0_0
abbrev r0_7 : Rect S256x5632 := Rect.unit (s := S256x5632) ![0, 4224] S256x1408.size inb_S256x5632_S256x1408_0_4224
abbrev r0_8 : Rect S4x1024x1408 := Rect.unit (s := S4x1024x1408) ![3, 0, 0] S1x1024x1408.size inb_S4x1024x1408_S1x1024x1408_3_0_0

theorem ld1 (X : Vec Ideal S256x5632 .bf16) (r : Fin 256) (x : Fin 1408) : View.ld X r0_1 (ix2 r x) = X (ix2 r ⟨0 + x, by omega⟩) := by
  rw [View.ld_unit]; pointwise
theorem ld3 (X : Vec Ideal S256x5632 .bf16) (r : Fin 256) (x : Fin 1408) : View.ld X r0_3 (ix2 r x) = X (ix2 r ⟨1408 + x, by omega⟩) := by
  rw [View.ld_unit]; pointwise
theorem ld5 (X : Vec Ideal S256x5632 .bf16) (r : Fin 256) (x : Fin 1408) : View.ld X r0_5 (ix2 r x) = X (ix2 r ⟨2816 + x, by omega⟩) := by
  rw [View.ld_unit]; pointwise
theorem ld7 (X : Vec Ideal S256x5632 .bf16) (r : Fin 256) (x : Fin 1408) : View.ld X r0_7 (ix2 r x) = X (ix2 r ⟨4224 + x, by omega⟩) := by
  rw [View.ld_unit]; pointwise
theorem ld2 (X : Vec Ideal S4x1024x1408 .bf16) (l : Fin 1024) (x : Fin 1408) : View.ld X r0_2 (ix3 0 l x) = X (ix3 0 l x) := by
  rw [View.ld_unit]; pointwise
theorem ld4 (X : Vec Ideal S4x1024x1408 .bf16) (l : Fin 1024) (x : Fin 1408) : View.ld X r0_4 (ix3 0 l x) = X (ix3 1 l x) := by
  rw [View.ld_unit]; pointwise
theorem ld6 (X : Vec Ideal S4x1024x1408 .bf16) (l : Fin 1024) (x : Fin 1408) : View.ld X r0_6 (ix3 0 l x) = X (ix3 2 l x) := by
  rw [View.ld_unit]; pointwise
theorem ld8 (X : Vec Ideal S4x1024x1408 .bf16) (l : Fin 1024) (x : Fin 1408) : View.ld X r0_8 (ix3 0 l x) = X (ix3 3 l x) := by
  rw [View.ld_unit]; pointwise

theorem ct_block (c : Dev nD) (t : Fin cfg0.N) (r : Fin 256) (l : Fin 1024) (h : 256 * t.val + r < 8192) :
    k0_pay6 (iblk m c 2 t) (View.ld (iblk m c 0 t) r0_1) (View.ld (iblk m c 1 t) r0_2) (View.ld (iblk m c 0 t) r0_3)
      (View.ld (iblk m c 1 t) r0_4) (View.ld (iblk m c 0 t) r0_5) (View.ld (iblk m c 1 t) r0_6)
      (View.ld (iblk m c 0 t) r0_7) (View.ld (iblk m c 1 t) r0_8) (ix2 r l)
    = REFT (dH m c) (wI m c) (dZ m c) (ix2 ⟨256 * t.val + r, h⟩ l) := by
  rw [pay6_at, reft_at, four_slabs]
  have sw : ∀ a b c d e : EReal, a + b + c + d + e = b + c + d + e + a := by intros; abel
  refine (sw _ _ _ _ _).trans ?_
  refine congrArg₂ _ (congrArg₂ _ (congrArg₂ _ (congrArg₂ _ ?_ ?_) ?_) ?_) (congrArg₂ _ rfl (blk2 m c t r l h))
  · exact Finset.sum_congr rfl fun x _ => congrArg₂ _
      ((ld1 _ r x).trans ((blk0 m c t r _ h).trans (congrArg (dH m c) (congrArg₂ ix2 rfl (Fin.ext (by simp))))))
      ((ld2 _ l x).trans ((blk1 m c t _ l x).trans (congrArg (wI m c) (congrArg₂ ix2 rfl (Fin.ext (by simp))))))
  · exact Finset.sum_congr rfl fun x _ => congrArg₂ _
      ((ld3 _ r x).trans ((blk0 m c t r _ h).trans (congrArg (dH m c) (congrArg₂ ix2 rfl (Fin.ext (by simp))))))
      ((ld4 _ l x).trans ((blk1 m c t _ l x).trans (congrArg (wI m c) (congrArg₂ ix2 rfl (Fin.ext (by simp))))))
  · exact Finset.sum_congr rfl fun x _ => congrArg₂ _
      ((ld5 _ r x).trans ((blk0 m c t r _ h).trans (congrArg (dH m c) (congrArg₂ ix2 rfl (Fin.ext (by simp))))))
      ((ld6 _ l x).trans ((blk1 m c t _ l x).trans (congrArg (wI m c) (congrArg₂ ix2 rfl (Fin.ext (by simp))))))
  · exact Finset.sum_congr rfl fun x _ => congrArg₂ _
      ((ld7 _ r x).trans ((blk0 m c t r _ h).trans (congrArg (dH m c) (congrArg₂ ix2 rfl (Fin.ext (by simp))))))
      ((ld8 _ l x).trans ((blk1 m c t _ l x).trans (congrArg (wI m c) (congrArg₂ ix2 rfl (Fin.ext (by simp))))))

open Cert.LnBack (CE MU SQ RH QQ CK KDX RDX LEN EPS MHALF TWO Fi)

/-- A row of a block. -/
abbrev brow (z : FVec Ideal S256x1024 .f32) (r : Fin 256) (k : Fin 1024) : EReal := z (ix2 r k)

theorem pay9_at (z : FVec Ideal S256x1024 .f32) (r : Fin 256) (l : Fin 1024) : k0_pay9 (F := Ideal) z (k0_pay8 z) (ix2 r l) = CE (brow z r) l := by
  unfold CE MU LEN
  pointwise [k0_pay9, k0_pay8]
theorem pay10_at (z : FVec Ideal S256x1024 .f32) (r : Fin 256) : k0_pay10 (F := Ideal) z (k0_pay8 z) (ix2 r 0) = SQ (brow z r) := by
  unfold SQ
  simp only [← pay9_at]
  unfold LEN EPS
  pointwise [k0_pay10]
theorem pay11_at (z : FVec Ideal S256x1024 .f32) (r : Fin 256) : k0_pay11 (F := Ideal) z (k0_pay8 z) (ix2 r 0) = RH (brow z r) := by
  unfold RH
  rw [← pay10_at]
  pointwise [k0_pay11]
theorem pay12_at (T : FVec Ideal S256x1024 .f32) (l : Fin 1024) : k0_pay12 T (ix2 0 l) = ∑ r : Fin 256, T (ix2 r l) := by
  pointwise [k0_pay12]
theorem pay13_at (T z : FVec Ideal S256x1024 .f32) (l : Fin 1024) :
    k0_pay13 T z (k0_pay8 z) (ix2 0 l) = ∑ r : Fin 256, CE (brow z r) l * RH (brow z r) * T (ix2 r l) := by
  simp only [← pay9_at, ← pay11_at]
  pointwise [k0_pay13]
theorem pay14_at (T z : FVec Ideal S256x1024 .f32) (g : FVec Ideal S1x1024 .f32) (r : Fin 256) (l : Fin 1024) :
    k0_pay14 T z (k0_pay7 g) (k0_pay8 z) (ix2 r l) = CK (brow z r) (fun k => T (ix2 r k) * g (ix2 0 k)) l := by
  unfold CK QQ
  simp only [← pay9_at]
  rw [← pay11_at, ← pay10_at]
  unfold LEN MHALF
  pointwise [k0_pay14, k0_pay7]
  simp only [Fin.sum_univ_one]
theorem pay15_at (T z : FVec Ideal S256x1024 .f32) (g : FVec Ideal S1x1024 .f32) (r : Fin 256) :
    k0_pay15 T z (k0_pay7 g) (k0_pay8 z) (ix2 r 0) = Ideal.div (∑ k : Fin 1024, (0 - CK (brow z r) (fun k => T (ix2 r k) * g (ix2 0 k)) k)) LEN := by
  simp only [← pay14_at]
  unfold LEN
  pointwise [k0_pay15]
theorem pay1_at (T z : FVec Ideal S256x1024 .f32) (g : FVec Ideal S1x1024 .f32) (r : Fin 256) (l : Fin 1024) :
    k0_pay1 (k0_pay14 T z (k0_pay7 g) (k0_pay8 z)) (k0_pay15 T z (k0_pay7 g) (k0_pay8 z)) (ix2 r l)
      = KDX (brow z r) (fun k => T (ix2 r k) * g (ix2 0 k)) l := by
  unfold KDX
  rw [← pay14_at, ← pay15_at]
  pointwise [k0_pay1]
  exact congrArg _ (Fin.sum_univ_one _)
theorem pay4_at (a : FVec Ideal S1x1024 .f32) (x : Vec Ideal S1x1024 .f32) (l : Fin 1024) : k0_pay4 a x (ix2 0 l) = x (ix2 0 l) + a (ix2 0 l) := by
  pointwise [k0_pay4]
theorem pay5_at (a : FVec Ideal S1x1024 .f32) (x : Vec Ideal S1x1024 .f32) (l : Fin 1024) : k0_pay5 a x (ix2 0 l) = x (ix2 0 l) + a (ix2 0 l) := by
  pointwise [k0_pay5]

/-- The gradient of the layer norm's output over point `t`'s block. -/
def TB (c : Dev nD) (t : Fin cfg0.N) : FVec Ideal S256x1024 .f32 :=
  k0_pay6 (iblk m c 2 t) (View.ld (iblk m c 0 t) r0_1) (View.ld (iblk m c 1 t) r0_2) (View.ld (iblk m c 0 t) r0_3)
      (View.ld (iblk m c 1 t) r0_4) (View.ld (iblk m c 0 t) r0_5) (View.ld (iblk m c 1 t) r0_6)
      (View.ld (iblk m c 0 t) r0_7) (View.ld (iblk m c 1 t) r0_8)
abbrev ZB (c : Dev nD) (t : Fin cfg0.N) : FVec Ideal S256x1024 .f32 := iblk m c 3 t
abbrev GB (c : Dev nD) (t : Fin cfg0.N) : FVec Ideal S1x1024 .f32 := iblk m c 4 t

theorem pay2_at (l : Fin 1024) : k0_pay2 (F := Ideal) (ix2 0 l) = 0 := by
  pointwise [k0_pay2]
theorem pay3_at (l : Fin 1024) : k0_pay3 (F := Ideal) (ix2 0 l) = 0 := by
  pointwise [k0_pay3]

theorem out6 (c : Dev nD) (t : Fin cfg0.N) (r : Fin 256) (l : Fin 1024) :
    (outsAt0 m c t.val t.isLt).1 (ix2 r l) = KDX (brow (ZB m c t) r) (fun k => TB m c t (ix2 r k) * GB m c t (ix2 0 k)) l := by
  refine Eq.trans ?_ (pay1_at _ _ _ r l)
  by_cases h : t.val % 32 = 0
  · rw [outsAt0_A m c t h]
    frame_out
    rfl
  · rw [outsAt0_B m c t h]
    frame_out
    rfl

/-- What point `t` adds to the gain's and to the shift's gradient. -/
def GTERM (c : Dev nD) (t : Fin cfg0.N) (j : S1x1024.Idx) : EReal :=
  ∑ r : Fin 256, CE (brow (ZB m c t) r) (j 1) * RH (brow (ZB m c t) r) * TB m c t (ix2 r (j 1))
def BTERM (c : Dev nD) (t : Fin cfg0.N) (j : S1x1024.Idx) : EReal := ∑ r : Fin 256, TB m c t (ix2 r (j 1))

theorem dg_A (c : Dev nD) (t : Fin cfg0.N) (h : t.val % 32 = 0) (j : S1x1024.Idx) :
    (outsAt0 m c t.val t.isLt).2.1 j = 0 + GTERM m c t j := by
  obtain ⟨l, rfl⟩ : ∃ l : Fin 1024, j = ix2 0 l := ⟨j 1, (eq_ix2 j).trans (congrArg₂ ix2 (Subsingleton.elim _ _) rfl)⟩
  rw [outsAt0_A m c t h]
  frame_out
  exact (pay4_at _ _ l).trans (congrArg₂ _ (pay2_at l) (pay13_at _ _ l))
theorem dg_B (c : Dev nD) (t : Fin cfg0.N) (h : ¬t.val % 32 = 0) (j : S1x1024.Idx) :
    (outsAt0 m c t.val t.isLt).2.1 j = (outsAt0 m c (t.val - 1) (Nat.lt_of_le_of_lt (Nat.sub_le _ _) t.isLt)).2.1 j + GTERM m c t j := by
  obtain ⟨l, rfl⟩ : ∃ l : Fin 1024, j = ix2 0 l := ⟨j 1, (eq_ix2 j).trans (congrArg₂ ix2 (Subsingleton.elim _ _) rfl)⟩
  rw [outsAt0_B m c t h]
  frame_out
  exact (pay4_at _ _ l).trans (congrArg₂ _ rfl (pay13_at _ _ l))
theorem db_A (c : Dev nD) (t : Fin cfg0.N) (h : t.val % 32 = 0) (j : S1x1024.Idx) :
    (outsAt0 m c t.val t.isLt).2.2 j = 0 + BTERM m c t j := by
  obtain ⟨l, rfl⟩ : ∃ l : Fin 1024, j = ix2 0 l := ⟨j 1, (eq_ix2 j).trans (congrArg₂ ix2 (Subsingleton.elim _ _) rfl)⟩
  rw [outsAt0_A m c t h]
  frame_out
  exact (pay5_at _ _ l).trans (congrArg₂ _ (pay3_at l) (pay12_at _ l))
theorem db_B (c : Dev nD) (t : Fin cfg0.N) (h : ¬t.val % 32 = 0) (j : S1x1024.Idx) :
    (outsAt0 m c t.val t.isLt).2.2 j = (outsAt0 m c (t.val - 1) (Nat.lt_of_le_of_lt (Nat.sub_le _ _) t.isLt)).2.2 j + BTERM m c t j := by
  obtain ⟨l, rfl⟩ : ∃ l : Fin 1024, j = ix2 0 l := ⟨j 1, (eq_ix2 j).trans (congrArg₂ ix2 (Subsingleton.elim _ _) rfl)⟩
  rw [outsAt0_B m c t h]
  frame_out
  exact (pay5_at _ _ l).trans (congrArg₂ _ rfl (pay12_at _ l))

theorem zrow (c : Dev nD) (t : Fin cfg0.N) (r : Fin 256) (h : 256 * t.val + r < 8192) :
    brow (ZB m c t) r = Cert.LnBack.row (zIn m c) ⟨256 * t.val + r, h⟩ :=
  funext fun k => blk3 m c t r k h

theorem dg_last (c : Dev nD) (t : Fin cfg0.N) (h : t.val % 32 = 31) (l : Fin 1024) :
    (outsAt0 m c t.val t.isLt).2.1 (ix2 0 l) = Cert.LnBack.DGA (REFT (dH m c) (wI m c) (dZ m c)) (zIn m c) (ix2 0 l) := by
  refine (Pipeline.eq_sum_fin_of_reset_step_apply_of_flush (fun n hn => (outsAt0 m c n hn).2.1) 32 (fun _ => (0 : EReal)) (GTERM m c)
    (dg_A m c) (dg_B m c) t h (ix2 0 l)).trans ?_
  rw [zero_add, Cert.LnBack.dga_at]
  unfold GTERM
  have hN := (idx t).2.2.2.2.2.2.2.2.2
  refine Fin.sum_mul_add_congr fun s r hl => ?_
  have e : (⟨256 * (32 * (t.val / 32) + s.val) + r.val, by omega⟩ : Fin 8192) = ⟨s.val * 256 + r.val, hl⟩ := Fin.ext (by show 256 * (32 * (t.val / 32) + s.val) + r.val = s.val * 256 + r.val; omega)
  refine congrArg₂ _ (congrArg₂ _ (congrArg (fun z => CE z l) ?_) (congrArg RH ?_)) ?_
  · exact (zrow m c _ r (by show 256 * (32 * (t.val / 32) + s.val) + r.val < 8192; omega)).trans (congrArg _ e)
  · exact (zrow m c _ r (by show 256 * (32 * (t.val / 32) + s.val) + r.val < 8192; omega)).trans (congrArg _ e)
  · exact (ct_block m c _ r l (by show 256 * (32 * (t.val / 32) + s.val) + r.val < 8192; omega)).trans (congrArg _ (congrArg₂ ix2 e rfl))

theorem db_last (c : Dev nD) (t : Fin cfg0.N) (h : t.val % 32 = 31) (l : Fin 1024) :
    (outsAt0 m c t.val t.isLt).2.2 (ix2 0 l) = Cert.LnBack.COLS (REFT (dH m c) (wI m c) (dZ m c)) (ix2 0 l) := by
  refine (Pipeline.eq_sum_fin_of_reset_step_apply_of_flush (fun n hn => (outsAt0 m c n hn).2.2) 32 (fun _ => (0 : EReal)) (BTERM m c)
    (db_A m c) (db_B m c) t h (ix2 0 l)).trans ?_
  rw [zero_add, Cert.LnBack.cols_at]
  unfold BTERM
  have hN := (idx t).2.2.2.2.2.2.2.2.2
  refine Fin.sum_mul_add_congr fun s r hl => ?_
  have e : (⟨256 * (32 * (t.val / 32) + s.val) + r.val, by omega⟩ : Fin 8192) = ⟨s.val * 256 + r.val, hl⟩ := Fin.ext (by show 256 * (32 * (t.val / 32) + s.val) + r.val = s.val * 256 + r.val; omega)
  exact (ct_block m c _ r l (by show 256 * (32 * (t.val / 32) + s.val) + r.val < 8192; omega)).trans (congrArg _ (congrArg₂ ix2 e rfl))

/-- From finite gradients the first output is the reference's gradient of the rows. -/
theorem fin6 (c : Dev nD) (hf : ∀ r k, Fi ((REFT (dH m c) (wI m c) (dZ m c)) (ix2 r k) * (gIn m c) (ix1 k))) :
    (dats m 0 c).arrAt 6 (cfgs 0).N = Cert.LnBack.DXA (REFT (dH m c) (wI m c) (dZ m c)) (zIn m c) (gIn m c) := by
  refine (dats m 0 c).arrAt_eq_of_covers 6 _ (by decide +kernel) fun t _ y => ?_
  blk_simp
  rw [after0_6]
  obtain ⟨r, l, rfl⟩ : ∃ (r : Fin 256) (l : Fin 1024), y = ix2 r l := ⟨_, _, eq_ix2 y⟩
  have hN := (idx t).2.2.2.2.2.2.2.2.2
  have hr : 256 * t.val + r.val < 8192 := by omega
  have hd : (fun k => TB m c t (ix2 r k) * GB m c t (ix2 0 k)) = fun k => (REFT (dH m c) (wI m c) (dZ m c)) (ix2 ⟨256 * t.val + r.val, hr⟩ k) * (gIn m c) (ix1 k) :=
    funext fun k => congrArg₂ _ (ct_block m c t r k hr) (blk4 m c t k)
  refine (out6 m c t r l).trans ?_
  rw [zrow m c t r hr, hd, Cert.LnBack.kdx_eq _ _ (hf _), ← Cert.LnBack.dxa_at]
  blk_ext [idx t]

theorem fin7 (c : Dev nD) : (dats m 0 c).arrAt 7 (cfgs 0).N = Cert.LnBack.DGA (REFT (dH m c) (wI m c) (dZ m c)) (zIn m c) := by
  refine (dats m 0 c).arrAt_eq_of_covers 7 _ (by decide +kernel) fun t hf y => ?_
  have h7 : t.val % 32 = 31 := (flush0_7 t).mp hf
  blk_simp
  rw [after0_7]
  obtain ⟨l, rfl⟩ : ∃ l : Fin 1024, y = ix2 0 l := ⟨y 1, (eq_ix2 y).trans (congrArg₂ ix2 (Subsingleton.elim _ _) rfl)⟩
  refine (dg_last m c t h7 l).trans ?_
  blk_ext [idx t]

theorem fin8 (c : Dev nD) : (dats m 0 c).arrAt 8 (cfgs 0).N = Cert.LnBack.COLS (REFT (dH m c) (wI m c) (dZ m c)) := by
  refine (dats m 0 c).arrAt_eq_of_covers 8 _ (by decide +kernel) fun t hf y => ?_
  have h7 : t.val % 32 = 31 := (flush0_8 t).mp hf
  blk_simp
  rw [after0_8]
  obtain ⟨l, rfl⟩ : ∃ l : Fin 1024, y = ix2 0 l := ⟨y 1, (eq_ix2 y).trans (congrArg₂ ix2 (Subsingleton.elim _ _) rfl)⟩
  refine (db_last m c t h7 l).trans ?_
  blk_ext [idx t]

end Cert.FfnDxLnIdeal.Hand
-- ==== Proof.FfnDxLnClaim.lean ====
module
public import proofs.«01_k».proof.Defs
public import proofs.«01_k».proof.Proof.Gen.FfnDxLnIdeal
public import proofs.«01_k».proof.Proof.Gen.FfnDxLnRefIdeal
public import proofs.«01_k».proof.Proof.FfnDxLnFinal
public import proofs.«01_k».proof.Proof.FfnDhClaim
public import Idealize.ShloMosaic.Lib.Claim
public import Idealize.ShloMosaic.Lib.ReduceAll

/-! The gradient of the layer norm in front of the second feed-forward block: kernel and reference end with the same arrays, from finite gradients, weight and gain. -/

@[expose] public section
set_option maxRecDepth 16384
noncomputable section
namespace Cert.Proof
open Idealize.ShloMosaic Idealize.SL.Sem
open Cert.LnBack (Fi)

/-- The reference's frame: its run, and no semaphore is declared. -/
theorem fdl_reference : Cert.quiescent_FfnDxLnRefIdeal := by
  intro m g _
  exact (θ_run Cert.FfnDxLnRefIdeal.defs _ _).mono
    (fun r h => ⟨fun c => (h c).2.2.2, sem_eq_zero_of_no_sems (by decide) r.2⟩)
    (Cert.FfnDxLnRefIdeal.Value.run m g)

theorem fdl_reference_finite [Cert.Pre_ffn_dx_finite.Facts] : Cert.quiescent_FfnDxLnRefIdeal_pre_ffn_dx_finite :=
  fun m g _ => fdl_reference m g trivial

/-- The shapes the precondition's operations state. -/
theorem fdl_facts : Cert.Pre_ffn_dx_finite.Facts where
  bitsLt_bf16_f32 := by decide
  bcast_S_S8192x5632 := by decide
  reducesTo_S8192x5632_S_d0_1 := by decide
  h_S_ := by decide
  bcast_S_S1024x5632 := by decide
  reducesTo_S1024x5632_S_d0_1 := by decide
  bcast_S_S8192x1024 := by decide
  reducesTo_S8192x1024_S_d0_1 := by decide
  bcast_S_S1024 := by decide
  reducesTo_S1024_S_d0 := by decide

/-- The residual's factor is a finite number. -/
theorem alpha_fi : Fi (Ideal.ofBits .f32 0x3F9837F0#32) := by
  refine ⟨?_, ?_⟩ <;> simp only [Ideal.ofBits, Ideal.ieee] <;> simp [← EReal.coe_mul, EReal.coe_ne_top, EReal.coe_ne_bot]

/-- Under the precondition the gradient times the gain is finite. -/
theorem fdl_fin [Cert.Pre_ffn_dx_finite.Facts] (m : (ℓ : Loc Cert.FfnDxLnIdeal.nD Cert.FfnDxLnIdeal.τ Cert.FfnDxLnIdeal.sig) → Buf (Elt Ideal) ℓ)
    (h : Cert.Pre_FfnDxLnIdeal_ffn_dx_finite m) (c : Dev Cert.FfnDxLnIdeal.nD) (r : Fin 8192) (k : Fin 1024) :
    Fi (Cert.FfnDxLnIdeal.Hand.REFT (Cert.FfnDxLnIdeal.Hand.dH m c) (Cert.FfnDxLnIdeal.Hand.wI m c) (Cert.FfnDxLnIdeal.Hand.dZ m c) (ix2 r k)
      * Cert.FfnDxLnIdeal.Hand.gIn m c (ix1 k)) := by
  have hj := congrFun (h c) ix0
  obtain ⟨h1, h4⟩ := IntOp.andi_eq_one.1 hj
  obtain ⟨h1, h3⟩ := IntOp.andi_eq_one.1 h1
  obtain ⟨h1, h2⟩ := IntOp.andi_eq_one.1 h1
  rw [Cert.FfnDxLnIdeal.Hand.reft_at]
  refine Cert.LnBack.fi_mul (Cert.LnBack.fi_add (Cert.LnBack.fi_sum _ _ fun x => Cert.LnBack.fi_mul ?_ ?_) (Cert.LnBack.fi_mul alpha_fi ?_)) ?_
  · exact below_inf (Host.reduce_andi_all _ _ _ _ _ h1 _)
  · exact below_inf (Host.reduce_andi_all _ _ _ _ _ h2 _)
  · exact below_inf (Host.reduce_andi_all _ _ _ _ _ h3 _)
  · exact below_inf (Host.reduce_andi_all _ _ _ _ _ h4 _)

/-- The kernel and the reference end with equal arrays. -/
theorem fdl_algebraic [Cert.Pre_ffn_dx_finite.Facts] : Cert.algebraic_FfnDxLnIdeal_FfnDxLnRefIdeal_pre_ffn_dx_finite := by
  intro m g m' g' hpre hagree
  refine ⟨fun c => (Cert.FfnDxLnIdeal.Gen.dats m 0 c).arrAt 6 Cert.FfnDxLnIdeal.cfg0.N,
    fun c => (Cert.FfnDxLnIdeal.Gen.dats m 0 c).arrAt 7 Cert.FfnDxLnIdeal.cfg0.N,
    fun c => (Cert.FfnDxLnIdeal.Gen.dats m 0 c).arrAt 8 Cert.FfnDxLnIdeal.cfg0.N,
    Cert.FfnDxLnIdeal.Value.run_blocks m g, ?_⟩
  refine (θ_run Cert.FfnDxLnRefIdeal.defs _ _).mono (fun r h c => ?_)
    (Cert.FfnDxLnRefIdeal.Value.run m' g')
  obtain ⟨e0, e1, e2, e3, e4, e5⟩ := hagree c
  refine ⟨(h c).1.trans ?_, (h c).2.1.trans ?_, (h c).2.2.1.trans ?_, (h c).2.2.2⟩
  · refine Eq.trans ?_ (Cert.FfnDxLnIdeal.Hand.fin6 m c (fdl_fin m hpre c)).symm
    unfold Cert.FfnDxLnRefIdeal.Value.res_main_v69
    rw [e0, e1, e2, e3, e4]
    rfl
  · refine Eq.trans ?_ (Cert.FfnDxLnIdeal.Hand.fin7 m c).symm
    rw [e0, e1, e2, e3]
    rfl
  · refine Eq.trans ?_ (Cert.FfnDxLnIdeal.Hand.fin8 m c).symm
    rw [e0, e1, e2]
    rfl

end Cert.Proof
-- ==== Proof.ProjDxLnFinal.lean ====
module
public import proofs.«01_k».proof.Proof.Gen.ProjDxLnIdeal.Value
public import proofs.«01_k».proof.Proof.Gen.ProjDxLnRefIdeal.Run
public import proofs.«01_k».proof.Proof.LnBackRef
public import Idealize.ShloMosaic.Lib.Pipeline.ValueKit
public import Idealize.ShloMosaic.Lib.Pointwise

/-! The gradient of the layer norm in front of the input projection: one block of rows at a time, the gain's and the
shift's gradients added up over the blocks. The kernel multiplies by a weight padded with zero columns, the reference by the weight. -/

@[expose] public section
set_option maxRecDepth 16384
noncomputable section
namespace Cert.ProjDxLnIdeal.Hand
open Cert.ProjDxLnIdeal Cert.ProjDxLnIdeal.Gen Idealize.ShloMosaic Idealize.ShloMosaic.TcCoe Idealize.SL.Sem
open Idealize.ShloMosaic.Pipeline (Dat)
variable (m : (ℓ : Loc nD τ sig) → Buf (Elt Ideal) ℓ)

/-- The arguments, as device `c` holds them. -/
def dS (c : Dev nD) : FVec Ideal S8192x2048 .bf16 := m ((c : Thread nD τ).loc main_arg0)
def dC (c : Dev nD) : FVec Ideal S8192x1024 .bf16 := m ((c : Thread nD τ).loc main_arg1)
def wI (c : Dev nD) : FVec Ideal S1024x2976 .f32 := m ((c : Thread nD τ).loc main_arg2)
def dZ (c : Dev nD) : FVec Ideal S8192x1024 .f32 := m ((c : Thread nD τ).loc main_arg3)
def zIn (c : Dev nD) : FVec Ideal S8192x1024 .f32 := m ((c : Thread nD τ).loc main_arg4)
def gIn (c : Dev nD) : FVec Ideal S1024 .f32 := m ((c : Thread nD τ).loc main_arg5)

/-- The gradient of the projection's output: the mixer's columns, then the convolution's. -/
def CAT (S : FVec Ideal S8192x2048 .bf16) (C : FVec Ideal S8192x1024 .bf16) : FVec Ideal Cert.ProjDxLnRefIdeal.S8192x2976 .bf16 :=
  concatenate Cert.ProjDxLnRefIdeal.S8192x2976 1
    [⟨Cert.ProjDxLnRefIdeal.S8192x1952, ((extractStridedSlice Cert.ProjDxLnRefIdeal.S8192x1952 ![0, 0] S Cert.ProjDxLnRefIdeal.Gen.slices_S8192x2048_S8192x1952_0_0) : FVec Ideal Cert.ProjDxLnRefIdeal.S8192x1952 .bf16)⟩,
     ⟨Cert.ProjDxLnRefIdeal.S8192x1024, C⟩]
    Cert.ProjDxLnRefIdeal.Gen.concatenates_S8192x1952_S8192x1024_S8192x2976_d1
/-- The reference's gradient of the layer norm's output. -/
def REFT (D : FVec Ideal Cert.ProjDxLnRefIdeal.S8192x2976 .bf16) (W : FVec Ideal S1024x2976 .f32) (Z : FVec Ideal S8192x1024 .f32) : FVec Ideal S8192x1024 .f32 :=
  addf (Host.dotGeneral Cert.ProjDxLnRefIdeal.dot_S8192x2976_S1024x2976_S8192x1024_1_1_0_0_n_n none (extf .f32 D Cert.ProjDxLnRefIdeal.Gen.bitsLt_bf16_f32) W)
    (mulf (broadcastInDim Cert.ProjDxLnRefIdeal.S8192x1024 ![] Cert.ProjDxLnRefIdeal.Gen.bcast_S_S8192x1024 (constant Cert.ProjDxLnRefIdeal.S_ .f32 0x3F9837F0#32)) Z)

theorem idx : ∀ t : Fin cfg0.N, win0_0.index t = ![t.val, 0] ∧ win0_1.index t = ![t.val, 0] ∧ win0_2.index t = ![0, 0] ∧ win0_3.index t = ![t.val, 0]
    ∧ win0_4.index t = ![t.val, 0] ∧ win0_5.index t = ![0, 0] ∧ win0_6.index t = ![0, 0] ∧ win0_7.index t = ![t.val, 0] ∧ win0_8.index t = ![0, 0] ∧ win0_9.index t = ![0, 0] ∧ t.val < 32 :=
  (by decide +kernel : ∀ t : Fin grid0.N, _)

theorem cat_lo (S : FVec Ideal S8192x2048 .bf16) (C : FVec Ideal S8192x1024 .bf16) (r : Fin 8192) (x : Fin 2976) (h : (x : ℕ) < 1952) :
    CAT S C (ix2 r x) = S (ix2 r ⟨x, by omega⟩) := by
  pointwise [CAT]
  rw [dif_pos h]
theorem cat_hi (S : FVec Ideal S8192x2048 .bf16) (C : FVec Ideal S8192x1024 .bf16) (r : Fin 8192) (x : Fin 2976) (h : ¬(x : ℕ) < 1952) :
    CAT S C (ix2 r x) = C (ix2 r ⟨x - 1952, by omega⟩) := by
  pointwise [CAT]
  rw [dif_neg h]

theorem reft_at (D : FVec Ideal Cert.ProjDxLnRefIdeal.S8192x2976 .bf16) (W : FVec Ideal S1024x2976 .f32) (Z : FVec Ideal S8192x1024 .f32) (r : Fin 8192) (l : Fin 1024) :
    REFT D W Z (ix2 r l) = ∑ x : Fin 2976, D (ix2 r x) * W (ix2 l x) + Ideal.ofBits .f32 0x3F9837F0#32 * Z (ix2 r l) := by
  pointwise [REFT]

/-- The padded weight's entry: the weight's before the gap and after it, zero in the gap. -/
def PADW (W : FVec Ideal S1024x2976 .f32) (k : Fin 1024) (l : Fin 3072) : EReal :=
  if h : (l : ℕ) < 1952 then W (ix2 k ⟨l, by omega⟩) else if h' : (l : ℕ) < 2048 then 0 else W (ix2 k ⟨l - 96, by omega⟩)

/-- The padded weight as the kernel's call receives it. -/
def PADT (W : FVec Ideal S1024x2976 .f32) : FVec Ideal S1024x3072 .bf16 :=
  concatenate S1024x3072 1
    [⟨S1024x1952, ((extractStridedSlice S1024x1952 ![0, 0] (truncf .bf16 W bitsLt_bf16_f32) slices_S1024x2976_S1024x1952_0_0) : FVec Ideal S1024x1952 .bf16)⟩,
     ⟨S1024x96, ((broadcastInDim S1024x96 ![] bcast_S_S1024x96 (constant S_ .bf16 0x0000#16)) : FVec Ideal S1024x96 .bf16)⟩,
     ⟨S1024x1024, ((extractStridedSlice S1024x1024 ![0, 1952] (truncf .bf16 W bitsLt_bf16_f32) slices_S1024x2976_S1024x1024_0_1952) : FVec Ideal S1024x1024 .bf16)⟩]
    concatenates_S1024x1952_S1024x96_S1024x1024_S1024x3072_d1

theorem weight_term (c : Dev nD) : (V m c (Pipeline.arrRef spec0 2)) = PADT (wI m c) := by
  rfl

theorem weight (c : Dev nD) (k : Fin 1024) (l : Fin 3072) :
    (show FVec Ideal S1024x3072 .bf16 from V m c (Pipeline.arrRef spec0 2)) (ix2 k l) = PADW (wI m c) k l := by
  refine (congrFun (weight_term m c) (ix2 k l)).trans ?_
  pointwise [PADT]
  unfold PADW
  by_cases h : (l : ℕ) < 1952
  · rw [dif_pos h, dif_pos h]
  · by_cases h' : (l : ℕ) < 2048
    · rw [dif_neg h, dif_pos (by omega), dif_neg h, dif_pos h']
    · rw [dif_neg h, dif_neg (by omega), dif_neg h, dif_neg h']
      exact congrArg (wI m c) (congrArg (ix2 k) (Fin.ext (by show 1952 + ((l : ℕ) - 1952 - 96) = (l : ℕ) - 96; omega)))

/-- The product with the weight is the two products with the padded weight's parts: the gap adds zeros. -/
theorem two_parts (S : FVec Ideal S8192x2048 .bf16) (C : FVec Ideal S8192x1024 .bf16) (W : FVec Ideal S1024x2976 .f32) (r : Fin 8192) (l : Fin 1024) :
    ∑ x : Fin 2976, CAT S C (ix2 r x) * W (ix2 l x)
      = ∑ x : Fin 2048, S (ix2 r x) * PADW W l ⟨x, by omega⟩ + ∑ x : Fin 1024, C (ix2 r x) * PADW W l ⟨2048 + x, by omega⟩ := by
  refine (Fin.sum_univ_add (a := 1952) (b := 1024) (fun x : Fin (1952 + 1024) => CAT S C (ix2 r x) * W (ix2 l x))).trans ?_
  refine congrArg₂ _ ?_ ?_
  · refine Eq.trans ?_ (Fin.sum_univ_add (a := 1952) (b := 96) (fun x : Fin (1952 + 96) => S (ix2 r x) * PADW W l ⟨x, by omega⟩)).symm
    rw [Finset.sum_eq_zero (s := (Finset.univ : Finset (Fin 96))), add_zero]
    · refine Finset.sum_congr rfl fun x _ => congrArg₂ _ (cat_lo S C r _ x.isLt) ?_
      unfold PADW
      rw [dif_pos (show ((Fin.castAdd 96 x : Fin (1952 + 96)) : ℕ) < 1952 from x.isLt)]
      rfl
    · intro x _
      have h : ¬((Fin.natAdd 1952 x : Fin (1952 + 96)) : ℕ) < 1952 := by simp
      have h' : ((Fin.natAdd 1952 x : Fin (1952 + 96)) : ℕ) < 2048 := (Fin.natAdd 1952 x).isLt
      have e : PADW W l ⟨((Fin.natAdd 1952 x : Fin (1952 + 96)) : ℕ), by omega⟩ = 0 := (dif_neg h).trans (dif_pos h')
      rw [e, mul_zero]
  · refine Finset.sum_congr rfl fun x _ => congrArg₂ _ ?_ ?_
    · exact (cat_hi S C r (Fin.natAdd 1952 x) (by simp)).trans (congrArg C (congrArg (ix2 r) (Fin.ext (by simp))))
    · refine Eq.trans ?_ (((dif_neg (show ¬2048 + (x : ℕ) < 1952 by omega)).trans (dif_neg (show ¬2048 + (x : ℕ) < 2048 by omega))).symm)
      exact congrArg W (congrArg (ix2 l) (Fin.ext (by show 1952 + (x : ℕ) = 2048 + x - 96; omega)))

theorem pay2_at (v0 : Vec Ideal S256x1024 .f32) (v3 : Vec Ideal S256x2048 .bf16) (v4 : Vec Ideal S1024x2048 .bf16) (v8 : Vec Ideal S256x1024 .bf16) (v9 : Vec Ideal S1024x1024 .bf16) (r : Fin 256) (l : Fin 1024) :
    k0_pay2 v0 v3 v4 v8 v9 (ix2 r l) = Ideal.ofBits .f32 0x3F9837F0#32 * v0 (ix2 r l)
      + ∑ x : Fin 2048, v3 (ix2 r x) * v4 (ix2 l x) + ∑ x : Fin 1024, v8 (ix2 r x) * v9 (ix2 l x) := by
  pointwise [k0_pay2]

theorem blk0 (c : Dev nD) (t : Fin cfg0.N) (r : Fin 256) (k : Fin 2048) (h : 256 * t.val + r < 8192) :
    (show FVec Ideal S256x2048 .bf16 from iblk m c 0 t) (ix2 r k) = dS m c (ix2 ⟨256 * t.val + r, h⟩ k) := by
  show iblk m c 0 t (ix2 r k) = m ((c : Thread nD τ).loc main_arg0) _
  blk_ext [iblk, V, idx t]
theorem blk1 (c : Dev nD) (t : Fin cfg0.N) (r : Fin 256) (k : Fin 1024) (h : 256 * t.val + r < 8192) :
    (show FVec Ideal S256x1024 .bf16 from iblk m c 1 t) (ix2 r k) = dC m c (ix2 ⟨256 * t.val + r, h⟩ k) := by
  show iblk m c 1 t (ix2 r k) = m ((c : Thread nD τ).loc main_arg1) _
  blk_ext [iblk, V, idx t]
theorem blk2 (c : Dev nD) (t : Fin cfg0.N) (i : Fin 1024) (k : Fin 3072) :
    (show FVec Ideal S1024x3072 .bf16 from iblk m c 2 t) (ix2 i k) = PADW (wI m c) i k := by
  refine Eq.trans ?_ (weight m c i k)
  show iblk m c 2 t (ix2 i k) = V m c (Pipeline.arrRef spec0 2) (ix2 i k)
  blk_ext [iblk, idx t]
theorem blk3 (c : Dev nD) (t : Fin cfg0.N) (r : Fin 256) (k : Fin 1024) (h : 256 * t.val + r < 8192) :
    (show FVec Ideal S256x1024 .f32 from iblk m c 3 t) (ix2 r k) = dZ m c (ix2 ⟨256 * t.val + r, h⟩ k) := by
  show iblk m c 3 t (ix2 r k) = m ((c : Thread nD τ).loc main_arg3) _
  blk_ext [iblk, V, idx t]
theorem blk4 (c : Dev nD) (t : Fin cfg0.N) (r : Fin 256) (k : Fin 1024) (h : 256 * t.val + r < 8192) :
    (show FVec Ideal S256x1024 .f32 from iblk m c 4 t) (ix2 r k) = zIn m c (ix2 ⟨256 * t.val + r, h⟩ k) := by
  show iblk m c 4 t (ix2 r k) = m ((c : Thread nD τ).loc main_arg4) _
  blk_ext [iblk, V, idx t]
theorem gain (c : Dev nD) (l : Fin 1024) :
    (show FVec Ideal S1x1024 .f32 from V m c (Pipeline.arrRef spec0 5)) (ix2 0 l) = gIn m c (ix1 l) := by
  entry_read
  pointwise
  rfl
theorem blk5 (c : Dev nD) (t : Fin cfg0.N) (l : Fin 1024) :
    (show FVec Ideal S1x1024 .f32 from iblk m c 5 t) (ix2 0 l) = gIn m c (ix1 l) := by
  refine Eq.trans ?_ (gain m c l)
  show iblk m c 5 t (ix2 0 l) = V m c (Pipeline.arrRef spec0 5) (ix2 0 l)
  blk_ext [iblk, idx t]

/-- The parts of the padded weight the body loads. -/
abbrev w_lo : Rect S1024x3072 := Rect.unit (s := S1024x3072) ![0, 0] S1024x2048.size inb_S1024x3072_S1024x2048_0_0
abbrev w_hi : Rect S1024x3072 := Rect.unit (s := S1024x3072) ![0, 2048] S1024x1024.size inb_S1024x3072_S1024x1024_0_2048
theorem ld_lo (X : Vec Ideal S1024x3072 .bf16) (l : Fin 1024) (x : Fin 2048) : View.ld X w_lo (ix2 l x) = X (ix2 l ⟨0 + x, by omega⟩) := by
  rw [View.ld_unit]; pointwise
theorem ld_hi (X : Vec Ideal S1024x3072 .bf16) (l : Fin 1024) (x : Fin 1024) : View.ld X w_hi (ix2 l x) = X (ix2 l ⟨2048 + x, by omega⟩) := by
  rw [View.ld_unit]; pointwise

/-- The gradient of the layer norm's output over point `t`'s block. -/
def TB (c : Dev nD) (t : Fin cfg0.N) : FVec Ideal S256x1024 .f32 :=
  k0_pay2 (iblk m c 3 t) (iblk m c 0 t) (View.ld (iblk m c 2 t) w_lo) (iblk m c 1 t) (View.ld (iblk m c 2 t) w_hi)
abbrev ZB (c : Dev nD) (t : Fin cfg0.N) : FVec Ideal S256x1024 .f32 := iblk m c 4 t
abbrev GB (c : Dev nD) (t : Fin cfg0.N) : FVec Ideal S1x1024 .f32 := iblk m c 5 t

theorem ct_block (c : Dev nD) (t : Fin cfg0.N) (r : Fin 256) (l : Fin 1024) (h : 256 * t.val + r < 8192) :
    TB m c t (ix2 r l) = REFT (CAT (dS m c) (dC m c)) (wI m c) (dZ m c) (ix2 ⟨256 * t.val + r, h⟩ l) := by
  unfold TB
  rw [pay2_at, reft_at, two_parts]
  have sw : ∀ a b c : EReal, a + b + c = b + c + a := by intros; abel
  refine (sw _ _ _).trans (congrArg₂ _ (congrArg₂ _ ?_ ?_) (congrArg₂ _ rfl (blk3 m c t r l h)))
  · exact Finset.sum_congr rfl fun x _ => congrArg₂ _ (blk0 m c t r x h)
      ((ld_lo _ l x).trans ((blk2 m c t l _).trans (congrArg (PADW (wI m c) l) (Fin.ext (by simp)))))
  · exact Finset.sum_congr rfl fun x _ => congrArg₂ _ (blk1 m c t r x h)
      ((ld_hi _ l x).trans (blk2 m c t l _))

open Cert.LnBack (CE MU SQ RH QQ CK KDX RDX LEN EPS MHALF TWO Fi)

/-- A row of a block. -/
abbrev brow (z : FVec Ideal S256x1024 .f32) (r : Fin 256) (k : Fin 1024) : EReal := z (ix2 r k)

theorem pay4_at (z : FVec Ideal S256x1024 .f32) (r : Fin 256) (l : Fin 1024) : k0_pay4 (F := Ideal) z (ix2 r l) = CE (brow z r) l := by
  unfold CE MU LEN
  pointwise [k0_pay4]
theorem pay5_at (z : FVec Ideal S256x1024 .f32) (r : Fin 256) : k0_pay5 (F := Ideal) z (ix2 r 0) = SQ (brow z r) := by
  unfold SQ
  simp only [← pay4_at]
  unfold LEN EPS
  pointwise [k0_pay5]
theorem pay6_at (z : FVec Ideal S256x1024 .f32) (r : Fin 256) : k0_pay6 (F := Ideal) z (ix2 r 0) = RH (brow z r) := by
  unfold RH
  rw [← pay5_at]
  pointwise [k0_pay6]
theorem pay8_at (z : FVec Ideal S256x1024 .f32) (r : Fin 256) (l : Fin 1024) : k0_pay8 (F := Ideal) z (ix2 r l) = CE (brow z r) l * RH (brow z r) := by
  rw [← pay4_at, ← pay6_at]
  pointwise [k0_pay8]
theorem pay9_at (T : FVec Ideal S256x1024 .f32) (l : Fin 1024) : k0_pay9 T (ix2 0 l) = ∑ r : Fin 256, T (ix2 r l) := by
  pointwise [k0_pay9]
theorem pay1_at (a : FVec Ideal S1x1024 .f32) (x : Vec Ideal S1x1024 .f32) (l : Fin 1024) : k0_pay1 a x (ix2 0 l) = x (ix2 0 l) + a (ix2 0 l) := by
  pointwise [k0_pay1]
theorem pay13_at (T z : FVec Ideal S256x1024 .f32) (x : Vec Ideal S1x1024 .f32) (l : Fin 1024) :
    k0_pay13 T (k0_pay8 z) x (ix2 0 l) = x (ix2 0 l) + ∑ r : Fin 256, CE (brow z r) l * RH (brow z r) * T (ix2 r l) := by
  simp only [← pay8_at]
  pointwise [k0_pay13]
theorem pay10_at (T z : FVec Ideal S256x1024 .f32) (g : FVec Ideal S1x1024 .f32) (r : Fin 256) (l : Fin 1024) :
    k0_pay10 T (k0_pay3 g) (k0_pay4 z) (k0_pay6 z) (k0_pay7 z) (ix2 r l) = KDX (brow z r) (fun k => T (ix2 r k) * g (ix2 0 k)) l := by
  unfold KDX CK QQ
  simp only [← pay4_at, ← pay6_at, ← pay5_at]
  unfold LEN MHALF
  pointwise [k0_pay10, k0_pay3, k0_pay7]
  simp only [Fin.sum_univ_one]

theorem pay11_at (l : Fin 1024) : k0_pay11 (F := Ideal) (ix2 0 l) = 0 := by
  pointwise [k0_pay11]
theorem pay12_at (l : Fin 1024) : k0_pay12 (F := Ideal) (ix2 0 l) = 0 := by
  pointwise [k0_pay12]

theorem out6 (c : Dev nD) (t : Fin cfg0.N) (r : Fin 256) (l : Fin 1024) :
    (outsAt0 m c t.val t.isLt).1 (ix2 r l) = KDX (brow (ZB m c t) r) (fun k => TB m c t (ix2 r k) * GB m c t (ix2 0 k)) l := by
  refine Eq.trans ?_ (pay10_at _ _ _ r l)
  by_cases h : t.val % 32 = 0
  · rw [outsAt0_A m c t h]
    frame_out
    rfl
  · rw [outsAt0_B m c t h]
    frame_out
    rfl

/-- What point `t` adds to the gain's and to the shift's gradient. -/
def GTERM (c : Dev nD) (t : Fin cfg0.N) (j : S1x1024.Idx) : EReal :=
  ∑ r : Fin 256, CE (brow (ZB m c t) r) (j 1) * RH (brow (ZB m c t) r) * TB m c t (ix2 r (j 1))
def BTERM (c : Dev nD) (t : Fin cfg0.N) (j : S1x1024.Idx) : EReal := ∑ r : Fin 256, TB m c t (ix2 r (j 1))

theorem dg_A (c : Dev nD) (t : Fin cfg0.N) (h : t.val % 32 = 0) (j : S1x1024.Idx) :
    (outsAt0 m c t.val t.isLt).2.1 j = 0 + GTERM m c t j := by
  obtain ⟨l, rfl⟩ : ∃ l : Fin 1024, j = ix2 0 l := ⟨j 1, (eq_ix2 j).trans (congrArg₂ ix2 (Subsingleton.elim _ _) rfl)⟩
  rw [outsAt0_A m c t h]
  frame_out
  exact (pay13_at _ _ _ l).trans (congrArg₂ _ (pay11_at l) rfl)
theorem dg_B (c : Dev nD) (t : Fin cfg0.N) (h : ¬t.val % 32 = 0) (j : S1x1024.Idx) :
    (outsAt0 m c t.val t.isLt).2.1 j = (outsAt0 m c (t.val - 1) (Nat.lt_of_le_of_lt (Nat.sub_le _ _) t.isLt)).2.1 j + GTERM m c t j := by
  obtain ⟨l, rfl⟩ : ∃ l : Fin 1024, j = ix2 0 l := ⟨j 1, (eq_ix2 j).trans (congrArg₂ ix2 (Subsingleton.elim _ _) rfl)⟩
  rw [outsAt0_B m c t h]
  frame_out
  exact pay13_at _ _ _ l
theorem db_A (c : Dev nD) (t : Fin cfg0.N) (h : t.val % 32 = 0) (j : S1x1024.Idx) :
    (outsAt0 m c t.val t.isLt).2.2 j = 0 + BTERM m c t j := by
  obtain ⟨l, rfl⟩ : ∃ l : Fin 1024, j = ix2 0 l := ⟨j 1, (eq_ix2 j).trans (congrArg₂ ix2 (Subsingleton.elim _ _) rfl)⟩
  rw [outsAt0_A m c t h]
  frame_out
  exact (pay1_at _ _ l).trans (congrArg₂ _ (pay12_at l) (pay9_at _ l))
theorem db_B (c : Dev nD) (t : Fin cfg0.N) (h : ¬t.val % 32 = 0) (j : S1x1024.Idx) :
    (outsAt0 m c t.val t.isLt).2.2 j = (outsAt0 m c (t.val - 1) (Nat.lt_of_le_of_lt (Nat.sub_le _ _) t.isLt)).2.2 j + BTERM m c t j := by
  obtain ⟨l, rfl⟩ : ∃ l : Fin 1024, j = ix2 0 l := ⟨j 1, (eq_ix2 j).trans (congrArg₂ ix2 (Subsingleton.elim _ _) rfl)⟩
  rw [outsAt0_B m c t h]
  frame_out
  exact (pay1_at _ _ l).trans (congrArg₂ _ rfl (pay9_at _ l))

theorem zrow (c : Dev nD) (t : Fin cfg0.N) (r : Fin 256) (h : 256 * t.val + r < 8192) :
    brow (ZB m c t) r = Cert.LnBack.row (zIn m c) ⟨256 * t.val + r, h⟩ :=
  funext fun k => blk4 m c t r k h

theorem dg_last (c : Dev nD) (t : Fin cfg0.N) (h : t.val % 32 = 31) (l : Fin 1024) :
    (outsAt0 m c t.val t.isLt).2.1 (ix2 0 l) = Cert.LnBack.DGA (REFT (CAT (dS m c) (dC m c)) (wI m c) (dZ m c)) (zIn m c) (ix2 0 l) := by
  refine (Pipeline.eq_sum_fin_of_reset_step_apply_of_flush (fun n hn => (outsAt0 m c n hn).2.1) 32 (fun _ => (0 : EReal)) (GTERM m c)
    (dg_A m c) (dg_B m c) t h (ix2 0 l)).trans ?_
  rw [zero_add, Cert.LnBack.dga_at]
  unfold GTERM
  have hN := (idx t).2.2.2.2.2.2.2.2.2.2
  refine Fin.sum_mul_add_congr fun s r hl => ?_
  have e : (⟨256 * (32 * (t.val / 32) + s.val) + r.val, by omega⟩ : Fin 8192) = ⟨s.val * 256 + r.val, hl⟩ := Fin.ext (by show 256 * (32 * (t.val / 32) + s.val) + r.val = s.val * 256 + r.val; omega)
  refine congrArg₂ _ (congrArg₂ _ (congrArg (fun z => CE z l) ?_) (congrArg RH ?_)) ?_
  · exact (zrow m c _ r (by show 256 * (32 * (t.val / 32) + s.val) + r.val < 8192; omega)).trans (congrArg _ e)
  · exact (zrow m c _ r (by show 256 * (32 * (t.val / 32) + s.val) + r.val < 8192; omega)).trans (congrArg _ e)
  · exact (ct_block m c _ r l (by show 256 * (32 * (t.val / 32) + s.val) + r.val < 8192; omega)).trans (congrArg _ (congrArg₂ ix2 e rfl))

theorem db_last (c : Dev nD) (t : Fin cfg0.N) (h : t.val % 32 = 31) (l : Fin 1024) :
    (outsAt0 m c t.val t.isLt).2.2 (ix2 0 l) = Cert.LnBack.COLS (REFT (CAT (dS m c) (dC m c)) (wI m c) (dZ m c)) (ix2 0 l) := by
  refine (Pipeline.eq_sum_fin_of_reset_step_apply_of_flush (fun n hn => (outsAt0 m c n hn).2.2) 32 (fun _ => (0 : EReal)) (BTERM m c)
    (db_A m c) (db_B m c) t h (ix2 0 l)).trans ?_
  rw [zero_add, Cert.LnBack.cols_at]
  unfold BTERM
  have hN := (idx t).2.2.2.2.2.2.2.2.2.2
  refine Fin.sum_mul_add_congr fun s r hl => ?_
  have e : (⟨256 * (32 * (t.val / 32) + s.val) + r.val, by omega⟩ : Fin 8192) = ⟨s.val * 256 + r.val, hl⟩ := Fin.ext (by show 256 * (32 * (t.val / 32) + s.val) + r.val = s.val * 256 + r.val; omega)
  exact (ct_block m c _ r l (by show 256 * (32 * (t.val / 32) + s.val) + r.val < 8192; omega)).trans (congrArg _ (congrArg₂ ix2 e rfl))

/-- From finite gradients the first output is the reference's gradient of the rows. -/
theorem fin7 (c : Dev nD) (hf : ∀ r k, Fi ((REFT (CAT (dS m c) (dC m c)) (wI m c) (dZ m c)) (ix2 r k) * (gIn m c) (ix1 k))) :
    (dats m 0 c).arrAt 7 (cfgs 0).N = Cert.LnBack.DXA (REFT (CAT (dS m c) (dC m c)) (wI m c) (dZ m c)) (zIn m c) (gIn m c) := by
  refine (dats m 0 c).arrAt_eq_of_covers 7 _ (by decide +kernel) fun t _ y => ?_
  blk_simp
  rw [after0_7]
  obtain ⟨r, l, rfl⟩ : ∃ (r : Fin 256) (l : Fin 1024), y = ix2 r l := ⟨_, _, eq_ix2 y⟩
  have hN := (idx t).2.2.2.2.2.2.2.2.2.2
  have hr : 256 * t.val + r.val < 8192 := by omega
  have hd : (fun k => TB m c t (ix2 r k) * GB m c t (ix2 0 k)) = fun k => (REFT (CAT (dS m c) (dC m c)) (wI m c) (dZ m c)) (ix2 ⟨256 * t.val + r.val, hr⟩ k) * (gIn m c) (ix1 k) :=
    funext fun k => congrArg₂ _ (ct_block m c t r k hr) (blk5 m c t k)
  refine (out6 m c t r l).trans ?_
  rw [zrow m c t r hr, hd, Cert.LnBack.kdx_eq _ _ (hf _), ← Cert.LnBack.dxa_at]
  blk_ext [idx t]

theorem fin8 (c : Dev nD) : (dats m 0 c).arrAt 8 (cfgs 0).N = Cert.LnBack.DGA (REFT (CAT (dS m c) (dC m c)) (wI m c) (dZ m c)) (zIn m c) := by
  refine (dats m 0 c).arrAt_eq_of_covers 8 _ (by decide +kernel) fun t hf y => ?_
  have h7 : t.val % 32 = 31 := (flush0_8 t).mp hf
  blk_simp
  rw [after0_8]
  obtain ⟨l, rfl⟩ : ∃ l : Fin 1024, y = ix2 0 l := ⟨y 1, (eq_ix2 y).trans (congrArg₂ ix2 (Subsingleton.elim _ _) rfl)⟩
  refine (dg_last m c t h7 l).trans ?_
  blk_ext [idx t]

theorem fin9 (c : Dev nD) : (dats m 0 c).arrAt 9 (cfgs 0).N = Cert.LnBack.COLS (REFT (CAT (dS m c) (dC m c)) (wI m c) (dZ m c)) := by
  refine (dats m 0 c).arrAt_eq_of_covers 9 _ (by decide +kernel) fun t hf y => ?_
  have h7 : t.val % 32 = 31 := (flush0_9 t).mp hf
  blk_simp
  rw [after0_9]
  obtain ⟨l, rfl⟩ : ∃ l : Fin 1024, y = ix2 0 l := ⟨y 1, (eq_ix2 y).trans (congrArg₂ ix2 (Subsingleton.elim _ _) rfl)⟩
  refine (db_last m c t h7 l).trans ?_
  blk_ext [idx t]

end Cert.ProjDxLnIdeal.Hand
-- ==== Proof.ProjDxLnClaim.lean ====
module
public import proofs.«01_k».proof.Defs
public import proofs.«01_k».proof.Proof.Gen.ProjDxLnIdeal
public import proofs.«01_k».proof.Proof.Gen.ProjDxLnRefIdeal
public import proofs.«01_k».proof.Proof.ProjDxLnFinal
public import proofs.«01_k».proof.Proof.FfnDxLnClaim
public import Idealize.ShloMosaic.Lib.Claim
public import Idealize.ShloMosaic.Lib.ReduceAll

/-! The gradient of the layer norm in front of the input projection: kernel and reference end with the same arrays, from finite gradients, weight and gain. -/

@[expose] public section
set_option maxRecDepth 16384
noncomputable section
namespace Cert.Proof
open Idealize.ShloMosaic Idealize.SL.Sem
open Cert.LnBack (Fi)

/-- The reference's frame: its run, and no semaphore is declared. -/
theorem pdl_reference : Cert.quiescent_ProjDxLnRefIdeal := by
  intro m g _
  exact (θ_run Cert.ProjDxLnRefIdeal.defs _ _).mono
    (fun r h => ⟨fun c => (h c).2.2.2, sem_eq_zero_of_no_sems (by decide) r.2⟩)
    (Cert.ProjDxLnRefIdeal.Value.run m g)

theorem pdl_reference_finite [Cert.Pre_proj_dx_finite.Facts] : Cert.quiescent_ProjDxLnRefIdeal_pre_proj_dx_finite :=
  fun m g _ => pdl_reference m g trivial

/-- The shapes the precondition's operations state. -/
theorem pdl_facts : Cert.Pre_proj_dx_finite.Facts where
  slices_S8192x2048_S8192x1952_0_0 := by decide
  bitsLt_bf16_f32 := by decide
  bcast_S_S8192x1952 := by decide
  reducesTo_S8192x1952_S_d0_1 := by decide
  h_S_ := by decide
  bcast_S_S8192x1024 := by decide
  reducesTo_S8192x1024_S_d0_1 := by decide
  bcast_S_S1024x2976 := by decide
  reducesTo_S1024x2976_S_d0_1 := by decide
  bcast_S_S1024 := by decide
  reducesTo_S1024_S_d0 := by decide

/-- Under the precondition the gradient times the gain is finite. -/
theorem pdl_fin [Cert.Pre_proj_dx_finite.Facts] (m : (ℓ : Loc Cert.ProjDxLnIdeal.nD Cert.ProjDxLnIdeal.τ Cert.ProjDxLnIdeal.sig) → Buf (Elt Ideal) ℓ)
    (h : Cert.Pre_ProjDxLnIdeal_proj_dx_finite m) (c : Dev Cert.ProjDxLnIdeal.nD) (r : Fin 8192) (k : Fin 1024) :
    Fi (Cert.ProjDxLnIdeal.Hand.REFT (Cert.ProjDxLnIdeal.Hand.CAT (Cert.ProjDxLnIdeal.Hand.dS m c) (Cert.ProjDxLnIdeal.Hand.dC m c)) (Cert.ProjDxLnIdeal.Hand.wI m c) (Cert.ProjDxLnIdeal.Hand.dZ m c) (ix2 r k)
      * Cert.ProjDxLnIdeal.Hand.gIn m c (ix1 k)) := by
  have hj := congrFun (h c) ix0
  obtain ⟨h1, h5⟩ := IntOp.andi_eq_one.1 hj
  obtain ⟨h1, h4⟩ := IntOp.andi_eq_one.1 h1
  obtain ⟨h1, h3⟩ := IntOp.andi_eq_one.1 h1
  obtain ⟨h1, h2⟩ := IntOp.andi_eq_one.1 h1
  rw [Cert.ProjDxLnIdeal.Hand.reft_at]
  refine Cert.LnBack.fi_mul (Cert.LnBack.fi_add (Cert.LnBack.fi_sum _ _ fun x => Cert.LnBack.fi_mul ?_ ?_) (Cert.LnBack.fi_mul alpha_fi ?_)) ?_
  · by_cases hx : (x : ℕ) < 1952
    · rw [Cert.ProjDxLnIdeal.Hand.cat_lo _ _ r x hx]
      have e := below_inf (Host.reduce_andi_all _ _ _ _ _ h1 (ix2 r ⟨x, hx⟩))
      have q : extractStridedSlice Cert.Pre_proj_dx_finite.S8192x1952 ![0, 0] (Cert.ProjDxLnIdeal.Hand.dS m c) Cert.Pre_proj_dx_finite.Facts.slices_S8192x2048_S8192x1952_0_0 (ix2 r ⟨x, hx⟩)
          = Cert.ProjDxLnIdeal.Hand.dS m c (ix2 r ⟨x, by omega⟩) := by pointwise
      exact ⟨fun he => e.1 (q.trans he), fun he => e.2 (q.trans he)⟩
    · rw [Cert.ProjDxLnIdeal.Hand.cat_hi _ _ r x hx]
      exact below_inf (Host.reduce_andi_all _ _ _ _ _ h2 _)
  · exact below_inf (Host.reduce_andi_all _ _ _ _ _ h3 _)
  · exact below_inf (Host.reduce_andi_all _ _ _ _ _ h4 _)
  · exact below_inf (Host.reduce_andi_all _ _ _ _ _ h5 _)

/-- The kernel and the reference end with equal arrays. -/
theorem pdl_algebraic [Cert.Pre_proj_dx_finite.Facts] : Cert.algebraic_ProjDxLnIdeal_ProjDxLnRefIdeal_pre_proj_dx_finite := by
  intro m g m' g' hpre hagree
  refine ⟨fun c => (Cert.ProjDxLnIdeal.Gen.dats m 0 c).arrAt 7 Cert.ProjDxLnIdeal.cfg0.N,
    fun c => (Cert.ProjDxLnIdeal.Gen.dats m 0 c).arrAt 8 Cert.ProjDxLnIdeal.cfg0.N,
    fun c => (Cert.ProjDxLnIdeal.Gen.dats m 0 c).arrAt 9 Cert.ProjDxLnIdeal.cfg0.N,
    Cert.ProjDxLnIdeal.Value.run_blocks m g, ?_⟩
  refine (θ_run Cert.ProjDxLnRefIdeal.defs _ _).mono (fun r h c => ?_)
    (Cert.ProjDxLnRefIdeal.Value.run m' g')
  obtain ⟨e0, e1, e2, e3, e4, e5, e6⟩ := hagree c
  refine ⟨(h c).1.trans ?_, (h c).2.1.trans ?_, (h c).2.2.1.trans ?_, (h c).2.2.2⟩
  · refine Eq.trans ?_ (Cert.ProjDxLnIdeal.Hand.fin7 m c (pdl_fin m hpre c)).symm
    unfold Cert.ProjDxLnRefIdeal.Value.res_main_v71
    rw [e0, e1, e2, e3, e4, e5]
    rfl
  · refine Eq.trans ?_ (Cert.ProjDxLnIdeal.Hand.fin8 m c).symm
    rw [e0, e1, e2, e3, e4]
    rfl
  · refine Eq.trans ?_ (Cert.ProjDxLnIdeal.Hand.fin9 m c).symm
    rw [e0, e1, e2, e3]
    rfl

end Cert.Proof
-- ==== Proof.LossLnFinal.lean ====
module
public import proofs.«01_k».proof.Proof.Gen.LossLnIdeal.Value
public import proofs.«01_k».proof.Proof.Gen.LossLnRefIdeal.Run
public import proofs.«01_k».proof.Proof.LnBackRef
public import Idealize.ShloMosaic.Lib.Pipeline.ValueKit
public import Idealize.ShloMosaic.Lib.Pointwise

/-! The step's last forward call and its gradient: the second feed-forward block's output with the residual and the layer norm, the squared loss against the targets, and the gradients of the residual sum, the gain and the shift; one block of rows at a time, the sums added up over the blocks. -/

@[expose] public section
set_option maxRecDepth 16384
noncomputable section
namespace Cert.LossLnIdeal.Hand
open Cert.LossLnIdeal Cert.LossLnIdeal.Gen Idealize.ShloMosaic Idealize.ShloMosaic.TcCoe Idealize.SL.Sem
open Idealize.ShloMosaic.Pipeline (Dat)
open Cert.LnBack (CE MU SQ RH QQ CK KDX RDX LEN EPS MHALF TWO Fi CEN RHA)
variable (m : (ℓ : Loc nD τ sig) → Buf (Elt Ideal) ℓ)

/-- The arguments, as device `c` holds them. -/
def aIn (c : Dev nD) : FVec Ideal S8192x2816 .bf16 := m ((c : Thread nD τ).loc main_arg0)
def wO (c : Dev nD) : FVec Ideal S2816x1024 .f32 := m ((c : Thread nD τ).loc main_arg1)
def xIn (c : Dev nD) : FVec Ideal S8192x1024 .f32 := m ((c : Thread nD τ).loc main_arg2)
def gIn (c : Dev nD) : FVec Ideal S1024 .f32 := m ((c : Thread nD τ).loc main_arg3)
def bIn (c : Dev nD) : FVec Ideal S1024 .f32 := m ((c : Thread nD τ).loc main_arg4)
def tIn (c : Dev nD) : FVec Ideal S8192x1024 .f32 := m ((c : Thread nD τ).loc main_arg5)

/-- The reference's residual sum. -/
def REFZ (A : FVec Ideal S8192x2816 .bf16) (W : FVec Ideal S2816x1024 .f32) (X : FVec Ideal S8192x1024 .f32) : FVec Ideal S8192x1024 .f32 :=
  addf (mulf (broadcastInDim Cert.LossLnRefIdeal.S8192x1024 ![] Cert.LossLnRefIdeal.Gen.bcast_S_S8192x1024 (constant Cert.LossLnRefIdeal.S_ .f32 0x3F9837F0#32)) X)
    (mulf (broadcastInDim Cert.LossLnRefIdeal.S8192x1024 ![] Cert.LossLnRefIdeal.Gen.bcast_S_S8192x1024 (constant Cert.LossLnRefIdeal.S_ .f32 0x3F000000#32))
      (Host.dotGeneral Cert.LossLnRefIdeal.dot_S8192x2816_S2816x1024_S8192x1024_1_0_0_1_n_n none (extf .f32 A Cert.LossLnRefIdeal.Gen.bitsLt_bf16_f32) W))
/-- The reference's normalised output less the targets. -/
def DIF (Z : FVec Ideal S8192x1024 .f32) (g b : FVec Ideal S1024 .f32) (Y : FVec Ideal S8192x1024 .f32) : FVec Ideal S8192x1024 .f32 :=
  subf (addf (mulf (mulf (CEN Z) (broadcastInDim Cert.LossLnRefIdeal.S8192x1024 ![0, 1] Cert.LossLnRefIdeal.Gen.bcast_S8192x1_S8192x1024_0_1 (RHA (CEN Z))))
    (broadcastInDim Cert.LossLnRefIdeal.S8192x1024 ![0, 1] Cert.LossLnRefIdeal.Gen.bcast_S1x1024_S8192x1024_0_1 (broadcastInDim Cert.LossLnRefIdeal.S1x1024 ![1] Cert.LossLnRefIdeal.Gen.bcast_S1024_S1x1024_1 g)))
    (broadcastInDim Cert.LossLnRefIdeal.S8192x1024 ![0, 1] Cert.LossLnRefIdeal.Gen.bcast_S1x1024_S8192x1024_0_1 (broadcastInDim Cert.LossLnRefIdeal.S1x1024 ![1] Cert.LossLnRefIdeal.Gen.bcast_S1024_S1x1024_1 b))) Y
/-- The reference's gradient of the normalised output. -/
def LCT (D : FVec Ideal S8192x1024 .f32) : FVec Ideal S8192x1024 .f32 :=
  mulf (broadcastInDim Cert.LossLnRefIdeal.S8192x1024 ![0] Cert.LossLnRefIdeal.Gen.bcast_S8192_S8192x1024_0 (Host.divf (broadcastInDim Cert.LossLnRefIdeal.S8192 ![] Cert.LossLnRefIdeal.Gen.bcast_S_S8192
      (mulf (constant Cert.LossLnRefIdeal.S_ .f32 0x3F000000#32) (constant Cert.LossLnRefIdeal.S_ .f32 0x3F800000#32)))
      (broadcastInDim Cert.LossLnRefIdeal.S8192 ![] Cert.LossLnRefIdeal.Gen.bcast_S_S8192 (constant Cert.LossLnRefIdeal.S_ .f32 0x44800000#32))))
    (mulf (broadcastInDim Cert.LossLnRefIdeal.S8192x1024 ![] Cert.LossLnRefIdeal.Gen.bcast_S_S8192x1024 (constant Cert.LossLnRefIdeal.S_ .f32 0x40000000#32)) D)
/-- The reference's loss, at every entry of its array. -/
def LOSSA (D : FVec Ideal S8192x1024 .f32) : FVec Ideal S8x128 .f32 :=
  broadcastInDim Cert.LossLnRefIdeal.S8x128 ![] Cert.LossLnRefIdeal.Gen.bcast_S_S8x128 (mulf (constant Cert.LossLnRefIdeal.S_ .f32 0x3F000000#32)
    (Host.reduceAdd (Host.divf (Host.reduceAdd (mulf D D) (constant Cert.LossLnRefIdeal.S_ .f32 0x00000000#32) Cert.LossLnRefIdeal.Gen.reducesTo_S8192x1024_S8192_d1 Cert.LossLnRefIdeal.Gen.h_S_)
      (broadcastInDim Cert.LossLnRefIdeal.S8192 ![] Cert.LossLnRefIdeal.Gen.bcast_S_S8192 (constant Cert.LossLnRefIdeal.S_ .f32 0x44800000#32))) (constant Cert.LossLnRefIdeal.S_ .f32 0x00000000#32) Cert.LossLnRefIdeal.Gen.reducesTo_S8192_S_d0 Cert.LossLnRefIdeal.Gen.h_S_))

theorem refz_at (A : FVec Ideal S8192x2816 .bf16) (W : FVec Ideal S2816x1024 .f32) (X : FVec Ideal S8192x1024 .f32) (r : Fin 8192) (l : Fin 1024) :
    REFZ A W X (ix2 r l) = Ideal.ofBits FTy.f32 0x3F9837F0#32 * X (ix2 r l) + Ideal.ofBits FTy.f32 0x3F000000#32 * ∑ k : Fin 2816, A (ix2 r k) * W (ix2 k l) := by
  pointwise [REFZ]
theorem dif_at (Z : FVec Ideal S8192x1024 .f32) (g b : FVec Ideal S1024 .f32) (Y : FVec Ideal S8192x1024 .f32) (r : Fin 8192) (l : Fin 1024) :
    DIF Z g b Y (ix2 r l) = CE (Cert.LnBack.row Z r) l * RH (Cert.LnBack.row Z r) * g (ix1 l) + b (ix1 l) - Y (ix2 r l) := by
  rw [← Cert.LnBack.cen_at, ← Cert.LnBack.rha_at]
  pointwise [DIF]
/-- The constant one over the row's length. -/
theorem scale : Ideal.ofBits .f32 0x3A800000#32 = ((1 / 1024 : ℝ) : EReal) := by
  simp [Ideal.ofBits, Ideal.ieee, -EReal.coe_mul]; norm_num
theorem unit : Ideal.ofBits .f32 0x3F800000#32 = ((1 : ℝ) : EReal) := by
  simp [Ideal.ofBits, Ideal.ieee, -EReal.coe_mul]; norm_num
/-- Half of a mean square's gradient is the difference over the row's length. -/
theorem half_grad (d : EReal) :
    Ideal.div (Ideal.ofBits .f32 0x3F000000#32 * Ideal.ofBits .f32 0x3F800000#32) LEN * (TWO * d) = d * Ideal.ofBits .f32 0x3A800000#32 := by
  rw [Cert.LnBack.div_len, scale, unit, Cert.Laws.half, Cert.LnBack.two_eq, ← mul_assoc, mul_comm d, ← EReal.coe_mul, ← EReal.coe_mul, ← EReal.coe_mul]
  norm_num
theorem lct_at (D : FVec Ideal S8192x1024 .f32) (r : Fin 8192) (l : Fin 1024) :
    LCT D (ix2 r l) = D (ix2 r l) * Ideal.ofBits .f32 0x3A800000#32 := by
  rw [← half_grad]
  unfold LEN TWO
  pointwise [LCT]
theorem lossa_at (D : FVec Ideal S8192x1024 .f32) (j : S8x128.Idx) :
    LOSSA D j = ∑ r : Fin 8192, Ideal.ofBits .f32 0x3F000000#32 * Ideal.div (∑ k : Fin 1024, D (ix2 r k) * D (ix2 r k)) LEN := by
  rw [Cert.Laws.half, ← Cert.Laws.scale_sum _ (by norm_num), ← Cert.Laws.half]
  unfold LEN
  pointwise [LOSSA]

theorem idx : ∀ t : Fin cfg0.N, win0_0.index t = ![t.val, 0] ∧ win0_1.index t = ![0, 0] ∧ win0_2.index t = ![t.val, 0] ∧ win0_3.index t = ![0, 0]
    ∧ win0_4.index t = ![0, 0] ∧ win0_5.index t = ![t.val, 0] ∧ win0_6.index t = ![t.val, 0] ∧ win0_7.index t = ![0, 0] ∧ win0_8.index t = ![0, 0]
    ∧ win0_9.index t = ![0, 0] ∧ t.val < 16 :=
  (by decide +kernel : ∀ t : Fin grid0.N, _)

theorem weight (c : Dev nD) (k : Fin 2816) (l : Fin 1024) :
    (show FVec Ideal S2816x1024 .bf16 from V m c (Pipeline.arrRef spec0 1)) (ix2 k l) = wO m c (ix2 k l) := by
  entry_read
  rfl
theorem gain (c : Dev nD) (l : Fin 1024) :
    (show FVec Ideal S1x1024 .f32 from V m c (Pipeline.arrRef spec0 3)) (ix2 0 l) = gIn m c (ix1 l) := by
  entry_read
  pointwise
  rfl
theorem shift (c : Dev nD) (l : Fin 1024) :
    (show FVec Ideal S1x1024 .f32 from V m c (Pipeline.arrRef spec0 4)) (ix2 0 l) = bIn m c (ix1 l) := by
  entry_read
  pointwise
  rfl

theorem blk0 (c : Dev nD) (t : Fin cfg0.N) (r : Fin 512) (k : Fin 2816) (h : 512 * t.val + r < 8192) :
    (show FVec Ideal S512x2816 .bf16 from iblk m c 0 t) (ix2 r k) = aIn m c (ix2 ⟨512 * t.val + r, h⟩ k) := by
  show iblk m c 0 t (ix2 r k) = m ((c : Thread nD τ).loc main_arg0) _
  blk_ext [iblk, V, idx t]
theorem blk1 (c : Dev nD) (t : Fin cfg0.N) (k : Fin 2816) (l : Fin 1024) :
    (show FVec Ideal S2816x1024 .bf16 from iblk m c 1 t) (ix2 k l) = wO m c (ix2 k l) := by
  refine Eq.trans ?_ (weight m c k l)
  show iblk m c 1 t (ix2 k l) = V m c (Pipeline.arrRef spec0 1) (ix2 k l)
  blk_ext [iblk, idx t]
theorem blk2 (c : Dev nD) (t : Fin cfg0.N) (r : Fin 512) (k : Fin 1024) (h : 512 * t.val + r < 8192) :
    (show FVec Ideal S512x1024 .f32 from iblk m c 2 t) (ix2 r k) = xIn m c (ix2 ⟨512 * t.val + r, h⟩ k) := by
  show iblk m c 2 t (ix2 r k) = m ((c : Thread nD τ).loc main_arg2) _
  blk_ext [iblk, V, idx t]
theorem blk3 (c : Dev nD) (t : Fin cfg0.N) (l : Fin 1024) :
    (show FVec Ideal S1x1024 .f32 from iblk m c 3 t) (ix2 0 l) = gIn m c (ix1 l) := by
  refine Eq.trans ?_ (gain m c l)
  show iblk m c 3 t (ix2 0 l) = V m c (Pipeline.arrRef spec0 3) (ix2 0 l)
  blk_ext [iblk, idx t]
theorem blk4 (c : Dev nD) (t : Fin cfg0.N) (l : Fin 1024) :
    (show FVec Ideal S1x1024 .f32 from iblk m c 4 t) (ix2 0 l) = bIn m c (ix1 l) := by
  refine Eq.trans ?_ (shift m c l)
  show iblk m c 4 t (ix2 0 l) = V m c (Pipeline.arrRef spec0 4) (ix2 0 l)
  blk_ext [iblk, idx t]

theorem blk5 (c : Dev nD) (t : Fin cfg0.N) (r : Fin 512) (k : Fin 1024) (h : 512 * t.val + r < 8192) :
    (show FVec Ideal S512x1024 .f32 from iblk m c 5 t) (ix2 r k) = tIn m c (ix2 ⟨512 * t.val + r, h⟩ k) := by
  show iblk m c 5 t (ix2 r k) = m ((c : Thread nD τ).loc main_arg5) _
  blk_ext [iblk, V, idx t]

/-- A row of a block. -/
abbrev brow (z : FVec Ideal S512x1024 .f32) (r : Fin 512) (k : Fin 1024) : EReal := z (ix2 r k)
/-- The residual sum over one block. -/
def ZF (x : FVec Ideal S512x1024 .f32) (a : FVec Ideal S512x2816 .bf16) (w : FVec Ideal S2816x1024 .bf16) : FVec Ideal S512x1024 .f32 := fun j =>
  Ideal.ofBits FTy.f32 0x3F9837F0#32 * x (ix2 (j 0) (j 1)) + Ideal.ofBits FTy.f32 0x3F000000#32 * ∑ k : Fin 2816, a (ix2 (j 0) k) * w (ix2 k (j 1))
theorem zf_at (x : FVec Ideal S512x1024 .f32) (a : FVec Ideal S512x2816 .bf16) (w : FVec Ideal S2816x1024 .bf16) (r : Fin 512) (l : Fin 1024) :
    ZF x a w (ix2 r l) = Ideal.ofBits FTy.f32 0x3F9837F0#32 * x (ix2 r l) + Ideal.ofBits FTy.f32 0x3F000000#32 * ∑ k : Fin 2816, a (ix2 r k) * w (ix2 k l) := rfl

section payloads
variable (x : FVec Ideal S512x1024 .f32) (a : FVec Ideal S512x2816 .bf16) (w : FVec Ideal S2816x1024 .bf16) (g b : FVec Ideal S1x1024 .f32) (y t : FVec Ideal S512x1024 .f32)

theorem cen_blk (r : Fin 512) (l : Fin 1024) : k0_pay4 (F := Ideal) x a w (ix2 r l) = CE (brow (ZF x a w) r) l := by
  unfold CE MU LEN brow
  simp only [zf_at]
  pointwise [k0_pay4]
theorem sq_blk (r : Fin 512) : k0_pay5 (F := Ideal) x a w (ix2 r 0) = SQ (brow (ZF x a w) r) := by
  unfold SQ
  simp only [← cen_blk]
  unfold LEN EPS
  pointwise [k0_pay5]
theorem rh_blk (r : Fin 512) : k0_pay6 (F := Ideal) x a w (ix2 r 0) = RH (brow (ZF x a w) r) := by
  unfold RH
  rw [← sq_blk]
  pointwise [k0_pay6]
theorem mh_blk (r : Fin 512) : k0_pay7 (F := Ideal) x a w (ix2 r 0) = MHALF * Ideal.div (RH (brow (ZF x a w) r)) (SQ (brow (ZF x a w) r)) := by
  rw [← rh_blk, ← sq_blk]
  unfold MHALF
  pointwise [k0_pay7]
theorem xhat_blk (r : Fin 512) (l : Fin 1024) : k0_pay8 (F := Ideal) x a w (ix2 r l) = CE (brow (ZF x a w) r) l * RH (brow (ZF x a w) r) := by
  rw [← cen_blk, ← rh_blk]
  pointwise [k0_pay8]
theorem norm_blk (r : Fin 512) (l : Fin 1024) :
    k0_pay9 (F := Ideal) x a w g b (ix2 r l) = CE (brow (ZF x a w) r) l * RH (brow (ZF x a w) r) * g (ix2 0 l) + b (ix2 0 l) := by
  rw [← xhat_blk]
  pointwise [k0_pay9, k0_pay3]
theorem dif_blk (r : Fin 512) (l : Fin 1024) : k0_pay10 (F := Ideal) y t (ix2 r l) = y (ix2 r l) - t (ix2 r l) := by
  pointwise [k0_pay10]
theorem ct_pay (r : Fin 512) (l : Fin 1024) : k0_pay11 (F := Ideal) y t (ix2 r l) = (y (ix2 r l) - t (ix2 r l)) * Ideal.ofBits .f32 0x3A800000#32 := by
  rw [← dif_blk]
  pointwise [k0_pay11]
theorem db_pay (l : Fin 1024) : k0_pay12 (F := Ideal) y t (ix2 0 l) = ∑ r : Fin 512, k0_pay11 (F := Ideal) y t (ix2 r l) := by
  pointwise [k0_pay12]
theorem dg_pay (v : FVec Ideal S1x1024 .f32) (l : Fin 1024) : k0_pay17 (F := Ideal) (k0_pay8 x a w) y t v (ix2 0 l)
    = v (ix2 0 l) + ∑ r : Fin 512, CE (brow (ZF x a w) r) l * RH (brow (ZF x a w) r) * k0_pay11 (F := Ideal) y t (ix2 r l) := by
  simp only [← xhat_blk]
  pointwise [k0_pay17]
theorem add_pay (d v : FVec Ideal S1x1024 .f32) (l : Fin 1024) : k0_pay1 (F := Ideal) d v (ix2 0 l) = v (ix2 0 l) + d (ix2 0 l) := by
  pointwise [k0_pay1]
theorem dx_pay (r : Fin 512) (l : Fin 1024) : k0_pay13 (F := Ideal) (k0_pay3 g) (k0_pay4 x a w) (k0_pay6 x a w) (k0_pay7 x a w) y t (ix2 r l)
    = KDX (brow (ZF x a w) r) (fun k => k0_pay11 (F := Ideal) y t (ix2 r k) * g (ix2 0 k)) l := by
  unfold KDX CK QQ
  simp only [← mh_blk]
  simp only [← cen_blk, ← rh_blk]
  unfold LEN
  pointwise [k0_pay13, k0_pay3]
  simp only [Fin.sum_univ_one]
theorem loss_pay (d : FVec Ideal S512x1024 .f32) (v : FVec Ideal S8x128 .f32) (j : S8x128.Idx) : k0_pay2 (F := Ideal) d v j
    = v j + ∑ r : Fin 512, Ideal.ofBits .f32 0x3F000000#32 * Ideal.div (∑ k : Fin 1024, d (ix2 r k) * d (ix2 r k)) LEN := by
  rw [Cert.Laws.half, ← Cert.Laws.scale_sum _ (by norm_num), ← Cert.Laws.half]
  unfold LEN
  pointwise [k0_pay2]
end payloads

theorem zero_g (l : Fin 1024) : k0_pay14 (F := Ideal) (ix2 0 l) = 0 := by
  pointwise [k0_pay14]
theorem zero_b (l : Fin 1024) : k0_pay15 (F := Ideal) (ix2 0 l) = 0 := by
  pointwise [k0_pay15]
theorem zero_l (j : S8x128.Idx) : k0_pay16 (F := Ideal) j = 0 := by
  pointwise [k0_pay16]

/-- Point `t`'s block of residual sums, of normalised outputs, of their gradients, and the gain. -/
abbrev ZB (c : Dev nD) (t : Fin cfg0.N) : FVec Ideal S512x1024 .f32 := ZF (iblk m c 2 t) (iblk m c 0 t) (iblk m c 1 t)
abbrev YB (c : Dev nD) (t : Fin cfg0.N) : FVec Ideal S512x1024 .f32 :=
  k0_pay9 (F := Ideal) (iblk m c 2 t) (iblk m c 0 t) (iblk m c 1 t) (iblk m c 3 t) (iblk m c 4 t)
abbrev TB (c : Dev nD) (t : Fin cfg0.N) : FVec Ideal S512x1024 .f32 := k0_pay11 (F := Ideal) (YB m c t) (iblk m c 5 t)
abbrev DB (c : Dev nD) (t : Fin cfg0.N) : FVec Ideal S512x1024 .f32 := k0_pay10 (F := Ideal) (YB m c t) (iblk m c 5 t)
abbrev GB (c : Dev nD) (t : Fin cfg0.N) : FVec Ideal S1x1024 .f32 := iblk m c 3 t

theorem zblk (c : Dev nD) (t : Fin cfg0.N) (r : Fin 512) (k : Fin 1024) (h : 512 * t.val + r < 8192) :
    ZB m c t (ix2 r k) = REFZ (aIn m c) (wO m c) (xIn m c) (ix2 ⟨512 * t.val + r, h⟩ k) := by
  refine (zf_at _ _ _ r k).trans (Eq.trans ?_ (refz_at _ _ _ _ _).symm)
  exact congrArg₂ _ (congrArg _ (blk2 m c t r k h)) (congrArg _ (Finset.sum_congr rfl fun x _ => congrArg₂ _ (blk0 m c t r x h) (blk1 m c t x k)))
theorem zrow (c : Dev nD) (t : Fin cfg0.N) (r : Fin 512) (h : 512 * t.val + r < 8192) :
    brow (ZB m c t) r = Cert.LnBack.row (REFZ (aIn m c) (wO m c) (xIn m c)) ⟨512 * t.val + r, h⟩ :=
  funext fun k => zblk m c t r k h

theorem dblk (c : Dev nD) (t : Fin cfg0.N) (r : Fin 512) (l : Fin 1024) (h : 512 * t.val + r < 8192) :
    DB m c t (ix2 r l) = (DIF (REFZ (aIn m c) (wO m c) (xIn m c)) (gIn m c) (bIn m c) (tIn m c)) (ix2 ⟨512 * t.val + r, h⟩ l) := by
  refine (dif_blk _ _ r l).trans (Eq.trans ?_ (dif_at _ _ _ _ _ _).symm)
  refine congrArg₂ _ ((norm_blk _ _ _ _ _ r l).trans (congrArg₂ _ (congrArg₂ _ ?_ (blk3 m c t l)) (blk4 m c t l))) (blk5 m c t r l h)
  exact congrArg (fun z => CE z l * RH z) (zrow m c t r h)
theorem ct_block (c : Dev nD) (t : Fin cfg0.N) (r : Fin 512) (l : Fin 1024) (h : 512 * t.val + r < 8192) :
    TB m c t (ix2 r l) = (LCT (DIF (REFZ (aIn m c) (wO m c) (xIn m c)) (gIn m c) (bIn m c) (tIn m c))) (ix2 ⟨512 * t.val + r, h⟩ l) := by
  refine (ct_pay _ _ r l).trans (Eq.trans ?_ (lct_at _ _ _).symm)
  exact congrArg (· * _) ((dif_blk _ _ r l).symm.trans (dblk m c t r l h))

theorem out6 (c : Dev nD) (t : Fin cfg0.N) (r : Fin 512) (l : Fin 1024) :
    (outsAt0 m c t.val t.isLt).1 (ix2 r l) = KDX (brow (ZB m c t) r) (fun k => TB m c t (ix2 r k) * GB m c t (ix2 0 k)) l := by
  refine Eq.trans ?_ (dx_pay _ _ _ _ _ _ r l)
  by_cases h : t.val % 16 = 0
  · rw [outsAt0_A m c t h]
    frame_out
  · rw [outsAt0_B m c t h]
    frame_out

/-- What point `t` adds to the gain's and to the shift's gradient. -/
def GTERM (c : Dev nD) (t : Fin cfg0.N) (j : S1x1024.Idx) : EReal :=
  ∑ r : Fin 512, CE (brow (ZB m c t) r) (j 1) * RH (brow (ZB m c t) r) * TB m c t (ix2 r (j 1))
def BTERM (c : Dev nD) (t : Fin cfg0.N) (j : S1x1024.Idx) : EReal := ∑ r : Fin 512, TB m c t (ix2 r (j 1))

theorem dg_A (c : Dev nD) (t : Fin cfg0.N) (h : t.val % 16 = 0) (j : S1x1024.Idx) :
    (outsAt0 m c t.val t.isLt).2.1 j = 0 + GTERM m c t j := by
  obtain ⟨l, rfl⟩ : ∃ l : Fin 1024, j = ix2 0 l := ⟨j 1, (eq_ix2 j).trans (congrArg₂ ix2 (Subsingleton.elim _ _) rfl)⟩
  rw [outsAt0_A m c t h]
  frame_out
  exact (dg_pay _ _ _ _ _ _ l).trans (congrArg₂ _ (zero_g l) rfl)
theorem dg_B (c : Dev nD) (t : Fin cfg0.N) (h : ¬t.val % 16 = 0) (j : S1x1024.Idx) :
    (outsAt0 m c t.val t.isLt).2.1 j = (outsAt0 m c (t.val - 1) (Nat.lt_of_le_of_lt (Nat.sub_le _ _) t.isLt)).2.1 j + GTERM m c t j := by
  obtain ⟨l, rfl⟩ : ∃ l : Fin 1024, j = ix2 0 l := ⟨j 1, (eq_ix2 j).trans (congrArg₂ ix2 (Subsingleton.elim _ _) rfl)⟩
  rw [outsAt0_B m c t h]
  frame_out
  exact dg_pay _ _ _ _ _ _ l
theorem db_A (c : Dev nD) (t : Fin cfg0.N) (h : t.val % 16 = 0) (j : S1x1024.Idx) :
    (outsAt0 m c t.val t.isLt).2.2.1 j = 0 + BTERM m c t j := by
  obtain ⟨l, rfl⟩ : ∃ l : Fin 1024, j = ix2 0 l := ⟨j 1, (eq_ix2 j).trans (congrArg₂ ix2 (Subsingleton.elim _ _) rfl)⟩
  rw [outsAt0_A m c t h]
  frame_out
  exact (add_pay _ _ l).trans (congrArg₂ _ (zero_b l) (db_pay _ _ l))
theorem db_B (c : Dev nD) (t : Fin cfg0.N) (h : ¬t.val % 16 = 0) (j : S1x1024.Idx) :
    (outsAt0 m c t.val t.isLt).2.2.1 j = (outsAt0 m c (t.val - 1) (Nat.lt_of_le_of_lt (Nat.sub_le _ _) t.isLt)).2.2.1 j + BTERM m c t j := by
  obtain ⟨l, rfl⟩ : ∃ l : Fin 1024, j = ix2 0 l := ⟨j 1, (eq_ix2 j).trans (congrArg₂ ix2 (Subsingleton.elim _ _) rfl)⟩
  rw [outsAt0_B m c t h]
  frame_out
  exact (add_pay _ _ l).trans (congrArg₂ _ rfl (db_pay _ _ l))

theorem dg_last (c : Dev nD) (t : Fin cfg0.N) (h : t.val % 16 = 15) (l : Fin 1024) :
    (outsAt0 m c t.val t.isLt).2.1 (ix2 0 l) = Cert.LnBack.DGA (LCT (DIF (REFZ (aIn m c) (wO m c) (xIn m c)) (gIn m c) (bIn m c) (tIn m c))) (REFZ (aIn m c) (wO m c) (xIn m c)) (ix2 0 l) := by
  refine (Pipeline.eq_sum_fin_of_reset_step_apply_of_flush (fun n hn => (outsAt0 m c n hn).2.1) 16 (fun _ => (0 : EReal)) (GTERM m c)
    (dg_A m c) (dg_B m c) t h (ix2 0 l)).trans ?_
  rw [zero_add, Cert.LnBack.dga_at]
  unfold GTERM
  have hN := (idx t).2.2.2.2.2.2.2.2.2.2
  refine Fin.sum_mul_add_congr fun s r hl => ?_
  have e : (⟨512 * (16 * (t.val / 16) + s.val) + r.val, by omega⟩ : Fin 8192) = ⟨s.val * 512 + r.val, hl⟩ := Fin.ext (by show 512 * (16 * (t.val / 16) + s.val) + r.val = s.val * 512 + r.val; omega)
  refine congrArg₂ _ (congrArg₂ _ (congrArg (fun z => CE z l) ?_) (congrArg RH ?_)) ?_
  · exact (zrow m c _ r (by show 512 * (16 * (t.val / 16) + s.val) + r.val < 8192; omega)).trans (congrArg _ e)
  · exact (zrow m c _ r (by show 512 * (16 * (t.val / 16) + s.val) + r.val < 8192; omega)).trans (congrArg _ e)
  · exact (ct_block m c _ r l (by show 512 * (16 * (t.val / 16) + s.val) + r.val < 8192; omega)).trans (congrArg _ (congrArg₂ ix2 e rfl))

theorem db_last (c : Dev nD) (t : Fin cfg0.N) (h : t.val % 16 = 15) (l : Fin 1024) :
    (outsAt0 m c t.val t.isLt).2.2.1 (ix2 0 l) = Cert.LnBack.COLS (LCT (DIF (REFZ (aIn m c) (wO m c) (xIn m c)) (gIn m c) (bIn m c) (tIn m c))) (ix2 0 l) := by
  refine (Pipeline.eq_sum_fin_of_reset_step_apply_of_flush (fun n hn => (outsAt0 m c n hn).2.2.1) 16 (fun _ => (0 : EReal)) (BTERM m c)
    (db_A m c) (db_B m c) t h (ix2 0 l)).trans ?_
  rw [zero_add, Cert.LnBack.cols_at]
  unfold BTERM
  have hN := (idx t).2.2.2.2.2.2.2.2.2.2
  refine Fin.sum_mul_add_congr fun s r hl => ?_
  have e : (⟨512 * (16 * (t.val / 16) + s.val) + r.val, by omega⟩ : Fin 8192) = ⟨s.val * 512 + r.val, hl⟩ := Fin.ext (by show 512 * (16 * (t.val / 16) + s.val) + r.val = s.val * 512 + r.val; omega)
  exact (ct_block m c _ r l (by show 512 * (16 * (t.val / 16) + s.val) + r.val < 8192; omega)).trans (congrArg _ (congrArg₂ ix2 e rfl))

/-- From finite gradients the first output is the reference's gradient of the rows. -/
theorem fin6 (c : Dev nD) (hf : ∀ r k, Fi ((LCT (DIF (REFZ (aIn m c) (wO m c) (xIn m c)) (gIn m c) (bIn m c) (tIn m c))) (ix2 r k) * (gIn m c) (ix1 k))) :
    (dats m 0 c).arrAt 6 (cfgs 0).N = Cert.LnBack.DXA (LCT (DIF (REFZ (aIn m c) (wO m c) (xIn m c)) (gIn m c) (bIn m c) (tIn m c))) (REFZ (aIn m c) (wO m c) (xIn m c)) (gIn m c) := by
  refine (dats m 0 c).arrAt_eq_of_covers 6 _ (by decide +kernel) fun t _ y => ?_
  blk_simp
  rw [after0_6]
  obtain ⟨r, l, rfl⟩ : ∃ (r : Fin 512) (l : Fin 1024), y = ix2 r l := ⟨_, _, eq_ix2 y⟩
  have hN := (idx t).2.2.2.2.2.2.2.2.2.2
  have hr : 512 * t.val + r.val < 8192 := by omega
  have hd : (fun k => TB m c t (ix2 r k) * GB m c t (ix2 0 k)) = fun k => (LCT (DIF (REFZ (aIn m c) (wO m c) (xIn m c)) (gIn m c) (bIn m c) (tIn m c))) (ix2 ⟨512 * t.val + r.val, hr⟩ k) * (gIn m c) (ix1 k) :=
    funext fun k => congrArg₂ _ (ct_block m c t r k hr) (blk3 m c t k)
  refine (out6 m c t r l).trans ?_
  rw [zrow m c t r hr, hd, Cert.LnBack.kdx_eq _ _ (hf _), ← Cert.LnBack.dxa_at]
  blk_ext [idx t]

theorem fin7 (c : Dev nD) : (dats m 0 c).arrAt 7 (cfgs 0).N = Cert.LnBack.DGA (LCT (DIF (REFZ (aIn m c) (wO m c) (xIn m c)) (gIn m c) (bIn m c) (tIn m c))) (REFZ (aIn m c) (wO m c) (xIn m c)) := by
  refine (dats m 0 c).arrAt_eq_of_covers 7 _ (by decide +kernel) fun t hf y => ?_
  have h7 : t.val % 16 = 15 := (flush0_7 t).mp hf
  blk_simp
  rw [after0_7]
  obtain ⟨l, rfl⟩ : ∃ l : Fin 1024, y = ix2 0 l := ⟨y 1, (eq_ix2 y).trans (congrArg₂ ix2 (Subsingleton.elim _ _) rfl)⟩
  refine (dg_last m c t h7 l).trans ?_
  blk_ext [idx t]

theorem fin8 (c : Dev nD) : (dats m 0 c).arrAt 8 (cfgs 0).N = Cert.LnBack.COLS (LCT (DIF (REFZ (aIn m c) (wO m c) (xIn m c)) (gIn m c) (bIn m c) (tIn m c))) := by
  refine (dats m 0 c).arrAt_eq_of_covers 8 _ (by decide +kernel) fun t hf y => ?_
  have h7 : t.val % 16 = 15 := (flush0_8 t).mp hf
  blk_simp
  rw [after0_8]
  obtain ⟨l, rfl⟩ : ∃ l : Fin 1024, y = ix2 0 l := ⟨y 1, (eq_ix2 y).trans (congrArg₂ ix2 (Subsingleton.elim _ _) rfl)⟩
  refine (db_last m c t h7 l).trans ?_
  blk_ext [idx t]

/-- What point `t` adds to the loss. -/
def LTERM (c : Dev nD) (t : Fin cfg0.N) (_ : S8x128.Idx) : EReal :=
  ∑ r : Fin 512, Ideal.ofBits .f32 0x3F000000#32 * Ideal.div (∑ k : Fin 1024, DB m c t (ix2 r k) * DB m c t (ix2 r k)) LEN
theorem loss_A (c : Dev nD) (t : Fin cfg0.N) (h : t.val % 16 = 0) (j : S8x128.Idx) :
    (outsAt0 m c t.val t.isLt).2.2.2 j = 0 + LTERM m c t j := by
  rw [outsAt0_A m c t h]
  frame_out
  exact (loss_pay _ _ j).trans (congrArg₂ _ (zero_l j) rfl)
theorem loss_B (c : Dev nD) (t : Fin cfg0.N) (h : ¬t.val % 16 = 0) (j : S8x128.Idx) :
    (outsAt0 m c t.val t.isLt).2.2.2 j = (outsAt0 m c (t.val - 1) (Nat.lt_of_le_of_lt (Nat.sub_le _ _) t.isLt)).2.2.2 j + LTERM m c t j := by
  rw [outsAt0_B m c t h]
  frame_out
  exact loss_pay _ _ j
theorem loss_last (c : Dev nD) (t : Fin cfg0.N) (h : t.val % 16 = 15) (j : S8x128.Idx) :
    (outsAt0 m c t.val t.isLt).2.2.2 j = LOSSA (DIF (REFZ (aIn m c) (wO m c) (xIn m c)) (gIn m c) (bIn m c) (tIn m c)) j := by
  refine (Pipeline.eq_sum_fin_of_reset_step_apply_of_flush (fun n hn => (outsAt0 m c n hn).2.2.2) 16 (fun _ => (0 : EReal)) (LTERM m c)
    (loss_A m c) (loss_B m c) t h j).trans ?_
  rw [zero_add, lossa_at]
  unfold LTERM
  have hN := (idx t).2.2.2.2.2.2.2.2.2.2
  refine Fin.sum_mul_add_congr fun s r hl => ?_
  have e : (⟨512 * (16 * (t.val / 16) + s.val) + r.val, by omega⟩ : Fin 8192) = ⟨s.val * 512 + r.val, hl⟩ := Fin.ext (by show 512 * (16 * (t.val / 16) + s.val) + r.val = s.val * 512 + r.val; omega)
  have hd := fun k : Fin 1024 => (dblk m c ⟨16 * (t.val / 16) + s.val, by omega⟩ r k (by show 512 * (16 * (t.val / 16) + s.val) + r.val < 8192; omega)).trans (congrArg _ (congrArg₂ ix2 e rfl))
  exact congrArg (fun s => _ * Ideal.div s LEN) (Finset.sum_congr rfl fun k _ => congrArg₂ _ (hd k) (hd k))

theorem fin9 (c : Dev nD) : (dats m 0 c).arrAt 9 (cfgs 0).N = LOSSA (DIF (REFZ (aIn m c) (wO m c) (xIn m c)) (gIn m c) (bIn m c) (tIn m c)) := by
  refine (dats m 0 c).arrAt_eq_of_covers 9 _ (by decide +kernel) fun t hf y => ?_
  have h7 : t.val % 16 = 15 := (flush0_9 t).mp hf
  blk_simp
  rw [after0_9]
  obtain ⟨u, l, rfl⟩ : ∃ (u : Fin 8) (l : Fin 128), y = ix2 u l := ⟨_, _, eq_ix2 y⟩
  refine (loss_last m c t h7 (ix2 u l)).trans ?_
  blk_ext [idx t]

end Cert.LossLnIdeal.Hand
-- ==== Proof.LossLnClaim.lean ====
module
public import proofs.«01_k».proof.Defs
public import proofs.«01_k».proof.Proof.Gen.LossLnIdeal
public import proofs.«01_k».proof.Proof.Gen.LossLnRefIdeal
public import proofs.«01_k».proof.Proof.LossLnFinal
public import proofs.«01_k».proof.Proof.FfnDhClaim
public import Idealize.ShloMosaic.Lib.Claim
public import Idealize.ShloMosaic.Lib.ReduceAll

/-! The last layer norm with the loss and their gradients: kernel and reference end with the same arrays, from a finite gain, shift and targets. -/

@[expose] public section
set_option maxRecDepth 16384
noncomputable section
namespace Cert.Proof
open Idealize.ShloMosaic Idealize.SL.Sem
open Cert.LnBack (Fi)

/-- The reference's frame: its run, and no semaphore is declared. -/
theorem loss_reference : Cert.quiescent_LossLnRefIdeal := by
  intro m g _
  exact (θ_run Cert.LossLnRefIdeal.defs _ _).mono
    (fun r h => ⟨fun c => (h c).2.2.2.2, sem_eq_zero_of_no_sems (by decide) r.2⟩)
    (Cert.LossLnRefIdeal.Value.run m g)

theorem loss_reference_finite [Cert.Pre_loss_finite.Facts] : Cert.quiescent_LossLnRefIdeal_pre_loss_finite :=
  fun m g _ => loss_reference m g trivial

/-- The shapes the precondition's operations state. -/
theorem loss_facts : Cert.Pre_loss_finite.Facts where
  bcast_S_S1024 := by decide
  reducesTo_S1024_S_d0 := by decide
  h_S_ := by decide
  bcast_S_S8192x1024 := by decide
  reducesTo_S8192x1024_S_d0_1 := by decide

/-- One over the row's length is a finite number. -/
theorem scale_fi : Fi (Ideal.ofBits .f32 0x3A800000#32) := by
  rw [Cert.LossLnIdeal.Hand.scale]
  exact ⟨EReal.coe_ne_top _, EReal.coe_ne_bot _⟩

/-- Under the precondition the gradient times the gain is finite. -/
theorem loss_fin [Cert.Pre_loss_finite.Facts] (m : (ℓ : Loc Cert.LossLnIdeal.nD Cert.LossLnIdeal.τ Cert.LossLnIdeal.sig) → Buf (Elt Ideal) ℓ)
    (h : Cert.Pre_LossLnIdeal_loss_finite m) (c : Dev Cert.LossLnIdeal.nD) (r : Fin 8192) (k : Fin 1024) :
    Fi (Cert.LossLnIdeal.Hand.LCT (Cert.LossLnIdeal.Hand.DIF
        (Cert.LossLnIdeal.Hand.REFZ (Cert.LossLnIdeal.Hand.aIn m c) (Cert.LossLnIdeal.Hand.wO m c) (Cert.LossLnIdeal.Hand.xIn m c))
        (Cert.LossLnIdeal.Hand.gIn m c) (Cert.LossLnIdeal.Hand.bIn m c) (Cert.LossLnIdeal.Hand.tIn m c)) (ix2 r k)
      * Cert.LossLnIdeal.Hand.gIn m c (ix1 k)) := by
  have hj := congrFun (h c) ix0
  obtain ⟨h1, h3⟩ := IntOp.andi_eq_one.1 hj
  obtain ⟨h1, h2⟩ := IntOp.andi_eq_one.1 h1
  have hg : Fi (Cert.LossLnIdeal.Hand.gIn m c (ix1 k)) := below_inf (Host.reduce_andi_all _ _ _ _ _ h1 _)
  rw [Cert.LossLnIdeal.Hand.lct_at, Cert.LossLnIdeal.Hand.dif_at]
  refine Cert.LnBack.fi_mul (Cert.LnBack.fi_mul (Cert.LnBack.fi_sub (Cert.LnBack.fi_add (Cert.LnBack.fi_mul (Cert.LnBack.xhat_fi _ _) hg) ?_) ?_) scale_fi) hg
  · exact below_inf (Host.reduce_andi_all _ _ _ _ _ h2 _)
  · exact below_inf (Host.reduce_andi_all _ _ _ _ _ h3 _)

/-- The kernel and the reference end with equal arrays. -/
theorem loss_algebraic [Cert.Pre_loss_finite.Facts] : Cert.algebraic_LossLnIdeal_LossLnRefIdeal_pre_loss_finite := by
  intro m g m' g' hpre hagree
  refine ⟨fun c => (Cert.LossLnIdeal.Gen.dats m 0 c).arrAt 6 Cert.LossLnIdeal.cfg0.N,
    fun c => (Cert.LossLnIdeal.Gen.dats m 0 c).arrAt 7 Cert.LossLnIdeal.cfg0.N,
    fun c => (Cert.LossLnIdeal.Gen.dats m 0 c).arrAt 8 Cert.LossLnIdeal.cfg0.N,
    fun c => (Cert.LossLnIdeal.Gen.dats m 0 c).arrAt 9 Cert.LossLnIdeal.cfg0.N,
    Cert.LossLnIdeal.Value.run_blocks m g, ?_⟩
  refine (θ_run Cert.LossLnRefIdeal.defs _ _).mono (fun r h c => ?_)
    (Cert.LossLnRefIdeal.Value.run m' g')
  obtain ⟨e0, e1, e2, e3, e4, e5⟩ := hagree c
  refine ⟨(h c).1.trans ?_, (h c).2.1.trans ?_, (h c).2.2.1.trans ?_, (h c).2.2.2.1.trans ?_, (h c).2.2.2.2⟩
  · refine Eq.trans ?_ (Cert.LossLnIdeal.Hand.fin6 m c (loss_fin m hpre c)).symm
    unfold Cert.LossLnRefIdeal.Value.res_main_v83
    rw [e0, e1, e2, e3, e4, e5]
    rfl
  · refine Eq.trans ?_ (Cert.LossLnIdeal.Hand.fin7 m c).symm
    unfold Cert.LossLnRefIdeal.Value.res_main_v84
    rw [e0, e1, e2, e3, e4, e5]
    rfl
  · refine Eq.trans ?_ (Cert.LossLnIdeal.Hand.fin8 m c).symm
    unfold Cert.LossLnRefIdeal.Value.res_main_v85
    rw [e0, e1, e2, e3, e4, e5]
    rfl
  · refine Eq.trans ?_ (Cert.LossLnIdeal.Hand.fin9 m c).symm
    unfold Cert.LossLnRefIdeal.Value.res_main_v86
    rw [e0, e1, e2, e3, e4, e5]
    rfl

end Cert.Proof
-- ==== Proof.ShiftTile.lean ====
module
public import proofs.«01_k».proof.Proof.Gen.ShiftBwdIdeal.Value
public import proofs.«01_k».proof.Proof.ConvTile
public import Idealize.ShloMosaic.Lib.Pipeline.ValueKit
public import Idealize.ShloMosaic.Lib.Pointwise

/-! The token shift backwards: what one tile's strips hold. -/

@[expose] public section
set_option maxRecDepth 16384
noncomputable section
namespace Cert.ShiftBwdIdeal.Hand
open Cert.ShiftBwdIdeal Cert.ShiftBwdIdeal.Gen Idealize.ShloMosaic Idealize.ShloMosaic.TcCoe Idealize.SL.Sem
open Cert.ConvBwdIdeal.Hand (readCov_ld)
open Idealize.ShloMosaic.Pipeline (Dat)
variable (m : (ℓ : Loc nD τ sig) → Buf (Elt Ideal) ℓ)

/-- The window of tile `n`: eight rows before it, the tile, eight rows after it; zeros where the tile is the first or the last of its sequence. -/
def EXT (n : ℕ) (Z0 : FVec Ideal S8x2048 .f32) (X : FVec Ideal S256x2048 .f32) (Z1 : FVec Ideal S8x2048 .f32) : FVec Ideal S272x2048 .f32 := fun e =>
  if h : (e 0 : ℕ) < 8 then (if n % 8 = 0 then 0 else Z0 (ix2 ⟨e 0, h⟩ (e 1)))
  else if h' : (e 0 : ℕ) < 264 then X (ix2 ⟨(e 0 : ℕ) - 8, by omega⟩ (e 1))
  else if n % 8 = 7 then 0 else Z1 (ix2 ⟨(e 0 : ℕ) - 264, by have : (e 0 : ℕ) < 272 := (e 0).isLt; omega⟩ (e 1))

theorem EXT_lo (n : ℕ) (Z0 : FVec Ideal S8x2048 .f32) (X : FVec Ideal S256x2048 .f32) (Z1 : FVec Ideal S8x2048 .f32) (e : S272x2048.Idx) (x : S8x2048.Idx)
    (h0 : (e 0 : ℕ) = x 0) (h1 : (e 1 : ℕ) = x 1) : EXT n Z0 X Z1 e = if n % 8 = 0 then 0 else Z0 x := by
  have hx : (x 0 : ℕ) < 8 := (x 0).isLt
  have e1 : (ix2 ⟨e 0, by omega⟩ (e 1) : S8x2048.Idx) = x := by
    refine Eq.trans ?_ (eq_ix2 x).symm
    exact congrArg₂ ix2 (Fin.ext h0) (Fin.ext h1)
  rw [EXT, dif_pos (by omega), e1]

theorem EXT_mid (n : ℕ) (Z0 : FVec Ideal S8x2048 .f32) (X : FVec Ideal S256x2048 .f32) (Z1 : FVec Ideal S8x2048 .f32) (e : S272x2048.Idx) (x : S256x2048.Idx)
    (h0 : (e 0 : ℕ) = 8 + x 0) (h1 : (e 1 : ℕ) = x 1) : EXT n Z0 X Z1 e = X x := by
  have hx : (x 0 : ℕ) < 256 := (x 0).isLt
  have e1 : (ix2 ⟨(e 0 : ℕ) - 8, by omega⟩ (e 1) : S256x2048.Idx) = x := by
    refine Eq.trans ?_ (eq_ix2 x).symm
    exact congrArg₂ ix2 (Fin.ext (by show (e 0 : ℕ) - 8 = x 0; omega)) (Fin.ext h1)
  rw [EXT, dif_neg (by omega), dif_pos (by omega), e1]

theorem EXT_hi (n : ℕ) (Z0 : FVec Ideal S8x2048 .f32) (X : FVec Ideal S256x2048 .f32) (Z1 : FVec Ideal S8x2048 .f32) (e : S272x2048.Idx) (x : S8x2048.Idx)
    (h0 : (e 0 : ℕ) = 264 + x 0) (h1 : (e 1 : ℕ) = x 1) : EXT n Z0 X Z1 e = if n % 8 = 7 then 0 else Z1 x := by
  have hx : (x 0 : ℕ) < 8 := (x 0).isLt
  have e1 : (ix2 ⟨(e 0 : ℕ) - 264, by omega⟩ (e 1) : S8x2048.Idx) = x := by
    refine Eq.trans ?_ (eq_ix2 x).symm
    exact congrArg₂ ix2 (Fin.ext (by show (e 0 : ℕ) - 264 = x 0; omega)) (Fin.ext h1)
  rw [EXT, dif_neg (by omega), dif_neg (by omega), e1]

/-- The test for the first tile of a sequence. -/
theorem sel_first (t : Fin cfg0.N) (z w : EReal) : Scalar.select (Scalar.cmpi CmpIPredicate.eq
        (Scalar.select
          (Scalar.andi
            (Scalar.xori (Scalar.cmpi CmpIPredicate.slt (Scalar.remsi (BitVec.ofNat 32 ↑(grid0.coords t 0)) 8#32) 0#32)
              0#1)
            (Scalar.cmpi CmpIPredicate.ne (Scalar.remsi (BitVec.ofNat 32 ↑(grid0.coords t 0)) 8#32) 0#32))
          (Scalar.addi (Scalar.remsi (BitVec.ofNat 32 ↑(grid0.coords t 0)) 8#32) 8#32)
          (Scalar.remsi (BitVec.ofNat 32 ↑(grid0.coords t 0)) 8#32))
        0#32) z w = if t.val % 8 = 0 then z else w := by
  have e := (by decide +kernel : ∀ t : Fin grid0.N, (Scalar.cmpi CmpIPredicate.eq
        (Scalar.select
          (Scalar.andi
            (Scalar.xori (Scalar.cmpi CmpIPredicate.slt (Scalar.remsi (BitVec.ofNat 32 ↑(grid0.coords t 0)) 8#32) 0#32)
              0#1)
            (Scalar.cmpi CmpIPredicate.ne (Scalar.remsi (BitVec.ofNat 32 ↑(grid0.coords t 0)) 8#32) 0#32))
          (Scalar.addi (Scalar.remsi (BitVec.ofNat 32 ↑(grid0.coords t 0)) 8#32) 8#32)
          (Scalar.remsi (BitVec.ofNat 32 ↑(grid0.coords t 0)) 8#32))
        0#32) = if t.val % 8 = 0 then 1#1 else 0#1) t
  rw [e]
  split <;> rfl

/-- The test for the last tile of a sequence. -/
theorem sel_last (t : Fin cfg0.N) (z w : EReal) : Scalar.select (Scalar.cmpi CmpIPredicate.eq
        (Scalar.select
          (Scalar.andi
            (Scalar.xori (Scalar.cmpi CmpIPredicate.slt (Scalar.remsi (BitVec.ofNat 32 ↑(grid0.coords t 0)) 8#32) 0#32)
              0#1)
            (Scalar.cmpi CmpIPredicate.ne (Scalar.remsi (BitVec.ofNat 32 ↑(grid0.coords t 0)) 8#32) 0#32))
          (Scalar.addi (Scalar.remsi (BitVec.ofNat 32 ↑(grid0.coords t 0)) 8#32) 8#32)
          (Scalar.remsi (BitVec.ofNat 32 ↑(grid0.coords t 0)) 8#32))
        7#32) z w = if t.val % 8 = 7 then z else w := by
  have e := (by decide +kernel : ∀ t : Fin grid0.N, (Scalar.cmpi CmpIPredicate.eq
        (Scalar.select
          (Scalar.andi
            (Scalar.xori (Scalar.cmpi CmpIPredicate.slt (Scalar.remsi (BitVec.ofNat 32 ↑(grid0.coords t 0)) 8#32) 0#32)
              0#1)
            (Scalar.cmpi CmpIPredicate.ne (Scalar.remsi (BitVec.ofNat 32 ↑(grid0.coords t 0)) 8#32) 0#32))
          (Scalar.addi (Scalar.remsi (BitVec.ofNat 32 ↑(grid0.coords t 0)) 8#32) 8#32)
          (Scalar.remsi (BitVec.ofNat 32 ↑(grid0.coords t 0)) 8#32))
        7#32) = if t.val % 8 = 7 then 1#1 else 0#1) t
  rw [e]
  split <;> rfl

theorem cover (e : S272x2048.Idx) : (∀ a, (![264, 0] : Fin 2 → ℕ) a ≤ (e a : ℕ) ∧ (e a : ℕ) < (![264, 0] : Fin 2 → ℕ) a + (![8, 2048] : Fin 2 → ℕ) a)
    ∨ (∀ a, (![8, 0] : Fin 2 → ℕ) a ≤ (e a : ℕ) ∧ (e a : ℕ) < (![8, 0] : Fin 2 → ℕ) a + (![256, 2048] : Fin 2 → ℕ) a)
    ∨ (∀ a, (![0, 0] : Fin 2 → ℕ) a ≤ (e a : ℕ) ∧ (e a : ℕ) < (![0, 0] : Fin 2 → ℕ) a + (![8, 2048] : Fin 2 → ℕ) a) := by
  have h0 : (e 0 : ℕ) < 272 := (e 0).isLt
  have h1 : (e 1 : ℕ) < 2048 := (e 1).isLt
  by_cases a : 264 ≤ (e 0 : ℕ)
  · left; intro i; fin_cases i
    · exact ⟨a, h0⟩
    · exact ⟨Nat.zero_le _, by show (e 1 : ℕ) < 0 + 2048; omega⟩
  · right
    by_cases b : 8 ≤ (e 0 : ℕ)
    · left; intro i; fin_cases i
      · exact ⟨b, by show (e 0 : ℕ) < 8 + 256; omega⟩
      · exact ⟨Nat.zero_le _, by show (e 1 : ℕ) < 0 + 2048; omega⟩
    · right; intro i; fin_cases i
      · exact ⟨Nat.zero_le _, by show (e 0 : ℕ) < 0 + 8; omega⟩
      · exact ⟨Nat.zero_le _, by show (e 1 : ℕ) < 0 + 2048; omega⟩

/-- The windows of the gradient and of the projected array. -/
def DWIN (c : Dev nD) (t : Fin cfg0.N) : FVec Ideal S272x2048 .f32 := EXT t.val (iblk m c 1 t) (iblk m c 0 t) (iblk m c 2 t)
def PWIN (c : Dev nD) (t : Fin cfg0.N) : FVec Ideal S272x2048 .f32 := EXT t.val (X0_4 m c t) (X0_3 m c t) (X0_5 m c t)

/-- The shift's gradient at row `r`: the row times one less both weights, its follower times the first weight, its predecessor times the second. -/
def DPR (X : FVec Ideal S256x2048 .f32) (E : FVec Ideal S272x2048 .f32) (a b : FVec Ideal S1x2048 .f32) (r : Fin 256) (l : Fin 2048) : EReal :=
  X (ix2 r l) * (1 - a (ix2 0 l) - b (ix2 0 l)) + E (ix2 ⟨9 + r, by omega⟩ l) * a (ix2 0 l) + E (ix2 ⟨7 + r, by omega⟩ l) * b (ix2 0 l)

theorem DPR_at (X : FVec Ideal S256x2048 .f32) (E : FVec Ideal S272x2048 .f32) (a b : FVec Ideal S1x2048 .f32) (y : S256x2048.Idx) (r : Fin 256) (l : Fin 2048) (z : EReal)
    (h0 : (y 0 : ℕ) = r) (h1 : (y 1 : ℕ) = l) (h : z = DPR X E a b r l) : z = DPR X E a b (y 0) (y 1) :=
  h.trans (congrArg₂ (DPR X E a b) (Fin.ext h0.symm) (Fin.ext h1.symm))

/-- Sixteen rows' part of a weight's gradient: the gradient's rows against the difference of the neighbouring rows and the rows themselves. -/
def T (X P : FVec Ideal S256x2048 .f32) (E : FVec Ideal S272x2048 .f32) (k : ℕ) (hk : k ≤ 16) (a : ℕ) (ha : a + 16 ≤ 256) (l : Fin 2048) : EReal :=
  ∑ r : Fin 16, X (ix2 ⟨a + r, by omega⟩ l) * (E (ix2 ⟨k + (a + r), by omega⟩ l) - P (ix2 ⟨a + r, by omega⟩ l))

/-- A tile's part of a weight's gradient. -/
def MU (X P : FVec Ideal S256x2048 .f32) (E : FVec Ideal S272x2048 .f32) (k : ℕ) (hk : k ≤ 16) (l : Fin 2048) : EReal :=
  ∑ s : Fin 16, T X P E k hk (16 * s) (by omega) l

theorem sum16 (f : Fin 16 → EReal) : ∑ s, f s = f 0 + f 1 + f 2 + f 3 + f 4 + f 5 + f 6 + f 7 + f 8 + f 9 + f 10 + f 11 + f 12 + f 13 + f 14 + f 15 := by
  simp only [Fin.sum_univ_castSucc, Fin.sum_univ_zero, zero_add]
  rfl

theorem MU_terms (X P : FVec Ideal S256x2048 .f32) (E : FVec Ideal S272x2048 .f32) (k : ℕ) (hk : k ≤ 16) (l : Fin 2048) :
    MU X P E k hk l = T X P E k hk 0 (by omega) l + T X P E k hk 16 (by omega) l + T X P E k hk 32 (by omega) l + T X P E k hk 48 (by omega) l + T X P E k hk 64 (by omega) l + T X P E k hk 80 (by omega) l + T X P E k hk 96 (by omega) l + T X P E k hk 112 (by omega) l + T X P E k hk 128 (by omega) l + T X P E k hk 144 (by omega) l + T X P E k hk 160 (by omega) l + T X P E k hk 176 (by omega) l + T X P E k hk 192 (by omega) l + T X P E k hk 208 (by omega) l + T X P E k hk 224 (by omega) l + T X P E k hk 240 (by omega) l :=
  sum16 fun s => T X P E k hk (16 * s) (by omega) l

/-- Three pieces that cover the window, over whatever lay below them: the window is the function the pieces agree with. -/
theorem canon3 (wh : FVec Ideal S8x2048 .f32) (wm : FVec Ideal S256x2048 .f32) (wl : FVec Ideal S8x2048 .f32) (Ls : List (View.Piece (Elt Ideal) S272x2048 .f32))
    (F : FVec Ideal S272x2048 .f32)
    (hh : ∀ (e : S272x2048.Idx) (x : S8x2048.Idx), (e 0 : ℕ) = 264 + x 0 → (e 1 : ℕ) = x 1 → wh x = F e)
    (hm : ∀ (e : S272x2048.Idx) (x : S256x2048.Idx), (e 0 : ℕ) = 8 + x 0 → (e 1 : ℕ) = x 1 → wm x = F e)
    (hl : ∀ (e : S272x2048.Idx) (x : S8x2048.Idx), (e 0 : ℕ) = x 0 → (e 1 : ℕ) = x 1 → wl x = F e) (e : S272x2048.Idx) :
    View.canon (Val := Elt Ideal) ((⟨(Rect.unit ![264, 0] ![8, 2048] inb_S272x2048_S8x2048_264_0 : Rect S272x2048), wh⟩ : View.Piece (Elt Ideal) S272x2048 .f32) ::
      (⟨(Rect.unit ![8, 0] ![256, 2048] inb_S272x2048_S256x2048_8_0 : Rect S272x2048), wm⟩ : View.Piece (Elt Ideal) S272x2048 .f32) ::
      (⟨(Rect.unit ![0, 0] ![8, 2048] inb_S272x2048_S8x2048_0_0 : Rect S272x2048), wl⟩ : View.Piece (Elt Ideal) S272x2048 .f32) :: Ls) e = F e := by
  have h1 : (e 1 : ℕ) < 2048 := (e 1).isLt
  have h0 : (e 0 : ℕ) < 272 := (e 0).isLt
  by_cases ha : 264 ≤ (e 0 : ℕ)
  · have he : (Rect.unit ![264, 0] ![8, 2048] inb_S272x2048_S8x2048_264_0 : Rect S272x2048).emb (ix2 ⟨(e 0 : ℕ) - 264, by omega⟩ (e 1) : S8x2048.Idx) = e := by
      funext a
      apply Fin.ext
      fin_cases a
      · show 264 + 1 * ((e 0 : ℕ) - 264) = e 0
        omega
      · show 0 + 1 * (e 1 : ℕ) = e 1
        omega
    have hr := View.canon_cons_emb (Val := Elt Ideal) (Rect.unit ![264, 0] ![8, 2048] inb_S272x2048_S8x2048_264_0 : Rect S272x2048) wh
      ((⟨(Rect.unit ![8, 0] ![256, 2048] inb_S272x2048_S256x2048_8_0 : Rect S272x2048), wm⟩ : View.Piece (Elt Ideal) S272x2048 .f32) ::
      (⟨(Rect.unit ![0, 0] ![8, 2048] inb_S272x2048_S8x2048_0_0 : Rect S272x2048), wl⟩ : View.Piece (Elt Ideal) S272x2048 .f32) :: Ls) (ix2 ⟨(e 0 : ℕ) - 264, by omega⟩ (e 1) : S8x2048.Idx)
    rw [he] at hr
    exact hr.trans (hh e _ (by show (e 0 : ℕ) = 264 + ((e 0 : ℕ) - 264); omega) rfl)
  · refine (View.canon_cons_of_not_mem (Val := Elt Ideal) _ _ ?_).trans ?_
    · rw [Rect.mem_set_unit]
      intro h
      have h := (h 0).1
      exact ha h
    by_cases hb : 8 ≤ (e 0 : ℕ)
    · have he : (Rect.unit ![8, 0] ![256, 2048] inb_S272x2048_S256x2048_8_0 : Rect S272x2048).emb (ix2 ⟨(e 0 : ℕ) - 8, by omega⟩ (e 1) : S256x2048.Idx) = e := by
        funext a
        apply Fin.ext
        fin_cases a
        · show 8 + 1 * ((e 0 : ℕ) - 8) = e 0
          omega
        · show 0 + 1 * (e 1 : ℕ) = e 1
          omega
      have hr := View.canon_cons_emb (Val := Elt Ideal) (Rect.unit ![8, 0] ![256, 2048] inb_S272x2048_S256x2048_8_0 : Rect S272x2048) wm
        ((⟨(Rect.unit ![0, 0] ![8, 2048] inb_S272x2048_S8x2048_0_0 : Rect S272x2048), wl⟩ : View.Piece (Elt Ideal) S272x2048 .f32) :: Ls) (ix2 ⟨(e 0 : ℕ) - 8, by omega⟩ (e 1) : S256x2048.Idx)
      rw [he] at hr
      exact hr.trans (hm e _ (by show (e 0 : ℕ) = 8 + ((e 0 : ℕ) - 8); omega) rfl)
    · refine (View.canon_cons_of_not_mem (Val := Elt Ideal) _ _ ?_).trans ?_
      · rw [Rect.mem_set_unit]
        intro h
        have h := (h 0).1
        exact hb h
      have he : (Rect.unit ![0, 0] ![8, 2048] inb_S272x2048_S8x2048_0_0 : Rect S272x2048).emb (ix2 ⟨(e 0 : ℕ), by omega⟩ (e 1) : S8x2048.Idx) = e := by
        funext a
        apply Fin.ext
        fin_cases a
        · show 0 + 1 * (e 0 : ℕ) = e 0
          omega
        · show 0 + 1 * (e 1 : ℕ) = e 1
          omega
      have hr := View.canon_cons_emb (Val := Elt Ideal) (Rect.unit ![0, 0] ![8, 2048] inb_S272x2048_S8x2048_0_0 : Rect S272x2048) wl Ls (ix2 ⟨(e 0 : ℕ), by omega⟩ (e 1) : S8x2048.Idx)
      rw [he] at hr
      exact hr.trans (hl e _ rfl rfl)

set_option maxHeartbeats 2000000 in
theorem strips_A (c : Dev nD) (t : Fin cfg0.N) (h : t.val % 32 = 0) (y : S256x2048.Idx) :
    (outsAt0 m c t.val t.isLt).1 y = DPR (iblk m c 0 t) (DWIN m c t) (iblk m c 6 t) (iblk m c 7 t) (y 0) (y 1) := by
  rw [outsAt0_A m c t h]
  unfold out0_A_8
  frame_out
  clear h
  simp only [readCov_ld]
  generalize hE : View.canon (Val := Elt Ideal) (_ :: _ :: _ :: []) = E
  have hE' : E = DWIN m c t := by
    subst hE
    funext e
    unfold DWIN
    canon_tiles x h using (by
      rcases cover e with h1 | h1 | h1
      · exact ⟨_, List.mem_cons_self, by rw [Rect.mem_set_unit]; exact h1⟩
      · exact ⟨_, List.mem_cons_of_mem _ List.mem_cons_self, by rw [Rect.mem_set_unit]; exact h1⟩
      · exact ⟨_, List.mem_cons_of_mem _ (List.mem_cons_of_mem _ List.mem_cons_self), by rw [Rect.mem_set_unit]; exact h1⟩)
    case piece0 => rw [EXT_hi _ _ _ _ e x h0 h1]; open_payloads; pointwise; exact sel_last t _ _
    case piece1 => rw [EXT_mid _ _ _ _ e x h0 h1]; open_payloads; pointwise
    case piece2 => rw [EXT_lo _ _ _ _ e x h0 h1]; open_payloads; pointwise; exact sel_first t _ _
  rw [← hE']
  clear hE hE'
  canon_tiles x h
  case piece0 =>
    refine DPR_at _ _ _ _ y ⟨240 + x 0, by omega⟩ (x 1) _ h0 h1 ?_
    unfold DPR; open_payloads; pointwise; simp only [← Nat.add_assoc, Nat.reduceAdd]
  case piece1 =>
    refine DPR_at _ _ _ _ y ⟨224 + x 0, by omega⟩ (x 1) _ h0 h1 ?_
    unfold DPR; open_payloads; pointwise; simp only [← Nat.add_assoc, Nat.reduceAdd]
  case piece2 =>
    refine DPR_at _ _ _ _ y ⟨208 + x 0, by omega⟩ (x 1) _ h0 h1 ?_
    unfold DPR; open_payloads; pointwise; simp only [← Nat.add_assoc, Nat.reduceAdd]
  case piece3 =>
    refine DPR_at _ _ _ _ y ⟨192 + x 0, by omega⟩ (x 1) _ h0 h1 ?_
    unfold DPR; open_payloads; pointwise; simp only [← Nat.add_assoc, Nat.reduceAdd]
  case piece4 =>
    refine DPR_at _ _ _ _ y ⟨176 + x 0, by omega⟩ (x 1) _ h0 h1 ?_
    unfold DPR; open_payloads; pointwise; simp only [← Nat.add_assoc, Nat.reduceAdd]
  case piece5 =>
    refine DPR_at _ _ _ _ y ⟨160 + x 0, by omega⟩ (x 1) _ h0 h1 ?_
    unfold DPR; open_payloads; pointwise; simp only [← Nat.add_assoc, Nat.reduceAdd]
  case piece6 =>
    refine DPR_at _ _ _ _ y ⟨144 + x 0, by omega⟩ (x 1) _ h0 h1 ?_
    unfold DPR; open_payloads; pointwise; simp only [← Nat.add_assoc, Nat.reduceAdd]
  case piece7 =>
    refine DPR_at _ _ _ _ y ⟨128 + x 0, by omega⟩ (x 1) _ h0 h1 ?_
    unfold DPR; open_payloads; pointwise; simp only [← Nat.add_assoc, Nat.reduceAdd]
  case piece8 =>
    refine DPR_at _ _ _ _ y ⟨112 + x 0, by omega⟩ (x 1) _ h0 h1 ?_
    unfold DPR; open_payloads; pointwise; simp only [← Nat.add_assoc, Nat.reduceAdd]
  case piece9 =>
    refine DPR_at _ _ _ _ y ⟨96 + x 0, by omega⟩ (x 1) _ h0 h1 ?_
    unfold DPR; open_payloads; pointwise; simp only [← Nat.add_assoc, Nat.reduceAdd]
  case piece10 =>
    refine DPR_at _ _ _ _ y ⟨80 + x 0, by omega⟩ (x 1) _ h0 h1 ?_
    unfold DPR; open_payloads; pointwise; simp only [← Nat.add_assoc, Nat.reduceAdd]
  case piece11 =>
    refine DPR_at _ _ _ _ y ⟨64 + x 0, by omega⟩ (x 1) _ h0 h1 ?_
    unfold DPR; open_payloads; pointwise; simp only [← Nat.add_assoc, Nat.reduceAdd]
  case piece12 =>
    refine DPR_at _ _ _ _ y ⟨48 + x 0, by omega⟩ (x 1) _ h0 h1 ?_
    unfold DPR; open_payloads; pointwise; simp only [← Nat.add_assoc, Nat.reduceAdd]
  case piece13 =>
    refine DPR_at _ _ _ _ y ⟨32 + x 0, by omega⟩ (x 1) _ h0 h1 ?_
    unfold DPR; open_payloads; pointwise; simp only [← Nat.add_assoc, Nat.reduceAdd]
  case piece14 =>
    refine DPR_at _ _ _ _ y ⟨16 + x 0, by omega⟩ (x 1) _ h0 h1 ?_
    unfold DPR; open_payloads; pointwise; simp only [← Nat.add_assoc, Nat.reduceAdd]
  case piece15 =>
    refine DPR_at _ _ _ _ y ⟨x 0, by omega⟩ (x 1) _ h0 h1 ?_
    unfold DPR; open_payloads; pointwise

set_option maxHeartbeats 2000000 in
theorem strips_B (c : Dev nD) (t : Fin cfg0.N) (h : ¬ t.val % 32 = 0) (y : S256x2048.Idx) :
    (outsAt0 m c t.val t.isLt).1 y = DPR (iblk m c 0 t) (DWIN m c t) (iblk m c 6 t) (iblk m c 7 t) (y 0) (y 1) := by
  rw [outsAt0_B m c t h]
  unfold out0_B_8
  frame_out
  clear h
  simp only [readCov_ld]
  generalize hE : View.canon (Val := Elt Ideal) (_ :: _ :: _ :: []) = E
  have hE' : E = DWIN m c t := by
    subst hE
    funext e
    unfold DWIN
    canon_tiles x h using (by
      rcases cover e with h1 | h1 | h1
      · exact ⟨_, List.mem_cons_self, by rw [Rect.mem_set_unit]; exact h1⟩
      · exact ⟨_, List.mem_cons_of_mem _ List.mem_cons_self, by rw [Rect.mem_set_unit]; exact h1⟩
      · exact ⟨_, List.mem_cons_of_mem _ (List.mem_cons_of_mem _ List.mem_cons_self), by rw [Rect.mem_set_unit]; exact h1⟩)
    case piece0 => rw [EXT_hi _ _ _ _ e x h0 h1]; open_payloads; pointwise; exact sel_last t _ _
    case piece1 => rw [EXT_mid _ _ _ _ e x h0 h1]; open_payloads; pointwise
    case piece2 => rw [EXT_lo _ _ _ _ e x h0 h1]; open_payloads; pointwise; exact sel_first t _ _
  rw [← hE']
  clear hE hE'
  canon_tiles x h
  case piece0 =>
    refine DPR_at _ _ _ _ y ⟨240 + x 0, by omega⟩ (x 1) _ h0 h1 ?_
    unfold DPR; open_payloads; pointwise; simp only [← Nat.add_assoc, Nat.reduceAdd]
  case piece1 =>
    refine DPR_at _ _ _ _ y ⟨224 + x 0, by omega⟩ (x 1) _ h0 h1 ?_
    unfold DPR; open_payloads; pointwise; simp only [← Nat.add_assoc, Nat.reduceAdd]
  case piece2 =>
    refine DPR_at _ _ _ _ y ⟨208 + x 0, by omega⟩ (x 1) _ h0 h1 ?_
    unfold DPR; open_payloads; pointwise; simp only [← Nat.add_assoc, Nat.reduceAdd]
  case piece3 =>
    refine DPR_at _ _ _ _ y ⟨192 + x 0, by omega⟩ (x 1) _ h0 h1 ?_
    unfold DPR; open_payloads; pointwise; simp only [← Nat.add_assoc, Nat.reduceAdd]
  case piece4 =>
    refine DPR_at _ _ _ _ y ⟨176 + x 0, by omega⟩ (x 1) _ h0 h1 ?_
    unfold DPR; open_payloads; pointwise; simp only [← Nat.add_assoc, Nat.reduceAdd]
  case piece5 =>
    refine DPR_at _ _ _ _ y ⟨160 + x 0, by omega⟩ (x 1) _ h0 h1 ?_
    unfold DPR; open_payloads; pointwise; simp only [← Nat.add_assoc, Nat.reduceAdd]
  case piece6 =>
    refine DPR_at _ _ _ _ y ⟨144 + x 0, by omega⟩ (x 1) _ h0 h1 ?_
    unfold DPR; open_payloads; pointwise; simp only [← Nat.add_assoc, Nat.reduceAdd]
  case piece7 =>
    refine DPR_at _ _ _ _ y ⟨128 + x 0, by omega⟩ (x 1) _ h0 h1 ?_
    unfold DPR; open_payloads; pointwise; simp only [← Nat.add_assoc, Nat.reduceAdd]
  case piece8 =>
    refine DPR_at _ _ _ _ y ⟨112 + x 0, by omega⟩ (x 1) _ h0 h1 ?_
    unfold DPR; open_payloads; pointwise; simp only [← Nat.add_assoc, Nat.reduceAdd]
  case piece9 =>
    refine DPR_at _ _ _ _ y ⟨96 + x 0, by omega⟩ (x 1) _ h0 h1 ?_
    unfold DPR; open_payloads; pointwise; simp only [← Nat.add_assoc, Nat.reduceAdd]
  case piece10 =>
    refine DPR_at _ _ _ _ y ⟨80 + x 0, by omega⟩ (x 1) _ h0 h1 ?_
    unfold DPR; open_payloads; pointwise; simp only [← Nat.add_assoc, Nat.reduceAdd]
  case piece11 =>
    refine DPR_at _ _ _ _ y ⟨64 + x 0, by omega⟩ (x 1) _ h0 h1 ?_
    unfold DPR; open_payloads; pointwise; simp only [← Nat.add_assoc, Nat.reduceAdd]
  case piece12 =>
    refine DPR_at _ _ _ _ y ⟨48 + x 0, by omega⟩ (x 1) _ h0 h1 ?_
    unfold DPR; open_payloads; pointwise; simp only [← Nat.add_assoc, Nat.reduceAdd]
  case piece13 =>
    refine DPR_at _ _ _ _ y ⟨32 + x 0, by omega⟩ (x 1) _ h0 h1 ?_
    unfold DPR; open_payloads; pointwise; simp only [← Nat.add_assoc, Nat.reduceAdd]
  case piece14 =>
    refine DPR_at _ _ _ _ y ⟨16 + x 0, by omega⟩ (x 1) _ h0 h1 ?_
    unfold DPR; open_payloads; pointwise; simp only [← Nat.add_assoc, Nat.reduceAdd]
  case piece15 =>
    refine DPR_at _ _ _ _ y ⟨x 0, by omega⟩ (x 1) _ h0 h1 ?_
    unfold DPR; open_payloads; pointwise

set_option maxHeartbeats 4000000 in
theorem acc9_A (c : Dev nD) (t : Fin cfg0.N) (h : t.val % 32 = 0) (y : S1x2048.Idx) :
    (outsAt0 m c t.val t.isLt).2.1 y = 0 + MU (iblk m c 0 t) (X0_3 m c t) (PWIN m c t) 7 (by omega) (y 1) := by
  rw [outsAt0_A m c t h]
  unfold out0_A_9
  frame_out
  simp only [readCov_ld]
  generalize hE : View.canon (Val := Elt Ideal) (_ :: _ :: _ :: _ :: _ :: _ :: []) = E
  have hE' : E = PWIN m c t := by
    subst hE
    funext e
    unfold PWIN
    refine canon3 _ _ _ _ (EXT t.val (X0_4 m c t) (X0_3 m c t) (X0_5 m c t)) (fun e x h0 h1 => ?_) (fun e x h0 h1 => ?_) (fun e x h0 h1 => ?_) e
    · rw [EXT_hi _ _ _ _ e x h0 h1]; open_payloads; pointwise; exact sel_last t _ _
    · rw [EXT_mid _ _ _ _ e x h0 h1]; open_payloads; pointwise
    · rw [EXT_lo _ _ _ _ e x h0 h1]; open_payloads; pointwise; exact sel_first t _ _
  rw [← hE']
  clear hE hE' h
  refine Eq.trans ?_ (congrArg (_ + ·) (MU_terms _ _ _ _ _ _).symm)
  unfold T

  open_payloads; pointwise
  simp only [← Nat.add_assoc, Nat.reduceAdd, Nat.zero_add]

set_option maxHeartbeats 4000000 in
theorem acc10_A (c : Dev nD) (t : Fin cfg0.N) (h : t.val % 32 = 0) (y : S1x2048.Idx) :
    (outsAt0 m c t.val t.isLt).2.2 y = 0 + MU (iblk m c 0 t) (X0_3 m c t) (PWIN m c t) 9 (by omega) (y 1) := by
  rw [outsAt0_A m c t h]
  unfold out0_A_10
  frame_out
  simp only [readCov_ld]
  generalize hE : View.canon (Val := Elt Ideal) (_ :: _ :: _ :: _ :: _ :: _ :: []) = E
  have hE' : E = PWIN m c t := by
    subst hE
    funext e
    unfold PWIN
    refine canon3 _ _ _ _ (EXT t.val (X0_4 m c t) (X0_3 m c t) (X0_5 m c t)) (fun e x h0 h1 => ?_) (fun e x h0 h1 => ?_) (fun e x h0 h1 => ?_) e
    · rw [EXT_hi _ _ _ _ e x h0 h1]; open_payloads; pointwise; exact sel_last t _ _
    · rw [EXT_mid _ _ _ _ e x h0 h1]; open_payloads; pointwise
    · rw [EXT_lo _ _ _ _ e x h0 h1]; open_payloads; pointwise; exact sel_first t _ _
  rw [← hE']
  clear hE hE' h
  refine Eq.trans ?_ (congrArg (_ + ·) (MU_terms _ _ _ _ _ _).symm)
  unfold T

  open_payloads; pointwise
  simp only [← Nat.add_assoc, Nat.reduceAdd, Nat.zero_add]

set_option maxHeartbeats 4000000 in
theorem acc9_B (c : Dev nD) (t : Fin cfg0.N) (h : ¬ t.val % 32 = 0) (y : S1x2048.Idx) :
    (outsAt0 m c t.val t.isLt).2.1 y = (outsAt0 m c (t.val - 1) (by omega)).2.1 y + MU (iblk m c 0 t) (X0_3 m c t) (PWIN m c t) 7 (by omega) (y 1) := by
  rw [outsAt0_B m c t h]
  unfold out0_B_9
  frame_out
  simp only [readCov_ld]
  generalize hE : View.canon (Val := Elt Ideal) (_ :: _ :: _ :: _ :: _ :: _ :: []) = E
  have hE' : E = PWIN m c t := by
    subst hE
    funext e
    unfold PWIN
    refine canon3 _ _ _ _ (EXT t.val (X0_4 m c t) (X0_3 m c t) (X0_5 m c t)) (fun e x h0 h1 => ?_) (fun e x h0 h1 => ?_) (fun e x h0 h1 => ?_) e
    · rw [EXT_hi _ _ _ _ e x h0 h1]; open_payloads; pointwise; exact sel_last t _ _
    · rw [EXT_mid _ _ _ _ e x h0 h1]; open_payloads; pointwise
    · rw [EXT_lo _ _ _ _ e x h0 h1]; open_payloads; pointwise; exact sel_first t _ _
  rw [← hE']
  clear hE hE'
  refine Eq.trans ?_ (congrArg (_ + ·) (MU_terms _ _ _ _ _ _).symm)
  unfold T
  generalize (outsAt0 m c (t.val - 1) _).2.1 = b
  open_payloads; pointwise
  simp only [← Nat.add_assoc, Nat.reduceAdd, Nat.zero_add]

set_option maxHeartbeats 4000000 in
theorem acc10_B (c : Dev nD) (t : Fin cfg0.N) (h : ¬ t.val % 32 = 0) (y : S1x2048.Idx) :
    (outsAt0 m c t.val t.isLt).2.2 y = (outsAt0 m c (t.val - 1) (by omega)).2.2 y + MU (iblk m c 0 t) (X0_3 m c t) (PWIN m c t) 9 (by omega) (y 1) := by
  rw [outsAt0_B m c t h]
  unfold out0_B_10
  frame_out
  simp only [readCov_ld]
  generalize hE : View.canon (Val := Elt Ideal) (_ :: _ :: _ :: _ :: _ :: _ :: []) = E
  have hE' : E = PWIN m c t := by
    subst hE
    funext e
    unfold PWIN
    refine canon3 _ _ _ _ (EXT t.val (X0_4 m c t) (X0_3 m c t) (X0_5 m c t)) (fun e x h0 h1 => ?_) (fun e x h0 h1 => ?_) (fun e x h0 h1 => ?_) e
    · rw [EXT_hi _ _ _ _ e x h0 h1]; open_payloads; pointwise; exact sel_last t _ _
    · rw [EXT_mid _ _ _ _ e x h0 h1]; open_payloads; pointwise
    · rw [EXT_lo _ _ _ _ e x h0 h1]; open_payloads; pointwise; exact sel_first t _ _
  rw [← hE']
  clear hE hE'
  refine Eq.trans ?_ (congrArg (_ + ·) (MU_terms _ _ _ _ _ _).symm)
  unfold T
  generalize (outsAt0 m c (t.val - 1) _).2.2 = b
  open_payloads; pointwise
  simp only [← Nat.add_assoc, Nat.reduceAdd, Nat.zero_add]

end Cert.ShiftBwdIdeal.Hand
-- ==== Proof.ShiftFinal.lean ====
module
public import proofs.«01_k».proof.Proof.ShiftTile
public import Idealize.ShloMosaic.Lib.Pipeline.ValueKit
public import Idealize.ShloMosaic.Lib.Pointwise

/-! The token shift backwards: what the three results hold after the last tile. -/

@[expose] public section
set_option maxRecDepth 16384
noncomputable section
namespace Cert.ShiftBwdIdeal.Hand
open Cert.ShiftBwdIdeal Cert.ShiftBwdIdeal.Gen Idealize.ShloMosaic Idealize.ShloMosaic.TcCoe Idealize.SL.Sem
open Idealize.ShloMosaic.Pipeline (Dat)
variable (m : (ℓ : Loc nD τ sig) → Buf (Elt Ideal) ℓ)

/-- The gradient, the projected array and the two weights, as device `c` holds them. -/
def dS (c : Dev nD) : FVec Ideal S8192x2048 .f32 := m ((c : Thread nD τ).loc main_arg0)
def pR (c : Dev nD) : FVec Ideal S8192x3072 .f32 := m ((c : Thread nD τ).loc main_arg1)
def wP (c : Dev nD) : FVec Ideal S2048 .f32 := m ((c : Thread nD τ).loc main_arg2)
def wN (c : Dev nD) : FVec Ideal S2048 .f32 := m ((c : Thread nD τ).loc main_arg3)

theorem idx : ∀ t : Fin cfg0.N, win0_0.index t = ![t.val, 0] ∧ win0_1.index t = ![32 * t.val - 1, 0] ∧ win0_2.index t = ![min (32 * t.val + 32) 1023, 0]
    ∧ win0_3.index t = ![t.val, 0] ∧ win0_4.index t = ![32 * t.val - 1, 0] ∧ win0_5.index t = ![min (32 * t.val + 32) 1023, 0]
    ∧ win0_6.index t = ![0, 0] ∧ win0_7.index t = ![0, 0] ∧ win0_8.index t = ![t.val, 0] ∧ win0_9.index t = ![0, 0] ∧ win0_10.index t = ![0, 0] ∧ t.val < 32 :=
  (by decide +kernel : ∀ t : Fin grid0.N, _)

theorem lt32 (t : Fin cfg0.N) : t.val < 32 := (idx t).2.2.2.2.2.2.2.2.2.2.2

/-- The eight-row blocks before and after tile `n`. -/
def before (n : ℕ) : ℕ := 8 * (32 * n - 1)
def after (n : ℕ) : ℕ := 8 * min (32 * n + 32) 1023

theorem blk0 (c : Dev nD) (t : Fin cfg0.N) (r : Fin 256) (l : Fin 2048) (h : 256 * t.val + r < 8192) :
    (show FVec Ideal S256x2048 .f32 from iblk m c 0 t) (ix2 r l) = dS m c (ix2 ⟨256 * t.val + r, h⟩ l) := by
  show iblk m c 0 t (ix2 r l) = m ((c : Thread nD τ).loc main_arg0) _
  blk_ext [iblk, V, idx t]

theorem blk1 (c : Dev nD) (t : Fin cfg0.N) (r : Fin 8) (l : Fin 2048) (h : before t.val + r < 8192) :
    (show FVec Ideal S8x2048 .f32 from iblk m c 1 t) (ix2 r l) = dS m c (ix2 ⟨before t.val + r, h⟩ l) := by
  show iblk m c 1 t (ix2 r l) = m ((c : Thread nD τ).loc main_arg0) _
  unfold before
  blk_ext [iblk, V, idx t]

theorem blk2 (c : Dev nD) (t : Fin cfg0.N) (r : Fin 8) (l : Fin 2048) (h : after t.val + r < 8192) :
    (show FVec Ideal S8x2048 .f32 from iblk m c 2 t) (ix2 r l) = dS m c (ix2 ⟨after t.val + r, h⟩ l) := by
  show iblk m c 2 t (ix2 r l) = m ((c : Thread nD τ).loc main_arg0) _
  unfold after
  blk_ext [iblk, V, idx t]

/-- The projected array's first 2048 columns. -/
def PC (P : FVec Ideal S8192x3072 .f32) : FVec Ideal S8192x2048 .f32 := fun j =>
  P (ix2 (j 0) ⟨j 1, by have : (j 1 : ℕ) < 2048 := (j 1).isLt; omega⟩)

theorem blk3 (c : Dev nD) (t : Fin cfg0.N) (r : Fin 256) (l : Fin 2048) (h : 256 * t.val + r < 8192) :
    (show FVec Ideal S256x2048 .f32 from X0_3 m c t) (ix2 r l) = PC (pR m c) (ix2 ⟨256 * t.val + r, h⟩ l) := by
  show X0_3 m c t (ix2 r l) = m ((c : Thread nD τ).loc main_arg1) _
  unfold X0_3 Pipeline.Window.fill
  rw [dif_pos (((cfg0.win 3).moved_iff _ _).mpr fun a => by
    rw [xsize0_3 t a]
    exact (ix2 r l a).isLt)]
  blk_ext [iblk, V, idx t]

theorem blk4 (c : Dev nD) (t : Fin cfg0.N) (r : Fin 8) (l : Fin 2048) (h : before t.val + r < 8192) :
    (show FVec Ideal S8x2048 .f32 from X0_4 m c t) (ix2 r l) = PC (pR m c) (ix2 ⟨before t.val + r, h⟩ l) := by
  show X0_4 m c t (ix2 r l) = m ((c : Thread nD τ).loc main_arg1) _
  unfold X0_4 Pipeline.Window.fill
  rw [dif_pos (((cfg0.win 4).moved_iff _ _).mpr fun a => by
    rw [xsize0_4 t a]
    exact (ix2 r l a).isLt)]
  unfold before
  blk_ext [iblk, V, idx t]

theorem blk5 (c : Dev nD) (t : Fin cfg0.N) (r : Fin 8) (l : Fin 2048) (h : after t.val + r < 8192) :
    (show FVec Ideal S8x2048 .f32 from X0_5 m c t) (ix2 r l) = PC (pR m c) (ix2 ⟨after t.val + r, h⟩ l) := by
  show X0_5 m c t (ix2 r l) = m ((c : Thread nD τ).loc main_arg1) _
  unfold X0_5 Pipeline.Window.fill
  rw [dif_pos (((cfg0.win 5).moved_iff _ _).mpr fun a => by
    rw [xsize0_5 t a]
    exact (ix2 r l a).isLt)]
  unfold after
  blk_ext [iblk, V, idx t]

theorem weightP (c : Dev nD) (l : Fin 2048) :
    (show FVec Ideal S1x2048 .f32 from V m c (Pipeline.arrRef spec0 6)) (ix2 0 l) = wP m c (ix1 l) := by
  entry_read
  pointwise
  rfl
theorem weightN (c : Dev nD) (l : Fin 2048) :
    (show FVec Ideal S1x2048 .f32 from V m c (Pipeline.arrRef spec0 7)) (ix2 0 l) = wN m c (ix1 l) := by
  entry_read
  pointwise
  rfl
theorem blk6 (c : Dev nD) (t : Fin cfg0.N) (l : Fin 2048) :
    (show FVec Ideal S1x2048 .f32 from iblk m c 6 t) (ix2 0 l) = wP m c (ix1 l) := by
  refine Eq.trans ?_ (weightP m c l)
  blk_ext [iblk, idx t]
theorem blk7 (c : Dev nD) (t : Fin cfg0.N) (l : Fin 2048) :
    (show FVec Ideal S1x2048 .f32 from iblk m c 7 t) (ix2 0 l) = wN m c (ix1 l) := by
  refine Eq.trans ?_ (weightN m c l)
  blk_ext [iblk, idx t]

/-- Sequence `b` of the array `A` with a row of zeros before it and after it, at row `s` and channel `l`. -/
def SQ (A : FVec Ideal S8192x2048 .f32) (b s : ℕ) (l : Fin 2048) : EReal :=
  if h : 1 ≤ s ∧ s < 2049 ∧ b < 4 then A (ix2 ⟨2048 * b + (s - 1), by omega⟩ l) else 0

/-- The window of tile `n` is a stretch of the padded sequence the tile lies in. -/
theorem EXT_SQ (n : ℕ) (hn : n < 32) (A : FVec Ideal S8192x2048 .f32) (Z0 : FVec Ideal S8x2048 .f32) (X : FVec Ideal S256x2048 .f32) (Z1 : FVec Ideal S8x2048 .f32)
    (h0 : ∀ (r : Fin 8) (l : Fin 2048) (h : before n + r < 8192), Z0 (ix2 r l) = A (ix2 ⟨before n + r, h⟩ l))
    (hX : ∀ (r : Fin 256) (l : Fin 2048) (h : 256 * n + r < 8192), X (ix2 r l) = A (ix2 ⟨256 * n + r, h⟩ l))
    (h1 : ∀ (r : Fin 8) (l : Fin 2048) (h : after n + r < 8192), Z1 (ix2 r l) = A (ix2 ⟨after n + r, h⟩ l))
    (e : ℕ) (he : e < 272) (he1 : 7 ≤ e) (he2 : e ≤ 264) (l : Fin 2048) :
    EXT n Z0 X Z1 (ix2 ⟨e, he⟩ l) = SQ A (n / 8) (n % 8 * 256 + e - 7) l := by
  unfold EXT SQ
  show (if h : e < 8 then (if n % 8 = 0 then 0 else Z0 (ix2 ⟨e, h⟩ l))
    else if h' : e < 264 then X (ix2 ⟨e - 8, by omega⟩ l)
    else if n % 8 = 7 then 0 else Z1 (ix2 ⟨e - 264, by omega⟩ l)) = _
  have hd := Nat.div_add_mod n 8
  have hm : n % 8 < 8 := Nat.mod_lt _ (by decide)
  have hb : before n = 8 * (32 * n - 1) := rfl
  have ha : after n = 8 * min (32 * n + 32) 1023 := rfl
  by_cases c1 : e < 8
  · rw [dif_pos c1]
    by_cases c2 : n % 8 = 0
    · rw [if_pos c2, dif_neg (by omega)]
    · rw [if_neg c2, dif_pos (by omega), h0 _ _ (by show before n + e < 8192; omega)]
      exact congrArg A (congrArg₂ ix2 (Fin.ext (by show before n + e = 2048 * (n / 8) + (n % 8 * 256 + e - 7 - 1); omega)) rfl)
  · rw [dif_neg c1]
    by_cases c2 : e < 264
    · rw [dif_pos c2, dif_pos (by omega), hX _ _ (by show 256 * n + (e - 8) < 8192; omega)]
      exact congrArg A (congrArg₂ ix2 (Fin.ext (by show 256 * n + (e - 8) = 2048 * (n / 8) + (n % 8 * 256 + e - 7 - 1); omega)) rfl)
    · rw [dif_neg c2]
      by_cases c3 : n % 8 = 7
      · rw [if_pos c3, dif_neg (by omega)]
      · rw [if_neg c3, dif_pos (by omega), h1 _ _ (by show after n + (e - 264) < 8192; omega)]
        exact congrArg A (congrArg₂ ix2 (Fin.ext (by show after n + (e - 264) = 2048 * (n / 8) + (n % 8 * 256 + e - 7 - 1); omega)) rfl)

/-- The gradient of the shift's input, row by row: the row times one less both weights, its follower times the first weight, its predecessor
    times the second. -/
def DP (D : FVec Ideal S8192x2048 .f32) (a b : FVec Ideal S2048 .f32) : FVec Ideal S8192x2048 .bf16 := fun j =>
  D (ix2 (j 0) (j 1)) * (1 - a (ix1 (j 1)) - b (ix1 (j 1))) + SQ D ((j 0 : ℕ) / 2048) ((j 0 : ℕ) % 2048 + 2) (j 1) * a (ix1 (j 1))
    + SQ D ((j 0 : ℕ) / 2048) ((j 0 : ℕ) % 2048) (j 1) * b (ix1 (j 1))

/-- The gradient of a weight: over all rows, the gradient against the difference of the neighbouring row (`k` is 0 for the row before, 2 for the
    row after) and the row itself. -/
def DMU (D : FVec Ideal S8192x2048 .f32) (P : FVec Ideal S8192x3072 .f32) (k : ℕ) : FVec Ideal S1x2048 .f32 := fun j =>
  ∑ R : Fin 8192, D (ix2 R (j 1)) * (SQ (PC P) ((R : ℕ) / 2048) ((R : ℕ) % 2048 + k) (j 1) - PC P (ix2 R (j 1)))

theorem DWIN_SQ (c : Dev nD) (t : Fin cfg0.N) (e : ℕ) (he : e < 272) (he1 : 7 ≤ e) (he2 : e ≤ 264) (l : Fin 2048) :
    DWIN m c t (ix2 ⟨e, he⟩ l) = SQ (dS m c) (t.val / 8) (t.val % 8 * 256 + e - 7) l :=
  EXT_SQ t.val (lt32 t) (dS m c) _ _ _ (blk1 m c t) (blk0 m c t) (blk2 m c t) e he he1 he2 l

theorem PWIN_SQ (c : Dev nD) (t : Fin cfg0.N) (e : ℕ) (he : e < 272) (he1 : 7 ≤ e) (he2 : e ≤ 264) (l : Fin 2048) :
    PWIN m c t (ix2 ⟨e, he⟩ l) = SQ (PC (pR m c)) (t.val / 8) (t.val % 8 * 256 + e - 7) l :=
  EXT_SQ t.val (lt32 t) (PC (pR m c)) _ _ _ (blk4 m c t) (blk3 m c t) (blk5 m c t) e he he1 he2 l

theorem strips (c : Dev nD) (t : Fin cfg0.N) (r : Fin 256) (l : Fin 2048) (R : Fin 8192) (h : (R : ℕ) = 256 * t.val + r) :
    (outsAt0 m c t.val t.isLt).1 (ix2 r l) = DP (dS m c) (wP m c) (wN m c) (ix2 R l) := by
  have ht := lt32 t
  have e : (outsAt0 m c t.val t.isLt).1 (ix2 r l) = DPR (iblk m c 0 t) (DWIN m c t) (iblk m c 6 t) (iblk m c 7 t) r l := by
    by_cases h : t.val % 32 = 0
    · exact strips_A m c t h (ix2 r l)
    · exact strips_B m c t h (ix2 r l)
  rw [e]
  have hb : 256 * t.val + (r : ℕ) < 8192 := by omega
  obtain rfl : R = ⟨256 * t.val + r, hb⟩ := Fin.ext h
  unfold DPR
  refine congrArg₂ (· + ·) (congrArg₂ (· + ·) (congrArg₂ (· * ·) (blk0 m c t r l (by omega)) (congrArg₂ (fun x y => 1 - x - y) (blk6 m c t l) (blk7 m c t l)))
    (congrArg₂ (· * ·) ?_ (blk6 m c t l))) (congrArg₂ (· * ·) ?_ (blk7 m c t l))
  · refine (DWIN_SQ m c t _ _ (by omega) (by omega) l).trans ?_
    exact congrArg₂ (fun b s => SQ (dS m c) b s l) (by show t.val / 8 = (256 * t.val + (r : ℕ)) / 2048; omega)
      (by show t.val % 8 * 256 + (9 + (r : ℕ)) - 7 = (256 * t.val + (r : ℕ)) % 2048 + 2; omega)
  · refine (DWIN_SQ m c t _ _ (by omega) (by omega) l).trans ?_
    exact congrArg₂ (fun b s => SQ (dS m c) b s l) (by show t.val / 8 = (256 * t.val + (r : ℕ)) / 2048; omega)
      (by show t.val % 8 * 256 + (7 + (r : ℕ)) - 7 = (256 * t.val + (r : ℕ)) % 2048; omega)

theorem fin8 (c : Dev nD) : (dats m 0 c).arrAt 8 cfg0.N = DP (dS m c) (wP m c) (wN m c) := by
  refine (dats m 0 c).arrAt_eq_of_covers 8 _ (by decide +kernel) fun t _ y => ?_
  obtain ⟨r, l, rfl⟩ : ∃ (r : Fin 256) (l : Fin 2048), y = ix2 r l := ⟨_, _, eq_ix2 y⟩
  have ht := lt32 t
  blk_simp
  rw [after0_8]
  refine (strips m c t r l ⟨256 * t.val + r, by omega⟩ rfl).trans (congrArg (DP _ _ _) (funext fun a => Fin.ext ?_))
  fin_cases a <;> blk_simp [idx t]
  · change 256 * t.val + (r : ℕ) = (_ + (r : ℕ) : ℕ)
    omega
  · rfl

/-- A tile's part of a weight's gradient, as one sum. -/
theorem MU_flat (X P : FVec Ideal S256x2048 .f32) (E : FVec Ideal S272x2048 .f32) (k : ℕ) (hk : k ≤ 16) (l : Fin 2048) :
    MU X P E k hk l = ∑ q : Fin 256, X (ix2 q l) * (E (ix2 ⟨k + q, by omega⟩ l) - P (ix2 q l)) := by
  unfold MU T
  refine Fin.sum_mul_add_congr fun s r hl => ?_
  have hq : ∀ h, (⟨16 * (s : ℕ) + r, h⟩ : Fin 256) = ⟨(s : ℕ) * 16 + r, hl⟩ := fun h => Fin.ext (by show 16 * (s : ℕ) + r = s * 16 + r; omega)
  rw [hq]
  refine congrArg (X _ * ·) (congrArg (· - P _) (congrArg E (congrArg₂ ix2 (Fin.ext ?_) rfl)))
  show k + (16 * (s : ℕ) + r) = k + (s * 16 + r)
  omega

/-- What the point `t` adds to a weight's gradient. -/
def TERM (c : Dev nD) (k : ℕ) (hk : k ≤ 16) (t : Fin cfg0.N) (y : S1x2048.Idx) : EReal :=
  MU (iblk m c 0 t) (X0_3 m c t) (PWIN m c t) k hk (y 1)

/-- The tiles' parts together are the whole sum. -/
theorem TERM_sum (c : Dev nD) (k : ℕ) (hk : k ≤ 2) (f : Fin 32 → Fin cfg0.N) (hf : ∀ s, (f s : ℕ) = s) (y : S1x2048.Idx) :
    ∑ s : Fin 32, TERM m c (7 + k) (by omega) (f s) y = DMU (dS m c) (pR m c) k y := by
  unfold DMU TERM
  refine (Finset.sum_congr rfl fun s _ => MU_flat _ _ _ _ _ _).trans ?_
  refine Fin.sum_mul_add_congr fun s r hl => ?_
  have e0 := hf s
  have ht := lt32 (f s)
  refine congrArg₂ (· * ·) ?_ (congrArg₂ (· - ·) ?_ ?_)
  · refine (blk0 m c _ r (y 1) (by omega)).trans ?_
    exact congrArg (dS m c) (congrArg₂ ix2 (Fin.ext (by show 256 * (f s : ℕ) + (r : ℕ) = s * 256 + r; omega)) rfl)
  · refine (PWIN_SQ m c _ _ _ (by omega) (by omega) (y 1)).trans ?_
    exact congrArg₂ (fun b k => SQ (PC (pR m c)) b k (y 1)) (by show (f s : ℕ) / 8 = (s * 256 + r) / 2048; omega)
      (by show (f s : ℕ) % 8 * 256 + (7 + k + (r : ℕ)) - 7 = (s * 256 + r) % 2048 + k; omega)
  · refine (blk3 m c _ r (y 1) (by omega)).trans ?_
    exact congrArg (PC (pR m c)) (congrArg₂ ix2 (Fin.ext (by show 256 * (f s : ℕ) + (r : ℕ) = s * 256 + r; omega)) rfl)

theorem acc9 (c : Dev nD) (t : Fin cfg0.N) (ht : t.val % 32 = 31) (y : S1x2048.Idx) : (outsAt0 m c t.val t.isLt).2.1 y = DMU (dS m c) (pR m c) 0 y := by
  rw [Pipeline.eq_sum_fin_of_reset_step_apply_of_flush (fun n h => (outsAt0 m c n h).2.1) 32 (fun _ => (0 : EReal)) (TERM m c 7 (by omega))
    (fun t h j => acc9_A m c t h j) (fun t h j => acc9_B m c t h j) t ht y]
  have hlt := lt32 t
  refine (zero_add _).trans ?_
  exact TERM_sum m c 0 (by omega) _ (fun s => by show 32 * (t.val / 32) + (s : ℕ) = s; omega) y

theorem fin9 (c : Dev nD) : (dats m 0 c).arrAt 9 cfg0.N = DMU (dS m c) (pR m c) 0 := by
  refine (dats m 0 c).arrAt_eq_of_covers 9 _ (by decide +kernel) fun t hf y => ?_
  blk_simp
  rw [after0_9]
  refine (acc9 m c t ((flush0_9 t).mp hf) y).trans (congrArg _ ?_)
  funext a
  apply Fin.ext
  fin_cases a <;> blk_simp [idx t]

theorem acc10 (c : Dev nD) (t : Fin cfg0.N) (ht : t.val % 32 = 31) (y : S1x2048.Idx) : (outsAt0 m c t.val t.isLt).2.2 y = DMU (dS m c) (pR m c) 2 y := by
  rw [Pipeline.eq_sum_fin_of_reset_step_apply_of_flush (fun n h => (outsAt0 m c n h).2.2) 32 (fun _ => (0 : EReal)) (TERM m c 9 (by omega))
    (fun t h j => acc10_A m c t h j) (fun t h j => acc10_B m c t h j) t ht y]
  have hlt := lt32 t
  refine (zero_add _).trans ?_
  exact TERM_sum m c 2 (by omega) _ (fun s => by show 32 * (t.val / 32) + (s : ℕ) = s; omega) y

theorem fin10 (c : Dev nD) : (dats m 0 c).arrAt 10 cfg0.N = DMU (dS m c) (pR m c) 2 := by
  refine (dats m 0 c).arrAt_eq_of_covers 10 _ (by decide +kernel) fun t hf y => ?_
  blk_simp
  rw [after0_10]
  refine (acc10 m c t ((flush0_10 t).mp hf) y).trans (congrArg _ ?_)
  funext a
  apply Fin.ext
  fin_cases a <;> blk_simp [idx t]

end Cert.ShiftBwdIdeal.Hand
-- ==== Proof.ShiftRef.lean ====
module
public import proofs.«01_k».proof.Proof.Gen.ShiftBwdRefIdeal.Run
public import proofs.«01_k».proof.Proof.ShiftFinal
public import proofs.«01_k».proof.Proof.LnBack
public import Idealize.ShloMosaic.Lib.Pipeline.ValueKit
public import Idealize.ShloMosaic.Lib.Pointwise
public import Idealize.ShloMosaic.Lib.IdealHost

/-! The token shift's backward reference read at indices. -/

@[expose] public section
set_option maxRecDepth 16384
noncomputable section
namespace Cert.ShiftBwdRefIdeal.Hand
open Cert.ShiftBwdRefIdeal Cert.ShiftBwdRefIdeal.Gen Idealize.ShloMosaic Idealize.ShloMosaic.TcCoe Idealize.SL.Sem
open Cert.ShiftBwdIdeal.Hand (SQ PC DP DMU)
open Cert.LnBack (Fi)

/-- A finite number times one less two weights, the second of them finite, taken apart. -/
theorem apart (d a b : EReal) (hd : Fi d) (hb : Fi b) : -(b * d) + d + -(a * d) = d * (1 - a - b) := by
  lift d to ℝ using ⟨hd.1, hd.2⟩
  lift b to ℝ using ⟨hb.1, hb.2⟩
  induction a with
  | coe a => norm_cast; ring
  | top =>
    have e : (1 : EReal) - ⊤ - (b : EReal) = ⊥ := by
      rw [sub_eq_add_neg, sub_eq_add_neg, EReal.neg_top, EReal.add_bot, EReal.bot_add]
    rw [e]
    rcases lt_trichotomy d 0 with h | h | h
    · rw [EReal.coe_mul_bot_of_neg h, EReal.top_mul_coe_of_neg h, EReal.neg_bot]
      norm_cast
    · subst h; simp
    · rw [EReal.coe_mul_bot_of_pos h, EReal.top_mul_coe_of_pos h, EReal.neg_top, EReal.add_bot]
  | bot =>
    have e : (1 : EReal) - ⊥ - (b : EReal) = ⊤ := by
      rw [sub_eq_add_neg, sub_eq_add_neg, EReal.neg_bot]
      norm_cast
    rw [e]
    rcases lt_trichotomy d 0 with h | h | h
    · rw [EReal.coe_mul_top_of_neg h, EReal.bot_mul_coe_of_neg h, EReal.neg_top, EReal.add_bot]
    · subst h; simp
    · rw [EReal.coe_mul_top_of_pos h, EReal.bot_mul_coe_of_pos h, EReal.neg_bot]
      norm_cast

theorem SQ_at (A : FVec Ideal S8192x2048 .f32) (b s : ℕ) (l : Fin 2048) (r : Fin 8192) (h : 1 ≤ s ∧ s < 2049 ∧ b < 4)
    (hr : (r : ℕ) = 2048 * b + (s - 1)) : SQ A b s l = A (ix2 r l) := by
  unfold SQ
  rw [dif_pos h]
  exact congrArg A (congrArg₂ ix2 (Fin.ext hr.symm) rfl)

theorem SQ_off (A : FVec Ideal S8192x2048 .f32) (b s : ℕ) (l : Fin 2048) (h : ¬(1 ≤ s ∧ s < 2049 ∧ b < 4)) : SQ A b s l = 0 :=
  dif_neg h

/-- What the row after puts in, with nothing after the last row of a sequence. -/
theorem later_row (D : FVec Ideal S8192x2048 .f32) (a : FVec Ideal S2048 .f32) (R : Fin 8192) (l : Fin 2048) :
    (if h : (R : ℕ) / 2048 < 4 ∧ (R : ℕ) % 2048 < 2047 then a (ix1 l) * D (ix2 ⟨(R : ℕ) / 2048 * 2048 + (1 + (R : ℕ) % 2048), by omega⟩ l) else 0)
      = SQ D ((R : ℕ) / 2048) ((R : ℕ) % 2048 + 2) l * a (ix1 l) := by
  by_cases h : (R : ℕ) % 2048 < 2047
  · rw [dif_pos ⟨by omega, h⟩, SQ_at D _ _ l ⟨(R : ℕ) / 2048 * 2048 + (1 + (R : ℕ) % 2048), by omega⟩ (by omega) (by dsimp only; omega)]
    exact mul_comm _ _
  · rw [dif_neg (by omega), SQ_off _ _ _ _ (by omega), zero_mul]

/-- What the row before puts in, with nothing before the first row of a sequence. -/
theorem earlier_row (D : FVec Ideal S8192x2048 .f32) (b : FVec Ideal S2048 .f32) (R : Fin 8192) (l : Fin 2048) :
    (if h : (R : ℕ) / 2048 < 4 ∧ 1 ≤ (R : ℕ) % 2048 ∧ (R : ℕ) % 2048 - 1 < 2047 then b (ix1 l) * D (ix2 ⟨(R : ℕ) / 2048 * 2048 + ((R : ℕ) % 2048 - 1), by omega⟩ l) else 0)
      = SQ D ((R : ℕ) / 2048) ((R : ℕ) % 2048) l * b (ix1 l) := by
  by_cases h : 1 ≤ (R : ℕ) % 2048
  · rw [dif_pos ⟨by omega, h, by omega⟩, SQ_at D _ _ l ⟨(R : ℕ) / 2048 * 2048 + ((R : ℕ) % 2048 - 1), by omega⟩ (by omega) (by dsimp only; omega)]
    exact mul_comm _ _
  · rw [dif_neg (by omega), SQ_off _ _ _ _ (by omega), zero_mul]

/-- The first result: the gradient of the unshifted projection. -/
theorem r46 (D : FVec Ideal S8192x2048 .f32) (a b : FVec Ideal S2048 .f32) (hD : ∀ r l, Fi (D (ix2 r l))) (hb : ∀ l, Fi (b (ix1 l))) :
    truncf .bf16 (shapeCast _ (addf (addf (addf (addf (Host.negf (mulf (broadcastInDim S4x2048x2048 ![0, 1, 2] bcast_S1x1x2048_S4x2048x2048_0_1_2 (broadcastInDim S1x1x2048 ![2] bcast_S2048_S1x1x2048_2 b)) (shapeCast _ D shapeCasts_S8192x2048_S4x2048x2048))) (shapeCast _ D shapeCasts_S8192x2048_S4x2048x2048)) (Host.negf (mulf (broadcastInDim S4x2048x2048 ![0, 1, 2] bcast_S1x1x2048_S4x2048x2048_0_1_2 (broadcastInDim S1x1x2048 ![2] bcast_S2048_S1x1x2048_2 a)) (shapeCast _ D shapeCasts_S8192x2048_S4x2048x2048)))) (pad S4x2048x2048 ![0, 1, 0] ![0, 0, 0] ![0, 0, 0] (extractStridedSlice S4x2047x2048 ![0, 0, 0] (mulf (broadcastInDim S4x2048x2048 ![0, 1, 2] bcast_S1x1x2048_S4x2048x2048_0_1_2 (broadcastInDim S1x1x2048 ![2] bcast_S2048_S1x1x2048_2 b)) (shapeCast _ D shapeCasts_S8192x2048_S4x2048x2048)) slices_S4x2048x2048_S4x2047x2048_0_0_0) (constant S_ .f32 0x00000000#32) pads_S4x2047x2048_S4x2048x2048_000_100_000 h_S_)) (pad S4x2048x2048 ![0, 0, 0] ![0, 1, 0] ![0, 0, 0] (extractStridedSlice S4x2047x2048 ![0, 1, 0] (mulf (broadcastInDim S4x2048x2048 ![0, 1, 2] bcast_S1x1x2048_S4x2048x2048_0_1_2 (broadcastInDim S1x1x2048 ![2] bcast_S2048_S1x1x2048_2 a)) (shapeCast _ D shapeCasts_S8192x2048_S4x2048x2048)) slices_S4x2048x2048_S4x2047x2048_0_1_0) (constant S_ .f32 0x00000000#32) pads_S4x2047x2048_S4x2048x2048_000_010_000 h_S_)) shapeCasts_S4x2048x2048_S8192x2048) bitsLt_bf16_f32
      = DP D a b := by
  funext e
  obtain ⟨R, l, rfl⟩ : ∃ R l, e = ix2 R l := ⟨_, _, eq_ix2 e⟩
  show _ = D (ix2 R l) * (1 - a (ix1 l) - b (ix1 l)) + SQ D ((R : ℕ) / 2048) ((R : ℕ) % 2048 + 2) l * a (ix1 l)
    + SQ D ((R : ℕ) / 2048) ((R : ℕ) % 2048) l * b (ix1 l)
  rw [← apart _ _ _ (hD R l) (hb l)]
  pointwise
  rw [later_row D a R l, earlier_row D b R l, add_right_comm]

/-- The sum over the two leading axes of three. -/
theorem lead_sum {n0 n1 n2 : ℕ} (h : (⟨3, ![n0, n1, n2]⟩ : Shape).ReducesTo [0, 1] ⟨1, ![n2]⟩)
    (v : (⟨3, ![n0, n1, n2]⟩ : Shape).Idx → EReal) (l : Fin n2) :
    Ideal.hostReduceAdd h v 0 (ix1 l) = ∑ b : Fin n0, ∑ t : Fin n1, v (ix3 b t l) := by
  refine (zero_add _).trans ?_
  refine (Finset.sum_filter_eq_sum_of_fiber _ (fun p : Fin n0 × Fin n1 => ix3 p.1 p.2 l)
    (fun _ _ e => Prod.ext (congrFun e 0) (congrFun e 1)) ?_ v).trans
    (Fintype.sum_prod_type _)
  intro i
  constructor
  · intro e
    refine ⟨(i 0, i 1), ?_⟩
    funext a
    apply Fin.ext
    match a with
    | ⟨0, _⟩ => rfl
    | ⟨1, _⟩ => rfl
    | ⟨2, _⟩ => exact (congrArg Fin.val (congrFun e 0)).symm
  · rintro ⟨p, rfl⟩
    funext a
    apply Fin.ext
    match a with
    | ⟨0, _⟩ => rfl

/-- A column's sum over all rows, sequence by sequence. -/
theorem column (X : FVec Ideal S4x2048x2048 .f32) (k : Fin 1) (l : Fin 2048) :
    broadcastInDim S1x2048 ![1] bcast_S2048_S1x2048_1 (Host.reduceAdd (shapeCast S1x1x2048 (Host.reduceAdd X (constant S_ .f32 0x00000000#32) reducesTo_S4x2048x2048_S2048_d0_1 h_S_) shapeCasts_S2048_S1x1x2048) (constant S_ .f32 0x00000000#32) reducesTo_S1x1x2048_S2048_d0_1 h_S_) (ix2 k l)
      = ∑ b : Fin 4, ∑ t : Fin 2048, X (ix3 b t l) := by
  pointwise
  refine (lead_sum reducesTo_S1x1x2048_S2048_d0_1 _ l).trans ?_
  rw [Fin.sum_univ_one, Fin.sum_univ_one]
  pointwise
  exact lead_sum reducesTo_S4x2048x2048_S2048_d0_1 X l

theorem in47 (D : FVec Ideal S8192x2048 .f32) (P : FVec Ideal S8192x3072 .f32) (B : Fin 4) (t l : Fin 2048) (hl : (B : ℕ) * 2048 + t < 8192) :
    (mulf (shapeCast _ D shapeCasts_S8192x2048_S4x2048x2048) (subf (concatenate S4x2048x2048 1 [⟨S4x1x2048, (broadcastInDim S4x1x2048 ![] bcast_S_S4x1x2048 (constant S_ .f32 0x00000000#32))⟩, ⟨S4x2047x2048, (extractStridedSlice S4x2047x2048 ![0, 0, 0] (shapeCast _ (extractStridedSlice S8192x2048 ![0, 0] P slices_S8192x3072_S8192x2048_0_0) shapeCasts_S8192x2048_S4x2048x2048) slices_S4x2048x2048_S4x2047x2048_0_0_0)⟩] concatenates_S4x1x2048_S4x2047x2048_S4x2048x2048_d1) (shapeCast _ (extractStridedSlice S8192x2048 ![0, 0] P slices_S8192x3072_S8192x2048_0_0) shapeCasts_S8192x2048_S4x2048x2048))) (ix3 B t l)
      = D (ix2 ⟨(B : ℕ) * 2048 + t, hl⟩ l) * (SQ (PC P) B t l - PC P (ix2 ⟨(B : ℕ) * 2048 + t, hl⟩ l)) := by
  pointwise
  refine congrArg₂ (fun x y => D (ix2 ⟨(B : ℕ) * 2048 + t, hl⟩ l) * (x - y)) ?_ rfl
  by_cases h : (t : ℕ) < 1
  · rw [dif_pos h, SQ_off _ _ _ _ (by omega)]
  · rw [dif_neg h, SQ_at _ _ _ l ⟨(B : ℕ) * 2048 + ((t : ℕ) - 1), by omega⟩ (by omega) (by dsimp only; omega)]
    rfl

/-- The second result: the gradient of the earlier row's weight. -/
theorem r47 (D : FVec Ideal S8192x2048 .f32) (P : FVec Ideal S8192x3072 .f32) :
    broadcastInDim S1x2048 ![1] bcast_S2048_S1x2048_1 (Host.reduceAdd (shapeCast _ (Host.reduceAdd (mulf (shapeCast _ D shapeCasts_S8192x2048_S4x2048x2048) (subf (concatenate S4x2048x2048 1 [⟨S4x1x2048, (broadcastInDim S4x1x2048 ![] bcast_S_S4x1x2048 (constant S_ .f32 0x00000000#32))⟩, ⟨S4x2047x2048, (extractStridedSlice S4x2047x2048 ![0, 0, 0] (shapeCast _ (extractStridedSlice S8192x2048 ![0, 0] P slices_S8192x3072_S8192x2048_0_0) shapeCasts_S8192x2048_S4x2048x2048) slices_S4x2048x2048_S4x2047x2048_0_0_0)⟩] concatenates_S4x1x2048_S4x2047x2048_S4x2048x2048_d1) (shapeCast _ (extractStridedSlice S8192x2048 ![0, 0] P slices_S8192x3072_S8192x2048_0_0) shapeCasts_S8192x2048_S4x2048x2048))) (constant S_ .f32 0x00000000#32) reducesTo_S4x2048x2048_S2048_d0_1 h_S_) shapeCasts_S2048_S1x1x2048) (constant S_ .f32 0x00000000#32) reducesTo_S1x1x2048_S2048_d0_1 h_S_)
      = DMU D P 0 := by
  funext e
  obtain ⟨k, l, rfl⟩ : ∃ R l, e = ix2 R l := ⟨_, _, eq_ix2 e⟩
  refine (column _ k l).trans ?_
  refine Fin.sum_mul_add_congr fun B t hl => (in47 D P B t l hl).trans ?_
  refine congrArg (fun x => D (ix2 ⟨(B : ℕ) * 2048 + t, hl⟩ l) * (x - PC P (ix2 ⟨(B : ℕ) * 2048 + t, hl⟩ l))) ?_
  refine congrArg₂ (fun x y => SQ (PC P) x y l) ?_ ?_
  · show (B : ℕ) = ((B : ℕ) * 2048 + t) / 2048
    omega
  · show (t : ℕ) = ((B : ℕ) * 2048 + t) % 2048 + 0
    omega

theorem in48 (D : FVec Ideal S8192x2048 .f32) (P : FVec Ideal S8192x3072 .f32) (B : Fin 4) (t l : Fin 2048) (hl : (B : ℕ) * 2048 + t < 8192) :
    (mulf (shapeCast _ D shapeCasts_S8192x2048_S4x2048x2048) (subf (concatenate S4x2048x2048 1 [⟨S4x2047x2048, (extractStridedSlice S4x2047x2048 ![0, 1, 0] (shapeCast _ (extractStridedSlice S8192x2048 ![0, 0] P slices_S8192x3072_S8192x2048_0_0) shapeCasts_S8192x2048_S4x2048x2048) slices_S4x2048x2048_S4x2047x2048_0_1_0)⟩, ⟨S4x1x2048, (broadcastInDim S4x1x2048 ![] bcast_S_S4x1x2048 (constant S_ .f32 0x00000000#32))⟩] concatenates_S4x2047x2048_S4x1x2048_S4x2048x2048_d1) (shapeCast _ (extractStridedSlice S8192x2048 ![0, 0] P slices_S8192x3072_S8192x2048_0_0) shapeCasts_S8192x2048_S4x2048x2048))) (ix3 B t l)
      = D (ix2 ⟨(B : ℕ) * 2048 + t, hl⟩ l) * (SQ (PC P) B (t + 2) l - PC P (ix2 ⟨(B : ℕ) * 2048 + t, hl⟩ l)) := by
  pointwise
  refine congrArg₂ (fun x y => D (ix2 ⟨(B : ℕ) * 2048 + t, hl⟩ l) * (x - y)) ?_ rfl
  by_cases h : (t : ℕ) < 2047
  · rw [dif_pos h, SQ_at _ _ _ l ⟨(B : ℕ) * 2048 + (1 + (t : ℕ)), by omega⟩ (by omega) (by dsimp only; omega)]
    rfl
  · rw [dif_neg h, SQ_off _ _ _ _ (by omega)]

/-- The third result: the gradient of the later row's weight. -/
theorem r48 (D : FVec Ideal S8192x2048 .f32) (P : FVec Ideal S8192x3072 .f32) :
    broadcastInDim S1x2048 ![1] bcast_S2048_S1x2048_1 (Host.reduceAdd (shapeCast _ (Host.reduceAdd (mulf (shapeCast _ D shapeCasts_S8192x2048_S4x2048x2048) (subf (concatenate S4x2048x2048 1 [⟨S4x2047x2048, (extractStridedSlice S4x2047x2048 ![0, 1, 0] (shapeCast _ (extractStridedSlice S8192x2048 ![0, 0] P slices_S8192x3072_S8192x2048_0_0) shapeCasts_S8192x2048_S4x2048x2048) slices_S4x2048x2048_S4x2047x2048_0_1_0)⟩, ⟨S4x1x2048, (broadcastInDim S4x1x2048 ![] bcast_S_S4x1x2048 (constant S_ .f32 0x00000000#32))⟩] concatenates_S4x2047x2048_S4x1x2048_S4x2048x2048_d1) (shapeCast _ (extractStridedSlice S8192x2048 ![0, 0] P slices_S8192x3072_S8192x2048_0_0) shapeCasts_S8192x2048_S4x2048x2048))) (constant S_ .f32 0x00000000#32) reducesTo_S4x2048x2048_S2048_d0_1 h_S_) shapeCasts_S2048_S1x1x2048) (constant S_ .f32 0x00000000#32) reducesTo_S1x1x2048_S2048_d0_1 h_S_)
      = DMU D P 2 := by
  funext e
  obtain ⟨k, l, rfl⟩ : ∃ R l, e = ix2 R l := ⟨_, _, eq_ix2 e⟩
  refine (column _ k l).trans ?_
  refine Fin.sum_mul_add_congr fun B t hl => (in48 D P B t l hl).trans ?_
  refine congrArg (fun x => D (ix2 ⟨(B : ℕ) * 2048 + t, hl⟩ l) * (x - PC P (ix2 ⟨(B : ℕ) * 2048 + t, hl⟩ l))) ?_
  refine congrArg₂ (fun x y => SQ (PC P) x y l) ?_ ?_
  · show (B : ℕ) = ((B : ℕ) * 2048 + t) / 2048
    omega
  · show (t : ℕ) + 2 = ((B : ℕ) * 2048 + t) % 2048 + 2
    omega

end Cert.ShiftBwdRefIdeal.Hand
-- ==== Proof.ShiftBwdClaim.lean ====
module
public import proofs.«01_k».proof.Defs
public import proofs.«01_k».proof.Proof.Gen.ShiftBwdIdeal
public import proofs.«01_k».proof.Proof.Gen.ShiftBwdRefIdeal
public import proofs.«01_k».proof.Proof.ShiftFinal
public import proofs.«01_k».proof.Proof.ShiftRef
public import proofs.«01_k».proof.Proof.FfnDhClaim
public import Idealize.ShloMosaic.Lib.Claim
public import Idealize.ShloMosaic.Lib.ReduceAll

/-! The centred token shift backward: kernel and reference end with the same arrays, from a finite incoming gradient and later weight. -/

@[expose] public section
set_option maxRecDepth 16384
noncomputable section
namespace Cert.Proof
open Idealize.ShloMosaic Idealize.SL.Sem
open Cert.LnBack (Fi)

/-- The reference's frame: its run, and no semaphore is declared. -/
theorem shb_reference : Cert.quiescent_ShiftBwdRefIdeal := by
  intro m g _
  exact (θ_run Cert.ShiftBwdRefIdeal.defs _ _).mono
    (fun r h => ⟨fun c => (h c).2.2.2, sem_eq_zero_of_no_sems (by decide) r.2⟩)
    (Cert.ShiftBwdRefIdeal.Value.run m g)

theorem shb_reference_finite [Cert.Pre_shift_finite.Facts] : Cert.quiescent_ShiftBwdRefIdeal_pre_shift_finite :=
  fun m g _ => shb_reference m g trivial

/-- The shapes the precondition's operations state. -/
theorem shb_facts : Cert.Pre_shift_finite.Facts where
  bcast_S_S8192x2048 := by decide
  reducesTo_S8192x2048_S_d0_1 := by decide
  h_S_ := by decide
  bcast_S_S2048 := by decide
  reducesTo_S2048_S_d0 := by decide

/-- What the precondition says of the incoming gradient and the later row's weight. -/
theorem shb_fin [Cert.Pre_shift_finite.Facts] (m : (ℓ : Loc Cert.ShiftBwdIdeal.nD Cert.ShiftBwdIdeal.τ Cert.ShiftBwdIdeal.sig) → Buf (Elt Ideal) ℓ)
    (h : Cert.Pre_ShiftBwdIdeal_shift_finite m) (c : Dev Cert.ShiftBwdIdeal.nD) :
    (∀ (r : Fin 8192) (l : Fin 2048), Fi (Cert.ShiftBwdIdeal.Hand.dS m c (ix2 r l)))
      ∧ ∀ l : Fin 2048, Fi (Cert.ShiftBwdIdeal.Hand.wN m c (ix1 l)) := by
  have hj := congrFun (h c) ix0
  obtain ⟨h1, h2⟩ := IntOp.andi_eq_one.1 hj
  exact ⟨fun r l => below_inf (Host.reduce_andi_all _ _ _ _ _ h1 _), fun l => below_inf (Host.reduce_andi_all _ _ _ _ _ h2 _)⟩

/-- The kernel and the reference end with equal arrays. -/
theorem shb_algebraic [Cert.Pre_shift_finite.Facts] : Cert.algebraic_ShiftBwdIdeal_ShiftBwdRefIdeal_pre_shift_finite := by
  intro m g m' g' hpre hagree
  refine ⟨fun c => (Cert.ShiftBwdIdeal.Gen.dats m 0 c).arrAt 8 Cert.ShiftBwdIdeal.cfg0.N,
    fun c => (Cert.ShiftBwdIdeal.Gen.dats m 0 c).arrAt 9 Cert.ShiftBwdIdeal.cfg0.N,
    fun c => (Cert.ShiftBwdIdeal.Gen.dats m 0 c).arrAt 10 Cert.ShiftBwdIdeal.cfg0.N,
    Cert.ShiftBwdIdeal.Value.run_blocks m g, ?_⟩
  refine (θ_run Cert.ShiftBwdRefIdeal.defs _ _).mono (fun r h c => ?_)
    (Cert.ShiftBwdRefIdeal.Value.run m' g')
  obtain ⟨e0, e1, e2, e3⟩ := hagree c
  obtain ⟨hD, hb⟩ := shb_fin m hpre c
  refine ⟨(h c).1.trans ?_, (h c).2.1.trans ?_, (h c).2.2.1.trans ?_, (h c).2.2.2⟩
  · refine Eq.trans ?_ (Cert.ShiftBwdIdeal.Hand.fin8 m c).symm
    rw [e0, e2, e3]
    exact Cert.ShiftBwdRefIdeal.Hand.r46 _ _ _ hD hb
  · refine Eq.trans ?_ (Cert.ShiftBwdIdeal.Hand.fin9 m c).symm
    rw [e0, e1]
    exact Cert.ShiftBwdRefIdeal.Hand.r47 _ _
  · refine Eq.trans ?_ (Cert.ShiftBwdIdeal.Hand.fin10 m c).symm
    rw [e0, e1]
    exact Cert.ShiftBwdRefIdeal.Hand.r48 _ _

end Cert.Proof
-- ==== Proof.LnCols.lean ====
module
public import proofs.«01_k».proof.Proof.LnBack

/-! The layer norm's gradient along a row of 512, as in LnBack, and the gradient of SiLU in front of it. -/

@[expose] public section
noncomputable section
namespace Cert.LnCols
open Idealize.ShloMosaic
open Cert.LnBack (Fi fi_mul fi_add fi_sub fi_sum sq_nonneg EPS MHALF TWO two_eq eps_pos twice)

variable {n : ℕ}

/-- The row's length. -/
def LEN : EReal := Ideal.ofBits FTy.f32 0x44000000#32

theorem len_eq : LEN = ((512 : ℝ) : EReal) := by
  simp [LEN, Ideal.ofBits, Ideal.ieee, -EReal.coe_mul]; norm_num
theorem div_len (x : EReal) : Ideal.div x LEN = x * ((1 / 512 : ℝ) : EReal) := by
  rw [len_eq, Ideal.div_coe (by norm_num)]

/-- A row's mean, the row less its mean, the mean square plus the small number, and one over its root. -/
def MU (z : Fin n → EReal) : EReal := Ideal.div (∑ k : Fin n, z k) LEN
def CE (z : Fin n → EReal) (k : Fin n) : EReal := z k - MU z
def SQ (z : Fin n → EReal) : EReal := Ideal.div (∑ k : Fin n, CE z k * CE z k) LEN + EPS
def RH (z : Fin n → EReal) : EReal := Ideal.rsqrt (SQ z)

theorem sq_pos (z : Fin n → EReal) : 0 < SQ z := by
  unfold SQ
  rw [div_len]
  obtain ⟨e, he, hE⟩ := eps_pos
  rw [hE]
  have h : 0 ≤ (∑ k : Fin n, CE z k * CE z k) * ((1 / 512 : ℝ) : EReal) :=
    mul_nonneg (Finset.sum_nonneg fun k _ => sq_nonneg _) (by exact_mod_cast (by norm_num : (0 : ℝ) ≤ 1 / 512))
  exact lt_of_lt_of_le (by exact_mod_cast he : (0 : EReal) < (e : EReal)) (le_add_of_nonneg_left h)

/-- One over the root is always finite: what stands under it is positive. -/
theorem rh_fi (z : Fin n → EReal) : Fi (RH z) := by
  unfold RH
  have h := sq_pos z
  generalize SQ z = s at h
  induction s using EReal.rec with
  | bot => exact absurd h (by simp)
  | top => rw [Ideal.rsqrt_top]; exact ⟨EReal.coe_ne_top 0, EReal.coe_ne_bot 0⟩
  | coe s =>
    have hs : 0 < s := by exact_mod_cast h
    rw [Ideal.rsqrt_coe, if_neg (not_lt.mpr hs.le), if_neg hs.ne']
    exact ⟨EReal.coe_ne_top _, EReal.coe_ne_bot _⟩

/-- An entry of the normalised row is always finite: beside an infinite entry the root is infinite, and one over it zero. -/
theorem xhat_fi (z : Fin n → EReal) (k : Fin n) : Fi (CE z k * RH z) := by
  by_cases h : Fi (CE z k)
  · exact fi_mul h (rh_fi z)
  have hk : CE z k * CE z k = ⊤ := by
    unfold Fi at h
    generalize CE z k = x at h
    induction x using EReal.rec with
    | bot => simp
    | top => simp
    | coe x => exact absurd ⟨EReal.coe_ne_top x, EReal.coe_ne_bot x⟩ h
  have hs : ∑ i : Fin n, CE z i * CE z i = ⊤ :=
    top_le_iff.mp (hk ▸ Finset.single_le_sum (f := fun i => CE z i * CE z i) (fun i _ => sq_nonneg _) (Finset.mem_univ k))
  have hr : RH z = 0 := by
    obtain ⟨e, he, hE⟩ := eps_pos
    unfold RH SQ
    rw [hs, div_len, hE, EReal.top_mul_coe_of_pos (by norm_num), EReal.top_add_coe, Ideal.rsqrt_top]
  rw [hr, mul_zero]
  exact ⟨EReal.coe_ne_top 0, EReal.coe_ne_bot 0⟩

/-- The factor the mean square's gradient carries. -/
def QQ (z dn : Fin n → EReal) : EReal := Ideal.div ((∑ k : Fin n, CE z k * dn k) * (MHALF * Ideal.div (RH z) (SQ z))) LEN
/-- The gradient of a row, its mean square's gradient written as a product's, and as a square's. -/
def CK (z dn : Fin n → EReal) (k : Fin n) : EReal := dn k * RH z + CE z k * QQ z dn + QQ z dn * CE z k
def KDX (z dn : Fin n → EReal) (l : Fin n) : EReal := CK z dn l + Ideal.div (∑ k : Fin n, (0 - CK z dn k)) LEN
def RDX (z dn : Fin n → EReal) (l : Fin n) : EReal :=
  dn l * RH z + QQ z dn * (TWO * CE z l)
    + Ideal.div (∑ k : Fin n, -(dn k * RH z) + ∑ k : Fin n, -(QQ z dn * (TWO * CE z k))) LEN

theorem ck_eq (z dn : Fin n → EReal) (k : Fin n) : CK z dn k = dn k * RH z + QQ z dn * (TWO * CE z k) := by
  unfold CK
  rw [add_assoc, twice]

theorem kdx_eq (z dn : Fin n → EReal) (h : ∀ k, Fi (dn k)) (l : Fin n) : KDX z dn l = RDX z dn l := by
  unfold KDX RDX
  rw [← Finset.sum_add_distrib, ck_eq]
  refine congrArg (fun s => _ + Ideal.div s LEN) (Finset.sum_congr rfl fun k _ => ?_)
  have ha := fi_mul (h k) (rh_fi z)
  rw [zero_sub, ck_eq, EReal.neg_add (Or.inl ha.2) (Or.inl ha.1), sub_eq_add_neg]

/-- The gradient through SiLU, as the references write it and as the kernel does. -/
def SD (d v : EReal) : EReal := d * Ideal.logistic v + v * d * (Ideal.logistic v * (1 - Ideal.logistic v))
def KD (d v : EReal) : EReal :=
  d * Ideal.div 1 (1 + Ideal.exp (0 - v))
    + (0 - (0 - v * d * Ideal.div 1 ((1 + Ideal.exp (0 - v)) * (1 + Ideal.exp (0 - v)))) * Ideal.exp (0 - v))

theorem slope (v : EReal) :
    Ideal.div 1 ((1 + Ideal.exp (-v)) * (1 + Ideal.exp (-v))) * Ideal.exp (-v) = Ideal.logistic v * (1 - Ideal.logistic v) := by
  unfold Ideal.logistic
  induction v using EReal.rec with
  | bot =>
    have h : (1 : EReal) + ⊤ = ⊤ := rfl
    rw [EReal.neg_bot, Ideal.exp_top, h, EReal.top_mul_top]
    have e : Ideal.div 1 ⊤ = 0 := by simp [Ideal.div]
    rw [e, zero_mul, zero_mul]
  | top =>
    rw [EReal.neg_top, Ideal.exp_bot, add_zero, mul_one, mul_zero]
    have e : Ideal.div 1 1 = 1 := by
      have h := Ideal.div_coe (y := 1) one_ne_zero 1
      rw [EReal.coe_one] at h
      rw [h]; norm_num
    have z : (1 : EReal) - 1 = 0 := by rw [← EReal.coe_one, ← EReal.coe_sub, sub_self, EReal.coe_zero]
    rw [e, z, mul_zero]
  | coe v =>
    rw [← EReal.coe_neg, Ideal.exp_coe]
    have hp := Real.exp_pos (-v)
    generalize Real.exp (-v) = x at hp
    have h1 : (1 : EReal) + (x : EReal) = ((1 + x : ℝ) : EReal) := by norm_cast
    rw [h1, ← EReal.coe_mul, Ideal.div_coe (by positivity), Ideal.div_coe (by positivity), one_mul, one_mul]
    norm_cast
    field_simp
    ring

theorem kd_eq (d v : EReal) : KD d v = SD d v := by
  unfold KD SD
  rw [← slope, zero_sub, zero_sub, zero_sub, neg_mul, neg_neg, mul_assoc (v * d)]
  rfl

/-- It is finite from a finite gradient, whatever the value is. -/
theorem sd_fi (d v : EReal) (hd : Fi d) : Fi (SD d v) := by
  unfold SD Ideal.logistic
  lift d to ℝ using hd
  induction v using EReal.rec with
  | bot =>
    have h : (1 : EReal) + ⊤ = ⊤ := rfl
    rw [EReal.neg_bot, Ideal.exp_top, h]
    have e : Ideal.div 1 ⊤ = 0 := by simp [Ideal.div]
    rw [e, zero_mul, mul_zero, mul_zero, add_zero]
    exact ⟨EReal.coe_ne_top 0, EReal.coe_ne_bot 0⟩
  | top =>
    rw [EReal.neg_top, Ideal.exp_bot, add_zero]
    have e : Ideal.div 1 1 = 1 := by
      have h := Ideal.div_coe (y := 1) one_ne_zero 1
      rw [EReal.coe_one] at h
      rw [h]; norm_num
    have z : (1 : EReal) - 1 = 0 := by rw [← EReal.coe_one, ← EReal.coe_sub, sub_self, EReal.coe_zero]
    rw [e, z, mul_zero, mul_zero, mul_one, add_zero]
    exact ⟨EReal.coe_ne_top d, EReal.coe_ne_bot d⟩
  | coe v =>
    rw [← EReal.coe_neg, Ideal.exp_coe]
    have hp := Real.exp_pos (-v)
    generalize Real.exp (-v) = x at hp
    have h1 : (1 : EReal) + (x : EReal) = ((1 + x : ℝ) : EReal) := by norm_cast
    rw [h1, Ideal.div_coe (by positivity), one_mul]
    norm_cast
    exact ⟨EReal.coe_ne_top _, EReal.coe_ne_bot _⟩

end Cert.LnCols
-- ==== Proof.LnColsRef.lean ====
module
public import proofs.«01_k».proof.Proof.LnCols
public import proofs.«01_k».proof.Proof.Gen.ConvPostRefIdeal.Run
public import Idealize.ShloMosaic.Lib.Pipeline.ValueKit
public import Idealize.ShloMosaic.Lib.Pointwise

/-! The gradient through SiLU and the layer norm as the reference writes it over whole arrays, and each of its entries. -/

@[expose] public section
set_option maxRecDepth 16384
noncomputable section
namespace Cert.LnCols
open Cert.LnBack (EPS MHALF TWO)
open Cert.ConvPostRefIdeal Cert.ConvPostRefIdeal.Gen Idealize.ShloMosaic

/-- The rows less their means. -/
def CEN (Z : FVec Ideal S8192x512 .f32) : FVec Ideal S8192x512 .f32 :=
  subf Z (broadcastInDim S8192x512 ![0, 1] bcast_S8192x1_S8192x512_0_1 (Host.divf (broadcastInDim S8192x1 ![0] bcast_S8192_S8192x1_0
    (Host.reduceAdd Z (constant S_ .f32 0x00000000#32) reducesTo_S8192x512_S8192_d1 h_S_)) (broadcastInDim S8192x1 ![] bcast_S_S8192x1 (constant S_ .f32 0x44000000#32))))
/-- The rows' mean squares with the small number added. -/
def SQA (C : FVec Ideal S8192x512 .f32) : FVec Ideal S8192x1 .f32 :=
  addf (Host.divf (broadcastInDim S8192x1 ![0] bcast_S8192_S8192x1_0
    (Host.reduceAdd (mulf C C) (constant S_ .f32 0x00000000#32) reducesTo_S8192x512_S8192_d1 h_S_)) (broadcastInDim S8192x1 ![] bcast_S_S8192x1 (constant S_ .f32 0x44000000#32)))
    (broadcastInDim S8192x1 ![] bcast_S_S8192x1 (constant S_ .f32 0x3727C5AC#32))
def RHA (C : FVec Ideal S8192x512 .f32) : FVec Ideal S8192x1 .f32 := Host.rsqrt (SQA C)
/-- The gradient that reaches the normalised rows. -/
def DNA (T : FVec Ideal S8192x512 .f32) (g : FVec Ideal S512 .f32) : FVec Ideal S8192x512 .f32 :=
  mulf T (broadcastInDim S8192x512 ![0, 1] bcast_S1x512_S8192x512_0_1 (broadcastInDim S1x512 ![1] bcast_S512_S1x512_1 g))
/-- The rows' factors of the mean square's gradient. -/
def QA (C N : FVec Ideal S8192x512 .f32) : FVec Ideal S8192 .f32 :=
  Host.reduceAdd (Host.divf (mulf (shapeCast S8192x1 (Host.reduceAdd (mulf C N) (constant S_ .f32 0x00000000#32) reducesTo_S8192x512_S8192_d1 h_S_) shapeCasts_S8192_S8192x1)
    (mulf (broadcastInDim S8192x1 ![] bcast_S_S8192x1 (constant S_ .f32 0xBF000000#32)) (Host.divf (RHA C) (SQA C))))
    (broadcastInDim S8192x1 ![] bcast_S_S8192x1 (constant S_ .f32 0x44000000#32))) (constant S_ .f32 0x00000000#32) reducesTo_S8192x1_S8192_d1 h_S_
/-- The two parts of the gradient of the rows less their means. -/
def PA (C N : FVec Ideal S8192x512 .f32) : FVec Ideal S8192x512 .f32 :=
  mulf N (broadcastInDim S8192x512 ![0, 1] bcast_S8192x1_S8192x512_0_1 (RHA C))
def PB (C N : FVec Ideal S8192x512 .f32) : FVec Ideal S8192x512 .f32 :=
  mulf (broadcastInDim S8192x512 ![0] bcast_S8192_S8192x512_0 (QA C N)) (mulf (broadcastInDim S8192x512 ![] bcast_S_S8192x512 (constant S_ .f32 0x40000000#32)) C)
/-- The gradient of the rows, from those two parts. -/
def SUMUP (A B : FVec Ideal S8192x512 .f32) : FVec Ideal S8192x512 .f32 :=
  addf (addf A B) (broadcastInDim S8192x512 ![0] bcast_S8192_S8192x512_0
    (Host.reduceAdd (Host.divf (addf (shapeCast S8192x1 (Host.reduceAdd (Host.negf A) (constant S_ .f32 0x00000000#32) reducesTo_S8192x512_S8192_d1 h_S_) shapeCasts_S8192_S8192x1)
      (shapeCast S8192x1 (Host.reduceAdd (Host.negf B) (constant S_ .f32 0x00000000#32) reducesTo_S8192x512_S8192_d1 h_S_) shapeCasts_S8192_S8192x1))
      (broadcastInDim S8192x1 ![] bcast_S_S8192x1 (constant S_ .f32 0x44000000#32))) (constant S_ .f32 0x00000000#32) reducesTo_S8192x1_S8192_d1 h_S_))
/-- The references' three results: the gradients of the rows, of the gain and of the shift. -/
def DXA (T Z : FVec Ideal S8192x512 .f32) (g : FVec Ideal S512 .f32) : FVec Ideal S8192x512 .f32 :=
  SUMUP (PA (CEN Z) (DNA T g)) (PB (CEN Z) (DNA T g))
def COLS (X : FVec Ideal S8192x512 .f32) : FVec Ideal S1x512 .f32 :=
  broadcastInDim S1x512 ![1] bcast_S512_S1x512_1 (Host.reduceAdd (shapeCast S1x512 (Host.reduceAdd X
    (constant S_ .f32 0x00000000#32) reducesTo_S8192x512_S512_d0 h_S_) shapeCasts_S512_S1x512) (constant S_ .f32 0x00000000#32) reducesTo_S1x512_S512_d0 h_S_)
def DGA (T Z : FVec Ideal S8192x512 .f32) : FVec Ideal S1x512 .f32 :=
  COLS (mulf (mulf (CEN Z) (broadcastInDim S8192x512 ![0, 1] bcast_S8192x1_S8192x512_0_1 (RHA (CEN Z)))) T)

/-- A row of an array. -/
abbrev row (Z : FVec Ideal S8192x512 .f32) (r : Fin 8192) (k : Fin 512) : EReal := Z (ix2 r k)

theorem cen_at (Z : FVec Ideal S8192x512 .f32) (r : Fin 8192) (l : Fin 512) : CEN Z (ix2 r l) = CE (row Z r) l := by
  unfold CE MU LEN
  pointwise [CEN]
theorem sqa_at (Z : FVec Ideal S8192x512 .f32) (r : Fin 8192) : SQA (CEN Z) (ix2 r 0) = SQ (row Z r) := by
  unfold SQ
  simp only [← cen_at]
  unfold LEN EPS
  pointwise [SQA]
theorem rha_at (Z : FVec Ideal S8192x512 .f32) (r : Fin 8192) : RHA (CEN Z) (ix2 r 0) = RH (row Z r) := by
  unfold RH
  rw [← sqa_at]
  pointwise [RHA]
theorem dna_at (T : FVec Ideal S8192x512 .f32) (g : FVec Ideal S512 .f32) (r : Fin 8192) (l : Fin 512) : DNA T g (ix2 r l) = T (ix2 r l) * g (ix1 l) := by
  pointwise [DNA]
theorem qa_at (Z N : FVec Ideal S8192x512 .f32) (r : Fin 8192) : QA (CEN Z) N (ix1 r) = QQ (row Z r) (row N r) := by
  unfold QQ
  simp only [← cen_at]
  rw [← rha_at, ← sqa_at]
  unfold LEN MHALF
  pointwise [QA]
  exact Fin.sum_univ_one _
theorem pa_at (Z N : FVec Ideal S8192x512 .f32) (r : Fin 8192) (l : Fin 512) : PA (CEN Z) N (ix2 r l) = N (ix2 r l) * RH (row Z r) := by
  rw [← rha_at]
  pointwise [PA]
theorem pb_at (Z N : FVec Ideal S8192x512 .f32) (r : Fin 8192) (l : Fin 512) : PB (CEN Z) N (ix2 r l) = QQ (row Z r) (row N r) * (TWO * CE (row Z r) l) := by
  rw [← qa_at, ← cen_at]
  unfold TWO
  pointwise [PB]
theorem sumup_at (A B : FVec Ideal S8192x512 .f32) (r : Fin 8192) (l : Fin 512) :
    SUMUP A B (ix2 r l) = A (ix2 r l) + B (ix2 r l) + Ideal.div (∑ k : Fin 512, -A (ix2 r k) + ∑ k : Fin 512, -B (ix2 r k)) LEN := by
  unfold LEN
  pointwise [SUMUP]
  exact congrArg _ (Fin.sum_univ_one _)

theorem dxa_at (T Z : FVec Ideal S8192x512 .f32) (g : FVec Ideal S512 .f32) (r : Fin 8192) (l : Fin 512) :
    DXA T Z g (ix2 r l) = RDX (row Z r) (fun k => T (ix2 r k) * g (ix1 k)) l := by
  unfold DXA RDX
  rw [sumup_at]
  have e : row (DNA T g) r = fun k => T (ix2 r k) * g (ix1 k) := funext fun k => dna_at T g r k
  simp only [pa_at, pb_at, e, dna_at]
theorem cols_at (X : FVec Ideal S8192x512 .f32) (u : Fin 1) (l : Fin 512) : COLS X (ix2 u l) = ∑ r : Fin 8192, X (ix2 r l) := by
  pointwise [COLS]
  exact Fin.sum_univ_one _
theorem dga_at (T Z : FVec Ideal S8192x512 .f32) (u : Fin 1) (l : Fin 512) :
    DGA T Z (ix2 u l) = ∑ r : Fin 8192, CE (row Z r) l * RH (row Z r) * T (ix2 r l) := by
  unfold DGA
  rw [cols_at]
  refine Finset.sum_congr rfl fun r _ => ?_
  rw [← cen_at, ← rha_at]
  pointwise

/-- The value before SiLU, the gradient that comes in, and the gradient through SiLU. -/
def VVA (Y : FVec Ideal S8192x512 .f32) (g b : FVec Ideal S512 .f32) : FVec Ideal S8192x512 .f32 :=
  addf (mulf (mulf (CEN Y) (broadcastInDim S8192x512 ![0, 1] bcast_S8192x1_S8192x512_0_1 (RHA (CEN Y)))) (broadcastInDim S8192x512 ![0, 1] bcast_S1x512_S8192x512_0_1 (broadcastInDim S1x512 ![1] bcast_S512_S1x512_1 g)))
    (broadcastInDim S8192x512 ![0, 1] bcast_S1x512_S8192x512_0_1 (broadcastInDim S1x512 ![1] bcast_S512_S1x512_1 b))
def MCA (M : FVec Ideal S8192x1024 .f32) : FVec Ideal S8192x512 .f32 := extractStridedSlice S8192x512 ![0, 512] M slices_S8192x1024_S8192x512_0_512
def SGA (V : FVec Ideal S8192x512 .f32) : FVec Ideal S8192x512 .f32 :=
  Host.divf (broadcastInDim S8192x512 ![] bcast_S_S8192x512 (constant S_ .f32 0x3F800000#32)) (addf (broadcastInDim S8192x512 ![] bcast_S_S8192x512 (constant S_ .f32 0x3F800000#32)) (Host.exp (Host.negf V)))
def CTA (D V : FVec Ideal S8192x512 .f32) : FVec Ideal S8192x512 .f32 :=
  addf (mulf D (SGA V)) (mulf (mulf V D) (mulf (SGA V) (subf (broadcastInDim S8192x512 ![] bcast_S_S8192x512 (constant S_ .f32 0x3F800000#32)) (SGA V))))
/-- The sum over the rows. -/
def ROWSUM (X : FVec Ideal S8192x512 .f32) : FVec Ideal S1x512 .f32 :=
  broadcastInDim S1x512 ![1] bcast_S512_S1x512_1 (Host.reduceAdd X (constant S_ .f32 0x00000000#32) reducesTo_S8192x512_S512_d0 h_S_)

theorem vva_at (Y : FVec Ideal S8192x512 .f32) (g b : FVec Ideal S512 .f32) (r : Fin 8192) (l : Fin 512) :
    VVA Y g b (ix2 r l) = CE (row Y r) l * RH (row Y r) * g (ix1 l) + b (ix1 l) := by
  rw [← cen_at, ← rha_at]
  pointwise [VVA]
theorem sga_at (V : FVec Ideal S8192x512 .f32) (r : Fin 8192) (l : Fin 512) : SGA V (ix2 r l) = Ideal.logistic (V (ix2 r l)) := by
  unfold Ideal.logistic
  pointwise [SGA]
theorem cta_at (M : FVec Ideal S8192x1024 .f32) (V : FVec Ideal S8192x512 .f32) (r : Fin 8192) (l : Fin 512) :
    CTA (MCA M) V (ix2 r l) = SD (M (ix2 r ⟨512 + l, by omega⟩)) (V (ix2 r l)) := by
  unfold SD
  rw [← sga_at]
  pointwise [CTA, MCA]
theorem rowsum_at (X : FVec Ideal S8192x512 .f32) (u : Fin 1) (l : Fin 512) : ROWSUM X (ix2 u l) = ∑ r : Fin 8192, X (ix2 r l) := by
  pointwise [ROWSUM]

end Cert.LnCols
-- ==== Proof.ConvPostFinal.lean ====
module
public import proofs.«01_k».proof.Proof.Gen.ConvPostIdeal.Value
public import proofs.«01_k».proof.Proof.LnColsRef
public import Idealize.ShloMosaic.Lib.Pipeline.ValueKit
public import Idealize.ShloMosaic.Lib.Pointwise

/-! The gradient through SiLU and the layer norm behind the convolution, one block of rows at a time; the gradients of the gain, the shift and the convolution's bias are added up over the blocks. -/

@[expose] public section
set_option maxRecDepth 16384
noncomputable section
namespace Cert.ConvPostIdeal.Hand
open Cert.ConvPostIdeal Cert.ConvPostIdeal.Gen Idealize.ShloMosaic Idealize.ShloMosaic.TcCoe Idealize.SL.Sem
open Idealize.ShloMosaic.Pipeline (Dat)
open Cert.LnBack (EPS MHALF TWO Fi)
open Cert.LnCols (CE MU SQ RH QQ CK KDX RDX LEN CEN RHA SD KD VVA MCA CTA)
variable (m : (ℓ : Loc nD τ sig) → Buf (Elt Ideal) ℓ)

/-- The arguments, as device `c` holds them. -/
def yIn (c : Dev nD) : FVec Ideal S8192x512 .f32 := m ((c : Thread nD τ).loc main_arg0)
def dIn (c : Dev nD) : FVec Ideal S8192x1024 .f32 := m ((c : Thread nD τ).loc main_arg1)
def gIn (c : Dev nD) : FVec Ideal S512 .f32 := m ((c : Thread nD τ).loc main_arg2)
def bIn (c : Dev nD) : FVec Ideal S512 .f32 := m ((c : Thread nD τ).loc main_arg3)
/-- The gradient that reaches the layer norm's result. -/
def CT (c : Dev nD) : FVec Ideal S8192x512 .f32 := CTA (MCA (dIn m c)) (VVA (yIn m c) (gIn m c) (bIn m c))

theorem ct_at (c : Dev nD) (r : Fin 8192) (l : Fin 512) :
    CT m c (ix2 r l) = SD (dIn m c (ix2 r ⟨512 + l, by omega⟩))
      (CE (Cert.LnCols.row (yIn m c) r) l * RH (Cert.LnCols.row (yIn m c) r) * gIn m c (ix1 l) + bIn m c (ix1 l)) :=
  (Cert.LnCols.cta_at _ _ r l).trans (congrArg _ (Cert.LnCols.vva_at _ _ _ r l))

theorem idx : ∀ t : Fin cfg0.N, win0_0.index t = ![t.val, 0] ∧ win0_1.index t = ![t.val, 1] ∧ win0_2.index t = ![0, 0] ∧ win0_3.index t = ![0, 0]
    ∧ win0_4.index t = ![t.val, 0] ∧ win0_5.index t = ![0, 0] ∧ win0_6.index t = ![0, 0] ∧ win0_7.index t = ![0, 0] ∧ t.val < 32 :=
  (by decide +kernel : ∀ t : Fin grid0.N, _)

theorem gain (c : Dev nD) (l : Fin 512) :
    (show FVec Ideal S1x512 .f32 from V m c (Pipeline.arrRef spec0 2)) (ix2 0 l) = gIn m c (ix1 l) := by
  entry_read
  pointwise
  rfl
theorem shift (c : Dev nD) (l : Fin 512) :
    (show FVec Ideal S1x512 .f32 from V m c (Pipeline.arrRef spec0 3)) (ix2 0 l) = bIn m c (ix1 l) := by
  entry_read
  pointwise
  rfl

theorem blk0 (c : Dev nD) (t : Fin cfg0.N) (r : Fin 256) (k : Fin 512) (h : 256 * t.val + r < 8192) :
    (show FVec Ideal S256x512 .f32 from iblk m c 0 t) (ix2 r k) = yIn m c (ix2 ⟨256 * t.val + r, h⟩ k) := by
  show iblk m c 0 t (ix2 r k) = m ((c : Thread nD τ).loc main_arg0) _
  blk_ext [iblk, V, idx t]
theorem blk1 (c : Dev nD) (t : Fin cfg0.N) (r : Fin 256) (k : Fin 512) (h : 256 * t.val + r < 8192) :
    (show FVec Ideal S256x512 .f32 from iblk m c 1 t) (ix2 r k) = dIn m c (ix2 ⟨256 * t.val + r, h⟩ ⟨512 + k, by omega⟩) := by
  show iblk m c 1 t (ix2 r k) = m ((c : Thread nD τ).loc main_arg1) _
  blk_ext [iblk, V, idx t]
theorem blk2 (c : Dev nD) (t : Fin cfg0.N) (l : Fin 512) :
    (show FVec Ideal S1x512 .f32 from iblk m c 2 t) (ix2 0 l) = gIn m c (ix1 l) := by
  refine Eq.trans ?_ (gain m c l)
  show iblk m c 2 t (ix2 0 l) = V m c (Pipeline.arrRef spec0 2) (ix2 0 l)
  blk_ext [iblk, idx t]
theorem blk3 (c : Dev nD) (t : Fin cfg0.N) (l : Fin 512) :
    (show FVec Ideal S1x512 .f32 from iblk m c 3 t) (ix2 0 l) = bIn m c (ix1 l) := by
  refine Eq.trans ?_ (shift m c l)
  show iblk m c 3 t (ix2 0 l) = V m c (Pipeline.arrRef spec0 3) (ix2 0 l)
  blk_ext [iblk, idx t]

/-- A row of a block. -/
abbrev brow (z : FVec Ideal S256x512 .f32) (r : Fin 256) (k : Fin 512) : EReal := z (ix2 r k)

section payloads
variable (z d : FVec Ideal S256x512 .f32) (g b : FVec Ideal S1x512 .f32)

/-- The block of gradients that reach the layer norm's result. -/
abbrev CTB : FVec Ideal S256x512 .f32 := k0_pay19 (F := Ideal) (k0_pay14 z g b) (k0_pay16 z g b) (k0_pay17 z d g b) (k0_pay18 z d g b)
/-- The block of gradients of the rows. -/
abbrev DXB : FVec Ideal S256x512 .f32 := k0_pay22 (F := Ideal) (k0_pay7 g) (k0_pay8 z) (k0_pay10 z) (k0_pay11 z) (k0_pay14 z g b) (k0_pay16 z g b) (k0_pay17 z d g b) (k0_pay18 z d g b)

theorem cen_blk (r : Fin 256) (l : Fin 512) : k0_pay8 (F := Ideal) z (ix2 r l) = CE (brow z r) l := by
  unfold CE MU LEN brow
  pointwise [k0_pay8]
theorem sq_blk (r : Fin 256) : k0_pay9 (F := Ideal) z (ix2 r 0) = SQ (brow z r) := by
  unfold SQ
  simp only [← cen_blk]
  unfold LEN EPS
  pointwise [k0_pay9]
theorem rh_blk (r : Fin 256) : k0_pay10 (F := Ideal) z (ix2 r 0) = RH (brow z r) := by
  unfold RH
  rw [← sq_blk]
  pointwise [k0_pay10]
theorem mh_blk (r : Fin 256) : k0_pay11 (F := Ideal) z (ix2 r 0) = MHALF * Ideal.div (RH (brow z r)) (SQ (brow z r)) := by
  rw [← rh_blk, ← sq_blk]
  unfold MHALF
  pointwise [k0_pay11]
theorem xhat_blk (r : Fin 256) (l : Fin 512) : k0_pay12 (F := Ideal) z (ix2 r l) = CE (brow z r) l * RH (brow z r) := by
  rw [← cen_blk, ← rh_blk]
  pointwise [k0_pay12]
theorem v_blk (r : Fin 256) (l : Fin 512) :
    k0_pay13 (F := Ideal) z g b (ix2 r l) = CE (brow z r) l * RH (brow z r) * g (ix2 0 l) + b (ix2 0 l) := by
  rw [← xhat_blk]
  pointwise [k0_pay13, k0_pay7]
theorem e_blk (r : Fin 256) (l : Fin 512) : k0_pay14 (F := Ideal) z g b (ix2 r l) = Ideal.exp (0 - k0_pay13 (F := Ideal) z g b (ix2 r l)) := by
  pointwise [k0_pay14]
theorem u_blk (r : Fin 256) (l : Fin 512) : k0_pay15 (F := Ideal) z g b (ix2 r l) = 1 + Ideal.exp (0 - k0_pay13 (F := Ideal) z g b (ix2 r l)) := by
  rw [← e_blk]
  pointwise [k0_pay15]
theorem q_blk (r : Fin 256) (l : Fin 512) : k0_pay16 (F := Ideal) z g b (ix2 r l)
    = Ideal.div 1 (k0_pay15 (F := Ideal) z g b (ix2 r l) * k0_pay15 (F := Ideal) z g b (ix2 r l)) := by
  pointwise [k0_pay16]
theorem w_blk (r : Fin 256) (l : Fin 512) : k0_pay17 (F := Ideal) z d g b (ix2 r l) = k0_pay13 (F := Ideal) z g b (ix2 r l) * d (ix2 r l) := by
  pointwise [k0_pay17]
theorem s_blk (r : Fin 256) (l : Fin 512) : k0_pay18 (F := Ideal) z d g b (ix2 r l) = d (ix2 r l) * Ideal.div 1 (k0_pay15 (F := Ideal) z g b (ix2 r l)) := by
  pointwise [k0_pay18]
theorem comb (e q w s : FVec Ideal S256x512 .f32) (r : Fin 256) (l : Fin 512) : k0_pay19 (F := Ideal) e q w s (ix2 r l)
    = s (ix2 r l) + (0 - (0 - w (ix2 r l) * q (ix2 r l)) * e (ix2 r l)) := by
  pointwise [k0_pay19]
theorem ct_blk (r : Fin 256) (l : Fin 512) : CTB z d g b (ix2 r l)
    = SD (d (ix2 r l)) (CE (brow z r) l * RH (brow z r) * g (ix2 0 l) + b (ix2 0 l)) := by
  refine (comb _ _ _ _ r l).trans ?_
  rw [e_blk, q_blk, w_blk, s_blk, u_blk, v_blk, ← Cert.LnCols.kd_eq]
  rfl
theorem db_pay (e q w s : FVec Ideal S256x512 .f32) (l : Fin 512) : k0_pay20 (F := Ideal) e q w s (ix2 0 l) = ∑ r : Fin 256, k0_pay19 (F := Ideal) e q w s (ix2 r l) := by
  pointwise [k0_pay20]
theorem dg_pay (h e q w s : FVec Ideal S256x512 .f32) (l : Fin 512) : k0_pay21 (F := Ideal) h e q w s (ix2 0 l)
    = ∑ r : Fin 256, h (ix2 r l) * k0_pay19 (F := Ideal) e q w s (ix2 r l) := by
  pointwise [k0_pay21]
theorem dc_pay (G : FVec Ideal S1x512 .f32) (C : FVec Ideal S256x512 .f32) (R H : FVec Ideal S256x1 .f32) (e q w s : FVec Ideal S256x512 .f32) (l : Fin 512) :
    k0_pay23 (F := Ideal) G C R H e q w s (ix2 0 l) = ∑ r : Fin 256, k0_pay22 (F := Ideal) G C R H e q w s (ix2 r l) := by
  pointwise [k0_pay23]
theorem add4 (d v : FVec Ideal S1x512 .f32) (l : Fin 512) : k0_pay4 (F := Ideal) d v (ix2 0 l) = v (ix2 0 l) + d (ix2 0 l) := by
  pointwise [k0_pay4]
theorem add5 (d v : FVec Ideal S1x512 .f32) (l : Fin 512) : k0_pay5 (F := Ideal) d v (ix2 0 l) = v (ix2 0 l) + d (ix2 0 l) := by
  pointwise [k0_pay5]
theorem add6 (d v : FVec Ideal S1x512 .f32) (l : Fin 512) : k0_pay6 (F := Ideal) d v (ix2 0 l) = v (ix2 0 l) + d (ix2 0 l) := by
  pointwise [k0_pay6]
theorem dx_comb (e q w s : FVec Ideal S256x512 .f32) (r : Fin 256) (l : Fin 512) : k0_pay22 (F := Ideal) (k0_pay7 g) (k0_pay8 z) (k0_pay10 z) (k0_pay11 z) e q w s (ix2 r l)
    = KDX (brow z r) (fun k => k0_pay19 (F := Ideal) e q w s (ix2 r k) * g (ix2 0 k)) l := by
  unfold KDX CK QQ
  simp only [← mh_blk]
  simp only [← cen_blk, ← rh_blk]
  unfold LEN
  pointwise [k0_pay22, k0_pay7]
  simp only [Fin.sum_univ_one]
end payloads

theorem zero1 (l : Fin 512) : k0_pay1 (F := Ideal) (ix2 0 l) = 0 := by
  pointwise [k0_pay1]
theorem zero2 (l : Fin 512) : k0_pay2 (F := Ideal) (ix2 0 l) = 0 := by
  pointwise [k0_pay2]
theorem zero3 (l : Fin 512) : k0_pay3 (F := Ideal) (ix2 0 l) = 0 := by
  pointwise [k0_pay3]

/-- Point `t`'s block of rows, of gradients, and of the rows' gradients. -/
abbrev ZB (c : Dev nD) (t : Fin cfg0.N) : FVec Ideal S256x512 .f32 := iblk m c 0 t
abbrev TB (c : Dev nD) (t : Fin cfg0.N) : FVec Ideal S256x512 .f32 := CTB (iblk m c 0 t) (iblk m c 1 t) (iblk m c 2 t) (iblk m c 3 t)
abbrev XB (c : Dev nD) (t : Fin cfg0.N) : FVec Ideal S256x512 .f32 := DXB (iblk m c 0 t) (iblk m c 1 t) (iblk m c 2 t) (iblk m c 3 t)
abbrev GB (c : Dev nD) (t : Fin cfg0.N) : FVec Ideal S1x512 .f32 := iblk m c 2 t

theorem zrow (c : Dev nD) (t : Fin cfg0.N) (r : Fin 256) (h : 256 * t.val + r < 8192) :
    brow (ZB m c t) r = Cert.LnCols.row (yIn m c) ⟨256 * t.val + r, h⟩ :=
  funext fun k => blk0 m c t r k h
theorem ct_block (c : Dev nD) (t : Fin cfg0.N) (r : Fin 256) (l : Fin 512) (h : 256 * t.val + r < 8192) :
    TB m c t (ix2 r l) = CT m c (ix2 ⟨256 * t.val + r, h⟩ l) := by
  refine (ct_blk _ _ _ _ r l).trans (Eq.trans ?_ (ct_at m c _ l).symm)
  refine congrArg₂ SD (blk1 m c t r l h) (congrArg₂ _ (congrArg₂ _ ?_ (blk2 m c t l)) (blk3 m c t l))
  exact congrArg (fun z => CE z l * RH z) (zrow m c t r h)

/-- From finite gradients a block of the rows' gradients is the reference's. -/
theorem dx_block (c : Dev nD) (hf : ∀ r k, Fi (CT m c (ix2 r k) * gIn m c (ix1 k))) (t : Fin cfg0.N) (r : Fin 256) (l : Fin 512) (h : 256 * t.val + r < 8192) :
    XB m c t (ix2 r l) = Cert.LnCols.DXA (CT m c) (yIn m c) (gIn m c) (ix2 ⟨256 * t.val + r, h⟩ l) := by
  have hd : (fun k => TB m c t (ix2 r k) * GB m c t (ix2 0 k)) = fun k => CT m c (ix2 ⟨256 * t.val + r, h⟩ k) * gIn m c (ix1 k) :=
    funext fun k => congrArg₂ _ (ct_block m c t r k h) (blk2 m c t k)
  refine (dx_comb _ _ _ _ _ _ r l).trans ?_
  refine (congrArg₂ (fun x y => KDX x y l) (zrow m c t r h) hd).trans ?_
  rw [Cert.LnCols.kdx_eq _ _ (hf _), ← Cert.LnCols.dxa_at]

theorem out4 (c : Dev nD) (t : Fin cfg0.N) (r : Fin 256) (l : Fin 512) : (outsAt0 m c t.val t.isLt).1 (ix2 r l) = XB m c t (ix2 r l) := by
  by_cases h : t.val % 32 = 0
  · rw [outsAt0_A m c t h]
    frame_out
  · rw [outsAt0_B m c t h]
    frame_out

/-- What point `t` adds to the gradients of the gain, of the shift and of the bias. -/
def GTERM (c : Dev nD) (t : Fin cfg0.N) (j : S1x512.Idx) : EReal :=
  ∑ r : Fin 256, k0_pay12 (F := Ideal) (ZB m c t) (ix2 r (j 1)) * TB m c t (ix2 r (j 1))
def BTERM (c : Dev nD) (t : Fin cfg0.N) (j : S1x512.Idx) : EReal := ∑ r : Fin 256, TB m c t (ix2 r (j 1))
def CTERM (c : Dev nD) (t : Fin cfg0.N) (j : S1x512.Idx) : EReal := ∑ r : Fin 256, XB m c t (ix2 r (j 1))

theorem dg_A (c : Dev nD) (t : Fin cfg0.N) (h : t.val % 32 = 0) (j : S1x512.Idx) :
    (outsAt0 m c t.val t.isLt).2.1 j = 0 + GTERM m c t j := by
  obtain ⟨l, rfl⟩ : ∃ l : Fin 512, j = ix2 0 l := ⟨j 1, (eq_ix2 j).trans (congrArg₂ ix2 (Subsingleton.elim _ _) rfl)⟩
  rw [outsAt0_A m c t h]
  frame_out
  exact (add4 _ _ l).trans (congrArg₂ _ (zero1 l) (dg_pay _ _ _ _ _ l))
theorem dg_B (c : Dev nD) (t : Fin cfg0.N) (h : ¬t.val % 32 = 0) (j : S1x512.Idx) :
    (outsAt0 m c t.val t.isLt).2.1 j = (outsAt0 m c (t.val - 1) (Nat.lt_of_le_of_lt (Nat.sub_le _ _) t.isLt)).2.1 j + GTERM m c t j := by
  obtain ⟨l, rfl⟩ : ∃ l : Fin 512, j = ix2 0 l := ⟨j 1, (eq_ix2 j).trans (congrArg₂ ix2 (Subsingleton.elim _ _) rfl)⟩
  rw [outsAt0_B m c t h]
  frame_out
  exact (add4 _ _ l).trans (congrArg₂ _ rfl (dg_pay _ _ _ _ _ l))
theorem db_A (c : Dev nD) (t : Fin cfg0.N) (h : t.val % 32 = 0) (j : S1x512.Idx) :
    (outsAt0 m c t.val t.isLt).2.2.1 j = 0 + BTERM m c t j := by
  obtain ⟨l, rfl⟩ : ∃ l : Fin 512, j = ix2 0 l := ⟨j 1, (eq_ix2 j).trans (congrArg₂ ix2 (Subsingleton.elim _ _) rfl)⟩
  rw [outsAt0_A m c t h]
  frame_out
  exact (add5 _ _ l).trans (congrArg₂ _ (zero2 l) (db_pay _ _ _ _ l))
theorem db_B (c : Dev nD) (t : Fin cfg0.N) (h : ¬t.val % 32 = 0) (j : S1x512.Idx) :
    (outsAt0 m c t.val t.isLt).2.2.1 j = (outsAt0 m c (t.val - 1) (Nat.lt_of_le_of_lt (Nat.sub_le _ _) t.isLt)).2.2.1 j + BTERM m c t j := by
  obtain ⟨l, rfl⟩ : ∃ l : Fin 512, j = ix2 0 l := ⟨j 1, (eq_ix2 j).trans (congrArg₂ ix2 (Subsingleton.elim _ _) rfl)⟩
  rw [outsAt0_B m c t h]
  frame_out
  exact (add5 _ _ l).trans (congrArg₂ _ rfl (db_pay _ _ _ _ l))
theorem dc_A (c : Dev nD) (t : Fin cfg0.N) (h : t.val % 32 = 0) (j : S1x512.Idx) :
    (outsAt0 m c t.val t.isLt).2.2.2 j = 0 + CTERM m c t j := by
  obtain ⟨l, rfl⟩ : ∃ l : Fin 512, j = ix2 0 l := ⟨j 1, (eq_ix2 j).trans (congrArg₂ ix2 (Subsingleton.elim _ _) rfl)⟩
  rw [outsAt0_A m c t h]
  frame_out
  exact (add6 _ _ l).trans (congrArg₂ _ (zero3 l) (dc_pay _ _ _ _ _ _ _ _ l))
theorem dc_B (c : Dev nD) (t : Fin cfg0.N) (h : ¬t.val % 32 = 0) (j : S1x512.Idx) :
    (outsAt0 m c t.val t.isLt).2.2.2 j = (outsAt0 m c (t.val - 1) (Nat.lt_of_le_of_lt (Nat.sub_le _ _) t.isLt)).2.2.2 j + CTERM m c t j := by
  obtain ⟨l, rfl⟩ : ∃ l : Fin 512, j = ix2 0 l := ⟨j 1, (eq_ix2 j).trans (congrArg₂ ix2 (Subsingleton.elim _ _) rfl)⟩
  rw [outsAt0_B m c t h]
  frame_out
  exact (add6 _ _ l).trans (congrArg₂ _ rfl (dc_pay _ _ _ _ _ _ _ _ l))

theorem dg_last (c : Dev nD) (t : Fin cfg0.N) (h : t.val % 32 = 31) (l : Fin 512) :
    (outsAt0 m c t.val t.isLt).2.1 (ix2 0 l) = Cert.LnCols.DGA (CT m c) (yIn m c) (ix2 0 l) := by
  refine (Pipeline.eq_sum_fin_of_reset_step_apply_of_flush (fun n hn => (outsAt0 m c n hn).2.1) 32 (fun _ => (0 : EReal)) (GTERM m c)
    (dg_A m c) (dg_B m c) t h (ix2 0 l)).trans ?_
  rw [zero_add, Cert.LnCols.dga_at]
  unfold GTERM
  have hN := (idx t).2.2.2.2.2.2.2.2
  refine Fin.sum_mul_add_congr fun s r hl => ?_
  have e : (⟨256 * (32 * (t.val / 32) + s.val) + r.val, by omega⟩ : Fin 8192) = ⟨s.val * 256 + r.val, hl⟩ := Fin.ext (by show 256 * (32 * (t.val / 32) + s.val) + r.val = s.val * 256 + r.val; omega)
  have hr : 256 * (32 * (t.val / 32) + s.val) + r.val < 8192 := by omega
  refine congrArg₂ _ ((xhat_blk _ r l).trans (congrArg (fun z => CE z l * RH z) ((zrow m c _ r hr).trans (congrArg _ e)))) ?_
  exact (ct_block m c _ r l hr).trans (congrArg _ (congrArg₂ ix2 e rfl))

theorem db_last (c : Dev nD) (t : Fin cfg0.N) (h : t.val % 32 = 31) (l : Fin 512) :
    (outsAt0 m c t.val t.isLt).2.2.1 (ix2 0 l) = Cert.LnCols.COLS (CT m c) (ix2 0 l) := by
  refine (Pipeline.eq_sum_fin_of_reset_step_apply_of_flush (fun n hn => (outsAt0 m c n hn).2.2.1) 32 (fun _ => (0 : EReal)) (BTERM m c)
    (db_A m c) (db_B m c) t h (ix2 0 l)).trans ?_
  rw [zero_add, Cert.LnCols.cols_at]
  unfold BTERM
  have hN := (idx t).2.2.2.2.2.2.2.2
  refine Fin.sum_mul_add_congr fun s r hl => ?_
  have e : (⟨256 * (32 * (t.val / 32) + s.val) + r.val, by omega⟩ : Fin 8192) = ⟨s.val * 256 + r.val, hl⟩ := Fin.ext (by show 256 * (32 * (t.val / 32) + s.val) + r.val = s.val * 256 + r.val; omega)
  have hr : 256 * (32 * (t.val / 32) + s.val) + r.val < 8192 := by omega
  exact (ct_block m c _ r l hr).trans (congrArg _ (congrArg₂ ix2 e rfl))

theorem dc_last (c : Dev nD) (hf : ∀ r k, Fi (CT m c (ix2 r k) * gIn m c (ix1 k))) (t : Fin cfg0.N) (h : t.val % 32 = 31) (l : Fin 512) :
    (outsAt0 m c t.val t.isLt).2.2.2 (ix2 0 l) = Cert.LnCols.ROWSUM (Cert.LnCols.DXA (CT m c) (yIn m c) (gIn m c)) (ix2 0 l) := by
  refine (Pipeline.eq_sum_fin_of_reset_step_apply_of_flush (fun n hn => (outsAt0 m c n hn).2.2.2) 32 (fun _ => (0 : EReal)) (CTERM m c)
    (dc_A m c) (dc_B m c) t h (ix2 0 l)).trans ?_
  rw [zero_add, Cert.LnCols.rowsum_at]
  unfold CTERM
  have hN := (idx t).2.2.2.2.2.2.2.2
  refine Fin.sum_mul_add_congr fun s r hl => ?_
  have e : (⟨256 * (32 * (t.val / 32) + s.val) + r.val, by omega⟩ : Fin 8192) = ⟨s.val * 256 + r.val, hl⟩ := Fin.ext (by show 256 * (32 * (t.val / 32) + s.val) + r.val = s.val * 256 + r.val; omega)
  have hr : 256 * (32 * (t.val / 32) + s.val) + r.val < 8192 := by omega
  exact (dx_block m c hf _ r l hr).trans (congrArg _ (congrArg₂ ix2 e rfl))

/-- From finite gradients the first output is the reference's gradient of the rows. -/
theorem fin4 (c : Dev nD) (hf : ∀ r k, Fi (CT m c (ix2 r k) * gIn m c (ix1 k))) :
    (dats m 0 c).arrAt 4 (cfgs 0).N = Cert.LnCols.DXA (CT m c) (yIn m c) (gIn m c) := by
  refine (dats m 0 c).arrAt_eq_of_covers 4 _ (by decide +kernel) fun t _ y => ?_
  blk_simp
  rw [after0_4]
  obtain ⟨r, l, rfl⟩ : ∃ (r : Fin 256) (l : Fin 512), y = ix2 r l := ⟨_, _, eq_ix2 y⟩
  have hN := (idx t).2.2.2.2.2.2.2.2
  have hr : 256 * t.val + r.val < 8192 := by omega
  refine (out4 m c t r l).trans ((dx_block m c hf t r l hr).trans ?_)
  blk_ext [idx t]

theorem fin5 (c : Dev nD) : (dats m 0 c).arrAt 5 (cfgs 0).N = Cert.LnCols.DGA (CT m c) (yIn m c) := by
  refine (dats m 0 c).arrAt_eq_of_covers 5 _ (by decide +kernel) fun t hf y => ?_
  have h7 : t.val % 32 = 31 := (flush0_5 t).mp hf
  blk_simp
  rw [after0_5]
  obtain ⟨l, rfl⟩ : ∃ l : Fin 512, y = ix2 0 l := ⟨y 1, (eq_ix2 y).trans (congrArg₂ ix2 (Subsingleton.elim _ _) rfl)⟩
  refine (dg_last m c t h7 l).trans ?_
  blk_ext [idx t]

theorem fin6 (c : Dev nD) : (dats m 0 c).arrAt 6 (cfgs 0).N = Cert.LnCols.COLS (CT m c) := by
  refine (dats m 0 c).arrAt_eq_of_covers 6 _ (by decide +kernel) fun t hf y => ?_
  have h7 : t.val % 32 = 31 := (flush0_6 t).mp hf
  blk_simp
  rw [after0_6]
  obtain ⟨l, rfl⟩ : ∃ l : Fin 512, y = ix2 0 l := ⟨y 1, (eq_ix2 y).trans (congrArg₂ ix2 (Subsingleton.elim _ _) rfl)⟩
  refine (db_last m c t h7 l).trans ?_
  blk_ext [idx t]

theorem fin7 (c : Dev nD) (hf : ∀ r k, Fi (CT m c (ix2 r k) * gIn m c (ix1 k))) :
    (dats m 0 c).arrAt 7 (cfgs 0).N = Cert.LnCols.ROWSUM (Cert.LnCols.DXA (CT m c) (yIn m c) (gIn m c)) := by
  refine (dats m 0 c).arrAt_eq_of_covers 7 _ (by decide +kernel) fun t hfl y => ?_
  have h7 : t.val % 32 = 31 := (flush0_7 t).mp hfl
  blk_simp
  rw [after0_7]
  obtain ⟨l, rfl⟩ : ∃ l : Fin 512, y = ix2 0 l := ⟨y 1, (eq_ix2 y).trans (congrArg₂ ix2 (Subsingleton.elim _ _) rfl)⟩
  refine (dc_last m c hf t h7 l).trans ?_
  blk_ext [idx t]

end Cert.ConvPostIdeal.Hand
-- ==== Proof.ConvPostClaim.lean ====
module
public import proofs.«01_k».proof.Defs
public import proofs.«01_k».proof.Proof.Gen.ConvPostIdeal
public import proofs.«01_k».proof.Proof.Gen.ConvPostRefIdeal
public import proofs.«01_k».proof.Proof.ConvPostFinal
public import proofs.«01_k».proof.Proof.FfnDhClaim
public import Idealize.ShloMosaic.Lib.Claim
public import Idealize.ShloMosaic.Lib.ReduceAll

/-! The gradient through SiLU and the layer norm behind the convolution: kernel and reference end with the same arrays, from a finite gradient and gain. -/

@[expose] public section
set_option maxRecDepth 16384
noncomputable section
namespace Cert.Proof
open Idealize.ShloMosaic Idealize.SL.Sem
open Cert.LnBack (Fi)

/-- The reference's frame: its run, and no semaphore is declared. -/
theorem cpo_reference : Cert.quiescent_ConvPostRefIdeal := by
  intro m g _
  exact (θ_run Cert.ConvPostRefIdeal.defs _ _).mono
    (fun r h => ⟨fun c => (h c).2.2.2.2, sem_eq_zero_of_no_sems (by decide) r.2⟩)
    (Cert.ConvPostRefIdeal.Value.run m g)

theorem cpo_reference_finite [Cert.Pre_conv_post_finite.Facts] : Cert.quiescent_ConvPostRefIdeal_pre_conv_post_finite :=
  fun m g _ => cpo_reference m g trivial

/-- The shapes the precondition's operations state. -/
theorem cpo_facts : Cert.Pre_conv_post_finite.Facts where
  slices_S8192x1024_S8192x512_0_512 := by decide
  bcast_S_S8192x512 := by decide
  reducesTo_S8192x512_S_d0_1 := by decide
  h_S_ := by decide
  bcast_S_S512 := by decide
  reducesTo_S512_S_d0 := by decide

/-- Under the precondition the gradient that reaches the layer norm, times the gain, is finite: SiLU's slope always is. -/
theorem cpo_fin [Cert.Pre_conv_post_finite.Facts] (m : (ℓ : Loc Cert.ConvPostIdeal.nD Cert.ConvPostIdeal.τ Cert.ConvPostIdeal.sig) → Buf (Elt Ideal) ℓ)
    (h : Cert.Pre_ConvPostIdeal_conv_post_finite m) (c : Dev Cert.ConvPostIdeal.nD) (r : Fin 8192) (k : Fin 512) :
    Fi (Cert.ConvPostIdeal.Hand.CT m c (ix2 r k) * Cert.ConvPostIdeal.Hand.gIn m c (ix1 k)) := by
  have hj := congrFun (h c) ix0
  obtain ⟨h1, h2⟩ := IntOp.andi_eq_one.1 hj
  rw [Cert.ConvPostIdeal.Hand.ct_at]
  refine Cert.LnBack.fi_mul (Cert.LnCols.sd_fi _ _ ?_) ?_
  · have e := below_inf (Host.reduce_andi_all _ _ _ _ _ h1 (ix2 r k))
    have q : extractStridedSlice Cert.Pre_conv_post_finite.S8192x512 ![0, 512] (Cert.ConvPostIdeal.Hand.dIn m c) Cert.Pre_conv_post_finite.Facts.slices_S8192x1024_S8192x512_0_512 (ix2 r k)
        = Cert.ConvPostIdeal.Hand.dIn m c (ix2 r ⟨512 + k, by omega⟩) := by pointwise
    exact ⟨fun he => e.1 (q.trans he), fun he => e.2 (q.trans he)⟩
  · exact below_inf (Host.reduce_andi_all _ _ _ _ _ h2 _)

/-- The kernel and the reference end with equal arrays. -/
theorem cpo_algebraic [Cert.Pre_conv_post_finite.Facts] : Cert.algebraic_ConvPostIdeal_ConvPostRefIdeal_pre_conv_post_finite := by
  intro m g m' g' hpre hagree
  refine ⟨fun c => (Cert.ConvPostIdeal.Gen.dats m 0 c).arrAt 4 Cert.ConvPostIdeal.cfg0.N,
    fun c => (Cert.ConvPostIdeal.Gen.dats m 0 c).arrAt 5 Cert.ConvPostIdeal.cfg0.N,
    fun c => (Cert.ConvPostIdeal.Gen.dats m 0 c).arrAt 6 Cert.ConvPostIdeal.cfg0.N,
    fun c => (Cert.ConvPostIdeal.Gen.dats m 0 c).arrAt 7 Cert.ConvPostIdeal.cfg0.N,
    Cert.ConvPostIdeal.Value.run_blocks m g, ?_⟩
  refine (θ_run Cert.ConvPostRefIdeal.defs _ _).mono (fun r h c => ?_)
    (Cert.ConvPostRefIdeal.Value.run m' g')
  obtain ⟨e0, e1, e2, e3⟩ := hagree c
  refine ⟨(h c).1.trans ?_, (h c).2.1.trans ?_, (h c).2.2.1.trans ?_, (h c).2.2.2.1.trans ?_, (h c).2.2.2.2⟩
  · refine Eq.trans ?_ (Cert.ConvPostIdeal.Hand.fin4 m c (cpo_fin m hpre c)).symm
    unfold Cert.ConvPostRefIdeal.Value.res_main_v64
    rw [e0, e1, e2, e3]
    rfl
  · refine Eq.trans ?_ (Cert.ConvPostIdeal.Hand.fin5 m c).symm
    unfold Cert.ConvPostRefIdeal.Value.res_main_v65
    rw [e0, e1, e2, e3]
    rfl
  · refine Eq.trans ?_ (Cert.ConvPostIdeal.Hand.fin6 m c).symm
    unfold Cert.ConvPostRefIdeal.Value.res_main_v66
    rw [e0, e1, e2, e3]
    rfl
  · refine Eq.trans ?_ (Cert.ConvPostIdeal.Hand.fin7 m c (cpo_fin m hpre c)).symm
    unfold Cert.ConvPostRefIdeal.Value.res_main_v68
    rw [e0, e1, e2, e3]
    rfl

end Cert.Proof
-- ==== Proof.ConvFwdTile.lean ====
module
public import proofs.«01_k».proof.Proof.Gen.ConvFwdIdeal.Value
public import proofs.«01_k».proof.Proof.ConvFinal
public import Idealize.ShloMosaic.Lib.Pipeline.ValueKit
public import Idealize.ShloMosaic.Lib.Pointwise

/-! The convolution forwards: what one tile's strips hold. -/

@[expose] public section
set_option maxRecDepth 16384
noncomputable section
namespace Cert.ConvFwdIdeal.Hand
open Cert.ConvFwdIdeal Cert.ConvFwdIdeal.Gen Idealize.ShloMosaic Idealize.ShloMosaic.TcCoe Idealize.SL.Sem
open Cert.ConvBwdIdeal.Hand (EXT EXT_lo EXT_mid EXT_hi cover GLU SQ U EXT_SQ readCov_ld)
open Idealize.ShloMosaic.Pipeline (Dat)
variable (m : (ℓ : Loc nD τ sig) → Buf (Elt Ideal) ℓ)

/-- The convolution of the window `E` at row `r` and channel `l`, with the bias. -/
def CV (E : FVec Ideal S288x512 .f32) (W : FVec Ideal S31x512 .f32) (B : FVec Ideal S1x512 .f32) (r : Fin 256) (l : Fin 512) : EReal :=
  B (ix2 0 l) + ∑ k : Fin 31, E (ix2 ⟨(k : ℕ) + 1 + r, by omega⟩ l) * W (ix2 k l)

theorem CV_terms (E : FVec Ideal S288x512 .f32) (W : FVec Ideal S31x512 .f32) (B : FVec Ideal S1x512 .f32) (r : Fin 256) (l : Fin 512) :
    CV E W B r l = B (ix2 (0 : Fin 1) l) + E (ix2 ⟨1 + (r : ℕ), by omega⟩ l) * W (ix2 (0 : Fin 31) l) + E (ix2 ⟨2 + (r : ℕ), by omega⟩ l) * W (ix2 (1 : Fin 31) l) + E (ix2 ⟨3 + (r : ℕ), by omega⟩ l) * W (ix2 (2 : Fin 31) l) + E (ix2 ⟨4 + (r : ℕ), by omega⟩ l) * W (ix2 (3 : Fin 31) l) + E (ix2 ⟨5 + (r : ℕ), by omega⟩ l) * W (ix2 (4 : Fin 31) l) + E (ix2 ⟨6 + (r : ℕ), by omega⟩ l) * W (ix2 (5 : Fin 31) l) + E (ix2 ⟨7 + (r : ℕ), by omega⟩ l) * W (ix2 (6 : Fin 31) l) + E (ix2 ⟨8 + (r : ℕ), by omega⟩ l) * W (ix2 (7 : Fin 31) l) + E (ix2 ⟨9 + (r : ℕ), by omega⟩ l) * W (ix2 (8 : Fin 31) l) + E (ix2 ⟨10 + (r : ℕ), by omega⟩ l) * W (ix2 (9 : Fin 31) l) + E (ix2 ⟨11 + (r : ℕ), by omega⟩ l) * W (ix2 (10 : Fin 31) l) + E (ix2 ⟨12 + (r : ℕ), by omega⟩ l) * W (ix2 (11 : Fin 31) l) + E (ix2 ⟨13 + (r : ℕ), by omega⟩ l) * W (ix2 (12 : Fin 31) l) + E (ix2 ⟨14 + (r : ℕ), by omega⟩ l) * W (ix2 (13 : Fin 31) l) + E (ix2 ⟨15 + (r : ℕ), by omega⟩ l) * W (ix2 (14 : Fin 31) l) + E (ix2 ⟨16 + (r : ℕ), by omega⟩ l) * W (ix2 (15 : Fin 31) l) + E (ix2 ⟨17 + (r : ℕ), by omega⟩ l) * W (ix2 (16 : Fin 31) l) + E (ix2 ⟨18 + (r : ℕ), by omega⟩ l) * W (ix2 (17 : Fin 31) l) + E (ix2 ⟨19 + (r : ℕ), by omega⟩ l) * W (ix2 (18 : Fin 31) l) + E (ix2 ⟨20 + (r : ℕ), by omega⟩ l) * W (ix2 (19 : Fin 31) l) + E (ix2 ⟨21 + (r : ℕ), by omega⟩ l) * W (ix2 (20 : Fin 31) l) + E (ix2 ⟨22 + (r : ℕ), by omega⟩ l) * W (ix2 (21 : Fin 31) l) + E (ix2 ⟨23 + (r : ℕ), by omega⟩ l) * W (ix2 (22 : Fin 31) l) + E (ix2 ⟨24 + (r : ℕ), by omega⟩ l) * W (ix2 (23 : Fin 31) l) + E (ix2 ⟨25 + (r : ℕ), by omega⟩ l) * W (ix2 (24 : Fin 31) l) + E (ix2 ⟨26 + (r : ℕ), by omega⟩ l) * W (ix2 (25 : Fin 31) l) + E (ix2 ⟨27 + (r : ℕ), by omega⟩ l) * W (ix2 (26 : Fin 31) l) + E (ix2 ⟨28 + (r : ℕ), by omega⟩ l) * W (ix2 (27 : Fin 31) l) + E (ix2 ⟨29 + (r : ℕ), by omega⟩ l) * W (ix2 (28 : Fin 31) l) + E (ix2 ⟨30 + (r : ℕ), by omega⟩ l) * W (ix2 (29 : Fin 31) l) + E (ix2 ⟨31 + (r : ℕ), by omega⟩ l) * W (ix2 (30 : Fin 31) l) := by
  rw [CV]
  simp only [Fin.sum_univ_castSucc, Fin.sum_univ_zero, zero_add, ← add_assoc]
  rfl

/-- A tile's convolution as an array. -/
def CVA (E : FVec Ideal S288x512 .f32) (W : FVec Ideal S31x512 .f32) (B : FVec Ideal S1x512 .f32) : FVec Ideal S256x512 .f32 :=
  fun y => CV E W B (y 0) (y 1)

theorem CVA_at (E : FVec Ideal S288x512 .f32) (W : FVec Ideal S31x512 .f32) (B : FVec Ideal S1x512 .f32) (y : S256x512.Idx) (r : Fin 256) (l : Fin 512) (z : EReal)
    (h0 : (y 0 : ℕ) = r) (h1 : (y 1 : ℕ) = l)
    (h : z = B (ix2 (0 : Fin 1) l) + E (ix2 ⟨1 + (r : ℕ), by omega⟩ l) * W (ix2 (0 : Fin 31) l) + E (ix2 ⟨2 + (r : ℕ), by omega⟩ l) * W (ix2 (1 : Fin 31) l) + E (ix2 ⟨3 + (r : ℕ), by omega⟩ l) * W (ix2 (2 : Fin 31) l) + E (ix2 ⟨4 + (r : ℕ), by omega⟩ l) * W (ix2 (3 : Fin 31) l) + E (ix2 ⟨5 + (r : ℕ), by omega⟩ l) * W (ix2 (4 : Fin 31) l) + E (ix2 ⟨6 + (r : ℕ), by omega⟩ l) * W (ix2 (5 : Fin 31) l) + E (ix2 ⟨7 + (r : ℕ), by omega⟩ l) * W (ix2 (6 : Fin 31) l) + E (ix2 ⟨8 + (r : ℕ), by omega⟩ l) * W (ix2 (7 : Fin 31) l) + E (ix2 ⟨9 + (r : ℕ), by omega⟩ l) * W (ix2 (8 : Fin 31) l) + E (ix2 ⟨10 + (r : ℕ), by omega⟩ l) * W (ix2 (9 : Fin 31) l) + E (ix2 ⟨11 + (r : ℕ), by omega⟩ l) * W (ix2 (10 : Fin 31) l) + E (ix2 ⟨12 + (r : ℕ), by omega⟩ l) * W (ix2 (11 : Fin 31) l) + E (ix2 ⟨13 + (r : ℕ), by omega⟩ l) * W (ix2 (12 : Fin 31) l) + E (ix2 ⟨14 + (r : ℕ), by omega⟩ l) * W (ix2 (13 : Fin 31) l) + E (ix2 ⟨15 + (r : ℕ), by omega⟩ l) * W (ix2 (14 : Fin 31) l) + E (ix2 ⟨16 + (r : ℕ), by omega⟩ l) * W (ix2 (15 : Fin 31) l) + E (ix2 ⟨17 + (r : ℕ), by omega⟩ l) * W (ix2 (16 : Fin 31) l) + E (ix2 ⟨18 + (r : ℕ), by omega⟩ l) * W (ix2 (17 : Fin 31) l) + E (ix2 ⟨19 + (r : ℕ), by omega⟩ l) * W (ix2 (18 : Fin 31) l) + E (ix2 ⟨20 + (r : ℕ), by omega⟩ l) * W (ix2 (19 : Fin 31) l) + E (ix2 ⟨21 + (r : ℕ), by omega⟩ l) * W (ix2 (20 : Fin 31) l) + E (ix2 ⟨22 + (r : ℕ), by omega⟩ l) * W (ix2 (21 : Fin 31) l) + E (ix2 ⟨23 + (r : ℕ), by omega⟩ l) * W (ix2 (22 : Fin 31) l) + E (ix2 ⟨24 + (r : ℕ), by omega⟩ l) * W (ix2 (23 : Fin 31) l) + E (ix2 ⟨25 + (r : ℕ), by omega⟩ l) * W (ix2 (24 : Fin 31) l) + E (ix2 ⟨26 + (r : ℕ), by omega⟩ l) * W (ix2 (25 : Fin 31) l) + E (ix2 ⟨27 + (r : ℕ), by omega⟩ l) * W (ix2 (26 : Fin 31) l) + E (ix2 ⟨28 + (r : ℕ), by omega⟩ l) * W (ix2 (27 : Fin 31) l) + E (ix2 ⟨29 + (r : ℕ), by omega⟩ l) * W (ix2 (28 : Fin 31) l) + E (ix2 ⟨30 + (r : ℕ), by omega⟩ l) * W (ix2 (29 : Fin 31) l) + E (ix2 ⟨31 + (r : ℕ), by omega⟩ l) * W (ix2 (30 : Fin 31) l)) : z = CVA E W B y := by
  refine (h.trans (CV_terms E W B r l).symm).trans ?_
  exact congrArg₂ (CV E W B) (Fin.ext h0.symm) (Fin.ext h1.symm)

/-- The test for the first tile of a sequence. -/
theorem sel_first (t : Fin cfg0.N) (z w : EReal) : Scalar.select (Scalar.cmpi CmpIPredicate.eq
        (Scalar.select
          (Scalar.andi
            (Scalar.xori (Scalar.cmpi CmpIPredicate.slt (Scalar.remsi (BitVec.ofNat 32 ↑(grid0.coords t 0)) 8#32) 0#32)
              0#1)
            (Scalar.cmpi CmpIPredicate.ne (Scalar.remsi (BitVec.ofNat 32 ↑(grid0.coords t 0)) 8#32) 0#32))
          (Scalar.addi (Scalar.remsi (BitVec.ofNat 32 ↑(grid0.coords t 0)) 8#32) 8#32)
          (Scalar.remsi (BitVec.ofNat 32 ↑(grid0.coords t 0)) 8#32))
        0#32) z w = if t.val % 8 = 0 then z else w := by
  have e := (by decide +kernel : ∀ t : Fin grid0.N, (Scalar.cmpi CmpIPredicate.eq
        (Scalar.select
          (Scalar.andi
            (Scalar.xori (Scalar.cmpi CmpIPredicate.slt (Scalar.remsi (BitVec.ofNat 32 ↑(grid0.coords t 0)) 8#32) 0#32)
              0#1)
            (Scalar.cmpi CmpIPredicate.ne (Scalar.remsi (BitVec.ofNat 32 ↑(grid0.coords t 0)) 8#32) 0#32))
          (Scalar.addi (Scalar.remsi (BitVec.ofNat 32 ↑(grid0.coords t 0)) 8#32) 8#32)
          (Scalar.remsi (BitVec.ofNat 32 ↑(grid0.coords t 0)) 8#32))
        0#32) = if t.val % 8 = 0 then 1#1 else 0#1) t
  rw [e]
  split <;> rfl

/-- The test for the last tile of a sequence. -/
theorem sel_last (t : Fin cfg0.N) (z w : EReal) : Scalar.select (Scalar.cmpi CmpIPredicate.eq
        (Scalar.select
          (Scalar.andi
            (Scalar.xori (Scalar.cmpi CmpIPredicate.slt (Scalar.remsi (BitVec.ofNat 32 ↑(grid0.coords t 0)) 8#32) 0#32)
              0#1)
            (Scalar.cmpi CmpIPredicate.ne (Scalar.remsi (BitVec.ofNat 32 ↑(grid0.coords t 0)) 8#32) 0#32))
          (Scalar.addi (Scalar.remsi (BitVec.ofNat 32 ↑(grid0.coords t 0)) 8#32) 8#32)
          (Scalar.remsi (BitVec.ofNat 32 ↑(grid0.coords t 0)) 8#32))
        7#32) z w = if t.val % 8 = 7 then z else w := by
  have e := (by decide +kernel : ∀ t : Fin grid0.N, (Scalar.cmpi CmpIPredicate.eq
        (Scalar.select
          (Scalar.andi
            (Scalar.xori (Scalar.cmpi CmpIPredicate.slt (Scalar.remsi (BitVec.ofNat 32 ↑(grid0.coords t 0)) 8#32) 0#32)
              0#1)
            (Scalar.cmpi CmpIPredicate.ne (Scalar.remsi (BitVec.ofNat 32 ↑(grid0.coords t 0)) 8#32) 0#32))
          (Scalar.addi (Scalar.remsi (BitVec.ofNat 32 ↑(grid0.coords t 0)) 8#32) 8#32)
          (Scalar.remsi (BitVec.ofNat 32 ↑(grid0.coords t 0)) 8#32))
        7#32) = if t.val % 8 = 7 then 1#1 else 0#1) t
  rw [e]
  split <;> rfl

/-- The window a tile works on: the gated linear unit of the tile's rows and its neighbours'. -/
def UWIN (c : Dev nD) (t : Fin cfg0.N) : FVec Ideal S288x512 .f32 :=
  EXT t.val (GLU (s := S16x512) (iblk m c 2 t) (iblk m c 3 t)) (GLU (s := S256x512) (iblk m c 0 t) (iblk m c 1 t)) (GLU (s := S16x512) (iblk m c 4 t) (iblk m c 5 t))

set_option maxHeartbeats 2000000 in
theorem strips (c : Dev nD) (t : Fin cfg0.N) (y : S256x512.Idx) : (outsAt0 m c t).1 y
    = CVA (UWIN m c t) (iblk m c 6 t) (iblk m c 7 t) y := by
  unfold outsAt0 out0_A_10
  frame_out
  simp only [readCov_ld]
  generalize hE : View.canon (Val := Elt Ideal) (_ :: _ :: _ :: []) = E
  have hE' : E = UWIN m c t := by
    subst hE
    funext e
    unfold UWIN
    canon_tiles x h using (by
      rcases cover e with h1 | h1 | h1
      · exact ⟨_, List.mem_cons_of_mem _ (List.mem_cons_of_mem _ List.mem_cons_self), by rw [Rect.mem_set_unit]; exact h1.2⟩
      · exact ⟨_, List.mem_cons_of_mem _ List.mem_cons_self, by rw [Rect.mem_set_unit]; exact h1⟩
      · exact ⟨_, List.mem_cons_self, by rw [Rect.mem_set_unit]; exact h1⟩)
    case piece0 => rw [EXT_hi _ _ _ _ e x h0 h1]; open_payloads; pointwise [GLU, Ideal.logistic, zero_sub]; exact sel_last t _ _
    case piece1 => rw [EXT_mid _ _ _ _ e x h0 h1]; open_payloads; pointwise [GLU, Ideal.logistic, zero_sub]
    case piece2 => rw [EXT_lo _ _ _ _ e x h0 h1]; open_payloads; pointwise [GLU, Ideal.logistic, zero_sub]; exact sel_first t _ _
  rw [← hE']
  clear hE hE'
  canon_tiles x h
  case piece0 =>
    refine CVA_at _ _ _ y ⟨224 + x 0, by omega⟩ (x 1) _ h0 h1 ?_
    open_payloads; pointwise; simp only [← Nat.add_assoc, Nat.reduceAdd]
  case piece1 =>
    refine CVA_at _ _ _ y ⟨192 + x 0, by omega⟩ (x 1) _ h0 h1 ?_
    open_payloads; pointwise; simp only [← Nat.add_assoc, Nat.reduceAdd]
  case piece2 =>
    refine CVA_at _ _ _ y ⟨160 + x 0, by omega⟩ (x 1) _ h0 h1 ?_
    open_payloads; pointwise; simp only [← Nat.add_assoc, Nat.reduceAdd]
  case piece3 =>
    refine CVA_at _ _ _ y ⟨128 + x 0, by omega⟩ (x 1) _ h0 h1 ?_
    open_payloads; pointwise; simp only [← Nat.add_assoc, Nat.reduceAdd]
  case piece4 =>
    refine CVA_at _ _ _ y ⟨96 + x 0, by omega⟩ (x 1) _ h0 h1 ?_
    open_payloads; pointwise; simp only [← Nat.add_assoc, Nat.reduceAdd]
  case piece5 =>
    refine CVA_at _ _ _ y ⟨64 + x 0, by omega⟩ (x 1) _ h0 h1 ?_
    open_payloads; pointwise; simp only [← Nat.add_assoc, Nat.reduceAdd]
  case piece6 =>
    refine CVA_at _ _ _ y ⟨32 + x 0, by omega⟩ (x 1) _ h0 h1 ?_
    open_payloads; pointwise; simp only [← Nat.add_assoc, Nat.reduceAdd]
  case piece7 =>
    refine CVA_at _ _ _ y ⟨0 + x 0, by omega⟩ (x 1) _ (h0.trans (Nat.zero_add _).symm) h1 ?_
    open_payloads; pointwise

/-- A row normalised, scaled and shifted: the layer norm's entry. -/
def MU (z : Fin 512 → EReal) : EReal := Ideal.div (∑ k : Fin 512, z k) (Ideal.ofBits FTy.f32 0x44000000#32)
def VAR (z : Fin 512 → EReal) : EReal := Ideal.div (∑ k : Fin 512, (z k - MU z) * (z k - MU z)) (Ideal.ofBits FTy.f32 0x44000000#32)
def NORM (z : Fin 512 → EReal) (g b : EReal) (l : Fin 512) : EReal :=
  (z l - MU z) * Ideal.rsqrt (VAR z + Ideal.ofBits FTy.f32 0x3727C5AC#32) * g + b
/-- The convolution's row normalised, scaled and shifted, and then the unit `x · σ(x)`. -/
def POST (z : Fin 512 → EReal) (g b : EReal) (l : Fin 512) : EReal := NORM z g b l * Ideal.div 1 (1 + Ideal.exp (0 - NORM z g b l))

theorem post_at (Y : Vec Ideal S256x512 .f32) (g b : Vec Ideal S1x512 .f32) (r : Fin 256) (l : Fin 512) :
    k0_pay1 (F := Ideal) (k0_pay41 (F := Ideal) (k0_pay39 (F := Ideal) Y) (k0_pay40 (F := Ideal) g) b) (k0_pay42 (F := Ideal) (k0_pay39 (F := Ideal) Y) (k0_pay40 (F := Ideal) g) b) (ix2 r l)
      = POST (fun k => Y (ix2 r k)) (g (ix2 0 l)) (b (ix2 0 l)) l := by
  unfold POST NORM VAR MU
  pointwise [k0_pay1, k0_pay39, k0_pay40, k0_pay41, k0_pay42]

/-- Reading back the whole tile reads what the strips hold. -/
theorem whole_ld {sg : RefSig} {κ : Kind} {sp : Space} (v : View sg κ sp S256x512 .f32) (L : List (View.Piece (Elt Ideal) S256x512 .f32))
    (h : ∀ d, (![0, 0] : Fin S256x512.rank → ℕ) d + (![256, 512] : Fin S256x512.rank → ℕ) d ≤ S256x512.size d) (y : (Rect.unit (s := S256x512) ![0, 0] ![256, 512] h).shape.Idx) (z : S256x512.Idx) (hz : ∀ d, (z d : ℕ) = y d) :
    v.readCov L (Rect.unit (s := S256x512) ![0, 0] ![256, 512] h).toLoadRect y = View.canon L z := by
  rw [readCov_ld]
  refine congrArg (View.canon L) (funext fun d => Fin.ext ?_)
  refine Eq.trans ?_ (hz d).symm
  fin_cases d
  · exact (Nat.zero_add _).trans (Nat.one_mul _)
  · exact (Nat.zero_add _).trans (Nat.one_mul _)

theorem strips2 (c : Dev nD) (t : Fin cfg0.N) (r : Fin 256) (l : Fin 512) : (outsAt0 m c t).2 (ix2 r l)
    = POST (fun k => CVA (UWIN m c t) (iblk m c 6 t) (iblk m c 7 t) (ix2 r k)) ((show FVec Ideal S1x512 .f32 from iblk m c 8 t) (ix2 0 l)) ((show FVec Ideal S1x512 .f32 from iblk m c 9 t) (ix2 0 l)) l := by
  unfold outsAt0 out0_A_11
  frame_out
  refine (post_at _ _ _ r l).trans ?_
  refine congrArg (fun z => POST z _ _ l) (funext fun k => ?_)
  refine Eq.trans ?_ (strips m c t (ix2 r k))
  unfold outsAt0 out0_A_10
  frame_out
  refine whole_ld _ _ _ _ _ fun d => ?_
  rfl

end Cert.ConvFwdIdeal.Hand
-- ==== Proof.ConvFwdFinal.lean ====
module
public import proofs.«01_k».proof.Proof.ConvFwdTile
public import Idealize.ShloMosaic.Lib.Pipeline.ValueKit
public import Idealize.ShloMosaic.Lib.Pointwise

/-! The convolution forwards: the two arrays the call leaves. -/

@[expose] public section
set_option maxRecDepth 16384
noncomputable section
namespace Cert.ConvFwdIdeal.Hand
open Cert.ConvFwdIdeal Cert.ConvFwdIdeal.Gen Idealize.ShloMosaic Idealize.ShloMosaic.TcCoe Idealize.SL.Sem
open Cert.ConvBwdIdeal.Hand (EXT GLU SQ U EXT_SQ before after)
open Idealize.ShloMosaic.Pipeline (Dat)
variable (m : (ℓ : Loc nD τ sig) → Buf (Elt Ideal) ℓ)

/-- The projected array, the filter, its bias, and the layer norm's scale and shift, as device `c` holds them. -/
def pR (c : Dev nD) : FVec Ideal S8192x3072 .f32 := m ((c : Thread nD τ).loc main_arg0)
def wF (c : Dev nD) : FVec Ideal S31x512 .f32 := m ((c : Thread nD τ).loc main_arg1)
def bF (c : Dev nD) : FVec Ideal S512 .f32 := m ((c : Thread nD τ).loc main_arg2)
def gN (c : Dev nD) : FVec Ideal S512 .f32 := m ((c : Thread nD τ).loc main_arg3)
def hN (c : Dev nD) : FVec Ideal S512 .f32 := m ((c : Thread nD τ).loc main_arg4)

theorem idx : ∀ t : Fin cfg0.N, win0_0.index t = ![t.val, 4] ∧ win0_1.index t = ![t.val, 5] ∧ win0_2.index t = ![16 * t.val - 1, 4] ∧ win0_3.index t = ![16 * t.val - 1, 5]
    ∧ win0_4.index t = ![min (16 * t.val + 16) 511, 4] ∧ win0_5.index t = ![min (16 * t.val + 16) 511, 5] ∧ win0_6.index t = ![0, 0] ∧ win0_7.index t = ![0, 0]
    ∧ win0_8.index t = ![0, 0] ∧ win0_9.index t = ![0, 0] ∧ win0_10.index t = ![t.val, 0] ∧ win0_11.index t = ![t.val, 0] ∧ t.val < 32 :=
  (by decide +kernel : ∀ t : Fin grid0.N, _)

theorem blk0 (c : Dev nD) (t : Fin cfg0.N) (r : Fin 256) (l : Fin 512) (h : 256 * t.val + r < 8192) :
    (show FVec Ideal S256x512 .f32 from iblk m c 0 t) (ix2 r l) = pR m c (ix2 ⟨256 * t.val + r, h⟩ ⟨2048 + l, by omega⟩) := by
  show iblk m c 0 t (ix2 r l) = m ((c : Thread nD τ).loc main_arg0) _
  blk_ext [iblk, V, idx t]

theorem blk1 (c : Dev nD) (t : Fin cfg0.N) (r : Fin 256) (l : Fin 512) (h : 256 * t.val + r < 8192) :
    (show FVec Ideal S256x512 .f32 from iblk m c 1 t) (ix2 r l) = pR m c (ix2 ⟨256 * t.val + r, h⟩ ⟨2560 + l, by omega⟩) := by
  show iblk m c 1 t (ix2 r l) = m ((c : Thread nD τ).loc main_arg0) _
  blk_ext [iblk, V, idx t]

theorem blk2 (c : Dev nD) (t : Fin cfg0.N) (r : Fin 16) (l : Fin 512) (h : before t.val + r < 8192) :
    (show FVec Ideal S16x512 .f32 from iblk m c 2 t) (ix2 r l) = pR m c (ix2 ⟨before t.val + r, h⟩ ⟨2048 + l, by omega⟩) := by
  show iblk m c 2 t (ix2 r l) = m ((c : Thread nD τ).loc main_arg0) _
  unfold before
  blk_ext [iblk, V, idx t]

theorem blk3 (c : Dev nD) (t : Fin cfg0.N) (r : Fin 16) (l : Fin 512) (h : before t.val + r < 8192) :
    (show FVec Ideal S16x512 .f32 from iblk m c 3 t) (ix2 r l) = pR m c (ix2 ⟨before t.val + r, h⟩ ⟨2560 + l, by omega⟩) := by
  show iblk m c 3 t (ix2 r l) = m ((c : Thread nD τ).loc main_arg0) _
  unfold before
  blk_ext [iblk, V, idx t]

theorem blk4 (c : Dev nD) (t : Fin cfg0.N) (r : Fin 16) (l : Fin 512) (h : after t.val + r < 8192) :
    (show FVec Ideal S16x512 .f32 from iblk m c 4 t) (ix2 r l) = pR m c (ix2 ⟨after t.val + r, h⟩ ⟨2048 + l, by omega⟩) := by
  show iblk m c 4 t (ix2 r l) = m ((c : Thread nD τ).loc main_arg0) _
  unfold after
  blk_ext [iblk, V, idx t]

theorem blk5 (c : Dev nD) (t : Fin cfg0.N) (r : Fin 16) (l : Fin 512) (h : after t.val + r < 8192) :
    (show FVec Ideal S16x512 .f32 from iblk m c 5 t) (ix2 r l) = pR m c (ix2 ⟨after t.val + r, h⟩ ⟨2560 + l, by omega⟩) := by
  show iblk m c 5 t (ix2 r l) = m ((c : Thread nD τ).loc main_arg0) _
  unfold after
  blk_ext [iblk, V, idx t]

theorem blk6 (c : Dev nD) (t : Fin cfg0.N) (k : Fin 31) (l : Fin 512) :
    (show FVec Ideal S31x512 .f32 from iblk m c 6 t) (ix2 k l) = wF m c (ix2 k l) := by
  show iblk m c 6 t (ix2 k l) = m ((c : Thread nD τ).loc main_arg1) _
  blk_ext [iblk, V, idx t]

theorem ent7 (c : Dev nD) (l : Fin 512) :
    (show FVec Ideal S1x512 .f32 from V m c (Pipeline.arrRef spec0 7)) (ix2 0 l) = bF m c (ix1 l) := by
  entry_read
  pointwise
  rfl
theorem blk7 (c : Dev nD) (t : Fin cfg0.N) (l : Fin 512) :
    (show FVec Ideal S1x512 .f32 from iblk m c 7 t) (ix2 0 l) = bF m c (ix1 l) := by
  refine Eq.trans ?_ (ent7 m c l)
  show iblk m c 7 t (ix2 0 l) = _
  blk_ext [iblk, idx t]

theorem ent8 (c : Dev nD) (l : Fin 512) :
    (show FVec Ideal S1x512 .f32 from V m c (Pipeline.arrRef spec0 8)) (ix2 0 l) = gN m c (ix1 l) := by
  entry_read
  pointwise
  rfl
theorem blk8 (c : Dev nD) (t : Fin cfg0.N) (l : Fin 512) :
    (show FVec Ideal S1x512 .f32 from iblk m c 8 t) (ix2 0 l) = gN m c (ix1 l) := by
  refine Eq.trans ?_ (ent8 m c l)
  show iblk m c 8 t (ix2 0 l) = _
  blk_ext [iblk, idx t]

theorem ent9 (c : Dev nD) (l : Fin 512) :
    (show FVec Ideal S1x512 .f32 from V m c (Pipeline.arrRef spec0 9)) (ix2 0 l) = hN m c (ix1 l) := by
  entry_read
  pointwise
  rfl
theorem blk9 (c : Dev nD) (t : Fin cfg0.N) (l : Fin 512) :
    (show FVec Ideal S1x512 .f32 from iblk m c 9 t) (ix2 0 l) = hN m c (ix1 l) := by
  refine Eq.trans ?_ (ent9 m c l)
  show iblk m c 9 t (ix2 0 l) = _
  blk_ext [iblk, idx t]

theorem UWIN_SQ (c : Dev nD) (t : Fin cfg0.N) (e : ℕ) (he : e < 288) (he1 : 1 ≤ e) (he2 : e ≤ 286) (l : Fin 512) :
    UWIN m c t (ix2 ⟨e, he⟩ l) = SQ (U (pR m c)) (t.val / 8) (t.val % 8 * 256 + e - 1) l := by
  have ht : t.val < 32 := (idx t).2.2.2.2.2.2.2.2.2.2.2.2
  unfold UWIN
  refine EXT_SQ t.val ht (U (pR m c)) _ _ _ (fun r l h => ?_) (fun r l h => ?_) (fun r l h => ?_) e he he1 he2 l
  · exact congrArg₂ (fun a b => a * Ideal.logistic b) (blk2 m c t r l h) (blk3 m c t r l h)
  · exact congrArg₂ (fun a b => a * Ideal.logistic b) (blk0 m c t r l h) (blk1 m c t r l h)
  · exact congrArg₂ (fun a b => a * Ideal.logistic b) (blk4 m c t r l h) (blk5 m c t r l h)

/-- The convolution at row `R` and channel `l`: the bias and the filter's thirty-one products with the padded gated sequence. -/
def CVR (P : FVec Ideal S8192x3072 .f32) (W : FVec Ideal S31x512 .f32) (B : FVec Ideal S512 .f32) (R : Fin 8192) (l : Fin 512) : EReal :=
  B (ix1 l) + ∑ k : Fin 31, SQ (U P) ((R : ℕ) / 2048) ((R : ℕ) % 2048 + k) l * W (ix2 k l)

/-- The convolution of every row. -/
def YC (P : FVec Ideal S8192x3072 .f32) (W : FVec Ideal S31x512 .f32) (B : FVec Ideal S512 .f32) : FVec Ideal S8192x512 .f32 := fun j => CVR P W B (j 0) (j 1)

/-- Its layer norm, and the unit `x · σ(x)` of it. -/
def YS (P : FVec Ideal S8192x3072 .f32) (W : FVec Ideal S31x512 .f32) (B G H : FVec Ideal S512 .f32) : FVec Ideal S8192x512 .bf16 := fun j =>
  POST (fun k => CVR P W B (j 0) k) (G (ix1 (j 1))) (H (ix1 (j 1))) (j 1)

theorem CV_CVR (c : Dev nD) (t : Fin cfg0.N) (r : Fin 256) (l : Fin 512) (R : Fin 8192) (hR : (R : ℕ) = 256 * t.val + r) :
    CVA (UWIN m c t) (iblk m c 6 t) (iblk m c 7 t) (ix2 r l) = CVR (pR m c) (wF m c) (bF m c) R l := by
  have hd := Nat.div_add_mod t.val 8
  show CV (UWIN m c t) (iblk m c 6 t) (iblk m c 7 t) r l = _
  unfold CV CVR
  refine congrArg₂ (· + ·) (blk7 m c t l) (Finset.sum_congr rfl fun k _ => ?_)
  refine congrArg₂ (· * ·) ?_ (blk6 m c t k l)
  refine (UWIN_SQ m c t _ _ (by omega) (by omega) l).trans ?_
  exact congrArg₂ (fun b s => SQ (U (pR m c)) b s l) (by omega) (by omega)

theorem fin10 (c : Dev nD) : (dats m 0 c).arrAt 10 cfg0.N = YC (pR m c) (wF m c) (bF m c) := by
  refine (dats m 0 c).arrAt_eq_of_covers 10 _ (by decide +kernel) fun t _ y => ?_
  obtain ⟨r, l, rfl⟩ : ∃ (r : Fin 256) (l : Fin 512), y = ix2 r l := ⟨_, _, eq_ix2 y⟩
  blk_simp
  rw [after0_10, strips]
  have ht : t.val < 32 := (idx t).2.2.2.2.2.2.2.2.2.2.2.2
  refine (CV_CVR m c t r l ⟨256 * t.val + r, by omega⟩ rfl).trans ?_
  refine congrArg₂ (CVR _ _ _) (Fin.ext ?_) (Fin.ext ?_) <;> blk_simp [idx t] <;> (try dsimp only) <;> omega

theorem fin11 (c : Dev nD) : (dats m 0 c).arrAt 11 cfg0.N = YS (pR m c) (wF m c) (bF m c) (gN m c) (hN m c) := by
  refine (dats m 0 c).arrAt_eq_of_covers 11 _ (by decide +kernel) fun t _ y => ?_
  obtain ⟨r, l, rfl⟩ : ∃ (r : Fin 256) (l : Fin 512), y = ix2 r l := ⟨_, _, eq_ix2 y⟩
  blk_simp
  rw [after0_11, strips2, blk8, blk9]
  have ht : t.val < 32 := (idx t).2.2.2.2.2.2.2.2.2.2.2.2
  have hR : ∀ k, CVA (UWIN m c t) (iblk m c 6 t) (iblk m c 7 t) (ix2 r k) = CVR (pR m c) (wF m c) (bF m c) ⟨256 * t.val + r, by omega⟩ k :=
    fun k => CV_CVR m c t r k ⟨256 * t.val + r, by omega⟩ rfl
  simp only [hR]
  have he : ((View.whole main_v3_1).slice (win0_11.rect t)).emb (ix2 r l) = ix2 (⟨256 * t.val + r, by omega⟩ : Fin 8192) l := by
    funext a
    apply Fin.ext
    fin_cases a <;> blk_simp [idx t]
    · change (_ + (r : ℕ) : ℕ) = 256 * t.val + r
      omega
    · first
      | rfl
      | (change (_ + (l : ℕ) : ℕ) = l; omega)
  exact (congrArg (YS (pR m c) (wF m c) (bF m c) (gN m c) (hN m c)) he).symm

end Cert.ConvFwdIdeal.Hand
-- ==== Proof.ConvFwdRef.lean ====
module
public import proofs.«01_k».proof.Proof.Gen.ConvFwdRefIdeal.Run
public import proofs.«01_k».proof.Proof.ConvFwdFinal
public import Idealize.ShloMosaic.Lib.Pipeline.ValueKit
public import Idealize.ShloMosaic.Lib.Pointwise

/-! The convolution's forward reference read at indices. -/

@[expose] public section
set_option maxRecDepth 16384
noncomputable section
namespace Cert.ConvFwdRefIdeal.Hand
open Cert.ConvFwdRefIdeal Cert.ConvFwdRefIdeal.Gen Cert.ConvFwdRefIdeal.Value Idealize.ShloMosaic Idealize.ShloMosaic.TcCoe Idealize.SL.Sem
open Cert.ConvBwdIdeal.Hand (SQ U)
open Cert.ConvFwdIdeal.Hand (CVR YC YS POST NORM VAR MU)
variable (V0 : Valuation τ sig (Elt Ideal))

/-- The projection's output, the filter, its bias, and the layer norm's scale and shift. -/
abbrev P0 : FVec Ideal S8192x3072 .f32 := V0 (Proc.tc.devRef main_arg0)
abbrev W0 : FVec Ideal S31x512 .f32 := V0 (Proc.tc.devRef main_arg1)
abbrev B0 : FVec Ideal S512 .f32 := V0 (Proc.tc.devRef main_arg2)
abbrev G0 : FVec Ideal S512 .f32 := V0 (Proc.tc.devRef main_arg3)
abbrev H0 : FVec Ideal S512 .f32 := V0 (Proc.tc.devRef main_arg4)

/-- The framed sequence. -/
abbrev X12 : FVec Ideal S4x2078x512 .f32 := res_main_v12 V0

theorem r12 (b : Fin 4) (s : Fin 2078) (l : Fin 512) :
    (show FVec Ideal S4x2078x512 .f32 from res_main_v12 V0) (ix3 b s l) = SQ (U (P0 V0)) b s l := by
  show res_main_v12 V0 (ix3 b s l) = _
  pointwise [res_main_v12, res_main_v11, res_main_v1]
  unfold SQ
  by_cases h1 : (s : ℕ) < 15
  · rw [dif_pos h1, dif_neg (by omega)]
  · rw [dif_neg h1]
    by_cases h2 : (s : ℕ) - 15 < 2048
    · rw [dif_pos h2, dif_pos (by omega)]
      unfold U Ideal.logistic
      refine congrArg₂ (fun x y => P0 V0 x * Ideal.div 1 (1 + Ideal.exp (-(P0 V0 y)))) ?_ ?_
      · exact congrArg₂ ix2 (Fin.ext (by show (b : ℕ) * 2048 + (s - 15) = 2048 * b + (s - 15); omega)) rfl
      · exact congrArg₂ ix2 (Fin.ext (by show (b : ℕ) * 2048 + (s - 15) = 2048 * b + (s - 15); omega)) (Fin.ext (by show 2048 + (512 + (l : ℕ)) = 2560 + l; omega))
    · rw [dif_neg h2, dif_neg (by omega)]

/-- A choice is a value if both its branches are. -/
theorem pick {α : Type} {p : Prop} [Decidable p] {f : p → α} {g : ¬ p → α} {x : α}
    (hf : ∀ h, f h = x) (hg : ∀ h, g h = x) : dite p f g = x := by
  by_cases h : p
  · rw [dif_pos h]; exact hf h
  · rw [dif_neg h]; exact hg h

/-- The framed sequence at equal positions. -/
theorem x12 (b : Fin 4) (l : Fin 512) {s s' : Fin 2078} (h : (s : ℕ) = s') : X12 V0 (ix3 b s l) = X12 V0 (ix3 b s' l) := by
  rw [Fin.ext h]

/-- The thirty-one windows, stacked. -/
def STACK : FVec Ideal S31x4x2048x512 .f32 :=
  concatenate S31x4x2048x512 0 [⟨S16x4x2048x512, (res_main_v75 V0)⟩, ⟨S15x4x2048x512, (res_main_v76 V0)⟩] concatenates_S16x4x2048x512_S15x4x2048x512_S31x4x2048x512_d0

/-- Window `k` of the stack. -/
theorem stack_at (k : Fin 31) (b : Fin 4) (t : Fin 2048) (l : Fin 512) :
    STACK V0 (ix4 k b t l) = X12 V0 (ix3 b ⟨t + k, by omega⟩ l) := by
  pointwise [STACK, res_main_v75, res_main_v76]
  repeat' refine pick (fun h => ?_) (fun h => ?_)
  all_goals exact x12 V0 b l (by
    first
    | (show (t : ℕ) = t + k; omega)
    | (simp only []; omega))

/-- The convolution. -/
theorem r85 : (show FVec Ideal S8192x512 .f32 from res_main_v85 V0) = YC (P0 V0) (W0 V0) (B0 V0) := by
  funext e
  obtain ⟨R, l, rfl⟩ : ∃ R j, e = ix2 R j := ⟨_, _, eq_ix2 e⟩
  show res_main_v85 V0 (ix2 R l) = CVR (P0 V0) (W0 V0) (B0 V0) R l
  have hS : ∀ X : FVec Ideal S31x4x2048x512 .f32, shapeCast S8192x512 (addf (Host.reduceAdd (mulf X (broadcastInDim S31x4x2048x512 ![0, 1, 2, 3] bcast_S31x1x1x512_S31x4x2048x512_0_1_2_3 (broadcastInDim S31x1x1x512 ![0, 3] bcast_S31x512_S31x1x1x512_0_3 (V0 (Proc.devRef .tc main_arg1))))) (constant S_ .f32 0x00000000#32) reducesTo_S31x4x2048x512_S4x2048x512_d0 h_S_) (broadcastInDim S4x2048x512 ![0, 1, 2] bcast_S1x1x512_S4x2048x512_0_1_2 (broadcastInDim S1x1x512 ![2] bcast_S512_S1x1x512_2 (V0 (Proc.devRef .tc main_arg2))))) shapeCasts_S4x2048x512_S8192x512 (ix2 R l)
      = (∑ k : Fin 31, X (ix4 k ⟨(R : ℕ) / 2048, by omega⟩ ⟨(R : ℕ) % 2048, by omega⟩ l) * W0 V0 (ix2 k l)) + B0 V0 (ix1 l) := by
    intro X
    pointwise
  refine (hS (STACK V0)).trans ?_
  refine (add_comm _ _).trans ?_
  unfold CVR
  refine congrArg (B0 V0 (ix1 l) + ·) (Finset.sum_congr rfl fun k _ => ?_)
  rw [stack_at]
  exact congrArg (· * _) (r12 V0 _ _ l)

/-- The normalised unit of rows `Y`. -/
theorem r109 (R : Fin 8192) (l : Fin 512) :
    res_main_v109 V0 (ix2 R l) = NORM (fun k => (show FVec Ideal S8192x512 .f32 from res_main_v85 V0) (ix2 R k)) (G0 V0 (ix1 l)) (H0 V0 (ix1 l)) l := by
  unfold NORM VAR MU
  pointwise [res_main_v109, res_main_v91, res_main_v89]

/-- The second result. -/
theorem right_ref : truncf .bf16 (mulf (res_main_v109 V0) (Host.divf (broadcastInDim S8192x512 ![] bcast_S_S8192x512 (constant S_ .f32 0x3F800000#32)) (addf (broadcastInDim S8192x512 ![] bcast_S_S8192x512 (constant S_ .f32 0x3F800000#32)) (Host.exp (Host.negf (res_main_v109 V0)))))) bitsLt_bf16_f32
    = YS (P0 V0) (W0 V0) (B0 V0) (G0 V0) (H0 V0) := by
  funext e
  obtain ⟨R, l, rfl⟩ : ∃ R j, e = ix2 R j := ⟨_, _, eq_ix2 e⟩
  have hX : ∀ X : FVec Ideal S8192x512 .f32, truncf .bf16 (mulf X (Host.divf (broadcastInDim S8192x512 ![] bcast_S_S8192x512 (constant S_ .f32 0x3F800000#32)) (addf (broadcastInDim S8192x512 ![] bcast_S_S8192x512 (constant S_ .f32 0x3F800000#32)) (Host.exp (Host.negf X))))) bitsLt_bf16_f32 (ix2 R l)
      = X (ix2 R l) * Ideal.div 1 (1 + Ideal.exp (0 - X (ix2 R l))) := by
    intro X
    pointwise
    rw [sub_eq_add_neg, zero_add]
  refine (hX _).trans ?_
  rw [r109, r85]
  rfl

end Cert.ConvFwdRefIdeal.Hand
-- ==== Proof.ConvFwdClaim.lean ====
module
public import proofs.«01_k».proof.Defs
public import proofs.«01_k».proof.Proof.Gen.ConvFwdIdeal
public import proofs.«01_k».proof.Proof.Gen.ConvFwdRefIdeal
public import proofs.«01_k».proof.Proof.ConvFwdFinal
public import proofs.«01_k».proof.Proof.ConvFwdRef
public import Idealize.ShloMosaic.Lib.Claim

/-! The convolution's forward call and its reference end with the same two arrays. -/

@[expose] public section
noncomputable section
namespace Cert.Proof
open Idealize.ShloMosaic Idealize.SL.Sem

/-- The reference's frame: its run, and no semaphore is declared. -/
theorem cvf_reference : Cert.quiescent_ConvFwdRefIdeal := by
  intro m g _
  exact (θ_run Cert.ConvFwdRefIdeal.defs _ _).mono
    (fun r h => ⟨fun c => ⟨(h c).2.2.1, (h c).2.2.2.1, (h c).2.2.2.2.1, (h c).2.2.2.2.2.1, (h c).2.2.2.2.2.2⟩,
      sem_eq_zero_of_no_sems (by decide) r.2⟩)
    (Cert.ConvFwdRefIdeal.Value.run m g)

/-- The kernel and the reference end with equal arrays. -/
theorem cvf_algebraic : Cert.algebraic_ConvFwdIdeal_ConvFwdRefIdeal := by
  intro m g m' g' _ hagree
  refine ⟨fun c => (Cert.ConvFwdIdeal.Gen.dats m 0 c).arrAt 10 Cert.ConvFwdIdeal.cfg0.N,
    fun c => (Cert.ConvFwdIdeal.Gen.dats m 0 c).arrAt 11 Cert.ConvFwdIdeal.cfg0.N,
    Cert.ConvFwdIdeal.Value.run_blocks m g, ?_⟩
  refine (θ_run Cert.ConvFwdRefIdeal.defs _ _).mono (fun r h c => ?_)
    (Cert.ConvFwdRefIdeal.Value.run m' g')
  obtain ⟨e0, e1, e2, e3, e4⟩ := hagree c
  have d0 : Cert.ConvFwdRefIdeal.Hand.P0 (StableHlo.launchContents m' c) = Cert.ConvFwdIdeal.Hand.pR m c := e0
  have d1 : Cert.ConvFwdRefIdeal.Hand.W0 (StableHlo.launchContents m' c) = Cert.ConvFwdIdeal.Hand.wF m c := e1
  have d2 : Cert.ConvFwdRefIdeal.Hand.B0 (StableHlo.launchContents m' c) = Cert.ConvFwdIdeal.Hand.bF m c := e2
  have d3 : Cert.ConvFwdRefIdeal.Hand.G0 (StableHlo.launchContents m' c) = Cert.ConvFwdIdeal.Hand.gN m c := e3
  have d4 : Cert.ConvFwdRefIdeal.Hand.H0 (StableHlo.launchContents m' c) = Cert.ConvFwdIdeal.Hand.hN m c := e4
  refine ⟨(h c).1.trans ?_, (h c).2.1.trans ?_, (h c).2.2⟩
  · refine (Cert.ConvFwdRefIdeal.Hand.r85 (StableHlo.launchContents m' c)).trans ?_
    rw [d0, d1, d2]
    exact (Cert.ConvFwdIdeal.Hand.fin10 m c).symm
  · refine (Cert.ConvFwdRefIdeal.Hand.right_ref (StableHlo.launchContents m' c)).trans ?_
    rw [d0, d1, d2, d3, d4]
    exact (Cert.ConvFwdIdeal.Hand.fin11 m c).symm

end Cert.Proof
-- ==== Proof.AdamLaws.lean ====
module
public import Idealize.ShloMosaic.Lib.Pipeline.ValueKit
public import Idealize.ShloMosaic.Lib.Pointwise

/-! One entry of the optimiser's update, on the extended reals. -/

@[expose] public section
noncomputable section
namespace Cert.Adam
open Idealize.ShloMosaic

/-- The first moment after the step. -/
def MOM (g a : EReal) : EReal := Ideal.ofBits FTy.f32 0x3F666666#32 * a + Ideal.ofBits FTy.f32 0x3DCCCCCD#32 * g
/-- The second moment after the step. -/
def VEL (g v : EReal) : EReal := Ideal.ofBits FTy.f32 0x3F7FBE77#32 * v + Ideal.ofBits FTy.f32 0x3A83126F#32 * (g * g)
/-- The change of the weight: both moments corrected for their start at nought, and the weight decay. -/
def DELTA (w g a v : EReal) : EReal :=
  Ideal.ofBits FTy.f32 0xBA83126F#32 *
    (Ideal.div (Ideal.div (MOM g a) (Ideal.ofBits FTy.f32 0x3F26BD02#32))
        (Ideal.sqrt (Ideal.div (VEL g v) (Ideal.ofBits FTy.f32 0x3C231ACC#32)) + Ideal.ofBits FTy.f32 0x322BCC77#32)
      + Ideal.ofBits FTy.f32 0x3C23D70A#32 * w)

end Cert.Adam
-- ==== Proof.AdamInFinal.lean ====
module
public import proofs.«01_k».proof.Proof.Gen.AdamInIdeal.Value
public import proofs.«01_k».proof.Proof.Gen.AdamInRefIdeal.Run
public import proofs.«01_k».proof.Proof.AdamLaws
public import Idealize.ShloMosaic.Lib.Pipeline.ValueKit
public import Idealize.ShloMosaic.Lib.Pointwise

/-! The optimiser's update of the feed-forward layers' first weight, one block of rows at a time. -/

@[expose] public section
set_option maxRecDepth 16384
noncomputable section
namespace Cert.AdamInIdeal.Hand
open Cert.AdamInIdeal Cert.AdamInIdeal.Gen Cert.Adam Idealize.ShloMosaic Idealize.ShloMosaic.TcCoe Idealize.SL.Sem
open Idealize.ShloMosaic.Pipeline (Dat)
variable (m : (ℓ : Loc nD τ sig) → Buf (Elt Ideal) ℓ)

/-- The arguments, as device `c` holds them. -/
def half0 (c : Dev nD) : FVec Ideal S1024x1408 .f32 := m ((c : Thread nD τ).loc main_arg0)
def half1 (c : Dev nD) : FVec Ideal S1024x1408 .f32 := m ((c : Thread nD τ).loc main_arg1)
def weight (c : Dev nD) : FVec Ideal S1024x1408 .f32 := m ((c : Thread nD τ).loc main_arg2)
def mom (c : Dev nD) : FVec Ideal S1024x1408 .f32 := m ((c : Thread nD τ).loc main_arg3)
def vel (c : Dev nD) : FVec Ideal S1024x1408 .f32 := m ((c : Thread nD τ).loc main_arg4)

/-- The reference's summed gradient, moments and change of the weight. -/
def REFG (a b : FVec Ideal S1024x1408 .f32) : FVec Ideal S1024x1408 .f32 := addf a b
def REFM (g a : FVec Ideal S1024x1408 .f32) : FVec Ideal S1024x1408 .f32 :=
  addf (mulf (broadcastInDim Cert.AdamInRefIdeal.S1024x1408 ![] Cert.AdamInRefIdeal.Gen.bcast_S_S1024x1408 (constant Cert.AdamInRefIdeal.S_ .f32 0x3F666666#32)) a) (mulf (broadcastInDim Cert.AdamInRefIdeal.S1024x1408 ![] Cert.AdamInRefIdeal.Gen.bcast_S_S1024x1408 (constant Cert.AdamInRefIdeal.S_ .f32 0x3DCCCCCD#32)) g)
def REFV (g v : FVec Ideal S1024x1408 .f32) : FVec Ideal S1024x1408 .f32 :=
  addf (mulf (broadcastInDim Cert.AdamInRefIdeal.S1024x1408 ![] Cert.AdamInRefIdeal.Gen.bcast_S_S1024x1408 (constant Cert.AdamInRefIdeal.S_ .f32 0x3F7FBE77#32)) v) (mulf (broadcastInDim Cert.AdamInRefIdeal.S1024x1408 ![] Cert.AdamInRefIdeal.Gen.bcast_S_S1024x1408 (constant Cert.AdamInRefIdeal.S_ .f32 0x3A83126F#32)) (mulf g g))
def REFD (w g a v : FVec Ideal S1024x1408 .f32) : FVec Ideal S1024x1408 .f32 :=
  mulf (broadcastInDim Cert.AdamInRefIdeal.S1024x1408 ![] Cert.AdamInRefIdeal.Gen.bcast_S_S1024x1408 (constant Cert.AdamInRefIdeal.S_ .f32 0xBA83126F#32))
    (addf (Host.divf (Host.divf (REFM g a) (broadcastInDim Cert.AdamInRefIdeal.S1024x1408 ![] Cert.AdamInRefIdeal.Gen.bcast_S_S1024x1408 (constant Cert.AdamInRefIdeal.S_ .f32 0x3F26BD02#32)))
        (addf (Host.sqrt (Host.divf (REFV g v) (broadcastInDim Cert.AdamInRefIdeal.S1024x1408 ![] Cert.AdamInRefIdeal.Gen.bcast_S_S1024x1408 (constant Cert.AdamInRefIdeal.S_ .f32 0x3C231ACC#32)))) (broadcastInDim Cert.AdamInRefIdeal.S1024x1408 ![] Cert.AdamInRefIdeal.Gen.bcast_S_S1024x1408 (constant Cert.AdamInRefIdeal.S_ .f32 0x322BCC77#32))))
      (mulf (broadcastInDim Cert.AdamInRefIdeal.S1024x1408 ![] Cert.AdamInRefIdeal.Gen.bcast_S_S1024x1408 (constant Cert.AdamInRefIdeal.S_ .f32 0x3C23D70A#32)) w))

theorem refg_at (a b : FVec Ideal S1024x1408 .f32) (r : Fin 1024) (l : Fin 1408) : REFG a b (ix2 r l) = a (ix2 r l) + b (ix2 r l) := by
  pointwise [REFG]
theorem refm_at (g a : FVec Ideal S1024x1408 .f32) (r : Fin 1024) (l : Fin 1408) : REFM g a (ix2 r l) = MOM (g (ix2 r l)) (a (ix2 r l)) := by
  unfold MOM
  pointwise [REFM]
theorem refv_at (g v : FVec Ideal S1024x1408 .f32) (r : Fin 1024) (l : Fin 1408) : REFV g v (ix2 r l) = VEL (g (ix2 r l)) (v (ix2 r l)) := by
  unfold VEL
  pointwise [REFV]
theorem refd_at (w g a v : FVec Ideal S1024x1408 .f32) (r : Fin 1024) (l : Fin 1408) :
    REFD w g a v (ix2 r l) = DELTA (w (ix2 r l)) (g (ix2 r l)) (a (ix2 r l)) (v (ix2 r l)) := by
  unfold DELTA MOM VEL
  pointwise [REFD, REFM, REFV]

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ t.val < 4 :=
  (by decide +kernel : ∀ t : Fin grid0.N, _)

theorem blk0 (c : Dev nD) (t : Fin cfg0.N) (r : Fin 256) (l : Fin 1408) (h : t.val * 256 + r < 1024) :
    (show FVec Ideal S256x1408 .f32 from iblk m c 0 t) (ix2 r l) = half0 m c (ix2 ⟨t.val * 256 + r, h⟩ l) := by
  show iblk m c 0 t (ix2 r l) = m ((c : Thread nD τ).loc main_arg0) _
  blk_ext [iblk, V, idx t]
theorem blk1 (c : Dev nD) (t : Fin cfg0.N) (r : Fin 256) (l : Fin 1408) (h : t.val * 256 + r < 1024) :
    (show FVec Ideal S256x1408 .f32 from iblk m c 1 t) (ix2 r l) = half1 m c (ix2 ⟨t.val * 256 + r, h⟩ l) := by
  show iblk m c 1 t (ix2 r l) = m ((c : Thread nD τ).loc main_arg1) _
  blk_ext [iblk, V, idx t]
theorem blk2 (c : Dev nD) (t : Fin cfg0.N) (r : Fin 256) (l : Fin 1408) (h : t.val * 256 + r < 1024) :
    (show FVec Ideal S256x1408 .f32 from iblk m c 2 t) (ix2 r l) = weight m c (ix2 ⟨t.val * 256 + r, h⟩ l) := by
  show iblk m c 2 t (ix2 r l) = m ((c : Thread nD τ).loc main_arg2) _
  blk_ext [iblk, V, idx t]
theorem blk3 (c : Dev nD) (t : Fin cfg0.N) (r : Fin 256) (l : Fin 1408) (h : t.val * 256 + r < 1024) :
    (show FVec Ideal S256x1408 .f32 from iblk m c 3 t) (ix2 r l) = mom m c (ix2 ⟨t.val * 256 + r, h⟩ l) := by
  show iblk m c 3 t (ix2 r l) = m ((c : Thread nD τ).loc main_arg3) _
  blk_ext [iblk, V, idx t]
theorem blk4 (c : Dev nD) (t : Fin cfg0.N) (r : Fin 256) (l : Fin 1408) (h : t.val * 256 + r < 1024) :
    (show FVec Ideal S256x1408 .f32 from iblk m c 4 t) (ix2 r l) = vel m c (ix2 ⟨t.val * 256 + r, h⟩ l) := by
  show iblk m c 4 t (ix2 r l) = m ((c : Thread nD τ).loc main_arg4) _
  blk_ext [iblk, V, idx t]

theorem payG_at (x0 x1 : Vec Ideal S256x1408 .f32) (r : Fin 256) (l : Fin 1408) :
    k0_pay1 (F := Ideal) x0 x1 (ix2 r l) = (x0 (ix2 r l) + x1 (ix2 r l)) := by
  pointwise [k0_pay1]
theorem out5_at (x0 x1 x2 x3 x4 : Vec Ideal S256x1408 .f32) (r : Fin 256) (l : Fin 1408) :
    out0_5 (F := Ideal) x0 x1 x2 x3 x4 (ix2 r l) = (x0 (ix2 r l) + x1 (ix2 r l)) := by
  unfold out0_5
  frame_out
  exact payG_at x0 x1 r l

theorem payD_at (x0 x1 x2 x3 x4 : Vec Ideal S256x1408 .f32) (r : Fin 256) (l : Fin 1408) :
    k0_pay4 (F := Ideal) x0 x1 x2 x3 x4 (ix2 r l) = DELTA (x2 (ix2 r l)) (x0 (ix2 r l) + x1 (ix2 r l)) (x3 (ix2 r l)) (x4 (ix2 r l)) := by
  unfold DELTA MOM VEL
  pointwise [k0_pay4, k0_pay3, k0_pay2, k0_pay1]
theorem out6_at (x0 x1 x2 x3 x4 : Vec Ideal S256x1408 .f32) (r : Fin 256) (l : Fin 1408) :
    out0_6 (F := Ideal) x0 x1 x2 x3 x4 (ix2 r l) = DELTA (x2 (ix2 r l)) (x0 (ix2 r l) + x1 (ix2 r l)) (x3 (ix2 r l)) (x4 (ix2 r l)) := by
  unfold out0_6
  frame_out
  exact payD_at x0 x1 x2 x3 x4 r l

theorem payM_at (x0 x1 x3 : Vec Ideal S256x1408 .f32) (r : Fin 256) (l : Fin 1408) :
    k0_pay2 (F := Ideal) x0 x1 x3 (ix2 r l) = MOM (x0 (ix2 r l) + x1 (ix2 r l)) (x3 (ix2 r l)) := by
  unfold MOM
  pointwise [k0_pay2, k0_pay1]
theorem out7_at (x0 x1 x2 x3 x4 : Vec Ideal S256x1408 .f32) (r : Fin 256) (l : Fin 1408) :
    out0_7 (F := Ideal) x0 x1 x2 x3 x4 (ix2 r l) = MOM (x0 (ix2 r l) + x1 (ix2 r l)) (x3 (ix2 r l)) := by
  unfold out0_7
  frame_out
  exact payM_at x0 x1 x3 r l

theorem payV_at (x0 x1 x4 : Vec Ideal S256x1408 .f32) (r : Fin 256) (l : Fin 1408) :
    k0_pay3 (F := Ideal) x0 x1 x4 (ix2 r l) = VEL (x0 (ix2 r l) + x1 (ix2 r l)) (x4 (ix2 r l)) := by
  unfold VEL
  pointwise [k0_pay3, k0_pay1]
theorem out8_at (x0 x1 x2 x3 x4 : Vec Ideal S256x1408 .f32) (r : Fin 256) (l : Fin 1408) :
    out0_8 (F := Ideal) x0 x1 x2 x3 x4 (ix2 r l) = VEL (x0 (ix2 r l) + x1 (ix2 r l)) (x4 (ix2 r l)) := by
  unfold out0_8
  frame_out
  exact payV_at x0 x1 x4 r l

theorem val5 (c : Dev nD) (t : Fin cfg0.N) (r : Fin 256) (l : Fin 1408) (h : t.val * 256 + r < 1024) :
    ((show FVec Ideal S256x1408 .f32 from iblk m c 0 t) (ix2 r l) + (show FVec Ideal S256x1408 .f32 from iblk m c 1 t) (ix2 r l)) = REFG (half0 m c) (half1 m c) (ix2 ⟨t.val * 256 + r, h⟩ l) := by
  rw [refg_at, blk0 m c t r l h, blk1 m c t r l h]
theorem fin5 (c : Dev nD) : (dats m 0 c).arrAt 5 (cfgs 0).N = REFG (half0 m c) (half1 m c) := by
  refine (dats m 0 c).arrAt_eq_of_covers 5 _ (by decide +kernel) fun t _ y => ?_
  blk_simp
  rw [after0_5]
  obtain ⟨r, l, rfl⟩ : ∃ (r : Fin 256) (l : Fin 1408), y = ix2 r l := ⟨_, _, eq_ix2 y⟩
  have h : t.val * 256 + r < 1024 := by have := idx t; omega
  refine (out5_at _ _ _ _ _ r l).trans ((val5 m c t r l h).trans ?_)
  blk_ext [idx t]

theorem val6 (c : Dev nD) (t : Fin cfg0.N) (r : Fin 256) (l : Fin 1408) (h : t.val * 256 + r < 1024) :
    DELTA ((show FVec Ideal S256x1408 .f32 from iblk m c 2 t) (ix2 r l)) ((show FVec Ideal S256x1408 .f32 from iblk m c 0 t) (ix2 r l) + (show FVec Ideal S256x1408 .f32 from iblk m c 1 t) (ix2 r l)) ((show FVec Ideal S256x1408 .f32 from iblk m c 3 t) (ix2 r l)) ((show FVec Ideal S256x1408 .f32 from iblk m c 4 t) (ix2 r l)) = REFD (weight m c) (REFG (half0 m c) (half1 m c)) (mom m c) (vel m c) (ix2 ⟨t.val * 256 + r, h⟩ l) := by
  rw [refd_at, refg_at, blk0 m c t r l h, blk1 m c t r l h, blk2 m c t r l h, blk3 m c t r l h, blk4 m c t r l h]
theorem fin6 (c : Dev nD) : (dats m 0 c).arrAt 6 (cfgs 0).N = REFD (weight m c) (REFG (half0 m c) (half1 m c)) (mom m c) (vel m c) := by
  refine (dats m 0 c).arrAt_eq_of_covers 6 _ (by decide +kernel) fun t _ y => ?_
  blk_simp
  rw [after0_6]
  obtain ⟨r, l, rfl⟩ : ∃ (r : Fin 256) (l : Fin 1408), y = ix2 r l := ⟨_, _, eq_ix2 y⟩
  have h : t.val * 256 + r < 1024 := by have := idx t; omega
  refine (out6_at _ _ _ _ _ r l).trans ((val6 m c t r l h).trans ?_)
  blk_ext [idx t]

theorem val7 (c : Dev nD) (t : Fin cfg0.N) (r : Fin 256) (l : Fin 1408) (h : t.val * 256 + r < 1024) :
    MOM ((show FVec Ideal S256x1408 .f32 from iblk m c 0 t) (ix2 r l) + (show FVec Ideal S256x1408 .f32 from iblk m c 1 t) (ix2 r l)) ((show FVec Ideal S256x1408 .f32 from iblk m c 3 t) (ix2 r l)) = REFM (REFG (half0 m c) (half1 m c)) (mom m c) (ix2 ⟨t.val * 256 + r, h⟩ l) := by
  rw [refm_at, refg_at, blk0 m c t r l h, blk1 m c t r l h, blk3 m c t r l h]
theorem fin7 (c : Dev nD) : (dats m 0 c).arrAt 7 (cfgs 0).N = REFM (REFG (half0 m c) (half1 m c)) (mom m c) := by
  refine (dats m 0 c).arrAt_eq_of_covers 7 _ (by decide +kernel) fun t _ y => ?_
  blk_simp
  rw [after0_7]
  obtain ⟨r, l, rfl⟩ : ∃ (r : Fin 256) (l : Fin 1408), y = ix2 r l := ⟨_, _, eq_ix2 y⟩
  have h : t.val * 256 + r < 1024 := by have := idx t; omega
  refine (out7_at _ _ _ _ _ r l).trans ((val7 m c t r l h).trans ?_)
  blk_ext [idx t]

theorem val8 (c : Dev nD) (t : Fin cfg0.N) (r : Fin 256) (l : Fin 1408) (h : t.val * 256 + r < 1024) :
    VEL ((show FVec Ideal S256x1408 .f32 from iblk m c 0 t) (ix2 r l) + (show FVec Ideal S256x1408 .f32 from iblk m c 1 t) (ix2 r l)) ((show FVec Ideal S256x1408 .f32 from iblk m c 4 t) (ix2 r l)) = REFV (REFG (half0 m c) (half1 m c)) (vel m c) (ix2 ⟨t.val * 256 + r, h⟩ l) := by
  rw [refv_at, refg_at, blk0 m c t r l h, blk1 m c t r l h, blk4 m c t r l h]
theorem fin8 (c : Dev nD) : (dats m 0 c).arrAt 8 (cfgs 0).N = REFV (REFG (half0 m c) (half1 m c)) (vel m c) := by
  refine (dats m 0 c).arrAt_eq_of_covers 8 _ (by decide +kernel) fun t _ y => ?_
  blk_simp
  rw [after0_8]
  obtain ⟨r, l, rfl⟩ : ∃ (r : Fin 256) (l : Fin 1408), y = ix2 r l := ⟨_, _, eq_ix2 y⟩
  have h : t.val * 256 + r < 1024 := by have := idx t; omega
  refine (out8_at _ _ _ _ _ r l).trans ((val8 m c t r l h).trans ?_)
  blk_ext [idx t]

end Cert.AdamInIdeal.Hand
-- ==== Proof.AdamInClaim.lean ====
module
public import proofs.«01_k».proof.Defs
public import proofs.«01_k».proof.Proof.Gen.AdamInIdeal
public import proofs.«01_k».proof.Proof.Gen.AdamInRefIdeal
public import proofs.«01_k».proof.Proof.AdamInFinal
public import Idealize.ShloMosaic.Lib.Claim

/-! The optimiser's update of the feed-forward layers' first weight: kernel and reference end with the same arrays. -/

@[expose] public section
noncomputable section
namespace Cert.Proof
open Idealize.ShloMosaic Idealize.SL.Sem

/-- The reference's frame: its run, and no semaphore is declared. -/
theorem ain_reference : Cert.quiescent_AdamInRefIdeal := by
  intro m g _
  exact (θ_run Cert.AdamInRefIdeal.defs _ _).mono
    (fun r h => ⟨fun c => (h c).2.2.2.2, sem_eq_zero_of_no_sems (by decide) r.2⟩)
    (Cert.AdamInRefIdeal.Value.run m g)

/-- The kernel and the reference end with equal arrays. -/
theorem ain_algebraic : Cert.algebraic_AdamInIdeal_AdamInRefIdeal := by
  intro m g m' g' _ hagree
  refine ⟨fun c => (Cert.AdamInIdeal.Gen.dats m 0 c).arrAt 5 Cert.AdamInIdeal.cfg0.N,
    fun c => (Cert.AdamInIdeal.Gen.dats m 0 c).arrAt 6 Cert.AdamInIdeal.cfg0.N,
    fun c => (Cert.AdamInIdeal.Gen.dats m 0 c).arrAt 7 Cert.AdamInIdeal.cfg0.N,
    fun c => (Cert.AdamInIdeal.Gen.dats m 0 c).arrAt 8 Cert.AdamInIdeal.cfg0.N,
    Cert.AdamInIdeal.Value.run_blocks m g, ?_⟩
  refine (θ_run Cert.AdamInRefIdeal.defs _ _).mono (fun r h c => ?_)
    (Cert.AdamInRefIdeal.Value.run m' g')
  obtain ⟨e0, e1, e2, e3, e4⟩ := hagree c
  refine ⟨(h c).1.trans ?_, (h c).2.1.trans ?_, (h c).2.2.1.trans ?_, (h c).2.2.2.1.trans ?_, (h c).2.2.2.2⟩
  · refine Eq.trans ?_ (Cert.AdamInIdeal.Hand.fin5 m c).symm
    rw [e0, e1]
    rfl
  · refine Eq.trans ?_ (Cert.AdamInIdeal.Hand.fin6 m c).symm
    rw [e0, e1, e2, e3, e4]
    rfl
  · refine Eq.trans ?_ (Cert.AdamInIdeal.Hand.fin7 m c).symm
    rw [e0, e1, e3]
    rfl
  · refine Eq.trans ?_ (Cert.AdamInIdeal.Hand.fin8 m c).symm
    rw [e0, e1, e4]
    rfl

end Cert.Proof
-- ==== Proof.AdamProjFinal.lean ====
module
public import proofs.«01_k».proof.Proof.Gen.AdamProjIdeal.Value
public import proofs.«01_k».proof.Proof.Gen.AdamProjRefIdeal.Run
public import proofs.«01_k».proof.Proof.AdamLaws
public import Idealize.ShloMosaic.Lib.Pipeline.ValueKit
public import Idealize.ShloMosaic.Lib.Pointwise

/-! The optimiser's update of the mixer's input projection, one block of rows at a time. -/

@[expose] public section
set_option maxRecDepth 16384
noncomputable section
namespace Cert.AdamProjIdeal.Hand
open Cert.AdamProjIdeal Cert.AdamProjIdeal.Gen Cert.Adam Idealize.ShloMosaic Idealize.ShloMosaic.TcCoe Idealize.SL.Sem
open Idealize.ShloMosaic.Pipeline (Dat)
variable (m : (ℓ : Loc nD τ sig) → Buf (Elt Ideal) ℓ)

/-- The arguments, as device `c` holds them. -/
def half0 (c : Dev nD) : FVec Ideal S1024x744 .f32 := m ((c : Thread nD τ).loc main_arg0)
def half1 (c : Dev nD) : FVec Ideal S1024x744 .f32 := m ((c : Thread nD τ).loc main_arg1)
def weight (c : Dev nD) : FVec Ideal S1024x744 .f32 := m ((c : Thread nD τ).loc main_arg2)
def mom (c : Dev nD) : FVec Ideal S1024x744 .f32 := m ((c : Thread nD τ).loc main_arg3)
def vel (c : Dev nD) : FVec Ideal S1024x744 .f32 := m ((c : Thread nD τ).loc main_arg4)

/-- The reference's summed gradient, moments and change of the weight. -/
def REFG (a b : FVec Ideal S1024x744 .f32) : FVec Ideal S1024x744 .f32 := addf a b
def REFM (g a : FVec Ideal S1024x744 .f32) : FVec Ideal S1024x744 .f32 :=
  addf (mulf (broadcastInDim Cert.AdamProjRefIdeal.S1024x744 ![] Cert.AdamProjRefIdeal.Gen.bcast_S_S1024x744 (constant Cert.AdamProjRefIdeal.S_ .f32 0x3F666666#32)) a) (mulf (broadcastInDim Cert.AdamProjRefIdeal.S1024x744 ![] Cert.AdamProjRefIdeal.Gen.bcast_S_S1024x744 (constant Cert.AdamProjRefIdeal.S_ .f32 0x3DCCCCCD#32)) g)
def REFV (g v : FVec Ideal S1024x744 .f32) : FVec Ideal S1024x744 .f32 :=
  addf (mulf (broadcastInDim Cert.AdamProjRefIdeal.S1024x744 ![] Cert.AdamProjRefIdeal.Gen.bcast_S_S1024x744 (constant Cert.AdamProjRefIdeal.S_ .f32 0x3F7FBE77#32)) v) (mulf (broadcastInDim Cert.AdamProjRefIdeal.S1024x744 ![] Cert.AdamProjRefIdeal.Gen.bcast_S_S1024x744 (constant Cert.AdamProjRefIdeal.S_ .f32 0x3A83126F#32)) (mulf g g))
def REFD (w g a v : FVec Ideal S1024x744 .f32) : FVec Ideal S1024x744 .f32 :=
  mulf (broadcastInDim Cert.AdamProjRefIdeal.S1024x744 ![] Cert.AdamProjRefIdeal.Gen.bcast_S_S1024x744 (constant Cert.AdamProjRefIdeal.S_ .f32 0xBA83126F#32))
    (addf (Host.divf (Host.divf (REFM g a) (broadcastInDim Cert.AdamProjRefIdeal.S1024x744 ![] Cert.AdamProjRefIdeal.Gen.bcast_S_S1024x744 (constant Cert.AdamProjRefIdeal.S_ .f32 0x3F26BD02#32)))
        (addf (Host.sqrt (Host.divf (REFV g v) (broadcastInDim Cert.AdamProjRefIdeal.S1024x744 ![] Cert.AdamProjRefIdeal.Gen.bcast_S_S1024x744 (constant Cert.AdamProjRefIdeal.S_ .f32 0x3C231ACC#32)))) (broadcastInDim Cert.AdamProjRefIdeal.S1024x744 ![] Cert.AdamProjRefIdeal.Gen.bcast_S_S1024x744 (constant Cert.AdamProjRefIdeal.S_ .f32 0x322BCC77#32))))
      (mulf (broadcastInDim Cert.AdamProjRefIdeal.S1024x744 ![] Cert.AdamProjRefIdeal.Gen.bcast_S_S1024x744 (constant Cert.AdamProjRefIdeal.S_ .f32 0x3C23D70A#32)) w))

theorem refg_at (a b : FVec Ideal S1024x744 .f32) (r : Fin 1024) (l : Fin 744) : REFG a b (ix2 r l) = a (ix2 r l) + b (ix2 r l) := by
  pointwise [REFG]
theorem refm_at (g a : FVec Ideal S1024x744 .f32) (r : Fin 1024) (l : Fin 744) : REFM g a (ix2 r l) = MOM (g (ix2 r l)) (a (ix2 r l)) := by
  unfold MOM
  pointwise [REFM]
theorem refv_at (g v : FVec Ideal S1024x744 .f32) (r : Fin 1024) (l : Fin 744) : REFV g v (ix2 r l) = VEL (g (ix2 r l)) (v (ix2 r l)) := by
  unfold VEL
  pointwise [REFV]
theorem refd_at (w g a v : FVec Ideal S1024x744 .f32) (r : Fin 1024) (l : Fin 744) :
    REFD w g a v (ix2 r l) = DELTA (w (ix2 r l)) (g (ix2 r l)) (a (ix2 r l)) (v (ix2 r l)) := by
  unfold DELTA MOM VEL
  pointwise [REFD, REFM, REFV]

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ t.val < 4 :=
  (by decide +kernel : ∀ t : Fin grid0.N, _)

theorem blk0 (c : Dev nD) (t : Fin cfg0.N) (r : Fin 256) (l : Fin 744) (h : t.val * 256 + r < 1024) :
    (show FVec Ideal S256x744 .f32 from iblk m c 0 t) (ix2 r l) = half0 m c (ix2 ⟨t.val * 256 + r, h⟩ l) := by
  show iblk m c 0 t (ix2 r l) = m ((c : Thread nD τ).loc main_arg0) _
  blk_ext [iblk, V, idx t]
theorem blk1 (c : Dev nD) (t : Fin cfg0.N) (r : Fin 256) (l : Fin 744) (h : t.val * 256 + r < 1024) :
    (show FVec Ideal S256x744 .f32 from iblk m c 1 t) (ix2 r l) = half1 m c (ix2 ⟨t.val * 256 + r, h⟩ l) := by
  show iblk m c 1 t (ix2 r l) = m ((c : Thread nD τ).loc main_arg1) _
  blk_ext [iblk, V, idx t]
theorem blk2 (c : Dev nD) (t : Fin cfg0.N) (r : Fin 256) (l : Fin 744) (h : t.val * 256 + r < 1024) :
    (show FVec Ideal S256x744 .f32 from iblk m c 2 t) (ix2 r l) = weight m c (ix2 ⟨t.val * 256 + r, h⟩ l) := by
  show iblk m c 2 t (ix2 r l) = m ((c : Thread nD τ).loc main_arg2) _
  blk_ext [iblk, V, idx t]
theorem blk3 (c : Dev nD) (t : Fin cfg0.N) (r : Fin 256) (l : Fin 744) (h : t.val * 256 + r < 1024) :
    (show FVec Ideal S256x744 .f32 from iblk m c 3 t) (ix2 r l) = mom m c (ix2 ⟨t.val * 256 + r, h⟩ l) := by
  show iblk m c 3 t (ix2 r l) = m ((c : Thread nD τ).loc main_arg3) _
  blk_ext [iblk, V, idx t]
theorem blk4 (c : Dev nD) (t : Fin cfg0.N) (r : Fin 256) (l : Fin 744) (h : t.val * 256 + r < 1024) :
    (show FVec Ideal S256x744 .f32 from iblk m c 4 t) (ix2 r l) = vel m c (ix2 ⟨t.val * 256 + r, h⟩ l) := by
  show iblk m c 4 t (ix2 r l) = m ((c : Thread nD τ).loc main_arg4) _
  blk_ext [iblk, V, idx t]

theorem payG_at (x0 x1 : Vec Ideal S256x744 .f32) (r : Fin 256) (l : Fin 744) :
    k0_pay1 (F := Ideal) x0 x1 (ix2 r l) = (x0 (ix2 r l) + x1 (ix2 r l)) := by
  pointwise [k0_pay1]
theorem out5_at (x0 x1 x2 x3 x4 : Vec Ideal S256x744 .f32) (r : Fin 256) (l : Fin 744) :
    out0_5 (F := Ideal) x0 x1 x2 x3 x4 (ix2 r l) = (x0 (ix2 r l) + x1 (ix2 r l)) := by
  unfold out0_5
  frame_out
  exact payG_at x0 x1 r l

theorem payD_at (x0 x1 x2 x3 x4 : Vec Ideal S256x744 .f32) (r : Fin 256) (l : Fin 744) :
    k0_pay4 (F := Ideal) x0 x1 x2 x3 x4 (ix2 r l) = DELTA (x2 (ix2 r l)) (x0 (ix2 r l) + x1 (ix2 r l)) (x3 (ix2 r l)) (x4 (ix2 r l)) := by
  unfold DELTA MOM VEL
  pointwise [k0_pay4, k0_pay3, k0_pay2, k0_pay1]
theorem out6_at (x0 x1 x2 x3 x4 : Vec Ideal S256x744 .f32) (r : Fin 256) (l : Fin 744) :
    out0_6 (F := Ideal) x0 x1 x2 x3 x4 (ix2 r l) = DELTA (x2 (ix2 r l)) (x0 (ix2 r l) + x1 (ix2 r l)) (x3 (ix2 r l)) (x4 (ix2 r l)) := by
  unfold out0_6
  frame_out
  exact payD_at x0 x1 x2 x3 x4 r l

theorem payM_at (x0 x1 x3 : Vec Ideal S256x744 .f32) (r : Fin 256) (l : Fin 744) :
    k0_pay2 (F := Ideal) x0 x1 x3 (ix2 r l) = MOM (x0 (ix2 r l) + x1 (ix2 r l)) (x3 (ix2 r l)) := by
  unfold MOM
  pointwise [k0_pay2, k0_pay1]
theorem out7_at (x0 x1 x2 x3 x4 : Vec Ideal S256x744 .f32) (r : Fin 256) (l : Fin 744) :
    out0_7 (F := Ideal) x0 x1 x2 x3 x4 (ix2 r l) = MOM (x0 (ix2 r l) + x1 (ix2 r l)) (x3 (ix2 r l)) := by
  unfold out0_7
  frame_out
  exact payM_at x0 x1 x3 r l

theorem payV_at (x0 x1 x4 : Vec Ideal S256x744 .f32) (r : Fin 256) (l : Fin 744) :
    k0_pay3 (F := Ideal) x0 x1 x4 (ix2 r l) = VEL (x0 (ix2 r l) + x1 (ix2 r l)) (x4 (ix2 r l)) := by
  unfold VEL
  pointwise [k0_pay3, k0_pay1]
theorem out8_at (x0 x1 x2 x3 x4 : Vec Ideal S256x744 .f32) (r : Fin 256) (l : Fin 744) :
    out0_8 (F := Ideal) x0 x1 x2 x3 x4 (ix2 r l) = VEL (x0 (ix2 r l) + x1 (ix2 r l)) (x4 (ix2 r l)) := by
  unfold out0_8
  frame_out
  exact payV_at x0 x1 x4 r l

theorem val5 (c : Dev nD) (t : Fin cfg0.N) (r : Fin 256) (l : Fin 744) (h : t.val * 256 + r < 1024) :
    ((show FVec Ideal S256x744 .f32 from iblk m c 0 t) (ix2 r l) + (show FVec Ideal S256x744 .f32 from iblk m c 1 t) (ix2 r l)) = REFG (half0 m c) (half1 m c) (ix2 ⟨t.val * 256 + r, h⟩ l) := by
  rw [refg_at, blk0 m c t r l h, blk1 m c t r l h]
theorem fin5 (c : Dev nD) : (dats m 0 c).arrAt 5 (cfgs 0).N = REFG (half0 m c) (half1 m c) := by
  refine (dats m 0 c).arrAt_eq_of_covers 5 _ (by decide +kernel) fun t _ y => ?_
  blk_simp
  rw [after0_5]
  obtain ⟨r, l, rfl⟩ : ∃ (r : Fin 256) (l : Fin 744), y = ix2 r l := ⟨_, _, eq_ix2 y⟩
  have h : t.val * 256 + r < 1024 := by have := idx t; omega
  refine (out5_at _ _ _ _ _ r l).trans ((val5 m c t r l h).trans ?_)
  blk_ext [idx t]

theorem val6 (c : Dev nD) (t : Fin cfg0.N) (r : Fin 256) (l : Fin 744) (h : t.val * 256 + r < 1024) :
    DELTA ((show FVec Ideal S256x744 .f32 from iblk m c 2 t) (ix2 r l)) ((show FVec Ideal S256x744 .f32 from iblk m c 0 t) (ix2 r l) + (show FVec Ideal S256x744 .f32 from iblk m c 1 t) (ix2 r l)) ((show FVec Ideal S256x744 .f32 from iblk m c 3 t) (ix2 r l)) ((show FVec Ideal S256x744 .f32 from iblk m c 4 t) (ix2 r l)) = REFD (weight m c) (REFG (half0 m c) (half1 m c)) (mom m c) (vel m c) (ix2 ⟨t.val * 256 + r, h⟩ l) := by
  rw [refd_at, refg_at, blk0 m c t r l h, blk1 m c t r l h, blk2 m c t r l h, blk3 m c t r l h, blk4 m c t r l h]
theorem fin6 (c : Dev nD) : (dats m 0 c).arrAt 6 (cfgs 0).N = REFD (weight m c) (REFG (half0 m c) (half1 m c)) (mom m c) (vel m c) := by
  refine (dats m 0 c).arrAt_eq_of_covers 6 _ (by decide +kernel) fun t _ y => ?_
  blk_simp
  rw [after0_6]
  obtain ⟨r, l, rfl⟩ : ∃ (r : Fin 256) (l : Fin 744), y = ix2 r l := ⟨_, _, eq_ix2 y⟩
  have h : t.val * 256 + r < 1024 := by have := idx t; omega
  refine (out6_at _ _ _ _ _ r l).trans ((val6 m c t r l h).trans ?_)
  blk_ext [idx t]

theorem val7 (c : Dev nD) (t : Fin cfg0.N) (r : Fin 256) (l : Fin 744) (h : t.val * 256 + r < 1024) :
    MOM ((show FVec Ideal S256x744 .f32 from iblk m c 0 t) (ix2 r l) + (show FVec Ideal S256x744 .f32 from iblk m c 1 t) (ix2 r l)) ((show FVec Ideal S256x744 .f32 from iblk m c 3 t) (ix2 r l)) = REFM (REFG (half0 m c) (half1 m c)) (mom m c) (ix2 ⟨t.val * 256 + r, h⟩ l) := by
  rw [refm_at, refg_at, blk0 m c t r l h, blk1 m c t r l h, blk3 m c t r l h]
theorem fin7 (c : Dev nD) : (dats m 0 c).arrAt 7 (cfgs 0).N = REFM (REFG (half0 m c) (half1 m c)) (mom m c) := by
  refine (dats m 0 c).arrAt_eq_of_covers 7 _ (by decide +kernel) fun t _ y => ?_
  blk_simp
  rw [after0_7]
  obtain ⟨r, l, rfl⟩ : ∃ (r : Fin 256) (l : Fin 744), y = ix2 r l := ⟨_, _, eq_ix2 y⟩
  have h : t.val * 256 + r < 1024 := by have := idx t; omega
  refine (out7_at _ _ _ _ _ r l).trans ((val7 m c t r l h).trans ?_)
  blk_ext [idx t]

theorem val8 (c : Dev nD) (t : Fin cfg0.N) (r : Fin 256) (l : Fin 744) (h : t.val * 256 + r < 1024) :
    VEL ((show FVec Ideal S256x744 .f32 from iblk m c 0 t) (ix2 r l) + (show FVec Ideal S256x744 .f32 from iblk m c 1 t) (ix2 r l)) ((show FVec Ideal S256x744 .f32 from iblk m c 4 t) (ix2 r l)) = REFV (REFG (half0 m c) (half1 m c)) (vel m c) (ix2 ⟨t.val * 256 + r, h⟩ l) := by
  rw [refv_at, refg_at, blk0 m c t r l h, blk1 m c t r l h, blk4 m c t r l h]
theorem fin8 (c : Dev nD) : (dats m 0 c).arrAt 8 (cfgs 0).N = REFV (REFG (half0 m c) (half1 m c)) (vel m c) := by
  refine (dats m 0 c).arrAt_eq_of_covers 8 _ (by decide +kernel) fun t _ y => ?_
  blk_simp
  rw [after0_8]
  obtain ⟨r, l, rfl⟩ : ∃ (r : Fin 256) (l : Fin 744), y = ix2 r l := ⟨_, _, eq_ix2 y⟩
  have h : t.val * 256 + r < 1024 := by have := idx t; omega
  refine (out8_at _ _ _ _ _ r l).trans ((val8 m c t r l h).trans ?_)
  blk_ext [idx t]

end Cert.AdamProjIdeal.Hand
-- ==== Proof.AdamProjClaim.lean ====
module
public import proofs.«01_k».proof.Defs
public import proofs.«01_k».proof.Proof.Gen.AdamProjIdeal
public import proofs.«01_k».proof.Proof.Gen.AdamProjRefIdeal
public import proofs.«01_k».proof.Proof.AdamProjFinal
public import Idealize.ShloMosaic.Lib.Claim

/-! The optimiser's update of the mixer's input projection: kernel and reference end with the same arrays. -/

@[expose] public section
noncomputable section
namespace Cert.Proof
open Idealize.ShloMosaic Idealize.SL.Sem

/-- The reference's frame: its run, and no semaphore is declared. -/
theorem apr_reference : Cert.quiescent_AdamProjRefIdeal := by
  intro m g _
  exact (θ_run Cert.AdamProjRefIdeal.defs _ _).mono
    (fun r h => ⟨fun c => (h c).2.2.2.2, sem_eq_zero_of_no_sems (by decide) r.2⟩)
    (Cert.AdamProjRefIdeal.Value.run m g)

/-- The kernel and the reference end with equal arrays. -/
theorem apr_algebraic : Cert.algebraic_AdamProjIdeal_AdamProjRefIdeal := by
  intro m g m' g' _ hagree
  refine ⟨fun c => (Cert.AdamProjIdeal.Gen.dats m 0 c).arrAt 5 Cert.AdamProjIdeal.cfg0.N,
    fun c => (Cert.AdamProjIdeal.Gen.dats m 0 c).arrAt 6 Cert.AdamProjIdeal.cfg0.N,
    fun c => (Cert.AdamProjIdeal.Gen.dats m 0 c).arrAt 7 Cert.AdamProjIdeal.cfg0.N,
    fun c => (Cert.AdamProjIdeal.Gen.dats m 0 c).arrAt 8 Cert.AdamProjIdeal.cfg0.N,
    Cert.AdamProjIdeal.Value.run_blocks m g, ?_⟩
  refine (θ_run Cert.AdamProjRefIdeal.defs _ _).mono (fun r h c => ?_)
    (Cert.AdamProjRefIdeal.Value.run m' g')
  obtain ⟨e0, e1, e2, e3, e4⟩ := hagree c
  refine ⟨(h c).1.trans ?_, (h c).2.1.trans ?_, (h c).2.2.1.trans ?_, (h c).2.2.2.1.trans ?_, (h c).2.2.2.2⟩
  · refine Eq.trans ?_ (Cert.AdamProjIdeal.Hand.fin5 m c).symm
    rw [e0, e1]
    rfl
  · refine Eq.trans ?_ (Cert.AdamProjIdeal.Hand.fin6 m c).symm
    rw [e0, e1, e2, e3, e4]
    rfl
  · refine Eq.trans ?_ (Cert.AdamProjIdeal.Hand.fin7 m c).symm
    rw [e0, e1, e3]
    rfl
  · refine Eq.trans ?_ (Cert.AdamProjIdeal.Hand.fin8 m c).symm
    rw [e0, e1, e4]
    rfl

end Cert.Proof
-- ==== Proof.AdamFfnFinal.lean ====
module
public import proofs.«01_k».proof.Proof.Gen.AdamFfnIdeal.Value
public import proofs.«01_k».proof.Proof.Gen.AdamFfnRefIdeal.Run
public import proofs.«01_k».proof.Proof.AdamLaws
public import Idealize.ShloMosaic.Lib.Pipeline.ValueKit
public import Idealize.ShloMosaic.Lib.Pointwise

/-! The optimiser's update of the feed-forward layers' second weight, one block of rows at a time. -/

@[expose] public section
set_option maxRecDepth 16384
noncomputable section
namespace Cert.AdamFfnIdeal.Hand
open Cert.AdamFfnIdeal Cert.AdamFfnIdeal.Gen Cert.Adam Idealize.ShloMosaic Idealize.ShloMosaic.TcCoe Idealize.SL.Sem
open Idealize.ShloMosaic.Pipeline (Dat)
variable (m : (ℓ : Loc nD τ sig) → Buf (Elt Ideal) ℓ)

/-- The arguments, as device `c` holds them. -/
def half0 (c : Dev nD) : FVec Ideal S704x1024 .f32 := m ((c : Thread nD τ).loc main_arg0)
def half1 (c : Dev nD) : FVec Ideal S704x1024 .f32 := m ((c : Thread nD τ).loc main_arg1)
def weight (c : Dev nD) : FVec Ideal S704x1024 .f32 := m ((c : Thread nD τ).loc main_arg2)
def mom (c : Dev nD) : FVec Ideal S704x1024 .f32 := m ((c : Thread nD τ).loc main_arg3)
def vel (c : Dev nD) : FVec Ideal S704x1024 .f32 := m ((c : Thread nD τ).loc main_arg4)

/-- The reference's summed gradient, moments and change of the weight. -/
def REFG (a b : FVec Ideal S704x1024 .f32) : FVec Ideal S704x1024 .f32 := addf a b
def REFM (g a : FVec Ideal S704x1024 .f32) : FVec Ideal S704x1024 .f32 :=
  addf (mulf (broadcastInDim Cert.AdamFfnRefIdeal.S704x1024 ![] Cert.AdamFfnRefIdeal.Gen.bcast_S_S704x1024 (constant Cert.AdamFfnRefIdeal.S_ .f32 0x3F666666#32)) a) (mulf (broadcastInDim Cert.AdamFfnRefIdeal.S704x1024 ![] Cert.AdamFfnRefIdeal.Gen.bcast_S_S704x1024 (constant Cert.AdamFfnRefIdeal.S_ .f32 0x3DCCCCCD#32)) g)
def REFV (g v : FVec Ideal S704x1024 .f32) : FVec Ideal S704x1024 .f32 :=
  addf (mulf (broadcastInDim Cert.AdamFfnRefIdeal.S704x1024 ![] Cert.AdamFfnRefIdeal.Gen.bcast_S_S704x1024 (constant Cert.AdamFfnRefIdeal.S_ .f32 0x3F7FBE77#32)) v) (mulf (broadcastInDim Cert.AdamFfnRefIdeal.S704x1024 ![] Cert.AdamFfnRefIdeal.Gen.bcast_S_S704x1024 (constant Cert.AdamFfnRefIdeal.S_ .f32 0x3A83126F#32)) (mulf g g))
def REFD (w g a v : FVec Ideal S704x1024 .f32) : FVec Ideal S704x1024 .f32 :=
  mulf (broadcastInDim Cert.AdamFfnRefIdeal.S704x1024 ![] Cert.AdamFfnRefIdeal.Gen.bcast_S_S704x1024 (constant Cert.AdamFfnRefIdeal.S_ .f32 0xBA83126F#32))
    (addf (Host.divf (Host.divf (REFM g a) (broadcastInDim Cert.AdamFfnRefIdeal.S704x1024 ![] Cert.AdamFfnRefIdeal.Gen.bcast_S_S704x1024 (constant Cert.AdamFfnRefIdeal.S_ .f32 0x3F26BD02#32)))
        (addf (Host.sqrt (Host.divf (REFV g v) (broadcastInDim Cert.AdamFfnRefIdeal.S704x1024 ![] Cert.AdamFfnRefIdeal.Gen.bcast_S_S704x1024 (constant Cert.AdamFfnRefIdeal.S_ .f32 0x3C231ACC#32)))) (broadcastInDim Cert.AdamFfnRefIdeal.S704x1024 ![] Cert.AdamFfnRefIdeal.Gen.bcast_S_S704x1024 (constant Cert.AdamFfnRefIdeal.S_ .f32 0x322BCC77#32))))
      (mulf (broadcastInDim Cert.AdamFfnRefIdeal.S704x1024 ![] Cert.AdamFfnRefIdeal.Gen.bcast_S_S704x1024 (constant Cert.AdamFfnRefIdeal.S_ .f32 0x3C23D70A#32)) w))

theorem refg_at (a b : FVec Ideal S704x1024 .f32) (r : Fin 704) (l : Fin 1024) : REFG a b (ix2 r l) = a (ix2 r l) + b (ix2 r l) := by
  pointwise [REFG]
theorem refm_at (g a : FVec Ideal S704x1024 .f32) (r : Fin 704) (l : Fin 1024) : REFM g a (ix2 r l) = MOM (g (ix2 r l)) (a (ix2 r l)) := by
  unfold MOM
  pointwise [REFM]
theorem refv_at (g v : FVec Ideal S704x1024 .f32) (r : Fin 704) (l : Fin 1024) : REFV g v (ix2 r l) = VEL (g (ix2 r l)) (v (ix2 r l)) := by
  unfold VEL
  pointwise [REFV]
theorem refd_at (w g a v : FVec Ideal S704x1024 .f32) (r : Fin 704) (l : Fin 1024) :
    REFD w g a v (ix2 r l) = DELTA (w (ix2 r l)) (g (ix2 r l)) (a (ix2 r l)) (v (ix2 r l)) := by
  unfold DELTA MOM VEL
  pointwise [REFD, REFM, REFV]

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ t.val < 4 :=
  (by decide +kernel : ∀ t : Fin grid0.N, _)

theorem blk0 (c : Dev nD) (t : Fin cfg0.N) (r : Fin 176) (l : Fin 1024) (h : t.val * 176 + r < 704) :
    (show FVec Ideal S176x1024 .f32 from iblk m c 0 t) (ix2 r l) = half0 m c (ix2 ⟨t.val * 176 + r, h⟩ l) := by
  show iblk m c 0 t (ix2 r l) = m ((c : Thread nD τ).loc main_arg0) _
  blk_ext [iblk, V, idx t]
theorem blk1 (c : Dev nD) (t : Fin cfg0.N) (r : Fin 176) (l : Fin 1024) (h : t.val * 176 + r < 704) :
    (show FVec Ideal S176x1024 .f32 from iblk m c 1 t) (ix2 r l) = half1 m c (ix2 ⟨t.val * 176 + r, h⟩ l) := by
  show iblk m c 1 t (ix2 r l) = m ((c : Thread nD τ).loc main_arg1) _
  blk_ext [iblk, V, idx t]
theorem blk2 (c : Dev nD) (t : Fin cfg0.N) (r : Fin 176) (l : Fin 1024) (h : t.val * 176 + r < 704) :
    (show FVec Ideal S176x1024 .f32 from iblk m c 2 t) (ix2 r l) = weight m c (ix2 ⟨t.val * 176 + r, h⟩ l) := by
  show iblk m c 2 t (ix2 r l) = m ((c : Thread nD τ).loc main_arg2) _
  blk_ext [iblk, V, idx t]
theorem blk3 (c : Dev nD) (t : Fin cfg0.N) (r : Fin 176) (l : Fin 1024) (h : t.val * 176 + r < 704) :
    (show FVec Ideal S176x1024 .f32 from iblk m c 3 t) (ix2 r l) = mom m c (ix2 ⟨t.val * 176 + r, h⟩ l) := by
  show iblk m c 3 t (ix2 r l) = m ((c : Thread nD τ).loc main_arg3) _
  blk_ext [iblk, V, idx t]
theorem blk4 (c : Dev nD) (t : Fin cfg0.N) (r : Fin 176) (l : Fin 1024) (h : t.val * 176 + r < 704) :
    (show FVec Ideal S176x1024 .f32 from iblk m c 4 t) (ix2 r l) = vel m c (ix2 ⟨t.val * 176 + r, h⟩ l) := by
  show iblk m c 4 t (ix2 r l) = m ((c : Thread nD τ).loc main_arg4) _
  blk_ext [iblk, V, idx t]

theorem payG_at (x0 x1 : Vec Ideal S176x1024 .f32) (r : Fin 176) (l : Fin 1024) :
    k0_pay1 (F := Ideal) x0 x1 (ix2 r l) = (x0 (ix2 r l) + x1 (ix2 r l)) := by
  pointwise [k0_pay1]
theorem out5_at (x0 x1 x2 x3 x4 : Vec Ideal S176x1024 .f32) (r : Fin 176) (l : Fin 1024) :
    out0_5 (F := Ideal) x0 x1 x2 x3 x4 (ix2 r l) = (x0 (ix2 r l) + x1 (ix2 r l)) := by
  unfold out0_5
  frame_out
  exact payG_at x0 x1 r l

theorem payD_at (x0 x1 x2 x3 x4 : Vec Ideal S176x1024 .f32) (r : Fin 176) (l : Fin 1024) :
    k0_pay4 (F := Ideal) x0 x1 x2 x3 x4 (ix2 r l) = DELTA (x2 (ix2 r l)) (x0 (ix2 r l) + x1 (ix2 r l)) (x3 (ix2 r l)) (x4 (ix2 r l)) := by
  unfold DELTA MOM VEL
  pointwise [k0_pay4, k0_pay3, k0_pay2, k0_pay1]
theorem out6_at (x0 x1 x2 x3 x4 : Vec Ideal S176x1024 .f32) (r : Fin 176) (l : Fin 1024) :
    out0_6 (F := Ideal) x0 x1 x2 x3 x4 (ix2 r l) = DELTA (x2 (ix2 r l)) (x0 (ix2 r l) + x1 (ix2 r l)) (x3 (ix2 r l)) (x4 (ix2 r l)) := by
  unfold out0_6
  frame_out
  exact payD_at x0 x1 x2 x3 x4 r l

theorem payM_at (x0 x1 x3 : Vec Ideal S176x1024 .f32) (r : Fin 176) (l : Fin 1024) :
    k0_pay2 (F := Ideal) x0 x1 x3 (ix2 r l) = MOM (x0 (ix2 r l) + x1 (ix2 r l)) (x3 (ix2 r l)) := by
  unfold MOM
  pointwise [k0_pay2, k0_pay1]
theorem out7_at (x0 x1 x2 x3 x4 : Vec Ideal S176x1024 .f32) (r : Fin 176) (l : Fin 1024) :
    out0_7 (F := Ideal) x0 x1 x2 x3 x4 (ix2 r l) = MOM (x0 (ix2 r l) + x1 (ix2 r l)) (x3 (ix2 r l)) := by
  unfold out0_7
  frame_out
  exact payM_at x0 x1 x3 r l

theorem payV_at (x0 x1 x4 : Vec Ideal S176x1024 .f32) (r : Fin 176) (l : Fin 1024) :
    k0_pay3 (F := Ideal) x0 x1 x4 (ix2 r l) = VEL (x0 (ix2 r l) + x1 (ix2 r l)) (x4 (ix2 r l)) := by
  unfold VEL
  pointwise [k0_pay3, k0_pay1]
theorem out8_at (x0 x1 x2 x3 x4 : Vec Ideal S176x1024 .f32) (r : Fin 176) (l : Fin 1024) :
    out0_8 (F := Ideal) x0 x1 x2 x3 x4 (ix2 r l) = VEL (x0 (ix2 r l) + x1 (ix2 r l)) (x4 (ix2 r l)) := by
  unfold out0_8
  frame_out
  exact payV_at x0 x1 x4 r l

theorem val5 (c : Dev nD) (t : Fin cfg0.N) (r : Fin 176) (l : Fin 1024) (h : t.val * 176 + r < 704) :
    ((show FVec Ideal S176x1024 .f32 from iblk m c 0 t) (ix2 r l) + (show FVec Ideal S176x1024 .f32 from iblk m c 1 t) (ix2 r l)) = REFG (half0 m c) (half1 m c) (ix2 ⟨t.val * 176 + r, h⟩ l) := by
  rw [refg_at, blk0 m c t r l h, blk1 m c t r l h]
theorem fin5 (c : Dev nD) : (dats m 0 c).arrAt 5 (cfgs 0).N = REFG (half0 m c) (half1 m c) := by
  refine (dats m 0 c).arrAt_eq_of_covers 5 _ (by decide +kernel) fun t _ y => ?_
  blk_simp
  rw [after0_5]
  obtain ⟨r, l, rfl⟩ : ∃ (r : Fin 176) (l : Fin 1024), y = ix2 r l := ⟨_, _, eq_ix2 y⟩
  have h : t.val * 176 + r < 704 := by have := idx t; omega
  refine (out5_at _ _ _ _ _ r l).trans ((val5 m c t r l h).trans ?_)
  blk_ext [idx t]

theorem val6 (c : Dev nD) (t : Fin cfg0.N) (r : Fin 176) (l : Fin 1024) (h : t.val * 176 + r < 704) :
    DELTA ((show FVec Ideal S176x1024 .f32 from iblk m c 2 t) (ix2 r l)) ((show FVec Ideal S176x1024 .f32 from iblk m c 0 t) (ix2 r l) + (show FVec Ideal S176x1024 .f32 from iblk m c 1 t) (ix2 r l)) ((show FVec Ideal S176x1024 .f32 from iblk m c 3 t) (ix2 r l)) ((show FVec Ideal S176x1024 .f32 from iblk m c 4 t) (ix2 r l)) = REFD (weight m c) (REFG (half0 m c) (half1 m c)) (mom m c) (vel m c) (ix2 ⟨t.val * 176 + r, h⟩ l) := by
  rw [refd_at, refg_at, blk0 m c t r l h, blk1 m c t r l h, blk2 m c t r l h, blk3 m c t r l h, blk4 m c t r l h]
theorem fin6 (c : Dev nD) : (dats m 0 c).arrAt 6 (cfgs 0).N = REFD (weight m c) (REFG (half0 m c) (half1 m c)) (mom m c) (vel m c) := by
  refine (dats m 0 c).arrAt_eq_of_covers 6 _ (by decide +kernel) fun t _ y => ?_
  blk_simp
  rw [after0_6]
  obtain ⟨r, l, rfl⟩ : ∃ (r : Fin 176) (l : Fin 1024), y = ix2 r l := ⟨_, _, eq_ix2 y⟩
  have h : t.val * 176 + r < 704 := by have := idx t; omega
  refine (out6_at _ _ _ _ _ r l).trans ((val6 m c t r l h).trans ?_)
  blk_ext [idx t]

theorem val7 (c : Dev nD) (t : Fin cfg0.N) (r : Fin 176) (l : Fin 1024) (h : t.val * 176 + r < 704) :
    MOM ((show FVec Ideal S176x1024 .f32 from iblk m c 0 t) (ix2 r l) + (show FVec Ideal S176x1024 .f32 from iblk m c 1 t) (ix2 r l)) ((show FVec Ideal S176x1024 .f32 from iblk m c 3 t) (ix2 r l)) = REFM (REFG (half0 m c) (half1 m c)) (mom m c) (ix2 ⟨t.val * 176 + r, h⟩ l) := by
  rw [refm_at, refg_at, blk0 m c t r l h, blk1 m c t r l h, blk3 m c t r l h]
theorem fin7 (c : Dev nD) : (dats m 0 c).arrAt 7 (cfgs 0).N = REFM (REFG (half0 m c) (half1 m c)) (mom m c) := by
  refine (dats m 0 c).arrAt_eq_of_covers 7 _ (by decide +kernel) fun t _ y => ?_
  blk_simp
  rw [after0_7]
  obtain ⟨r, l, rfl⟩ : ∃ (r : Fin 176) (l : Fin 1024), y = ix2 r l := ⟨_, _, eq_ix2 y⟩
  have h : t.val * 176 + r < 704 := by have := idx t; omega
  refine (out7_at _ _ _ _ _ r l).trans ((val7 m c t r l h).trans ?_)
  blk_ext [idx t]

theorem val8 (c : Dev nD) (t : Fin cfg0.N) (r : Fin 176) (l : Fin 1024) (h : t.val * 176 + r < 704) :
    VEL ((show FVec Ideal S176x1024 .f32 from iblk m c 0 t) (ix2 r l) + (show FVec Ideal S176x1024 .f32 from iblk m c 1 t) (ix2 r l)) ((show FVec Ideal S176x1024 .f32 from iblk m c 4 t) (ix2 r l)) = REFV (REFG (half0 m c) (half1 m c)) (vel m c) (ix2 ⟨t.val * 176 + r, h⟩ l) := by
  rw [refv_at, refg_at, blk0 m c t r l h, blk1 m c t r l h, blk4 m c t r l h]
theorem fin8 (c : Dev nD) : (dats m 0 c).arrAt 8 (cfgs 0).N = REFV (REFG (half0 m c) (half1 m c)) (vel m c) := by
  refine (dats m 0 c).arrAt_eq_of_covers 8 _ (by decide +kernel) fun t _ y => ?_
  blk_simp
  rw [after0_8]
  obtain ⟨r, l, rfl⟩ : ∃ (r : Fin 176) (l : Fin 1024), y = ix2 r l := ⟨_, _, eq_ix2 y⟩
  have h : t.val * 176 + r < 704 := by have := idx t; omega
  refine (out8_at _ _ _ _ _ r l).trans ((val8 m c t r l h).trans ?_)
  blk_ext [idx t]

end Cert.AdamFfnIdeal.Hand
-- ==== Proof.AdamFfnClaim.lean ====
module
public import proofs.«01_k».proof.Defs
public import proofs.«01_k».proof.Proof.Gen.AdamFfnIdeal
public import proofs.«01_k».proof.Proof.Gen.AdamFfnRefIdeal
public import proofs.«01_k».proof.Proof.AdamFfnFinal
public import Idealize.ShloMosaic.Lib.Claim

/-! The optimiser's update of the feed-forward layers' second weight: kernel and reference end with the same arrays. -/

@[expose] public section
noncomputable section
namespace Cert.Proof
open Idealize.ShloMosaic Idealize.SL.Sem

/-- The reference's frame: its run, and no semaphore is declared. -/
theorem aff_reference : Cert.quiescent_AdamFfnRefIdeal := by
  intro m g _
  exact (θ_run Cert.AdamFfnRefIdeal.defs _ _).mono
    (fun r h => ⟨fun c => (h c).2.2.2.2, sem_eq_zero_of_no_sems (by decide) r.2⟩)
    (Cert.AdamFfnRefIdeal.Value.run m g)

/-- The kernel and the reference end with equal arrays. -/
theorem aff_algebraic : Cert.algebraic_AdamFfnIdeal_AdamFfnRefIdeal := by
  intro m g m' g' _ hagree
  refine ⟨fun c => (Cert.AdamFfnIdeal.Gen.dats m 0 c).arrAt 5 Cert.AdamFfnIdeal.cfg0.N,
    fun c => (Cert.AdamFfnIdeal.Gen.dats m 0 c).arrAt 6 Cert.AdamFfnIdeal.cfg0.N,
    fun c => (Cert.AdamFfnIdeal.Gen.dats m 0 c).arrAt 7 Cert.AdamFfnIdeal.cfg0.N,
    fun c => (Cert.AdamFfnIdeal.Gen.dats m 0 c).arrAt 8 Cert.AdamFfnIdeal.cfg0.N,
    Cert.AdamFfnIdeal.Value.run_blocks m g, ?_⟩
  refine (θ_run Cert.AdamFfnRefIdeal.defs _ _).mono (fun r h c => ?_)
    (Cert.AdamFfnRefIdeal.Value.run m' g')
  obtain ⟨e0, e1, e2, e3, e4⟩ := hagree c
  refine ⟨(h c).1.trans ?_, (h c).2.1.trans ?_, (h c).2.2.1.trans ?_, (h c).2.2.2.1.trans ?_, (h c).2.2.2.2⟩
  · refine Eq.trans ?_ (Cert.AdamFfnIdeal.Hand.fin5 m c).symm
    rw [e0, e1]
    rfl
  · refine Eq.trans ?_ (Cert.AdamFfnIdeal.Hand.fin6 m c).symm
    rw [e0, e1, e2, e3, e4]
    rfl
  · refine Eq.trans ?_ (Cert.AdamFfnIdeal.Hand.fin7 m c).symm
    rw [e0, e1, e3]
    rfl
  · refine Eq.trans ?_ (Cert.AdamFfnIdeal.Hand.fin8 m c).symm
    rw [e0, e1, e4]
    rfl

end Cert.Proof
-- ==== Proof.AdamOutFinal.lean ====
module
public import proofs.«01_k».proof.Proof.Gen.AdamOutIdeal.Value
public import proofs.«01_k».proof.Proof.Gen.AdamOutRefIdeal.Run
public import proofs.«01_k».proof.Proof.AdamLaws
public import Idealize.ShloMosaic.Lib.Pipeline.ValueKit
public import Idealize.ShloMosaic.Lib.Pointwise

/-! The optimiser's update of the mixer's output projection, all at once. -/

@[expose] public section
set_option maxRecDepth 16384
noncomputable section
namespace Cert.AdamOutIdeal.Hand
open Cert.AdamOutIdeal Cert.AdamOutIdeal.Gen Cert.Adam Idealize.ShloMosaic Idealize.ShloMosaic.TcCoe Idealize.SL.Sem
open Idealize.ShloMosaic.Pipeline (Dat)
variable (m : (ℓ : Loc nD τ sig) → Buf (Elt Ideal) ℓ)

/-- The arguments, as device `c` holds them. -/
def half0 (c : Dev nD) : FVec Ideal S256x1024 .f32 := m ((c : Thread nD τ).loc main_arg0)
def half1 (c : Dev nD) : FVec Ideal S256x1024 .f32 := m ((c : Thread nD τ).loc main_arg1)
def weight (c : Dev nD) : FVec Ideal S256x1024 .f32 := m ((c : Thread nD τ).loc main_arg2)
def mom (c : Dev nD) : FVec Ideal S256x1024 .f32 := m ((c : Thread nD τ).loc main_arg3)
def vel (c : Dev nD) : FVec Ideal S256x1024 .f32 := m ((c : Thread nD τ).loc main_arg4)

/-- The reference's summed gradient, moments and change of the weight. -/
def REFG (a b : FVec Ideal S256x1024 .f32) : FVec Ideal S256x1024 .f32 := addf a b
def REFM (g a : FVec Ideal S256x1024 .f32) : FVec Ideal S256x1024 .f32 :=
  addf (mulf (broadcastInDim Cert.AdamOutRefIdeal.S256x1024 ![] Cert.AdamOutRefIdeal.Gen.bcast_S_S256x1024 (constant Cert.AdamOutRefIdeal.S_ .f32 0x3F666666#32)) a) (mulf (broadcastInDim Cert.AdamOutRefIdeal.S256x1024 ![] Cert.AdamOutRefIdeal.Gen.bcast_S_S256x1024 (constant Cert.AdamOutRefIdeal.S_ .f32 0x3DCCCCCD#32)) g)
def REFV (g v : FVec Ideal S256x1024 .f32) : FVec Ideal S256x1024 .f32 :=
  addf (mulf (broadcastInDim Cert.AdamOutRefIdeal.S256x1024 ![] Cert.AdamOutRefIdeal.Gen.bcast_S_S256x1024 (constant Cert.AdamOutRefIdeal.S_ .f32 0x3F7FBE77#32)) v) (mulf (broadcastInDim Cert.AdamOutRefIdeal.S256x1024 ![] Cert.AdamOutRefIdeal.Gen.bcast_S_S256x1024 (constant Cert.AdamOutRefIdeal.S_ .f32 0x3A83126F#32)) (mulf g g))
def REFD (w g a v : FVec Ideal S256x1024 .f32) : FVec Ideal S256x1024 .f32 :=
  mulf (broadcastInDim Cert.AdamOutRefIdeal.S256x1024 ![] Cert.AdamOutRefIdeal.Gen.bcast_S_S256x1024 (constant Cert.AdamOutRefIdeal.S_ .f32 0xBA83126F#32))
    (addf (Host.divf (Host.divf (REFM g a) (broadcastInDim Cert.AdamOutRefIdeal.S256x1024 ![] Cert.AdamOutRefIdeal.Gen.bcast_S_S256x1024 (constant Cert.AdamOutRefIdeal.S_ .f32 0x3F26BD02#32)))
        (addf (Host.sqrt (Host.divf (REFV g v) (broadcastInDim Cert.AdamOutRefIdeal.S256x1024 ![] Cert.AdamOutRefIdeal.Gen.bcast_S_S256x1024 (constant Cert.AdamOutRefIdeal.S_ .f32 0x3C231ACC#32)))) (broadcastInDim Cert.AdamOutRefIdeal.S256x1024 ![] Cert.AdamOutRefIdeal.Gen.bcast_S_S256x1024 (constant Cert.AdamOutRefIdeal.S_ .f32 0x322BCC77#32))))
      (mulf (broadcastInDim Cert.AdamOutRefIdeal.S256x1024 ![] Cert.AdamOutRefIdeal.Gen.bcast_S_S256x1024 (constant Cert.AdamOutRefIdeal.S_ .f32 0x3C23D70A#32)) w))

theorem refg_at (a b : FVec Ideal S256x1024 .f32) (r : Fin 256) (l : Fin 1024) : REFG a b (ix2 r l) = a (ix2 r l) + b (ix2 r l) := by
  pointwise [REFG]
theorem refm_at (g a : FVec Ideal S256x1024 .f32) (r : Fin 256) (l : Fin 1024) : REFM g a (ix2 r l) = MOM (g (ix2 r l)) (a (ix2 r l)) := by
  unfold MOM
  pointwise [REFM]
theorem refv_at (g v : FVec Ideal S256x1024 .f32) (r : Fin 256) (l : Fin 1024) : REFV g v (ix2 r l) = VEL (g (ix2 r l)) (v (ix2 r l)) := by
  unfold VEL
  pointwise [REFV]
theorem refd_at (w g a v : FVec Ideal S256x1024 .f32) (r : Fin 256) (l : Fin 1024) :
    REFD w g a v (ix2 r l) = DELTA (w (ix2 r l)) (g (ix2 r l)) (a (ix2 r l)) (v (ix2 r l)) := by
  unfold DELTA MOM VEL
  pointwise [REFD, REFM, REFV]

theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ t.val < 1 :=
  (by decide +kernel : ∀ t : Fin grid0.N, _)

theorem blk0 (c : Dev nD) (t : Fin cfg0.N) (r : Fin 256) (l : Fin 1024) :
    (show FVec Ideal S256x1024 .f32 from iblk m c 0 t) (ix2 r l) = half0 m c (ix2 r l) := by
  show iblk m c 0 t (ix2 r l) = m ((c : Thread nD τ).loc main_arg0) _
  blk_ext [iblk, V, idx t]
theorem blk1 (c : Dev nD) (t : Fin cfg0.N) (r : Fin 256) (l : Fin 1024) :
    (show FVec Ideal S256x1024 .f32 from iblk m c 1 t) (ix2 r l) = half1 m c (ix2 r l) := by
  show iblk m c 1 t (ix2 r l) = m ((c : Thread nD τ).loc main_arg1) _
  blk_ext [iblk, V, idx t]
theorem blk2 (c : Dev nD) (t : Fin cfg0.N) (r : Fin 256) (l : Fin 1024) :
    (show FVec Ideal S256x1024 .f32 from iblk m c 2 t) (ix2 r l) = weight m c (ix2 r l) := by
  show iblk m c 2 t (ix2 r l) = m ((c : Thread nD τ).loc main_arg2) _
  blk_ext [iblk, V, idx t]
theorem blk3 (c : Dev nD) (t : Fin cfg0.N) (r : Fin 256) (l : Fin 1024) :
    (show FVec Ideal S256x1024 .f32 from iblk m c 3 t) (ix2 r l) = mom m c (ix2 r l) := by
  show iblk m c 3 t (ix2 r l) = m ((c : Thread nD τ).loc main_arg3) _
  blk_ext [iblk, V, idx t]
theorem blk4 (c : Dev nD) (t : Fin cfg0.N) (r : Fin 256) (l : Fin 1024) :
    (show FVec Ideal S256x1024 .f32 from iblk m c 4 t) (ix2 r l) = vel m c (ix2 r l) := by
  show iblk m c 4 t (ix2 r l) = m ((c : Thread nD τ).loc main_arg4) _
  blk_ext [iblk, V, idx t]

theorem payG_at (x0 x1 : Vec Ideal S256x1024 .f32) (r : Fin 256) (l : Fin 1024) :
    k0_pay1 (F := Ideal) x0 x1 (ix2 r l) = (x0 (ix2 r l) + x1 (ix2 r l)) := by
  pointwise [k0_pay1]
theorem out5_at (x0 x1 x2 x3 x4 : Vec Ideal S256x1024 .f32) (r : Fin 256) (l : Fin 1024) :
    out0_5 (F := Ideal) x0 x1 x2 x3 x4 (ix2 r l) = (x0 (ix2 r l) + x1 (ix2 r l)) := by
  unfold out0_5
  frame_out
  exact payG_at x0 x1 r l

theorem payD_at (x0 x1 x2 x3 x4 : Vec Ideal S256x1024 .f32) (r : Fin 256) (l : Fin 1024) :
    k0_pay4 (F := Ideal) x0 x1 x2 x3 x4 (ix2 r l) = DELTA (x2 (ix2 r l)) (x0 (ix2 r l) + x1 (ix2 r l)) (x3 (ix2 r l)) (x4 (ix2 r l)) := by
  unfold DELTA MOM VEL
  pointwise [k0_pay4, k0_pay3, k0_pay2, k0_pay1]
theorem out6_at (x0 x1 x2 x3 x4 : Vec Ideal S256x1024 .f32) (r : Fin 256) (l : Fin 1024) :
    out0_6 (F := Ideal) x0 x1 x2 x3 x4 (ix2 r l) = DELTA (x2 (ix2 r l)) (x0 (ix2 r l) + x1 (ix2 r l)) (x3 (ix2 r l)) (x4 (ix2 r l)) := by
  unfold out0_6
  frame_out
  exact payD_at x0 x1 x2 x3 x4 r l

theorem payM_at (x0 x1 x3 : Vec Ideal S256x1024 .f32) (r : Fin 256) (l : Fin 1024) :
    k0_pay2 (F := Ideal) x0 x1 x3 (ix2 r l) = MOM (x0 (ix2 r l) + x1 (ix2 r l)) (x3 (ix2 r l)) := by
  unfold MOM
  pointwise [k0_pay2, k0_pay1]
theorem out7_at (x0 x1 x2 x3 x4 : Vec Ideal S256x1024 .f32) (r : Fin 256) (l : Fin 1024) :
    out0_7 (F := Ideal) x0 x1 x2 x3 x4 (ix2 r l) = MOM (x0 (ix2 r l) + x1 (ix2 r l)) (x3 (ix2 r l)) := by
  unfold out0_7
  frame_out
  exact payM_at x0 x1 x3 r l

theorem payV_at (x0 x1 x4 : Vec Ideal S256x1024 .f32) (r : Fin 256) (l : Fin 1024) :
    k0_pay3 (F := Ideal) x0 x1 x4 (ix2 r l) = VEL (x0 (ix2 r l) + x1 (ix2 r l)) (x4 (ix2 r l)) := by
  unfold VEL
  pointwise [k0_pay3, k0_pay1]
theorem out8_at (x0 x1 x2 x3 x4 : Vec Ideal S256x1024 .f32) (r : Fin 256) (l : Fin 1024) :
    out0_8 (F := Ideal) x0 x1 x2 x3 x4 (ix2 r l) = VEL (x0 (ix2 r l) + x1 (ix2 r l)) (x4 (ix2 r l)) := by
  unfold out0_8
  frame_out
  exact payV_at x0 x1 x4 r l

theorem val5 (c : Dev nD) (t : Fin cfg0.N) (r : Fin 256) (l : Fin 1024) :
    ((show FVec Ideal S256x1024 .f32 from iblk m c 0 t) (ix2 r l) + (show FVec Ideal S256x1024 .f32 from iblk m c 1 t) (ix2 r l)) = REFG (half0 m c) (half1 m c) (ix2 r l) := by
  rw [refg_at, blk0 m c t r l, blk1 m c t r l]
theorem fin5 (c : Dev nD) : (dats m 0 c).arrAt 5 (cfgs 0).N = REFG (half0 m c) (half1 m c) := by
  refine (dats m 0 c).arrAt_eq_of_covers 5 _ (by decide +kernel) fun t _ y => ?_
  blk_simp
  rw [after0_5]
  obtain ⟨r, l, rfl⟩ : ∃ (r : Fin 256) (l : Fin 1024), y = ix2 r l := ⟨_, _, eq_ix2 y⟩
  refine (out5_at _ _ _ _ _ r l).trans ((val5 m c t r l).trans ?_)
  blk_ext [idx t]

theorem val6 (c : Dev nD) (t : Fin cfg0.N) (r : Fin 256) (l : Fin 1024) :
    DELTA ((show FVec Ideal S256x1024 .f32 from iblk m c 2 t) (ix2 r l)) ((show FVec Ideal S256x1024 .f32 from iblk m c 0 t) (ix2 r l) + (show FVec Ideal S256x1024 .f32 from iblk m c 1 t) (ix2 r l)) ((show FVec Ideal S256x1024 .f32 from iblk m c 3 t) (ix2 r l)) ((show FVec Ideal S256x1024 .f32 from iblk m c 4 t) (ix2 r l)) = REFD (weight m c) (REFG (half0 m c) (half1 m c)) (mom m c) (vel m c) (ix2 r l) := by
  rw [refd_at, refg_at, blk0 m c t r l, blk1 m c t r l, blk2 m c t r l, blk3 m c t r l, blk4 m c t r l]
theorem fin6 (c : Dev nD) : (dats m 0 c).arrAt 6 (cfgs 0).N = REFD (weight m c) (REFG (half0 m c) (half1 m c)) (mom m c) (vel m c) := by
  refine (dats m 0 c).arrAt_eq_of_covers 6 _ (by decide +kernel) fun t _ y => ?_
  blk_simp
  rw [after0_6]
  obtain ⟨r, l, rfl⟩ : ∃ (r : Fin 256) (l : Fin 1024), y = ix2 r l := ⟨_, _, eq_ix2 y⟩
  refine (out6_at _ _ _ _ _ r l).trans ((val6 m c t r l).trans ?_)
  blk_ext [idx t]

theorem val7 (c : Dev nD) (t : Fin cfg0.N) (r : Fin 256) (l : Fin 1024) :
    MOM ((show FVec Ideal S256x1024 .f32 from iblk m c 0 t) (ix2 r l) + (show FVec Ideal S256x1024 .f32 from iblk m c 1 t) (ix2 r l)) ((show FVec Ideal S256x1024 .f32 from iblk m c 3 t) (ix2 r l)) = REFM (REFG (half0 m c) (half1 m c)) (mom m c) (ix2 r l) := by
  rw [refm_at, refg_at, blk0 m c t r l, blk1 m c t r l, blk3 m c t r l]
theorem fin7 (c : Dev nD) : (dats m 0 c).arrAt 7 (cfgs 0).N = REFM (REFG (half0 m c) (half1 m c)) (mom m c) := by
  refine (dats m 0 c).arrAt_eq_of_covers 7 _ (by decide +kernel) fun t _ y => ?_
  blk_simp
  rw [after0_7]
  obtain ⟨r, l, rfl⟩ : ∃ (r : Fin 256) (l : Fin 1024), y = ix2 r l := ⟨_, _, eq_ix2 y⟩
  refine (out7_at _ _ _ _ _ r l).trans ((val7 m c t r l).trans ?_)
  blk_ext [idx t]

theorem val8 (c : Dev nD) (t : Fin cfg0.N) (r : Fin 256) (l : Fin 1024) :
    VEL ((show FVec Ideal S256x1024 .f32 from iblk m c 0 t) (ix2 r l) + (show FVec Ideal S256x1024 .f32 from iblk m c 1 t) (ix2 r l)) ((show FVec Ideal S256x1024 .f32 from iblk m c 4 t) (ix2 r l)) = REFV (REFG (half0 m c) (half1 m c)) (vel m c) (ix2 r l) := by
  rw [refv_at, refg_at, blk0 m c t r l, blk1 m c t r l, blk4 m c t r l]
theorem fin8 (c : Dev nD) : (dats m 0 c).arrAt 8 (cfgs 0).N = REFV (REFG (half0 m c) (half1 m c)) (vel m c) := by
  refine (dats m 0 c).arrAt_eq_of_covers 8 _ (by decide +kernel) fun t _ y => ?_
  blk_simp
  rw [after0_8]
  obtain ⟨r, l, rfl⟩ : ∃ (r : Fin 256) (l : Fin 1024), y = ix2 r l := ⟨_, _, eq_ix2 y⟩
  refine (out8_at _ _ _ _ _ r l).trans ((val8 m c t r l).trans ?_)
  blk_ext [idx t]

end Cert.AdamOutIdeal.Hand
-- ==== Proof.AdamOutClaim.lean ====
module
public import proofs.«01_k».proof.Defs
public import proofs.«01_k».proof.Proof.Gen.AdamOutIdeal
public import proofs.«01_k».proof.Proof.Gen.AdamOutRefIdeal
public import proofs.«01_k».proof.Proof.AdamOutFinal
public import Idealize.ShloMosaic.Lib.Claim

/-! The optimiser's update of the mixer's output projection: kernel and reference end with the same arrays. -/

@[expose] public section
noncomputable section
namespace Cert.Proof
open Idealize.ShloMosaic Idealize.SL.Sem

/-- The reference's frame: its run, and no semaphore is declared. -/
theorem aou_reference : Cert.quiescent_AdamOutRefIdeal := by
  intro m g _
  exact (θ_run Cert.AdamOutRefIdeal.defs _ _).mono
    (fun r h => ⟨fun c => (h c).2.2.2.2, sem_eq_zero_of_no_sems (by decide) r.2⟩)
    (Cert.AdamOutRefIdeal.Value.run m g)

/-- The kernel and the reference end with equal arrays. -/
theorem aou_algebraic : Cert.algebraic_AdamOutIdeal_AdamOutRefIdeal := by
  intro m g m' g' _ hagree
  refine ⟨fun c => (Cert.AdamOutIdeal.Gen.dats m 0 c).arrAt 5 Cert.AdamOutIdeal.cfg0.N,
    fun c => (Cert.AdamOutIdeal.Gen.dats m 0 c).arrAt 6 Cert.AdamOutIdeal.cfg0.N,
    fun c => (Cert.AdamOutIdeal.Gen.dats m 0 c).arrAt 7 Cert.AdamOutIdeal.cfg0.N,
    fun c => (Cert.AdamOutIdeal.Gen.dats m 0 c).arrAt 8 Cert.AdamOutIdeal.cfg0.N,
    Cert.AdamOutIdeal.Value.run_blocks m g, ?_⟩
  refine (θ_run Cert.AdamOutRefIdeal.defs _ _).mono (fun r h c => ?_)
    (Cert.AdamOutRefIdeal.Value.run m' g')
  obtain ⟨e0, e1, e2, e3, e4⟩ := hagree c
  refine ⟨(h c).1.trans ?_, (h c).2.1.trans ?_, (h c).2.2.1.trans ?_, (h c).2.2.2.1.trans ?_, (h c).2.2.2.2⟩
  · refine Eq.trans ?_ (Cert.AdamOutIdeal.Hand.fin5 m c).symm
    rw [e0, e1]
    rfl
  · refine Eq.trans ?_ (Cert.AdamOutIdeal.Hand.fin6 m c).symm
    rw [e0, e1, e2, e3, e4]
    rfl
  · refine Eq.trans ?_ (Cert.AdamOutIdeal.Hand.fin7 m c).symm
    rw [e0, e1, e3]
    rfl
  · refine Eq.trans ?_ (Cert.AdamOutIdeal.Hand.fin8 m c).symm
    rw [e0, e1, e4]
    rfl

end Cert.Proof
-- ==== Proof.AdamSmallFinal.lean ====
module
public import proofs.«01_k».proof.Proof.Gen.AdamSmallIdeal.Value
public import proofs.«01_k».proof.Proof.Gen.AdamSmallRefIdeal.Run
public import proofs.«01_k».proof.Proof.AdamLaws
public import Idealize.ShloMosaic.Lib.Pipeline.ValueKit
public import Idealize.ShloMosaic.Lib.Pointwise

/-! The optimiser's update of the small parameters, packed in rows, all at once. -/

@[expose] public section
set_option maxRecDepth 16384
noncomputable section
namespace Cert.AdamSmallIdeal.Hand
open Cert.AdamSmallIdeal Cert.AdamSmallIdeal.Gen Cert.Adam Idealize.ShloMosaic Idealize.ShloMosaic.TcCoe Idealize.SL.Sem
open Idealize.ShloMosaic.Pipeline (Dat)
variable (m : (ℓ : Loc nD τ sig) → Buf (Elt Ideal) ℓ)

/-- The arguments, as device `c` holds them. -/
def weight (c : Dev nD) : FVec Ideal S608x128 .f32 := m ((c : Thread nD τ).loc main_arg0)
def grad (c : Dev nD) : FVec Ideal S608x128 .f32 := m ((c : Thread nD τ).loc main_arg1)
def mom (c : Dev nD) : FVec Ideal S608x128 .f32 := m ((c : Thread nD τ).loc main_arg2)
def vel (c : Dev nD) : FVec Ideal S608x128 .f32 := m ((c : Thread nD τ).loc main_arg3)

/-- The reference's moments and change of the weight. -/
def REFM (g a : FVec Ideal S608x128 .f32) : FVec Ideal S608x128 .f32 :=
  addf (mulf (broadcastInDim Cert.AdamSmallRefIdeal.S608x128 ![] Cert.AdamSmallRefIdeal.Gen.bcast_S_S608x128 (constant Cert.AdamSmallRefIdeal.S_ .f32 0x3F666666#32)) a) (mulf (broadcastInDim Cert.AdamSmallRefIdeal.S608x128 ![] Cert.AdamSmallRefIdeal.Gen.bcast_S_S608x128 (constant Cert.AdamSmallRefIdeal.S_ .f32 0x3DCCCCCD#32)) g)
def REFV (g v : FVec Ideal S608x128 .f32) : FVec Ideal S608x128 .f32 :=
  addf (mulf (broadcastInDim Cert.AdamSmallRefIdeal.S608x128 ![] Cert.AdamSmallRefIdeal.Gen.bcast_S_S608x128 (constant Cert.AdamSmallRefIdeal.S_ .f32 0x3F7FBE77#32)) v) (mulf (broadcastInDim Cert.AdamSmallRefIdeal.S608x128 ![] Cert.AdamSmallRefIdeal.Gen.bcast_S_S608x128 (constant Cert.AdamSmallRefIdeal.S_ .f32 0x3A83126F#32)) (mulf g g))
def REFD (w g a v : FVec Ideal S608x128 .f32) : FVec Ideal S608x128 .f32 :=
  mulf (broadcastInDim Cert.AdamSmallRefIdeal.S608x128 ![] Cert.AdamSmallRefIdeal.Gen.bcast_S_S608x128 (constant Cert.AdamSmallRefIdeal.S_ .f32 0xBA83126F#32))
    (addf (Host.divf (Host.divf (REFM g a) (broadcastInDim Cert.AdamSmallRefIdeal.S608x128 ![] Cert.AdamSmallRefIdeal.Gen.bcast_S_S608x128 (constant Cert.AdamSmallRefIdeal.S_ .f32 0x3F26BD02#32)))
        (addf (Host.sqrt (Host.divf (REFV g v) (broadcastInDim Cert.AdamSmallRefIdeal.S608x128 ![] Cert.AdamSmallRefIdeal.Gen.bcast_S_S608x128 (constant Cert.AdamSmallRefIdeal.S_ .f32 0x3C231ACC#32)))) (broadcastInDim Cert.AdamSmallRefIdeal.S608x128 ![] Cert.AdamSmallRefIdeal.Gen.bcast_S_S608x128 (constant Cert.AdamSmallRefIdeal.S_ .f32 0x322BCC77#32))))
      (mulf (broadcastInDim Cert.AdamSmallRefIdeal.S608x128 ![] Cert.AdamSmallRefIdeal.Gen.bcast_S_S608x128 (constant Cert.AdamSmallRefIdeal.S_ .f32 0x3C23D70A#32)) w))

theorem refm_at (g a : FVec Ideal S608x128 .f32) (r : Fin 608) (l : Fin 128) : REFM g a (ix2 r l) = MOM (g (ix2 r l)) (a (ix2 r l)) := by
  unfold MOM
  pointwise [REFM]
theorem refv_at (g v : FVec Ideal S608x128 .f32) (r : Fin 608) (l : Fin 128) : REFV g v (ix2 r l) = VEL (g (ix2 r l)) (v (ix2 r l)) := by
  unfold VEL
  pointwise [REFV]
theorem refd_at (w g a v : FVec Ideal S608x128 .f32) (r : Fin 608) (l : Fin 128) :
    REFD w g a v (ix2 r l) = DELTA (w (ix2 r l)) (g (ix2 r l)) (a (ix2 r l)) (v (ix2 r l)) := by
  unfold DELTA MOM VEL
  pointwise [REFD, REFM, REFV]

theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ t.val < 1 :=
  (by decide +kernel : ∀ t : Fin grid0.N, _)

theorem blk0 (c : Dev nD) (t : Fin cfg0.N) (r : Fin 608) (l : Fin 128) :
    (show FVec Ideal S608x128 .f32 from iblk m c 0 t) (ix2 r l) = weight m c (ix2 r l) := by
  show iblk m c 0 t (ix2 r l) = m ((c : Thread nD τ).loc main_arg0) _
  blk_ext [iblk, V, idx t]
theorem blk1 (c : Dev nD) (t : Fin cfg0.N) (r : Fin 608) (l : Fin 128) :
    (show FVec Ideal S608x128 .f32 from iblk m c 1 t) (ix2 r l) = (grad m c) (ix2 r l) := by
  show iblk m c 1 t (ix2 r l) = m ((c : Thread nD τ).loc main_arg1) _
  blk_ext [iblk, V, idx t]
theorem blk2 (c : Dev nD) (t : Fin cfg0.N) (r : Fin 608) (l : Fin 128) :
    (show FVec Ideal S608x128 .f32 from iblk m c 2 t) (ix2 r l) = mom m c (ix2 r l) := by
  show iblk m c 2 t (ix2 r l) = m ((c : Thread nD τ).loc main_arg2) _
  blk_ext [iblk, V, idx t]
theorem blk3 (c : Dev nD) (t : Fin cfg0.N) (r : Fin 608) (l : Fin 128) :
    (show FVec Ideal S608x128 .f32 from iblk m c 3 t) (ix2 r l) = vel m c (ix2 r l) := by
  show iblk m c 3 t (ix2 r l) = m ((c : Thread nD τ).loc main_arg3) _
  blk_ext [iblk, V, idx t]

theorem payD_at (x0 x1 x2 x3 : Vec Ideal S608x128 .f32) (r : Fin 608) (l : Fin 128) :
    k0_pay3 (F := Ideal) x0 x1 x2 x3 (ix2 r l) = DELTA (x0 (ix2 r l)) (x1 (ix2 r l)) (x2 (ix2 r l)) (x3 (ix2 r l)) := by
  unfold DELTA MOM VEL
  pointwise [k0_pay3, k0_pay2, k0_pay1]
theorem out4_at (x0 x1 x2 x3 : Vec Ideal S608x128 .f32) (r : Fin 608) (l : Fin 128) :
    out0_4 (F := Ideal) x0 x1 x2 x3 (ix2 r l) = DELTA (x0 (ix2 r l)) (x1 (ix2 r l)) (x2 (ix2 r l)) (x3 (ix2 r l)) := by
  unfold out0_4
  frame_out
  exact payD_at x0 x1 x2 x3 r l

theorem payM_at (x1 x2 : Vec Ideal S608x128 .f32) (r : Fin 608) (l : Fin 128) :
    k0_pay1 (F := Ideal) x1 x2 (ix2 r l) = MOM (x1 (ix2 r l)) (x2 (ix2 r l)) := by
  unfold MOM
  pointwise [k0_pay1]
theorem out5_at (x0 x1 x2 x3 : Vec Ideal S608x128 .f32) (r : Fin 608) (l : Fin 128) :
    out0_5 (F := Ideal) x0 x1 x2 x3 (ix2 r l) = MOM (x1 (ix2 r l)) (x2 (ix2 r l)) := by
  unfold out0_5
  frame_out
  exact payM_at x1 x2 r l

theorem payV_at (x1 x3 : Vec Ideal S608x128 .f32) (r : Fin 608) (l : Fin 128) :
    k0_pay2 (F := Ideal) x1 x3 (ix2 r l) = VEL (x1 (ix2 r l)) (x3 (ix2 r l)) := by
  unfold VEL
  pointwise [k0_pay2]
theorem out6_at (x0 x1 x2 x3 : Vec Ideal S608x128 .f32) (r : Fin 608) (l : Fin 128) :
    out0_6 (F := Ideal) x0 x1 x2 x3 (ix2 r l) = VEL (x1 (ix2 r l)) (x3 (ix2 r l)) := by
  unfold out0_6
  frame_out
  exact payV_at x1 x3 r l

theorem val4 (c : Dev nD) (t : Fin cfg0.N) (r : Fin 608) (l : Fin 128) :
    DELTA ((show FVec Ideal S608x128 .f32 from iblk m c 0 t) (ix2 r l)) ((show FVec Ideal S608x128 .f32 from iblk m c 1 t) (ix2 r l)) ((show FVec Ideal S608x128 .f32 from iblk m c 2 t) (ix2 r l)) ((show FVec Ideal S608x128 .f32 from iblk m c 3 t) (ix2 r l)) = REFD (weight m c) (grad m c) (mom m c) (vel m c) (ix2 r l) := by
  rw [refd_at, blk0 m c t r l, blk1 m c t r l, blk2 m c t r l, blk3 m c t r l]
theorem fin4 (c : Dev nD) : (dats m 0 c).arrAt 4 (cfgs 0).N = REFD (weight m c) (grad m c) (mom m c) (vel m c) := by
  refine (dats m 0 c).arrAt_eq_of_covers 4 _ (by decide +kernel) fun t _ y => ?_
  blk_simp
  rw [after0_4]
  obtain ⟨r, l, rfl⟩ : ∃ (r : Fin 608) (l : Fin 128), y = ix2 r l := ⟨_, _, eq_ix2 y⟩
  refine (out4_at _ _ _ _ r l).trans ((val4 m c t r l).trans ?_)
  blk_ext [idx t]

theorem val5 (c : Dev nD) (t : Fin cfg0.N) (r : Fin 608) (l : Fin 128) :
    MOM ((show FVec Ideal S608x128 .f32 from iblk m c 1 t) (ix2 r l)) ((show FVec Ideal S608x128 .f32 from iblk m c 2 t) (ix2 r l)) = REFM (grad m c) (mom m c) (ix2 r l) := by
  rw [refm_at, blk1 m c t r l, blk2 m c t r l]
theorem fin5 (c : Dev nD) : (dats m 0 c).arrAt 5 (cfgs 0).N = REFM (grad m c) (mom m c) := by
  refine (dats m 0 c).arrAt_eq_of_covers 5 _ (by decide +kernel) fun t _ y => ?_
  blk_simp
  rw [after0_5]
  obtain ⟨r, l, rfl⟩ : ∃ (r : Fin 608) (l : Fin 128), y = ix2 r l := ⟨_, _, eq_ix2 y⟩
  refine (out5_at _ _ _ _ r l).trans ((val5 m c t r l).trans ?_)
  blk_ext [idx t]

theorem val6 (c : Dev nD) (t : Fin cfg0.N) (r : Fin 608) (l : Fin 128) :
    VEL ((show FVec Ideal S608x128 .f32 from iblk m c 1 t) (ix2 r l)) ((show FVec Ideal S608x128 .f32 from iblk m c 3 t) (ix2 r l)) = REFV (grad m c) (vel m c) (ix2 r l) := by
  rw [refv_at, blk1 m c t r l, blk3 m c t r l]
theorem fin6 (c : Dev nD) : (dats m 0 c).arrAt 6 (cfgs 0).N = REFV (grad m c) (vel m c) := by
  refine (dats m 0 c).arrAt_eq_of_covers 6 _ (by decide +kernel) fun t _ y => ?_
  blk_simp
  rw [after0_6]
  obtain ⟨r, l, rfl⟩ : ∃ (r : Fin 608) (l : Fin 128), y = ix2 r l := ⟨_, _, eq_ix2 y⟩
  refine (out6_at _ _ _ _ r l).trans ((val6 m c t r l).trans ?_)
  blk_ext [idx t]

end Cert.AdamSmallIdeal.Hand
-- ==== Proof.AdamSmallClaim.lean ====
module
public import proofs.«01_k».proof.Defs
public import proofs.«01_k».proof.Proof.Gen.AdamSmallIdeal
public import proofs.«01_k».proof.Proof.Gen.AdamSmallRefIdeal
public import proofs.«01_k».proof.Proof.AdamSmallFinal
public import Idealize.ShloMosaic.Lib.Claim

/-! The optimiser's update of the small parameters, packed in rows: kernel and reference end with the same arrays. -/

@[expose] public section
noncomputable section
namespace Cert.Proof
open Idealize.ShloMosaic Idealize.SL.Sem

/-- The reference's frame: its run, and no semaphore is declared. -/
theorem asm_reference : Cert.quiescent_AdamSmallRefIdeal := by
  intro m g _
  exact (θ_run Cert.AdamSmallRefIdeal.defs _ _).mono
    (fun r h => ⟨fun c => (h c).2.2.2, sem_eq_zero_of_no_sems (by decide) r.2⟩)
    (Cert.AdamSmallRefIdeal.Value.run m g)

/-- The kernel and the reference end with equal arrays. -/
theorem asm_algebraic : Cert.algebraic_AdamSmallIdeal_AdamSmallRefIdeal := by
  intro m g m' g' _ hagree
  refine ⟨fun c => (Cert.AdamSmallIdeal.Gen.dats m 0 c).arrAt 4 Cert.AdamSmallIdeal.cfg0.N,
    fun c => (Cert.AdamSmallIdeal.Gen.dats m 0 c).arrAt 5 Cert.AdamSmallIdeal.cfg0.N,
    fun c => (Cert.AdamSmallIdeal.Gen.dats m 0 c).arrAt 6 Cert.AdamSmallIdeal.cfg0.N,
    Cert.AdamSmallIdeal.Value.run_blocks m g, ?_⟩
  refine (θ_run Cert.AdamSmallRefIdeal.defs _ _).mono (fun r h c => ?_)
    (Cert.AdamSmallRefIdeal.Value.run m' g')
  obtain ⟨e0, e1, e2, e3⟩ := hagree c
  refine ⟨(h c).1.trans ?_, (h c).2.1.trans ?_, (h c).2.2.1.trans ?_, (h c).2.2.2⟩
  · refine Eq.trans ?_ (Cert.AdamSmallIdeal.Hand.fin4 m c).symm
    rw [e0, e1, e2, e3]
    rfl
  · refine Eq.trans ?_ (Cert.AdamSmallIdeal.Hand.fin5 m c).symm
    rw [e1, e2]
    rfl
  · refine Eq.trans ?_ (Cert.AdamSmallIdeal.Hand.fin6 m c).symm
    rw [e1, e3]
    rfl

end Cert.Proof
-- ==== Proof.lean ====
module

public import proofs.«01_k».proof.Defs
public import proofs.«01_k».proof.Proof.Gen.ConvBwd
public import proofs.«01_k».proof.Proof.Gen.ConvBwd.Skeleton
public import proofs.«01_k».proof.Proof.Gen.ConvBwd.Launch
public import proofs.«01_k».proof.Proof.Gen.ConvBwd.Points
public import proofs.«01_k».proof.Proof.Gen.ConvBwd.Frame
public import proofs.«01_k».proof.Proof.Gen.ConvBwdIdeal
public import proofs.«01_k».proof.Proof.Gen.ConvBwdIdeal.Skeleton
public import proofs.«01_k».proof.Proof.Gen.ConvBwdIdeal.Launch
public import proofs.«01_k».proof.Proof.Gen.ConvBwdIdeal.Points
public import proofs.«01_k».proof.Proof.Gen.ConvBwdIdeal.Frame
public import proofs.«01_k».proof.Proof.Gen.ConvBwdIdeal.Value
public import proofs.«01_k».proof.Proof.Gen.ConvBwdRefIdeal
public import proofs.«01_k».proof.Proof.Gen.ConvBwdRefIdeal.Run
public import proofs.«01_k».proof.Proof.Gen.ConvBwdRefIdeal.Read
public import proofs.«01_k».proof.Proof.ConvClaim
public import proofs.«01_k».proof.Proof.Gen.FfnIn
public import proofs.«01_k».proof.Proof.Gen.FfnIn.Skeleton
public import proofs.«01_k».proof.Proof.Gen.FfnIn.Launch
public import proofs.«01_k».proof.Proof.Gen.FfnIn.Points
public import proofs.«01_k».proof.Proof.Gen.FfnIn.Frame
public import proofs.«01_k».proof.Proof.Gen.FfnInIdeal
public import proofs.«01_k».proof.Proof.Gen.FfnInIdeal.Skeleton
public import proofs.«01_k».proof.Proof.Gen.FfnInIdeal.Launch
public import proofs.«01_k».proof.Proof.Gen.FfnInIdeal.Points
public import proofs.«01_k».proof.Proof.Gen.FfnInIdeal.Frame
public import proofs.«01_k».proof.Proof.Gen.FfnInIdeal.Value
public import proofs.«01_k».proof.Proof.Gen.FfnInRefIdeal
public import proofs.«01_k».proof.Proof.Gen.FfnInRefIdeal.Run
public import proofs.«01_k».proof.Proof.Gen.FfnInRefIdeal.Read
public import proofs.«01_k».proof.Proof.FfnInClaim
public import proofs.«01_k».proof.Proof.Gen.FfnDx
public import proofs.«01_k».proof.Proof.Gen.FfnDx.Skeleton
public import proofs.«01_k».proof.Proof.Gen.FfnDx.Launch
public import proofs.«01_k».proof.Proof.Gen.FfnDx.Points
public import proofs.«01_k».proof.Proof.Gen.FfnDx.Frame
public import proofs.«01_k».proof.Proof.Gen.FfnDxIdeal
public import proofs.«01_k».proof.Proof.Gen.FfnDxIdeal.Skeleton
public import proofs.«01_k».proof.Proof.Gen.FfnDxIdeal.Launch
public import proofs.«01_k».proof.Proof.Gen.FfnDxIdeal.Points
public import proofs.«01_k».proof.Proof.Gen.FfnDxIdeal.Frame
public import proofs.«01_k».proof.Proof.Gen.FfnDxIdeal.Value
public import proofs.«01_k».proof.Proof.Gen.FfnDxRefIdeal
public import proofs.«01_k».proof.Proof.Gen.FfnDxRefIdeal.Run
public import proofs.«01_k».proof.Proof.Gen.FfnDxRefIdeal.Read
public import proofs.«01_k».proof.Proof.FfnDxClaim
public import proofs.«01_k».proof.Proof.Gen.FfnDh
public import proofs.«01_k».proof.Proof.Gen.FfnDh.Skeleton
public import proofs.«01_k».proof.Proof.Gen.FfnDh.Launch
public import proofs.«01_k».proof.Proof.Gen.FfnDh.Points
public import proofs.«01_k».proof.Proof.Gen.FfnDh.Frame
public import proofs.«01_k».proof.Proof.Gen.FfnDhIdeal
public import proofs.«01_k».proof.Proof.Gen.FfnDhIdeal.Skeleton
public import proofs.«01_k».proof.Proof.Gen.FfnDhIdeal.Launch
public import proofs.«01_k».proof.Proof.Gen.FfnDhIdeal.Points
public import proofs.«01_k».proof.Proof.Gen.FfnDhIdeal.Frame
public import proofs.«01_k».proof.Proof.Gen.FfnDhIdeal.Value
public import proofs.«01_k».proof.Proof.Gen.FfnDhRefIdeal
public import proofs.«01_k».proof.Proof.Gen.FfnDhRefIdeal.Run
public import proofs.«01_k».proof.Proof.Gen.FfnDhRefIdeal.Read
public import proofs.«01_k».proof.Proof.FfnDhClaim
public import proofs.«01_k».proof.Proof.Gen.FfnDwi
public import proofs.«01_k».proof.Proof.Gen.FfnDwi.Skeleton
public import proofs.«01_k».proof.Proof.Gen.FfnDwi.Launch
public import proofs.«01_k».proof.Proof.Gen.FfnDwi.Points
public import proofs.«01_k».proof.Proof.Gen.FfnDwi.Frame
public import proofs.«01_k».proof.Proof.Gen.FfnDwiIdeal
public import proofs.«01_k».proof.Proof.Gen.FfnDwiIdeal.Skeleton
public import proofs.«01_k».proof.Proof.Gen.FfnDwiIdeal.Launch
public import proofs.«01_k».proof.Proof.Gen.FfnDwiIdeal.Points
public import proofs.«01_k».proof.Proof.Gen.FfnDwiIdeal.Frame
public import proofs.«01_k».proof.Proof.Gen.FfnDwiIdeal.Value
public import proofs.«01_k».proof.Proof.Gen.FfnDwiRefIdeal
public import proofs.«01_k».proof.Proof.Gen.FfnDwiRefIdeal.Run
public import proofs.«01_k».proof.Proof.Gen.FfnDwiRefIdeal.Read
public import proofs.«01_k».proof.Proof.FfnDwiClaim
public import proofs.«01_k».proof.Proof.Gen.FfnDwo
public import proofs.«01_k».proof.Proof.Gen.FfnDwo.Skeleton
public import proofs.«01_k».proof.Proof.Gen.FfnDwo.Launch
public import proofs.«01_k».proof.Proof.Gen.FfnDwo.Points
public import proofs.«01_k».proof.Proof.Gen.FfnDwo.Frame
public import proofs.«01_k».proof.Proof.Gen.FfnDwoIdeal
public import proofs.«01_k».proof.Proof.Gen.FfnDwoIdeal.Skeleton
public import proofs.«01_k».proof.Proof.Gen.FfnDwoIdeal.Launch
public import proofs.«01_k».proof.Proof.Gen.FfnDwoIdeal.Points
public import proofs.«01_k».proof.Proof.Gen.FfnDwoIdeal.Frame
public import proofs.«01_k».proof.Proof.Gen.FfnDwoIdeal.Value
public import proofs.«01_k».proof.Proof.Gen.FfnDwoRefIdeal
public import proofs.«01_k».proof.Proof.Gen.FfnDwoRefIdeal.Run
public import proofs.«01_k».proof.Proof.Gen.FfnDwoRefIdeal.Read
public import proofs.«01_k».proof.Proof.FfnDwoClaim
public import proofs.«01_k».proof.Proof.Gen.FfnTwo
public import proofs.«01_k».proof.Proof.Gen.FfnTwo.Skeleton
public import proofs.«01_k».proof.Proof.Gen.FfnTwo.Launch
public import proofs.«01_k».proof.Proof.Gen.FfnTwo.Points
public import proofs.«01_k».proof.Proof.Gen.FfnTwo.Frame
public import proofs.«01_k».proof.Proof.Gen.FfnTwoIdeal
public import proofs.«01_k».proof.Proof.Gen.FfnTwoIdeal.Skeleton
public import proofs.«01_k».proof.Proof.Gen.FfnTwoIdeal.Launch
public import proofs.«01_k».proof.Proof.Gen.FfnTwoIdeal.Points
public import proofs.«01_k».proof.Proof.Gen.FfnTwoIdeal.Frame
public import proofs.«01_k».proof.Proof.Gen.FfnTwoIdeal.Value
public import proofs.«01_k».proof.Proof.Gen.FfnTwoRefIdeal
public import proofs.«01_k».proof.Proof.Gen.FfnTwoRefIdeal.Run
public import proofs.«01_k».proof.Proof.Gen.FfnTwoRefIdeal.Read
public import proofs.«01_k».proof.Proof.FfnTwoClaim
public import proofs.«01_k».proof.Proof.Gen.FfnTwoDwi
public import proofs.«01_k».proof.Proof.Gen.FfnTwoDwi.Skeleton
public import proofs.«01_k».proof.Proof.Gen.FfnTwoDwi.Launch
public import proofs.«01_k».proof.Proof.Gen.FfnTwoDwi.Points
public import proofs.«01_k».proof.Proof.Gen.FfnTwoDwi.Frame
public import proofs.«01_k».proof.Proof.Gen.FfnTwoDwiIdeal
public import proofs.«01_k».proof.Proof.Gen.FfnTwoDwiIdeal.Skeleton
public import proofs.«01_k».proof.Proof.Gen.FfnTwoDwiIdeal.Launch
public import proofs.«01_k».proof.Proof.Gen.FfnTwoDwiIdeal.Points
public import proofs.«01_k».proof.Proof.Gen.FfnTwoDwiIdeal.Frame
public import proofs.«01_k».proof.Proof.Gen.FfnTwoDwiIdeal.Value
public import proofs.«01_k».proof.Proof.Gen.FfnTwoDwiRefIdeal
public import proofs.«01_k».proof.Proof.Gen.FfnTwoDwiRefIdeal.Run
public import proofs.«01_k».proof.Proof.Gen.FfnTwoDwiRefIdeal.Read
public import proofs.«01_k».proof.Proof.FfnTwoDwiClaim
public import proofs.«01_k».proof.Proof.Gen.ProjIn
public import proofs.«01_k».proof.Proof.Gen.ProjIn.Skeleton
public import proofs.«01_k».proof.Proof.Gen.ProjIn.Launch
public import proofs.«01_k».proof.Proof.Gen.ProjIn.Points
public import proofs.«01_k».proof.Proof.Gen.ProjIn.Frame
public import proofs.«01_k».proof.Proof.Gen.ProjInIdeal
public import proofs.«01_k».proof.Proof.Gen.ProjInIdeal.Skeleton
public import proofs.«01_k».proof.Proof.Gen.ProjInIdeal.Launch
public import proofs.«01_k».proof.Proof.Gen.ProjInIdeal.Points
public import proofs.«01_k».proof.Proof.Gen.ProjInIdeal.Frame
public import proofs.«01_k».proof.Proof.Gen.ProjInIdeal.Value
public import proofs.«01_k».proof.Proof.Gen.ProjInRefIdeal
public import proofs.«01_k».proof.Proof.Gen.ProjInRefIdeal.Run
public import proofs.«01_k».proof.Proof.Gen.ProjInRefIdeal.Read
public import proofs.«01_k».proof.Proof.ProjInClaim
public import proofs.«01_k».proof.Proof.Gen.ProjDws
public import proofs.«01_k».proof.Proof.Gen.ProjDws.Skeleton
public import proofs.«01_k».proof.Proof.Gen.ProjDws.Launch
public import proofs.«01_k».proof.Proof.Gen.ProjDws.Points
public import proofs.«01_k».proof.Proof.Gen.ProjDws.Frame
public import proofs.«01_k».proof.Proof.Gen.ProjDwsIdeal
public import proofs.«01_k».proof.Proof.Gen.ProjDwsIdeal.Skeleton
public import proofs.«01_k».proof.Proof.Gen.ProjDwsIdeal.Launch
public import proofs.«01_k».proof.Proof.Gen.ProjDwsIdeal.Points
public import proofs.«01_k».proof.Proof.Gen.ProjDwsIdeal.Frame
public import proofs.«01_k».proof.Proof.Gen.ProjDwsIdeal.Value
public import proofs.«01_k».proof.Proof.Gen.ProjDwsRefIdeal
public import proofs.«01_k».proof.Proof.Gen.ProjDwsRefIdeal.Run
public import proofs.«01_k».proof.Proof.Gen.ProjDwsRefIdeal.Read
public import proofs.«01_k».proof.Proof.ProjDwsClaim
public import proofs.«01_k».proof.Proof.Gen.ProjDwc
public import proofs.«01_k».proof.Proof.Gen.ProjDwc.Skeleton
public import proofs.«01_k».proof.Proof.Gen.ProjDwc.Launch
public import proofs.«01_k».proof.Proof.Gen.ProjDwc.Points
public import proofs.«01_k».proof.Proof.Gen.ProjDwc.Frame
public import proofs.«01_k».proof.Proof.Gen.ProjDwcIdeal
public import proofs.«01_k».proof.Proof.Gen.ProjDwcIdeal.Skeleton
public import proofs.«01_k».proof.Proof.Gen.ProjDwcIdeal.Launch
public import proofs.«01_k».proof.Proof.Gen.ProjDwcIdeal.Points
public import proofs.«01_k».proof.Proof.Gen.ProjDwcIdeal.Frame
public import proofs.«01_k».proof.Proof.Gen.ProjDwcIdeal.Value
public import proofs.«01_k».proof.Proof.Gen.ProjDwcRefIdeal
public import proofs.«01_k».proof.Proof.Gen.ProjDwcRefIdeal.Run
public import proofs.«01_k».proof.Proof.Gen.ProjDwcRefIdeal.Read
public import proofs.«01_k».proof.Proof.ProjDwcClaim
public import proofs.«01_k».proof.Proof.Gen.ProjDx
public import proofs.«01_k».proof.Proof.Gen.ProjDx.Skeleton
public import proofs.«01_k».proof.Proof.Gen.ProjDx.Launch
public import proofs.«01_k».proof.Proof.Gen.ProjDx.Points
public import proofs.«01_k».proof.Proof.Gen.ProjDx.Frame
public import proofs.«01_k».proof.Proof.Gen.ProjDxIdeal
public import proofs.«01_k».proof.Proof.Gen.ProjDxIdeal.Skeleton
public import proofs.«01_k».proof.Proof.Gen.ProjDxIdeal.Launch
public import proofs.«01_k».proof.Proof.Gen.ProjDxIdeal.Points
public import proofs.«01_k».proof.Proof.Gen.ProjDxIdeal.Frame
public import proofs.«01_k».proof.Proof.Gen.ProjDxIdeal.Value
public import proofs.«01_k».proof.Proof.Gen.ProjDxRefIdeal
public import proofs.«01_k».proof.Proof.Gen.ProjDxRefIdeal.Run
public import proofs.«01_k».proof.Proof.Gen.ProjDxRefIdeal.Read
public import proofs.«01_k».proof.Proof.ProjDxClaim
public import proofs.«01_k».proof.Proof.Gen.ProjDwo
public import proofs.«01_k».proof.Proof.Gen.ProjDwo.Skeleton
public import proofs.«01_k».proof.Proof.Gen.ProjDwo.Launch
public import proofs.«01_k».proof.Proof.Gen.ProjDwo.Points
public import proofs.«01_k».proof.Proof.Gen.ProjDwo.Frame
public import proofs.«01_k».proof.Proof.Gen.ProjDwoIdeal
public import proofs.«01_k».proof.Proof.Gen.ProjDwoIdeal.Skeleton
public import proofs.«01_k».proof.Proof.Gen.ProjDwoIdeal.Launch
public import proofs.«01_k».proof.Proof.Gen.ProjDwoIdeal.Points
public import proofs.«01_k».proof.Proof.Gen.ProjDwoIdeal.Frame
public import proofs.«01_k».proof.Proof.Gen.ProjDwoIdeal.Value
public import proofs.«01_k».proof.Proof.Gen.ProjDwoRefIdeal
public import proofs.«01_k».proof.Proof.Gen.ProjDwoRefIdeal.Run
public import proofs.«01_k».proof.Proof.Gen.ProjDwoRefIdeal.Read
public import proofs.«01_k».proof.Proof.ProjDwoClaim
public import proofs.«01_k».proof.Proof.Gen.FfnLn
public import proofs.«01_k».proof.Proof.Gen.FfnLn.Skeleton
public import proofs.«01_k».proof.Proof.Gen.FfnLn.Launch
public import proofs.«01_k».proof.Proof.Gen.FfnLn.Points
public import proofs.«01_k».proof.Proof.Gen.FfnLn.Frame
public import proofs.«01_k».proof.Proof.Gen.FfnLnIdeal
public import proofs.«01_k».proof.Proof.Gen.FfnLnIdeal.Skeleton
public import proofs.«01_k».proof.Proof.Gen.FfnLnIdeal.Launch
public import proofs.«01_k».proof.Proof.Gen.FfnLnIdeal.Points
public import proofs.«01_k».proof.Proof.Gen.FfnLnIdeal.Frame
public import proofs.«01_k».proof.Proof.Gen.FfnLnIdeal.Value
public import proofs.«01_k».proof.Proof.Gen.FfnLnRefIdeal
public import proofs.«01_k».proof.Proof.Gen.FfnLnRefIdeal.Run
public import proofs.«01_k».proof.Proof.Gen.FfnLnRefIdeal.Read
public import proofs.«01_k».proof.Proof.FfnLnClaim
public import proofs.«01_k».proof.Proof.Gen.ProjLn
public import proofs.«01_k».proof.Proof.Gen.ProjLn.Skeleton
public import proofs.«01_k».proof.Proof.Gen.ProjLn.Launch
public import proofs.«01_k».proof.Proof.Gen.ProjLn.Points
public import proofs.«01_k».proof.Proof.Gen.ProjLn.Frame
public import proofs.«01_k».proof.Proof.Gen.ProjLnIdeal
public import proofs.«01_k».proof.Proof.Gen.ProjLnIdeal.Skeleton
public import proofs.«01_k».proof.Proof.Gen.ProjLnIdeal.Launch
public import proofs.«01_k».proof.Proof.Gen.ProjLnIdeal.Points
public import proofs.«01_k».proof.Proof.Gen.ProjLnIdeal.Frame
public import proofs.«01_k».proof.Proof.Gen.ProjLnIdeal.Value
public import proofs.«01_k».proof.Proof.Gen.ProjLnRefIdeal
public import proofs.«01_k».proof.Proof.Gen.ProjLnRefIdeal.Run
public import proofs.«01_k».proof.Proof.Gen.ProjLnRefIdeal.Read
public import proofs.«01_k».proof.Proof.ProjLnClaim
public import proofs.«01_k».proof.Proof.Gen.FfnDxLn
public import proofs.«01_k».proof.Proof.Gen.FfnDxLn.Skeleton
public import proofs.«01_k».proof.Proof.Gen.FfnDxLn.Launch
public import proofs.«01_k».proof.Proof.Gen.FfnDxLn.Points
public import proofs.«01_k».proof.Proof.Gen.FfnDxLn.Frame
public import proofs.«01_k».proof.Proof.Gen.FfnDxLnIdeal
public import proofs.«01_k».proof.Proof.Gen.FfnDxLnIdeal.Skeleton
public import proofs.«01_k».proof.Proof.Gen.FfnDxLnIdeal.Launch
public import proofs.«01_k».proof.Proof.Gen.FfnDxLnIdeal.Points
public import proofs.«01_k».proof.Proof.Gen.FfnDxLnIdeal.Frame
public import proofs.«01_k».proof.Proof.Gen.FfnDxLnIdeal.Value
public import proofs.«01_k».proof.Proof.Gen.FfnDxLnRefIdeal
public import proofs.«01_k».proof.Proof.Gen.FfnDxLnRefIdeal.Run
public import proofs.«01_k».proof.Proof.Gen.FfnDxLnRefIdeal.Read
public import proofs.«01_k».proof.Proof.FfnDxLnClaim
public import proofs.«01_k».proof.Proof.Gen.ProjDxLn
public import proofs.«01_k».proof.Proof.Gen.ProjDxLn.Skeleton
public import proofs.«01_k».proof.Proof.Gen.ProjDxLn.Launch
public import proofs.«01_k».proof.Proof.Gen.ProjDxLn.Points
public import proofs.«01_k».proof.Proof.Gen.ProjDxLn.Frame
public import proofs.«01_k».proof.Proof.Gen.ProjDxLnIdeal
public import proofs.«01_k».proof.Proof.Gen.ProjDxLnIdeal.Skeleton
public import proofs.«01_k».proof.Proof.Gen.ProjDxLnIdeal.Launch
public import proofs.«01_k».proof.Proof.Gen.ProjDxLnIdeal.Points
public import proofs.«01_k».proof.Proof.Gen.ProjDxLnIdeal.Frame
public import proofs.«01_k».proof.Proof.Gen.ProjDxLnIdeal.Value
public import proofs.«01_k».proof.Proof.Gen.ProjDxLnRefIdeal
public import proofs.«01_k».proof.Proof.Gen.ProjDxLnRefIdeal.Run
public import proofs.«01_k».proof.Proof.Gen.ProjDxLnRefIdeal.Read
public import proofs.«01_k».proof.Proof.ProjDxLnClaim
public import proofs.«01_k».proof.Proof.Gen.LossLn
public import proofs.«01_k».proof.Proof.Gen.LossLn.Skeleton
public import proofs.«01_k».proof.Proof.Gen.LossLn.Launch
public import proofs.«01_k».proof.Proof.Gen.LossLn.Points
public import proofs.«01_k».proof.Proof.Gen.LossLn.Frame
public import proofs.«01_k».proof.Proof.Gen.LossLnIdeal
public import proofs.«01_k».proof.Proof.Gen.LossLnIdeal.Skeleton
public import proofs.«01_k».proof.Proof.Gen.LossLnIdeal.Launch
public import proofs.«01_k».proof.Proof.Gen.LossLnIdeal.Points
public import proofs.«01_k».proof.Proof.Gen.LossLnIdeal.Frame
public import proofs.«01_k».proof.Proof.Gen.LossLnIdeal.Value
public import proofs.«01_k».proof.Proof.Gen.LossLnRefIdeal
public import proofs.«01_k».proof.Proof.Gen.LossLnRefIdeal.Run
public import proofs.«01_k».proof.Proof.Gen.LossLnRefIdeal.Read
public import proofs.«01_k».proof.Proof.LossLnClaim
public import proofs.«01_k».proof.Proof.Gen.ShiftBwd
public import proofs.«01_k».proof.Proof.Gen.ShiftBwd.Skeleton
public import proofs.«01_k».proof.Proof.Gen.ShiftBwd.Launch
public import proofs.«01_k».proof.Proof.Gen.ShiftBwd.Points
public import proofs.«01_k».proof.Proof.Gen.ShiftBwd.Frame
public import proofs.«01_k».proof.Proof.Gen.ShiftBwdIdeal
public import proofs.«01_k».proof.Proof.Gen.ShiftBwdIdeal.Skeleton
public import proofs.«01_k».proof.Proof.Gen.ShiftBwdIdeal.Launch
public import proofs.«01_k».proof.Proof.Gen.ShiftBwdIdeal.Points
public import proofs.«01_k».proof.Proof.Gen.ShiftBwdIdeal.Frame
public import proofs.«01_k».proof.Proof.Gen.ShiftBwdIdeal.Value
public import proofs.«01_k».proof.Proof.Gen.ShiftBwdRefIdeal
public import proofs.«01_k».proof.Proof.Gen.ShiftBwdRefIdeal.Run
public import proofs.«01_k».proof.Proof.Gen.ShiftBwdRefIdeal.Read
public import proofs.«01_k».proof.Proof.ShiftBwdClaim
public import proofs.«01_k».proof.Proof.Gen.ConvPost
public import proofs.«01_k».proof.Proof.Gen.ConvPost.Skeleton
public import proofs.«01_k».proof.Proof.Gen.ConvPost.Launch
public import proofs.«01_k».proof.Proof.Gen.ConvPost.Points
public import proofs.«01_k».proof.Proof.Gen.ConvPost.Frame
public import proofs.«01_k».proof.Proof.Gen.ConvPostIdeal
public import proofs.«01_k».proof.Proof.Gen.ConvPostIdeal.Skeleton
public import proofs.«01_k».proof.Proof.Gen.ConvPostIdeal.Launch
public import proofs.«01_k».proof.Proof.Gen.ConvPostIdeal.Points
public import proofs.«01_k».proof.Proof.Gen.ConvPostIdeal.Frame
public import proofs.«01_k».proof.Proof.Gen.ConvPostIdeal.Value
public import proofs.«01_k».proof.Proof.Gen.ConvPostRefIdeal
public import proofs.«01_k».proof.Proof.Gen.ConvPostRefIdeal.Run
public import proofs.«01_k».proof.Proof.Gen.ConvPostRefIdeal.Read
public import proofs.«01_k».proof.Proof.ConvPostClaim
public import proofs.«01_k».proof.Proof.Gen.ConvFwd
public import proofs.«01_k».proof.Proof.Gen.ConvFwd.Skeleton
public import proofs.«01_k».proof.Proof.Gen.ConvFwd.Launch
public import proofs.«01_k».proof.Proof.Gen.ConvFwd.Points
public import proofs.«01_k».proof.Proof.Gen.ConvFwd.Frame
public import proofs.«01_k».proof.Proof.Gen.ConvFwdIdeal
public import proofs.«01_k».proof.Proof.Gen.ConvFwdIdeal.Skeleton
public import proofs.«01_k».proof.Proof.Gen.ConvFwdIdeal.Launch
public import proofs.«01_k».proof.Proof.Gen.ConvFwdIdeal.Points
public import proofs.«01_k».proof.Proof.Gen.ConvFwdIdeal.Frame
public import proofs.«01_k».proof.Proof.Gen.ConvFwdIdeal.Value
public import proofs.«01_k».proof.Proof.Gen.ConvFwdRefIdeal
public import proofs.«01_k».proof.Proof.Gen.ConvFwdRefIdeal.Run
public import proofs.«01_k».proof.Proof.Gen.ConvFwdRefIdeal.Read
public import proofs.«01_k».proof.Proof.ConvFwdClaim
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInIdeal.Value
public import proofs.«01_k».proof.Proof.Gen.AdamInRefIdeal
public import proofs.«01_k».proof.Proof.Gen.AdamInRefIdeal.Run
public import proofs.«01_k».proof.Proof.Gen.AdamInRefIdeal.Read
public import proofs.«01_k».proof.Proof.AdamInClaim
public import proofs.«01_k».proof.Proof.Gen.AdamProj
public import proofs.«01_k».proof.Proof.Gen.AdamProj.Skeleton
public import proofs.«01_k».proof.Proof.Gen.AdamProj.Launch
public import proofs.«01_k».proof.Proof.Gen.AdamProj.Points
public import proofs.«01_k».proof.Proof.Gen.AdamProj.Frame
public import proofs.«01_k».proof.Proof.Gen.AdamProjIdeal
public import proofs.«01_k».proof.Proof.Gen.AdamProjIdeal.Skeleton
public import proofs.«01_k».proof.Proof.Gen.AdamProjIdeal.Launch
public import proofs.«01_k».proof.Proof.Gen.AdamProjIdeal.Points
public import proofs.«01_k».proof.Proof.Gen.AdamProjIdeal.Frame
public import proofs.«01_k».proof.Proof.Gen.AdamProjIdeal.Value
public import proofs.«01_k».proof.Proof.Gen.AdamProjRefIdeal
public import proofs.«01_k».proof.Proof.Gen.AdamProjRefIdeal.Run
public import proofs.«01_k».proof.Proof.Gen.AdamProjRefIdeal.Read
public import proofs.«01_k».proof.Proof.AdamProjClaim
public import proofs.«01_k».proof.Proof.Gen.AdamFfn
public import proofs.«01_k».proof.Proof.Gen.AdamFfn.Skeleton
public import proofs.«01_k».proof.Proof.Gen.AdamFfn.Launch
public import proofs.«01_k».proof.Proof.Gen.AdamFfn.Points
public import proofs.«01_k».proof.Proof.Gen.AdamFfn.Frame
public import proofs.«01_k».proof.Proof.Gen.AdamFfnIdeal
public import proofs.«01_k».proof.Proof.Gen.AdamFfnIdeal.Skeleton
public import proofs.«01_k».proof.Proof.Gen.AdamFfnIdeal.Launch
public import proofs.«01_k».proof.Proof.Gen.AdamFfnIdeal.Points
public import proofs.«01_k».proof.Proof.Gen.AdamFfnIdeal.Frame
public import proofs.«01_k».proof.Proof.Gen.AdamFfnIdeal.Value
public import proofs.«01_k».proof.Proof.Gen.AdamFfnRefIdeal
public import proofs.«01_k».proof.Proof.Gen.AdamFfnRefIdeal.Run
public import proofs.«01_k».proof.Proof.Gen.AdamFfnRefIdeal.Read
public import proofs.«01_k».proof.Proof.AdamFfnClaim
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutIdeal.Value
public import proofs.«01_k».proof.Proof.Gen.AdamOutRefIdeal
public import proofs.«01_k».proof.Proof.Gen.AdamOutRefIdeal.Run
public import proofs.«01_k».proof.Proof.Gen.AdamOutRefIdeal.Read
public import proofs.«01_k».proof.Proof.AdamOutClaim
public import proofs.«01_k».proof.Proof.Gen.AdamSmall
public import proofs.«01_k».proof.Proof.Gen.AdamSmall.Skeleton
public import proofs.«01_k».proof.Proof.Gen.AdamSmall.Launch
public import proofs.«01_k».proof.Proof.Gen.AdamSmall.Points
public import proofs.«01_k».proof.Proof.Gen.AdamSmall.Frame
public import proofs.«01_k».proof.Proof.Gen.AdamSmallIdeal
public import proofs.«01_k».proof.Proof.Gen.AdamSmallIdeal.Skeleton
public import proofs.«01_k».proof.Proof.Gen.AdamSmallIdeal.Launch
public import proofs.«01_k».proof.Proof.Gen.AdamSmallIdeal.Points
public import proofs.«01_k».proof.Proof.Gen.AdamSmallIdeal.Frame
public import proofs.«01_k».proof.Proof.Gen.AdamSmallIdeal.Value
public import proofs.«01_k».proof.Proof.Gen.AdamSmallRefIdeal
public import proofs.«01_k».proof.Proof.Gen.AdamSmallRefIdeal.Run
public import proofs.«01_k».proof.Proof.Gen.AdamSmallRefIdeal.Read
public import proofs.«01_k».proof.Proof.AdamSmallClaim
public import Idealize.ShloMosaic.Lib.Claim

@[expose] public section

namespace Cert.Proof

open Idealize.ShloMosaic Idealize.SL.Sem

/-- Every frame, every preservation and every value claim of the certificate. -/
theorem claim : Cert.Claim :=
  ⟨Cert.ConvBwd.Gen.facts,
   Cert.ConvBwdIdeal.Gen.facts,
   Cert.ConvBwdRefIdeal.Gen.facts,
   Cert.FfnIn.Gen.facts,
   Cert.FfnInIdeal.Gen.facts,
   Cert.FfnInRefIdeal.Gen.facts,
   Cert.FfnDx.Gen.facts,
   Cert.FfnDxIdeal.Gen.facts,
   Cert.FfnDxRefIdeal.Gen.facts,
   Cert.FfnDh.Gen.facts,
   Cert.FfnDhIdeal.Gen.facts,
   Cert.FfnDhRefIdeal.Gen.facts,
   Cert.FfnDwi.Gen.facts,
   Cert.FfnDwiIdeal.Gen.facts,
   Cert.FfnDwiRefIdeal.Gen.facts,
   Cert.FfnDwo.Gen.facts,
   Cert.FfnDwoIdeal.Gen.facts,
   Cert.FfnDwoRefIdeal.Gen.facts,
   Cert.FfnTwo.Gen.facts,
   Cert.FfnTwoIdeal.Gen.facts,
   Cert.FfnTwoRefIdeal.Gen.facts,
   Cert.FfnTwoDwi.Gen.facts,
   Cert.FfnTwoDwiIdeal.Gen.facts,
   Cert.FfnTwoDwiRefIdeal.Gen.facts,
   Cert.ProjIn.Gen.facts,
   Cert.ProjInIdeal.Gen.facts,
   Cert.ProjInRefIdeal.Gen.facts,
   Cert.ProjDws.Gen.facts,
   Cert.ProjDwsIdeal.Gen.facts,
   Cert.ProjDwsRefIdeal.Gen.facts,
   Cert.ProjDwc.Gen.facts,
   Cert.ProjDwcIdeal.Gen.facts,
   Cert.ProjDwcRefIdeal.Gen.facts,
   Cert.ProjDx.Gen.facts,
   Cert.ProjDxIdeal.Gen.facts,
   Cert.ProjDxRefIdeal.Gen.facts,
   Cert.ProjDwo.Gen.facts,
   Cert.ProjDwoIdeal.Gen.facts,
   Cert.ProjDwoRefIdeal.Gen.facts,
   Cert.FfnLn.Gen.facts,
   Cert.FfnLnIdeal.Gen.facts,
   Cert.FfnLnRefIdeal.Gen.facts,
   Cert.ProjLn.Gen.facts,
   Cert.ProjLnIdeal.Gen.facts,
   Cert.ProjLnRefIdeal.Gen.facts,
   Cert.FfnDxLn.Gen.facts,
   Cert.FfnDxLnIdeal.Gen.facts,
   Cert.FfnDxLnRefIdeal.Gen.facts,
   Cert.ProjDxLn.Gen.facts,
   Cert.ProjDxLnIdeal.Gen.facts,
   Cert.ProjDxLnRefIdeal.Gen.facts,
   Cert.LossLn.Gen.facts,
   Cert.LossLnIdeal.Gen.facts,
   Cert.LossLnRefIdeal.Gen.facts,
   Cert.ShiftBwd.Gen.facts,
   Cert.ShiftBwdIdeal.Gen.facts,
   Cert.ShiftBwdRefIdeal.Gen.facts,
   Cert.ConvPost.Gen.facts,
   Cert.ConvPostIdeal.Gen.facts,
   Cert.ConvPostRefIdeal.Gen.facts,
   Cert.ConvFwd.Gen.facts,
   Cert.ConvFwdIdeal.Gen.facts,
   Cert.ConvFwdRefIdeal.Gen.facts,
   Cert.AdamIn.Gen.facts,
   Cert.AdamInIdeal.Gen.facts,
   Cert.AdamInRefIdeal.Gen.facts,
   Cert.AdamProj.Gen.facts,
   Cert.AdamProjIdeal.Gen.facts,
   Cert.AdamProjRefIdeal.Gen.facts,
   Cert.AdamFfn.Gen.facts,
   Cert.AdamFfnIdeal.Gen.facts,
   Cert.AdamFfnRefIdeal.Gen.facts,
   Cert.AdamOut.Gen.facts,
   Cert.AdamOutIdeal.Gen.facts,
   Cert.AdamOutRefIdeal.Gen.facts,
   Cert.AdamSmall.Gen.facts,
   Cert.AdamSmallIdeal.Gen.facts,
   Cert.AdamSmallRefIdeal.Gen.facts,
   hidden_facts,
   fdl_facts,
   pdl_facts,
   loss_facts,
   shb_facts,
   cpo_facts,
   fun m ρ _ => Cert.ConvBwd.Gen.frame m ρ,
   fun m ρ _ => Cert.ConvBwdIdeal.Gen.frame m ρ,
   conv_reference,
   fun m ρ _ => Cert.FfnIn.Gen.frame m ρ,
   fun m ρ _ => Cert.FfnInIdeal.Gen.frame m ρ,
   in_reference,
   fun m ρ _ => Cert.FfnDx.Gen.frame m ρ,
   fun m ρ _ => Cert.FfnDxIdeal.Gen.frame m ρ,
   dx_reference,
   fun m ρ _ => Cert.FfnDh.Gen.frame m ρ,
   fun m ρ _ => Cert.FfnDhIdeal.Gen.frame m ρ,
   fun m ρ _ => Cert.FfnDhIdeal.Gen.frame m ρ,
   dh_reference,
   @dh_reference_finite hidden_facts,
   fun m ρ _ => Cert.FfnDwi.Gen.frame m ρ,
   fun m ρ _ => Cert.FfnDwiIdeal.Gen.frame m ρ,
   dwi_reference,
   fun m ρ _ => Cert.FfnDwo.Gen.frame m ρ,
   fun m ρ _ => Cert.FfnDwoIdeal.Gen.frame m ρ,
   dwo_reference,
   fun m ρ _ => Cert.FfnTwo.Gen.frame m ρ,
   fun m ρ _ => Cert.FfnTwoIdeal.Gen.frame m ρ,
   two_reference,
   fun m ρ _ => Cert.FfnTwoDwi.Gen.frame m ρ,
   fun m ρ _ => Cert.FfnTwoDwiIdeal.Gen.frame m ρ,
   twodwi_reference,
   fun m ρ _ => Cert.ProjIn.Gen.frame m ρ,
   fun m ρ _ => Cert.ProjInIdeal.Gen.frame m ρ,
   pin_reference,
   fun m ρ _ => Cert.ProjDws.Gen.frame m ρ,
   fun m ρ _ => Cert.ProjDwsIdeal.Gen.frame m ρ,
   pdws_reference,
   fun m ρ _ => Cert.ProjDwc.Gen.frame m ρ,
   fun m ρ _ => Cert.ProjDwcIdeal.Gen.frame m ρ,
   pdwc_reference,
   fun m ρ _ => Cert.ProjDx.Gen.frame m ρ,
   fun m ρ _ => Cert.ProjDxIdeal.Gen.frame m ρ,
   pdx_reference,
   fun m ρ _ => Cert.ProjDwo.Gen.frame m ρ,
   fun m ρ _ => Cert.ProjDwoIdeal.Gen.frame m ρ,
   pdwo_reference,
   fun m ρ _ => Cert.FfnLn.Gen.frame m ρ,
   fun m ρ _ => Cert.FfnLnIdeal.Gen.frame m ρ,
   fln_reference,
   fun m ρ _ => Cert.ProjLn.Gen.frame m ρ,
   fun m ρ _ => Cert.ProjLnIdeal.Gen.frame m ρ,
   pln_reference,
   fun m ρ _ => Cert.FfnDxLn.Gen.frame m ρ,
   fun m ρ _ => Cert.FfnDxLnIdeal.Gen.frame m ρ,
   fun m ρ _ => Cert.FfnDxLnIdeal.Gen.frame m ρ,
   fdl_reference,
   @fdl_reference_finite fdl_facts,
   fun m ρ _ => Cert.ProjDxLn.Gen.frame m ρ,
   fun m ρ _ => Cert.ProjDxLnIdeal.Gen.frame m ρ,
   fun m ρ _ => Cert.ProjDxLnIdeal.Gen.frame m ρ,
   pdl_reference,
   @pdl_reference_finite pdl_facts,
   fun m ρ _ => Cert.LossLn.Gen.frame m ρ,
   fun m ρ _ => Cert.LossLnIdeal.Gen.frame m ρ,
   fun m ρ _ => Cert.LossLnIdeal.Gen.frame m ρ,
   loss_reference,
   @loss_reference_finite loss_facts,
   fun m ρ _ => Cert.ShiftBwd.Gen.frame m ρ,
   fun m ρ _ => Cert.ShiftBwdIdeal.Gen.frame m ρ,
   fun m ρ _ => Cert.ShiftBwdIdeal.Gen.frame m ρ,
   shb_reference,
   @shb_reference_finite shb_facts,
   fun m ρ _ => Cert.ConvPost.Gen.frame m ρ,
   fun m ρ _ => Cert.ConvPostIdeal.Gen.frame m ρ,
   fun m ρ _ => Cert.ConvPostIdeal.Gen.frame m ρ,
   cpo_reference,
   @cpo_reference_finite cpo_facts,
   fun m ρ _ => Cert.ConvFwd.Gen.frame m ρ,
   fun m ρ _ => Cert.ConvFwdIdeal.Gen.frame m ρ,
   cvf_reference,
   fun m ρ _ => Cert.AdamIn.Gen.frame m ρ,
   fun m ρ _ => Cert.AdamInIdeal.Gen.frame m ρ,
   ain_reference,
   fun m ρ _ => Cert.AdamProj.Gen.frame m ρ,
   fun m ρ _ => Cert.AdamProjIdeal.Gen.frame m ρ,
   apr_reference,
   fun m ρ _ => Cert.AdamFfn.Gen.frame m ρ,
   fun m ρ _ => Cert.AdamFfnIdeal.Gen.frame m ρ,
   aff_reference,
   fun m ρ _ => Cert.AdamOut.Gen.frame m ρ,
   fun m ρ _ => Cert.AdamOutIdeal.Gen.frame m ρ,
   aou_reference,
   fun m ρ _ => Cert.AdamSmall.Gen.frame m ρ,
   fun m ρ _ => Cert.AdamSmallIdeal.Gen.frame m ρ,
   asm_reference,
   trivial,
   conv_algebraic,
   trivial,
   in_algebraic,
   trivial,
   dx_algebraic,
   trivial,
   @dh_algebraic hidden_facts,
   trivial,
   dwi_algebraic,
   trivial,
   dwo_algebraic,
   trivial,
   two_algebraic,
   trivial,
   twodwi_algebraic,
   trivial,
   pin_algebraic,
   trivial,
   pdws_algebraic,
   trivial,
   pdwc_algebraic,
   trivial,
   pdx_algebraic,
   trivial,
   pdwo_algebraic,
   trivial,
   fln_algebraic,
   trivial,
   pln_algebraic,
   trivial,
   @fdl_algebraic fdl_facts,
   trivial,
   @pdl_algebraic pdl_facts,
   trivial,
   @loss_algebraic loss_facts,
   trivial,
   @shb_algebraic shb_facts,
   trivial,
   @cpo_algebraic cpo_facts,
   trivial,
   cvf_algebraic,
   trivial,
   ain_algebraic,
   trivial,
   apr_algebraic,
   trivial,
   aff_algebraic,
   trivial,
   aou_algebraic,
   trivial,
   asm_algebraic⟩

end Cert.Proof
